-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Reference6Ideal (m : (ℓ : Loc Cert.Reference6Ideal.nD Cert.Reference6Ideal.τ Cert.Reference6Ideal.sig) → Buf (Elt Ideal) ℓ) : Prop :=
  True

def Pre_Kernel7 (m : (ℓ : Loc Cert.Kernel7.nD Cert.Kernel7.τ Cert.Kernel7.sig) → Buf (Elt Bits) ℓ) : Prop :=
  True

def Pre_Kernel7Ideal (m : (ℓ : Loc Cert.Kernel7Ideal.nD Cert.Kernel7Ideal.τ Cert.Kernel7Ideal.sig) → Buf (Elt Ideal) ℓ) : Prop :=
  True

def Pre_Reference7Ideal (m : (ℓ : Loc Cert.Reference7Ideal.nD Cert.Reference7Ideal.τ Cert.Reference7Ideal.sig) → Buf (Elt Ideal) ℓ) : Prop :=
  True

def Pre_Kernel8 (m : (ℓ : Loc Cert.Kernel8.nD Cert.Kernel8.τ Cert.Kernel8.sig) → Buf (Elt Bits) ℓ) : Prop :=
  True

def Pre_Kernel8Ideal (m : (ℓ : Loc Cert.Kernel8Ideal.nD Cert.Kernel8Ideal.τ Cert.Kernel8Ideal.sig) → Buf (Elt Ideal) ℓ) : Prop :=
  True

def Pre_Reference8Ideal (m : (ℓ : Loc Cert.Reference8Ideal.nD Cert.Reference8Ideal.τ Cert.Reference8Ideal.sig) → Buf (Elt Ideal) ℓ) : Prop :=
  True

def Pre_Kernel9 (m : (ℓ : Loc Cert.Kernel9.nD Cert.Kernel9.τ Cert.Kernel9.sig) → Buf (Elt Bits) ℓ) : Prop :=
  True

def Pre_Kernel9Ideal (m : (ℓ : Loc Cert.Kernel9Ideal.nD Cert.Kernel9Ideal.τ Cert.Kernel9Ideal.sig) → Buf (Elt Ideal) ℓ) : Prop :=
  True

def Pre_Reference9Ideal (m : (ℓ : Loc Cert.Reference9Ideal.nD Cert.Reference9Ideal.τ Cert.Reference9Ideal.sig) → Buf (Elt Ideal) ℓ) : Prop :=
  True

def Pre_Kernel10 (m : (ℓ : Loc Cert.Kernel10.nD Cert.Kernel10.τ Cert.Kernel10.sig) → Buf (Elt Bits) ℓ) : Prop :=
  True

def Pre_Kernel10Ideal (m : (ℓ : Loc Cert.Kernel10Ideal.nD Cert.Kernel10Ideal.τ Cert.Kernel10Ideal.sig) → Buf (Elt Ideal) ℓ) : Prop :=
  True

def Pre_Reference10Ideal (m : (ℓ : Loc Cert.Reference10Ideal.nD Cert.Reference10Ideal.τ Cert.Reference10Ideal.sig) → Buf (Elt Ideal) ℓ) : Prop :=
  True

def Pre_Kernel11 (m : (ℓ : Loc Cert.Kernel11.nD Cert.Kernel11.τ Cert.Kernel11.sig) → Buf (Elt Bits) ℓ) : Prop :=
  True

def Pre_Kernel11Ideal (m : (ℓ : Loc Cert.Kernel11Ideal.nD Cert.Kernel11Ideal.τ Cert.Kernel11Ideal.sig) → Buf (Elt Ideal) ℓ) : Prop :=
  True

def Pre_Reference11Ideal (m : (ℓ : Loc Cert.Reference11Ideal.nD Cert.Reference11Ideal.τ Cert.Reference11Ideal.sig) → Buf (Elt Ideal) ℓ) : Prop :=
  True

def Pre_Kernel12 (m : (ℓ : Loc Cert.Kernel12.nD Cert.Kernel12.τ Cert.Kernel12.sig) → Buf (Elt Bits) ℓ) : Prop :=
  True

def Pre_Kernel12Ideal (m : (ℓ : Loc Cert.Kernel12Ideal.nD Cert.Kernel12Ideal.τ Cert.Kernel12Ideal.sig) → Buf (Elt Ideal) ℓ) : Prop :=
  True

def Pre_Reference12Ideal (m : (ℓ : Loc Cert.Reference12Ideal.nD Cert.Reference12Ideal.τ Cert.Reference12Ideal.sig) → Buf (Elt Ideal) ℓ) : Prop :=
  True

def Pre_Kernel13 (m : (ℓ : Loc Cert.Kernel13.nD Cert.Kernel13.τ Cert.Kernel13.sig) → Buf (Elt Bits) ℓ) : Prop :=
  True

def Pre_Kernel13Ideal (m : (ℓ : Loc Cert.Kernel13Ideal.nD Cert.Kernel13Ideal.τ Cert.Kernel13Ideal.sig) → Buf (Elt Ideal) ℓ) : Prop :=
  True

def Pre_Reference13Ideal (m : (ℓ : Loc Cert.Reference13Ideal.nD Cert.Reference13Ideal.τ Cert.Reference13Ideal.sig) → Buf (Elt Ideal) ℓ) : Prop :=
  True

def Pre_Kernel14 (m : (ℓ : Loc Cert.Kernel14.nD Cert.Kernel14.τ Cert.Kernel14.sig) → Buf (Elt Bits) ℓ) : Prop :=
  True

def Pre_Kernel14Ideal (m : (ℓ : Loc Cert.Kernel14Ideal.nD Cert.Kernel14Ideal.τ Cert.Kernel14Ideal.sig) → Buf (Elt Ideal) ℓ) : Prop :=
  True

def Pre_Reference14Ideal (m : (ℓ : Loc Cert.Reference14Ideal.nD Cert.Reference14Ideal.τ Cert.Reference14Ideal.sig) → Buf (Elt Ideal) ℓ) : Prop :=
  True

def Pre_Kernel15 (m : (ℓ : Loc Cert.Kernel15.nD Cert.Kernel15.τ Cert.Kernel15.sig) → Buf (Elt Bits) ℓ) : Prop :=
  True

def Pre_Kernel15Ideal (m : (ℓ : Loc Cert.Kernel15Ideal.nD Cert.Kernel15Ideal.τ Cert.Kernel15Ideal.sig) → Buf (Elt Ideal) ℓ) : Prop :=
  True

def Pre_Reference15Ideal (m : (ℓ : Loc Cert.Reference15Ideal.nD Cert.Reference15Ideal.τ Cert.Reference15Ideal.sig) → Buf (Elt Ideal) ℓ) : Prop :=
  True

def Pre_Kernel16 (m : (ℓ : Loc Cert.Kernel16.nD Cert.Kernel16.τ Cert.Kernel16.sig) → Buf (Elt Bits) ℓ) : Prop :=
  True

def Pre_Kernel16Ideal (m : (ℓ : Loc Cert.Kernel16Ideal.nD Cert.Kernel16Ideal.τ Cert.Kernel16Ideal.sig) → Buf (Elt Ideal) ℓ) : Prop :=
  True

def Pre_Reference16Ideal (m : (ℓ : Loc Cert.Reference16Ideal.nD Cert.Reference16Ideal.τ Cert.Reference16Ideal.sig) → Buf (Elt Ideal) ℓ) : Prop :=
  True

def Pre_Kernel17 (m : (ℓ : Loc Cert.Kernel17.nD Cert.Kernel17.τ Cert.Kernel17.sig) → Buf (Elt Bits) ℓ) : Prop :=
  True

def Pre_Kernel17Ideal (m : (ℓ : Loc Cert.Kernel17Ideal.nD Cert.Kernel17Ideal.τ Cert.Kernel17Ideal.sig) → Buf (Elt Ideal) ℓ) : Prop :=
  True

def Pre_Reference17Ideal (m : (ℓ : Loc Cert.Reference17Ideal.nD Cert.Reference17Ideal.τ Cert.Reference17Ideal.sig) → Buf (Elt Ideal) ℓ) : Prop :=
  True

def Pre_Kernel18 (m : (ℓ : Loc Cert.Kernel18.nD Cert.Kernel18.τ Cert.Kernel18.sig) → Buf (Elt Bits) ℓ) : Prop :=
  True

def Pre_Kernel18Ideal (m : (ℓ : Loc Cert.Kernel18Ideal.nD Cert.Kernel18Ideal.τ Cert.Kernel18Ideal.sig) → Buf (Elt Ideal) ℓ) : Prop :=
  True

def Pre_Reference18Ideal (m : (ℓ : Loc Cert.Reference18Ideal.nD Cert.Reference18Ideal.τ Cert.Reference18Ideal.sig) → Buf (Elt Ideal) ℓ) : Prop :=
  True

def Pre_Kernel19 (m : (ℓ : Loc Cert.Kernel19.nD Cert.Kernel19.τ Cert.Kernel19.sig) → Buf (Elt Bits) ℓ) : Prop :=
  True

def Pre_Kernel19Ideal (m : (ℓ : Loc Cert.Kernel19Ideal.nD Cert.Kernel19Ideal.τ Cert.Kernel19Ideal.sig) → Buf (Elt Ideal) ℓ) : Prop :=
  True

def Pre_Reference19Ideal (m : (ℓ : Loc Cert.Reference19Ideal.nD Cert.Reference19Ideal.τ Cert.Reference19Ideal.sig) → Buf (Elt Ideal) ℓ) : Prop :=
  True

def Pre_Kernel20 (m : (ℓ : Loc Cert.Kernel20.nD Cert.Kernel20.τ Cert.Kernel20.sig) → Buf (Elt Bits) ℓ) : Prop :=
  True

def Pre_Kernel20Ideal (m : (ℓ : Loc Cert.Kernel20Ideal.nD Cert.Kernel20Ideal.τ Cert.Kernel20Ideal.sig) → Buf (Elt Ideal) ℓ) : Prop :=
  True

def Pre_Reference20Ideal (m : (ℓ : Loc Cert.Reference20Ideal.nD Cert.Reference20Ideal.τ Cert.Reference20Ideal.sig) → Buf (Elt Ideal) ℓ) : Prop :=
  True

def Pre_Kernel21 (m : (ℓ : Loc Cert.Kernel21.nD Cert.Kernel21.τ Cert.Kernel21.sig) → Buf (Elt Bits) ℓ) : Prop :=
  True

def Pre_Kernel21Ideal (m : (ℓ : Loc Cert.Kernel21Ideal.nD Cert.Kernel21Ideal.τ Cert.Kernel21Ideal.sig) → Buf (Elt Ideal) ℓ) : Prop :=
  True

def Pre_Reference21Ideal (m : (ℓ : Loc Cert.Reference21Ideal.nD Cert.Reference21Ideal.τ Cert.Reference21Ideal.sig) → Buf (Elt Ideal) ℓ) : Prop :=
  True

def Pre_Kernel22 (m : (ℓ : Loc Cert.Kernel22.nD Cert.Kernel22.τ Cert.Kernel22.sig) → Buf (Elt Bits) ℓ) : Prop :=
  True

def Pre_Kernel22Ideal (m : (ℓ : Loc Cert.Kernel22Ideal.nD Cert.Kernel22Ideal.τ Cert.Kernel22Ideal.sig) → Buf (Elt Ideal) ℓ) : Prop :=
  True

def Pre_Reference22Ideal (m : (ℓ : Loc Cert.Reference22Ideal.nD Cert.Reference22Ideal.τ Cert.Reference22Ideal.sig) → Buf (Elt Ideal) ℓ) : Prop :=
  True

def Pre_Kernel23 (m : (ℓ : Loc Cert.Kernel23.nD Cert.Kernel23.τ Cert.Kernel23.sig) → Buf (Elt Bits) ℓ) : Prop :=
  True

def Pre_Kernel23Ideal (m : (ℓ : Loc Cert.Kernel23Ideal.nD Cert.Kernel23Ideal.τ Cert.Kernel23Ideal.sig) → Buf (Elt Ideal) ℓ) : Prop :=
  True

def Pre_Reference23Ideal (m : (ℓ : Loc Cert.Reference23Ideal.nD Cert.Reference23Ideal.τ Cert.Reference23Ideal.sig) → Buf (Elt Ideal) ℓ) : Prop :=
  True

def Pre_Kernel24 (m : (ℓ : Loc Cert.Kernel24.nD Cert.Kernel24.τ Cert.Kernel24.sig) → Buf (Elt Bits) ℓ) : Prop :=
  True

def Pre_Kernel24Ideal (m : (ℓ : Loc Cert.Kernel24Ideal.nD Cert.Kernel24Ideal.τ Cert.Kernel24Ideal.sig) → Buf (Elt Ideal) ℓ) : Prop :=
  True

def Pre_Reference24Ideal (m : (ℓ : Loc Cert.Reference24Ideal.nD Cert.Reference24Ideal.τ Cert.Reference24Ideal.sig) → Buf (Elt Ideal) ℓ) : Prop :=
  True

def Pre_Kernel25 (m : (ℓ : Loc Cert.Kernel25.nD Cert.Kernel25.τ Cert.Kernel25.sig) → Buf (Elt Bits) ℓ) : Prop :=
  True

def Pre_Kernel25Ideal (m : (ℓ : Loc Cert.Kernel25Ideal.nD Cert.Kernel25Ideal.τ Cert.Kernel25Ideal.sig) → Buf (Elt Ideal) ℓ) : Prop :=
  True

def Pre_Reference25Ideal (m : (ℓ : Loc Cert.Reference25Ideal.nD Cert.Reference25Ideal.τ Cert.Reference25Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2)
      ∧ r.2.mem ((c.tc : Thread Cert.Kernel4.nD Cert.Kernel4.τ).loc Cert.Kernel4.main_arg3) = m ((c.tc : Thread Cert.Kernel4.nD Cert.Kernel4.τ).loc Cert.Kernel4.main_arg3)
      ∧ r.2.mem ((c.tc : Thread Cert.Kernel4.nD Cert.Kernel4.τ).loc Cert.Kernel4.main_arg4) = m ((c.tc : Thread Cert.Kernel4.nD Cert.Kernel4.τ).loc Cert.Kernel4.main_arg4))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
      ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3)
      ∧ r.2.mem ((c.tc : Thread Cert.Reference4Ideal.nD Cert.Reference4Ideal.τ).loc Cert.Reference4Ideal.main_arg4) = m ((c.tc : Thread Cert.Reference4Ideal.nD Cert.Reference4Ideal.τ).loc Cert.Reference4Ideal.main_arg4))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1))
      ∧ r.2.sem = fun _ => 0)

def quiescent_Kernel7 [hKernel7 : Cert.Kernel7.Facts] : Prop :=
  ∀ (m : (ℓ : Loc Cert.Kernel7.nD Cert.Kernel7.τ Cert.Kernel7.sig) → Buf (Elt Bits) ℓ) (g : Dev Cert.Kernel7.nD → PrngReg), Pre_Kernel7 m →
    θ_run (Cert.Kernel7.defs (F := Bits)) (onTc (τ := Cert.Kernel7.τ) (Cert.Kernel7.main (F := Bits))) ⟨m, fun _ => 0, g⟩ (fun r => (∀ c : Dev Cert.Kernel7.nD,
      r.2.mem ((c.tc : Thread Cert.Kernel7.nD Cert.Kernel7.τ).loc Cert.Kernel7.main_arg0) = m ((c.tc : Thread Cert.Kernel7.nD Cert.Kernel7.τ).loc Cert.Kernel7.main_arg0)
      ∧ r.2.mem ((c.tc : Thread Cert.Kernel7.nD Cert.Kernel7.τ).loc Cert.Kernel7.main_arg1) = m ((c.tc : Thread Cert.Kernel7.nD Cert.Kernel7.τ).loc Cert.Kernel7.main_arg1)
      ∧ r.2.mem ((c.tc : Thread Cert.Kernel7.nD Cert.Kernel7.τ).loc Cert.Kernel7.main_arg2) = m ((c.tc : Thread Cert.Kernel7.nD Cert.Kernel7.τ).loc Cert.Kernel7.main_arg2)
      ∧ r.2.mem ((c.tc : Thread Cert.Kernel7.nD Cert.Kernel7.τ).loc Cert.Kernel7.main_arg3) = m ((c.tc : Thread Cert.Kernel7.nD Cert.Kernel7.τ).loc Cert.Kernel7.main_arg3))
      ∧ r.2.sem = fun _ => 0)

def quiescent_Kernel7Ideal [hKernel7Ideal : Cert.Kernel7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
      ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
      ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2)
      ∧ r.2.mem ((c.tc : Thread Cert.Kernel7Ideal.nD Cert.Kernel7Ideal.τ).loc Cert.Kernel7Ideal.main_arg3) = m ((c.tc : Thread Cert.Kernel7Ideal.nD Cert.Kernel7Ideal.τ).loc Cert.Kernel7Ideal.main_arg3))
      ∧ r.2.sem = fun _ => 0)

def quiescent_Reference7Ideal [hReference7Ideal : Cert.Reference7Ideal.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1)
      ∧ r.2.mem ((c.tc : Thread Cert.Reference7Ideal.nD Cert.Reference7Ideal.τ).loc Cert.Reference7Ideal.main_arg2) = m ((c.tc : Thread Cert.Reference7Ideal.nD Cert.Reference7Ideal.τ).loc Cert.Reference7Ideal.main_arg2)
      ∧ r.2.mem ((c.tc : Thread Cert.Reference7Ideal.nD Cert.Reference7Ideal.τ).loc Cert.Reference7Ideal.main_arg3) = m ((c.tc : Thread Cert.Reference7Ideal.nD Cert.Reference7Ideal.τ).loc Cert.Reference7Ideal.main_arg3))
      ∧ r.2.sem = fun _ => 0)

def quiescent_Kernel8 [hKernel8 : Cert.Kernel8.Facts] : Prop :=
  ∀ (m : (ℓ : Loc Cert.Kernel8.nD Cert.Kernel8.τ Cert.Kernel8.sig) → Buf (Elt Bits) ℓ) (g : Dev Cert.Kernel8.nD → PrngReg), Pre_Kernel8 m →
    θ_run (Cert.Kernel8.defs (F := Bits)) (onTc (τ := Cert.Kernel8.τ) (Cert.Kernel8.main (F := Bits))) ⟨m, fun _ => 0, g⟩ (fun r => (∀ c : Dev Cert.Kernel8.nD,
      r.2.mem ((c.tc : Thread Cert.Kernel8.nD Cert.Kernel8.τ).loc Cert.Kernel8.main_arg0) = m ((c.tc : Thread Cert.Kernel8.nD Cert.Kernel8.τ).loc Cert.Kernel8.main_arg0)
      ∧ r.2.mem ((c.tc : Thread Cert.Kernel8.nD Cert.Kernel8.τ).loc Cert.Kernel8.main_arg1) = m ((c.tc : Thread Cert.Kernel8.nD Cert.Kernel8.τ).loc Cert.Kernel8.main_arg1)
      ∧ r.2.mem ((c.tc : Thread Cert.Kernel8.nD Cert.Kernel8.τ).loc Cert.Kernel8.main_arg2) = m ((c.tc : Thread Cert.Kernel8.nD Cert.Kernel8.τ).loc Cert.Kernel8.main_arg2)
      ∧ r.2.mem ((c.tc : Thread Cert.Kernel8.nD Cert.Kernel8.τ).loc Cert.Kernel8.main_arg3) = m ((c.tc : Thread Cert.Kernel8.nD Cert.Kernel8.τ).loc Cert.Kernel8.main_arg3)
      ∧ r.2.mem ((c.tc : Thread Cert.Kernel8.nD Cert.Kernel8.τ).loc Cert.Kernel8.main_arg4) = m ((c.tc : Thread Cert.Kernel8.nD Cert.Kernel8.τ).loc Cert.Kernel8.main_arg4))
      ∧ r.2.sem = fun _ => 0)

def quiescent_Kernel8Ideal [hKernel8Ideal : Cert.Kernel8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg), Pre_Kernel8Ideal m →
    θ_run (Cert.Kernel8Ideal.defs (F := Ideal)) (onTc (τ := Cert.Kernel8Ideal.τ) (Cert.Kernel8Ideal.main (F := Ideal))) ⟨m, fun _ => 0, g⟩ (fun r => (∀ c : Dev Cert.Kernel8Ideal.nD,
      r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
      ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
      ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2)
      ∧ r.2.mem ((c.tc : Thread Cert.Kernel8Ideal.nD Cert.Kernel8Ideal.τ).loc Cert.Kernel8Ideal.main_arg3) = m ((c.tc : Thread Cert.Kernel8Ideal.nD Cert.Kernel8Ideal.τ).loc Cert.Kernel8Ideal.main_arg3)
      ∧ r.2.mem ((c.tc : Thread Cert.Kernel8Ideal.nD Cert.Kernel8Ideal.τ).loc Cert.Kernel8Ideal.main_arg4) = m ((c.tc : Thread Cert.Kernel8Ideal.nD Cert.Kernel8Ideal.τ).loc Cert.Kernel8Ideal.main_arg4))
      ∧ r.2.sem = fun _ => 0)

def quiescent_Reference8Ideal [hReference8Ideal : Cert.Reference8Ideal.Facts] : Prop :=
  ∀ (m : (ℓ : Loc Cert.Reference8Ideal.nD Cert.Reference8Ideal.τ Cert.Reference8Ideal.sig) → Buf (Elt Ideal) ℓ) (g : Dev Cert.Reference8Ideal.nD → PrngReg), Pre_Reference8Ideal m →
    θ_run (Cert.Reference8Ideal.defs (F := Ideal)) (onTc (τ := Cert.Reference8Ideal.τ) (Cert.Reference8Ideal.main (F := Ideal))) ⟨m, fun _ => 0, g⟩ (fun r => (∀ c : Dev Cert.Reference8Ideal.nD,
      r.2.mem ((c.tc : Thread Cert.Reference8Ideal.nD Cert.Reference8Ideal.τ).loc Cert.Reference8Ideal.main_arg0) = m ((c.tc : Thread Cert.Reference8Ideal.nD Cert.Reference8Ideal.τ).loc Cert.Reference8Ideal.main_arg0)
      ∧ r.2.mem ((c.tc : Thread Cert.Reference8Ideal.nD Cert.Reference8Ideal.τ).loc Cert.Reference8Ideal.main_arg1) = m ((c.tc : Thread Cert.Reference8Ideal.nD Cert.Reference8Ideal.τ).loc Cert.Reference8Ideal.main_arg1)
      ∧ r.2.mem ((c.tc : Thread Cert.Reference8Ideal.nD Cert.Reference8Ideal.τ).loc Cert.Reference8Ideal.main_arg2) = m ((c.tc : Thread Cert.Reference8Ideal.nD Cert.Reference8Ideal.τ).loc Cert.Reference8Ideal.main_arg2)
      ∧ r.2.mem ((c.tc : Thread Cert.Reference8Ideal.nD Cert.Reference8Ideal.τ).loc Cert.Reference8Ideal.main_arg3) = m ((c.tc : Thread Cert.Reference8Ideal.nD Cert.Reference8Ideal.τ).loc Cert.Reference8Ideal.main_arg3)
      ∧ r.2.mem ((c.tc : Thread Cert.Reference8Ideal.nD Cert.Reference8Ideal.τ).loc Cert.Reference8Ideal.main_arg4) = m ((c.tc : Thread Cert.Reference8Ideal.nD Cert.Reference8Ideal.τ).loc Cert.Reference8Ideal.main_arg4))
      ∧ r.2.sem = fun _ => 0)

def quiescent_Kernel9 [hKernel9 : Cert.Kernel9.Facts] : Prop :=
  ∀ (m : (ℓ : Loc Cert.Kernel9.nD Cert.Kernel9.τ Cert.Kernel9.sig) → Buf (Elt Bits) ℓ) (g : Dev Cert.Kernel9.nD → PrngReg), Pre_Kernel9 m →
    θ_run (Cert.Kernel9.defs (F := Bits)) (onTc (τ := Cert.Kernel9.τ) (Cert.Kernel9.main (F := Bits))) ⟨m, fun _ => 0, g⟩ (fun r => (∀ c : Dev Cert.Kernel9.nD,
      r.2.mem ((c.tc : Thread Cert.Kernel9.nD Cert.Kernel9.τ).loc Cert.Kernel9.main_arg0) = m ((c.tc : Thread Cert.Kernel9.nD Cert.Kernel9.τ).loc Cert.Kernel9.main_arg0)
      ∧ r.2.mem ((c.tc : Thread Cert.Kernel9.nD Cert.Kernel9.τ).loc Cert.Kernel9.main_arg1) = m ((c.tc : Thread Cert.Kernel9.nD Cert.Kernel9.τ).loc Cert.Kernel9.main_arg1))
      ∧ r.2.sem = fun _ => 0)

def quiescent_Kernel9Ideal [hKernel9Ideal : Cert.Kernel9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg), Pre_Kernel9Ideal m →
    θ_run (Cert.Kernel9Ideal.defs (F := Ideal)) (onTc (τ := Cert.Kernel9Ideal.τ) (Cert.Kernel9Ideal.main (F := Ideal))) ⟨m, fun _ => 0, g⟩ (fun r => (∀ c : Dev Cert.Kernel9Ideal.nD,
      r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
      ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1))
      ∧ r.2.sem = fun _ => 0)

def quiescent_Reference9Ideal [hReference9Ideal : Cert.Reference9Ideal.Facts] : Prop :=
  ∀ (m : (ℓ : Loc Cert.Reference9Ideal.nD Cert.Reference9Ideal.τ Cert.Reference9Ideal.sig) → Buf (Elt Ideal) ℓ) (g : Dev Cert.Reference9Ideal.nD → PrngReg), Pre_Reference9Ideal m →
    θ_run (Cert.Reference9Ideal.defs (F := Ideal)) (onTc (τ := Cert.Reference9Ideal.τ) (Cert.Reference9Ideal.main (F := Ideal))) ⟨m, fun _ => 0, g⟩ (fun r => (∀ c : Dev Cert.Reference9Ideal.nD,
      r.2.mem ((c.tc : Thread Cert.Reference9Ideal.nD Cert.Reference9Ideal.τ).loc Cert.Reference9Ideal.main_arg0) = m ((c.tc : Thread Cert.Reference9Ideal.nD Cert.Reference9Ideal.τ).loc Cert.Reference9Ideal.main_arg0)
      ∧ r.2.mem ((c.tc : Thread Cert.Reference9Ideal.nD Cert.Reference9Ideal.τ).loc Cert.Reference9Ideal.main_arg1) = m ((c.tc : Thread Cert.Reference9Ideal.nD Cert.Reference9Ideal.τ).loc Cert.Reference9Ideal.main_arg1))
      ∧ r.2.sem = fun _ => 0)

def quiescent_Kernel10 [hKernel10 : Cert.Kernel10.Facts] : Prop :=
  ∀ (m : (ℓ : Loc Cert.Kernel10.nD Cert.Kernel10.τ Cert.Kernel10.sig) → Buf (Elt Bits) ℓ) (g : Dev Cert.Kernel10.nD → PrngReg), Pre_Kernel10 m →
    θ_run (Cert.Kernel10.defs (F := Bits)) (onTc (τ := Cert.Kernel10.τ) (Cert.Kernel10.main (F := Bits))) ⟨m, fun _ => 0, g⟩ (fun r => (∀ c : Dev Cert.Kernel10.nD,
      r.2.mem ((c.tc : Thread Cert.Kernel10.nD Cert.Kernel10.τ).loc Cert.Kernel10.main_arg0) = m ((c.tc : Thread Cert.Kernel10.nD Cert.Kernel10.τ).loc Cert.Kernel10.main_arg0)
      ∧ r.2.mem ((c.tc : Thread Cert.Kernel10.nD Cert.Kernel10.τ).loc Cert.Kernel10.main_arg1) = m ((c.tc : Thread Cert.Kernel10.nD Cert.Kernel10.τ).loc Cert.Kernel10.main_arg1))
      ∧ r.2.sem = fun _ => 0)

def quiescent_Kernel10Ideal [hKernel10Ideal : Cert.Kernel10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg), Pre_Kernel10Ideal m →
    θ_run (Cert.Kernel10Ideal.defs (F := Ideal)) (onTc (τ := Cert.Kernel10Ideal.τ) (Cert.Kernel10Ideal.main (F := Ideal))) ⟨m, fun _ => 0, g⟩ (fun r => (∀ c : Dev Cert.Kernel10Ideal.nD,
      r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
      ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1))
      ∧ r.2.sem = fun _ => 0)

def quiescent_Reference10Ideal [hReference10Ideal : Cert.Reference10Ideal.Facts] : Prop :=
  ∀ (m : (ℓ : Loc Cert.Reference10Ideal.nD Cert.Reference10Ideal.τ Cert.Reference10Ideal.sig) → Buf (Elt Ideal) ℓ) (g : Dev Cert.Reference10Ideal.nD → PrngReg), Pre_Reference10Ideal m →
    θ_run (Cert.Reference10Ideal.defs (F := Ideal)) (onTc (τ := Cert.Reference10Ideal.τ) (Cert.Reference10Ideal.main (F := Ideal))) ⟨m, fun _ => 0, g⟩ (fun r => (∀ c : Dev Cert.Reference10Ideal.nD,
      r.2.mem ((c.tc : Thread Cert.Reference10Ideal.nD Cert.Reference10Ideal.τ).loc Cert.Reference10Ideal.main_arg0) = m ((c.tc : Thread Cert.Reference10Ideal.nD Cert.Reference10Ideal.τ).loc Cert.Reference10Ideal.main_arg0)
      ∧ r.2.mem ((c.tc : Thread Cert.Reference10Ideal.nD Cert.Reference10Ideal.τ).loc Cert.Reference10Ideal.main_arg1) = m ((c.tc : Thread Cert.Reference10Ideal.nD Cert.Reference10Ideal.τ).loc Cert.Reference10Ideal.main_arg1))
      ∧ r.2.sem = fun _ => 0)

def quiescent_Kernel11 [hKernel11 : Cert.Kernel11.Facts] : Prop :=
  ∀ (m : (ℓ : Loc Cert.Kernel11.nD Cert.Kernel11.τ Cert.Kernel11.sig) → Buf (Elt Bits) ℓ) (g : Dev Cert.Kernel11.nD → PrngReg), Pre_Kernel11 m →
    θ_run (Cert.Kernel11.defs (F := Bits)) (onTc (τ := Cert.Kernel11.τ) (Cert.Kernel11.main (F := Bits))) ⟨m, fun _ => 0, g⟩ (fun r => (∀ c : Dev Cert.Kernel11.nD,
      r.2.mem ((c.tc : Thread Cert.Kernel11.nD Cert.Kernel11.τ).loc Cert.Kernel11.main_arg0) = m ((c.tc : Thread Cert.Kernel11.nD Cert.Kernel11.τ).loc Cert.Kernel11.main_arg0)
      ∧ r.2.mem ((c.tc : Thread Cert.Kernel11.nD Cert.Kernel11.τ).loc Cert.Kernel11.main_arg1) = m ((c.tc : Thread Cert.Kernel11.nD Cert.Kernel11.τ).loc Cert.Kernel11.main_arg1)
      ∧ r.2.mem ((c.tc : Thread Cert.Kernel11.nD Cert.Kernel11.τ).loc Cert.Kernel11.main_arg2) = m ((c.tc : Thread Cert.Kernel11.nD Cert.Kernel11.τ).loc Cert.Kernel11.main_arg2))
      ∧ r.2.sem = fun _ => 0)

def quiescent_Kernel11Ideal [hKernel11Ideal : Cert.Kernel11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg), Pre_Kernel11Ideal m →
    θ_run (Cert.Kernel11Ideal.defs (F := Ideal)) (onTc (τ := Cert.Kernel11Ideal.τ) (Cert.Kernel11Ideal.main (F := Ideal))) ⟨m, fun _ => 0, g⟩ (fun r => (∀ c : Dev Cert.Kernel11Ideal.nD,
      r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
      ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1)
      ∧ r.2.mem ((c.tc : Thread Cert.Kernel11Ideal.nD Cert.Kernel11Ideal.τ).loc Cert.Kernel11Ideal.main_arg2) = m ((c.tc : Thread Cert.Kernel11Ideal.nD Cert.Kernel11Ideal.τ).loc Cert.Kernel11Ideal.main_arg2))
      ∧ r.2.sem = fun _ => 0)

def quiescent_Reference11Ideal [hReference11Ideal : Cert.Reference11Ideal.Facts] : Prop :=
  ∀ (m : (ℓ : Loc Cert.Reference11Ideal.nD Cert.Reference11Ideal.τ Cert.Reference11Ideal.sig) → Buf (Elt Ideal) ℓ) (g : Dev Cert.Reference11Ideal.nD → PrngReg), Pre_Reference11Ideal m →
    θ_run (Cert.Reference11Ideal.defs (F := Ideal)) (onTc (τ := Cert.Reference11Ideal.τ) (Cert.Reference11Ideal.main (F := Ideal))) ⟨m, fun _ => 0, g⟩ (fun r => (∀ c : Dev Cert.Reference11Ideal.nD,
      r.2.mem ((c.tc : Thread Cert.Reference11Ideal.nD Cert.Reference11Ideal.τ).loc Cert.Reference11Ideal.main_arg0) = m ((c.tc : Thread Cert.Reference11Ideal.nD Cert.Reference11Ideal.τ).loc Cert.Reference11Ideal.main_arg0)
      ∧ r.2.mem ((c.tc : Thread Cert.Reference11Ideal.nD Cert.Reference11Ideal.τ).loc Cert.Reference11Ideal.main_arg1) = m ((c.tc : Thread Cert.Reference11Ideal.nD Cert.Reference11Ideal.τ).loc Cert.Reference11Ideal.main_arg1)
      ∧ r.2.mem ((c.tc : Thread Cert.Reference11Ideal.nD Cert.Reference11Ideal.τ).loc Cert.Reference11Ideal.main_arg2) = m ((c.tc : Thread Cert.Reference11Ideal.nD Cert.Reference11Ideal.τ).loc Cert.Reference11Ideal.main_arg2))
      ∧ r.2.sem = fun _ => 0)

def quiescent_Kernel12 [hKernel12 : Cert.Kernel12.Facts] : Prop :=
  ∀ (m : (ℓ : Loc Cert.Kernel12.nD Cert.Kernel12.τ Cert.Kernel12.sig) → Buf (Elt Bits) ℓ) (g : Dev Cert.Kernel12.nD → PrngReg), Pre_Kernel12 m →
    θ_run (Cert.Kernel12.defs (F := Bits)) (onTc (τ := Cert.Kernel12.τ) (Cert.Kernel12.main (F := Bits))) ⟨m, fun _ => 0, g⟩ (fun r => (∀ c : Dev Cert.Kernel12.nD,
      r.2.mem ((c.tc : Thread Cert.Kernel12.nD Cert.Kernel12.τ).loc Cert.Kernel12.main_arg0) = m ((c.tc : Thread Cert.Kernel12.nD Cert.Kernel12.τ).loc Cert.Kernel12.main_arg0)
      ∧ r.2.mem ((c.tc : Thread Cert.Kernel12.nD Cert.Kernel12.τ).loc Cert.Kernel12.main_arg1) = m ((c.tc : Thread Cert.Kernel12.nD Cert.Kernel12.τ).loc Cert.Kernel12.main_arg1))
      ∧ r.2.sem = fun _ => 0)

def quiescent_Kernel12Ideal [hKernel12Ideal : Cert.Kernel12Ideal.Facts] : Prop :=
  ∀ (m : (ℓ : Loc Cert.Kernel12Ideal.nD Cert.Kernel12Ideal.τ Cert.Kernel12Ideal.sig) → Buf (Elt Ideal) ℓ) (g : Dev Cert.Kernel12Ideal.nD → PrngReg), Pre_Kernel12Ideal m →
    θ_run (Cert.Kernel12Ideal.defs (F := Ideal)) (onTc (τ := Cert.Kernel12Ideal.τ) (Cert.Kernel12Ideal.main (F := Ideal))) ⟨m, fun _ => 0, g⟩ (fun r => (∀ c : Dev Cert.Kernel12Ideal.nD,
      r.2.mem ((c.tc : Thread Cert.Kernel12Ideal.nD Cert.Kernel12Ideal.τ).loc Cert.Kernel12Ideal.main_arg0) = m ((c.tc : Thread Cert.Kernel12Ideal.nD Cert.Kernel12Ideal.τ).loc Cert.Kernel12Ideal.main_arg0)
      ∧ r.2.mem ((c.tc : Thread Cert.Kernel12Ideal.nD Cert.Kernel12Ideal.τ).loc Cert.Kernel12Ideal.main_arg1) = m ((c.tc : Thread Cert.Kernel12Ideal.nD Cert.Kernel12Ideal.τ).loc Cert.Kernel12Ideal.main_arg1))
      ∧ r.2.sem = fun _ => 0)

def quiescent_Reference12Ideal [hReference12Ideal : Cert.Reference12Ideal.Facts] : Prop :=
  ∀ (m : (ℓ : Loc Cert.Reference12Ideal.nD Cert.Reference12Ideal.τ Cert.Reference12Ideal.sig) → Buf (Elt Ideal) ℓ) (g : Dev Cert.Reference12Ideal.nD → PrngReg), Pre_Reference12Ideal m →
    θ_run (Cert.Reference12Ideal.defs (F := Ideal)) (onTc (τ := Cert.Reference12Ideal.τ) (Cert.Reference12Ideal.main (F := Ideal))) ⟨m, fun _ => 0, g⟩ (fun r => (∀ c : Dev Cert.Reference12Ideal.nD,
      r.2.mem ((c.tc : Thread Cert.Reference12Ideal.nD Cert.Reference12Ideal.τ).loc Cert.Reference12Ideal.main_arg0) = m ((c.tc : Thread Cert.Reference12Ideal.nD Cert.Reference12Ideal.τ).loc Cert.Reference12Ideal.main_arg0)
      ∧ r.2.mem ((c.tc : Thread Cert.Reference12Ideal.nD Cert.Reference12Ideal.τ).loc Cert.Reference12Ideal.main_arg1) = m ((c.tc : Thread Cert.Reference12Ideal.nD Cert.Reference12Ideal.τ).loc Cert.Reference12Ideal.main_arg1))
      ∧ r.2.sem = fun _ => 0)

def quiescent_Kernel13 [hKernel13 : Cert.Kernel13.Facts] : Prop :=
  ∀ (m : (ℓ : Loc Cert.Kernel13.nD Cert.Kernel13.τ Cert.Kernel13.sig) → Buf (Elt Bits) ℓ) (g : Dev Cert.Kernel13.nD → PrngReg), Pre_Kernel13 m →
    θ_run (Cert.Kernel13.defs (F := Bits)) (onTc (τ := Cert.Kernel13.τ) (Cert.Kernel13.main (F := Bits))) ⟨m, fun _ => 0, g⟩ (fun r => (∀ c : Dev Cert.Kernel13.nD,
      r.2.mem ((c.tc : Thread Cert.Kernel13.nD Cert.Kernel13.τ).loc Cert.Kernel13.main_arg0) = m ((c.tc : Thread Cert.Kernel13.nD Cert.Kernel13.τ).loc Cert.Kernel13.main_arg0)
      ∧ r.2.mem ((c.tc : Thread Cert.Kernel13.nD Cert.Kernel13.τ).loc Cert.Kernel13.main_arg1) = m ((c.tc : Thread Cert.Kernel13.nD Cert.Kernel13.τ).loc Cert.Kernel13.main_arg1))
      ∧ r.2.sem = fun _ => 0)

def quiescent_Kernel13Ideal [hKernel13Ideal : Cert.Kernel13Ideal.Facts] : Prop :=
  ∀ (m : (ℓ : Loc Cert.Kernel13Ideal.nD Cert.Kernel13Ideal.τ Cert.Kernel13Ideal.sig) → Buf (Elt Ideal) ℓ) (g : Dev Cert.Kernel13Ideal.nD → PrngReg), Pre_Kernel13Ideal m →
    θ_run (Cert.Kernel13Ideal.defs (F := Ideal)) (onTc (τ := Cert.Kernel13Ideal.τ) (Cert.Kernel13Ideal.main (F := Ideal))) ⟨m, fun _ => 0, g⟩ (fun r => (∀ c : Dev Cert.Kernel13Ideal.nD,
      r.2.mem ((c.tc : Thread Cert.Kernel13Ideal.nD Cert.Kernel13Ideal.τ).loc Cert.Kernel13Ideal.main_arg0) = m ((c.tc : Thread Cert.Kernel13Ideal.nD Cert.Kernel13Ideal.τ).loc Cert.Kernel13Ideal.main_arg0)
      ∧ r.2.mem ((c.tc : Thread Cert.Kernel13Ideal.nD Cert.Kernel13Ideal.τ).loc Cert.Kernel13Ideal.main_arg1) = m ((c.tc : Thread Cert.Kernel13Ideal.nD Cert.Kernel13Ideal.τ).loc Cert.Kernel13Ideal.main_arg1))
      ∧ r.2.sem = fun _ => 0)

def quiescent_Reference13Ideal [hReference13Ideal : Cert.Reference13Ideal.Facts] : Prop :=
  ∀ (m : (ℓ : Loc Cert.Reference13Ideal.nD Cert.Reference13Ideal.τ Cert.Reference13Ideal.sig) → Buf (Elt Ideal) ℓ) (g : Dev Cert.Reference13Ideal.nD → PrngReg), Pre_Reference13Ideal m →
    θ_run (Cert.Reference13Ideal.defs (F := Ideal)) (onTc (τ := Cert.Reference13Ideal.τ) (Cert.Reference13Ideal.main (F := Ideal))) ⟨m, fun _ => 0, g⟩ (fun r => (∀ c : Dev Cert.Reference13Ideal.nD,
      r.2.mem ((c.tc : Thread Cert.Reference13Ideal.nD Cert.Reference13Ideal.τ).loc Cert.Reference13Ideal.main_arg0) = m ((c.tc : Thread Cert.Reference13Ideal.nD Cert.Reference13Ideal.τ).loc Cert.Reference13Ideal.main_arg0)
      ∧ r.2.mem ((c.tc : Thread Cert.Reference13Ideal.nD Cert.Reference13Ideal.τ).loc Cert.Reference13Ideal.main_arg1) = m ((c.tc : Thread Cert.Reference13Ideal.nD Cert.Reference13Ideal.τ).loc Cert.Reference13Ideal.main_arg1))
      ∧ r.2.sem = fun _ => 0)

def quiescent_Kernel14 [hKernel14 : Cert.Kernel14.Facts] : Prop :=
  ∀ (m : (ℓ : Loc Cert.Kernel14.nD Cert.Kernel14.τ Cert.Kernel14.sig) → Buf (Elt Bits) ℓ) (g : Dev Cert.Kernel14.nD → PrngReg), Pre_Kernel14 m →
    θ_run (Cert.Kernel14.defs (F := Bits)) (onTc (τ := Cert.Kernel14.τ) (Cert.Kernel14.main (F := Bits))) ⟨m, fun _ => 0, g⟩ (fun r => (∀ c : Dev Cert.Kernel14.nD,
      r.2.mem ((c.tc : Thread Cert.Kernel14.nD Cert.Kernel14.τ).loc Cert.Kernel14.main_arg0) = m ((c.tc : Thread Cert.Kernel14.nD Cert.Kernel14.τ).loc Cert.Kernel14.main_arg0)
      ∧ r.2.mem ((c.tc : Thread Cert.Kernel14.nD Cert.Kernel14.τ).loc Cert.Kernel14.main_arg1) = m ((c.tc : Thread Cert.Kernel14.nD Cert.Kernel14.τ).loc Cert.Kernel14.main_arg1))
      ∧ r.2.sem = fun _ => 0)

def quiescent_Kernel14Ideal [hKernel14Ideal : Cert.Kernel14Ideal.Facts] : Prop :=
  ∀ (m : (ℓ : Loc Cert.Kernel14Ideal.nD Cert.Kernel14Ideal.τ Cert.Kernel14Ideal.sig) → Buf (Elt Ideal) ℓ) (g : Dev Cert.Kernel14Ideal.nD → PrngReg), Pre_Kernel14Ideal m →
    θ_run (Cert.Kernel14Ideal.defs (F := Ideal)) (onTc (τ := Cert.Kernel14Ideal.τ) (Cert.Kernel14Ideal.main (F := Ideal))) ⟨m, fun _ => 0, g⟩ (fun r => (∀ c : Dev Cert.Kernel14Ideal.nD,
      r.2.mem ((c.tc : Thread Cert.Kernel14Ideal.nD Cert.Kernel14Ideal.τ).loc Cert.Kernel14Ideal.main_arg0) = m ((c.tc : Thread Cert.Kernel14Ideal.nD Cert.Kernel14Ideal.τ).loc Cert.Kernel14Ideal.main_arg0)
      ∧ r.2.mem ((c.tc : Thread Cert.Kernel14Ideal.nD Cert.Kernel14Ideal.τ).loc Cert.Kernel14Ideal.main_arg1) = m ((c.tc : Thread Cert.Kernel14Ideal.nD Cert.Kernel14Ideal.τ).loc Cert.Kernel14Ideal.main_arg1))
      ∧ r.2.sem = fun _ => 0)

def quiescent_Reference14Ideal [hReference14Ideal : Cert.Reference14Ideal.Facts] : Prop :=
  ∀ (m : (ℓ : Loc Cert.Reference14Ideal.nD Cert.Reference14Ideal.τ Cert.Reference14Ideal.sig) → Buf (Elt Ideal) ℓ) (g : Dev Cert.Reference14Ideal.nD → PrngReg), Pre_Reference14Ideal m →
    θ_run (Cert.Reference14Ideal.defs (F := Ideal)) (onTc (τ := Cert.Reference14Ideal.τ) (Cert.Reference14Ideal.main (F := Ideal))) ⟨m, fun _ => 0, g⟩ (fun r => (∀ c : Dev Cert.Reference14Ideal.nD,
      r.2.mem ((c.tc : Thread Cert.Reference14Ideal.nD Cert.Reference14Ideal.τ).loc Cert.Reference14Ideal.main_arg0) = m ((c.tc : Thread Cert.Reference14Ideal.nD Cert.Reference14Ideal.τ).loc Cert.Reference14Ideal.main_arg0)
      ∧ r.2.mem ((c.tc : Thread Cert.Reference14Ideal.nD Cert.Reference14Ideal.τ).loc Cert.Reference14Ideal.main_arg1) = m ((c.tc : Thread Cert.Reference14Ideal.nD Cert.Reference14Ideal.τ).loc Cert.Reference14Ideal.main_arg1))
      ∧ r.2.sem = fun _ => 0)

def quiescent_Kernel15 [hKernel15 : Cert.Kernel15.Facts] : Prop :=
  ∀ (m : (ℓ : Loc Cert.Kernel15.nD Cert.Kernel15.τ Cert.Kernel15.sig) → Buf (Elt Bits) ℓ) (g : Dev Cert.Kernel15.nD → PrngReg), Pre_Kernel15 m →
    θ_run (Cert.Kernel15.defs (F := Bits)) (onTc (τ := Cert.Kernel15.τ) (Cert.Kernel15.main (F := Bits))) ⟨m, fun _ => 0, g⟩ (fun r => (∀ c : Dev Cert.Kernel15.nD,
      r.2.mem ((c.tc : Thread Cert.Kernel15.nD Cert.Kernel15.τ).loc Cert.Kernel15.main_arg0) = m ((c.tc : Thread Cert.Kernel15.nD Cert.Kernel15.τ).loc Cert.Kernel15.main_arg0)
      ∧ r.2.mem ((c.tc : Thread Cert.Kernel15.nD Cert.Kernel15.τ).loc Cert.Kernel15.main_arg1) = m ((c.tc : Thread Cert.Kernel15.nD Cert.Kernel15.τ).loc Cert.Kernel15.main_arg1)
      ∧ r.2.mem ((c.tc : Thread Cert.Kernel15.nD Cert.Kernel15.τ).loc Cert.Kernel15.main_arg2) = m ((c.tc : Thread Cert.Kernel15.nD Cert.Kernel15.τ).loc Cert.Kernel15.main_arg2)
      ∧ r.2.mem ((c.tc : Thread Cert.Kernel15.nD Cert.Kernel15.τ).loc Cert.Kernel15.main_arg3) = m ((c.tc : Thread Cert.Kernel15.nD Cert.Kernel15.τ).loc Cert.Kernel15.main_arg3)
      ∧ r.2.mem ((c.tc : Thread Cert.Kernel15.nD Cert.Kernel15.τ).loc Cert.Kernel15.main_arg4) = m ((c.tc : Thread Cert.Kernel15.nD Cert.Kernel15.τ).loc Cert.Kernel15.main_arg4)
      ∧ r.2.mem ((c.tc : Thread Cert.Kernel15.nD Cert.Kernel15.τ).loc Cert.Kernel15.main_arg5) = m ((c.tc : Thread Cert.Kernel15.nD Cert.Kernel15.τ).loc Cert.Kernel15.main_arg5)
      ∧ r.2.mem ((c.tc : Thread Cert.Kernel15.nD Cert.Kernel15.τ).loc Cert.Kernel15.main_arg6) = m ((c.tc : Thread Cert.Kernel15.nD Cert.Kernel15.τ).loc Cert.Kernel15.main_arg6)
      ∧ r.2.mem ((c.tc : Thread Cert.Kernel15.nD Cert.Kernel15.τ).loc Cert.Kernel15.main_arg7) = m ((c.tc : Thread Cert.Kernel15.nD Cert.Kernel15.τ).loc Cert.Kernel15.main_arg7)
      ∧ r.2.mem ((c.tc : Thread Cert.Kernel15.nD Cert.Kernel15.τ).loc Cert.Kernel15.main_arg8) = m ((c.tc : Thread Cert.Kernel15.nD Cert.Kernel15.τ).loc Cert.Kernel15.main_arg8)
      ∧ r.2.mem ((c.tc : Thread Cert.Kernel15.nD Cert.Kernel15.τ).loc Cert.Kernel15.main_arg9) = m ((c.tc : Thread Cert.Kernel15.nD Cert.Kernel15.τ).loc Cert.Kernel15.main_arg9)
      ∧ r.2.mem ((c.tc : Thread Cert.Kernel15.nD Cert.Kernel15.τ).loc Cert.Kernel15.main_arg10) = m ((c.tc : Thread Cert.Kernel15.nD Cert.Kernel15.τ).loc Cert.Kernel15.main_arg10)
      ∧ r.2.mem ((c.tc : Thread Cert.Kernel15.nD Cert.Kernel15.τ).loc Cert.Kernel15.main_arg11) = m ((c.tc : Thread Cert.Kernel15.nD Cert.Kernel15.τ).loc Cert.Kernel15.main_arg11)
      ∧ r.2.mem ((c.tc : Thread Cert.Kernel15.nD Cert.Kernel15.τ).loc Cert.Kernel15.main_arg12) = m ((c.tc : Thread Cert.Kernel15.nD Cert.Kernel15.τ).loc Cert.Kernel15.main_arg12))
      ∧ r.2.sem = fun _ => 0)

def quiescent_Kernel15Ideal [hKernel15Ideal : Cert.Kernel15Ideal.Facts] : Prop :=
  ∀ (m : (ℓ : Loc Cert.Kernel15Ideal.nD Cert.Kernel15Ideal.τ Cert.Kernel15Ideal.sig) → Buf (Elt Ideal) ℓ) (g : Dev Cert.Kernel15Ideal.nD → PrngReg), Pre_Kernel15Ideal m →
    θ_run (Cert.Kernel15Ideal.defs (F := Ideal)) (onTc (τ := Cert.Kernel15Ideal.τ) (Cert.Kernel15Ideal.main (F := Ideal))) ⟨m, fun _ => 0, g⟩ (fun r => (∀ c : Dev Cert.Kernel15Ideal.nD,
      r.2.mem ((c.tc : Thread Cert.Kernel15Ideal.nD Cert.Kernel15Ideal.τ).loc Cert.Kernel15Ideal.main_arg0) = m ((c.tc : Thread Cert.Kernel15Ideal.nD Cert.Kernel15Ideal.τ).loc Cert.Kernel15Ideal.main_arg0)
      ∧ r.2.mem ((c.tc : Thread Cert.Kernel15Ideal.nD Cert.Kernel15Ideal.τ).loc Cert.Kernel15Ideal.main_arg1) = m ((c.tc : Thread Cert.Kernel15Ideal.nD Cert.Kernel15Ideal.τ).loc Cert.Kernel15Ideal.main_arg1)
      ∧ r.2.mem ((c.tc : Thread Cert.Kernel15Ideal.nD Cert.Kernel15Ideal.τ).loc Cert.Kernel15Ideal.main_arg2) = m ((c.tc : Thread Cert.Kernel15Ideal.nD Cert.Kernel15Ideal.τ).loc Cert.Kernel15Ideal.main_arg2)
      ∧ r.2.mem ((c.tc : Thread Cert.Kernel15Ideal.nD Cert.Kernel15Ideal.τ).loc Cert.Kernel15Ideal.main_arg3) = m ((c.tc : Thread Cert.Kernel15Ideal.nD Cert.Kernel15Ideal.τ).loc Cert.Kernel15Ideal.main_arg3)
      ∧ r.2.mem ((c.tc : Thread Cert.Kernel15Ideal.nD Cert.Kernel15Ideal.τ).loc Cert.Kernel15Ideal.main_arg4) = m ((c.tc : Thread Cert.Kernel15Ideal.nD Cert.Kernel15Ideal.τ).loc Cert.Kernel15Ideal.main_arg4)
      ∧ r.2.mem ((c.tc : Thread Cert.Kernel15Ideal.nD Cert.Kernel15Ideal.τ).loc Cert.Kernel15Ideal.main_arg5) = m ((c.tc : Thread Cert.Kernel15Ideal.nD Cert.Kernel15Ideal.τ).loc Cert.Kernel15Ideal.main_arg5)
      ∧ r.2.mem ((c.tc : Thread Cert.Kernel15Ideal.nD Cert.Kernel15Ideal.τ).loc Cert.Kernel15Ideal.main_arg6) = m ((c.tc : Thread Cert.Kernel15Ideal.nD Cert.Kernel15Ideal.τ).loc Cert.Kernel15Ideal.main_arg6)
      ∧ r.2.mem ((c.tc : Thread Cert.Kernel15Ideal.nD Cert.Kernel15Ideal.τ).loc Cert.Kernel15Ideal.main_arg7) = m ((c.tc : Thread Cert.Kernel15Ideal.nD Cert.Kernel15Ideal.τ).loc Cert.Kernel15Ideal.main_arg7)
      ∧ r.2.mem ((c.tc : Thread Cert.Kernel15Ideal.nD Cert.Kernel15Ideal.τ).loc Cert.Kernel15Ideal.main_arg8) = m ((c.tc : Thread Cert.Kernel15Ideal.nD Cert.Kernel15Ideal.τ).loc Cert.Kernel15Ideal.main_arg8)
      ∧ r.2.mem ((c.tc : Thread Cert.Kernel15Ideal.nD Cert.Kernel15Ideal.τ).loc Cert.Kernel15Ideal.main_arg9) = m ((c.tc : Thread Cert.Kernel15Ideal.nD Cert.Kernel15Ideal.τ).loc Cert.Kernel15Ideal.main_arg9)
      ∧ r.2.mem ((c.tc : Thread Cert.Kernel15Ideal.nD Cert.Kernel15Ideal.τ).loc Cert.Kernel15Ideal.main_arg10) = m ((c.tc : Thread Cert.Kernel15Ideal.nD Cert.Kernel15Ideal.τ).loc Cert.Kernel15Ideal.main_arg10)
      ∧ r.2.mem ((c.tc : Thread Cert.Kernel15Ideal.nD Cert.Kernel15Ideal.τ).loc Cert.Kernel15Ideal.main_arg11) = m ((c.tc : Thread Cert.Kernel15Ideal.nD Cert.Kernel15Ideal.τ).loc Cert.Kernel15Ideal.main_arg11)
      ∧ r.2.mem ((c.tc : Thread Cert.Kernel15Ideal.nD Cert.Kernel15Ideal.τ).loc Cert.Kernel15Ideal.main_arg12) = m ((c.tc : Thread Cert.Kernel15Ideal.nD Cert.Kernel15Ideal.τ).loc Cert.Kernel15Ideal.main_arg12))
      ∧ r.2.sem = fun _ => 0)

def quiescent_Reference15Ideal [hReference15Ideal : Cert.Reference15Ideal.Facts] : Prop :=
  ∀ (m : (ℓ : Loc Cert.Reference15Ideal.nD Cert.Reference15Ideal.τ Cert.Reference15Ideal.sig) → Buf (Elt Ideal) ℓ) (g : Dev Cert.Reference15Ideal.nD → PrngReg), Pre_Reference15Ideal m →
    θ_run (Cert.Reference15Ideal.defs (F := Ideal)) (onTc (τ := Cert.Reference15Ideal.τ) (Cert.Reference15Ideal.main (F := Ideal))) ⟨m, fun _ => 0, g⟩ (fun r => (∀ c : Dev Cert.Reference15Ideal.nD,
      r.2.mem ((c.tc : Thread Cert.Reference15Ideal.nD Cert.Reference15Ideal.τ).loc Cert.Reference15Ideal.main_arg0) = m ((c.tc : Thread Cert.Reference15Ideal.nD Cert.Reference15Ideal.τ).loc Cert.Reference15Ideal.main_arg0)
      ∧ r.2.mem ((c.tc : Thread Cert.Reference15Ideal.nD Cert.Reference15Ideal.τ).loc Cert.Reference15Ideal.main_arg1) = m ((c.tc : Thread Cert.Reference15Ideal.nD Cert.Reference15Ideal.τ).loc Cert.Reference15Ideal.main_arg1)
      ∧ r.2.mem ((c.tc : Thread Cert.Reference15Ideal.nD Cert.Reference15Ideal.τ).loc Cert.Reference15Ideal.main_arg2) = m ((c.tc : Thread Cert.Reference15Ideal.nD Cert.Reference15Ideal.τ).loc Cert.Reference15Ideal.main_arg2)
      ∧ r.2.mem ((c.tc : Thread Cert.Reference15Ideal.nD Cert.Reference15Ideal.τ).loc Cert.Reference15Ideal.main_arg3) = m ((c.tc : Thread Cert.Reference15Ideal.nD Cert.Reference15Ideal.τ).loc Cert.Reference15Ideal.main_arg3)
      ∧ r.2.mem ((c.tc : Thread Cert.Reference15Ideal.nD Cert.Reference15Ideal.τ).loc Cert.Reference15Ideal.main_arg4) = m ((c.tc : Thread Cert.Reference15Ideal.nD Cert.Reference15Ideal.τ).loc Cert.Reference15Ideal.main_arg4)
      ∧ r.2.mem ((c.tc : Thread Cert.Reference15Ideal.nD Cert.Reference15Ideal.τ).loc Cert.Reference15Ideal.main_arg5) = m ((c.tc : Thread Cert.Reference15Ideal.nD Cert.Reference15Ideal.τ).loc Cert.Reference15Ideal.main_arg5)
      ∧ r.2.mem ((c.tc : Thread Cert.Reference15Ideal.nD Cert.Reference15Ideal.τ).loc Cert.Reference15Ideal.main_arg6) = m ((c.tc : Thread Cert.Reference15Ideal.nD Cert.Reference15Ideal.τ).loc Cert.Reference15Ideal.main_arg6)
      ∧ r.2.mem ((c.tc : Thread Cert.Reference15Ideal.nD Cert.Reference15Ideal.τ).loc Cert.Reference15Ideal.main_arg7) = m ((c.tc : Thread Cert.Reference15Ideal.nD Cert.Reference15Ideal.τ).loc Cert.Reference15Ideal.main_arg7)
      ∧ r.2.mem ((c.tc : Thread Cert.Reference15Ideal.nD Cert.Reference15Ideal.τ).loc Cert.Reference15Ideal.main_arg8) = m ((c.tc : Thread Cert.Reference15Ideal.nD Cert.Reference15Ideal.τ).loc Cert.Reference15Ideal.main_arg8)
      ∧ r.2.mem ((c.tc : Thread Cert.Reference15Ideal.nD Cert.Reference15Ideal.τ).loc Cert.Reference15Ideal.main_arg9) = m ((c.tc : Thread Cert.Reference15Ideal.nD Cert.Reference15Ideal.τ).loc Cert.Reference15Ideal.main_arg9)
      ∧ r.2.mem ((c.tc : Thread Cert.Reference15Ideal.nD Cert.Reference15Ideal.τ).loc Cert.Reference15Ideal.main_arg10) = m ((c.tc : Thread Cert.Reference15Ideal.nD Cert.Reference15Ideal.τ).loc Cert.Reference15Ideal.main_arg10)
      ∧ r.2.mem ((c.tc : Thread Cert.Reference15Ideal.nD Cert.Reference15Ideal.τ).loc Cert.Reference15Ideal.main_arg11) = m ((c.tc : Thread Cert.Reference15Ideal.nD Cert.Reference15Ideal.τ).loc Cert.Reference15Ideal.main_arg11)
      ∧ r.2.mem ((c.tc : Thread Cert.Reference15Ideal.nD Cert.Reference15Ideal.τ).loc Cert.Reference15Ideal.main_arg12) = m ((c.tc : Thread Cert.Reference15Ideal.nD Cert.Reference15Ideal.τ).loc Cert.Reference15Ideal.main_arg12))
      ∧ r.2.sem = fun _ => 0)

def quiescent_Kernel16 [hKernel16 : Cert.Kernel16.Facts] : Prop :=
  ∀ (m : (ℓ : Loc Cert.Kernel16.nD Cert.Kernel16.τ Cert.Kernel16.sig) → Buf (Elt Bits) ℓ) (g : Dev Cert.Kernel16.nD → PrngReg), Pre_Kernel16 m →
    θ_run (Cert.Kernel16.defs (F := Bits)) (onTc (τ := Cert.Kernel16.τ) (Cert.Kernel16.main (F := Bits))) ⟨m, fun _ => 0, g⟩ (fun r => (∀ c : Dev Cert.Kernel16.nD,
      r.2.mem ((c.tc : Thread Cert.Kernel16.nD Cert.Kernel16.τ).loc Cert.Kernel16.main_arg0) = m ((c.tc : Thread Cert.Kernel16.nD Cert.Kernel16.τ).loc Cert.Kernel16.main_arg0)
      ∧ r.2.mem ((c.tc : Thread Cert.Kernel16.nD Cert.Kernel16.τ).loc Cert.Kernel16.main_arg1) = m ((c.tc : Thread Cert.Kernel16.nD Cert.Kernel16.τ).loc Cert.Kernel16.main_arg1)
      ∧ r.2.mem ((c.tc : Thread Cert.Kernel16.nD Cert.Kernel16.τ).loc Cert.Kernel16.main_arg2) = m ((c.tc : Thread Cert.Kernel16.nD Cert.Kernel16.τ).loc Cert.Kernel16.main_arg2)
      ∧ r.2.mem ((c.tc : Thread Cert.Kernel16.nD Cert.Kernel16.τ).loc Cert.Kernel16.main_arg3) = m ((c.tc : Thread Cert.Kernel16.nD Cert.Kernel16.τ).loc Cert.Kernel16.main_arg3)
      ∧ r.2.mem ((c.tc : Thread Cert.Kernel16.nD Cert.Kernel16.τ).loc Cert.Kernel16.main_arg4) = m ((c.tc : Thread Cert.Kernel16.nD Cert.Kernel16.τ).loc Cert.Kernel16.main_arg4)
      ∧ r.2.mem ((c.tc : Thread Cert.Kernel16.nD Cert.Kernel16.τ).loc Cert.Kernel16.main_arg5) = m ((c.tc : Thread Cert.Kernel16.nD Cert.Kernel16.τ).loc Cert.Kernel16.main_arg5)
      ∧ r.2.mem ((c.tc : Thread Cert.Kernel16.nD Cert.Kernel16.τ).loc Cert.Kernel16.main_arg6) = m ((c.tc : Thread Cert.Kernel16.nD Cert.Kernel16.τ).loc Cert.Kernel16.main_arg6)
      ∧ r.2.mem ((c.tc : Thread Cert.Kernel16.nD Cert.Kernel16.τ).loc Cert.Kernel16.main_arg7) = m ((c.tc : Thread Cert.Kernel16.nD Cert.Kernel16.τ).loc Cert.Kernel16.main_arg7)
      ∧ r.2.mem ((c.tc : Thread Cert.Kernel16.nD Cert.Kernel16.τ).loc Cert.Kernel16.main_arg8) = m ((c.tc : Thread Cert.Kernel16.nD Cert.Kernel16.τ).loc Cert.Kernel16.main_arg8)
      ∧ r.2.mem ((c.tc : Thread Cert.Kernel16.nD Cert.Kernel16.τ).loc Cert.Kernel16.main_arg9) = m ((c.tc : Thread Cert.Kernel16.nD Cert.Kernel16.τ).loc Cert.Kernel16.main_arg9))
      ∧ r.2.sem = fun _ => 0)

def quiescent_Kernel16Ideal [hKernel16Ideal : Cert.Kernel16Ideal.Facts] : Prop :=
  ∀ (m : (ℓ : Loc Cert.Kernel16Ideal.nD Cert.Kernel16Ideal.τ Cert.Kernel16Ideal.sig) → Buf (Elt Ideal) ℓ) (g : Dev Cert.Kernel16Ideal.nD → PrngReg), Pre_Kernel16Ideal m →
    θ_run (Cert.Kernel16Ideal.defs (F := Ideal)) (onTc (τ := Cert.Kernel16Ideal.τ) (Cert.Kernel16Ideal.main (F := Ideal))) ⟨m, fun _ => 0, g⟩ (fun r => (∀ c : Dev Cert.Kernel16Ideal.nD,
      r.2.mem ((c.tc : Thread Cert.Kernel16Ideal.nD Cert.Kernel16Ideal.τ).loc Cert.Kernel16Ideal.main_arg0) = m ((c.tc : Thread Cert.Kernel16Ideal.nD Cert.Kernel16Ideal.τ).loc Cert.Kernel16Ideal.main_arg0)
      ∧ r.2.mem ((c.tc : Thread Cert.Kernel16Ideal.nD Cert.Kernel16Ideal.τ).loc Cert.Kernel16Ideal.main_arg1) = m ((c.tc : Thread Cert.Kernel16Ideal.nD Cert.Kernel16Ideal.τ).loc Cert.Kernel16Ideal.main_arg1)
      ∧ r.2.mem ((c.tc : Thread Cert.Kernel16Ideal.nD Cert.Kernel16Ideal.τ).loc Cert.Kernel16Ideal.main_arg2) = m ((c.tc : Thread Cert.Kernel16Ideal.nD Cert.Kernel16Ideal.τ).loc Cert.Kernel16Ideal.main_arg2)
      ∧ r.2.mem ((c.tc : Thread Cert.Kernel16Ideal.nD Cert.Kernel16Ideal.τ).loc Cert.Kernel16Ideal.main_arg3) = m ((c.tc : Thread Cert.Kernel16Ideal.nD Cert.Kernel16Ideal.τ).loc Cert.Kernel16Ideal.main_arg3)
      ∧ r.2.mem ((c.tc : Thread Cert.Kernel16Ideal.nD Cert.Kernel16Ideal.τ).loc Cert.Kernel16Ideal.main_arg4) = m ((c.tc : Thread Cert.Kernel16Ideal.nD Cert.Kernel16Ideal.τ).loc Cert.Kernel16Ideal.main_arg4)
      ∧ r.2.mem ((c.tc : Thread Cert.Kernel16Ideal.nD Cert.Kernel16Ideal.τ).loc Cert.Kernel16Ideal.main_arg5) = m ((c.tc : Thread Cert.Kernel16Ideal.nD Cert.Kernel16Ideal.τ).loc Cert.Kernel16Ideal.main_arg5)
      ∧ r.2.mem ((c.tc : Thread Cert.Kernel16Ideal.nD Cert.Kernel16Ideal.τ).loc Cert.Kernel16Ideal.main_arg6) = m ((c.tc : Thread Cert.Kernel16Ideal.nD Cert.Kernel16Ideal.τ).loc Cert.Kernel16Ideal.main_arg6)
      ∧ r.2.mem ((c.tc : Thread Cert.Kernel16Ideal.nD Cert.Kernel16Ideal.τ).loc Cert.Kernel16Ideal.main_arg7) = m ((c.tc : Thread Cert.Kernel16Ideal.nD Cert.Kernel16Ideal.τ).loc Cert.Kernel16Ideal.main_arg7)
      ∧ r.2.mem ((c.tc : Thread Cert.Kernel16Ideal.nD Cert.Kernel16Ideal.τ).loc Cert.Kernel16Ideal.main_arg8) = m ((c.tc : Thread Cert.Kernel16Ideal.nD Cert.Kernel16Ideal.τ).loc Cert.Kernel16Ideal.main_arg8)
      ∧ r.2.mem ((c.tc : Thread Cert.Kernel16Ideal.nD Cert.Kernel16Ideal.τ).loc Cert.Kernel16Ideal.main_arg9) = m ((c.tc : Thread Cert.Kernel16Ideal.nD Cert.Kernel16Ideal.τ).loc Cert.Kernel16Ideal.main_arg9))
      ∧ r.2.sem = fun _ => 0)

def quiescent_Reference16Ideal [hReference16Ideal : Cert.Reference16Ideal.Facts] : Prop :=
  ∀ (m : (ℓ : Loc Cert.Reference16Ideal.nD Cert.Reference16Ideal.τ Cert.Reference16Ideal.sig) → Buf (Elt Ideal) ℓ) (g : Dev Cert.Reference16Ideal.nD → PrngReg), Pre_Reference16Ideal m →
    θ_run (Cert.Reference16Ideal.defs (F := Ideal)) (onTc (τ := Cert.Reference16Ideal.τ) (Cert.Reference16Ideal.main (F := Ideal))) ⟨m, fun _ => 0, g⟩ (fun r => (∀ c : Dev Cert.Reference16Ideal.nD,
      r.2.mem ((c.tc : Thread Cert.Reference16Ideal.nD Cert.Reference16Ideal.τ).loc Cert.Reference16Ideal.main_arg0) = m ((c.tc : Thread Cert.Reference16Ideal.nD Cert.Reference16Ideal.τ).loc Cert.Reference16Ideal.main_arg0)
      ∧ r.2.mem ((c.tc : Thread Cert.Reference16Ideal.nD Cert.Reference16Ideal.τ).loc Cert.Reference16Ideal.main_arg1) = m ((c.tc : Thread Cert.Reference16Ideal.nD Cert.Reference16Ideal.τ).loc Cert.Reference16Ideal.main_arg1)
      ∧ r.2.mem ((c.tc : Thread Cert.Reference16Ideal.nD Cert.Reference16Ideal.τ).loc Cert.Reference16Ideal.main_arg2) = m ((c.tc : Thread Cert.Reference16Ideal.nD Cert.Reference16Ideal.τ).loc Cert.Reference16Ideal.main_arg2)
      ∧ r.2.mem ((c.tc : Thread Cert.Reference16Ideal.nD Cert.Reference16Ideal.τ).loc Cert.Reference16Ideal.main_arg3) = m ((c.tc : Thread Cert.Reference16Ideal.nD Cert.Reference16Ideal.τ).loc Cert.Reference16Ideal.main_arg3)
      ∧ r.2.mem ((c.tc : Thread Cert.Reference16Ideal.nD Cert.Reference16Ideal.τ).loc Cert.Reference16Ideal.main_arg4) = m ((c.tc : Thread Cert.Reference16Ideal.nD Cert.Reference16Ideal.τ).loc Cert.Reference16Ideal.main_arg4)
      ∧ r.2.mem ((c.tc : Thread Cert.Reference16Ideal.nD Cert.Reference16Ideal.τ).loc Cert.Reference16Ideal.main_arg5) = m ((c.tc : Thread Cert.Reference16Ideal.nD Cert.Reference16Ideal.τ).loc Cert.Reference16Ideal.main_arg5)
      ∧ r.2.mem ((c.tc : Thread Cert.Reference16Ideal.nD Cert.Reference16Ideal.τ).loc Cert.Reference16Ideal.main_arg6) = m ((c.tc : Thread Cert.Reference16Ideal.nD Cert.Reference16Ideal.τ).loc Cert.Reference16Ideal.main_arg6)
      ∧ r.2.mem ((c.tc : Thread Cert.Reference16Ideal.nD Cert.Reference16Ideal.τ).loc Cert.Reference16Ideal.main_arg7) = m ((c.tc : Thread Cert.Reference16Ideal.nD Cert.Reference16Ideal.τ).loc Cert.Reference16Ideal.main_arg7)
      ∧ r.2.mem ((c.tc : Thread Cert.Reference16Ideal.nD Cert.Reference16Ideal.τ).loc Cert.Reference16Ideal.main_arg8) = m ((c.tc : Thread Cert.Reference16Ideal.nD Cert.Reference16Ideal.τ).loc Cert.Reference16Ideal.main_arg8)
      ∧ r.2.mem ((c.tc : Thread Cert.Reference16Ideal.nD Cert.Reference16Ideal.τ).loc Cert.Reference16Ideal.main_arg9) = m ((c.tc : Thread Cert.Reference16Ideal.nD Cert.Reference16Ideal.τ).loc Cert.Reference16Ideal.main_arg9))
      ∧ r.2.sem = fun _ => 0)

def quiescent_Kernel17 [hKernel17 : Cert.Kernel17.Facts] : Prop :=
  ∀ (m : (ℓ : Loc Cert.Kernel17.nD Cert.Kernel17.τ Cert.Kernel17.sig) → Buf (Elt Bits) ℓ) (g : Dev Cert.Kernel17.nD → PrngReg), Pre_Kernel17 m →
    θ_run (Cert.Kernel17.defs (F := Bits)) (onTc (τ := Cert.Kernel17.τ) (Cert.Kernel17.main (F := Bits))) ⟨m, fun _ => 0, g⟩ (fun r => (∀ c : Dev Cert.Kernel17.nD,
      r.2.mem ((c.tc : Thread Cert.Kernel17.nD Cert.Kernel17.τ).loc Cert.Kernel17.main_arg0) = m ((c.tc : Thread Cert.Kernel17.nD Cert.Kernel17.τ).loc Cert.Kernel17.main_arg0)
      ∧ r.2.mem ((c.tc : Thread Cert.Kernel17.nD Cert.Kernel17.τ).loc Cert.Kernel17.main_arg1) = m ((c.tc : Thread Cert.Kernel17.nD Cert.Kernel17.τ).loc Cert.Kernel17.main_arg1))
      ∧ r.2.sem = fun _ => 0)

def quiescent_Kernel17Ideal [hKernel17Ideal : Cert.Kernel17Ideal.Facts] : Prop :=
  ∀ (m : (ℓ : Loc Cert.Kernel17Ideal.nD Cert.Kernel17Ideal.τ Cert.Kernel17Ideal.sig) → Buf (Elt Ideal) ℓ) (g : Dev Cert.Kernel17Ideal.nD → PrngReg), Pre_Kernel17Ideal m →
    θ_run (Cert.Kernel17Ideal.defs (F := Ideal)) (onTc (τ := Cert.Kernel17Ideal.τ) (Cert.Kernel17Ideal.main (F := Ideal))) ⟨m, fun _ => 0, g⟩ (fun r => (∀ c : Dev Cert.Kernel17Ideal.nD,
      r.2.mem ((c.tc : Thread Cert.Kernel17Ideal.nD Cert.Kernel17Ideal.τ).loc Cert.Kernel17Ideal.main_arg0) = m ((c.tc : Thread Cert.Kernel17Ideal.nD Cert.Kernel17Ideal.τ).loc Cert.Kernel17Ideal.main_arg0)
      ∧ r.2.mem ((c.tc : Thread Cert.Kernel17Ideal.nD Cert.Kernel17Ideal.τ).loc Cert.Kernel17Ideal.main_arg1) = m ((c.tc : Thread Cert.Kernel17Ideal.nD Cert.Kernel17Ideal.τ).loc Cert.Kernel17Ideal.main_arg1))
      ∧ r.2.sem = fun _ => 0)

def quiescent_Reference17Ideal [hReference17Ideal : Cert.Reference17Ideal.Facts] : Prop :=
  ∀ (m : (ℓ : Loc Cert.Reference17Ideal.nD Cert.Reference17Ideal.τ Cert.Reference17Ideal.sig) → Buf (Elt Ideal) ℓ) (g : Dev Cert.Reference17Ideal.nD → PrngReg), Pre_Reference17Ideal m →
    θ_run (Cert.Reference17Ideal.defs (F := Ideal)) (onTc (τ := Cert.Reference17Ideal.τ) (Cert.Reference17Ideal.main (F := Ideal))) ⟨m, fun _ => 0, g⟩ (fun r => (∀ c : Dev Cert.Reference17Ideal.nD,
      r.2.mem ((c.tc : Thread Cert.Reference17Ideal.nD Cert.Reference17Ideal.τ).loc Cert.Reference17Ideal.main_arg0) = m ((c.tc : Thread Cert.Reference17Ideal.nD Cert.Reference17Ideal.τ).loc Cert.Reference17Ideal.main_arg0)
      ∧ r.2.mem ((c.tc : Thread Cert.Reference17Ideal.nD Cert.Reference17Ideal.τ).loc Cert.Reference17Ideal.main_arg1) = m ((c.tc : Thread Cert.Reference17Ideal.nD Cert.Reference17Ideal.τ).loc Cert.Reference17Ideal.main_arg1))
      ∧ r.2.sem = fun _ => 0)

def quiescent_Kernel18 [hKernel18 : Cert.Kernel18.Facts] : Prop :=
  ∀ (m : (ℓ : Loc Cert.Kernel18.nD Cert.Kernel18.τ Cert.Kernel18.sig) → Buf (Elt Bits) ℓ) (g : Dev Cert.Kernel18.nD → PrngReg), Pre_Kernel18 m →
    θ_run (Cert.Kernel18.defs (F := Bits)) (onTc (τ := Cert.Kernel18.τ) (Cert.Kernel18.main (F := Bits))) ⟨m, fun _ => 0, g⟩ (fun r => (∀ c : Dev Cert.Kernel18.nD,
      r.2.mem ((c.tc : Thread Cert.Kernel18.nD Cert.Kernel18.τ).loc Cert.Kernel18.main_arg0) = m ((c.tc : Thread Cert.Kernel18.nD Cert.Kernel18.τ).loc Cert.Kernel18.main_arg0)
      ∧ r.2.mem ((c.tc : Thread Cert.Kernel18.nD Cert.Kernel18.τ).loc Cert.Kernel18.main_arg1) = m ((c.tc : Thread Cert.Kernel18.nD Cert.Kernel18.τ).loc Cert.Kernel18.main_arg1)
      ∧ r.2.mem ((c.tc : Thread Cert.Kernel18.nD Cert.Kernel18.τ).loc Cert.Kernel18.main_arg2) = m ((c.tc : Thread Cert.Kernel18.nD Cert.Kernel18.τ).loc Cert.Kernel18.main_arg2))
      ∧ r.2.sem = fun _ => 0)

def quiescent_Kernel18Ideal [hKernel18Ideal : Cert.Kernel18Ideal.Facts] : Prop :=
  ∀ (m : (ℓ : Loc Cert.Kernel18Ideal.nD Cert.Kernel18Ideal.τ Cert.Kernel18Ideal.sig) → Buf (Elt Ideal) ℓ) (g : Dev Cert.Kernel18Ideal.nD → PrngReg), Pre_Kernel18Ideal m →
    θ_run (Cert.Kernel18Ideal.defs (F := Ideal)) (onTc (τ := Cert.Kernel18Ideal.τ) (Cert.Kernel18Ideal.main (F := Ideal))) ⟨m, fun _ => 0, g⟩ (fun r => (∀ c : Dev Cert.Kernel18Ideal.nD,
      r.2.mem ((c.tc : Thread Cert.Kernel18Ideal.nD Cert.Kernel18Ideal.τ).loc Cert.Kernel18Ideal.main_arg0) = m ((c.tc : Thread Cert.Kernel18Ideal.nD Cert.Kernel18Ideal.τ).loc Cert.Kernel18Ideal.main_arg0)
      ∧ r.2.mem ((c.tc : Thread Cert.Kernel18Ideal.nD Cert.Kernel18Ideal.τ).loc Cert.Kernel18Ideal.main_arg1) = m ((c.tc : Thread Cert.Kernel18Ideal.nD Cert.Kernel18Ideal.τ).loc Cert.Kernel18Ideal.main_arg1)
      ∧ r.2.mem ((c.tc : Thread Cert.Kernel18Ideal.nD Cert.Kernel18Ideal.τ).loc Cert.Kernel18Ideal.main_arg2) = m ((c.tc : Thread Cert.Kernel18Ideal.nD Cert.Kernel18Ideal.τ).loc Cert.Kernel18Ideal.main_arg2))
      ∧ r.2.sem = fun _ => 0)

def quiescent_Reference18Ideal [hReference18Ideal : Cert.Reference18Ideal.Facts] : Prop :=
  ∀ (m : (ℓ : Loc Cert.Reference18Ideal.nD Cert.Reference18Ideal.τ Cert.Reference18Ideal.sig) → Buf (Elt Ideal) ℓ) (g : Dev Cert.Reference18Ideal.nD → PrngReg), Pre_Reference18Ideal m →
    θ_run (Cert.Reference18Ideal.defs (F := Ideal)) (onTc (τ := Cert.Reference18Ideal.τ) (Cert.Reference18Ideal.main (F := Ideal))) ⟨m, fun _ => 0, g⟩ (fun r => (∀ c : Dev Cert.Reference18Ideal.nD,
      r.2.mem ((c.tc : Thread Cert.Reference18Ideal.nD Cert.Reference18Ideal.τ).loc Cert.Reference18Ideal.main_arg0) = m ((c.tc : Thread Cert.Reference18Ideal.nD Cert.Reference18Ideal.τ).loc Cert.Reference18Ideal.main_arg0)
      ∧ r.2.mem ((c.tc : Thread Cert.Reference18Ideal.nD Cert.Reference18Ideal.τ).loc Cert.Reference18Ideal.main_arg1) = m ((c.tc : Thread Cert.Reference18Ideal.nD Cert.Reference18Ideal.τ).loc Cert.Reference18Ideal.main_arg1)
      ∧ r.2.mem ((c.tc : Thread Cert.Reference18Ideal.nD Cert.Reference18Ideal.τ).loc Cert.Reference18Ideal.main_arg2) = m ((c.tc : Thread Cert.Reference18Ideal.nD Cert.Reference18Ideal.τ).loc Cert.Reference18Ideal.main_arg2))
      ∧ r.2.sem = fun _ => 0)

def quiescent_Kernel19 [hKernel19 : Cert.Kernel19.Facts] : Prop :=
  ∀ (m : (ℓ : Loc Cert.Kernel19.nD Cert.Kernel19.τ Cert.Kernel19.sig) → Buf (Elt Bits) ℓ) (g : Dev Cert.Kernel19.nD → PrngReg), Pre_Kernel19 m →
    θ_run (Cert.Kernel19.defs (F := Bits)) (onTc (τ := Cert.Kernel19.τ) (Cert.Kernel19.main (F := Bits))) ⟨m, fun _ => 0, g⟩ (fun r => (∀ c : Dev Cert.Kernel19.nD,
      r.2.mem ((c.tc : Thread Cert.Kernel19.nD Cert.Kernel19.τ).loc Cert.Kernel19.main_arg0) = m ((c.tc : Thread Cert.Kernel19.nD Cert.Kernel19.τ).loc Cert.Kernel19.main_arg0)
      ∧ r.2.mem ((c.tc : Thread Cert.Kernel19.nD Cert.Kernel19.τ).loc Cert.Kernel19.main_arg1) = m ((c.tc : Thread Cert.Kernel19.nD Cert.Kernel19.τ).loc Cert.Kernel19.main_arg1)
      ∧ r.2.mem ((c.tc : Thread Cert.Kernel19.nD Cert.Kernel19.τ).loc Cert.Kernel19.main_arg2) = m ((c.tc : Thread Cert.Kernel19.nD Cert.Kernel19.τ).loc Cert.Kernel19.main_arg2)
      ∧ r.2.mem ((c.tc : Thread Cert.Kernel19.nD Cert.Kernel19.τ).loc Cert.Kernel19.main_arg3) = m ((c.tc : Thread Cert.Kernel19.nD Cert.Kernel19.τ).loc Cert.Kernel19.main_arg3))
      ∧ r.2.sem = fun _ => 0)

def quiescent_Kernel19Ideal [hKernel19Ideal : Cert.Kernel19Ideal.Facts] : Prop :=
  ∀ (m : (ℓ : Loc Cert.Kernel19Ideal.nD Cert.Kernel19Ideal.τ Cert.Kernel19Ideal.sig) → Buf (Elt Ideal) ℓ) (g : Dev Cert.Kernel19Ideal.nD → PrngReg), Pre_Kernel19Ideal m →
    θ_run (Cert.Kernel19Ideal.defs (F := Ideal)) (onTc (τ := Cert.Kernel19Ideal.τ) (Cert.Kernel19Ideal.main (F := Ideal))) ⟨m, fun _ => 0, g⟩ (fun r => (∀ c : Dev Cert.Kernel19Ideal.nD,
      r.2.mem ((c.tc : Thread Cert.Kernel19Ideal.nD Cert.Kernel19Ideal.τ).loc Cert.Kernel19Ideal.main_arg0) = m ((c.tc : Thread Cert.Kernel19Ideal.nD Cert.Kernel19Ideal.τ).loc Cert.Kernel19Ideal.main_arg0)
      ∧ r.2.mem ((c.tc : Thread Cert.Kernel19Ideal.nD Cert.Kernel19Ideal.τ).loc Cert.Kernel19Ideal.main_arg1) = m ((c.tc : Thread Cert.Kernel19Ideal.nD Cert.Kernel19Ideal.τ).loc Cert.Kernel19Ideal.main_arg1)
      ∧ r.2.mem ((c.tc : Thread Cert.Kernel19Ideal.nD Cert.Kernel19Ideal.τ).loc Cert.Kernel19Ideal.main_arg2) = m ((c.tc : Thread Cert.Kernel19Ideal.nD Cert.Kernel19Ideal.τ).loc Cert.Kernel19Ideal.main_arg2)
      ∧ r.2.mem ((c.tc : Thread Cert.Kernel19Ideal.nD Cert.Kernel19Ideal.τ).loc Cert.Kernel19Ideal.main_arg3) = m ((c.tc : Thread Cert.Kernel19Ideal.nD Cert.Kernel19Ideal.τ).loc Cert.Kernel19Ideal.main_arg3))
      ∧ r.2.sem = fun _ => 0)

def quiescent_Reference19Ideal [hReference19Ideal : Cert.Reference19Ideal.Facts] : Prop :=
  ∀ (m : (ℓ : Loc Cert.Reference19Ideal.nD Cert.Reference19Ideal.τ Cert.Reference19Ideal.sig) → Buf (Elt Ideal) ℓ) (g : Dev Cert.Reference19Ideal.nD → PrngReg), Pre_Reference19Ideal m →
    θ_run (Cert.Reference19Ideal.defs (F := Ideal)) (onTc (τ := Cert.Reference19Ideal.τ) (Cert.Reference19Ideal.main (F := Ideal))) ⟨m, fun _ => 0, g⟩ (fun r => (∀ c : Dev Cert.Reference19Ideal.nD,
      r.2.mem ((c.tc : Thread Cert.Reference19Ideal.nD Cert.Reference19Ideal.τ).loc Cert.Reference19Ideal.main_arg0) = m ((c.tc : Thread Cert.Reference19Ideal.nD Cert.Reference19Ideal.τ).loc Cert.Reference19Ideal.main_arg0)
      ∧ r.2.mem ((c.tc : Thread Cert.Reference19Ideal.nD Cert.Reference19Ideal.τ).loc Cert.Reference19Ideal.main_arg1) = m ((c.tc : Thread Cert.Reference19Ideal.nD Cert.Reference19Ideal.τ).loc Cert.Reference19Ideal.main_arg1)
      ∧ r.2.mem ((c.tc : Thread Cert.Reference19Ideal.nD Cert.Reference19Ideal.τ).loc Cert.Reference19Ideal.main_arg2) = m ((c.tc : Thread Cert.Reference19Ideal.nD Cert.Reference19Ideal.τ).loc Cert.Reference19Ideal.main_arg2)
      ∧ r.2.mem ((c.tc : Thread Cert.Reference19Ideal.nD Cert.Reference19Ideal.τ).loc Cert.Reference19Ideal.main_arg3) = m ((c.tc : Thread Cert.Reference19Ideal.nD Cert.Reference19Ideal.τ).loc Cert.Reference19Ideal.main_arg3))
      ∧ r.2.sem = fun _ => 0)

def quiescent_Kernel20 [hKernel20 : Cert.Kernel20.Facts] : Prop :=
  ∀ (m : (ℓ : Loc Cert.Kernel20.nD Cert.Kernel20.τ Cert.Kernel20.sig) → Buf (Elt Bits) ℓ) (g : Dev Cert.Kernel20.nD → PrngReg), Pre_Kernel20 m →
    θ_run (Cert.Kernel20.defs (F := Bits)) (onTc (τ := Cert.Kernel20.τ) (Cert.Kernel20.main (F := Bits))) ⟨m, fun _ => 0, g⟩ (fun r => (∀ c : Dev Cert.Kernel20.nD,
      r.2.mem ((c.tc : Thread Cert.Kernel20.nD Cert.Kernel20.τ).loc Cert.Kernel20.main_arg0) = m ((c.tc : Thread Cert.Kernel20.nD Cert.Kernel20.τ).loc Cert.Kernel20.main_arg0)
      ∧ r.2.mem ((c.tc : Thread Cert.Kernel20.nD Cert.Kernel20.τ).loc Cert.Kernel20.main_arg1) = m ((c.tc : Thread Cert.Kernel20.nD Cert.Kernel20.τ).loc Cert.Kernel20.main_arg1)
      ∧ r.2.mem ((c.tc : Thread Cert.Kernel20.nD Cert.Kernel20.τ).loc Cert.Kernel20.main_arg2) = m ((c.tc : Thread Cert.Kernel20.nD Cert.Kernel20.τ).loc Cert.Kernel20.main_arg2)
      ∧ r.2.mem ((c.tc : Thread Cert.Kernel20.nD Cert.Kernel20.τ).loc Cert.Kernel20.main_arg3) = m ((c.tc : Thread Cert.Kernel20.nD Cert.Kernel20.τ).loc Cert.Kernel20.main_arg3))
      ∧ r.2.sem = fun _ => 0)

def quiescent_Kernel20Ideal [hKernel20Ideal : Cert.Kernel20Ideal.Facts] : Prop :=
  ∀ (m : (ℓ : Loc Cert.Kernel20Ideal.nD Cert.Kernel20Ideal.τ Cert.Kernel20Ideal.sig) → Buf (Elt Ideal) ℓ) (g : Dev Cert.Kernel20Ideal.nD → PrngReg), Pre_Kernel20Ideal m →
    θ_run (Cert.Kernel20Ideal.defs (F := Ideal)) (onTc (τ := Cert.Kernel20Ideal.τ) (Cert.Kernel20Ideal.main (F := Ideal))) ⟨m, fun _ => 0, g⟩ (fun r => (∀ c : Dev Cert.Kernel20Ideal.nD,
      r.2.mem ((c.tc : Thread Cert.Kernel20Ideal.nD Cert.Kernel20Ideal.τ).loc Cert.Kernel20Ideal.main_arg0) = m ((c.tc : Thread Cert.Kernel20Ideal.nD Cert.Kernel20Ideal.τ).loc Cert.Kernel20Ideal.main_arg0)
      ∧ r.2.mem ((c.tc : Thread Cert.Kernel20Ideal.nD Cert.Kernel20Ideal.τ).loc Cert.Kernel20Ideal.main_arg1) = m ((c.tc : Thread Cert.Kernel20Ideal.nD Cert.Kernel20Ideal.τ).loc Cert.Kernel20Ideal.main_arg1)
      ∧ r.2.mem ((c.tc : Thread Cert.Kernel20Ideal.nD Cert.Kernel20Ideal.τ).loc Cert.Kernel20Ideal.main_arg2) = m ((c.tc : Thread Cert.Kernel20Ideal.nD Cert.Kernel20Ideal.τ).loc Cert.Kernel20Ideal.main_arg2)
      ∧ r.2.mem ((c.tc : Thread Cert.Kernel20Ideal.nD Cert.Kernel20Ideal.τ).loc Cert.Kernel20Ideal.main_arg3) = m ((c.tc : Thread Cert.Kernel20Ideal.nD Cert.Kernel20Ideal.τ).loc Cert.Kernel20Ideal.main_arg3))
      ∧ r.2.sem = fun _ => 0)

def quiescent_Reference20Ideal [hReference20Ideal : Cert.Reference20Ideal.Facts] : Prop :=
  ∀ (m : (ℓ : Loc Cert.Reference20Ideal.nD Cert.Reference20Ideal.τ Cert.Reference20Ideal.sig) → Buf (Elt Ideal) ℓ) (g : Dev Cert.Reference20Ideal.nD → PrngReg), Pre_Reference20Ideal m →
    θ_run (Cert.Reference20Ideal.defs (F := Ideal)) (onTc (τ := Cert.Reference20Ideal.τ) (Cert.Reference20Ideal.main (F := Ideal))) ⟨m, fun _ => 0, g⟩ (fun r => (∀ c : Dev Cert.Reference20Ideal.nD,
      r.2.mem ((c.tc : Thread Cert.Reference20Ideal.nD Cert.Reference20Ideal.τ).loc Cert.Reference20Ideal.main_arg0) = m ((c.tc : Thread Cert.Reference20Ideal.nD Cert.Reference20Ideal.τ).loc Cert.Reference20Ideal.main_arg0)
      ∧ r.2.mem ((c.tc : Thread Cert.Reference20Ideal.nD Cert.Reference20Ideal.τ).loc Cert.Reference20Ideal.main_arg1) = m ((c.tc : Thread Cert.Reference20Ideal.nD Cert.Reference20Ideal.τ).loc Cert.Reference20Ideal.main_arg1)
      ∧ r.2.mem ((c.tc : Thread Cert.Reference20Ideal.nD Cert.Reference20Ideal.τ).loc Cert.Reference20Ideal.main_arg2) = m ((c.tc : Thread Cert.Reference20Ideal.nD Cert.Reference20Ideal.τ).loc Cert.Reference20Ideal.main_arg2)
      ∧ r.2.mem ((c.tc : Thread Cert.Reference20Ideal.nD Cert.Reference20Ideal.τ).loc Cert.Reference20Ideal.main_arg3) = m ((c.tc : Thread Cert.Reference20Ideal.nD Cert.Reference20Ideal.τ).loc Cert.Reference20Ideal.main_arg3))
      ∧ r.2.sem = fun _ => 0)

def quiescent_Kernel21 [hKernel21 : Cert.Kernel21.Facts] : Prop :=
  ∀ (m : (ℓ : Loc Cert.Kernel21.nD Cert.Kernel21.τ Cert.Kernel21.sig) → Buf (Elt Bits) ℓ) (g : Dev Cert.Kernel21.nD → PrngReg), Pre_Kernel21 m →
    θ_run (Cert.Kernel21.defs (F := Bits)) (onTc (τ := Cert.Kernel21.τ) (Cert.Kernel21.main (F := Bits))) ⟨m, fun _ => 0, g⟩ (fun r => (∀ c : Dev Cert.Kernel21.nD,
      r.2.mem ((c.tc : Thread Cert.Kernel21.nD Cert.Kernel21.τ).loc Cert.Kernel21.main_arg0) = m ((c.tc : Thread Cert.Kernel21.nD Cert.Kernel21.τ).loc Cert.Kernel21.main_arg0)
      ∧ r.2.mem ((c.tc : Thread Cert.Kernel21.nD Cert.Kernel21.τ).loc Cert.Kernel21.main_arg1) = m ((c.tc : Thread Cert.Kernel21.nD Cert.Kernel21.τ).loc Cert.Kernel21.main_arg1)
      ∧ r.2.mem ((c.tc : Thread Cert.Kernel21.nD Cert.Kernel21.τ).loc Cert.Kernel21.main_arg2) = m ((c.tc : Thread Cert.Kernel21.nD Cert.Kernel21.τ).loc Cert.Kernel21.main_arg2)
      ∧ r.2.mem ((c.tc : Thread Cert.Kernel21.nD Cert.Kernel21.τ).loc Cert.Kernel21.main_arg3) = m ((c.tc : Thread Cert.Kernel21.nD Cert.Kernel21.τ).loc Cert.Kernel21.main_arg3))
      ∧ r.2.sem = fun _ => 0)

def quiescent_Kernel21Ideal [hKernel21Ideal : Cert.Kernel21Ideal.Facts] : Prop :=
  ∀ (m : (ℓ : Loc Cert.Kernel21Ideal.nD Cert.Kernel21Ideal.τ Cert.Kernel21Ideal.sig) → Buf (Elt Ideal) ℓ) (g : Dev Cert.Kernel21Ideal.nD → PrngReg), Pre_Kernel21Ideal m →
    θ_run (Cert.Kernel21Ideal.defs (F := Ideal)) (onTc (τ := Cert.Kernel21Ideal.τ) (Cert.Kernel21Ideal.main (F := Ideal))) ⟨m, fun _ => 0, g⟩ (fun r => (∀ c : Dev Cert.Kernel21Ideal.nD,
      r.2.mem ((c.tc : Thread Cert.Kernel21Ideal.nD Cert.Kernel21Ideal.τ).loc Cert.Kernel21Ideal.main_arg0) = m ((c.tc : Thread Cert.Kernel21Ideal.nD Cert.Kernel21Ideal.τ).loc Cert.Kernel21Ideal.main_arg0)
      ∧ r.2.mem ((c.tc : Thread Cert.Kernel21Ideal.nD Cert.Kernel21Ideal.τ).loc Cert.Kernel21Ideal.main_arg1) = m ((c.tc : Thread Cert.Kernel21Ideal.nD Cert.Kernel21Ideal.τ).loc Cert.Kernel21Ideal.main_arg1)
      ∧ r.2.mem ((c.tc : Thread Cert.Kernel21Ideal.nD Cert.Kernel21Ideal.τ).loc Cert.Kernel21Ideal.main_arg2) = m ((c.tc : Thread Cert.Kernel21Ideal.nD Cert.Kernel21Ideal.τ).loc Cert.Kernel21Ideal.main_arg2)
      ∧ r.2.mem ((c.tc : Thread Cert.Kernel21Ideal.nD Cert.Kernel21Ideal.τ).loc Cert.Kernel21Ideal.main_arg3) = m ((c.tc : Thread Cert.Kernel21Ideal.nD Cert.Kernel21Ideal.τ).loc Cert.Kernel21Ideal.main_arg3))
      ∧ r.2.sem = fun _ => 0)

def quiescent_Reference21Ideal [hReference21Ideal : Cert.Reference21Ideal.Facts] : Prop :=
  ∀ (m : (ℓ : Loc Cert.Reference21Ideal.nD Cert.Reference21Ideal.τ Cert.Reference21Ideal.sig) → Buf (Elt Ideal) ℓ) (g : Dev Cert.Reference21Ideal.nD → PrngReg), Pre_Reference21Ideal m →
    θ_run (Cert.Reference21Ideal.defs (F := Ideal)) (onTc (τ := Cert.Reference21Ideal.τ) (Cert.Reference21Ideal.main (F := Ideal))) ⟨m, fun _ => 0, g⟩ (fun r => (∀ c : Dev Cert.Reference21Ideal.nD,
      r.2.mem ((c.tc : Thread Cert.Reference21Ideal.nD Cert.Reference21Ideal.τ).loc Cert.Reference21Ideal.main_arg0) = m ((c.tc : Thread Cert.Reference21Ideal.nD Cert.Reference21Ideal.τ).loc Cert.Reference21Ideal.main_arg0)
      ∧ r.2.mem ((c.tc : Thread Cert.Reference21Ideal.nD Cert.Reference21Ideal.τ).loc Cert.Reference21Ideal.main_arg1) = m ((c.tc : Thread Cert.Reference21Ideal.nD Cert.Reference21Ideal.τ).loc Cert.Reference21Ideal.main_arg1)
      ∧ r.2.mem ((c.tc : Thread Cert.Reference21Ideal.nD Cert.Reference21Ideal.τ).loc Cert.Reference21Ideal.main_arg2) = m ((c.tc : Thread Cert.Reference21Ideal.nD Cert.Reference21Ideal.τ).loc Cert.Reference21Ideal.main_arg2)
      ∧ r.2.mem ((c.tc : Thread Cert.Reference21Ideal.nD Cert.Reference21Ideal.τ).loc Cert.Reference21Ideal.main_arg3) = m ((c.tc : Thread Cert.Reference21Ideal.nD Cert.Reference21Ideal.τ).loc Cert.Reference21Ideal.main_arg3))
      ∧ r.2.sem = fun _ => 0)

def quiescent_Kernel22 [hKernel22 : Cert.Kernel22.Facts] : Prop :=
  ∀ (m : (ℓ : Loc Cert.Kernel22.nD Cert.Kernel22.τ Cert.Kernel22.sig) → Buf (Elt Bits) ℓ) (g : Dev Cert.Kernel22.nD → PrngReg), Pre_Kernel22 m →
    θ_run (Cert.Kernel22.defs (F := Bits)) (onTc (τ := Cert.Kernel22.τ) (Cert.Kernel22.main (F := Bits))) ⟨m, fun _ => 0, g⟩ (fun r => (∀ c : Dev Cert.Kernel22.nD,
      r.2.mem ((c.tc : Thread Cert.Kernel22.nD Cert.Kernel22.τ).loc Cert.Kernel22.main_arg0) = m ((c.tc : Thread Cert.Kernel22.nD Cert.Kernel22.τ).loc Cert.Kernel22.main_arg0)
      ∧ r.2.mem ((c.tc : Thread Cert.Kernel22.nD Cert.Kernel22.τ).loc Cert.Kernel22.main_arg1) = m ((c.tc : Thread Cert.Kernel22.nD Cert.Kernel22.τ).loc Cert.Kernel22.main_arg1)
      ∧ r.2.mem ((c.tc : Thread Cert.Kernel22.nD Cert.Kernel22.τ).loc Cert.Kernel22.main_arg2) = m ((c.tc : Thread Cert.Kernel22.nD Cert.Kernel22.τ).loc Cert.Kernel22.main_arg2)
      ∧ r.2.mem ((c.tc : Thread Cert.Kernel22.nD Cert.Kernel22.τ).loc Cert.Kernel22.main_arg3) = m ((c.tc : Thread Cert.Kernel22.nD Cert.Kernel22.τ).loc Cert.Kernel22.main_arg3)
      ∧ r.2.mem ((c.tc : Thread Cert.Kernel22.nD Cert.Kernel22.τ).loc Cert.Kernel22.main_arg4) = m ((c.tc : Thread Cert.Kernel22.nD Cert.Kernel22.τ).loc Cert.Kernel22.main_arg4))
      ∧ r.2.sem = fun _ => 0)

def quiescent_Kernel22Ideal [hKernel22Ideal : Cert.Kernel22Ideal.Facts] : Prop :=
  ∀ (m : (ℓ : Loc Cert.Kernel22Ideal.nD Cert.Kernel22Ideal.τ Cert.Kernel22Ideal.sig) → Buf (Elt Ideal) ℓ) (g : Dev Cert.Kernel22Ideal.nD → PrngReg), Pre_Kernel22Ideal m →
    θ_run (Cert.Kernel22Ideal.defs (F := Ideal)) (onTc (τ := Cert.Kernel22Ideal.τ) (Cert.Kernel22Ideal.main (F := Ideal))) ⟨m, fun _ => 0, g⟩ (fun r => (∀ c : Dev Cert.Kernel22Ideal.nD,
      r.2.mem ((c.tc : Thread Cert.Kernel22Ideal.nD Cert.Kernel22Ideal.τ).loc Cert.Kernel22Ideal.main_arg0) = m ((c.tc : Thread Cert.Kernel22Ideal.nD Cert.Kernel22Ideal.τ).loc Cert.Kernel22Ideal.main_arg0)
      ∧ r.2.mem ((c.tc : Thread Cert.Kernel22Ideal.nD Cert.Kernel22Ideal.τ).loc Cert.Kernel22Ideal.main_arg1) = m ((c.tc : Thread Cert.Kernel22Ideal.nD Cert.Kernel22Ideal.τ).loc Cert.Kernel22Ideal.main_arg1)
      ∧ r.2.mem ((c.tc : Thread Cert.Kernel22Ideal.nD Cert.Kernel22Ideal.τ).loc Cert.Kernel22Ideal.main_arg2) = m ((c.tc : Thread Cert.Kernel22Ideal.nD Cert.Kernel22Ideal.τ).loc Cert.Kernel22Ideal.main_arg2)
      ∧ r.2.mem ((c.tc : Thread Cert.Kernel22Ideal.nD Cert.Kernel22Ideal.τ).loc Cert.Kernel22Ideal.main_arg3) = m ((c.tc : Thread Cert.Kernel22Ideal.nD Cert.Kernel22Ideal.τ).loc Cert.Kernel22Ideal.main_arg3)
      ∧ r.2.mem ((c.tc : Thread Cert.Kernel22Ideal.nD Cert.Kernel22Ideal.τ).loc Cert.Kernel22Ideal.main_arg4) = m ((c.tc : Thread Cert.Kernel22Ideal.nD Cert.Kernel22Ideal.τ).loc Cert.Kernel22Ideal.main_arg4))
      ∧ r.2.sem = fun _ => 0)

def quiescent_Reference22Ideal [hReference22Ideal : Cert.Reference22Ideal.Facts] : Prop :=
  ∀ (m : (ℓ : Loc Cert.Reference22Ideal.nD Cert.Reference22Ideal.τ Cert.Reference22Ideal.sig) → Buf (Elt Ideal) ℓ) (g : Dev Cert.Reference22Ideal.nD → PrngReg), Pre_Reference22Ideal m →
    θ_run (Cert.Reference22Ideal.defs (F := Ideal)) (onTc (τ := Cert.Reference22Ideal.τ) (Cert.Reference22Ideal.main (F := Ideal))) ⟨m, fun _ => 0, g⟩ (fun r => (∀ c : Dev Cert.Reference22Ideal.nD,
      r.2.mem ((c.tc : Thread Cert.Reference22Ideal.nD Cert.Reference22Ideal.τ).loc Cert.Reference22Ideal.main_arg0) = m ((c.tc : Thread Cert.Reference22Ideal.nD Cert.Reference22Ideal.τ).loc Cert.Reference22Ideal.main_arg0)
      ∧ r.2.mem ((c.tc : Thread Cert.Reference22Ideal.nD Cert.Reference22Ideal.τ).loc Cert.Reference22Ideal.main_arg1) = m ((c.tc : Thread Cert.Reference22Ideal.nD Cert.Reference22Ideal.τ).loc Cert.Reference22Ideal.main_arg1)
      ∧ r.2.mem ((c.tc : Thread Cert.Reference22Ideal.nD Cert.Reference22Ideal.τ).loc Cert.Reference22Ideal.main_arg2) = m ((c.tc : Thread Cert.Reference22Ideal.nD Cert.Reference22Ideal.τ).loc Cert.Reference22Ideal.main_arg2)
      ∧ r.2.mem ((c.tc : Thread Cert.Reference22Ideal.nD Cert.Reference22Ideal.τ).loc Cert.Reference22Ideal.main_arg3) = m ((c.tc : Thread Cert.Reference22Ideal.nD Cert.Reference22Ideal.τ).loc Cert.Reference22Ideal.main_arg3)
      ∧ r.2.mem ((c.tc : Thread Cert.Reference22Ideal.nD Cert.Reference22Ideal.τ).loc Cert.Reference22Ideal.main_arg4) = m ((c.tc : Thread Cert.Reference22Ideal.nD Cert.Reference22Ideal.τ).loc Cert.Reference22Ideal.main_arg4))
      ∧ r.2.sem = fun _ => 0)

def quiescent_Kernel23 [hKernel23 : Cert.Kernel23.Facts] : Prop :=
  ∀ (m : (ℓ : Loc Cert.Kernel23.nD Cert.Kernel23.τ Cert.Kernel23.sig) → Buf (Elt Bits) ℓ) (g : Dev Cert.Kernel23.nD → PrngReg), Pre_Kernel23 m →
    θ_run (Cert.Kernel23.defs (F := Bits)) (onTc (τ := Cert.Kernel23.τ) (Cert.Kernel23.main (F := Bits))) ⟨m, fun _ => 0, g⟩ (fun r => (∀ c : Dev Cert.Kernel23.nD,
      r.2.mem ((c.tc : Thread Cert.Kernel23.nD Cert.Kernel23.τ).loc Cert.Kernel23.main_arg0) = m ((c.tc : Thread Cert.Kernel23.nD Cert.Kernel23.τ).loc Cert.Kernel23.main_arg0)
      ∧ r.2.mem ((c.tc : Thread Cert.Kernel23.nD Cert.Kernel23.τ).loc Cert.Kernel23.main_arg1) = m ((c.tc : Thread Cert.Kernel23.nD Cert.Kernel23.τ).loc Cert.Kernel23.main_arg1)
      ∧ r.2.mem ((c.tc : Thread Cert.Kernel23.nD Cert.Kernel23.τ).loc Cert.Kernel23.main_arg2) = m ((c.tc : Thread Cert.Kernel23.nD Cert.Kernel23.τ).loc Cert.Kernel23.main_arg2)
      ∧ r.2.mem ((c.tc : Thread Cert.Kernel23.nD Cert.Kernel23.τ).loc Cert.Kernel23.main_arg3) = m ((c.tc : Thread Cert.Kernel23.nD Cert.Kernel23.τ).loc Cert.Kernel23.main_arg3))
      ∧ r.2.sem = fun _ => 0)

def quiescent_Kernel23Ideal [hKernel23Ideal : Cert.Kernel23Ideal.Facts] : Prop :=
  ∀ (m : (ℓ : Loc Cert.Kernel23Ideal.nD Cert.Kernel23Ideal.τ Cert.Kernel23Ideal.sig) → Buf (Elt Ideal) ℓ) (g : Dev Cert.Kernel23Ideal.nD → PrngReg), Pre_Kernel23Ideal m →
    θ_run (Cert.Kernel23Ideal.defs (F := Ideal)) (onTc (τ := Cert.Kernel23Ideal.τ) (Cert.Kernel23Ideal.main (F := Ideal))) ⟨m, fun _ => 0, g⟩ (fun r => (∀ c : Dev Cert.Kernel23Ideal.nD,
      r.2.mem ((c.tc : Thread Cert.Kernel23Ideal.nD Cert.Kernel23Ideal.τ).loc Cert.Kernel23Ideal.main_arg0) = m ((c.tc : Thread Cert.Kernel23Ideal.nD Cert.Kernel23Ideal.τ).loc Cert.Kernel23Ideal.main_arg0)
      ∧ r.2.mem ((c.tc : Thread Cert.Kernel23Ideal.nD Cert.Kernel23Ideal.τ).loc Cert.Kernel23Ideal.main_arg1) = m ((c.tc : Thread Cert.Kernel23Ideal.nD Cert.Kernel23Ideal.τ).loc Cert.Kernel23Ideal.main_arg1)
      ∧ r.2.mem ((c.tc : Thread Cert.Kernel23Ideal.nD Cert.Kernel23Ideal.τ).loc Cert.Kernel23Ideal.main_arg2) = m ((c.tc : Thread Cert.Kernel23Ideal.nD Cert.Kernel23Ideal.τ).loc Cert.Kernel23Ideal.main_arg2)
      ∧ r.2.mem ((c.tc : Thread Cert.Kernel23Ideal.nD Cert.Kernel23Ideal.τ).loc Cert.Kernel23Ideal.main_arg3) = m ((c.tc : Thread Cert.Kernel23Ideal.nD Cert.Kernel23Ideal.τ).loc Cert.Kernel23Ideal.main_arg3))
      ∧ r.2.sem = fun _ => 0)

def quiescent_Reference23Ideal [hReference23Ideal : Cert.Reference23Ideal.Facts] : Prop :=
  ∀ (m : (ℓ : Loc Cert.Reference23Ideal.nD Cert.Reference23Ideal.τ Cert.Reference23Ideal.sig) → Buf (Elt Ideal) ℓ) (g : Dev Cert.Reference23Ideal.nD → PrngReg), Pre_Reference23Ideal m →
    θ_run (Cert.Reference23Ideal.defs (F := Ideal)) (onTc (τ := Cert.Reference23Ideal.τ) (Cert.Reference23Ideal.main (F := Ideal))) ⟨m, fun _ => 0, g⟩ (fun r => (∀ c : Dev Cert.Reference23Ideal.nD,
      r.2.mem ((c.tc : Thread Cert.Reference23Ideal.nD Cert.Reference23Ideal.τ).loc Cert.Reference23Ideal.main_arg0) = m ((c.tc : Thread Cert.Reference23Ideal.nD Cert.Reference23Ideal.τ).loc Cert.Reference23Ideal.main_arg0)
      ∧ r.2.mem ((c.tc : Thread Cert.Reference23Ideal.nD Cert.Reference23Ideal.τ).loc Cert.Reference23Ideal.main_arg1) = m ((c.tc : Thread Cert.Reference23Ideal.nD Cert.Reference23Ideal.τ).loc Cert.Reference23Ideal.main_arg1)
      ∧ r.2.mem ((c.tc : Thread Cert.Reference23Ideal.nD Cert.Reference23Ideal.τ).loc Cert.Reference23Ideal.main_arg2) = m ((c.tc : Thread Cert.Reference23Ideal.nD Cert.Reference23Ideal.τ).loc Cert.Reference23Ideal.main_arg2)
      ∧ r.2.mem ((c.tc : Thread Cert.Reference23Ideal.nD Cert.Reference23Ideal.τ).loc Cert.Reference23Ideal.main_arg3) = m ((c.tc : Thread Cert.Reference23Ideal.nD Cert.Reference23Ideal.τ).loc Cert.Reference23Ideal.main_arg3))
      ∧ r.2.sem = fun _ => 0)

def quiescent_Kernel24 [hKernel24 : Cert.Kernel24.Facts] : Prop :=
  ∀ (m : (ℓ : Loc Cert.Kernel24.nD Cert.Kernel24.τ Cert.Kernel24.sig) → Buf (Elt Bits) ℓ) (g : Dev Cert.Kernel24.nD → PrngReg), Pre_Kernel24 m →
    θ_run (Cert.Kernel24.defs (F := Bits)) (onTc (τ := Cert.Kernel24.τ) (Cert.Kernel24.main (F := Bits))) ⟨m, fun _ => 0, g⟩ (fun r => (∀ c : Dev Cert.Kernel24.nD,
      r.2.mem ((c.tc : Thread Cert.Kernel24.nD Cert.Kernel24.τ).loc Cert.Kernel24.main_arg0) = m ((c.tc : Thread Cert.Kernel24.nD Cert.Kernel24.τ).loc Cert.Kernel24.main_arg0)
      ∧ r.2.mem ((c.tc : Thread Cert.Kernel24.nD Cert.Kernel24.τ).loc Cert.Kernel24.main_arg1) = m ((c.tc : Thread Cert.Kernel24.nD Cert.Kernel24.τ).loc Cert.Kernel24.main_arg1))
      ∧ r.2.sem = fun _ => 0)

def quiescent_Kernel24Ideal [hKernel24Ideal : Cert.Kernel24Ideal.Facts] : Prop :=
  ∀ (m : (ℓ : Loc Cert.Kernel24Ideal.nD Cert.Kernel24Ideal.τ Cert.Kernel24Ideal.sig) → Buf (Elt Ideal) ℓ) (g : Dev Cert.Kernel24Ideal.nD → PrngReg), Pre_Kernel24Ideal m →
    θ_run (Cert.Kernel24Ideal.defs (F := Ideal)) (onTc (τ := Cert.Kernel24Ideal.τ) (Cert.Kernel24Ideal.main (F := Ideal))) ⟨m, fun _ => 0, g⟩ (fun r => (∀ c : Dev Cert.Kernel24Ideal.nD,
      r.2.mem ((c.tc : Thread Cert.Kernel24Ideal.nD Cert.Kernel24Ideal.τ).loc Cert.Kernel24Ideal.main_arg0) = m ((c.tc : Thread Cert.Kernel24Ideal.nD Cert.Kernel24Ideal.τ).loc Cert.Kernel24Ideal.main_arg0)
      ∧ r.2.mem ((c.tc : Thread Cert.Kernel24Ideal.nD Cert.Kernel24Ideal.τ).loc Cert.Kernel24Ideal.main_arg1) = m ((c.tc : Thread Cert.Kernel24Ideal.nD Cert.Kernel24Ideal.τ).loc Cert.Kernel24Ideal.main_arg1))
      ∧ r.2.sem = fun _ => 0)

def quiescent_Reference24Ideal [hReference24Ideal : Cert.Reference24Ideal.Facts] : Prop :=
  ∀ (m : (ℓ : Loc Cert.Reference24Ideal.nD Cert.Reference24Ideal.τ Cert.Reference24Ideal.sig) → Buf (Elt Ideal) ℓ) (g : Dev Cert.Reference24Ideal.nD → PrngReg), Pre_Reference24Ideal m →
    θ_run (Cert.Reference24Ideal.defs (F := Ideal)) (onTc (τ := Cert.Reference24Ideal.τ) (Cert.Reference24Ideal.main (F := Ideal))) ⟨m, fun _ => 0, g⟩ (fun r => (∀ c : Dev Cert.Reference24Ideal.nD,
      r.2.mem ((c.tc : Thread Cert.Reference24Ideal.nD Cert.Reference24Ideal.τ).loc Cert.Reference24Ideal.main_arg0) = m ((c.tc : Thread Cert.Reference24Ideal.nD Cert.Reference24Ideal.τ).loc Cert.Reference24Ideal.main_arg0)
      ∧ r.2.mem ((c.tc : Thread Cert.Reference24Ideal.nD Cert.Reference24Ideal.τ).loc Cert.Reference24Ideal.main_arg1) = m ((c.tc : Thread Cert.Reference24Ideal.nD Cert.Reference24Ideal.τ).loc Cert.Reference24Ideal.main_arg1))
      ∧ r.2.sem = fun _ => 0)

def quiescent_Kernel25 [hKernel25 : Cert.Kernel25.Facts] : Prop :=
  ∀ (m : (ℓ : Loc Cert.Kernel25.nD Cert.Kernel25.τ Cert.Kernel25.sig) → Buf (Elt Bits) ℓ) (g : Dev Cert.Kernel25.nD → PrngReg), Pre_Kernel25 m →
    θ_run (Cert.Kernel25.defs (F := Bits)) (onTc (τ := Cert.Kernel25.τ) (Cert.Kernel25.main (F := Bits))) ⟨m, fun _ => 0, g⟩ (fun r => (∀ c : Dev Cert.Kernel25.nD,
      r.2.mem ((c.tc : Thread Cert.Kernel25.nD Cert.Kernel25.τ).loc Cert.Kernel25.main_arg0) = m ((c.tc : Thread Cert.Kernel25.nD Cert.Kernel25.τ).loc Cert.Kernel25.main_arg0)
      ∧ r.2.mem ((c.tc : Thread Cert.Kernel25.nD Cert.Kernel25.τ).loc Cert.Kernel25.main_arg1) = m ((c.tc : Thread Cert.Kernel25.nD Cert.Kernel25.τ).loc Cert.Kernel25.main_arg1))
      ∧ r.2.sem = fun _ => 0)

def quiescent_Kernel25Ideal [hKernel25Ideal : Cert.Kernel25Ideal.Facts] : Prop :=
  ∀ (m : (ℓ : Loc Cert.Kernel25Ideal.nD Cert.Kernel25Ideal.τ Cert.Kernel25Ideal.sig) → Buf (Elt Ideal) ℓ) (g : Dev Cert.Kernel25Ideal.nD → PrngReg), Pre_Kernel25Ideal m →
    θ_run (Cert.Kernel25Ideal.defs (F := Ideal)) (onTc (τ := Cert.Kernel25Ideal.τ) (Cert.Kernel25Ideal.main (F := Ideal))) ⟨m, fun _ => 0, g⟩ (fun r => (∀ c : Dev Cert.Kernel25Ideal.nD,
      r.2.mem ((c.tc : Thread Cert.Kernel25Ideal.nD Cert.Kernel25Ideal.τ).loc Cert.Kernel25Ideal.main_arg0) = m ((c.tc : Thread Cert.Kernel25Ideal.nD Cert.Kernel25Ideal.τ).loc Cert.Kernel25Ideal.main_arg0)
      ∧ r.2.mem ((c.tc : Thread Cert.Kernel25Ideal.nD Cert.Kernel25Ideal.τ).loc Cert.Kernel25Ideal.main_arg1) = m ((c.tc : Thread Cert.Kernel25Ideal.nD Cert.Kernel25Ideal.τ).loc Cert.Kernel25Ideal.main_arg1))
      ∧ r.2.sem = fun _ => 0)

def quiescent_Reference25Ideal [hReference25Ideal : Cert.Reference25Ideal.Facts] : Prop :=
  ∀ (m : (ℓ : Loc Cert.Reference25Ideal.nD Cert.Reference25Ideal.τ Cert.Reference25Ideal.sig) → Buf (Elt Ideal) ℓ) (g : Dev Cert.Reference25Ideal.nD → PrngReg), Pre_Reference25Ideal m →
    θ_run (Cert.Reference25Ideal.defs (F := Ideal)) (onTc (τ := Cert.Reference25Ideal.τ) (Cert.Reference25Ideal.main (F := Ideal))) ⟨m, fun _ => 0, g⟩ (fun r => (∀ c : Dev Cert.Reference25Ideal.nD,
      r.2.mem ((c.tc : Thread Cert.Reference25Ideal.nD Cert.Reference25Ideal.τ).loc Cert.Reference25Ideal.main_arg0) = m ((c.tc : Thread Cert.Reference25Ideal.nD Cert.Reference25Ideal.τ).loc Cert.Reference25Ideal.main_arg0)
      ∧ r.2.mem ((c.tc : Thread Cert.Reference25Ideal.nD Cert.Reference25Ideal.τ).loc Cert.Reference25Ideal.main_arg1) = m ((c.tc : Thread Cert.Reference25Ideal.nD Cert.Reference25Ideal.τ).loc Cert.Reference25Ideal.main_arg1))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v8_0)) (v1 : (c : Dev Cert.KernelIdeal.nD) → Buf (Elt Ideal) ((c.tc : Thread Cert.KernelIdeal.nD Cert.KernelIdeal.τ).loc Cert.KernelIdeal.main_v8_1)) (v2 : (c : Dev Cert.KernelIdeal.nD) → Buf (Elt Ideal) ((c.tc : Thread Cert.KernelIdeal.nD Cert.KernelIdeal.τ).loc Cert.KernelIdeal.main_v8_2)) (v3 : (c : Dev Cert.KernelIdeal.nD) → Buf (Elt Ideal) ((c.tc : Thread Cert.KernelIdeal.nD Cert.KernelIdeal.τ).loc Cert.KernelIdeal.main_v11)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v8_0) = v0 c
          ∧ r.2.mem ((c.tc : Thread Cert.KernelIdeal.nD Cert.KernelIdeal.τ).loc Cert.KernelIdeal.main_v8_1) = v1 c
          ∧ r.2.mem ((c.tc : Thread Cert.KernelIdeal.nD Cert.KernelIdeal.τ).loc Cert.KernelIdeal.main_v8_2) = v2 c
          ∧ r.2.mem ((c.tc : Thread Cert.KernelIdeal.nD Cert.KernelIdeal.τ).loc Cert.KernelIdeal.main_v11) = v3 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v31) = v0 c
          ∧ r.2.mem ((c.tc : Thread Cert.ReferenceIdeal.nD Cert.ReferenceIdeal.τ).loc Cert.ReferenceIdeal.main_v32) = v1 c
          ∧ r.2.mem ((c.tc : Thread Cert.ReferenceIdeal.nD Cert.ReferenceIdeal.τ).loc Cert.ReferenceIdeal.main_v29) = v2 c
          ∧ r.2.mem ((c.tc : Thread Cert.ReferenceIdeal.nD Cert.ReferenceIdeal.τ).loc Cert.ReferenceIdeal.main_v24) = v3 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)) →
    ∃ (v0 : (c : Dev Cert.Kernel2Ideal.nD) → Buf (Elt Ideal) ((c.tc : Thread Cert.Kernel2Ideal.nD Cert.Kernel2Ideal.τ).loc Cert.Kernel2Ideal.main_v1)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v1) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v14) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)) →
    ∃ (v0 : (c : Dev Cert.Kernel3Ideal.nD) → Buf (Elt Ideal) ((c.tc : Thread Cert.Kernel3Ideal.nD Cert.Kernel3Ideal.τ).loc Cert.Kernel3Ideal.main_v0_0)) (v1 : (c : Dev Cert.Kernel3Ideal.nD) → Buf (Elt Ideal) ((c.tc : Thread Cert.Kernel3Ideal.nD Cert.Kernel3Ideal.τ).loc Cert.Kernel3Ideal.main_v0_1)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v0_0) = v0 c
          ∧ r.2.mem ((c.tc : Thread Cert.Kernel3Ideal.nD Cert.Kernel3Ideal.τ).loc Cert.Kernel3Ideal.main_v0_1) = v1 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v5) = v0 c
          ∧ r.2.mem ((c.tc : Thread Cert.Reference3Ideal.nD Cert.Reference3Ideal.τ).loc Cert.Reference3Ideal.main_v6) = v1 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)
      ∧ m' ((c.tc : Thread Cert.Reference4Ideal.nD Cert.Reference4Ideal.τ).loc Cert.Reference4Ideal.main_arg3) = m ((c.tc : Thread Cert.Kernel4Ideal.nD Cert.Kernel4Ideal.τ).loc Cert.Kernel4Ideal.main_arg3)
      ∧ m' ((c.tc : Thread Cert.Reference4Ideal.nD Cert.Reference4Ideal.τ).loc Cert.Reference4Ideal.main_arg4) = m ((c.tc : Thread Cert.Kernel4Ideal.nD Cert.Kernel4Ideal.τ).loc Cert.Kernel4Ideal.main_arg4)) →
    ∃ (v0 : (c : Dev Cert.Kernel4Ideal.nD) → Buf (Elt Ideal) ((c.tc : Thread Cert.Kernel4Ideal.nD Cert.Kernel4Ideal.τ).loc Cert.Kernel4Ideal.main_v4_0)) (v1 : (c : Dev Cert.Kernel4Ideal.nD) → Buf (Elt Ideal) ((c.tc : Thread Cert.Kernel4Ideal.nD Cert.Kernel4Ideal.τ).loc Cert.Kernel4Ideal.main_v4_1)) (v2 : (c : Dev Cert.Kernel4Ideal.nD) → Buf (Elt Ideal) ((c.tc : Thread Cert.Kernel4Ideal.nD Cert.Kernel4Ideal.τ).loc Cert.Kernel4Ideal.main_v4_2)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v4_0) = v0 c
          ∧ r.2.mem ((c.tc : Thread Cert.Kernel4Ideal.nD Cert.Kernel4Ideal.τ).loc Cert.Kernel4Ideal.main_v4_1) = v1 c
          ∧ r.2.mem ((c.tc : Thread Cert.Kernel4Ideal.nD Cert.Kernel4Ideal.τ).loc Cert.Kernel4Ideal.main_v4_2) = v2 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
          ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
          ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v39) = v0 c
          ∧ r.2.mem ((c.tc : Thread Cert.Reference4Ideal.nD Cert.Reference4Ideal.τ).loc Cert.Reference4Ideal.main_v40) = v1 c
          ∧ r.2.mem ((c.tc : Thread Cert.Reference4Ideal.nD Cert.Reference4Ideal.τ).loc Cert.Reference4Ideal.main_v41) = v2 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2)
          ∧ r.2.mem ((c.tc : Thread Cert.Reference4Ideal.nD Cert.Reference4Ideal.τ).loc Cert.Reference4Ideal.main_arg3) = m' ((c.tc : Thread Cert.Reference4Ideal.nD Cert.Reference4Ideal.τ).loc Cert.Reference4Ideal.main_arg3)
          ∧ r.2.mem ((c.tc : Thread Cert.Reference4Ideal.nD Cert.Reference4Ideal.τ).loc Cert.Reference4Ideal.main_arg4) = m' ((c.tc : Thread Cert.Reference4Ideal.nD Cert.Reference4Ideal.τ).loc Cert.Reference4Ideal.main_arg4))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)) →
    ∃ (v0 : (c : Dev Cert.Kernel5Ideal.nD) → Buf (Elt Ideal) ((c.tc : Thread Cert.Kernel5Ideal.nD Cert.Kernel5Ideal.τ).loc Cert.Kernel5Ideal.main_v0_0)) (v1 : (c : Dev Cert.Kernel5Ideal.nD) → Buf (Elt Ideal) ((c.tc : Thread Cert.Kernel5Ideal.nD Cert.Kernel5Ideal.τ).loc Cert.Kernel5Ideal.main_v0_1)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v0_0) = v0 c
          ∧ r.2.mem ((c.tc : Thread Cert.Kernel5Ideal.nD Cert.Kernel5Ideal.τ).loc Cert.Kernel5Ideal.main_v0_1) = v1 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v7) = v0 c
          ∧ r.2.mem ((c.tc : Thread Cert.Reference5Ideal.nD Cert.Reference5Ideal.τ).loc Cert.Reference5Ideal.main_v8) = v1 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1))

def preserves_Kernel6_Kernel6Ideal : Prop :=
  True

def algebraic_Kernel6Ideal_Reference6Ideal [hKernel6Ideal : Cert.Kernel6Ideal.Facts] [hReference6Ideal : Cert.Reference6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)) →
    ∃ (v0 : (c : Dev Cert.Kernel6Ideal.nD) → Buf (Elt Ideal) ((c.tc : Thread Cert.Kernel6Ideal.nD Cert.Kernel6Ideal.τ).loc Cert.Kernel6Ideal.main_v3_0)) (v1 : (c : Dev Cert.Kernel6Ideal.nD) → Buf (Elt Ideal) ((c.tc : Thread Cert.Kernel6Ideal.nD Cert.Kernel6Ideal.τ).loc Cert.Kernel6Ideal.main_v3_1)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v3_0) = v0 c
          ∧ r.2.mem ((c.tc : Thread Cert.Kernel6Ideal.nD Cert.Kernel6Ideal.τ).loc Cert.Kernel6Ideal.main_v3_1) = v1 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v2) = v0 c
          ∧ r.2.mem ((c.tc : Thread Cert.Reference6Ideal.nD Cert.Reference6Ideal.τ).loc Cert.Reference6Ideal.main_v5) = v1 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1))

def preserves_Kernel7_Kernel7Ideal : Prop :=
  True

def algebraic_Kernel7Ideal_Reference7Ideal [hKernel7Ideal : Cert.Kernel7Ideal.Facts] [hReference7Ideal : Cert.Reference7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg)
    (m' : (ℓ : Loc Cert.Reference7Ideal.nD Cert.Reference7Ideal.τ Cert.Reference7Ideal.sig) → Buf (Elt Ideal) ℓ) (g' : Dev Cert.Reference7Ideal.nD → PrngReg), Pre_Kernel7Ideal m →
    (∀ c : Dev Cert.Kernel7Ideal.nD,
      m' ((c.tc : Thread Cert.Reference7Ideal.nD Cert.Reference7Ideal.τ).loc Cert.Reference7Ideal.main_arg0) = m ((c.tc : Thread Cert.Kernel7Ideal.nD Cert.Kernel7Ideal.τ).loc Cert.Kernel7Ideal.main_arg0)
      ∧ m' ((c.tc : Thread Cert.Reference7Ideal.nD Cert.Reference7Ideal.τ).loc Cert.Reference7Ideal.main_arg1) = m ((c.tc : Thread Cert.Kernel7Ideal.nD Cert.Kernel7Ideal.τ).loc Cert.Kernel7Ideal.main_arg1)
      ∧ m' ((c.tc : Thread Cert.Reference7Ideal.nD Cert.Reference7Ideal.τ).loc Cert.Reference7Ideal.main_arg2) = m ((c.tc : Thread Cert.Kernel7Ideal.nD Cert.Kernel7Ideal.τ).loc Cert.Kernel7Ideal.main_arg2)
      ∧ m' ((c.tc : Thread Cert.Reference7Ideal.nD Cert.Reference7Ideal.τ).loc Cert.Reference7Ideal.main_arg3) = m ((c.tc : Thread Cert.Kernel7Ideal.nD Cert.Kernel7Ideal.τ).loc Cert.Kernel7Ideal.main_arg3)) →
    ∃ (v0 : (c : Dev Cert.Kernel7Ideal.nD) → Buf (Elt Ideal) ((c.tc : Thread Cert.Kernel7Ideal.nD Cert.Kernel7Ideal.τ).loc Cert.Kernel7Ideal.main_v2_0)) (v1 : (c : Dev Cert.Kernel7Ideal.nD) → Buf (Elt Ideal) ((c.tc : Thread Cert.Kernel7Ideal.nD Cert.Kernel7Ideal.τ).loc Cert.Kernel7Ideal.main_v2_1)),
      θ_run (Cert.Kernel7Ideal.defs (F := Ideal)) (onTc (τ := Cert.Kernel7Ideal.τ) (Cert.Kernel7Ideal.main (F := Ideal))) ⟨m, fun _ => 0, g⟩ (fun r => ∀ c : Dev Cert.Kernel7Ideal.nD,
          r.2.mem ((c.tc : Thread Cert.Kernel7Ideal.nD Cert.Kernel7Ideal.τ).loc Cert.Kernel7Ideal.main_v2_0) = v0 c
          ∧ r.2.mem ((c.tc : Thread Cert.Kernel7Ideal.nD Cert.Kernel7Ideal.τ).loc Cert.Kernel7Ideal.main_v2_1) = v1 c
          ∧ r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
          ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
          ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2)
          ∧ r.2.mem ((c.tc : Thread Cert.Kernel7Ideal.nD Cert.Kernel7Ideal.τ).loc Cert.Kernel7Ideal.main_arg3) = m ((c.tc : Thread Cert.Kernel7Ideal.nD Cert.Kernel7Ideal.τ).loc Cert.Kernel7Ideal.main_arg3))
      ∧ θ_run (Cert.Reference7Ideal.defs (F := Ideal)) (onTc (τ := Cert.Reference7Ideal.τ) (Cert.Reference7Ideal.main (F := Ideal))) ⟨m', fun _ => 0, g'⟩ (fun r => ∀ c : Dev Cert.Reference7Ideal.nD,
          r.2.mem ((c.tc : Thread Cert.Reference7Ideal.nD Cert.Reference7Ideal.τ).loc Cert.Reference7Ideal.main_v2) = v0 c
          ∧ r.2.mem ((c.tc : Thread Cert.Reference7Ideal.nD Cert.Reference7Ideal.τ).loc Cert.Reference7Ideal.main_v16) = v1 c
          ∧ r.2.mem ((c.tc : Thread Cert.Reference7Ideal.nD Cert.Reference7Ideal.τ).loc Cert.Reference7Ideal.main_arg0) = m' ((c.tc : Thread Cert.Reference7Ideal.nD Cert.Reference7Ideal.τ).loc Cert.Reference7Ideal.main_arg0)
          ∧ r.2.mem ((c.tc : Thread Cert.Reference7Ideal.nD Cert.Reference7Ideal.τ).loc Cert.Reference7Ideal.main_arg1) = m' ((c.tc : Thread Cert.Reference7Ideal.nD Cert.Reference7Ideal.τ).loc Cert.Reference7Ideal.main_arg1)
          ∧ r.2.mem ((c.tc : Thread Cert.Reference7Ideal.nD Cert.Reference7Ideal.τ).loc Cert.Reference7Ideal.main_arg2) = m' ((c.tc : Thread Cert.Reference7Ideal.nD Cert.Reference7Ideal.τ).loc Cert.Reference7Ideal.main_arg2)
          ∧ r.2.mem ((c.tc : Thread Cert.Reference7Ideal.nD Cert.Reference7Ideal.τ).loc Cert.Reference7Ideal.main_arg3) = m' ((c.tc : Thread Cert.Reference7Ideal.nD Cert.Reference7Ideal.τ).loc Cert.Reference7Ideal.main_arg3))

def preserves_Kernel8_Kernel8Ideal : Prop :=
  True

def algebraic_Kernel8Ideal_Reference8Ideal [hKernel8Ideal : Cert.Kernel8Ideal.Facts] [hReference8Ideal : Cert.Reference8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg)
    (m' : (ℓ : Loc Cert.Reference8Ideal.nD Cert.Reference8Ideal.τ Cert.Reference8Ideal.sig) → Buf (Elt Ideal) ℓ) (g' : Dev Cert.Reference8Ideal.nD → PrngReg), Pre_Kernel8Ideal m →
    (∀ c : Dev Cert.Kernel8Ideal.nD,
      m' ((c.tc : Thread Cert.Reference8Ideal.nD Cert.Reference8Ideal.τ).loc Cert.Reference8Ideal.main_arg0) = m ((c.tc : Thread Cert.Kernel8Ideal.nD Cert.Kernel8Ideal.τ).loc Cert.Kernel8Ideal.main_arg0)
      ∧ m' ((c.tc : Thread Cert.Reference8Ideal.nD Cert.Reference8Ideal.τ).loc Cert.Reference8Ideal.main_arg1) = m ((c.tc : Thread Cert.Kernel8Ideal.nD Cert.Kernel8Ideal.τ).loc Cert.Kernel8Ideal.main_arg1)
      ∧ m' ((c.tc : Thread Cert.Reference8Ideal.nD Cert.Reference8Ideal.τ).loc Cert.Reference8Ideal.main_arg2) = m ((c.tc : Thread Cert.Kernel8Ideal.nD Cert.Kernel8Ideal.τ).loc Cert.Kernel8Ideal.main_arg2)
      ∧ m' ((c.tc : Thread Cert.Reference8Ideal.nD Cert.Reference8Ideal.τ).loc Cert.Reference8Ideal.main_arg3) = m ((c.tc : Thread Cert.Kernel8Ideal.nD Cert.Kernel8Ideal.τ).loc Cert.Kernel8Ideal.main_arg3)
      ∧ m' ((c.tc : Thread Cert.Reference8Ideal.nD Cert.Reference8Ideal.τ).loc Cert.Reference8Ideal.main_arg4) = m ((c.tc : Thread Cert.Kernel8Ideal.nD Cert.Kernel8Ideal.τ).loc Cert.Kernel8Ideal.main_arg4)) →
    ∃ (v0 : (c : Dev Cert.Kernel8Ideal.nD) → Buf (Elt Ideal) ((c.tc : Thread Cert.Kernel8Ideal.nD Cert.Kernel8Ideal.τ).loc Cert.Kernel8Ideal.main_v4_0)) (v1 : (c : Dev Cert.Kernel8Ideal.nD) → Buf (Elt Ideal) ((c.tc : Thread Cert.Kernel8Ideal.nD Cert.Kernel8Ideal.τ).loc Cert.Kernel8Ideal.main_v4_1)) (v2 : (c : Dev Cert.Kernel8Ideal.nD) → Buf (Elt Ideal) ((c.tc : Thread Cert.Kernel8Ideal.nD Cert.Kernel8Ideal.τ).loc Cert.Kernel8Ideal.main_v4_2)),
      θ_run (Cert.Kernel8Ideal.defs (F := Ideal)) (onTc (τ := Cert.Kernel8Ideal.τ) (Cert.Kernel8Ideal.main (F := Ideal))) ⟨m, fun _ => 0, g⟩ (fun r => ∀ c : Dev Cert.Kernel8Ideal.nD,
          r.2.mem ((c.tc : Thread Cert.Kernel8Ideal.nD Cert.Kernel8Ideal.τ).loc Cert.Kernel8Ideal.main_v4_0) = v0 c
          ∧ r.2.mem ((c.tc : Thread Cert.Kernel8Ideal.nD Cert.Kernel8Ideal.τ).loc Cert.Kernel8Ideal.main_v4_1) = v1 c
          ∧ r.2.mem ((c.tc : Thread Cert.Kernel8Ideal.nD Cert.Kernel8Ideal.τ).loc Cert.Kernel8Ideal.main_v4_2) = v2 c
          ∧ r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
          ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
          ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2)
          ∧ r.2.mem ((c.tc : Thread Cert.Kernel8Ideal.nD Cert.Kernel8Ideal.τ).loc Cert.Kernel8Ideal.main_arg3) = m ((c.tc : Thread Cert.Kernel8Ideal.nD Cert.Kernel8Ideal.τ).loc Cert.Kernel8Ideal.main_arg3)
          ∧ r.2.mem ((c.tc : Thread Cert.Kernel8Ideal.nD Cert.Kernel8Ideal.τ).loc Cert.Kernel8Ideal.main_arg4) = m ((c.tc : Thread Cert.Kernel8Ideal.nD Cert.Kernel8Ideal.τ).loc Cert.Kernel8Ideal.main_arg4))
      ∧ θ_run (Cert.Reference8Ideal.defs (F := Ideal)) (onTc (τ := Cert.Reference8Ideal.τ) (Cert.Reference8Ideal.main (F := Ideal))) ⟨m', fun _ => 0, g'⟩ (fun r => ∀ c : Dev Cert.Reference8Ideal.nD,
          r.2.mem ((c.tc : Thread Cert.Reference8Ideal.nD Cert.Reference8Ideal.τ).loc Cert.Reference8Ideal.main_v39) = v0 c
          ∧ r.2.mem ((c.tc : Thread Cert.Reference8Ideal.nD Cert.Reference8Ideal.τ).loc Cert.Reference8Ideal.main_v40) = v1 c
          ∧ r.2.mem ((c.tc : Thread Cert.Reference8Ideal.nD Cert.Reference8Ideal.τ).loc Cert.Reference8Ideal.main_v41) = v2 c
          ∧ r.2.mem ((c.tc : Thread Cert.Reference8Ideal.nD Cert.Reference8Ideal.τ).loc Cert.Reference8Ideal.main_arg0) = m' ((c.tc : Thread Cert.Reference8Ideal.nD Cert.Reference8Ideal.τ).loc Cert.Reference8Ideal.main_arg0)
          ∧ r.2.mem ((c.tc : Thread Cert.Reference8Ideal.nD Cert.Reference8Ideal.τ).loc Cert.Reference8Ideal.main_arg1) = m' ((c.tc : Thread Cert.Reference8Ideal.nD Cert.Reference8Ideal.τ).loc Cert.Reference8Ideal.main_arg1)
          ∧ r.2.mem ((c.tc : Thread Cert.Reference8Ideal.nD Cert.Reference8Ideal.τ).loc Cert.Reference8Ideal.main_arg2) = m' ((c.tc : Thread Cert.Reference8Ideal.nD Cert.Reference8Ideal.τ).loc Cert.Reference8Ideal.main_arg2)
          ∧ r.2.mem ((c.tc : Thread Cert.Reference8Ideal.nD Cert.Reference8Ideal.τ).loc Cert.Reference8Ideal.main_arg3) = m' ((c.tc : Thread Cert.Reference8Ideal.nD Cert.Reference8Ideal.τ).loc Cert.Reference8Ideal.main_arg3)
          ∧ r.2.mem ((c.tc : Thread Cert.Reference8Ideal.nD Cert.Reference8Ideal.τ).loc Cert.Reference8Ideal.main_arg4) = m' ((c.tc : Thread Cert.Reference8Ideal.nD Cert.Reference8Ideal.τ).loc Cert.Reference8Ideal.main_arg4))

def preserves_Kernel9_Kernel9Ideal : Prop :=
  True

def algebraic_Kernel9Ideal_Reference9Ideal [hKernel9Ideal : Cert.Kernel9Ideal.Facts] [hReference9Ideal : Cert.Reference9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg)
    (m' : (ℓ : Loc Cert.Reference9Ideal.nD Cert.Reference9Ideal.τ Cert.Reference9Ideal.sig) → Buf (Elt Ideal) ℓ) (g' : Dev Cert.Reference9Ideal.nD → PrngReg), Pre_Kernel9Ideal m →
    (∀ c : Dev Cert.Kernel9Ideal.nD,
      m' ((c.tc : Thread Cert.Reference9Ideal.nD Cert.Reference9Ideal.τ).loc Cert.Reference9Ideal.main_arg0) = m ((c.tc : Thread Cert.Kernel9Ideal.nD Cert.Kernel9Ideal.τ).loc Cert.Kernel9Ideal.main_arg0)
      ∧ m' ((c.tc : Thread Cert.Reference9Ideal.nD Cert.Reference9Ideal.τ).loc Cert.Reference9Ideal.main_arg1) = m ((c.tc : Thread Cert.Kernel9Ideal.nD Cert.Kernel9Ideal.τ).loc Cert.Kernel9Ideal.main_arg1)) →
    ∃ (v0 : (c : Dev Cert.Kernel9Ideal.nD) → Buf (Elt Ideal) ((c.tc : Thread Cert.Kernel9Ideal.nD Cert.Kernel9Ideal.τ).loc Cert.Kernel9Ideal.main_v0_0)) (v1 : (c : Dev Cert.Kernel9Ideal.nD) → Buf (Elt Ideal) ((c.tc : Thread Cert.Kernel9Ideal.nD Cert.Kernel9Ideal.τ).loc Cert.Kernel9Ideal.main_v0_1)),
      θ_run (Cert.Kernel9Ideal.defs (F := Ideal)) (onTc (τ := Cert.Kernel9Ideal.τ) (Cert.Kernel9Ideal.main (F := Ideal))) ⟨m, fun _ => 0, g⟩ (fun r => ∀ c : Dev Cert.Kernel9Ideal.nD,
          r.2.mem ((c.tc : Thread Cert.Kernel9Ideal.nD Cert.Kernel9Ideal.τ).loc Cert.Kernel9Ideal.main_v0_0) = v0 c
          ∧ r.2.mem ((c.tc : Thread Cert.Kernel9Ideal.nD Cert.Kernel9Ideal.τ).loc Cert.Kernel9Ideal.main_v0_1) = v1 c
          ∧ r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
          ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1))
      ∧ θ_run (Cert.Reference9Ideal.defs (F := Ideal)) (onTc (τ := Cert.Reference9Ideal.τ) (Cert.Reference9Ideal.main (F := Ideal))) ⟨m', fun _ => 0, g'⟩ (fun r => ∀ c : Dev Cert.Reference9Ideal.nD,
          r.2.mem ((c.tc : Thread Cert.Reference9Ideal.nD Cert.Reference9Ideal.τ).loc Cert.Reference9Ideal.main_v7) = v0 c
          ∧ r.2.mem ((c.tc : Thread Cert.Reference9Ideal.nD Cert.Reference9Ideal.τ).loc Cert.Reference9Ideal.main_v8) = v1 c
          ∧ r.2.mem ((c.tc : Thread Cert.Reference9Ideal.nD Cert.Reference9Ideal.τ).loc Cert.Reference9Ideal.main_arg0) = m' ((c.tc : Thread Cert.Reference9Ideal.nD Cert.Reference9Ideal.τ).loc Cert.Reference9Ideal.main_arg0)
          ∧ r.2.mem ((c.tc : Thread Cert.Reference9Ideal.nD Cert.Reference9Ideal.τ).loc Cert.Reference9Ideal.main_arg1) = m' ((c.tc : Thread Cert.Reference9Ideal.nD Cert.Reference9Ideal.τ).loc Cert.Reference9Ideal.main_arg1))

def preserves_Kernel10_Kernel10Ideal : Prop :=
  True

def algebraic_Kernel10Ideal_Reference10Ideal [hKernel10Ideal : Cert.Kernel10Ideal.Facts] [hReference10Ideal : Cert.Reference10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg)
    (m' : (ℓ : Loc Cert.Reference10Ideal.nD Cert.Reference10Ideal.τ Cert.Reference10Ideal.sig) → Buf (Elt Ideal) ℓ) (g' : Dev Cert.Reference10Ideal.nD → PrngReg), Pre_Kernel10Ideal m →
    (∀ c : Dev Cert.Kernel10Ideal.nD,
      m' ((c.tc : Thread Cert.Reference10Ideal.nD Cert.Reference10Ideal.τ).loc Cert.Reference10Ideal.main_arg0) = m ((c.tc : Thread Cert.Kernel10Ideal.nD Cert.Kernel10Ideal.τ).loc Cert.Kernel10Ideal.main_arg0)
      ∧ m' ((c.tc : Thread Cert.Reference10Ideal.nD Cert.Reference10Ideal.τ).loc Cert.Reference10Ideal.main_arg1) = m ((c.tc : Thread Cert.Kernel10Ideal.nD Cert.Kernel10Ideal.τ).loc Cert.Kernel10Ideal.main_arg1)) →
    ∃ (v0 : (c : Dev Cert.Kernel10Ideal.nD) → Buf (Elt Ideal) ((c.tc : Thread Cert.Kernel10Ideal.nD Cert.Kernel10Ideal.τ).loc Cert.Kernel10Ideal.main_v0_0)) (v1 : (c : Dev Cert.Kernel10Ideal.nD) → Buf (Elt Ideal) ((c.tc : Thread Cert.Kernel10Ideal.nD Cert.Kernel10Ideal.τ).loc Cert.Kernel10Ideal.main_v0_1)),
      θ_run (Cert.Kernel10Ideal.defs (F := Ideal)) (onTc (τ := Cert.Kernel10Ideal.τ) (Cert.Kernel10Ideal.main (F := Ideal))) ⟨m, fun _ => 0, g⟩ (fun r => ∀ c : Dev Cert.Kernel10Ideal.nD,
          r.2.mem ((c.tc : Thread Cert.Kernel10Ideal.nD Cert.Kernel10Ideal.τ).loc Cert.Kernel10Ideal.main_v0_0) = v0 c
          ∧ r.2.mem ((c.tc : Thread Cert.Kernel10Ideal.nD Cert.Kernel10Ideal.τ).loc Cert.Kernel10Ideal.main_v0_1) = v1 c
          ∧ r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
          ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1))
      ∧ θ_run (Cert.Reference10Ideal.defs (F := Ideal)) (onTc (τ := Cert.Reference10Ideal.τ) (Cert.Reference10Ideal.main (F := Ideal))) ⟨m', fun _ => 0, g'⟩ (fun r => ∀ c : Dev Cert.Reference10Ideal.nD,
          r.2.mem ((c.tc : Thread Cert.Reference10Ideal.nD Cert.Reference10Ideal.τ).loc Cert.Reference10Ideal.main_v5) = v0 c
          ∧ r.2.mem ((c.tc : Thread Cert.Reference10Ideal.nD Cert.Reference10Ideal.τ).loc Cert.Reference10Ideal.main_v6) = v1 c
          ∧ r.2.mem ((c.tc : Thread Cert.Reference10Ideal.nD Cert.Reference10Ideal.τ).loc Cert.Reference10Ideal.main_arg0) = m' ((c.tc : Thread Cert.Reference10Ideal.nD Cert.Reference10Ideal.τ).loc Cert.Reference10Ideal.main_arg0)
          ∧ r.2.mem ((c.tc : Thread Cert.Reference10Ideal.nD Cert.Reference10Ideal.τ).loc Cert.Reference10Ideal.main_arg1) = m' ((c.tc : Thread Cert.Reference10Ideal.nD Cert.Reference10Ideal.τ).loc Cert.Reference10Ideal.main_arg1))

def preserves_Kernel11_Kernel11Ideal : Prop :=
  True

def algebraic_Kernel11Ideal_Reference11Ideal [hKernel11Ideal : Cert.Kernel11Ideal.Facts] [hReference11Ideal : Cert.Reference11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg)
    (m' : (ℓ : Loc Cert.Reference11Ideal.nD Cert.Reference11Ideal.τ Cert.Reference11Ideal.sig) → Buf (Elt Ideal) ℓ) (g' : Dev Cert.Reference11Ideal.nD → PrngReg), Pre_Kernel11Ideal m →
    (∀ c : Dev Cert.Kernel11Ideal.nD,
      m' ((c.tc : Thread Cert.Reference11Ideal.nD Cert.Reference11Ideal.τ).loc Cert.Reference11Ideal.main_arg0) = m ((c.tc : Thread Cert.Kernel11Ideal.nD Cert.Kernel11Ideal.τ).loc Cert.Kernel11Ideal.main_arg0)
      ∧ m' ((c.tc : Thread Cert.Reference11Ideal.nD Cert.Reference11Ideal.τ).loc Cert.Reference11Ideal.main_arg1) = m ((c.tc : Thread Cert.Kernel11Ideal.nD Cert.Kernel11Ideal.τ).loc Cert.Kernel11Ideal.main_arg1)
      ∧ m' ((c.tc : Thread Cert.Reference11Ideal.nD Cert.Reference11Ideal.τ).loc Cert.Reference11Ideal.main_arg2) = m ((c.tc : Thread Cert.Kernel11Ideal.nD Cert.Kernel11Ideal.τ).loc Cert.Kernel11Ideal.main_arg2)) →
    ∃ (v0 : (c : Dev Cert.Kernel11Ideal.nD) → Buf (Elt Ideal) ((c.tc : Thread Cert.Kernel11Ideal.nD Cert.Kernel11Ideal.τ).loc Cert.Kernel11Ideal.main_v1)),
      θ_run (Cert.Kernel11Ideal.defs (F := Ideal)) (onTc (τ := Cert.Kernel11Ideal.τ) (Cert.Kernel11Ideal.main (F := Ideal))) ⟨m, fun _ => 0, g⟩ (fun r => ∀ c : Dev Cert.Kernel11Ideal.nD,
          r.2.mem ((c.tc : Thread Cert.Kernel11Ideal.nD Cert.Kernel11Ideal.τ).loc Cert.Kernel11Ideal.main_v1) = v0 c
          ∧ r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
          ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1)
          ∧ r.2.mem ((c.tc : Thread Cert.Kernel11Ideal.nD Cert.Kernel11Ideal.τ).loc Cert.Kernel11Ideal.main_arg2) = m ((c.tc : Thread Cert.Kernel11Ideal.nD Cert.Kernel11Ideal.τ).loc Cert.Kernel11Ideal.main_arg2))
      ∧ θ_run (Cert.Reference11Ideal.defs (F := Ideal)) (onTc (τ := Cert.Reference11Ideal.τ) (Cert.Reference11Ideal.main (F := Ideal))) ⟨m', fun _ => 0, g'⟩ (fun r => ∀ c : Dev Cert.Reference11Ideal.nD,
          r.2.mem ((c.tc : Thread Cert.Reference11Ideal.nD Cert.Reference11Ideal.τ).loc Cert.Reference11Ideal.main_v2) = v0 c
          ∧ r.2.mem ((c.tc : Thread Cert.Reference11Ideal.nD Cert.Reference11Ideal.τ).loc Cert.Reference11Ideal.main_arg0) = m' ((c.tc : Thread Cert.Reference11Ideal.nD Cert.Reference11Ideal.τ).loc Cert.Reference11Ideal.main_arg0)
          ∧ r.2.mem ((c.tc : Thread Cert.Reference11Ideal.nD Cert.Reference11Ideal.τ).loc Cert.Reference11Ideal.main_arg1) = m' ((c.tc : Thread Cert.Reference11Ideal.nD Cert.Reference11Ideal.τ).loc Cert.Reference11Ideal.main_arg1)
          ∧ r.2.mem ((c.tc : Thread Cert.Reference11Ideal.nD Cert.Reference11Ideal.τ).loc Cert.Reference11Ideal.main_arg2) = m' ((c.tc : Thread Cert.Reference11Ideal.nD Cert.Reference11Ideal.τ).loc Cert.Reference11Ideal.main_arg2))

def preserves_Kernel12_Kernel12Ideal : Prop :=
  True

def algebraic_Kernel12Ideal_Reference12Ideal [hKernel12Ideal : Cert.Kernel12Ideal.Facts] [hReference12Ideal : Cert.Reference12Ideal.Facts] : Prop :=
  ∀ (m : (ℓ : Loc Cert.Kernel12Ideal.nD Cert.Kernel12Ideal.τ Cert.Kernel12Ideal.sig) → Buf (Elt Ideal) ℓ) (g : Dev Cert.Kernel12Ideal.nD → PrngReg)
    (m' : (ℓ : Loc Cert.Reference12Ideal.nD Cert.Reference12Ideal.τ Cert.Reference12Ideal.sig) → Buf (Elt Ideal) ℓ) (g' : Dev Cert.Reference12Ideal.nD → PrngReg), Pre_Kernel12Ideal m →
    (∀ c : Dev Cert.Kernel12Ideal.nD,
      m' ((c.tc : Thread Cert.Reference12Ideal.nD Cert.Reference12Ideal.τ).loc Cert.Reference12Ideal.main_arg0) = m ((c.tc : Thread Cert.Kernel12Ideal.nD Cert.Kernel12Ideal.τ).loc Cert.Kernel12Ideal.main_arg0)
      ∧ m' ((c.tc : Thread Cert.Reference12Ideal.nD Cert.Reference12Ideal.τ).loc Cert.Reference12Ideal.main_arg1) = m ((c.tc : Thread Cert.Kernel12Ideal.nD Cert.Kernel12Ideal.τ).loc Cert.Kernel12Ideal.main_arg1)) →
    ∃ (v0 : (c : Dev Cert.Kernel12Ideal.nD) → Buf (Elt Ideal) ((c.tc : Thread Cert.Kernel12Ideal.nD Cert.Kernel12Ideal.τ).loc Cert.Kernel12Ideal.main_v3)),
      θ_run (Cert.Kernel12Ideal.defs (F := Ideal)) (onTc (τ := Cert.Kernel12Ideal.τ) (Cert.Kernel12Ideal.main (F := Ideal))) ⟨m, fun _ => 0, g⟩ (fun r => ∀ c : Dev Cert.Kernel12Ideal.nD,
          r.2.mem ((c.tc : Thread Cert.Kernel12Ideal.nD Cert.Kernel12Ideal.τ).loc Cert.Kernel12Ideal.main_v3) = v0 c
          ∧ r.2.mem ((c.tc : Thread Cert.Kernel12Ideal.nD Cert.Kernel12Ideal.τ).loc Cert.Kernel12Ideal.main_arg0) = m ((c.tc : Thread Cert.Kernel12Ideal.nD Cert.Kernel12Ideal.τ).loc Cert.Kernel12Ideal.main_arg0)
          ∧ r.2.mem ((c.tc : Thread Cert.Kernel12Ideal.nD Cert.Kernel12Ideal.τ).loc Cert.Kernel12Ideal.main_arg1) = m ((c.tc : Thread Cert.Kernel12Ideal.nD Cert.Kernel12Ideal.τ).loc Cert.Kernel12Ideal.main_arg1))
      ∧ θ_run (Cert.Reference12Ideal.defs (F := Ideal)) (onTc (τ := Cert.Reference12Ideal.τ) (Cert.Reference12Ideal.main (F := Ideal))) ⟨m', fun _ => 0, g'⟩ (fun r => ∀ c : Dev Cert.Reference12Ideal.nD,
          r.2.mem ((c.tc : Thread Cert.Reference12Ideal.nD Cert.Reference12Ideal.τ).loc Cert.Reference12Ideal.main_v3) = v0 c
          ∧ r.2.mem ((c.tc : Thread Cert.Reference12Ideal.nD Cert.Reference12Ideal.τ).loc Cert.Reference12Ideal.main_arg0) = m' ((c.tc : Thread Cert.Reference12Ideal.nD Cert.Reference12Ideal.τ).loc Cert.Reference12Ideal.main_arg0)
          ∧ r.2.mem ((c.tc : Thread Cert.Reference12Ideal.nD Cert.Reference12Ideal.τ).loc Cert.Reference12Ideal.main_arg1) = m' ((c.tc : Thread Cert.Reference12Ideal.nD Cert.Reference12Ideal.τ).loc Cert.Reference12Ideal.main_arg1))

def preserves_Kernel13_Kernel13Ideal : Prop :=
  True

def algebraic_Kernel13Ideal_Reference13Ideal [hKernel13Ideal : Cert.Kernel13Ideal.Facts] [hReference13Ideal : Cert.Reference13Ideal.Facts] : Prop :=
  ∀ (m : (ℓ : Loc Cert.Kernel13Ideal.nD Cert.Kernel13Ideal.τ Cert.Kernel13Ideal.sig) → Buf (Elt Ideal) ℓ) (g : Dev Cert.Kernel13Ideal.nD → PrngReg)
    (m' : (ℓ : Loc Cert.Reference13Ideal.nD Cert.Reference13Ideal.τ Cert.Reference13Ideal.sig) → Buf (Elt Ideal) ℓ) (g' : Dev Cert.Reference13Ideal.nD → PrngReg), Pre_Kernel13Ideal m →
    (∀ c : Dev Cert.Kernel13Ideal.nD,
      m' ((c.tc : Thread Cert.Reference13Ideal.nD Cert.Reference13Ideal.τ).loc Cert.Reference13Ideal.main_arg0) = m ((c.tc : Thread Cert.Kernel13Ideal.nD Cert.Kernel13Ideal.τ).loc Cert.Kernel13Ideal.main_arg0)
      ∧ m' ((c.tc : Thread Cert.Reference13Ideal.nD Cert.Reference13Ideal.τ).loc Cert.Reference13Ideal.main_arg1) = m ((c.tc : Thread Cert.Kernel13Ideal.nD Cert.Kernel13Ideal.τ).loc Cert.Kernel13Ideal.main_arg1)) →
    ∃ (v0 : (c : Dev Cert.Kernel13Ideal.nD) → Buf (Elt Ideal) ((c.tc : Thread Cert.Kernel13Ideal.nD Cert.Kernel13Ideal.τ).loc Cert.Kernel13Ideal.main_v1)),
      θ_run (Cert.Kernel13Ideal.defs (F := Ideal)) (onTc (τ := Cert.Kernel13Ideal.τ) (Cert.Kernel13Ideal.main (F := Ideal))) ⟨m, fun _ => 0, g⟩ (fun r => ∀ c : Dev Cert.Kernel13Ideal.nD,
          r.2.mem ((c.tc : Thread Cert.Kernel13Ideal.nD Cert.Kernel13Ideal.τ).loc Cert.Kernel13Ideal.main_v1) = v0 c
          ∧ r.2.mem ((c.tc : Thread Cert.Kernel13Ideal.nD Cert.Kernel13Ideal.τ).loc Cert.Kernel13Ideal.main_arg0) = m ((c.tc : Thread Cert.Kernel13Ideal.nD Cert.Kernel13Ideal.τ).loc Cert.Kernel13Ideal.main_arg0)
          ∧ r.2.mem ((c.tc : Thread Cert.Kernel13Ideal.nD Cert.Kernel13Ideal.τ).loc Cert.Kernel13Ideal.main_arg1) = m ((c.tc : Thread Cert.Kernel13Ideal.nD Cert.Kernel13Ideal.τ).loc Cert.Kernel13Ideal.main_arg1))
      ∧ θ_run (Cert.Reference13Ideal.defs (F := Ideal)) (onTc (τ := Cert.Reference13Ideal.τ) (Cert.Reference13Ideal.main (F := Ideal))) ⟨m', fun _ => 0, g'⟩ (fun r => ∀ c : Dev Cert.Reference13Ideal.nD,
          r.2.mem ((c.tc : Thread Cert.Reference13Ideal.nD Cert.Reference13Ideal.τ).loc Cert.Reference13Ideal.main_v3) = v0 c
          ∧ r.2.mem ((c.tc : Thread Cert.Reference13Ideal.nD Cert.Reference13Ideal.τ).loc Cert.Reference13Ideal.main_arg0) = m' ((c.tc : Thread Cert.Reference13Ideal.nD Cert.Reference13Ideal.τ).loc Cert.Reference13Ideal.main_arg0)
          ∧ r.2.mem ((c.tc : Thread Cert.Reference13Ideal.nD Cert.Reference13Ideal.τ).loc Cert.Reference13Ideal.main_arg1) = m' ((c.tc : Thread Cert.Reference13Ideal.nD Cert.Reference13Ideal.τ).loc Cert.Reference13Ideal.main_arg1))

def preserves_Kernel14_Kernel14Ideal : Prop :=
  True

def algebraic_Kernel14Ideal_Reference14Ideal [hKernel14Ideal : Cert.Kernel14Ideal.Facts] [hReference14Ideal : Cert.Reference14Ideal.Facts] : Prop :=
  ∀ (m : (ℓ : Loc Cert.Kernel14Ideal.nD Cert.Kernel14Ideal.τ Cert.Kernel14Ideal.sig) → Buf (Elt Ideal) ℓ) (g : Dev Cert.Kernel14Ideal.nD → PrngReg)
    (m' : (ℓ : Loc Cert.Reference14Ideal.nD Cert.Reference14Ideal.τ Cert.Reference14Ideal.sig) → Buf (Elt Ideal) ℓ) (g' : Dev Cert.Reference14Ideal.nD → PrngReg), Pre_Kernel14Ideal m →
    (∀ c : Dev Cert.Kernel14Ideal.nD,
      m' ((c.tc : Thread Cert.Reference14Ideal.nD Cert.Reference14Ideal.τ).loc Cert.Reference14Ideal.main_arg0) = m ((c.tc : Thread Cert.Kernel14Ideal.nD Cert.Kernel14Ideal.τ).loc Cert.Kernel14Ideal.main_arg0)
      ∧ m' ((c.tc : Thread Cert.Reference14Ideal.nD Cert.Reference14Ideal.τ).loc Cert.Reference14Ideal.main_arg1) = m ((c.tc : Thread Cert.Kernel14Ideal.nD Cert.Kernel14Ideal.τ).loc Cert.Kernel14Ideal.main_arg1)) →
    ∃ (v0 : (c : Dev Cert.Kernel14Ideal.nD) → Buf (Elt Ideal) ((c.tc : Thread Cert.Kernel14Ideal.nD Cert.Kernel14Ideal.τ).loc Cert.Kernel14Ideal.main_v1)),
      θ_run (Cert.Kernel14Ideal.defs (F := Ideal)) (onTc (τ := Cert.Kernel14Ideal.τ) (Cert.Kernel14Ideal.main (F := Ideal))) ⟨m, fun _ => 0, g⟩ (fun r => ∀ c : Dev Cert.Kernel14Ideal.nD,
          r.2.mem ((c.tc : Thread Cert.Kernel14Ideal.nD Cert.Kernel14Ideal.τ).loc Cert.Kernel14Ideal.main_v1) = v0 c
          ∧ r.2.mem ((c.tc : Thread Cert.Kernel14Ideal.nD Cert.Kernel14Ideal.τ).loc Cert.Kernel14Ideal.main_arg0) = m ((c.tc : Thread Cert.Kernel14Ideal.nD Cert.Kernel14Ideal.τ).loc Cert.Kernel14Ideal.main_arg0)
          ∧ r.2.mem ((c.tc : Thread Cert.Kernel14Ideal.nD Cert.Kernel14Ideal.τ).loc Cert.Kernel14Ideal.main_arg1) = m ((c.tc : Thread Cert.Kernel14Ideal.nD Cert.Kernel14Ideal.τ).loc Cert.Kernel14Ideal.main_arg1))
      ∧ θ_run (Cert.Reference14Ideal.defs (F := Ideal)) (onTc (τ := Cert.Reference14Ideal.τ) (Cert.Reference14Ideal.main (F := Ideal))) ⟨m', fun _ => 0, g'⟩ (fun r => ∀ c : Dev Cert.Reference14Ideal.nD,
          r.2.mem ((c.tc : Thread Cert.Reference14Ideal.nD Cert.Reference14Ideal.τ).loc Cert.Reference14Ideal.main_v4) = v0 c
          ∧ r.2.mem ((c.tc : Thread Cert.Reference14Ideal.nD Cert.Reference14Ideal.τ).loc Cert.Reference14Ideal.main_arg0) = m' ((c.tc : Thread Cert.Reference14Ideal.nD Cert.Reference14Ideal.τ).loc Cert.Reference14Ideal.main_arg0)
          ∧ r.2.mem ((c.tc : Thread Cert.Reference14Ideal.nD Cert.Reference14Ideal.τ).loc Cert.Reference14Ideal.main_arg1) = m' ((c.tc : Thread Cert.Reference14Ideal.nD Cert.Reference14Ideal.τ).loc Cert.Reference14Ideal.main_arg1))

def preserves_Kernel15_Kernel15Ideal : Prop :=
  True

def algebraic_Kernel15Ideal_Reference15Ideal [hKernel15Ideal : Cert.Kernel15Ideal.Facts] [hReference15Ideal : Cert.Reference15Ideal.Facts] : Prop :=
  ∀ (m : (ℓ : Loc Cert.Kernel15Ideal.nD Cert.Kernel15Ideal.τ Cert.Kernel15Ideal.sig) → Buf (Elt Ideal) ℓ) (g : Dev Cert.Kernel15Ideal.nD → PrngReg)
    (m' : (ℓ : Loc Cert.Reference15Ideal.nD Cert.Reference15Ideal.τ Cert.Reference15Ideal.sig) → Buf (Elt Ideal) ℓ) (g' : Dev Cert.Reference15Ideal.nD → PrngReg), Pre_Kernel15Ideal m →
    (∀ c : Dev Cert.Kernel15Ideal.nD,
      m' ((c.tc : Thread Cert.Reference15Ideal.nD Cert.Reference15Ideal.τ).loc Cert.Reference15Ideal.main_arg0) = m ((c.tc : Thread Cert.Kernel15Ideal.nD Cert.Kernel15Ideal.τ).loc Cert.Kernel15Ideal.main_arg0)
      ∧ m' ((c.tc : Thread Cert.Reference15Ideal.nD Cert.Reference15Ideal.τ).loc Cert.Reference15Ideal.main_arg1) = m ((c.tc : Thread Cert.Kernel15Ideal.nD Cert.Kernel15Ideal.τ).loc Cert.Kernel15Ideal.main_arg1)
      ∧ m' ((c.tc : Thread Cert.Reference15Ideal.nD Cert.Reference15Ideal.τ).loc Cert.Reference15Ideal.main_arg2) = m ((c.tc : Thread Cert.Kernel15Ideal.nD Cert.Kernel15Ideal.τ).loc Cert.Kernel15Ideal.main_arg2)
      ∧ m' ((c.tc : Thread Cert.Reference15Ideal.nD Cert.Reference15Ideal.τ).loc Cert.Reference15Ideal.main_arg3) = m ((c.tc : Thread Cert.Kernel15Ideal.nD Cert.Kernel15Ideal.τ).loc Cert.Kernel15Ideal.main_arg3)
      ∧ m' ((c.tc : Thread Cert.Reference15Ideal.nD Cert.Reference15Ideal.τ).loc Cert.Reference15Ideal.main_arg4) = m ((c.tc : Thread Cert.Kernel15Ideal.nD Cert.Kernel15Ideal.τ).loc Cert.Kernel15Ideal.main_arg4)
      ∧ m' ((c.tc : Thread Cert.Reference15Ideal.nD Cert.Reference15Ideal.τ).loc Cert.Reference15Ideal.main_arg5) = m ((c.tc : Thread Cert.Kernel15Ideal.nD Cert.Kernel15Ideal.τ).loc Cert.Kernel15Ideal.main_arg5)
      ∧ m' ((c.tc : Thread Cert.Reference15Ideal.nD Cert.Reference15Ideal.τ).loc Cert.Reference15Ideal.main_arg6) = m ((c.tc : Thread Cert.Kernel15Ideal.nD Cert.Kernel15Ideal.τ).loc Cert.Kernel15Ideal.main_arg6)
      ∧ m' ((c.tc : Thread Cert.Reference15Ideal.nD Cert.Reference15Ideal.τ).loc Cert.Reference15Ideal.main_arg7) = m ((c.tc : Thread Cert.Kernel15Ideal.nD Cert.Kernel15Ideal.τ).loc Cert.Kernel15Ideal.main_arg7)
      ∧ m' ((c.tc : Thread Cert.Reference15Ideal.nD Cert.Reference15Ideal.τ).loc Cert.Reference15Ideal.main_arg8) = m ((c.tc : Thread Cert.Kernel15Ideal.nD Cert.Kernel15Ideal.τ).loc Cert.Kernel15Ideal.main_arg8)
      ∧ m' ((c.tc : Thread Cert.Reference15Ideal.nD Cert.Reference15Ideal.τ).loc Cert.Reference15Ideal.main_arg9) = m ((c.tc : Thread Cert.Kernel15Ideal.nD Cert.Kernel15Ideal.τ).loc Cert.Kernel15Ideal.main_arg9)
      ∧ m' ((c.tc : Thread Cert.Reference15Ideal.nD Cert.Reference15Ideal.τ).loc Cert.Reference15Ideal.main_arg10) = m ((c.tc : Thread Cert.Kernel15Ideal.nD Cert.Kernel15Ideal.τ).loc Cert.Kernel15Ideal.main_arg10)
      ∧ m' ((c.tc : Thread Cert.Reference15Ideal.nD Cert.Reference15Ideal.τ).loc Cert.Reference15Ideal.main_arg11) = m ((c.tc : Thread Cert.Kernel15Ideal.nD Cert.Kernel15Ideal.τ).loc Cert.Kernel15Ideal.main_arg11)
      ∧ m' ((c.tc : Thread Cert.Reference15Ideal.nD Cert.Reference15Ideal.τ).loc Cert.Reference15Ideal.main_arg12) = m ((c.tc : Thread Cert.Kernel15Ideal.nD Cert.Kernel15Ideal.τ).loc Cert.Kernel15Ideal.main_arg12)) →
    ∃ (v0 : (c : Dev Cert.Kernel15Ideal.nD) → Buf (Elt Ideal) ((c.tc : Thread Cert.Kernel15Ideal.nD Cert.Kernel15Ideal.τ).loc Cert.Kernel15Ideal.main_v4_0)) (v1 : (c : Dev Cert.Kernel15Ideal.nD) → Buf (Elt Ideal) ((c.tc : Thread Cert.Kernel15Ideal.nD Cert.Kernel15Ideal.τ).loc Cert.Kernel15Ideal.main_v4_1)) (v2 : (c : Dev Cert.Kernel15Ideal.nD) → Buf (Elt Ideal) ((c.tc : Thread Cert.Kernel15Ideal.nD Cert.Kernel15Ideal.τ).loc Cert.Kernel15Ideal.main_v4_2)),
      θ_run (Cert.Kernel15Ideal.defs (F := Ideal)) (onTc (τ := Cert.Kernel15Ideal.τ) (Cert.Kernel15Ideal.main (F := Ideal))) ⟨m, fun _ => 0, g⟩ (fun r => ∀ c : Dev Cert.Kernel15Ideal.nD,
          r.2.mem ((c.tc : Thread Cert.Kernel15Ideal.nD Cert.Kernel15Ideal.τ).loc Cert.Kernel15Ideal.main_v4_0) = v0 c
          ∧ r.2.mem ((c.tc : Thread Cert.Kernel15Ideal.nD Cert.Kernel15Ideal.τ).loc Cert.Kernel15Ideal.main_v4_1) = v1 c
          ∧ r.2.mem ((c.tc : Thread Cert.Kernel15Ideal.nD Cert.Kernel15Ideal.τ).loc Cert.Kernel15Ideal.main_v4_2) = v2 c
          ∧ r.2.mem ((c.tc : Thread Cert.Kernel15Ideal.nD Cert.Kernel15Ideal.τ).loc Cert.Kernel15Ideal.main_arg0) = m ((c.tc : Thread Cert.Kernel15Ideal.nD Cert.Kernel15Ideal.τ).loc Cert.Kernel15Ideal.main_arg0)
          ∧ r.2.mem ((c.tc : Thread Cert.Kernel15Ideal.nD Cert.Kernel15Ideal.τ).loc Cert.Kernel15Ideal.main_arg1) = m ((c.tc : Thread Cert.Kernel15Ideal.nD Cert.Kernel15Ideal.τ).loc Cert.Kernel15Ideal.main_arg1)
          ∧ r.2.mem ((c.tc : Thread Cert.Kernel15Ideal.nD Cert.Kernel15Ideal.τ).loc Cert.Kernel15Ideal.main_arg2) = m ((c.tc : Thread Cert.Kernel15Ideal.nD Cert.Kernel15Ideal.τ).loc Cert.Kernel15Ideal.main_arg2)
          ∧ r.2.mem ((c.tc : Thread Cert.Kernel15Ideal.nD Cert.Kernel15Ideal.τ).loc Cert.Kernel15Ideal.main_arg3) = m ((c.tc : Thread Cert.Kernel15Ideal.nD Cert.Kernel15Ideal.τ).loc Cert.Kernel15Ideal.main_arg3)
          ∧ r.2.mem ((c.tc : Thread Cert.Kernel15Ideal.nD Cert.Kernel15Ideal.τ).loc Cert.Kernel15Ideal.main_arg4) = m ((c.tc : Thread Cert.Kernel15Ideal.nD Cert.Kernel15Ideal.τ).loc Cert.Kernel15Ideal.main_arg4)
          ∧ r.2.mem ((c.tc : Thread Cert.Kernel15Ideal.nD Cert.Kernel15Ideal.τ).loc Cert.Kernel15Ideal.main_arg5) = m ((c.tc : Thread Cert.Kernel15Ideal.nD Cert.Kernel15Ideal.τ).loc Cert.Kernel15Ideal.main_arg5)
          ∧ r.2.mem ((c.tc : Thread Cert.Kernel15Ideal.nD Cert.Kernel15Ideal.τ).loc Cert.Kernel15Ideal.main_arg6) = m ((c.tc : Thread Cert.Kernel15Ideal.nD Cert.Kernel15Ideal.τ).loc Cert.Kernel15Ideal.main_arg6)
          ∧ r.2.mem ((c.tc : Thread Cert.Kernel15Ideal.nD Cert.Kernel15Ideal.τ).loc Cert.Kernel15Ideal.main_arg7) = m ((c.tc : Thread Cert.Kernel15Ideal.nD Cert.Kernel15Ideal.τ).loc Cert.Kernel15Ideal.main_arg7)
          ∧ r.2.mem ((c.tc : Thread Cert.Kernel15Ideal.nD Cert.Kernel15Ideal.τ).loc Cert.Kernel15Ideal.main_arg8) = m ((c.tc : Thread Cert.Kernel15Ideal.nD Cert.Kernel15Ideal.τ).loc Cert.Kernel15Ideal.main_arg8)
          ∧ r.2.mem ((c.tc : Thread Cert.Kernel15Ideal.nD Cert.Kernel15Ideal.τ).loc Cert.Kernel15Ideal.main_arg9) = m ((c.tc : Thread Cert.Kernel15Ideal.nD Cert.Kernel15Ideal.τ).loc Cert.Kernel15Ideal.main_arg9)
          ∧ r.2.mem ((c.tc : Thread Cert.Kernel15Ideal.nD Cert.Kernel15Ideal.τ).loc Cert.Kernel15Ideal.main_arg10) = m ((c.tc : Thread Cert.Kernel15Ideal.nD Cert.Kernel15Ideal.τ).loc Cert.Kernel15Ideal.main_arg10)
          ∧ r.2.mem ((c.tc : Thread Cert.Kernel15Ideal.nD Cert.Kernel15Ideal.τ).loc Cert.Kernel15Ideal.main_arg11) = m ((c.tc : Thread Cert.Kernel15Ideal.nD Cert.Kernel15Ideal.τ).loc Cert.Kernel15Ideal.main_arg11)
          ∧ r.2.mem ((c.tc : Thread Cert.Kernel15Ideal.nD Cert.Kernel15Ideal.τ).loc Cert.Kernel15Ideal.main_arg12) = m ((c.tc : Thread Cert.Kernel15Ideal.nD Cert.Kernel15Ideal.τ).loc Cert.Kernel15Ideal.main_arg12))
      ∧ θ_run (Cert.Reference15Ideal.defs (F := Ideal)) (onTc (τ := Cert.Reference15Ideal.τ) (Cert.Reference15Ideal.main (F := Ideal))) ⟨m', fun _ => 0, g'⟩ (fun r => ∀ c : Dev Cert.Reference15Ideal.nD,
          r.2.mem ((c.tc : Thread Cert.Reference15Ideal.nD Cert.Reference15Ideal.τ).loc Cert.Reference15Ideal.main_v40) = v0 c
          ∧ r.2.mem ((c.tc : Thread Cert.Reference15Ideal.nD Cert.Reference15Ideal.τ).loc Cert.Reference15Ideal.main_v41) = v1 c
          ∧ r.2.mem ((c.tc : Thread Cert.Reference15Ideal.nD Cert.Reference15Ideal.τ).loc Cert.Reference15Ideal.main_v42) = v2 c
          ∧ r.2.mem ((c.tc : Thread Cert.Reference15Ideal.nD Cert.Reference15Ideal.τ).loc Cert.Reference15Ideal.main_arg0) = m' ((c.tc : Thread Cert.Reference15Ideal.nD Cert.Reference15Ideal.τ).loc Cert.Reference15Ideal.main_arg0)
          ∧ r.2.mem ((c.tc : Thread Cert.Reference15Ideal.nD Cert.Reference15Ideal.τ).loc Cert.Reference15Ideal.main_arg1) = m' ((c.tc : Thread Cert.Reference15Ideal.nD Cert.Reference15Ideal.τ).loc Cert.Reference15Ideal.main_arg1)
          ∧ r.2.mem ((c.tc : Thread Cert.Reference15Ideal.nD Cert.Reference15Ideal.τ).loc Cert.Reference15Ideal.main_arg2) = m' ((c.tc : Thread Cert.Reference15Ideal.nD Cert.Reference15Ideal.τ).loc Cert.Reference15Ideal.main_arg2)
          ∧ r.2.mem ((c.tc : Thread Cert.Reference15Ideal.nD Cert.Reference15Ideal.τ).loc Cert.Reference15Ideal.main_arg3) = m' ((c.tc : Thread Cert.Reference15Ideal.nD Cert.Reference15Ideal.τ).loc Cert.Reference15Ideal.main_arg3)
          ∧ r.2.mem ((c.tc : Thread Cert.Reference15Ideal.nD Cert.Reference15Ideal.τ).loc Cert.Reference15Ideal.main_arg4) = m' ((c.tc : Thread Cert.Reference15Ideal.nD Cert.Reference15Ideal.τ).loc Cert.Reference15Ideal.main_arg4)
          ∧ r.2.mem ((c.tc : Thread Cert.Reference15Ideal.nD Cert.Reference15Ideal.τ).loc Cert.Reference15Ideal.main_arg5) = m' ((c.tc : Thread Cert.Reference15Ideal.nD Cert.Reference15Ideal.τ).loc Cert.Reference15Ideal.main_arg5)
          ∧ r.2.mem ((c.tc : Thread Cert.Reference15Ideal.nD Cert.Reference15Ideal.τ).loc Cert.Reference15Ideal.main_arg6) = m' ((c.tc : Thread Cert.Reference15Ideal.nD Cert.Reference15Ideal.τ).loc Cert.Reference15Ideal.main_arg6)
          ∧ r.2.mem ((c.tc : Thread Cert.Reference15Ideal.nD Cert.Reference15Ideal.τ).loc Cert.Reference15Ideal.main_arg7) = m' ((c.tc : Thread Cert.Reference15Ideal.nD Cert.Reference15Ideal.τ).loc Cert.Reference15Ideal.main_arg7)
          ∧ r.2.mem ((c.tc : Thread Cert.Reference15Ideal.nD Cert.Reference15Ideal.τ).loc Cert.Reference15Ideal.main_arg8) = m' ((c.tc : Thread Cert.Reference15Ideal.nD Cert.Reference15Ideal.τ).loc Cert.Reference15Ideal.main_arg8)
          ∧ r.2.mem ((c.tc : Thread Cert.Reference15Ideal.nD Cert.Reference15Ideal.τ).loc Cert.Reference15Ideal.main_arg9) = m' ((c.tc : Thread Cert.Reference15Ideal.nD Cert.Reference15Ideal.τ).loc Cert.Reference15Ideal.main_arg9)
          ∧ r.2.mem ((c.tc : Thread Cert.Reference15Ideal.nD Cert.Reference15Ideal.τ).loc Cert.Reference15Ideal.main_arg10) = m' ((c.tc : Thread Cert.Reference15Ideal.nD Cert.Reference15Ideal.τ).loc Cert.Reference15Ideal.main_arg10)
          ∧ r.2.mem ((c.tc : Thread Cert.Reference15Ideal.nD Cert.Reference15Ideal.τ).loc Cert.Reference15Ideal.main_arg11) = m' ((c.tc : Thread Cert.Reference15Ideal.nD Cert.Reference15Ideal.τ).loc Cert.Reference15Ideal.main_arg11)
          ∧ r.2.mem ((c.tc : Thread Cert.Reference15Ideal.nD Cert.Reference15Ideal.τ).loc Cert.Reference15Ideal.main_arg12) = m' ((c.tc : Thread Cert.Reference15Ideal.nD Cert.Reference15Ideal.τ).loc Cert.Reference15Ideal.main_arg12))

def preserves_Kernel16_Kernel16Ideal : Prop :=
  True

def algebraic_Kernel16Ideal_Reference16Ideal [hKernel16Ideal : Cert.Kernel16Ideal.Facts] [hReference16Ideal : Cert.Reference16Ideal.Facts] : Prop :=
  ∀ (m : (ℓ : Loc Cert.Kernel16Ideal.nD Cert.Kernel16Ideal.τ Cert.Kernel16Ideal.sig) → Buf (Elt Ideal) ℓ) (g : Dev Cert.Kernel16Ideal.nD → PrngReg)
    (m' : (ℓ : Loc Cert.Reference16Ideal.nD Cert.Reference16Ideal.τ Cert.Reference16Ideal.sig) → Buf (Elt Ideal) ℓ) (g' : Dev Cert.Reference16Ideal.nD → PrngReg), Pre_Kernel16Ideal m →
    (∀ c : Dev Cert.Kernel16Ideal.nD,
      m' ((c.tc : Thread Cert.Reference16Ideal.nD Cert.Reference16Ideal.τ).loc Cert.Reference16Ideal.main_arg0) = m ((c.tc : Thread Cert.Kernel16Ideal.nD Cert.Kernel16Ideal.τ).loc Cert.Kernel16Ideal.main_arg0)
      ∧ m' ((c.tc : Thread Cert.Reference16Ideal.nD Cert.Reference16Ideal.τ).loc Cert.Reference16Ideal.main_arg1) = m ((c.tc : Thread Cert.Kernel16Ideal.nD Cert.Kernel16Ideal.τ).loc Cert.Kernel16Ideal.main_arg1)
      ∧ m' ((c.tc : Thread Cert.Reference16Ideal.nD Cert.Reference16Ideal.τ).loc Cert.Reference16Ideal.main_arg2) = m ((c.tc : Thread Cert.Kernel16Ideal.nD Cert.Kernel16Ideal.τ).loc Cert.Kernel16Ideal.main_arg2)
      ∧ m' ((c.tc : Thread Cert.Reference16Ideal.nD Cert.Reference16Ideal.τ).loc Cert.Reference16Ideal.main_arg3) = m ((c.tc : Thread Cert.Kernel16Ideal.nD Cert.Kernel16Ideal.τ).loc Cert.Kernel16Ideal.main_arg3)
      ∧ m' ((c.tc : Thread Cert.Reference16Ideal.nD Cert.Reference16Ideal.τ).loc Cert.Reference16Ideal.main_arg4) = m ((c.tc : Thread Cert.Kernel16Ideal.nD Cert.Kernel16Ideal.τ).loc Cert.Kernel16Ideal.main_arg4)
      ∧ m' ((c.tc : Thread Cert.Reference16Ideal.nD Cert.Reference16Ideal.τ).loc Cert.Reference16Ideal.main_arg5) = m ((c.tc : Thread Cert.Kernel16Ideal.nD Cert.Kernel16Ideal.τ).loc Cert.Kernel16Ideal.main_arg5)
      ∧ m' ((c.tc : Thread Cert.Reference16Ideal.nD Cert.Reference16Ideal.τ).loc Cert.Reference16Ideal.main_arg6) = m ((c.tc : Thread Cert.Kernel16Ideal.nD Cert.Kernel16Ideal.τ).loc Cert.Kernel16Ideal.main_arg6)
      ∧ m' ((c.tc : Thread Cert.Reference16Ideal.nD Cert.Reference16Ideal.τ).loc Cert.Reference16Ideal.main_arg7) = m ((c.tc : Thread Cert.Kernel16Ideal.nD Cert.Kernel16Ideal.τ).loc Cert.Kernel16Ideal.main_arg7)
      ∧ m' ((c.tc : Thread Cert.Reference16Ideal.nD Cert.Reference16Ideal.τ).loc Cert.Reference16Ideal.main_arg8) = m ((c.tc : Thread Cert.Kernel16Ideal.nD Cert.Kernel16Ideal.τ).loc Cert.Kernel16Ideal.main_arg8)
      ∧ m' ((c.tc : Thread Cert.Reference16Ideal.nD Cert.Reference16Ideal.τ).loc Cert.Reference16Ideal.main_arg9) = m ((c.tc : Thread Cert.Kernel16Ideal.nD Cert.Kernel16Ideal.τ).loc Cert.Kernel16Ideal.main_arg9)) →
    ∃ (v0 : (c : Dev Cert.Kernel16Ideal.nD) → Buf (Elt Ideal) ((c.tc : Thread Cert.Kernel16Ideal.nD Cert.Kernel16Ideal.τ).loc Cert.Kernel16Ideal.main_v0_0)) (v1 : (c : Dev Cert.Kernel16Ideal.nD) → Buf (Elt Ideal) ((c.tc : Thread Cert.Kernel16Ideal.nD Cert.Kernel16Ideal.τ).loc Cert.Kernel16Ideal.main_v0_1)),
      θ_run (Cert.Kernel16Ideal.defs (F := Ideal)) (onTc (τ := Cert.Kernel16Ideal.τ) (Cert.Kernel16Ideal.main (F := Ideal))) ⟨m, fun _ => 0, g⟩ (fun r => ∀ c : Dev Cert.Kernel16Ideal.nD,
          r.2.mem ((c.tc : Thread Cert.Kernel16Ideal.nD Cert.Kernel16Ideal.τ).loc Cert.Kernel16Ideal.main_v0_0) = v0 c
          ∧ r.2.mem ((c.tc : Thread Cert.Kernel16Ideal.nD Cert.Kernel16Ideal.τ).loc Cert.Kernel16Ideal.main_v0_1) = v1 c
          ∧ r.2.mem ((c.tc : Thread Cert.Kernel16Ideal.nD Cert.Kernel16Ideal.τ).loc Cert.Kernel16Ideal.main_arg0) = m ((c.tc : Thread Cert.Kernel16Ideal.nD Cert.Kernel16Ideal.τ).loc Cert.Kernel16Ideal.main_arg0)
          ∧ r.2.mem ((c.tc : Thread Cert.Kernel16Ideal.nD Cert.Kernel16Ideal.τ).loc Cert.Kernel16Ideal.main_arg1) = m ((c.tc : Thread Cert.Kernel16Ideal.nD Cert.Kernel16Ideal.τ).loc Cert.Kernel16Ideal.main_arg1)
          ∧ r.2.mem ((c.tc : Thread Cert.Kernel16Ideal.nD Cert.Kernel16Ideal.τ).loc Cert.Kernel16Ideal.main_arg2) = m ((c.tc : Thread Cert.Kernel16Ideal.nD Cert.Kernel16Ideal.τ).loc Cert.Kernel16Ideal.main_arg2)
          ∧ r.2.mem ((c.tc : Thread Cert.Kernel16Ideal.nD Cert.Kernel16Ideal.τ).loc Cert.Kernel16Ideal.main_arg3) = m ((c.tc : Thread Cert.Kernel16Ideal.nD Cert.Kernel16Ideal.τ).loc Cert.Kernel16Ideal.main_arg3)
          ∧ r.2.mem ((c.tc : Thread Cert.Kernel16Ideal.nD Cert.Kernel16Ideal.τ).loc Cert.Kernel16Ideal.main_arg4) = m ((c.tc : Thread Cert.Kernel16Ideal.nD Cert.Kernel16Ideal.τ).loc Cert.Kernel16Ideal.main_arg4)
          ∧ r.2.mem ((c.tc : Thread Cert.Kernel16Ideal.nD Cert.Kernel16Ideal.τ).loc Cert.Kernel16Ideal.main_arg5) = m ((c.tc : Thread Cert.Kernel16Ideal.nD Cert.Kernel16Ideal.τ).loc Cert.Kernel16Ideal.main_arg5)
          ∧ r.2.mem ((c.tc : Thread Cert.Kernel16Ideal.nD Cert.Kernel16Ideal.τ).loc Cert.Kernel16Ideal.main_arg6) = m ((c.tc : Thread Cert.Kernel16Ideal.nD Cert.Kernel16Ideal.τ).loc Cert.Kernel16Ideal.main_arg6)
          ∧ r.2.mem ((c.tc : Thread Cert.Kernel16Ideal.nD Cert.Kernel16Ideal.τ).loc Cert.Kernel16Ideal.main_arg7) = m ((c.tc : Thread Cert.Kernel16Ideal.nD Cert.Kernel16Ideal.τ).loc Cert.Kernel16Ideal.main_arg7)
          ∧ r.2.mem ((c.tc : Thread Cert.Kernel16Ideal.nD Cert.Kernel16Ideal.τ).loc Cert.Kernel16Ideal.main_arg8) = m ((c.tc : Thread Cert.Kernel16Ideal.nD Cert.Kernel16Ideal.τ).loc Cert.Kernel16Ideal.main_arg8)
          ∧ r.2.mem ((c.tc : Thread Cert.Kernel16Ideal.nD Cert.Kernel16Ideal.τ).loc Cert.Kernel16Ideal.main_arg9) = m ((c.tc : Thread Cert.Kernel16Ideal.nD Cert.Kernel16Ideal.τ).loc Cert.Kernel16Ideal.main_arg9))
      ∧ θ_run (Cert.Reference16Ideal.defs (F := Ideal)) (onTc (τ := Cert.Reference16Ideal.τ) (Cert.Reference16Ideal.main (F := Ideal))) ⟨m', fun _ => 0, g'⟩ (fun r => ∀ c : Dev Cert.Reference16Ideal.nD,
          r.2.mem ((c.tc : Thread Cert.Reference16Ideal.nD Cert.Reference16Ideal.τ).loc Cert.Reference16Ideal.main_v8) = v0 c
          ∧ r.2.mem ((c.tc : Thread Cert.Reference16Ideal.nD Cert.Reference16Ideal.τ).loc Cert.Reference16Ideal.main_v9) = v1 c
          ∧ r.2.mem ((c.tc : Thread Cert.Reference16Ideal.nD Cert.Reference16Ideal.τ).loc Cert.Reference16Ideal.main_arg0) = m' ((c.tc : Thread Cert.Reference16Ideal.nD Cert.Reference16Ideal.τ).loc Cert.Reference16Ideal.main_arg0)
          ∧ r.2.mem ((c.tc : Thread Cert.Reference16Ideal.nD Cert.Reference16Ideal.τ).loc Cert.Reference16Ideal.main_arg1) = m' ((c.tc : Thread Cert.Reference16Ideal.nD Cert.Reference16Ideal.τ).loc Cert.Reference16Ideal.main_arg1)
          ∧ r.2.mem ((c.tc : Thread Cert.Reference16Ideal.nD Cert.Reference16Ideal.τ).loc Cert.Reference16Ideal.main_arg2) = m' ((c.tc : Thread Cert.Reference16Ideal.nD Cert.Reference16Ideal.τ).loc Cert.Reference16Ideal.main_arg2)
          ∧ r.2.mem ((c.tc : Thread Cert.Reference16Ideal.nD Cert.Reference16Ideal.τ).loc Cert.Reference16Ideal.main_arg3) = m' ((c.tc : Thread Cert.Reference16Ideal.nD Cert.Reference16Ideal.τ).loc Cert.Reference16Ideal.main_arg3)
          ∧ r.2.mem ((c.tc : Thread Cert.Reference16Ideal.nD Cert.Reference16Ideal.τ).loc Cert.Reference16Ideal.main_arg4) = m' ((c.tc : Thread Cert.Reference16Ideal.nD Cert.Reference16Ideal.τ).loc Cert.Reference16Ideal.main_arg4)
          ∧ r.2.mem ((c.tc : Thread Cert.Reference16Ideal.nD Cert.Reference16Ideal.τ).loc Cert.Reference16Ideal.main_arg5) = m' ((c.tc : Thread Cert.Reference16Ideal.nD Cert.Reference16Ideal.τ).loc Cert.Reference16Ideal.main_arg5)
          ∧ r.2.mem ((c.tc : Thread Cert.Reference16Ideal.nD Cert.Reference16Ideal.τ).loc Cert.Reference16Ideal.main_arg6) = m' ((c.tc : Thread Cert.Reference16Ideal.nD Cert.Reference16Ideal.τ).loc Cert.Reference16Ideal.main_arg6)
          ∧ r.2.mem ((c.tc : Thread Cert.Reference16Ideal.nD Cert.Reference16Ideal.τ).loc Cert.Reference16Ideal.main_arg7) = m' ((c.tc : Thread Cert.Reference16Ideal.nD Cert.Reference16Ideal.τ).loc Cert.Reference16Ideal.main_arg7)
          ∧ r.2.mem ((c.tc : Thread Cert.Reference16Ideal.nD Cert.Reference16Ideal.τ).loc Cert.Reference16Ideal.main_arg8) = m' ((c.tc : Thread Cert.Reference16Ideal.nD Cert.Reference16Ideal.τ).loc Cert.Reference16Ideal.main_arg8)
          ∧ r.2.mem ((c.tc : Thread Cert.Reference16Ideal.nD Cert.Reference16Ideal.τ).loc Cert.Reference16Ideal.main_arg9) = m' ((c.tc : Thread Cert.Reference16Ideal.nD Cert.Reference16Ideal.τ).loc Cert.Reference16Ideal.main_arg9))

def preserves_Kernel17_Kernel17Ideal : Prop :=
  True

def algebraic_Kernel17Ideal_Reference17Ideal [hKernel17Ideal : Cert.Kernel17Ideal.Facts] [hReference17Ideal : Cert.Reference17Ideal.Facts] : Prop :=
  ∀ (m : (ℓ : Loc Cert.Kernel17Ideal.nD Cert.Kernel17Ideal.τ Cert.Kernel17Ideal.sig) → Buf (Elt Ideal) ℓ) (g : Dev Cert.Kernel17Ideal.nD → PrngReg)
    (m' : (ℓ : Loc Cert.Reference17Ideal.nD Cert.Reference17Ideal.τ Cert.Reference17Ideal.sig) → Buf (Elt Ideal) ℓ) (g' : Dev Cert.Reference17Ideal.nD → PrngReg), Pre_Kernel17Ideal m →
    (∀ c : Dev Cert.Kernel17Ideal.nD,
      m' ((c.tc : Thread Cert.Reference17Ideal.nD Cert.Reference17Ideal.τ).loc Cert.Reference17Ideal.main_arg0) = m ((c.tc : Thread Cert.Kernel17Ideal.nD Cert.Kernel17Ideal.τ).loc Cert.Kernel17Ideal.main_arg0)
      ∧ m' ((c.tc : Thread Cert.Reference17Ideal.nD Cert.Reference17Ideal.τ).loc Cert.Reference17Ideal.main_arg1) = m ((c.tc : Thread Cert.Kernel17Ideal.nD Cert.Kernel17Ideal.τ).loc Cert.Kernel17Ideal.main_arg1)) →
    ∃ (v0 : (c : Dev Cert.Kernel17Ideal.nD) → Buf (Elt Ideal) ((c.tc : Thread Cert.Kernel17Ideal.nD Cert.Kernel17Ideal.τ).loc Cert.Kernel17Ideal.main_v3_0)) (v1 : (c : Dev Cert.Kernel17Ideal.nD) → Buf (Elt Ideal) ((c.tc : Thread Cert.Kernel17Ideal.nD Cert.Kernel17Ideal.τ).loc Cert.Kernel17Ideal.main_v3_1)) (v2 : (c : Dev Cert.Kernel17Ideal.nD) → Buf (Elt Ideal) ((c.tc : Thread Cert.Kernel17Ideal.nD Cert.Kernel17Ideal.τ).loc Cert.Kernel17Ideal.main_v3_2)) (v3 : (c : Dev Cert.Kernel17Ideal.nD) → Buf (Elt Ideal) ((c.tc : Thread Cert.Kernel17Ideal.nD Cert.Kernel17Ideal.τ).loc Cert.Kernel17Ideal.main_v3_3)) (v4 : (c : Dev Cert.Kernel17Ideal.nD) → Buf (Elt Ideal) ((c.tc : Thread Cert.Kernel17Ideal.nD Cert.Kernel17Ideal.τ).loc Cert.Kernel17Ideal.main_v3_4)) (v5 : (c : Dev Cert.Kernel17Ideal.nD) → Buf (Elt Ideal) ((c.tc : Thread Cert.Kernel17Ideal.nD Cert.Kernel17Ideal.τ).loc Cert.Kernel17Ideal.main_v3_5)) (v6 : (c : Dev Cert.Kernel17Ideal.nD) → Buf (Elt Ideal) ((c.tc : Thread Cert.Kernel17Ideal.nD Cert.Kernel17Ideal.τ).loc Cert.Kernel17Ideal.main_v3_6)) (v7 : (c : Dev Cert.Kernel17Ideal.nD) → Buf (Elt Ideal) ((c.tc : Thread Cert.Kernel17Ideal.nD Cert.Kernel17Ideal.τ).loc Cert.Kernel17Ideal.main_v3_7)) (v8 : (c : Dev Cert.Kernel17Ideal.nD) → Buf (Elt Ideal) ((c.tc : Thread Cert.Kernel17Ideal.nD Cert.Kernel17Ideal.τ).loc Cert.Kernel17Ideal.main_v3_8)),
      θ_run (Cert.Kernel17Ideal.defs (F := Ideal)) (onTc (τ := Cert.Kernel17Ideal.τ) (Cert.Kernel17Ideal.main (F := Ideal))) ⟨m, fun _ => 0, g⟩ (fun r => ∀ c : Dev Cert.Kernel17Ideal.nD,
          r.2.mem ((c.tc : Thread Cert.Kernel17Ideal.nD Cert.Kernel17Ideal.τ).loc Cert.Kernel17Ideal.main_v3_0) = v0 c
          ∧ r.2.mem ((c.tc : Thread Cert.Kernel17Ideal.nD Cert.Kernel17Ideal.τ).loc Cert.Kernel17Ideal.main_v3_1) = v1 c
          ∧ r.2.mem ((c.tc : Thread Cert.Kernel17Ideal.nD Cert.Kernel17Ideal.τ).loc Cert.Kernel17Ideal.main_v3_2) = v2 c
          ∧ r.2.mem ((c.tc : Thread Cert.Kernel17Ideal.nD Cert.Kernel17Ideal.τ).loc Cert.Kernel17Ideal.main_v3_3) = v3 c
          ∧ r.2.mem ((c.tc : Thread Cert.Kernel17Ideal.nD Cert.Kernel17Ideal.τ).loc Cert.Kernel17Ideal.main_v3_4) = v4 c
          ∧ r.2.mem ((c.tc : Thread Cert.Kernel17Ideal.nD Cert.Kernel17Ideal.τ).loc Cert.Kernel17Ideal.main_v3_5) = v5 c
          ∧ r.2.mem ((c.tc : Thread Cert.Kernel17Ideal.nD Cert.Kernel17Ideal.τ).loc Cert.Kernel17Ideal.main_v3_6) = v6 c
          ∧ r.2.mem ((c.tc : Thread Cert.Kernel17Ideal.nD Cert.Kernel17Ideal.τ).loc Cert.Kernel17Ideal.main_v3_7) = v7 c
          ∧ r.2.mem ((c.tc : Thread Cert.Kernel17Ideal.nD Cert.Kernel17Ideal.τ).loc Cert.Kernel17Ideal.main_v3_8) = v8 c
          ∧ r.2.mem ((c.tc : Thread Cert.Kernel17Ideal.nD Cert.Kernel17Ideal.τ).loc Cert.Kernel17Ideal.main_arg0) = m ((c.tc : Thread Cert.Kernel17Ideal.nD Cert.Kernel17Ideal.τ).loc Cert.Kernel17Ideal.main_arg0)
          ∧ r.2.mem ((c.tc : Thread Cert.Kernel17Ideal.nD Cert.Kernel17Ideal.τ).loc Cert.Kernel17Ideal.main_arg1) = m ((c.tc : Thread Cert.Kernel17Ideal.nD Cert.Kernel17Ideal.τ).loc Cert.Kernel17Ideal.main_arg1))
      ∧ θ_run (Cert.Reference17Ideal.defs (F := Ideal)) (onTc (τ := Cert.Reference17Ideal.τ) (Cert.Reference17Ideal.main (F := Ideal))) ⟨m', fun _ => 0, g'⟩ (fun r => ∀ c : Dev Cert.Reference17Ideal.nD,
          r.2.mem ((c.tc : Thread Cert.Reference17Ideal.nD Cert.Reference17Ideal.τ).loc Cert.Reference17Ideal.main_v3) = v0 c
          ∧ r.2.mem ((c.tc : Thread Cert.Reference17Ideal.nD Cert.Reference17Ideal.τ).loc Cert.Reference17Ideal.main_v4) = v1 c
          ∧ r.2.mem ((c.tc : Thread Cert.Reference17Ideal.nD Cert.Reference17Ideal.τ).loc Cert.Reference17Ideal.main_v5) = v2 c
          ∧ r.2.mem ((c.tc : Thread Cert.Reference17Ideal.nD Cert.Reference17Ideal.τ).loc Cert.Reference17Ideal.main_v6) = v3 c
          ∧ r.2.mem ((c.tc : Thread Cert.Reference17Ideal.nD Cert.Reference17Ideal.τ).loc Cert.Reference17Ideal.main_v7) = v4 c
          ∧ r.2.mem ((c.tc : Thread Cert.Reference17Ideal.nD Cert.Reference17Ideal.τ).loc Cert.Reference17Ideal.main_v8) = v5 c
          ∧ r.2.mem ((c.tc : Thread Cert.Reference17Ideal.nD Cert.Reference17Ideal.τ).loc Cert.Reference17Ideal.main_v9) = v6 c
          ∧ r.2.mem ((c.tc : Thread Cert.Reference17Ideal.nD Cert.Reference17Ideal.τ).loc Cert.Reference17Ideal.main_v10) = v7 c
          ∧ r.2.mem ((c.tc : Thread Cert.Reference17Ideal.nD Cert.Reference17Ideal.τ).loc Cert.Reference17Ideal.main_v11) = v8 c
          ∧ r.2.mem ((c.tc : Thread Cert.Reference17Ideal.nD Cert.Reference17Ideal.τ).loc Cert.Reference17Ideal.main_arg0) = m' ((c.tc : Thread Cert.Reference17Ideal.nD Cert.Reference17Ideal.τ).loc Cert.Reference17Ideal.main_arg0)
          ∧ r.2.mem ((c.tc : Thread Cert.Reference17Ideal.nD Cert.Reference17Ideal.τ).loc Cert.Reference17Ideal.main_arg1) = m' ((c.tc : Thread Cert.Reference17Ideal.nD Cert.Reference17Ideal.τ).loc Cert.Reference17Ideal.main_arg1))

def preserves_Kernel18_Kernel18Ideal : Prop :=
  True

def algebraic_Kernel18Ideal_Reference18Ideal [hKernel18Ideal : Cert.Kernel18Ideal.Facts] [hReference18Ideal : Cert.Reference18Ideal.Facts] : Prop :=
  ∀ (m : (ℓ : Loc Cert.Kernel18Ideal.nD Cert.Kernel18Ideal.τ Cert.Kernel18Ideal.sig) → Buf (Elt Ideal) ℓ) (g : Dev Cert.Kernel18Ideal.nD → PrngReg)
    (m' : (ℓ : Loc Cert.Reference18Ideal.nD Cert.Reference18Ideal.τ Cert.Reference18Ideal.sig) → Buf (Elt Ideal) ℓ) (g' : Dev Cert.Reference18Ideal.nD → PrngReg), Pre_Kernel18Ideal m →
    (∀ c : Dev Cert.Kernel18Ideal.nD,
      m' ((c.tc : Thread Cert.Reference18Ideal.nD Cert.Reference18Ideal.τ).loc Cert.Reference18Ideal.main_arg0) = m ((c.tc : Thread Cert.Kernel18Ideal.nD Cert.Kernel18Ideal.τ).loc Cert.Kernel18Ideal.main_arg0)
      ∧ m' ((c.tc : Thread Cert.Reference18Ideal.nD Cert.Reference18Ideal.τ).loc Cert.Reference18Ideal.main_arg1) = m ((c.tc : Thread Cert.Kernel18Ideal.nD Cert.Kernel18Ideal.τ).loc Cert.Kernel18Ideal.main_arg1)
      ∧ m' ((c.tc : Thread Cert.Reference18Ideal.nD Cert.Reference18Ideal.τ).loc Cert.Reference18Ideal.main_arg2) = m ((c.tc : Thread Cert.Kernel18Ideal.nD Cert.Kernel18Ideal.τ).loc Cert.Kernel18Ideal.main_arg2)) →
    ∃ (v0 : (c : Dev Cert.Kernel18Ideal.nD) → Buf (Elt Ideal) ((c.tc : Thread Cert.Kernel18Ideal.nD Cert.Kernel18Ideal.τ).loc Cert.Kernel18Ideal.main_v4_0)) (v1 : (c : Dev Cert.Kernel18Ideal.nD) → Buf (Elt Ideal) ((c.tc : Thread Cert.Kernel18Ideal.nD Cert.Kernel18Ideal.τ).loc Cert.Kernel18Ideal.main_v4_1)),
      θ_run (Cert.Kernel18Ideal.defs (F := Ideal)) (onTc (τ := Cert.Kernel18Ideal.τ) (Cert.Kernel18Ideal.main (F := Ideal))) ⟨m, fun _ => 0, g⟩ (fun r => ∀ c : Dev Cert.Kernel18Ideal.nD,
          r.2.mem ((c.tc : Thread Cert.Kernel18Ideal.nD Cert.Kernel18Ideal.τ).loc Cert.Kernel18Ideal.main_v4_0) = v0 c
          ∧ r.2.mem ((c.tc : Thread Cert.Kernel18Ideal.nD Cert.Kernel18Ideal.τ).loc Cert.Kernel18Ideal.main_v4_1) = v1 c
          ∧ r.2.mem ((c.tc : Thread Cert.Kernel18Ideal.nD Cert.Kernel18Ideal.τ).loc Cert.Kernel18Ideal.main_arg0) = m ((c.tc : Thread Cert.Kernel18Ideal.nD Cert.Kernel18Ideal.τ).loc Cert.Kernel18Ideal.main_arg0)
          ∧ r.2.mem ((c.tc : Thread Cert.Kernel18Ideal.nD Cert.Kernel18Ideal.τ).loc Cert.Kernel18Ideal.main_arg1) = m ((c.tc : Thread Cert.Kernel18Ideal.nD Cert.Kernel18Ideal.τ).loc Cert.Kernel18Ideal.main_arg1)
          ∧ r.2.mem ((c.tc : Thread Cert.Kernel18Ideal.nD Cert.Kernel18Ideal.τ).loc Cert.Kernel18Ideal.main_arg2) = m ((c.tc : Thread Cert.Kernel18Ideal.nD Cert.Kernel18Ideal.τ).loc Cert.Kernel18Ideal.main_arg2))
      ∧ θ_run (Cert.Reference18Ideal.defs (F := Ideal)) (onTc (τ := Cert.Reference18Ideal.τ) (Cert.Reference18Ideal.main (F := Ideal))) ⟨m', fun _ => 0, g'⟩ (fun r => ∀ c : Dev Cert.Reference18Ideal.nD,
          r.2.mem ((c.tc : Thread Cert.Reference18Ideal.nD Cert.Reference18Ideal.τ).loc Cert.Reference18Ideal.main_v4) = v0 c
          ∧ r.2.mem ((c.tc : Thread Cert.Reference18Ideal.nD Cert.Reference18Ideal.τ).loc Cert.Reference18Ideal.main_v13) = v1 c
          ∧ r.2.mem ((c.tc : Thread Cert.Reference18Ideal.nD Cert.Reference18Ideal.τ).loc Cert.Reference18Ideal.main_arg0) = m' ((c.tc : Thread Cert.Reference18Ideal.nD Cert.Reference18Ideal.τ).loc Cert.Reference18Ideal.main_arg0)
          ∧ r.2.mem ((c.tc : Thread Cert.Reference18Ideal.nD Cert.Reference18Ideal.τ).loc Cert.Reference18Ideal.main_arg1) = m' ((c.tc : Thread Cert.Reference18Ideal.nD Cert.Reference18Ideal.τ).loc Cert.Reference18Ideal.main_arg1)
          ∧ r.2.mem ((c.tc : Thread Cert.Reference18Ideal.nD Cert.Reference18Ideal.τ).loc Cert.Reference18Ideal.main_arg2) = m' ((c.tc : Thread Cert.Reference18Ideal.nD Cert.Reference18Ideal.τ).loc Cert.Reference18Ideal.main_arg2))

def preserves_Kernel19_Kernel19Ideal : Prop :=
  True

def algebraic_Kernel19Ideal_Reference19Ideal [hKernel19Ideal : Cert.Kernel19Ideal.Facts] [hReference19Ideal : Cert.Reference19Ideal.Facts] : Prop :=
  ∀ (m : (ℓ : Loc Cert.Kernel19Ideal.nD Cert.Kernel19Ideal.τ Cert.Kernel19Ideal.sig) → Buf (Elt Ideal) ℓ) (g : Dev Cert.Kernel19Ideal.nD → PrngReg)
    (m' : (ℓ : Loc Cert.Reference19Ideal.nD Cert.Reference19Ideal.τ Cert.Reference19Ideal.sig) → Buf (Elt Ideal) ℓ) (g' : Dev Cert.Reference19Ideal.nD → PrngReg), Pre_Kernel19Ideal m →
    (∀ c : Dev Cert.Kernel19Ideal.nD,
      m' ((c.tc : Thread Cert.Reference19Ideal.nD Cert.Reference19Ideal.τ).loc Cert.Reference19Ideal.main_arg0) = m ((c.tc : Thread Cert.Kernel19Ideal.nD Cert.Kernel19Ideal.τ).loc Cert.Kernel19Ideal.main_arg0)
      ∧ m' ((c.tc : Thread Cert.Reference19Ideal.nD Cert.Reference19Ideal.τ).loc Cert.Reference19Ideal.main_arg1) = m ((c.tc : Thread Cert.Kernel19Ideal.nD Cert.Kernel19Ideal.τ).loc Cert.Kernel19Ideal.main_arg1)
      ∧ m' ((c.tc : Thread Cert.Reference19Ideal.nD Cert.Reference19Ideal.τ).loc Cert.Reference19Ideal.main_arg2) = m ((c.tc : Thread Cert.Kernel19Ideal.nD Cert.Kernel19Ideal.τ).loc Cert.Kernel19Ideal.main_arg2)
      ∧ m' ((c.tc : Thread Cert.Reference19Ideal.nD Cert.Reference19Ideal.τ).loc Cert.Reference19Ideal.main_arg3) = m ((c.tc : Thread Cert.Kernel19Ideal.nD Cert.Kernel19Ideal.τ).loc Cert.Kernel19Ideal.main_arg3)) →
    ∃ (v0 : (c : Dev Cert.Kernel19Ideal.nD) → Buf (Elt Ideal) ((c.tc : Thread Cert.Kernel19Ideal.nD Cert.Kernel19Ideal.τ).loc Cert.Kernel19Ideal.main_v4_0)) (v1 : (c : Dev Cert.Kernel19Ideal.nD) → Buf (Elt Ideal) ((c.tc : Thread Cert.Kernel19Ideal.nD Cert.Kernel19Ideal.τ).loc Cert.Kernel19Ideal.main_v4_1)) (v2 : (c : Dev Cert.Kernel19Ideal.nD) → Buf (Elt Ideal) ((c.tc : Thread Cert.Kernel19Ideal.nD Cert.Kernel19Ideal.τ).loc Cert.Kernel19Ideal.main_v4_2)),
      θ_run (Cert.Kernel19Ideal.defs (F := Ideal)) (onTc (τ := Cert.Kernel19Ideal.τ) (Cert.Kernel19Ideal.main (F := Ideal))) ⟨m, fun _ => 0, g⟩ (fun r => ∀ c : Dev Cert.Kernel19Ideal.nD,
          r.2.mem ((c.tc : Thread Cert.Kernel19Ideal.nD Cert.Kernel19Ideal.τ).loc Cert.Kernel19Ideal.main_v4_0) = v0 c
          ∧ r.2.mem ((c.tc : Thread Cert.Kernel19Ideal.nD Cert.Kernel19Ideal.τ).loc Cert.Kernel19Ideal.main_v4_1) = v1 c
          ∧ r.2.mem ((c.tc : Thread Cert.Kernel19Ideal.nD Cert.Kernel19Ideal.τ).loc Cert.Kernel19Ideal.main_v4_2) = v2 c
          ∧ r.2.mem ((c.tc : Thread Cert.Kernel19Ideal.nD Cert.Kernel19Ideal.τ).loc Cert.Kernel19Ideal.main_arg0) = m ((c.tc : Thread Cert.Kernel19Ideal.nD Cert.Kernel19Ideal.τ).loc Cert.Kernel19Ideal.main_arg0)
          ∧ r.2.mem ((c.tc : Thread Cert.Kernel19Ideal.nD Cert.Kernel19Ideal.τ).loc Cert.Kernel19Ideal.main_arg1) = m ((c.tc : Thread Cert.Kernel19Ideal.nD Cert.Kernel19Ideal.τ).loc Cert.Kernel19Ideal.main_arg1)
          ∧ r.2.mem ((c.tc : Thread Cert.Kernel19Ideal.nD Cert.Kernel19Ideal.τ).loc Cert.Kernel19Ideal.main_arg2) = m ((c.tc : Thread Cert.Kernel19Ideal.nD Cert.Kernel19Ideal.τ).loc Cert.Kernel19Ideal.main_arg2)
          ∧ r.2.mem ((c.tc : Thread Cert.Kernel19Ideal.nD Cert.Kernel19Ideal.τ).loc Cert.Kernel19Ideal.main_arg3) = m ((c.tc : Thread Cert.Kernel19Ideal.nD Cert.Kernel19Ideal.τ).loc Cert.Kernel19Ideal.main_arg3))
      ∧ θ_run (Cert.Reference19Ideal.defs (F := Ideal)) (onTc (τ := Cert.Reference19Ideal.τ) (Cert.Reference19Ideal.main (F := Ideal))) ⟨m', fun _ => 0, g'⟩ (fun r => ∀ c : Dev Cert.Reference19Ideal.nD,
          r.2.mem ((c.tc : Thread Cert.Reference19Ideal.nD Cert.Reference19Ideal.τ).loc Cert.Reference19Ideal.main_v1) = v0 c
          ∧ r.2.mem ((c.tc : Thread Cert.Reference19Ideal.nD Cert.Reference19Ideal.τ).loc Cert.Reference19Ideal.main_v11) = v1 c
          ∧ r.2.mem ((c.tc : Thread Cert.Reference19Ideal.nD Cert.Reference19Ideal.τ).loc Cert.Reference19Ideal.main_v25) = v2 c
          ∧ r.2.mem ((c.tc : Thread Cert.Reference19Ideal.nD Cert.Reference19Ideal.τ).loc Cert.Reference19Ideal.main_arg0) = m' ((c.tc : Thread Cert.Reference19Ideal.nD Cert.Reference19Ideal.τ).loc Cert.Reference19Ideal.main_arg0)
          ∧ r.2.mem ((c.tc : Thread Cert.Reference19Ideal.nD Cert.Reference19Ideal.τ).loc Cert.Reference19Ideal.main_arg1) = m' ((c.tc : Thread Cert.Reference19Ideal.nD Cert.Reference19Ideal.τ).loc Cert.Reference19Ideal.main_arg1)
          ∧ r.2.mem ((c.tc : Thread Cert.Reference19Ideal.nD Cert.Reference19Ideal.τ).loc Cert.Reference19Ideal.main_arg2) = m' ((c.tc : Thread Cert.Reference19Ideal.nD Cert.Reference19Ideal.τ).loc Cert.Reference19Ideal.main_arg2)
          ∧ r.2.mem ((c.tc : Thread Cert.Reference19Ideal.nD Cert.Reference19Ideal.τ).loc Cert.Reference19Ideal.main_arg3) = m' ((c.tc : Thread Cert.Reference19Ideal.nD Cert.Reference19Ideal.τ).loc Cert.Reference19Ideal.main_arg3))

def preserves_Kernel20_Kernel20Ideal : Prop :=
  True

def algebraic_Kernel20Ideal_Reference20Ideal [hKernel20Ideal : Cert.Kernel20Ideal.Facts] [hReference20Ideal : Cert.Reference20Ideal.Facts] : Prop :=
  ∀ (m : (ℓ : Loc Cert.Kernel20Ideal.nD Cert.Kernel20Ideal.τ Cert.Kernel20Ideal.sig) → Buf (Elt Ideal) ℓ) (g : Dev Cert.Kernel20Ideal.nD → PrngReg)
    (m' : (ℓ : Loc Cert.Reference20Ideal.nD Cert.Reference20Ideal.τ Cert.Reference20Ideal.sig) → Buf (Elt Ideal) ℓ) (g' : Dev Cert.Reference20Ideal.nD → PrngReg), Pre_Kernel20Ideal m →
    (∀ c : Dev Cert.Kernel20Ideal.nD,
      m' ((c.tc : Thread Cert.Reference20Ideal.nD Cert.Reference20Ideal.τ).loc Cert.Reference20Ideal.main_arg0) = m ((c.tc : Thread Cert.Kernel20Ideal.nD Cert.Kernel20Ideal.τ).loc Cert.Kernel20Ideal.main_arg0)
      ∧ m' ((c.tc : Thread Cert.Reference20Ideal.nD Cert.Reference20Ideal.τ).loc Cert.Reference20Ideal.main_arg1) = m ((c.tc : Thread Cert.Kernel20Ideal.nD Cert.Kernel20Ideal.τ).loc Cert.Kernel20Ideal.main_arg1)
      ∧ m' ((c.tc : Thread Cert.Reference20Ideal.nD Cert.Reference20Ideal.τ).loc Cert.Reference20Ideal.main_arg2) = m ((c.tc : Thread Cert.Kernel20Ideal.nD Cert.Kernel20Ideal.τ).loc Cert.Kernel20Ideal.main_arg2)
      ∧ m' ((c.tc : Thread Cert.Reference20Ideal.nD Cert.Reference20Ideal.τ).loc Cert.Reference20Ideal.main_arg3) = m ((c.tc : Thread Cert.Kernel20Ideal.nD Cert.Kernel20Ideal.τ).loc Cert.Kernel20Ideal.main_arg3)) →
    ∃ (v0 : (c : Dev Cert.Kernel20Ideal.nD) → Buf (Elt Ideal) ((c.tc : Thread Cert.Kernel20Ideal.nD Cert.Kernel20Ideal.τ).loc Cert.Kernel20Ideal.main_v5_0)) (v1 : (c : Dev Cert.Kernel20Ideal.nD) → Buf (Elt Ideal) ((c.tc : Thread Cert.Kernel20Ideal.nD Cert.Kernel20Ideal.τ).loc Cert.Kernel20Ideal.main_v5_1)) (v2 : (c : Dev Cert.Kernel20Ideal.nD) → Buf (Elt Ideal) ((c.tc : Thread Cert.Kernel20Ideal.nD Cert.Kernel20Ideal.τ).loc Cert.Kernel20Ideal.main_v5_2)),
      θ_run (Cert.Kernel20Ideal.defs (F := Ideal)) (onTc (τ := Cert.Kernel20Ideal.τ) (Cert.Kernel20Ideal.main (F := Ideal))) ⟨m, fun _ => 0, g⟩ (fun r => ∀ c : Dev Cert.Kernel20Ideal.nD,
          r.2.mem ((c.tc : Thread Cert.Kernel20Ideal.nD Cert.Kernel20Ideal.τ).loc Cert.Kernel20Ideal.main_v5_0) = v0 c
          ∧ r.2.mem ((c.tc : Thread Cert.Kernel20Ideal.nD Cert.Kernel20Ideal.τ).loc Cert.Kernel20Ideal.main_v5_1) = v1 c
          ∧ r.2.mem ((c.tc : Thread Cert.Kernel20Ideal.nD Cert.Kernel20Ideal.τ).loc Cert.Kernel20Ideal.main_v5_2) = v2 c
          ∧ r.2.mem ((c.tc : Thread Cert.Kernel20Ideal.nD Cert.Kernel20Ideal.τ).loc Cert.Kernel20Ideal.main_arg0) = m ((c.tc : Thread Cert.Kernel20Ideal.nD Cert.Kernel20Ideal.τ).loc Cert.Kernel20Ideal.main_arg0)
          ∧ r.2.mem ((c.tc : Thread Cert.Kernel20Ideal.nD Cert.Kernel20Ideal.τ).loc Cert.Kernel20Ideal.main_arg1) = m ((c.tc : Thread Cert.Kernel20Ideal.nD Cert.Kernel20Ideal.τ).loc Cert.Kernel20Ideal.main_arg1)
          ∧ r.2.mem ((c.tc : Thread Cert.Kernel20Ideal.nD Cert.Kernel20Ideal.τ).loc Cert.Kernel20Ideal.main_arg2) = m ((c.tc : Thread Cert.Kernel20Ideal.nD Cert.Kernel20Ideal.τ).loc Cert.Kernel20Ideal.main_arg2)
          ∧ r.2.mem ((c.tc : Thread Cert.Kernel20Ideal.nD Cert.Kernel20Ideal.τ).loc Cert.Kernel20Ideal.main_arg3) = m ((c.tc : Thread Cert.Kernel20Ideal.nD Cert.Kernel20Ideal.τ).loc Cert.Kernel20Ideal.main_arg3))
      ∧ θ_run (Cert.Reference20Ideal.defs (F := Ideal)) (onTc (τ := Cert.Reference20Ideal.τ) (Cert.Reference20Ideal.main (F := Ideal))) ⟨m', fun _ => 0, g'⟩ (fun r => ∀ c : Dev Cert.Reference20Ideal.nD,
          r.2.mem ((c.tc : Thread Cert.Reference20Ideal.nD Cert.Reference20Ideal.τ).loc Cert.Reference20Ideal.main_v1) = v0 c
          ∧ r.2.mem ((c.tc : Thread Cert.Reference20Ideal.nD Cert.Reference20Ideal.τ).loc Cert.Reference20Ideal.main_v15) = v1 c
          ∧ r.2.mem ((c.tc : Thread Cert.Reference20Ideal.nD Cert.Reference20Ideal.τ).loc Cert.Reference20Ideal.main_v41) = v2 c
          ∧ r.2.mem ((c.tc : Thread Cert.Reference20Ideal.nD Cert.Reference20Ideal.τ).loc Cert.Reference20Ideal.main_arg0) = m' ((c.tc : Thread Cert.Reference20Ideal.nD Cert.Reference20Ideal.τ).loc Cert.Reference20Ideal.main_arg0)
          ∧ r.2.mem ((c.tc : Thread Cert.Reference20Ideal.nD Cert.Reference20Ideal.τ).loc Cert.Reference20Ideal.main_arg1) = m' ((c.tc : Thread Cert.Reference20Ideal.nD Cert.Reference20Ideal.τ).loc Cert.Reference20Ideal.main_arg1)
          ∧ r.2.mem ((c.tc : Thread Cert.Reference20Ideal.nD Cert.Reference20Ideal.τ).loc Cert.Reference20Ideal.main_arg2) = m' ((c.tc : Thread Cert.Reference20Ideal.nD Cert.Reference20Ideal.τ).loc Cert.Reference20Ideal.main_arg2)
          ∧ r.2.mem ((c.tc : Thread Cert.Reference20Ideal.nD Cert.Reference20Ideal.τ).loc Cert.Reference20Ideal.main_arg3) = m' ((c.tc : Thread Cert.Reference20Ideal.nD Cert.Reference20Ideal.τ).loc Cert.Reference20Ideal.main_arg3))

def preserves_Kernel21_Kernel21Ideal : Prop :=
  True

def algebraic_Kernel21Ideal_Reference21Ideal [hKernel21Ideal : Cert.Kernel21Ideal.Facts] [hReference21Ideal : Cert.Reference21Ideal.Facts] : Prop :=
  ∀ (m : (ℓ : Loc Cert.Kernel21Ideal.nD Cert.Kernel21Ideal.τ Cert.Kernel21Ideal.sig) → Buf (Elt Ideal) ℓ) (g : Dev Cert.Kernel21Ideal.nD → PrngReg)
    (m' : (ℓ : Loc Cert.Reference21Ideal.nD Cert.Reference21Ideal.τ Cert.Reference21Ideal.sig) → Buf (Elt Ideal) ℓ) (g' : Dev Cert.Reference21Ideal.nD → PrngReg), Pre_Kernel21Ideal m →
    (∀ c : Dev Cert.Kernel21Ideal.nD,
      m' ((c.tc : Thread Cert.Reference21Ideal.nD Cert.Reference21Ideal.τ).loc Cert.Reference21Ideal.main_arg0) = m ((c.tc : Thread Cert.Kernel21Ideal.nD Cert.Kernel21Ideal.τ).loc Cert.Kernel21Ideal.main_arg0)
      ∧ m' ((c.tc : Thread Cert.Reference21Ideal.nD Cert.Reference21Ideal.τ).loc Cert.Reference21Ideal.main_arg1) = m ((c.tc : Thread Cert.Kernel21Ideal.nD Cert.Kernel21Ideal.τ).loc Cert.Kernel21Ideal.main_arg1)
      ∧ m' ((c.tc : Thread Cert.Reference21Ideal.nD Cert.Reference21Ideal.τ).loc Cert.Reference21Ideal.main_arg2) = m ((c.tc : Thread Cert.Kernel21Ideal.nD Cert.Kernel21Ideal.τ).loc Cert.Kernel21Ideal.main_arg2)
      ∧ m' ((c.tc : Thread Cert.Reference21Ideal.nD Cert.Reference21Ideal.τ).loc Cert.Reference21Ideal.main_arg3) = m ((c.tc : Thread Cert.Kernel21Ideal.nD Cert.Kernel21Ideal.τ).loc Cert.Kernel21Ideal.main_arg3)) →
    ∃ (v0 : (c : Dev Cert.Kernel21Ideal.nD) → Buf (Elt Ideal) ((c.tc : Thread Cert.Kernel21Ideal.nD Cert.Kernel21Ideal.τ).loc Cert.Kernel21Ideal.main_v2_0)) (v1 : (c : Dev Cert.Kernel21Ideal.nD) → Buf (Elt Ideal) ((c.tc : Thread Cert.Kernel21Ideal.nD Cert.Kernel21Ideal.τ).loc Cert.Kernel21Ideal.main_v2_1)),
      θ_run (Cert.Kernel21Ideal.defs (F := Ideal)) (onTc (τ := Cert.Kernel21Ideal.τ) (Cert.Kernel21Ideal.main (F := Ideal))) ⟨m, fun _ => 0, g⟩ (fun r => ∀ c : Dev Cert.Kernel21Ideal.nD,
          r.2.mem ((c.tc : Thread Cert.Kernel21Ideal.nD Cert.Kernel21Ideal.τ).loc Cert.Kernel21Ideal.main_v2_0) = v0 c
          ∧ r.2.mem ((c.tc : Thread Cert.Kernel21Ideal.nD Cert.Kernel21Ideal.τ).loc Cert.Kernel21Ideal.main_v2_1) = v1 c
          ∧ r.2.mem ((c.tc : Thread Cert.Kernel21Ideal.nD Cert.Kernel21Ideal.τ).loc Cert.Kernel21Ideal.main_arg0) = m ((c.tc : Thread Cert.Kernel21Ideal.nD Cert.Kernel21Ideal.τ).loc Cert.Kernel21Ideal.main_arg0)
          ∧ r.2.mem ((c.tc : Thread Cert.Kernel21Ideal.nD Cert.Kernel21Ideal.τ).loc Cert.Kernel21Ideal.main_arg1) = m ((c.tc : Thread Cert.Kernel21Ideal.nD Cert.Kernel21Ideal.τ).loc Cert.Kernel21Ideal.main_arg1)
          ∧ r.2.mem ((c.tc : Thread Cert.Kernel21Ideal.nD Cert.Kernel21Ideal.τ).loc Cert.Kernel21Ideal.main_arg2) = m ((c.tc : Thread Cert.Kernel21Ideal.nD Cert.Kernel21Ideal.τ).loc Cert.Kernel21Ideal.main_arg2)
          ∧ r.2.mem ((c.tc : Thread Cert.Kernel21Ideal.nD Cert.Kernel21Ideal.τ).loc Cert.Kernel21Ideal.main_arg3) = m ((c.tc : Thread Cert.Kernel21Ideal.nD Cert.Kernel21Ideal.τ).loc Cert.Kernel21Ideal.main_arg3))
      ∧ θ_run (Cert.Reference21Ideal.defs (F := Ideal)) (onTc (τ := Cert.Reference21Ideal.τ) (Cert.Reference21Ideal.main (F := Ideal))) ⟨m', fun _ => 0, g'⟩ (fun r => ∀ c : Dev Cert.Reference21Ideal.nD,
          r.2.mem ((c.tc : Thread Cert.Reference21Ideal.nD Cert.Reference21Ideal.τ).loc Cert.Reference21Ideal.main_v2) = v0 c
          ∧ r.2.mem ((c.tc : Thread Cert.Reference21Ideal.nD Cert.Reference21Ideal.τ).loc Cert.Reference21Ideal.main_v16) = v1 c
          ∧ r.2.mem ((c.tc : Thread Cert.Reference21Ideal.nD Cert.Reference21Ideal.τ).loc Cert.Reference21Ideal.main_arg0) = m' ((c.tc : Thread Cert.Reference21Ideal.nD Cert.Reference21Ideal.τ).loc Cert.Reference21Ideal.main_arg0)
          ∧ r.2.mem ((c.tc : Thread Cert.Reference21Ideal.nD Cert.Reference21Ideal.τ).loc Cert.Reference21Ideal.main_arg1) = m' ((c.tc : Thread Cert.Reference21Ideal.nD Cert.Reference21Ideal.τ).loc Cert.Reference21Ideal.main_arg1)
          ∧ r.2.mem ((c.tc : Thread Cert.Reference21Ideal.nD Cert.Reference21Ideal.τ).loc Cert.Reference21Ideal.main_arg2) = m' ((c.tc : Thread Cert.Reference21Ideal.nD Cert.Reference21Ideal.τ).loc Cert.Reference21Ideal.main_arg2)
          ∧ r.2.mem ((c.tc : Thread Cert.Reference21Ideal.nD Cert.Reference21Ideal.τ).loc Cert.Reference21Ideal.main_arg3) = m' ((c.tc : Thread Cert.Reference21Ideal.nD Cert.Reference21Ideal.τ).loc Cert.Reference21Ideal.main_arg3))

def preserves_Kernel22_Kernel22Ideal : Prop :=
  True

def algebraic_Kernel22Ideal_Reference22Ideal [hKernel22Ideal : Cert.Kernel22Ideal.Facts] [hReference22Ideal : Cert.Reference22Ideal.Facts] : Prop :=
  ∀ (m : (ℓ : Loc Cert.Kernel22Ideal.nD Cert.Kernel22Ideal.τ Cert.Kernel22Ideal.sig) → Buf (Elt Ideal) ℓ) (g : Dev Cert.Kernel22Ideal.nD → PrngReg)
    (m' : (ℓ : Loc Cert.Reference22Ideal.nD Cert.Reference22Ideal.τ Cert.Reference22Ideal.sig) → Buf (Elt Ideal) ℓ) (g' : Dev Cert.Reference22Ideal.nD → PrngReg), Pre_Kernel22Ideal m →
    (∀ c : Dev Cert.Kernel22Ideal.nD,
      m' ((c.tc : Thread Cert.Reference22Ideal.nD Cert.Reference22Ideal.τ).loc Cert.Reference22Ideal.main_arg0) = m ((c.tc : Thread Cert.Kernel22Ideal.nD Cert.Kernel22Ideal.τ).loc Cert.Kernel22Ideal.main_arg0)
      ∧ m' ((c.tc : Thread Cert.Reference22Ideal.nD Cert.Reference22Ideal.τ).loc Cert.Reference22Ideal.main_arg1) = m ((c.tc : Thread Cert.Kernel22Ideal.nD Cert.Kernel22Ideal.τ).loc Cert.Kernel22Ideal.main_arg1)
      ∧ m' ((c.tc : Thread Cert.Reference22Ideal.nD Cert.Reference22Ideal.τ).loc Cert.Reference22Ideal.main_arg2) = m ((c.tc : Thread Cert.Kernel22Ideal.nD Cert.Kernel22Ideal.τ).loc Cert.Kernel22Ideal.main_arg2)
      ∧ m' ((c.tc : Thread Cert.Reference22Ideal.nD Cert.Reference22Ideal.τ).loc Cert.Reference22Ideal.main_arg3) = m ((c.tc : Thread Cert.Kernel22Ideal.nD Cert.Kernel22Ideal.τ).loc Cert.Kernel22Ideal.main_arg3)
      ∧ m' ((c.tc : Thread Cert.Reference22Ideal.nD Cert.Reference22Ideal.τ).loc Cert.Reference22Ideal.main_arg4) = m ((c.tc : Thread Cert.Kernel22Ideal.nD Cert.Kernel22Ideal.τ).loc Cert.Kernel22Ideal.main_arg4)) →
    ∃ (v0 : (c : Dev Cert.Kernel22Ideal.nD) → Buf (Elt Ideal) ((c.tc : Thread Cert.Kernel22Ideal.nD Cert.Kernel22Ideal.τ).loc Cert.Kernel22Ideal.main_v3_0)) (v1 : (c : Dev Cert.Kernel22Ideal.nD) → Buf (Elt Ideal) ((c.tc : Thread Cert.Kernel22Ideal.nD Cert.Kernel22Ideal.τ).loc Cert.Kernel22Ideal.main_v3_1)),
      θ_run (Cert.Kernel22Ideal.defs (F := Ideal)) (onTc (τ := Cert.Kernel22Ideal.τ) (Cert.Kernel22Ideal.main (F := Ideal))) ⟨m, fun _ => 0, g⟩ (fun r => ∀ c : Dev Cert.Kernel22Ideal.nD,
          r.2.mem ((c.tc : Thread Cert.Kernel22Ideal.nD Cert.Kernel22Ideal.τ).loc Cert.Kernel22Ideal.main_v3_0) = v0 c
          ∧ r.2.mem ((c.tc : Thread Cert.Kernel22Ideal.nD Cert.Kernel22Ideal.τ).loc Cert.Kernel22Ideal.main_v3_1) = v1 c
          ∧ r.2.mem ((c.tc : Thread Cert.Kernel22Ideal.nD Cert.Kernel22Ideal.τ).loc Cert.Kernel22Ideal.main_arg0) = m ((c.tc : Thread Cert.Kernel22Ideal.nD Cert.Kernel22Ideal.τ).loc Cert.Kernel22Ideal.main_arg0)
          ∧ r.2.mem ((c.tc : Thread Cert.Kernel22Ideal.nD Cert.Kernel22Ideal.τ).loc Cert.Kernel22Ideal.main_arg1) = m ((c.tc : Thread Cert.Kernel22Ideal.nD Cert.Kernel22Ideal.τ).loc Cert.Kernel22Ideal.main_arg1)
          ∧ r.2.mem ((c.tc : Thread Cert.Kernel22Ideal.nD Cert.Kernel22Ideal.τ).loc Cert.Kernel22Ideal.main_arg2) = m ((c.tc : Thread Cert.Kernel22Ideal.nD Cert.Kernel22Ideal.τ).loc Cert.Kernel22Ideal.main_arg2)
          ∧ r.2.mem ((c.tc : Thread Cert.Kernel22Ideal.nD Cert.Kernel22Ideal.τ).loc Cert.Kernel22Ideal.main_arg3) = m ((c.tc : Thread Cert.Kernel22Ideal.nD Cert.Kernel22Ideal.τ).loc Cert.Kernel22Ideal.main_arg3)
          ∧ r.2.mem ((c.tc : Thread Cert.Kernel22Ideal.nD Cert.Kernel22Ideal.τ).loc Cert.Kernel22Ideal.main_arg4) = m ((c.tc : Thread Cert.Kernel22Ideal.nD Cert.Kernel22Ideal.τ).loc Cert.Kernel22Ideal.main_arg4))
      ∧ θ_run (Cert.Reference22Ideal.defs (F := Ideal)) (onTc (τ := Cert.Reference22Ideal.τ) (Cert.Reference22Ideal.main (F := Ideal))) ⟨m', fun _ => 0, g'⟩ (fun r => ∀ c : Dev Cert.Reference22Ideal.nD,
          r.2.mem ((c.tc : Thread Cert.Reference22Ideal.nD Cert.Reference22Ideal.τ).loc Cert.Reference22Ideal.main_v5) = v0 c
          ∧ r.2.mem ((c.tc : Thread Cert.Reference22Ideal.nD Cert.Reference22Ideal.τ).loc Cert.Reference22Ideal.main_v19) = v1 c
          ∧ r.2.mem ((c.tc : Thread Cert.Reference22Ideal.nD Cert.Reference22Ideal.τ).loc Cert.Reference22Ideal.main_arg0) = m' ((c.tc : Thread Cert.Reference22Ideal.nD Cert.Reference22Ideal.τ).loc Cert.Reference22Ideal.main_arg0)
          ∧ r.2.mem ((c.tc : Thread Cert.Reference22Ideal.nD Cert.Reference22Ideal.τ).loc Cert.Reference22Ideal.main_arg1) = m' ((c.tc : Thread Cert.Reference22Ideal.nD Cert.Reference22Ideal.τ).loc Cert.Reference22Ideal.main_arg1)
          ∧ r.2.mem ((c.tc : Thread Cert.Reference22Ideal.nD Cert.Reference22Ideal.τ).loc Cert.Reference22Ideal.main_arg2) = m' ((c.tc : Thread Cert.Reference22Ideal.nD Cert.Reference22Ideal.τ).loc Cert.Reference22Ideal.main_arg2)
          ∧ r.2.mem ((c.tc : Thread Cert.Reference22Ideal.nD Cert.Reference22Ideal.τ).loc Cert.Reference22Ideal.main_arg3) = m' ((c.tc : Thread Cert.Reference22Ideal.nD Cert.Reference22Ideal.τ).loc Cert.Reference22Ideal.main_arg3)
          ∧ r.2.mem ((c.tc : Thread Cert.Reference22Ideal.nD Cert.Reference22Ideal.τ).loc Cert.Reference22Ideal.main_arg4) = m' ((c.tc : Thread Cert.Reference22Ideal.nD Cert.Reference22Ideal.τ).loc Cert.Reference22Ideal.main_arg4))

def preserves_Kernel23_Kernel23Ideal : Prop :=
  True

def algebraic_Kernel23Ideal_Reference23Ideal [hKernel23Ideal : Cert.Kernel23Ideal.Facts] [hReference23Ideal : Cert.Reference23Ideal.Facts] : Prop :=
  ∀ (m : (ℓ : Loc Cert.Kernel23Ideal.nD Cert.Kernel23Ideal.τ Cert.Kernel23Ideal.sig) → Buf (Elt Ideal) ℓ) (g : Dev Cert.Kernel23Ideal.nD → PrngReg)
    (m' : (ℓ : Loc Cert.Reference23Ideal.nD Cert.Reference23Ideal.τ Cert.Reference23Ideal.sig) → Buf (Elt Ideal) ℓ) (g' : Dev Cert.Reference23Ideal.nD → PrngReg), Pre_Kernel23Ideal m →
    (∀ c : Dev Cert.Kernel23Ideal.nD,
      m' ((c.tc : Thread Cert.Reference23Ideal.nD Cert.Reference23Ideal.τ).loc Cert.Reference23Ideal.main_arg0) = m ((c.tc : Thread Cert.Kernel23Ideal.nD Cert.Kernel23Ideal.τ).loc Cert.Kernel23Ideal.main_arg0)
      ∧ m' ((c.tc : Thread Cert.Reference23Ideal.nD Cert.Reference23Ideal.τ).loc Cert.Reference23Ideal.main_arg1) = m ((c.tc : Thread Cert.Kernel23Ideal.nD Cert.Kernel23Ideal.τ).loc Cert.Kernel23Ideal.main_arg1)
      ∧ m' ((c.tc : Thread Cert.Reference23Ideal.nD Cert.Reference23Ideal.τ).loc Cert.Reference23Ideal.main_arg2) = m ((c.tc : Thread Cert.Kernel23Ideal.nD Cert.Kernel23Ideal.τ).loc Cert.Kernel23Ideal.main_arg2)
      ∧ m' ((c.tc : Thread Cert.Reference23Ideal.nD Cert.Reference23Ideal.τ).loc Cert.Reference23Ideal.main_arg3) = m ((c.tc : Thread Cert.Kernel23Ideal.nD Cert.Kernel23Ideal.τ).loc Cert.Kernel23Ideal.main_arg3)) →
    ∃ (v0 : (c : Dev Cert.Kernel23Ideal.nD) → Buf (Elt Ideal) ((c.tc : Thread Cert.Kernel23Ideal.nD Cert.Kernel23Ideal.τ).loc Cert.Kernel23Ideal.main_v2_0)) (v1 : (c : Dev Cert.Kernel23Ideal.nD) → Buf (Elt Ideal) ((c.tc : Thread Cert.Kernel23Ideal.nD Cert.Kernel23Ideal.τ).loc Cert.Kernel23Ideal.main_v2_1)),
      θ_run (Cert.Kernel23Ideal.defs (F := Ideal)) (onTc (τ := Cert.Kernel23Ideal.τ) (Cert.Kernel23Ideal.main (F := Ideal))) ⟨m, fun _ => 0, g⟩ (fun r => ∀ c : Dev Cert.Kernel23Ideal.nD,
          r.2.mem ((c.tc : Thread Cert.Kernel23Ideal.nD Cert.Kernel23Ideal.τ).loc Cert.Kernel23Ideal.main_v2_0) = v0 c
          ∧ r.2.mem ((c.tc : Thread Cert.Kernel23Ideal.nD Cert.Kernel23Ideal.τ).loc Cert.Kernel23Ideal.main_v2_1) = v1 c
          ∧ r.2.mem ((c.tc : Thread Cert.Kernel23Ideal.nD Cert.Kernel23Ideal.τ).loc Cert.Kernel23Ideal.main_arg0) = m ((c.tc : Thread Cert.Kernel23Ideal.nD Cert.Kernel23Ideal.τ).loc Cert.Kernel23Ideal.main_arg0)
          ∧ r.2.mem ((c.tc : Thread Cert.Kernel23Ideal.nD Cert.Kernel23Ideal.τ).loc Cert.Kernel23Ideal.main_arg1) = m ((c.tc : Thread Cert.Kernel23Ideal.nD Cert.Kernel23Ideal.τ).loc Cert.Kernel23Ideal.main_arg1)
          ∧ r.2.mem ((c.tc : Thread Cert.Kernel23Ideal.nD Cert.Kernel23Ideal.τ).loc Cert.Kernel23Ideal.main_arg2) = m ((c.tc : Thread Cert.Kernel23Ideal.nD Cert.Kernel23Ideal.τ).loc Cert.Kernel23Ideal.main_arg2)
          ∧ r.2.mem ((c.tc : Thread Cert.Kernel23Ideal.nD Cert.Kernel23Ideal.τ).loc Cert.Kernel23Ideal.main_arg3) = m ((c.tc : Thread Cert.Kernel23Ideal.nD Cert.Kernel23Ideal.τ).loc Cert.Kernel23Ideal.main_arg3))
      ∧ θ_run (Cert.Reference23Ideal.defs (F := Ideal)) (onTc (τ := Cert.Reference23Ideal.τ) (Cert.Reference23Ideal.main (F := Ideal))) ⟨m', fun _ => 0, g'⟩ (fun r => ∀ c : Dev Cert.Reference23Ideal.nD,
          r.2.mem ((c.tc : Thread Cert.Reference23Ideal.nD Cert.Reference23Ideal.τ).loc Cert.Reference23Ideal.main_v2) = v0 c
          ∧ r.2.mem ((c.tc : Thread Cert.Reference23Ideal.nD Cert.Reference23Ideal.τ).loc Cert.Reference23Ideal.main_v16) = v1 c
          ∧ r.2.mem ((c.tc : Thread Cert.Reference23Ideal.nD Cert.Reference23Ideal.τ).loc Cert.Reference23Ideal.main_arg0) = m' ((c.tc : Thread Cert.Reference23Ideal.nD Cert.Reference23Ideal.τ).loc Cert.Reference23Ideal.main_arg0)
          ∧ r.2.mem ((c.tc : Thread Cert.Reference23Ideal.nD Cert.Reference23Ideal.τ).loc Cert.Reference23Ideal.main_arg1) = m' ((c.tc : Thread Cert.Reference23Ideal.nD Cert.Reference23Ideal.τ).loc Cert.Reference23Ideal.main_arg1)
          ∧ r.2.mem ((c.tc : Thread Cert.Reference23Ideal.nD Cert.Reference23Ideal.τ).loc Cert.Reference23Ideal.main_arg2) = m' ((c.tc : Thread Cert.Reference23Ideal.nD Cert.Reference23Ideal.τ).loc Cert.Reference23Ideal.main_arg2)
          ∧ r.2.mem ((c.tc : Thread Cert.Reference23Ideal.nD Cert.Reference23Ideal.τ).loc Cert.Reference23Ideal.main_arg3) = m' ((c.tc : Thread Cert.Reference23Ideal.nD Cert.Reference23Ideal.τ).loc Cert.Reference23Ideal.main_arg3))

def preserves_Kernel24_Kernel24Ideal : Prop :=
  True

def algebraic_Kernel24Ideal_Reference24Ideal [hKernel24Ideal : Cert.Kernel24Ideal.Facts] [hReference24Ideal : Cert.Reference24Ideal.Facts] : Prop :=
  ∀ (m : (ℓ : Loc Cert.Kernel24Ideal.nD Cert.Kernel24Ideal.τ Cert.Kernel24Ideal.sig) → Buf (Elt Ideal) ℓ) (g : Dev Cert.Kernel24Ideal.nD → PrngReg)
    (m' : (ℓ : Loc Cert.Reference24Ideal.nD Cert.Reference24Ideal.τ Cert.Reference24Ideal.sig) → Buf (Elt Ideal) ℓ) (g' : Dev Cert.Reference24Ideal.nD → PrngReg), Pre_Kernel24Ideal m →
    (∀ c : Dev Cert.Kernel24Ideal.nD,
      m' ((c.tc : Thread Cert.Reference24Ideal.nD Cert.Reference24Ideal.τ).loc Cert.Reference24Ideal.main_arg0) = m ((c.tc : Thread Cert.Kernel24Ideal.nD Cert.Kernel24Ideal.τ).loc Cert.Kernel24Ideal.main_arg0)
      ∧ m' ((c.tc : Thread Cert.Reference24Ideal.nD Cert.Reference24Ideal.τ).loc Cert.Reference24Ideal.main_arg1) = m ((c.tc : Thread Cert.Kernel24Ideal.nD Cert.Kernel24Ideal.τ).loc Cert.Kernel24Ideal.main_arg1)) →
    ∃ (v0 : (c : Dev Cert.Kernel24Ideal.nD) → Buf (Elt Ideal) ((c.tc : Thread Cert.Kernel24Ideal.nD Cert.Kernel24Ideal.τ).loc Cert.Kernel24Ideal.main_v3)),
      θ_run (Cert.Kernel24Ideal.defs (F := Ideal)) (onTc (τ := Cert.Kernel24Ideal.τ) (Cert.Kernel24Ideal.main (F := Ideal))) ⟨m, fun _ => 0, g⟩ (fun r => ∀ c : Dev Cert.Kernel24Ideal.nD,
          r.2.mem ((c.tc : Thread Cert.Kernel24Ideal.nD Cert.Kernel24Ideal.τ).loc Cert.Kernel24Ideal.main_v3) = v0 c
          ∧ r.2.mem ((c.tc : Thread Cert.Kernel24Ideal.nD Cert.Kernel24Ideal.τ).loc Cert.Kernel24Ideal.main_arg0) = m ((c.tc : Thread Cert.Kernel24Ideal.nD Cert.Kernel24Ideal.τ).loc Cert.Kernel24Ideal.main_arg0)
          ∧ r.2.mem ((c.tc : Thread Cert.Kernel24Ideal.nD Cert.Kernel24Ideal.τ).loc Cert.Kernel24Ideal.main_arg1) = m ((c.tc : Thread Cert.Kernel24Ideal.nD Cert.Kernel24Ideal.τ).loc Cert.Kernel24Ideal.main_arg1))
      ∧ θ_run (Cert.Reference24Ideal.defs (F := Ideal)) (onTc (τ := Cert.Reference24Ideal.τ) (Cert.Reference24Ideal.main (F := Ideal))) ⟨m', fun _ => 0, g'⟩ (fun r => ∀ c : Dev Cert.Reference24Ideal.nD,
          r.2.mem ((c.tc : Thread Cert.Reference24Ideal.nD Cert.Reference24Ideal.τ).loc Cert.Reference24Ideal.main_v3) = v0 c
          ∧ r.2.mem ((c.tc : Thread Cert.Reference24Ideal.nD Cert.Reference24Ideal.τ).loc Cert.Reference24Ideal.main_arg0) = m' ((c.tc : Thread Cert.Reference24Ideal.nD Cert.Reference24Ideal.τ).loc Cert.Reference24Ideal.main_arg0)
          ∧ r.2.mem ((c.tc : Thread Cert.Reference24Ideal.nD Cert.Reference24Ideal.τ).loc Cert.Reference24Ideal.main_arg1) = m' ((c.tc : Thread Cert.Reference24Ideal.nD Cert.Reference24Ideal.τ).loc Cert.Reference24Ideal.main_arg1))

def preserves_Kernel25_Kernel25Ideal : Prop :=
  True

def algebraic_Kernel25Ideal_Reference25Ideal [hKernel25Ideal : Cert.Kernel25Ideal.Facts] [hReference25Ideal : Cert.Reference25Ideal.Facts] : Prop :=
  ∀ (m : (ℓ : Loc Cert.Kernel25Ideal.nD Cert.Kernel25Ideal.τ Cert.Kernel25Ideal.sig) → Buf (Elt Ideal) ℓ) (g : Dev Cert.Kernel25Ideal.nD → PrngReg)
    (m' : (ℓ : Loc Cert.Reference25Ideal.nD Cert.Reference25Ideal.τ Cert.Reference25Ideal.sig) → Buf (Elt Ideal) ℓ) (g' : Dev Cert.Reference25Ideal.nD → PrngReg), Pre_Kernel25Ideal m →
    (∀ c : Dev Cert.Kernel25Ideal.nD,
      m' ((c.tc : Thread Cert.Reference25Ideal.nD Cert.Reference25Ideal.τ).loc Cert.Reference25Ideal.main_arg0) = m ((c.tc : Thread Cert.Kernel25Ideal.nD Cert.Kernel25Ideal.τ).loc Cert.Kernel25Ideal.main_arg0)
      ∧ m' ((c.tc : Thread Cert.Reference25Ideal.nD Cert.Reference25Ideal.τ).loc Cert.Reference25Ideal.main_arg1) = m ((c.tc : Thread Cert.Kernel25Ideal.nD Cert.Kernel25Ideal.τ).loc Cert.Kernel25Ideal.main_arg1)) →
    ∃ (v0 : (c : Dev Cert.Kernel25Ideal.nD) → Buf (Elt Ideal) ((c.tc : Thread Cert.Kernel25Ideal.nD Cert.Kernel25Ideal.τ).loc Cert.Kernel25Ideal.main_v0_0)) (v1 : (c : Dev Cert.Kernel25Ideal.nD) → Buf (Elt Ideal) ((c.tc : Thread Cert.Kernel25Ideal.nD Cert.Kernel25Ideal.τ).loc Cert.Kernel25Ideal.main_v0_1)),
      θ_run (Cert.Kernel25Ideal.defs (F := Ideal)) (onTc (τ := Cert.Kernel25Ideal.τ) (Cert.Kernel25Ideal.main (F := Ideal))) ⟨m, fun _ => 0, g⟩ (fun r => ∀ c : Dev Cert.Kernel25Ideal.nD,
          r.2.mem ((c.tc : Thread Cert.Kernel25Ideal.nD Cert.Kernel25Ideal.τ).loc Cert.Kernel25Ideal.main_v0_0) = v0 c
          ∧ r.2.mem ((c.tc : Thread Cert.Kernel25Ideal.nD Cert.Kernel25Ideal.τ).loc Cert.Kernel25Ideal.main_v0_1) = v1 c
          ∧ r.2.mem ((c.tc : Thread Cert.Kernel25Ideal.nD Cert.Kernel25Ideal.τ).loc Cert.Kernel25Ideal.main_arg0) = m ((c.tc : Thread Cert.Kernel25Ideal.nD Cert.Kernel25Ideal.τ).loc Cert.Kernel25Ideal.main_arg0)
          ∧ r.2.mem ((c.tc : Thread Cert.Kernel25Ideal.nD Cert.Kernel25Ideal.τ).loc Cert.Kernel25Ideal.main_arg1) = m ((c.tc : Thread Cert.Kernel25Ideal.nD Cert.Kernel25Ideal.τ).loc Cert.Kernel25Ideal.main_arg1))
      ∧ θ_run (Cert.Reference25Ideal.defs (F := Ideal)) (onTc (τ := Cert.Reference25Ideal.τ) (Cert.Reference25Ideal.main (F := Ideal))) ⟨m', fun _ => 0, g'⟩ (fun r => ∀ c : Dev Cert.Reference25Ideal.nD,
          r.2.mem ((c.tc : Thread Cert.Reference25Ideal.nD Cert.Reference25Ideal.τ).loc Cert.Reference25Ideal.main_v7) = v0 c
          ∧ r.2.mem ((c.tc : Thread Cert.Reference25Ideal.nD Cert.Reference25Ideal.τ).loc Cert.Reference25Ideal.main_v8) = v1 c
          ∧ r.2.mem ((c.tc : Thread Cert.Reference25Ideal.nD Cert.Reference25Ideal.τ).loc Cert.Reference25Ideal.main_arg0) = m' ((c.tc : Thread Cert.Reference25Ideal.nD Cert.Reference25Ideal.τ).loc Cert.Reference25Ideal.main_arg0)
          ∧ r.2.mem ((c.tc : Thread Cert.Reference25Ideal.nD Cert.Reference25Ideal.τ).loc Cert.Reference25Ideal.main_arg1) = m' ((c.tc : Thread Cert.Reference25Ideal.nD Cert.Reference25Ideal.τ).loc Cert.Reference25Ideal.main_arg1))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hKernel7 : Cert.Kernel7.Facts) (hKernel7Ideal : Cert.Kernel7Ideal.Facts) (hReference7Ideal : Cert.Reference7Ideal.Facts) (hKernel8 : Cert.Kernel8.Facts) (hKernel8Ideal : Cert.Kernel8Ideal.Facts) (hReference8Ideal : Cert.Reference8Ideal.Facts) (hKernel9 : Cert.Kernel9.Facts) (hKernel9Ideal : Cert.Kernel9Ideal.Facts) (hReference9Ideal : Cert.Reference9Ideal.Facts) (hKernel10 : Cert.Kernel10.Facts) (hKernel10Ideal : Cert.Kernel10Ideal.Facts) (hReference10Ideal : Cert.Reference10Ideal.Facts) (hKernel11 : Cert.Kernel11.Facts) (hKernel11Ideal : Cert.Kernel11Ideal.Facts) (hReference11Ideal : Cert.Reference11Ideal.Facts) (hKernel12 : Cert.Kernel12.Facts) (hKernel12Ideal : Cert.Kernel12Ideal.Facts) (hReference12Ideal : Cert.Reference12Ideal.Facts) (hKernel13 : Cert.Kernel13.Facts) (hKernel13Ideal : Cert.Kernel13Ideal.Facts) (hReference13Ideal : Cert.Reference13Ideal.Facts) (hKernel14 : Cert.Kernel14.Facts) (hKernel14Ideal : Cert.Kernel14Ideal.Facts) (hReference14Ideal : Cert.Reference14Ideal.Facts) (hKernel15 : Cert.Kernel15.Facts) (hKernel15Ideal : Cert.Kernel15Ideal.Facts) (hReference15Ideal : Cert.Reference15Ideal.Facts) (hKernel16 : Cert.Kernel16.Facts) (hKernel16Ideal : Cert.Kernel16Ideal.Facts) (hReference16Ideal : Cert.Reference16Ideal.Facts) (hKernel17 : Cert.Kernel17.Facts) (hKernel17Ideal : Cert.Kernel17Ideal.Facts) (hReference17Ideal : Cert.Reference17Ideal.Facts) (hKernel18 : Cert.Kernel18.Facts) (hKernel18Ideal : Cert.Kernel18Ideal.Facts) (hReference18Ideal : Cert.Reference18Ideal.Facts) (hKernel19 : Cert.Kernel19.Facts) (hKernel19Ideal : Cert.Kernel19Ideal.Facts) (hReference19Ideal : Cert.Reference19Ideal.Facts) (hKernel20 : Cert.Kernel20.Facts) (hKernel20Ideal : Cert.Kernel20Ideal.Facts) (hReference20Ideal : Cert.Reference20Ideal.Facts) (hKernel21 : Cert.Kernel21.Facts) (hKernel21Ideal : Cert.Kernel21Ideal.Facts) (hReference21Ideal : Cert.Reference21Ideal.Facts) (hKernel22 : Cert.Kernel22.Facts) (hKernel22Ideal : Cert.Kernel22Ideal.Facts) (hReference22Ideal : Cert.Reference22Ideal.Facts) (hKernel23 : Cert.Kernel23.Facts) (hKernel23Ideal : Cert.Kernel23Ideal.Facts) (hReference23Ideal : Cert.Reference23Ideal.Facts) (hKernel24 : Cert.Kernel24.Facts) (hKernel24Ideal : Cert.Kernel24Ideal.Facts) (hReference24Ideal : Cert.Reference24Ideal.Facts) (hKernel25 : Cert.Kernel25.Facts) (hKernel25Ideal : Cert.Kernel25Ideal.Facts) (hReference25Ideal : Cert.Reference25Ideal.Facts),
    quiescent_Kernel (hKernel := hKernel)
    ∧ quiescent_KernelIdeal (hKernelIdeal := hKernelIdeal)
    ∧ quiescent_ReferenceIdeal (hReferenceIdeal := hReferenceIdeal)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Reference5Ideal (hReference5Ideal := hReference5Ideal)
    ∧ quiescent_Kernel6 (hKernel6 := hKernel6)
    ∧ quiescent_Kernel6Ideal (hKernel6Ideal := hKernel6Ideal)
    ∧ quiescent_Reference6Ideal (hReference6Ideal := hReference6Ideal)
    ∧ quiescent_Kernel7 (hKernel7 := hKernel7)
    ∧ quiescent_Kernel7Ideal (hKernel7Ideal := hKernel7Ideal)
    ∧ quiescent_Reference7Ideal (hReference7Ideal := hReference7Ideal)
    ∧ quiescent_Kernel8 (hKernel8 := hKernel8)
    ∧ quiescent_Kernel8Ideal (hKernel8Ideal := hKernel8Ideal)
    ∧ quiescent_Reference8Ideal (hReference8Ideal := hReference8Ideal)
    ∧ quiescent_Kernel9 (hKernel9 := hKernel9)
    ∧ quiescent_Kernel9Ideal (hKernel9Ideal := hKernel9Ideal)
    ∧ quiescent_Reference9Ideal (hReference9Ideal := hReference9Ideal)
    ∧ quiescent_Kernel10 (hKernel10 := hKernel10)
    ∧ quiescent_Kernel10Ideal (hKernel10Ideal := hKernel10Ideal)
    ∧ quiescent_Reference10Ideal (hReference10Ideal := hReference10Ideal)
    ∧ quiescent_Kernel11 (hKernel11 := hKernel11)
    ∧ quiescent_Kernel11Ideal (hKernel11Ideal := hKernel11Ideal)
    ∧ quiescent_Reference11Ideal (hReference11Ideal := hReference11Ideal)
    ∧ quiescent_Kernel12 (hKernel12 := hKernel12)
    ∧ quiescent_Kernel12Ideal (hKernel12Ideal := hKernel12Ideal)
    ∧ quiescent_Reference12Ideal (hReference12Ideal := hReference12Ideal)
    ∧ quiescent_Kernel13 (hKernel13 := hKernel13)
    ∧ quiescent_Kernel13Ideal (hKernel13Ideal := hKernel13Ideal)
    ∧ quiescent_Reference13Ideal (hReference13Ideal := hReference13Ideal)
    ∧ quiescent_Kernel14 (hKernel14 := hKernel14)
    ∧ quiescent_Kernel14Ideal (hKernel14Ideal := hKernel14Ideal)
    ∧ quiescent_Reference14Ideal (hReference14Ideal := hReference14Ideal)
    ∧ quiescent_Kernel15 (hKernel15 := hKernel15)
    ∧ quiescent_Kernel15Ideal (hKernel15Ideal := hKernel15Ideal)
    ∧ quiescent_Reference15Ideal (hReference15Ideal := hReference15Ideal)
    ∧ quiescent_Kernel16 (hKernel16 := hKernel16)
    ∧ quiescent_Kernel16Ideal (hKernel16Ideal := hKernel16Ideal)
    ∧ quiescent_Reference16Ideal (hReference16Ideal := hReference16Ideal)
    ∧ quiescent_Kernel17 (hKernel17 := hKernel17)
    ∧ quiescent_Kernel17Ideal (hKernel17Ideal := hKernel17Ideal)
    ∧ quiescent_Reference17Ideal (hReference17Ideal := hReference17Ideal)
    ∧ quiescent_Kernel18 (hKernel18 := hKernel18)
    ∧ quiescent_Kernel18Ideal (hKernel18Ideal := hKernel18Ideal)
    ∧ quiescent_Reference18Ideal (hReference18Ideal := hReference18Ideal)
    ∧ quiescent_Kernel19 (hKernel19 := hKernel19)
    ∧ quiescent_Kernel19Ideal (hKernel19Ideal := hKernel19Ideal)
    ∧ quiescent_Reference19Ideal (hReference19Ideal := hReference19Ideal)
    ∧ quiescent_Kernel20 (hKernel20 := hKernel20)
    ∧ quiescent_Kernel20Ideal (hKernel20Ideal := hKernel20Ideal)
    ∧ quiescent_Reference20Ideal (hReference20Ideal := hReference20Ideal)
    ∧ quiescent_Kernel21 (hKernel21 := hKernel21)
    ∧ quiescent_Kernel21Ideal (hKernel21Ideal := hKernel21Ideal)
    ∧ quiescent_Reference21Ideal (hReference21Ideal := hReference21Ideal)
    ∧ quiescent_Kernel22 (hKernel22 := hKernel22)
    ∧ quiescent_Kernel22Ideal (hKernel22Ideal := hKernel22Ideal)
    ∧ quiescent_Reference22Ideal (hReference22Ideal := hReference22Ideal)
    ∧ quiescent_Kernel23 (hKernel23 := hKernel23)
    ∧ quiescent_Kernel23Ideal (hKernel23Ideal := hKernel23Ideal)
    ∧ quiescent_Reference23Ideal (hReference23Ideal := hReference23Ideal)
    ∧ quiescent_Kernel24 (hKernel24 := hKernel24)
    ∧ quiescent_Kernel24Ideal (hKernel24Ideal := hKernel24Ideal)
    ∧ quiescent_Reference24Ideal (hReference24Ideal := hReference24Ideal)
    ∧ quiescent_Kernel25 (hKernel25 := hKernel25)
    ∧ quiescent_Kernel25Ideal (hKernel25Ideal := hKernel25Ideal)
    ∧ quiescent_Reference25Ideal (hReference25Ideal := hReference25Ideal)
    ∧ preserves_Kernel_KernelIdeal
    ∧ algebraic_KernelIdeal_ReferenceIdeal (hKernelIdeal := hKernelIdeal) (hReferenceIdeal := hReferenceIdeal)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal (hKernel5Ideal := hKernel5Ideal) (hReference5Ideal := hReference5Ideal)
    ∧ preserves_Kernel6_Kernel6Ideal
    ∧ algebraic_Kernel6Ideal_Reference6Ideal (hKernel6Ideal := hKernel6Ideal) (hReference6Ideal := hReference6Ideal)
    ∧ preserves_Kernel7_Kernel7Ideal
    ∧ algebraic_Kernel7Ideal_Reference7Ideal (hKernel7Ideal := hKernel7Ideal) (hReference7Ideal := hReference7Ideal)
    ∧ preserves_Kernel8_Kernel8Ideal
    ∧ algebraic_Kernel8Ideal_Reference8Ideal (hKernel8Ideal := hKernel8Ideal) (hReference8Ideal := hReference8Ideal)
    ∧ preserves_Kernel9_Kernel9Ideal
    ∧ algebraic_Kernel9Ideal_Reference9Ideal (hKernel9Ideal := hKernel9Ideal) (hReference9Ideal := hReference9Ideal)
    ∧ preserves_Kernel10_Kernel10Ideal
    ∧ algebraic_Kernel10Ideal_Reference10Ideal (hKernel10Ideal := hKernel10Ideal) (hReference10Ideal := hReference10Ideal)
    ∧ preserves_Kernel11_Kernel11Ideal
    ∧ algebraic_Kernel11Ideal_Reference11Ideal (hKernel11Ideal := hKernel11Ideal) (hReference11Ideal := hReference11Ideal)
    ∧ preserves_Kernel12_Kernel12Ideal
    ∧ algebraic_Kernel12Ideal_Reference12Ideal (hKernel12Ideal := hKernel12Ideal) (hReference12Ideal := hReference12Ideal)
    ∧ preserves_Kernel13_Kernel13Ideal
    ∧ algebraic_Kernel13Ideal_Reference13Ideal (hKernel13Ideal := hKernel13Ideal) (hReference13Ideal := hReference13Ideal)
    ∧ preserves_Kernel14_Kernel14Ideal
    ∧ algebraic_Kernel14Ideal_Reference14Ideal (hKernel14Ideal := hKernel14Ideal) (hReference14Ideal := hReference14Ideal)
    ∧ preserves_Kernel15_Kernel15Ideal
    ∧ algebraic_Kernel15Ideal_Reference15Ideal (hKernel15Ideal := hKernel15Ideal) (hReference15Ideal := hReference15Ideal)
    ∧ preserves_Kernel16_Kernel16Ideal
    ∧ algebraic_Kernel16Ideal_Reference16Ideal (hKernel16Ideal := hKernel16Ideal) (hReference16Ideal := hReference16Ideal)
    ∧ preserves_Kernel17_Kernel17Ideal
    ∧ algebraic_Kernel17Ideal_Reference17Ideal (hKernel17Ideal := hKernel17Ideal) (hReference17Ideal := hReference17Ideal)
    ∧ preserves_Kernel18_Kernel18Ideal
    ∧ algebraic_Kernel18Ideal_Reference18Ideal (hKernel18Ideal := hKernel18Ideal) (hReference18Ideal := hReference18Ideal)
    ∧ preserves_Kernel19_Kernel19Ideal
    ∧ algebraic_Kernel19Ideal_Reference19Ideal (hKernel19Ideal := hKernel19Ideal) (hReference19Ideal := hReference19Ideal)
    ∧ preserves_Kernel20_Kernel20Ideal
    ∧ algebraic_Kernel20Ideal_Reference20Ideal (hKernel20Ideal := hKernel20Ideal) (hReference20Ideal := hReference20Ideal)
    ∧ preserves_Kernel21_Kernel21Ideal
    ∧ algebraic_Kernel21Ideal_Reference21Ideal (hKernel21Ideal := hKernel21Ideal) (hReference21Ideal := hReference21Ideal)
    ∧ preserves_Kernel22_Kernel22Ideal
    ∧ algebraic_Kernel22Ideal_Reference22Ideal (hKernel22Ideal := hKernel22Ideal) (hReference22Ideal := hReference22Ideal)
    ∧ preserves_Kernel23_Kernel23Ideal
    ∧ algebraic_Kernel23Ideal_Reference23Ideal (hKernel23Ideal := hKernel23Ideal) (hReference23Ideal := hReference23Ideal)
    ∧ preserves_Kernel24_Kernel24Ideal
    ∧ algebraic_Kernel24Ideal_Reference24Ideal (hKernel24Ideal := hKernel24Ideal) (hReference24Ideal := hReference24Ideal)
    ∧ preserves_Kernel25_Kernel25Ideal
    ∧ algebraic_Kernel25Ideal_Reference25Ideal (hKernel25Ideal := hKernel25Ideal) (hReference25Ideal := hReference25Ideal)
-- ==== Kernel.lean ====
abbrev S8192x1024 : Shape := ⟨2, ![8192, 1024]⟩
abbrev S4x128x128 : Shape := ⟨3, ![4, 128, 128]⟩
abbrev S4x128 : Shape := ⟨2, ![4, 128]⟩
abbrev S_ : Shape := ⟨0, ![]⟩
abbrev S128x128 : Shape := ⟨2, ![128, 128]⟩
abbrev S1x128x128 : Shape := ⟨3, ![1, 128, 128]⟩
abbrev S128x4 : Shape := ⟨2, ![128, 4]⟩
abbrev S128x4x256 : Shape := ⟨3, ![128, 4, 256]⟩
abbrev S128x1024 : Shape := ⟨2, ![128, 1024]⟩
abbrev S128x256 : Shape := ⟨2, ![128, 256]⟩

abbrev nBuf : Space → Nat
  | .hbm => 34
  | .vmem => 14
  | .smem => 0
  | _ => 0

abbrev bufTy : (tb : Table) → Fin (tcTables nBuf tb) → BufTy
  | .hbm, ⟨0, _⟩ => ⟨S8192x1024, .f32⟩
  | .hbm, ⟨1, _⟩ => ⟨S8192x1024, .bf16⟩
  | .hbm, ⟨2, _⟩ => ⟨S8192x1024, .bf16⟩
  | .hbm, ⟨3, _⟩ => ⟨S4x128x128, .f32⟩
  | .hbm, ⟨4, _⟩ => ⟨S4x128, .f32⟩
  | .hbm, ⟨5, _⟩ => ⟨S_, .i1⟩
  | .hbm, ⟨6, _⟩ => ⟨S128x128, .i1⟩
  | .hbm, ⟨7, _⟩ => ⟨S128x128, .i32⟩
  | .hbm, ⟨8, _⟩ => ⟨S_, .i32⟩
  | .hbm, ⟨9, _⟩ => ⟨S128x128, .i32⟩
  | .hbm, ⟨10, _⟩ => ⟨S128x128, .i32⟩
  | .hbm, ⟨11, _⟩ => ⟨S128x128, .i32⟩
  | .hbm, ⟨12, _⟩ => ⟨S128x128, .i1⟩
  | .hbm, ⟨13, _⟩ => ⟨S_, .i1⟩
  | .hbm, ⟨14, _⟩ => ⟨S128x128, .i1⟩
  | .hbm, ⟨15, _⟩ => ⟨S128x128, .i1⟩
  | .hbm, ⟨16, _⟩ => ⟨S1x128x128, .i1⟩
  | .hbm, ⟨17, _⟩ => ⟨S_, .f32⟩
  | .hbm, ⟨18, _⟩ => ⟨S_, .f32⟩
  | .hbm, ⟨19, _⟩ => ⟨S4x128x128, .i1⟩
  | .hbm, ⟨20, _⟩ => ⟨S4x128x128, .f32⟩
  | .hbm, ⟨21, _⟩ => ⟨S4x128x128, .f32⟩
  | .hbm, ⟨22, _⟩ => ⟨S4x128x128, .bf16⟩
  | .hbm, ⟨23, _⟩ => ⟨S128x4, .f32⟩
  | .hbm, ⟨24, _⟩ => ⟨S128x4x256, .f32⟩
  | .hbm, ⟨25, _⟩ => ⟨S128x1024, .f32⟩
  | .hbm, ⟨26, _⟩ => ⟨S8192x1024, .f32⟩
  | .hbm, ⟨27, _⟩ => ⟨S8192x1024, .f32⟩
  | .hbm, ⟨28, _⟩ => ⟨S4x128x128, .f32⟩
  | .hbm, ⟨29, _⟩ => ⟨S128x1024, .f32⟩
  | .hbm, ⟨30, _⟩ => ⟨S128x4x256, .f32⟩
  | .hbm, ⟨31, _⟩ => ⟨S_, .f32⟩
  | .hbm, ⟨32, _⟩ => ⟨S128x4, .f32⟩
  | .hbm, ⟨33, _⟩ => ⟨S4x128, .f32⟩
  | .local _ .vmem, ⟨0, _⟩ => ⟨S128x1024, .f32⟩
  | .local _ .vmem, ⟨1, _⟩ => ⟨S128x1024, .f32⟩
  | .local _ .vmem, ⟨2, _⟩ => ⟨S128x1024, .bf16⟩
  | .local _ .vmem, ⟨3, _⟩ => ⟨S128x1024, .bf16⟩
  | .local _ .vmem, ⟨4, _⟩ => ⟨S128x1024, .bf16⟩
  | .local _ .vmem, ⟨5, _⟩ => ⟨S128x1024, .bf16⟩
  | .local _ .vmem, ⟨6, _⟩ => ⟨S4x128x128, .bf16⟩
  | .local _ .vmem, ⟨7, _⟩ => ⟨S128x1024, .f32⟩
  | .local _ .vmem, ⟨8, _⟩ => ⟨S128x1024, .f32⟩
  | .local _ .vmem, ⟨9, _⟩ => ⟨S128x1024, .f32⟩
  | .local _ .vmem, ⟨10, _⟩ => ⟨S128x1024, .f32⟩
  | .local _ .vmem, ⟨11, _⟩ => ⟨S128x1024, .f32⟩
  | .local _ .vmem, ⟨12, _⟩ => ⟨S4x128x128, .f32⟩
  | .local _ .vmem, ⟨13, _⟩ => ⟨S128x1024, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_c : Ref sig .tc := ⟨.hbm, 5, rfl⟩
abbrev main_v0 : Ref sig .tc := ⟨.hbm, 6, rfl⟩
abbrev main_call0_v0 : Ref sig .tc := ⟨.hbm, 7, rfl⟩
abbrev main_call0_c : Ref sig .tc := ⟨.hbm, 8, rfl⟩
abbrev main_call0_v1 : Ref sig .tc := ⟨.hbm, 9, rfl⟩
abbrev main_call0_v2 : Ref sig .tc := ⟨.hbm, 10, rfl⟩
abbrev main_call0_v3 : Ref sig .tc := ⟨.hbm, 11, rfl⟩
abbrev main_call0_v4 : Ref sig .tc := ⟨.hbm, 12, rfl⟩
abbrev main_call0_c_0 : Ref sig .tc := ⟨.hbm, 13, rfl⟩
abbrev main_call0_v5 : Ref sig .tc := ⟨.hbm, 14, rfl⟩
abbrev main_v1 : Ref sig .tc := ⟨.hbm, 15, rfl⟩
abbrev main_v2 : Ref sig .tc := ⟨.hbm, 16, rfl⟩
abbrev main_cst : Ref sig .tc := ⟨.hbm, 17, rfl⟩
abbrev main_call1_v0 : Ref sig .tc := ⟨.hbm, 18, rfl⟩
abbrev main_call1_v1 : Ref sig .tc := ⟨.hbm, 19, rfl⟩
abbrev main_call1_v2 : Ref sig .tc := ⟨.hbm, 20, rfl⟩
abbrev main_v3 : Ref sig .tc := ⟨.hbm, 21, rfl⟩
abbrev main_v4 : Ref sig .tc := ⟨.hbm, 22, rfl⟩
abbrev main_v5 : Ref sig .tc := ⟨.hbm, 23, rfl⟩
abbrev main_v6 : Ref sig .tc := ⟨.hbm, 24, rfl⟩
abbrev main_v7 : Ref sig .tc := ⟨.hbm, 25, rfl⟩
abbrev main_v8_0 : Ref sig .tc := ⟨.hbm, 26, rfl⟩
abbrev main_v8_1 : Ref sig .tc := ⟨.hbm, 27, rfl⟩
abbrev main_v8_2 : Ref sig .tc := ⟨.hbm, 28, rfl⟩
abbrev main_v8_3 : Ref sig .tc := ⟨.hbm, 29, rfl⟩
abbrev main_v9 : Ref sig .tc := ⟨.hbm, 30, rfl⟩
abbrev main_cst_0 : Ref sig .tc := ⟨.hbm, 31, rfl⟩
abbrev main_v10 : Ref sig .tc := ⟨.hbm, 32, rfl⟩
abbrev main_v11 : Ref sig .tc := ⟨.hbm, 33, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg8_0 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem8_0 : DmaSem sig := 13

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S128x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S128x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S128x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S4x128x128 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S128x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S128x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S128x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 1 → Memref sig .tc .vmem S4x128x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S128x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]
-- ==== ReferenceIdeal.lean ====
abbrev S8192x1024 : Shape := ⟨2, ![8192, 1024]⟩
abbrev S4x128x128 : Shape := ⟨3, ![4, 128, 128]⟩
abbrev S4x128 : Shape := ⟨2, ![4, 128]⟩
abbrev S2x4096x1024 : Shape := ⟨3, ![2, 4096, 1024]⟩
abbrev S2x32x128x4x256 : Shape := ⟨5, ![2, 32, 128, 4, 256]⟩
abbrev S_ : Shape := ⟨0, ![]⟩
abbrev S128x128 : Shape := ⟨2, ![128, 128]⟩
abbrev S1x128x128 : Shape := ⟨3, ![1, 128, 128]⟩
abbrev S4x2x32x256x128 : Shape := ⟨5, ![4, 2, 32, 256, 128]⟩
abbrev S128x4 : Shape := ⟨2, ![128, 4]⟩
abbrev S1x1x128x4x1 : Shape := ⟨5, ![1, 1, 128, 4, 1]⟩

abbrev nBuf : Space → Nat
  | .hbm => 57
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S8192x1024, .bf16⟩
  | .hbm, ⟨2, _⟩ => ⟨S8192x1024, .bf16⟩
  | .hbm, ⟨3, _⟩ => ⟨S4x128x128, .f32⟩
  | .hbm, ⟨4, _⟩ => ⟨S4x128, .f32⟩
  | .hbm, ⟨5, _⟩ => ⟨S2x4096x1024, .f32⟩
  | .hbm, ⟨6, _⟩ => ⟨S8192x1024, .f32⟩
  | .hbm, ⟨7, _⟩ => ⟨S2x4096x1024, .f32⟩
  | .hbm, ⟨8, _⟩ => ⟨S2x32x128x4x256, .f32⟩
  | .hbm, ⟨9, _⟩ => ⟨S_, .i1⟩
  | .hbm, ⟨10, _⟩ => ⟨S128x128, .i1⟩
  | .hbm, ⟨11, _⟩ => ⟨S128x128, .i32⟩
  | .hbm, ⟨12, _⟩ => ⟨S_, .i32⟩
  | .hbm, ⟨13, _⟩ => ⟨S128x128, .i32⟩
  | .hbm, ⟨14, _⟩ => ⟨S128x128, .i32⟩
  | .hbm, ⟨15, _⟩ => ⟨S128x128, .i32⟩
  | .hbm, ⟨16, _⟩ => ⟨S128x128, .i1⟩
  | .hbm, ⟨17, _⟩ => ⟨S_, .i1⟩
  | .hbm, ⟨18, _⟩ => ⟨S128x128, .i1⟩
  | .hbm, ⟨19, _⟩ => ⟨S128x128, .i1⟩
  | .hbm, ⟨20, _⟩ => ⟨S1x128x128, .i1⟩
  | .hbm, ⟨21, _⟩ => ⟨S_, .f32⟩
  | .hbm, ⟨22, _⟩ => ⟨S_, .f32⟩
  | .hbm, ⟨23, _⟩ => ⟨S4x128x128, .i1⟩
  | .hbm, ⟨24, _⟩ => ⟨S4x128x128, .f32⟩
  | .hbm, ⟨25, _⟩ => ⟨S4x128x128, .f32⟩
  | .hbm, ⟨26, _⟩ => ⟨S_, .f32⟩
  | .hbm, ⟨27, _⟩ => ⟨S4x128x128, .f32⟩
  | .hbm, ⟨28, _⟩ => ⟨S4x2x32x256x128, .f32⟩
  | .hbm, ⟨29, _⟩ => ⟨S2x32x128x4x256, .f32⟩
  | .hbm, ⟨30, _⟩ => ⟨S128x4, .f32⟩
  | .hbm, ⟨31, _⟩ => ⟨S1x1x128x4x1, .f32⟩
  | .hbm, ⟨32, _⟩ => ⟨S2x32x128x4x256, .f32⟩
  | .hbm, ⟨33, _⟩ => ⟨S2x32x128x4x256, .f32⟩
  | .hbm, ⟨34, _⟩ => ⟨S2x4096x1024, .f32⟩
  | .hbm, ⟨35, _⟩ => ⟨S2x4096x1024, .f32⟩
  | .hbm, ⟨36, _⟩ => ⟨S8192x1024, .f32⟩
  | .hbm, ⟨37, _⟩ => ⟨S2x4096x1024, .f32⟩
  | .hbm, ⟨38, _⟩ => ⟨S2x4096x1024, .f32⟩
  | .hbm, ⟨39, _⟩ => ⟨S2x4096x1024, .f32⟩
  | .hbm, ⟨40, _⟩ => ⟨S2x32x128x4x256, .f32⟩
  | .hbm, ⟨41, _⟩ => ⟨S_, .f32⟩
  | .hbm, ⟨42, _⟩ => ⟨S128x4, .f32⟩
  | .hbm, ⟨43, _⟩ => ⟨S1x1x128x4x1, .f32⟩
  | .hbm, ⟨44, _⟩ => ⟨S_, .f32⟩
  | .hbm, ⟨45, _⟩ => ⟨S128x4, .f32⟩
  | .hbm, ⟨46, _⟩ => ⟨S4x128, .f32⟩
  | .hbm, ⟨47, _⟩ => ⟨S4x2x32x256x128, .f32⟩
  | .hbm, ⟨48, _⟩ => ⟨S4x128x128, .f32⟩
  | .hbm, ⟨49, _⟩ => ⟨S4x2x32x256x128, .f32⟩
  | .hbm, ⟨50, _⟩ => ⟨S2x32x128x4x256, .f32⟩
  | .hbm, ⟨51, _⟩ => ⟨S_, .f32⟩
  | .hbm, ⟨52, _⟩ => ⟨S4x128x128, .f32⟩
  | .hbm, ⟨53, _⟩ => ⟨S4x128x128, .f32⟩
  | .hbm, ⟨54, _⟩ => ⟨S2x4096x1024, .f32⟩
  | .hbm, ⟨55, _⟩ => ⟨S8192x1024, .f32⟩
  | .hbm, ⟨56, _⟩ => ⟨S8192x1024, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_c : Ref sig .tc := ⟨.hbm, 9, rfl⟩
abbrev main_v4 : Ref sig .tc := ⟨.hbm, 10, rfl⟩
abbrev main_call0_v0 : Ref sig .tc := ⟨.hbm, 11, rfl⟩
abbrev main_call0_c : Ref sig .tc := ⟨.hbm, 12, rfl⟩
abbrev main_call0_v1 : Ref sig .tc := ⟨.hbm, 13, rfl⟩
abbrev main_call0_v2 : Ref sig .tc := ⟨.hbm, 14, rfl⟩
abbrev main_call0_v3 : Ref sig .tc := ⟨.hbm, 15, rfl⟩
abbrev main_call0_v4 : Ref sig .tc := ⟨.hbm, 16, rfl⟩
abbrev main_call0_c_0 : Ref sig .tc := ⟨.hbm, 17, rfl⟩
abbrev main_call0_v5 : Ref sig .tc := ⟨.hbm, 18, rfl⟩
abbrev main_v5 : Ref sig .tc := ⟨.hbm, 19, rfl⟩
abbrev main_v6 : Ref sig .tc := ⟨.hbm, 20, rfl⟩
abbrev main_cst : Ref sig .tc := ⟨.hbm, 21, rfl⟩
abbrev main_call1_v0 : Ref sig .tc := ⟨.hbm, 22, rfl⟩
abbrev main_v7_1 : Ref sig .tc := ⟨.hbm, 23, rfl⟩
abbrev main_call1_v2 : Ref sig .tc := ⟨.hbm, 24, rfl⟩
abbrev main_v7_0 : Ref sig .tc := ⟨.hbm, 25, rfl⟩
abbrev main_call1_cst : Ref sig .tc := ⟨.hbm, 26, rfl⟩
abbrev main_v7_2 : Ref sig .tc := ⟨.hbm, 27, rfl⟩
abbrev main_v8 : Ref sig .tc := ⟨.hbm, 28, rfl⟩
abbrev main_v9 : Ref sig .tc := ⟨.hbm, 29, rfl⟩
abbrev main_v10 : Ref sig .tc := ⟨.hbm, 30, rfl⟩
abbrev main_v11 : Ref sig .tc := ⟨.hbm, 31, rfl⟩
abbrev main_v12 : Ref sig .tc := ⟨.hbm, 32, rfl⟩
abbrev main_v13 : Ref sig .tc := ⟨.hbm, 33, rfl⟩
abbrev main_v14 : Ref sig .tc := ⟨.hbm, 34, rfl⟩
abbrev main_v15 : Ref sig .tc := ⟨.hbm, 35, rfl⟩
abbrev main_v16 : Ref sig .tc := ⟨.hbm, 36, rfl⟩
abbrev main_v17 : Ref sig .tc := ⟨.hbm, 37, rfl⟩
abbrev main_v18 : Ref sig .tc := ⟨.hbm, 38, rfl⟩
abbrev main_v19 : Ref sig .tc := ⟨.hbm, 39, rfl⟩
abbrev main_v20 : Ref sig .tc := ⟨.hbm, 40, rfl⟩
abbrev main_cst_0 : Ref sig .tc := ⟨.hbm, 41, rfl⟩
abbrev main_v21 : Ref sig .tc := ⟨.hbm, 42, rfl⟩
abbrev main_v22 : Ref sig .tc := ⟨.hbm, 43, rfl⟩
abbrev main_cst_1 : Ref sig .tc := ⟨.hbm, 44, rfl⟩
abbrev main_v23 : Ref sig .tc := ⟨.hbm, 45, rfl⟩
abbrev main_v24 : Ref sig .tc := ⟨.hbm, 46, rfl⟩
abbrev main_v25 : Ref sig .tc := ⟨.hbm, 47, rfl⟩
abbrev main_v26 : Ref sig .tc := ⟨.hbm, 48, rfl⟩
abbrev main_v27 : Ref sig .tc := ⟨.hbm, 49, rfl⟩
abbrev main_v28 : Ref sig .tc := ⟨.hbm, 50, rfl⟩
abbrev main_call2_cst : Ref sig .tc := ⟨.hbm, 51, rfl⟩
abbrev main_call2_v0 : Ref sig .tc := ⟨.hbm, 52, rfl⟩
abbrev main_v29 : Ref sig .tc := ⟨.hbm, 53, rfl⟩
abbrev main_v30 : Ref sig .tc := ⟨.hbm, 54, rfl⟩
abbrev main_v31 : Ref sig .tc := ⟨.hbm, 55, rfl⟩
abbrev main_v32 : Ref sig .tc := ⟨.hbm, 56, rfl⟩

abbrev nD : Nat := 1
abbrev τ : Topo := Topo.v7x

variable {F : FTy → Type} [FloatOps F]
-- ==== Kernel2.lean ====
abbrev S8192x1024 : Shape := ⟨2, ![8192, 1024]⟩
abbrev S4096x1024 : Shape := ⟨2, ![4096, 1024]⟩
abbrev S8192x4096 : Shape := ⟨2, ![8192, 4096]⟩
abbrev S512x1024 : Shape := ⟨2, ![512, 1024]⟩
abbrev S512x4096 : Shape := ⟨2, ![512, 4096]⟩
abbrev S512x512 : Shape := ⟨2, ![512, 512]⟩

abbrev nBuf : Space → Nat
  | .hbm => 5
  | .vmem => 7
  | .smem => 0
  | _ => 0

abbrev bufTy : (tb : Table) → Fin (tcTables nBuf tb) → BufTy
  | .hbm, ⟨0, _⟩ => ⟨S8192x1024, .bf16⟩
  | .hbm, ⟨1, _⟩ => ⟨S4096x1024, .f32⟩
  | .hbm, ⟨2, _⟩ => ⟨S8192x4096, .bf16⟩
  | .hbm, ⟨3, _⟩ => ⟨S4096x1024, .bf16⟩
  | .hbm, ⟨4, _⟩ => ⟨S8192x4096, .bf16⟩
  | .local _ .vmem, ⟨0, _⟩ => ⟨S512x1024, .bf16⟩
  | .local _ .vmem, ⟨1, _⟩ => ⟨S512x1024, .bf16⟩
  | .local _ .vmem, ⟨2, _⟩ => ⟨S4096x1024, .bf16⟩
  | .local _ .vmem, ⟨3, _⟩ => ⟨S512x4096, .bf16⟩
  | .local _ .vmem, ⟨4, _⟩ => ⟨S512x4096, .bf16⟩
  | .local _ .vmem, ⟨5, _⟩ => ⟨S512x4096, .bf16⟩
  | .local _ .vmem, ⟨6, _⟩ => ⟨S512x4096, .bf16⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S4096x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x4096 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x4096 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== Reference2Ideal.lean ====
abbrev S8192x1024 : Shape := ⟨2, ![8192, 1024]⟩
abbrev S4096x1024 : Shape := ⟨2, ![4096, 1024]⟩
abbrev S8192x4096 : Shape := ⟨2, ![8192, 4096]⟩
abbrev S_ : Shape := ⟨0, ![]⟩

abbrev nBuf : Space → Nat
  | .hbm => 24
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S4096x1024, .f32⟩
  | .hbm, ⟨2, _⟩ => ⟨S8192x4096, .bf16⟩
  | .hbm, ⟨3, _⟩ => ⟨S8192x4096, .f32⟩
  | .hbm, ⟨4, _⟩ => ⟨S_, .f32⟩
  | .hbm, ⟨5, _⟩ => ⟨S8192x4096, .f32⟩
  | .hbm, ⟨6, _⟩ => ⟨S8192x4096, .f32⟩
  | .hbm, ⟨7, _⟩ => ⟨S_, .f32⟩
  | .hbm, ⟨8, _⟩ => ⟨S8192x4096, .f32⟩
  | .hbm, ⟨9, _⟩ => ⟨S8192x4096, .i1⟩
  | .hbm, ⟨10, _⟩ => ⟨S_, .f32⟩
  | .hbm, ⟨11, _⟩ => ⟨S8192x4096, .f32⟩
  | .hbm, ⟨12, _⟩ => ⟨S8192x4096, .f32⟩
  | .hbm, ⟨13, _⟩ => ⟨S_, .f32⟩
  | .hbm, ⟨14, _⟩ => ⟨S8192x4096, .f32⟩
  | .hbm, ⟨15, _⟩ => ⟨S8192x4096, .f32⟩
  | .hbm, ⟨16, _⟩ => ⟨S8192x1024, .f32⟩
  | .hbm, ⟨17, _⟩ => ⟨S8192x1024, .f32⟩
  | .hbm, ⟨18, _⟩ => ⟨S8192x4096, .f32⟩
  | .hbm, ⟨19, _⟩ => ⟨S8192x4096, .f32⟩
  | .hbm, ⟨20, _⟩ => ⟨S_, .f32⟩
  | .hbm, ⟨21, _⟩ => ⟨S8192x4096, .f32⟩
  | .hbm, ⟨22, _⟩ => ⟨S8192x4096, .f32⟩
  | .hbm, ⟨23, _⟩ => ⟨S8192x4096, .bf16⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_call0_cst : Ref sig .tc := ⟨.hbm, 4, rfl⟩
abbrev main_call0_v0 : Ref sig .tc := ⟨.hbm, 5, rfl⟩
abbrev main_v1 : Ref sig .tc := ⟨.hbm, 6, rfl⟩
abbrev main_cst : Ref sig .tc := ⟨.hbm, 7, rfl⟩
abbrev main_v2 : Ref sig .tc := ⟨.hbm, 8, rfl⟩
abbrev main_v3 : Ref sig .tc := ⟨.hbm, 9, rfl⟩
abbrev main_cst_0 : Ref sig .tc := ⟨.hbm, 10, rfl⟩
abbrev main_v4 : Ref sig .tc := ⟨.hbm, 11, rfl⟩
abbrev main_v5 : Ref sig .tc := ⟨.hbm, 12, rfl⟩
abbrev main_cst_1 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_cst_2 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩

abbrev nD : Nat := 1
abbrev τ : Topo := Topo.v7x

variable {F : FTy → Type} [FloatOps F]
-- ==== Kernel3.lean ====
abbrev S8192x4096 : Shape := ⟨2, ![8192, 4096]⟩
abbrev S8192x1024 : Shape := ⟨2, ![8192, 1024]⟩
abbrev S4096x1024 : Shape := ⟨2, ![4096, 1024]⟩
abbrev S1024x1024 : Shape := ⟨2, ![1024, 1024]⟩

abbrev nBuf : Space → Nat
  | .hbm => 4
  | .vmem => 8
  | .smem => 0
  | _ => 0

abbrev bufTy : (tb : Table) → Fin (tcTables nBuf tb) → BufTy
  | .hbm, ⟨0, _⟩ => ⟨S8192x4096, .bf16⟩
  | .hbm, ⟨1, _⟩ => ⟨S8192x1024, .bf16⟩
  | .hbm, ⟨2, _⟩ => ⟨S4096x1024, .f32⟩
  | .hbm, ⟨3, _⟩ => ⟨S4096x1024, .bf16⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .bf16⟩
  | .local _ .vmem, ⟨7, _⟩ => ⟨S1024x1024, .bf16⟩
  | _, _ => ⟨S8192x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0_0 : Ref sig .tc := ⟨.hbm, 2, rfl⟩
abbrev main_v0_1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![4, 1, 8], ![false, false, false]⟩

def k0_cond2 (i : grid0.Coords) : BitVec 1 :=
  let arg2 : BitVec 32 := BitVec.ofNat 32 (i 2).val
  let c7_i32 : BitVec 32 := 7#32
  let v11 : BitVec 1 := Scalar.cmpi .eq arg2 c7_i32
  let v12 : BitVec 32 := Scalar.extui v11
  let c0_i32_8 : BitVec 32 := 0#32
  let v13 : BitVec 1 := Scalar.cmpi .ne v12 c0_i32_8
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1024x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== Reference3Ideal.lean ====
abbrev S8192x4096 : Shape := ⟨2, ![8192, 4096]⟩
abbrev S8192x1024 : Shape := ⟨2, ![8192, 1024]⟩
abbrev S_ : Shape := ⟨0, ![]⟩
abbrev S4096x1024 : Shape := ⟨2, ![4096, 1024]⟩
abbrev S1024x4096 : Shape := ⟨2, ![1024, 4096]⟩

abbrev nBuf : Space → Nat
  | .hbm => 10
  | .vmem => 0
  | .smem => 0
  | _ => 0

abbrev bufTy : (tb : Table) → Fin (tcTables nBuf tb) → BufTy
  | .hbm, ⟨0, _⟩ => ⟨S8192x4096, .bf16⟩
  | .hbm, ⟨1, _⟩ => ⟨S8192x1024, .bf16⟩
  | .hbm, ⟨2, _⟩ => ⟨S_, .f32⟩
  | .hbm, ⟨3, _⟩ => ⟨S4096x1024, .f32⟩
  | .hbm, ⟨4, _⟩ => ⟨S8192x4096, .f32⟩
  | .hbm, ⟨5, _⟩ => ⟨S8192x1024, .f32⟩
  | .hbm, ⟨6, _⟩ => ⟨S8192x1024, .f32⟩
  | .hbm, ⟨7, _⟩ => ⟨S1024x4096, .f32⟩
  | .hbm, ⟨8, _⟩ => ⟨S4096x1024, .f32⟩
  | .hbm, ⟨9, _⟩ => ⟨S4096x1024, .bf16⟩
  | _, _ => ⟨S8192x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== Kernel4.lean ====
abbrev S8192x4096 : Shape := ⟨2, ![8192, 4096]⟩
abbrev S1024x4096 : Shape := ⟨2, ![1024, 4096]⟩
abbrev S8192x1024 : Shape := ⟨2, ![8192, 1024]⟩
abbrev S1024 : Shape := ⟨1, ![1024]⟩
abbrev S1024x8x512 : Shape := ⟨3, ![1024, 8, 512]⟩
abbrev S8x1024x512 : Shape := ⟨3, ![8, 1024, 512]⟩
abbrev S1x1024 : Shape := ⟨2, ![1, 1024]⟩
abbrev S512x4096 : Shape := ⟨2, ![512, 4096]⟩
abbrev S512x1024 : Shape := ⟨2, ![512, 1024]⟩
abbrev S512x512 : Shape := ⟨2, ![512, 512]⟩
abbrev S1x1024x512 : Shape := ⟨3, ![1, 1024, 512]⟩
abbrev S1024x512 : Shape := ⟨2, ![1024, 512]⟩
abbrev S512 : Shape := ⟨1, ![512]⟩
abbrev S512x1 : Shape := ⟨2, ![512, 1]⟩

abbrev nBuf : Space → Nat
  | .hbm => 12
  | .vmem => 13
  | .smem => 0
  | _ => 0

abbrev bufTy : (tb : Table) → Fin (tcTables nBuf tb) → BufTy
  | .hbm, ⟨0, _⟩ => ⟨S8192x4096, .bf16⟩
  | .hbm, ⟨1, _⟩ => ⟨S1024x4096, .f32⟩
  | .hbm, ⟨2, _⟩ => ⟨S8192x1024, .f32⟩
  | .hbm, ⟨3, _⟩ => ⟨S8192x1024, .f32⟩
  | .hbm, ⟨4, _⟩ => ⟨S1024, .f32⟩
  | .hbm, ⟨5, _⟩ => ⟨S1024x4096, .bf16⟩
  | .hbm, ⟨6, _⟩ => ⟨S1024x8x512, .bf16⟩
  | .hbm, ⟨7, _⟩ => ⟨S8x1024x512, .bf16⟩
  | .hbm, ⟨8, _⟩ => ⟨S1x1024, .f32⟩
  | .hbm, ⟨9, _⟩ => ⟨S8192x1024, .f32⟩
  | .hbm, ⟨10, _⟩ => ⟨S8192x1024, .bf16⟩
  | .hbm, ⟨11, _⟩ => ⟨S1x1024, .f32⟩
  | .local _ .vmem, ⟨0, _⟩ => ⟨S512x4096, .bf16⟩
  | .local _ .vmem, ⟨1, _⟩ => ⟨S512x4096, .bf16⟩
  | .local _ .vmem, ⟨2, _⟩ => ⟨S8x1024x512, .bf16⟩
  | .local _ .vmem, ⟨3, _⟩ => ⟨S512x1024, .f32⟩
  | .local _ .vmem, ⟨4, _⟩ => ⟨S512x1024, .f32⟩
  | .local _ .vmem, ⟨5, _⟩ => ⟨S512x1024, .f32⟩
  | .local _ .vmem, ⟨6, _⟩ => ⟨S512x1024, .f32⟩
  | .local _ .vmem, ⟨7, _⟩ => ⟨S1x1024, .f32⟩
  | .local _ .vmem, ⟨8, _⟩ => ⟨S512x1024, .f32⟩
  | .local _ .vmem, ⟨9, _⟩ => ⟨S512x1024, .f32⟩
  | .local _ .vmem, ⟨10, _⟩ => ⟨S512x1024, .bf16⟩
  | .local _ .vmem, ⟨11, _⟩ => ⟨S512x1024, .bf16⟩
  | .local _ .vmem, ⟨12, _⟩ => ⟨S1x1024, .f32⟩
  | _, _ => ⟨S8192x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4_0 : Ref sig .tc := ⟨.hbm, 9, rfl⟩
abbrev main_v4_1 : Ref sig .tc := ⟨.hbm, 10, rfl⟩
abbrev main_v4_2 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S8x1024x512 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]
-- ==== Reference4Ideal.lean ====
abbrev S8192x4096 : Shape := ⟨2, ![8192, 4096]⟩
abbrev S1024x4096 : Shape := ⟨2, ![1024, 4096]⟩
abbrev S8192x1024 : Shape := ⟨2, ![8192, 1024]⟩
abbrev S1024 : Shape := ⟨1, ![1024]⟩
abbrev S_ : Shape := ⟨0, ![]⟩
abbrev S8192 : Shape := ⟨1, ![8192]⟩
abbrev S8192x1 : Shape := ⟨2, ![8192, 1]⟩
abbrev S1x1024 : Shape := ⟨2, ![1, 1024]⟩

abbrev nBuf : Space → Nat
  | .hbm => 56
  | .vmem => 0
  | .smem => 0
  | _ => 0

abbrev bufTy : (tb : Table) → Fin (tcTables nBuf tb) → BufTy
  | .hbm, ⟨0, _⟩ => ⟨S8192x4096, .bf16⟩
  | .hbm, ⟨1, _⟩ => ⟨S1024x4096, .f32⟩
  | .hbm, ⟨2, _⟩ => ⟨S8192x1024, .f32⟩
  | .hbm, ⟨3, _⟩ => ⟨S8192x1024, .f32⟩
  | .hbm, ⟨4, _⟩ => ⟨S1024, .f32⟩
  | .hbm, ⟨5, _⟩ => ⟨S8192x1024, .f32⟩
  | .hbm, ⟨6, _⟩ => ⟨S_, .f32⟩
  | .hbm, ⟨7, _⟩ => ⟨S8192, .f32⟩
  | .hbm, ⟨8, _⟩ => ⟨S8192x1, .f32⟩
  | .hbm, ⟨9, _⟩ => ⟨S_, .f32⟩
  | .hbm, ⟨10, _⟩ => ⟨S8192x1, .f32⟩
  | .hbm, ⟨11, _⟩ => ⟨S8192x1, .f32⟩
  | .hbm, ⟨12, _⟩ => ⟨S_, .f32⟩
  | .hbm, ⟨13, _⟩ => ⟨S8192x1, .f32⟩
  | .hbm, ⟨14, _⟩ => ⟨S8192x1, .f32⟩
  | .hbm, ⟨15, _⟩ => ⟨S8192x1, .f32⟩
  | .hbm, ⟨16, _⟩ => ⟨S8192x1, .f32⟩
  | .hbm, ⟨17, _⟩ => ⟨S_, .f32⟩
  | .hbm, ⟨18, _⟩ => ⟨S8192x1, .f32⟩
  | .hbm, ⟨19, _⟩ => ⟨S8192x1, .f32⟩
  | .hbm, ⟨20, _⟩ => ⟨S8192x1024, .f32⟩
  | .hbm, ⟨21, _⟩ => ⟨S8192x1024, .f32⟩
  | .hbm, ⟨22, _⟩ => ⟨S1x1024, .f32⟩
  | .hbm, ⟨23, _⟩ => ⟨S8192x1024, .f32⟩
  | .hbm, ⟨24, _⟩ => ⟨S8192x1024, .f32⟩
  | .hbm, ⟨25, _⟩ => ⟨S8192x4096, .f32⟩
  | .hbm, ⟨26, _⟩ => ⟨S8192x4096, .f32⟩
  | .hbm, ⟨27, _⟩ => ⟨S8192x1024, .f32⟩
  | .hbm, ⟨28, _⟩ => ⟨S8192x1024, .f32⟩
  | .hbm, ⟨29, _⟩ => ⟨S_, .f32⟩
  | .hbm, ⟨30, _⟩ => ⟨S1024, .f32⟩
  | .hbm, ⟨31, _⟩ => ⟨S1x1024, .f32⟩
  | .hbm, ⟨32, _⟩ => ⟨S8192x1024, .f32⟩
  | .hbm, ⟨33, _⟩ => ⟨S8192x1024, .f32⟩
  | .hbm, ⟨34, _⟩ => ⟨S_, .f32⟩
  | .hbm, ⟨35, _⟩ => ⟨S1024, .f32⟩
  | .hbm, ⟨36, _⟩ => ⟨S8192x1024, .f32⟩
  | .hbm, ⟨37, _⟩ => ⟨S_, .f32⟩
  | .hbm, ⟨38, _⟩ => ⟨S8192, .f32⟩
  | .hbm, ⟨39, _⟩ => ⟨S8192x1, .f32⟩
  | .hbm, ⟨40, _⟩ => ⟨S8192x1024, .f32⟩
  | .hbm, ⟨41, _⟩ => ⟨S8192x1024, .f32⟩
  | .hbm, ⟨42, _⟩ => ⟨S8192x1024, .f32⟩
  | .hbm, ⟨43, _⟩ => ⟨S8192x1, .f32⟩
  | .hbm, ⟨44, _⟩ => ⟨S_, .f32⟩
  | .hbm, ⟨45, _⟩ => ⟨S8192x1, .f32⟩
  | .hbm, ⟨46, _⟩ => ⟨S8192x1, .f32⟩
  | .hbm, ⟨47, _⟩ => ⟨S_, .f32⟩
  | .hbm, ⟨48, _⟩ => ⟨S8192, .f32⟩
  | .hbm, ⟨49, _⟩ => ⟨S8192x1024, .f32⟩
  | .hbm, ⟨50, _⟩ => ⟨S8192x1024, .f32⟩
  | .hbm, ⟨51, _⟩ => ⟨S8192x1024, .f32⟩
  | .hbm, ⟨52, _⟩ => ⟨S8192x1024, .f32⟩
  | .hbm, ⟨53, _⟩ => ⟨S8192x1024, .f32⟩
  | .hbm, ⟨54, _⟩ => ⟨S8192x1024, .bf16⟩
  | .hbm, ⟨55, _⟩ => ⟨S1x1024, .f32⟩
  | _, _ => ⟨S8192x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_cst_2 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_cst_3 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_cst_4 : Ref sig .tc := ⟨.hbm, 34, rfl⟩
abbrev main_v24 : Ref sig .tc := ⟨.hbm, 35, rfl⟩
abbrev main_v25 : Ref sig .tc := ⟨.hbm, 36, rfl⟩
abbrev main_cst_5 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_cst_6 : Ref sig .tc := ⟨.hbm, 44, rfl⟩
abbrev main_v32 : Ref sig .tc := ⟨.hbm, 45, rfl⟩
abbrev main_v33 : Ref sig .tc := ⟨.hbm, 46, rfl⟩
abbrev main_cst_7 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩

abbrev nD : Nat := 1
abbrev τ : Topo := Topo.v7x

variable {F : FTy → Type} [FloatOps F]
-- ==== Kernel5.lean ====
abbrev S8192x1024 : Shape := ⟨2, ![8192, 1024]⟩
abbrev S8192x4096 : Shape := ⟨2, ![8192, 4096]⟩
abbrev S8x1024x512 : Shape := ⟨3, ![8, 1024, 512]⟩
abbrev S1024x1024 : Shape := ⟨2, ![1024, 1024]⟩
abbrev S1024x2048 : Shape := ⟨2, ![1024, 2048]⟩
abbrev S4x1024x512 : Shape := ⟨3, ![4, 1024, 512]⟩
abbrev S1024x512 : Shape := ⟨2, ![1024, 512]⟩
abbrev S1x1024x512 : Shape := ⟨3, ![1, 1024, 512]⟩

abbrev nBuf : Space → Nat
  | .hbm => 4
  | .vmem => 8
  | .smem => 0
  | _ => 0

abbrev bufTy : (tb : Table) → Fin (tcTables nBuf tb) → BufTy
  | .hbm, ⟨0, _⟩ => ⟨S8192x1024, .bf16⟩
  | .hbm, ⟨1, _⟩ => ⟨S8192x4096, .bf16⟩
  | .hbm, ⟨2, _⟩ => ⟨S8x1024x512, .f32⟩
  | .hbm, ⟨3, _⟩ => ⟨S8x1024x512, .bf16⟩
  | .local _ .vmem, ⟨0, _⟩ => ⟨S1024x1024, .bf16⟩
  | .local _ .vmem, ⟨1, _⟩ => ⟨S1024x1024, .bf16⟩
  | .local _ .vmem, ⟨2, _⟩ => ⟨S1024x2048, .bf16⟩
  | .local _ .vmem, ⟨3, _⟩ => ⟨S1024x2048, .bf16⟩
  | .local _ .vmem, ⟨4, _⟩ => ⟨S4x1024x512, .f32⟩
  | .local _ .vmem, ⟨5, _⟩ => ⟨S4x1024x512, .f32⟩
  | .local _ .vmem, ⟨6, _⟩ => ⟨S4x1024x512, .bf16⟩
  | .local _ .vmem, ⟨7, _⟩ => ⟨S4x1024x512, .bf16⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0_0 : Ref sig .tc := ⟨.hbm, 2, rfl⟩
abbrev main_v0_1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![1, 2, 8], ![false, false, false]⟩

def k0_cond2 (i : grid0.Coords) : BitVec 1 :=
  let arg2 : BitVec 32 := BitVec.ofNat 32 (i 2).val
  let c7_i32 : BitVec 32 := 7#32
  let v37 : BitVec 1 := Scalar.cmpi .eq arg2 c7_i32
  let v38 : BitVec 32 := Scalar.extui v37
  let c0_i32_31 : BitVec 32 := 0#32
  let v39 : BitVec 1 := Scalar.cmpi .ne v38 c0_i32_31
  v39

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg1.toNat, arg0.toNat, c0_i32.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg1.toNat, arg0.toNat, c0_i32.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S4x1024x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S4x1024x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== Reference5Ideal.lean ====
abbrev S8192x1024 : Shape := ⟨2, ![8192, 1024]⟩
abbrev S8192x4096 : Shape := ⟨2, ![8192, 4096]⟩
abbrev S_ : Shape := ⟨0, ![]⟩
abbrev S1024x4096 : Shape := ⟨2, ![1024, 4096]⟩
abbrev S4096x1024 : Shape := ⟨2, ![4096, 1024]⟩
abbrev S1024x8x512 : Shape := ⟨3, ![1024, 8, 512]⟩
abbrev S8x1024x512 : Shape := ⟨3, ![8, 1024, 512]⟩

abbrev nBuf : Space → Nat
  | .hbm => 12
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S8192x4096, .bf16⟩
  | .hbm, ⟨2, _⟩ => ⟨S_, .f32⟩
  | .hbm, ⟨3, _⟩ => ⟨S1024x4096, .f32⟩
  | .hbm, ⟨4, _⟩ => ⟨S8192x1024, .f32⟩
  | .hbm, ⟨5, _⟩ => ⟨S8192x4096, .f32⟩
  | .hbm, ⟨6, _⟩ => ⟨S8192x4096, .f32⟩
  | .hbm, ⟨7, _⟩ => ⟨S4096x1024, .f32⟩
  | .hbm, ⟨8, _⟩ => ⟨S1024x4096, .f32⟩
  | .hbm, ⟨9, _⟩ => ⟨S1024x8x512, .f32⟩
  | .hbm, ⟨10, _⟩ => ⟨S8x1024x512, .f32⟩
  | .hbm, ⟨11, _⟩ => ⟨S8x1024x512, .bf16⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩

abbrev nD : Nat := 1
abbrev τ : Topo := Topo.v7x

variable {F : FTy → Type} [FloatOps F]
-- ==== Kernel6.lean ====
abbrev S8192x1024 : Shape := ⟨2, ![8192, 1024]⟩
abbrev S1024x4096 : Shape := ⟨2, ![1024, 4096]⟩
abbrev S1024x8x512 : Shape := ⟨3, ![1024, 8, 512]⟩
abbrev S8x1024x512 : Shape := ⟨3, ![8, 1024, 512]⟩
abbrev S8192x4096 : Shape := ⟨2, ![8192, 4096]⟩
abbrev S512x1024 : Shape := ⟨2, ![512, 1024]⟩
abbrev S512x4096 : Shape := ⟨2, ![512, 4096]⟩
abbrev S1x1024x512 : Shape := ⟨3, ![1, 1024, 512]⟩
abbrev S1024x512 : Shape := ⟨2, ![1024, 512]⟩
abbrev S512x512 : Shape := ⟨2, ![512, 512]⟩

abbrev nBuf : Space → Nat
  | .hbm => 7
  | .vmem => 7
  | .smem => 0
  | _ => 0

abbrev bufTy : (tb : Table) → Fin (tcTables nBuf tb) → BufTy
  | .hbm, ⟨0, _⟩ => ⟨S8192x1024, .bf16⟩
  | .hbm, ⟨1, _⟩ => ⟨S1024x4096, .f32⟩
  | .hbm, ⟨2, _⟩ => ⟨S1024x4096, .bf16⟩
  | .hbm, ⟨3, _⟩ => ⟨S1024x8x512, .bf16⟩
  | .hbm, ⟨4, _⟩ => ⟨S8x1024x512, .bf16⟩
  | .hbm, ⟨5, _⟩ => ⟨S8192x4096, .bf16⟩
  | .hbm, ⟨6, _⟩ => ⟨S8192x4096, .bf16⟩
  | .local _ .vmem, ⟨0, _⟩ => ⟨S512x1024, .bf16⟩
  | .local _ .vmem, ⟨1, _⟩ => ⟨S512x1024, .bf16⟩
  | .local _ .vmem, ⟨2, _⟩ => ⟨S8x1024x512, .bf16⟩
  | .local _ .vmem, ⟨3, _⟩ => ⟨S512x4096, .bf16⟩
  | .local _ .vmem, ⟨4, _⟩ => ⟨S512x4096, .bf16⟩
  | .local _ .vmem, ⟨5, _⟩ => ⟨S512x4096, .bf16⟩
  | .local _ .vmem, ⟨6, _⟩ => ⟨S512x4096, .bf16⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3_0 : Ref sig .tc := ⟨.hbm, 5, rfl⟩
abbrev main_v3_1 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S8x1024x512 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x4096 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x4096 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== Reference6Ideal.lean ====
abbrev S8192x1024 : Shape := ⟨2, ![8192, 1024]⟩
abbrev S1024x4096 : Shape := ⟨2, ![1024, 4096]⟩
abbrev S8192x4096 : Shape := ⟨2, ![8192, 4096]⟩
abbrev S_ : Shape := ⟨0, ![]⟩

abbrev nBuf : Space → Nat
  | .hbm => 10
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S1024x4096, .f32⟩
  | .hbm, ⟨2, _⟩ => ⟨S8192x1024, .f32⟩
  | .hbm, ⟨3, _⟩ => ⟨S8192x4096, .f32⟩
  | .hbm, ⟨4, _⟩ => ⟨S8192x4096, .bf16⟩
  | .hbm, ⟨5, _⟩ => ⟨S_, .f32⟩
  | .hbm, ⟨6, _⟩ => ⟨S8192x4096, .f32⟩
  | .hbm, ⟨7, _⟩ => ⟨S8192x4096, .f32⟩
  | .hbm, ⟨8, _⟩ => ⟨S8192x4096, .f32⟩
  | .hbm, ⟨9, _⟩ => ⟨S8192x4096, .bf16⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_call0_cst : Ref sig .tc := ⟨.hbm, 5, rfl⟩
abbrev main_call0_v0 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩

abbrev nD : Nat := 1
abbrev τ : Topo := Topo.v7x

variable {F : FTy → Type} [FloatOps F]
-- ==== Kernel7.lean ====
abbrev S8192x4096 : Shape := ⟨2, ![8192, 4096]⟩
abbrev S4096x1024 : Shape := ⟨2, ![4096, 1024]⟩
abbrev S8192x1024 : Shape := ⟨2, ![8192, 1024]⟩
abbrev S1024 : Shape := ⟨1, ![1024]⟩
abbrev S1x1024 : Shape := ⟨2, ![1, 1024]⟩
abbrev S512x4096 : Shape := ⟨2, ![512, 4096]⟩
abbrev S512x1024 : Shape := ⟨2, ![512, 1024]⟩
abbrev S4096x512 : Shape := ⟨2, ![4096, 512]⟩
abbrev S512x512 : Shape := ⟨2, ![512, 512]⟩
abbrev S512 : Shape := ⟨1, ![512]⟩
abbrev S512x1 : Shape := ⟨2, ![512, 1]⟩

abbrev nBuf : Space → Nat
  | .hbm => 8
  | .vmem => 10
  | .smem => 0
  | _ => 0

abbrev bufTy : (tb : Table) → Fin (tcTables nBuf tb) → BufTy
  | .hbm, ⟨0, _⟩ => ⟨S8192x4096, .bf16⟩
  | .hbm, ⟨1, _⟩ => ⟨S4096x1024, .f32⟩
  | .hbm, ⟨2, _⟩ => ⟨S8192x1024, .f32⟩
  | .hbm, ⟨3, _⟩ => ⟨S1024, .f32⟩
  | .hbm, ⟨4, _⟩ => ⟨S4096x1024, .bf16⟩
  | .hbm, ⟨5, _⟩ => ⟨S1x1024, .f32⟩
  | .hbm, ⟨6, _⟩ => ⟨S8192x1024, .f32⟩
  | .hbm, ⟨7, _⟩ => ⟨S8192x1024, .bf16⟩
  | .local _ .vmem, ⟨0, _⟩ => ⟨S512x4096, .bf16⟩
  | .local _ .vmem, ⟨1, _⟩ => ⟨S512x4096, .bf16⟩
  | .local _ .vmem, ⟨2, _⟩ => ⟨S4096x1024, .bf16⟩
  | .local _ .vmem, ⟨3, _⟩ => ⟨S512x1024, .f32⟩
  | .local _ .vmem, ⟨4, _⟩ => ⟨S512x1024, .f32⟩
  | .local _ .vmem, ⟨5, _⟩ => ⟨S1x1024, .f32⟩
  | .local _ .vmem, ⟨6, _⟩ => ⟨S512x1024, .f32⟩
  | .local _ .vmem, ⟨7, _⟩ => ⟨S512x1024, .f32⟩
  | .local _ .vmem, ⟨8, _⟩ => ⟨S512x1024, .bf16⟩
  | .local _ .vmem, ⟨9, _⟩ => ⟨S512x1024, .bf16⟩
  | _, _ => ⟨S8192x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2_0 : Ref sig .tc := ⟨.hbm, 6, rfl⟩
abbrev main_v2_1 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S4096x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== Reference7Ideal.lean ====
abbrev S8192x4096 : Shape := ⟨2, ![8192, 4096]⟩
abbrev S4096x1024 : Shape := ⟨2, ![4096, 1024]⟩
abbrev S8192x1024 : Shape := ⟨2, ![8192, 1024]⟩
abbrev S1024 : Shape := ⟨1, ![1024]⟩
abbrev S_ : Shape := ⟨0, ![]⟩
abbrev S8192 : Shape := ⟨1, ![8192]⟩
abbrev S8192x1 : Shape := ⟨2, ![8192, 1]⟩
abbrev S1x1024 : Shape := ⟨2, ![1, 1024]⟩

abbrev nBuf : Space → Nat
  | .hbm => 24
  | .vmem => 0
  | .smem => 0
  | _ => 0

abbrev bufTy : (tb : Table) → Fin (tcTables nBuf tb) → BufTy
  | .hbm, ⟨0, _⟩ => ⟨S8192x4096, .bf16⟩
  | .hbm, ⟨1, _⟩ => ⟨S4096x1024, .f32⟩
  | .hbm, ⟨2, _⟩ => ⟨S8192x1024, .f32⟩
  | .hbm, ⟨3, _⟩ => ⟨S1024, .f32⟩
  | .hbm, ⟨4, _⟩ => ⟨S8192x4096, .f32⟩
  | .hbm, ⟨5, _⟩ => ⟨S8192x1024, .f32⟩
  | .hbm, ⟨6, _⟩ => ⟨S8192x1024, .f32⟩
  | .hbm, ⟨7, _⟩ => ⟨S8192x1024, .f32⟩
  | .hbm, ⟨8, _⟩ => ⟨S_, .f32⟩
  | .hbm, ⟨9, _⟩ => ⟨S8192, .f32⟩
  | .hbm, ⟨10, _⟩ => ⟨S8192x1, .f32⟩
  | .hbm, ⟨11, _⟩ => ⟨S_, .f32⟩
  | .hbm, ⟨12, _⟩ => ⟨S8192x1, .f32⟩
  | .hbm, ⟨13, _⟩ => ⟨S8192x1, .f32⟩
  | .hbm, ⟨14, _⟩ => ⟨S_, .f32⟩
  | .hbm, ⟨15, _⟩ => ⟨S8192x1, .f32⟩
  | .hbm, ⟨16, _⟩ => ⟨S8192x1, .f32⟩
  | .hbm, ⟨17, _⟩ => ⟨S8192x1, .f32⟩
  | .hbm, ⟨18, _⟩ => ⟨S8192x1024, .f32⟩
  | .hbm, ⟨19, _⟩ => ⟨S8192x1024, .f32⟩
  | .hbm, ⟨20, _⟩ => ⟨S1x1024, .f32⟩
  | .hbm, ⟨21, _⟩ => ⟨S8192x1024, .f32⟩
  | .hbm, ⟨22, _⟩ => ⟨S8192x1024, .f32⟩
  | .hbm, ⟨23, _⟩ => ⟨S8192x1024, .bf16⟩
  | _, _ => ⟨S8192x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_cst : Ref sig .tc := ⟨.hbm, 8, rfl⟩
abbrev main_v4 : Ref sig .tc := ⟨.hbm, 9, rfl⟩
abbrev main_v5 : Ref sig .tc := ⟨.hbm, 10, rfl⟩
abbrev main_cst_0 : Ref sig .tc := ⟨.hbm, 11, rfl⟩
abbrev main_v6 : Ref sig .tc := ⟨.hbm, 12, rfl⟩
abbrev main_v7 : Ref sig .tc := ⟨.hbm, 13, rfl⟩
abbrev main_cst_1 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩

abbrev nD : Nat := 1
abbrev τ : Topo := Topo.v7x

variable {F : FTy → Type} [FloatOps F]
-- ==== Kernel8.lean ====
abbrev S8192x2048 : Shape := ⟨2, ![8192, 2048]⟩
abbrev S1024x2048 : Shape := ⟨2, ![1024, 2048]⟩
abbrev S8192x1024 : Shape := ⟨2, ![8192, 1024]⟩
abbrev S1024 : Shape := ⟨1, ![1024]⟩
abbrev S1024x8x256 : Shape := ⟨3, ![1024, 8, 256]⟩
abbrev S8x1024x256 : Shape := ⟨3, ![8, 1024, 256]⟩
abbrev S1x1024 : Shape := ⟨2, ![1, 1024]⟩
abbrev S1024x1024 : Shape := ⟨2, ![1024, 1024]⟩
abbrev S1024x256 : Shape := ⟨2, ![1024, 256]⟩
abbrev S1x1024x256 : Shape := ⟨3, ![1, 1024, 256]⟩
abbrev S1024x1 : Shape := ⟨2, ![1024, 1]⟩

abbrev nBuf : Space → Nat
  | .hbm => 12
  | .vmem => 13
  | .smem => 0
  | _ => 0

abbrev bufTy : (tb : Table) → Fin (tcTables nBuf tb) → BufTy
  | .hbm, ⟨0, _⟩ => ⟨S8192x2048, .bf16⟩
  | .hbm, ⟨1, _⟩ => ⟨S1024x2048, .f32⟩
  | .hbm, ⟨2, _⟩ => ⟨S8192x1024, .f32⟩
  | .hbm, ⟨3, _⟩ => ⟨S8192x1024, .f32⟩
  | .hbm, ⟨4, _⟩ => ⟨S1024, .f32⟩
  | .hbm, ⟨5, _⟩ => ⟨S1024x2048, .bf16⟩
  | .hbm, ⟨6, _⟩ => ⟨S1024x8x256, .bf16⟩
  | .hbm, ⟨7, _⟩ => ⟨S8x1024x256, .bf16⟩
  | .hbm, ⟨8, _⟩ => ⟨S1x1024, .f32⟩
  | .hbm, ⟨9, _⟩ => ⟨S8192x1024, .f32⟩
  | .hbm, ⟨10, _⟩ => ⟨S8192x1024, .bf16⟩
  | .hbm, ⟨11, _⟩ => ⟨S1x1024, .f32⟩
  | .local _ .vmem, ⟨0, _⟩ => ⟨S1024x2048, .bf16⟩
  | .local _ .vmem, ⟨1, _⟩ => ⟨S1024x2048, .bf16⟩
  | .local _ .vmem, ⟨2, _⟩ => ⟨S8x1024x256, .bf16⟩
  | .local _ .vmem, ⟨3, _⟩ => ⟨S1024x1024, .f32⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | .local _ .vmem, ⟨7, _⟩ => ⟨S1x1024, .f32⟩
  | .local _ .vmem, ⟨8, _⟩ => ⟨S1024x1024, .f32⟩
  | .local _ .vmem, ⟨9, _⟩ => ⟨S1024x1024, .f32⟩
  | .local _ .vmem, ⟨10, _⟩ => ⟨S1024x1024, .bf16⟩
  | .local _ .vmem, ⟨11, _⟩ => ⟨S1024x1024, .bf16⟩
  | .local _ .vmem, ⟨12, _⟩ => ⟨S1x1024, .f32⟩
  | _, _ => ⟨S8192x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4_0 : Ref sig .tc := ⟨.hbm, 9, rfl⟩
abbrev main_v4_1 : Ref sig .tc := ⟨.hbm, 10, rfl⟩
abbrev main_v4_2 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S8x1024x256 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S1024x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1024x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]
-- ==== Reference8Ideal.lean ====
abbrev S8192x2048 : Shape := ⟨2, ![8192, 2048]⟩
abbrev S1024x2048 : Shape := ⟨2, ![1024, 2048]⟩
abbrev S8192x1024 : Shape := ⟨2, ![8192, 1024]⟩
abbrev S1024 : Shape := ⟨1, ![1024]⟩
abbrev S_ : Shape := ⟨0, ![]⟩
abbrev S8192 : Shape := ⟨1, ![8192]⟩
abbrev S8192x1 : Shape := ⟨2, ![8192, 1]⟩
abbrev S1x1024 : Shape := ⟨2, ![1, 1024]⟩

abbrev nBuf : Space → Nat
  | .hbm => 56
  | .vmem => 0
  | .smem => 0
  | _ => 0

abbrev bufTy : (tb : Table) → Fin (tcTables nBuf tb) → BufTy
  | .hbm, ⟨0, _⟩ => ⟨S8192x2048, .bf16⟩
  | .hbm, ⟨1, _⟩ => ⟨S1024x2048, .f32⟩
  | .hbm, ⟨2, _⟩ => ⟨S8192x1024, .f32⟩
  | .hbm, ⟨3, _⟩ => ⟨S8192x1024, .f32⟩
  | .hbm, ⟨4, _⟩ => ⟨S1024, .f32⟩
  | .hbm, ⟨5, _⟩ => ⟨S8192x1024, .f32⟩
  | .hbm, ⟨6, _⟩ => ⟨S_, .f32⟩
  | .hbm, ⟨7, _⟩ => ⟨S8192, .f32⟩
  | .hbm, ⟨8, _⟩ => ⟨S8192x1, .f32⟩
  | .hbm, ⟨9, _⟩ => ⟨S_, .f32⟩
  | .hbm, ⟨10, _⟩ => ⟨S8192x1, .f32⟩
  | .hbm, ⟨11, _⟩ => ⟨S8192x1, .f32⟩
  | .hbm, ⟨12, _⟩ => ⟨S_, .f32⟩
  | .hbm, ⟨13, _⟩ => ⟨S8192x1, .f32⟩
  | .hbm, ⟨14, _⟩ => ⟨S8192x1, .f32⟩
  | .hbm, ⟨15, _⟩ => ⟨S8192x1, .f32⟩
  | .hbm, ⟨16, _⟩ => ⟨S8192x1, .f32⟩
  | .hbm, ⟨17, _⟩ => ⟨S_, .f32⟩
  | .hbm, ⟨18, _⟩ => ⟨S8192x1, .f32⟩
  | .hbm, ⟨19, _⟩ => ⟨S8192x1, .f32⟩
  | .hbm, ⟨20, _⟩ => ⟨S8192x1024, .f32⟩
  | .hbm, ⟨21, _⟩ => ⟨S8192x1024, .f32⟩
  | .hbm, ⟨22, _⟩ => ⟨S1x1024, .f32⟩
  | .hbm, ⟨23, _⟩ => ⟨S8192x1024, .f32⟩
  | .hbm, ⟨24, _⟩ => ⟨S8192x1024, .f32⟩
  | .hbm, ⟨25, _⟩ => ⟨S8192x2048, .f32⟩
  | .hbm, ⟨26, _⟩ => ⟨S8192x2048, .f32⟩
  | .hbm, ⟨27, _⟩ => ⟨S8192x1024, .f32⟩
  | .hbm, ⟨28, _⟩ => ⟨S8192x1024, .f32⟩
  | .hbm, ⟨29, _⟩ => ⟨S_, .f32⟩
  | .hbm, ⟨30, _⟩ => ⟨S1024, .f32⟩
  | .hbm, ⟨31, _⟩ => ⟨S1x1024, .f32⟩
  | .hbm, ⟨32, _⟩ => ⟨S8192x1024, .f32⟩
  | .hbm, ⟨33, _⟩ => ⟨S8192x1024, .f32⟩
  | .hbm, ⟨34, _⟩ => ⟨S_, .f32⟩
  | .hbm, ⟨35, _⟩ => ⟨S1024, .f32⟩
  | .hbm, ⟨36, _⟩ => ⟨S8192x1024, .f32⟩
  | .hbm, ⟨37, _⟩ => ⟨S_, .f32⟩
  | .hbm, ⟨38, _⟩ => ⟨S8192, .f32⟩
  | .hbm, ⟨39, _⟩ => ⟨S8192x1, .f32⟩
  | .hbm, ⟨40, _⟩ => ⟨S8192x1024, .f32⟩
  | .hbm, ⟨41, _⟩ => ⟨S8192x1024, .f32⟩
  | .hbm, ⟨42, _⟩ => ⟨S8192x1024, .f32⟩
  | .hbm, ⟨43, _⟩ => ⟨S8192x1, .f32⟩
  | .hbm, ⟨44, _⟩ => ⟨S_, .f32⟩
  | .hbm, ⟨45, _⟩ => ⟨S8192x1, .f32⟩
  | .hbm, ⟨46, _⟩ => ⟨S8192x1, .f32⟩
  | .hbm, ⟨47, _⟩ => ⟨S_, .f32⟩
  | .hbm, ⟨48, _⟩ => ⟨S8192, .f32⟩
  | .hbm, ⟨49, _⟩ => ⟨S8192x1024, .f32⟩
  | .hbm, ⟨50, _⟩ => ⟨S8192x1024, .f32⟩
  | .hbm, ⟨51, _⟩ => ⟨S8192x1024, .f32⟩
  | .hbm, ⟨52, _⟩ => ⟨S8192x1024, .f32⟩
  | .hbm, ⟨53, _⟩ => ⟨S8192x1024, .f32⟩
  | .hbm, ⟨54, _⟩ => ⟨S8192x1024, .bf16⟩
  | .hbm, ⟨55, _⟩ => ⟨S1x1024, .f32⟩
  | _, _ => ⟨S8192x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_cst_2 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_cst_3 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_cst_4 : Ref sig .tc := ⟨.hbm, 34, rfl⟩
abbrev main_v24 : Ref sig .tc := ⟨.hbm, 35, rfl⟩
abbrev main_v25 : Ref sig .tc := ⟨.hbm, 36, rfl⟩
abbrev main_cst_5 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_cst_6 : Ref sig .tc := ⟨.hbm, 44, rfl⟩
abbrev main_v32 : Ref sig .tc := ⟨.hbm, 45, rfl⟩
abbrev main_v33 : Ref sig .tc := ⟨.hbm, 46, rfl⟩
abbrev main_cst_7 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩

abbrev nD : Nat := 1
abbrev τ : Topo := Topo.v7x

variable {F : FTy → Type} [FloatOps F]
-- ==== Kernel9.lean ====
abbrev S8192x1024 : Shape := ⟨2, ![8192, 1024]⟩
abbrev S8192x2048 : Shape := ⟨2, ![8192, 2048]⟩
abbrev S8x1024x256 : Shape := ⟨3, ![8, 1024, 256]⟩
abbrev S1024x1024 : Shape := ⟨2, ![1024, 1024]⟩
abbrev S1024x2048 : Shape := ⟨2, ![1024, 2048]⟩
abbrev S1024x256 : Shape := ⟨2, ![1024, 256]⟩
abbrev S1x1024x256 : Shape := ⟨3, ![1, 1024, 256]⟩

abbrev nBuf : Space → Nat
  | .hbm => 4
  | .vmem => 6
  | .smem => 0
  | _ => 0

abbrev bufTy : (tb : Table) → Fin (tcTables nBuf tb) → BufTy
  | .hbm, ⟨0, _⟩ => ⟨S8192x1024, .bf16⟩
  | .hbm, ⟨1, _⟩ => ⟨S8192x2048, .bf16⟩
  | .hbm, ⟨2, _⟩ => ⟨S8x1024x256, .f32⟩
  | .hbm, ⟨3, _⟩ => ⟨S8x1024x256, .bf16⟩
  | .local _ .vmem, ⟨0, _⟩ => ⟨S1024x1024, .bf16⟩
  | .local _ .vmem, ⟨1, _⟩ => ⟨S1024x1024, .bf16⟩
  | .local _ .vmem, ⟨2, _⟩ => ⟨S1024x2048, .bf16⟩
  | .local _ .vmem, ⟨3, _⟩ => ⟨S1024x2048, .bf16⟩
  | .local _ .vmem, ⟨4, _⟩ => ⟨S8x1024x256, .f32⟩
  | .local _ .vmem, ⟨5, _⟩ => ⟨S8x1024x256, .bf16⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0_0 : Ref sig .tc := ⟨.hbm, 2, rfl⟩
abbrev main_v0_1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5

abbrev nD : Nat := 1
abbrev τ : Topo := Topo.v7x

variable {F : FTy → Type} [FloatOps F]

abbrev grid0 : Pipeline.Grid := ⟨3, ![1, 1, 8], ![false, false, false]⟩

def k0_cond2 (i : grid0.Coords) : BitVec 1 :=
  let arg2 : BitVec 32 := BitVec.ofNat 32 (i 2).val
  let c7_i32 : BitVec 32 := 7#32
  let v69 : BitVec 1 := Scalar.cmpi .eq arg2 c7_i32
  let v70 : BitVec 32 := Scalar.extui v69
  let c0_i32_59 : BitVec 32 := 0#32
  let v71 : BitVec 1 := Scalar.cmpi .ne v70 c0_i32_59
  v71

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg1.toNat, arg0.toNat, c0_i32.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg1.toNat, arg0.toNat, c0_i32.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 1 → Memref sig .tc .vmem S8x1024x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true, false]

abbrev stage0_3 : Fin 1 → Memref sig .tc .vmem S8x1024x256 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true, true, false]
-- ==== Reference9Ideal.lean ====
abbrev S8192x1024 : Shape := ⟨2, ![8192, 1024]⟩
abbrev S8192x2048 : Shape := ⟨2, ![8192, 2048]⟩
abbrev S_ : Shape := ⟨0, ![]⟩
abbrev S1024x2048 : Shape := ⟨2, ![1024, 2048]⟩
abbrev S2048x1024 : Shape := ⟨2, ![2048, 1024]⟩
abbrev S1024x8x256 : Shape := ⟨3, ![1024, 8, 256]⟩
abbrev S8x1024x256 : Shape := ⟨3, ![8, 1024, 256]⟩

abbrev nBuf : Space → Nat
  | .hbm => 12
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S8192x2048, .bf16⟩
  | .hbm, ⟨2, _⟩ => ⟨S_, .f32⟩
  | .hbm, ⟨3, _⟩ => ⟨S1024x2048, .f32⟩
  | .hbm, ⟨4, _⟩ => ⟨S8192x1024, .f32⟩
  | .hbm, ⟨5, _⟩ => ⟨S8192x2048, .f32⟩
  | .hbm, ⟨6, _⟩ => ⟨S8192x2048, .f32⟩
  | .hbm, ⟨7, _⟩ => ⟨S2048x1024, .f32⟩
  | .hbm, ⟨8, _⟩ => ⟨S1024x2048, .f32⟩
  | .hbm, ⟨9, _⟩ => ⟨S1024x8x256, .f32⟩
  | .hbm, ⟨10, _⟩ => ⟨S8x1024x256, .f32⟩
  | .hbm, ⟨11, _⟩ => ⟨S8x1024x256, .bf16⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩

abbrev nD : Nat := 1
abbrev τ : Topo := Topo.v7x

variable {F : FTy → Type} [FloatOps F]
-- ==== Kernel10.lean ====
abbrev S8192x1024 : Shape := ⟨2, ![8192, 1024]⟩
abbrev S1024x1024 : Shape := ⟨2, ![1024, 1024]⟩

abbrev nBuf : Space → Nat
  | .hbm => 4
  | .vmem => 6
  | .smem => 0
  | _ => 0

abbrev bufTy : (tb : Table) → Fin (tcTables nBuf tb) → BufTy
  | .hbm, ⟨0, _⟩ => ⟨S8192x1024, .bf16⟩
  | .hbm, ⟨1, _⟩ => ⟨S8192x1024, .bf16⟩
  | .hbm, ⟨2, _⟩ => ⟨S1024x1024, .f32⟩
  | .hbm, ⟨3, _⟩ => ⟨S1024x1024, .bf16⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .bf16⟩
  | .local _ .vmem, ⟨4, _⟩ => ⟨S1024x1024, .f32⟩
  | .local _ .vmem, ⟨5, _⟩ => ⟨S1024x1024, .bf16⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0_0 : Ref sig .tc := ⟨.hbm, 2, rfl⟩
abbrev main_v0_1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5

abbrev nD : Nat := 1
abbrev τ : Topo := Topo.v7x

variable {F : FTy → Type} [FloatOps F]

abbrev grid0 : Pipeline.Grid := ⟨3, ![1, 1, 8], ![false, false, false]⟩

def k0_cond2 (i : grid0.Coords) : BitVec 1 :=
  let arg2 : BitVec 32 := BitVec.ofNat 32 (i 2).val
  let c7_i32 : BitVec 32 := 7#32
  let v11 : BitVec 1 := Scalar.cmpi .eq arg2 c7_i32
  let v12 : BitVec 32 := Scalar.extui v11
  let c0_i32_8 : BitVec 32 := 0#32
  let v13 : BitVec 1 := Scalar.cmpi .ne v12 c0_i32_8
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 1 → Memref sig .tc .vmem S1024x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true, false]

abbrev stage0_3 : Fin 1 → Memref sig .tc .vmem S1024x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true, true, false]
-- ==== Reference10Ideal.lean ====
abbrev S8192x1024 : Shape := ⟨2, ![8192, 1024]⟩
abbrev S_ : Shape := ⟨0, ![]⟩
abbrev S1024x1024 : Shape := ⟨2, ![1024, 1024]⟩

abbrev nBuf : Space → Nat
  | .hbm => 10
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S8192x1024, .bf16⟩
  | .hbm, ⟨2, _⟩ => ⟨S_, .f32⟩
  | .hbm, ⟨3, _⟩ => ⟨S1024x1024, .f32⟩
  | .hbm, ⟨4, _⟩ => ⟨S8192x1024, .f32⟩
  | .hbm, ⟨5, _⟩ => ⟨S8192x1024, .f32⟩
  | .hbm, ⟨6, _⟩ => ⟨S8192x1024, .f32⟩
  | .hbm, ⟨7, _⟩ => ⟨S1024x1024, .f32⟩
  | .hbm, ⟨8, _⟩ => ⟨S1024x1024, .f32⟩
  | .hbm, ⟨9, _⟩ => ⟨S1024x1024, .bf16⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== Kernel11.lean ====
abbrev S8192x4096 : Shape := ⟨2, ![8192, 4096]⟩
abbrev S4096x1024 : Shape := ⟨2, ![4096, 1024]⟩
abbrev S8192x1024 : Shape := ⟨2, ![8192, 1024]⟩
abbrev S512x4096 : Shape := ⟨2, ![512, 4096]⟩
abbrev S512x1024 : Shape := ⟨2, ![512, 1024]⟩
abbrev S4096x512 : Shape := ⟨2, ![4096, 512]⟩
abbrev S512x512 : Shape := ⟨2, ![512, 512]⟩

abbrev nBuf : Space → Nat
  | .hbm => 5
  | .vmem => 7
  | .smem => 0
  | _ => 0

abbrev bufTy : (tb : Table) → Fin (tcTables nBuf tb) → BufTy
  | .hbm, ⟨0, _⟩ => ⟨S8192x4096, .bf16⟩
  | .hbm, ⟨1, _⟩ => ⟨S4096x1024, .f32⟩
  | .hbm, ⟨2, _⟩ => ⟨S8192x1024, .f32⟩
  | .hbm, ⟨3, _⟩ => ⟨S4096x1024, .bf16⟩
  | .hbm, ⟨4, _⟩ => ⟨S8192x1024, .f32⟩
  | .local _ .vmem, ⟨0, _⟩ => ⟨S512x4096, .bf16⟩
  | .local _ .vmem, ⟨1, _⟩ => ⟨S512x4096, .bf16⟩
  | .local _ .vmem, ⟨2, _⟩ => ⟨S4096x1024, .bf16⟩
  | .local _ .vmem, ⟨3, _⟩ => ⟨S512x1024, .f32⟩
  | .local _ .vmem, ⟨4, _⟩ => ⟨S512x1024, .f32⟩
  | .local _ .vmem, ⟨5, _⟩ => ⟨S512x1024, .f32⟩
  | .local _ .vmem, ⟨6, _⟩ => ⟨S512x1024, .f32⟩
  | _, _ => ⟨S8192x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S4096x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== Reference11Ideal.lean ====
abbrev S8192x4096 : Shape := ⟨2, ![8192, 4096]⟩
abbrev S4096x1024 : Shape := ⟨2, ![4096, 1024]⟩
abbrev S8192x1024 : Shape := ⟨2, ![8192, 1024]⟩

abbrev nBuf : Space → Nat
  | .hbm => 6
  | .vmem => 0
  | .smem => 0
  | _ => 0

abbrev bufTy : (tb : Table) → Fin (tcTables nBuf tb) → BufTy
  | .hbm, ⟨0, _⟩ => ⟨S8192x4096, .bf16⟩
  | .hbm, ⟨1, _⟩ => ⟨S4096x1024, .f32⟩
  | .hbm, ⟨2, _⟩ => ⟨S8192x1024, .f32⟩
  | .hbm, ⟨3, _⟩ => ⟨S8192x4096, .f32⟩
  | .hbm, ⟨4, _⟩ => ⟨S8192x1024, .f32⟩
  | .hbm, ⟨5, _⟩ => ⟨S8192x1024, .f32⟩
  | _, _ => ⟨S8192x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩

abbrev nD : Nat := 1
abbrev τ : Topo := Topo.v7x

variable {F : FTy → Type} [FloatOps F]
-- ==== Kernel12.lean ====
abbrev S8192x2048 : Shape := ⟨2, ![8192, 2048]⟩
abbrev S1024x2048 : Shape := ⟨2, ![1024, 2048]⟩
abbrev S1024x8x256 : Shape := ⟨3, ![1024, 8, 256]⟩
abbrev S8x1024x256 : Shape := ⟨3, ![8, 1024, 256]⟩
abbrev S8192x1024 : Shape := ⟨2, ![8192, 1024]⟩
abbrev S1024x1024 : Shape := ⟨2, ![1024, 1024]⟩
abbrev S1024x256 : Shape := ⟨2, ![1024, 256]⟩
abbrev S1x1024x256 : Shape := ⟨3, ![1, 1024, 256]⟩

abbrev nBuf : Space → Nat
  | .hbm => 6
  | .vmem => 5
  | .smem => 0
  | _ => 0

abbrev bufTy : (tb : Table) → Fin (tcTables nBuf tb) → BufTy
  | .hbm, ⟨0, _⟩ => ⟨S8192x2048, .bf16⟩
  | .hbm, ⟨1, _⟩ => ⟨S1024x2048, .f32⟩
  | .hbm, ⟨2, _⟩ => ⟨S1024x2048, .bf16⟩
  | .hbm, ⟨3, _⟩ => ⟨S1024x8x256, .bf16⟩
  | .hbm, ⟨4, _⟩ => ⟨S8x1024x256, .bf16⟩
  | .hbm, ⟨5, _⟩ => ⟨S8192x1024, .f32⟩
  | .local _ .vmem, ⟨0, _⟩ => ⟨S1024x2048, .bf16⟩
  | .local _ .vmem, ⟨1, _⟩ => ⟨S1024x2048, .bf16⟩
  | .local _ .vmem, ⟨2, _⟩ => ⟨S8x1024x256, .bf16⟩
  | .local _ .vmem, ⟨3, _⟩ => ⟨S1024x1024, .f32⟩
  | .local _ .vmem, ⟨4, _⟩ => ⟨S1024x1024, .f32⟩
  | _, _ => ⟨S8192x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S8x1024x256 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== Reference12Ideal.lean ====
abbrev S8192x2048 : Shape := ⟨2, ![8192, 2048]⟩
abbrev S1024x2048 : Shape := ⟨2, ![1024, 2048]⟩
abbrev S_ : Shape := ⟨0, ![]⟩
abbrev S8192x1024 : Shape := ⟨2, ![8192, 1024]⟩

abbrev nBuf : Space → Nat
  | .hbm => 7
  | .vmem => 0
  | .smem => 0
  | _ => 0

abbrev bufTy : (tb : Table) → Fin (tcTables nBuf tb) → BufTy
  | .hbm, ⟨0, _⟩ => ⟨S8192x2048, .bf16⟩
  | .hbm, ⟨1, _⟩ => ⟨S1024x2048, .f32⟩
  | .hbm, ⟨2, _⟩ => ⟨S_, .f32⟩
  | .hbm, ⟨3, _⟩ => ⟨S8192x1024, .f32⟩
  | .hbm, ⟨4, _⟩ => ⟨S8192x2048, .f32⟩
  | .hbm, ⟨5, _⟩ => ⟨S8192x2048, .f32⟩
  | .hbm, ⟨6, _⟩ => ⟨S8192x1024, .f32⟩
  | _, _ => ⟨S8192x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== Kernel13.lean ====
abbrev S8192x1024 : Shape := ⟨2, ![8192, 1024]⟩
abbrev S1024x1024 : Shape := ⟨2, ![1024, 1024]⟩
abbrev S512x1024 : Shape := ⟨2, ![512, 1024]⟩
abbrev S1024x512 : Shape := ⟨2, ![1024, 512]⟩

abbrev nBuf : Space → Nat
  | .hbm => 4
  | .vmem => 5
  | .smem => 0
  | _ => 0

abbrev bufTy : (tb : Table) → Fin (tcTables nBuf tb) → BufTy
  | .hbm, ⟨0, _⟩ => ⟨S8192x1024, .bf16⟩
  | .hbm, ⟨1, _⟩ => ⟨S1024x1024, .f32⟩
  | .hbm, ⟨2, _⟩ => ⟨S1024x1024, .bf16⟩
  | .hbm, ⟨3, _⟩ => ⟨S8192x1024, .f32⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .f32⟩
  | .local _ .vmem, ⟨4, _⟩ => ⟨S1024x1024, .f32⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== Reference13Ideal.lean ====
abbrev S8192x1024 : Shape := ⟨2, ![8192, 1024]⟩
abbrev S1024x1024 : Shape := ⟨2, ![1024, 1024]⟩
abbrev S_ : Shape := ⟨0, ![]⟩

abbrev nBuf : Space → Nat
  | .hbm => 7
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S1024x1024, .f32⟩
  | .hbm, ⟨2, _⟩ => ⟨S_, .f32⟩
  | .hbm, ⟨3, _⟩ => ⟨S8192x1024, .f32⟩
  | .hbm, ⟨4, _⟩ => ⟨S8192x1024, .f32⟩
  | .hbm, ⟨5, _⟩ => ⟨S8192x1024, .f32⟩
  | .hbm, ⟨6, _⟩ => ⟨S8192x1024, .f32⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== Kernel14.lean ====
abbrev S8192x1024 : Shape := ⟨2, ![8192, 1024]⟩
abbrev S1024x1024 : Shape := ⟨2, ![1024, 1024]⟩
abbrev S512x1024 : Shape := ⟨2, ![512, 1024]⟩
abbrev S1024x512 : Shape := ⟨2, ![1024, 512]⟩

abbrev nBuf : Space → Nat
  | .hbm => 4
  | .vmem => 5
  | .smem => 0
  | _ => 0

abbrev bufTy : (tb : Table) → Fin (tcTables nBuf tb) → BufTy
  | .hbm, ⟨0, _⟩ => ⟨S8192x1024, .bf16⟩
  | .hbm, ⟨1, _⟩ => ⟨S1024x1024, .f32⟩
  | .hbm, ⟨2, _⟩ => ⟨S1024x1024, .bf16⟩
  | .hbm, ⟨3, _⟩ => ⟨S8192x1024, .bf16⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .bf16⟩
  | .local _ .vmem, ⟨4, _⟩ => ⟨S1024x1024, .bf16⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== Reference14Ideal.lean ====
abbrev S8192x1024 : Shape := ⟨2, ![8192, 1024]⟩
abbrev S1024x1024 : Shape := ⟨2, ![1024, 1024]⟩
abbrev S_ : Shape := ⟨0, ![]⟩

abbrev nBuf : Space → Nat
  | .hbm => 8
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S1024x1024, .f32⟩
  | .hbm, ⟨2, _⟩ => ⟨S_, .f32⟩
  | .hbm, ⟨3, _⟩ => ⟨S8192x1024, .f32⟩
  | .hbm, ⟨4, _⟩ => ⟨S8192x1024, .f32⟩
  | .hbm, ⟨5, _⟩ => ⟨S8192x1024, .f32⟩
  | .hbm, ⟨6, _⟩ => ⟨S8192x1024, .f32⟩
  | .hbm, ⟨7, _⟩ => ⟨S8192x1024, .bf16⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== Kernel15.lean ====
abbrev S8192x512 : Shape := ⟨2, ![8192, 512]⟩
abbrev S1024x4608 : Shape := ⟨2, ![1024, 4608]⟩
abbrev S8192x1024 : Shape := ⟨2, ![8192, 1024]⟩
abbrev S1024 : Shape := ⟨1, ![1024]⟩
abbrev S1024x8x576 : Shape := ⟨3, ![1024, 8, 576]⟩
abbrev S8x1024x576 : Shape := ⟨3, ![8, 1024, 576]⟩
abbrev S1x1024 : Shape := ⟨2, ![1, 1024]⟩
abbrev S256x512 : Shape := ⟨2, ![256, 512]⟩
abbrev S256x1024 : Shape := ⟨2, ![256, 1024]⟩
abbrev S256x576 : Shape := ⟨2, ![256, 576]⟩
abbrev S256x64 : Shape := ⟨2, ![256, 64]⟩
abbrev S1x1024x576 : Shape := ⟨3, ![1, 1024, 576]⟩
abbrev S1024x576 : Shape := ⟨2, ![1024, 576]⟩
abbrev S256 : Shape := ⟨1, ![256]⟩
abbrev S256x1 : Shape := ⟨2, ![256, 1]⟩

abbrev nBuf : Space → Nat
  | .hbm => 20
  | .vmem => 31
  | .smem => 0
  | _ => 0

abbrev bufTy : (tb : Table) → Fin (tcTables nBuf tb) → BufTy
  | .hbm, ⟨0, _⟩ => ⟨S8192x512, .bf16⟩
  | .hbm, ⟨1, _⟩ => ⟨S8192x512, .bf16⟩
  | .hbm, ⟨2, _⟩ => ⟨S8192x512, .bf16⟩
  | .hbm, ⟨3, _⟩ => ⟨S8192x512, .bf16⟩
  | .hbm, ⟨4, _⟩ => ⟨S8192x512, .bf16⟩
  | .hbm, ⟨5, _⟩ => ⟨S8192x512, .bf16⟩
  | .hbm, ⟨6, _⟩ => ⟨S8192x512, .bf16⟩
  | .hbm, ⟨7, _⟩ => ⟨S8192x512, .bf16⟩
  | .hbm, ⟨8, _⟩ => ⟨S8192x512, .bf16⟩
  | .hbm, ⟨9, _⟩ => ⟨S1024x4608, .f32⟩
  | .hbm, ⟨10, _⟩ => ⟨S8192x1024, .f32⟩
  | .hbm, ⟨11, _⟩ => ⟨S8192x1024, .f32⟩
  | .hbm, ⟨12, _⟩ => ⟨S1024, .f32⟩
  | .hbm, ⟨13, _⟩ => ⟨S1024x4608, .bf16⟩
  | .hbm, ⟨14, _⟩ => ⟨S1024x8x576, .bf16⟩
  | .hbm, ⟨15, _⟩ => ⟨S8x1024x576, .bf16⟩
  | .hbm, ⟨16, _⟩ => ⟨S1x1024, .f32⟩
  | .hbm, ⟨17, _⟩ => ⟨S8192x1024, .f32⟩
  | .hbm, ⟨18, _⟩ => ⟨S8192x1024, .bf16⟩
  | .hbm, ⟨19, _⟩ => ⟨S1x1024, .f32⟩
  | .local _ .vmem, ⟨0, _⟩ => ⟨S256x512, .bf16⟩
  | .local _ .vmem, ⟨1, _⟩ => ⟨S256x512, .bf16⟩
  | .local _ .vmem, ⟨2, _⟩ => ⟨S256x512, .bf16⟩
  | .local _ .vmem, ⟨3, _⟩ => ⟨S256x512, .bf16⟩
  | .local _ .vmem, ⟨4, _⟩ => ⟨S256x512, .bf16⟩
  | .local _ .vmem, ⟨5, _⟩ => ⟨S256x512, .bf16⟩
  | .local _ .vmem, ⟨6, _⟩ => ⟨S256x512, .bf16⟩
  | .local _ .vmem, ⟨7, _⟩ => ⟨S256x512, .bf16⟩
  | .local _ .vmem, ⟨8, _⟩ => ⟨S256x512, .bf16⟩
  | .local _ .vmem, ⟨9, _⟩ => ⟨S256x512, .bf16⟩
  | .local _ .vmem, ⟨10, _⟩ => ⟨S256x512, .bf16⟩
  | .local _ .vmem, ⟨11, _⟩ => ⟨S256x512, .bf16⟩
  | .local _ .vmem, ⟨12, _⟩ => ⟨S256x512, .bf16⟩
  | .local _ .vmem, ⟨13, _⟩ => ⟨S256x512, .bf16⟩
  | .local _ .vmem, ⟨14, _⟩ => ⟨S256x512, .bf16⟩
  | .local _ .vmem, ⟨15, _⟩ => ⟨S256x512, .bf16⟩
  | .local _ .vmem, ⟨16, _⟩ => ⟨S256x512, .bf16⟩
  | .local _ .vmem, ⟨17, _⟩ => ⟨S256x512, .bf16⟩
  | .local _ .vmem, ⟨18, _⟩ => ⟨S8x1024x576, .bf16⟩
  | .local _ .vmem, ⟨19, _⟩ => ⟨S256x1024, .f32⟩
  | .local _ .vmem, ⟨20, _⟩ => ⟨S256x1024, .f32⟩
  | .local _ .vmem, ⟨21, _⟩ => ⟨S256x1024, .f32⟩
  | .local _ .vmem, ⟨22, _⟩ => ⟨S256x1024, .f32⟩
  | .local _ .vmem, ⟨23, _⟩ => ⟨S1x1024, .f32⟩
  | .local _ .vmem, ⟨24, _⟩ => ⟨S256x1024, .f32⟩
  | .local _ .vmem, ⟨25, _⟩ => ⟨S256x1024, .f32⟩
  | .local _ .vmem, ⟨26, _⟩ => ⟨S256x1024, .bf16⟩
  | .local _ .vmem, ⟨27, _⟩ => ⟨S256x1024, .bf16⟩
  | .local _ .vmem, ⟨28, _⟩ => ⟨S1x1024, .f32⟩
  | .local _ .vmem, ⟨29, _⟩ => ⟨S256x576, .bf16⟩
  | .local _ .vmem, ⟨30, _⟩ => ⟨S256x576, .bf16⟩
  | _, _ => ⟨S8192x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | _, _ => false

abbrev semScoped : Fin 0 → Bool
  | ⟨_, h⟩ => absurd h (Nat.not_lt_zero _)

abbrev dmaSemScoped : Fin 29 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | _ => false

abbrev sig : RefSig :=
  ofTc nBuf bufTy 0 29 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_v4_0 : Ref sig .tc := ⟨.hbm, 17, rfl⟩
abbrev main_v4_1 : Ref sig .tc := ⟨.hbm, 18, rfl⟩
abbrev main_v4_2 : Ref sig .tc := ⟨.hbm, 19, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg10_0 : Ref sig .tc := ⟨.vmem, 19, rfl⟩
abbrev cc0_stg10_1 : Ref sig .tc := ⟨.vmem, 20, rfl⟩
abbrev cc0_stg11_0 : Ref sig .tc := ⟨.vmem, 21, rfl⟩
abbrev cc0_stg11_1 : Ref sig .tc := ⟨.vmem, 22, rfl⟩
abbrev cc0_stg12_0 : Ref sig .tc := ⟨.vmem, 23, rfl⟩
abbrev cc0_stg13_0 : Ref sig .tc := ⟨.vmem, 24, rfl⟩
abbrev cc0_stg13_1 : Ref sig .tc := ⟨.vmem, 25, rfl⟩
abbrev cc0_stg14_0 : Ref sig .tc := ⟨.vmem, 26, rfl⟩
abbrev cc0_stg14_1 : Ref sig .tc := ⟨.vmem, 27, rfl⟩
abbrev cc0_stg15_0 : Ref sig .tc := ⟨.vmem, 28, rfl⟩
abbrev cc0_scratch0 : Ref sig .tc := ⟨.vmem, 29, rfl⟩
abbrev cc0_scratch1 : Ref sig .tc := ⟨.vmem, 30, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem10_0 : DmaSem sig := 19
abbrev cc0_sem10_1 : DmaSem sig := 20
abbrev cc0_sem11_0 : DmaSem sig := 21
abbrev cc0_sem11_1 : DmaSem sig := 22
abbrev cc0_sem12_0 : DmaSem sig := 23
abbrev cc0_sem13_0 : DmaSem sig := 24
abbrev cc0_sem13_1 : DmaSem sig := 25
abbrev cc0_sem14_0 : DmaSem sig := 26
abbrev cc0_sem14_1 : DmaSem sig := 27
abbrev cc0_sem15_0 : DmaSem sig := 28

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_14 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_15 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x512 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x512 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S256x512 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 1 → Memref sig .tc .vmem S8x1024x576 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 2 → Memref sig .tc .vmem S256x1024 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S256x1024 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 1 → Memref sig .tc .vmem S1x1024 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 2 → Memref sig .tc .vmem S256x1024 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 2 → Memref sig .tc .vmem S256x1024 .bf16 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]

abbrev stage0_15 : Fin 1 → Memref sig .tc .vmem S1x1024 .f32 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![false]
-- ==== Reference15Ideal.lean ====
abbrev S8192x512 : Shape := ⟨2, ![8192, 512]⟩
abbrev S1024x4608 : Shape := ⟨2, ![1024, 4608]⟩
abbrev S8192x1024 : Shape := ⟨2, ![8192, 1024]⟩
abbrev S1024 : Shape := ⟨1, ![1024]⟩
abbrev S8192x4608 : Shape := ⟨2, ![8192, 4608]⟩
abbrev S_ : Shape := ⟨0, ![]⟩
abbrev S8192 : Shape := ⟨1, ![8192]⟩
abbrev S8192x1 : Shape := ⟨2, ![8192, 1]⟩
abbrev S1x1024 : Shape := ⟨2, ![1, 1024]⟩

abbrev nBuf : Space → Nat
  | .hbm => 65
  | .vmem => 0
  | .smem => 0
  | _ => 0

abbrev bufTy : (tb : Table) → Fin (tcTables nBuf tb) → BufTy
  | .hbm, ⟨0, _⟩ => ⟨S8192x512, .bf16⟩
  | .hbm, ⟨1, _⟩ => ⟨S8192x512, .bf16⟩
  | .hbm, ⟨2, _⟩ => ⟨S8192x512, .bf16⟩
  | .hbm, ⟨3, _⟩ => ⟨S8192x512, .bf16⟩
  | .hbm, ⟨4, _⟩ => ⟨S8192x512, .bf16⟩
  | .hbm, ⟨5, _⟩ => ⟨S8192x512, .bf16⟩
  | .hbm, ⟨6, _⟩ => ⟨S8192x512, .bf16⟩
  | .hbm, ⟨7, _⟩ => ⟨S8192x512, .bf16⟩
  | .hbm, ⟨8, _⟩ => ⟨S8192x512, .bf16⟩
  | .hbm, ⟨9, _⟩ => ⟨S1024x4608, .f32⟩
  | .hbm, ⟨10, _⟩ => ⟨S8192x1024, .f32⟩
  | .hbm, ⟨11, _⟩ => ⟨S8192x1024, .f32⟩
  | .hbm, ⟨12, _⟩ => ⟨S1024, .f32⟩
  | .hbm, ⟨13, _⟩ => ⟨S8192x4608, .bf16⟩
  | .hbm, ⟨14, _⟩ => ⟨S8192x4608, .f32⟩
  | .hbm, ⟨15, _⟩ => ⟨S8192x1024, .f32⟩
  | .hbm, ⟨16, _⟩ => ⟨S_, .f32⟩
  | .hbm, ⟨17, _⟩ => ⟨S8192, .f32⟩
  | .hbm, ⟨18, _⟩ => ⟨S8192x1, .f32⟩
  | .hbm, ⟨19, _⟩ => ⟨S_, .f32⟩
  | .hbm, ⟨20, _⟩ => ⟨S8192x1, .f32⟩
  | .hbm, ⟨21, _⟩ => ⟨S8192x1, .f32⟩
  | .hbm, ⟨22, _⟩ => ⟨S_, .f32⟩
  | .hbm, ⟨23, _⟩ => ⟨S8192x1, .f32⟩
  | .hbm, ⟨24, _⟩ => ⟨S8192x1, .f32⟩
  | .hbm, ⟨25, _⟩ => ⟨S8192x1, .f32⟩
  | .hbm, ⟨26, _⟩ => ⟨S8192x1, .f32⟩
  | .hbm, ⟨27, _⟩ => ⟨S_, .f32⟩
  | .hbm, ⟨28, _⟩ => ⟨S8192x1, .f32⟩
  | .hbm, ⟨29, _⟩ => ⟨S8192x1, .f32⟩
  | .hbm, ⟨30, _⟩ => ⟨S8192x1024, .f32⟩
  | .hbm, ⟨31, _⟩ => ⟨S8192x1024, .f32⟩
  | .hbm, ⟨32, _⟩ => ⟨S1x1024, .f32⟩
  | .hbm, ⟨33, _⟩ => ⟨S8192x1024, .f32⟩
  | .hbm, ⟨34, _⟩ => ⟨S8192x1024, .f32⟩
  | .hbm, ⟨35, _⟩ => ⟨S8192x4608, .f32⟩
  | .hbm, ⟨36, _⟩ => ⟨S8192x1024, .f32⟩
  | .hbm, ⟨37, _⟩ => ⟨S8192x1024, .f32⟩
  | .hbm, ⟨38, _⟩ => ⟨S_, .f32⟩
  | .hbm, ⟨39, _⟩ => ⟨S1024, .f32⟩
  | .hbm, ⟨40, _⟩ => ⟨S1x1024, .f32⟩
  | .hbm, ⟨41, _⟩ => ⟨S8192x1024, .f32⟩
  | .hbm, ⟨42, _⟩ => ⟨S8192x1024, .f32⟩
  | .hbm, ⟨43, _⟩ => ⟨S_, .f32⟩
  | .hbm, ⟨44, _⟩ => ⟨S1024, .f32⟩
  | .hbm, ⟨45, _⟩ => ⟨S8192x1024, .f32⟩
  | .hbm, ⟨46, _⟩ => ⟨S_, .f32⟩
  | .hbm, ⟨47, _⟩ => ⟨S8192, .f32⟩
  | .hbm, ⟨48, _⟩ => ⟨S8192x1, .f32⟩
  | .hbm, ⟨49, _⟩ => ⟨S8192x1024, .f32⟩
  | .hbm, ⟨50, _⟩ => ⟨S8192x1024, .f32⟩
  | .hbm, ⟨51, _⟩ => ⟨S8192x1024, .f32⟩
  | .hbm, ⟨52, _⟩ => ⟨S8192x1, .f32⟩
  | .hbm, ⟨53, _⟩ => ⟨S_, .f32⟩
  | .hbm, ⟨54, _⟩ => ⟨S8192x1, .f32⟩
  | .hbm, ⟨55, _⟩ => ⟨S8192x1, .f32⟩
  | .hbm, ⟨56, _⟩ => ⟨S_, .f32⟩
  | .hbm, ⟨57, _⟩ => ⟨S8192, .f32⟩
  | .hbm, ⟨58, _⟩ => ⟨S8192x1024, .f32⟩
  | .hbm, ⟨59, _⟩ => ⟨S8192x1024, .f32⟩
  | .hbm, ⟨60, _⟩ => ⟨S8192x1024, .f32⟩
  | .hbm, ⟨61, _⟩ => ⟨S8192x1024, .f32⟩
  | .hbm, ⟨62, _⟩ => ⟨S8192x1024, .f32⟩
  | .hbm, ⟨63, _⟩ => ⟨S8192x1024, .bf16⟩
  | .hbm, ⟨64, _⟩ => ⟨S1x1024, .f32⟩
  | _, _ => ⟨S8192x512, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_cst : Ref sig .tc := ⟨.hbm, 16, rfl⟩
abbrev main_v3 : Ref sig .tc := ⟨.hbm, 17, rfl⟩
abbrev main_v4 : Ref sig .tc := ⟨.hbm, 18, rfl⟩
abbrev main_cst_0 : Ref sig .tc := ⟨.hbm, 19, rfl⟩
abbrev main_v5 : Ref sig .tc := ⟨.hbm, 20, rfl⟩
abbrev main_v6 : Ref sig .tc := ⟨.hbm, 21, rfl⟩
abbrev main_cst_1 : Ref sig .tc := ⟨.hbm, 22, rfl⟩
abbrev main_v7 : Ref sig .tc := ⟨.hbm, 23, rfl⟩
abbrev main_v8 : Ref sig .tc := ⟨.hbm, 24, rfl⟩
abbrev main_v9 : Ref sig .tc := ⟨.hbm, 25, rfl⟩
abbrev main_v10 : Ref sig .tc := ⟨.hbm, 26, rfl⟩
abbrev main_cst_2 : Ref sig .tc := ⟨.hbm, 27, rfl⟩
abbrev main_v11 : Ref sig .tc := ⟨.hbm, 28, rfl⟩
abbrev main_v12 : Ref sig .tc := ⟨.hbm, 29, rfl⟩
abbrev main_v13 : Ref sig .tc := ⟨.hbm, 30, rfl⟩
abbrev main_v14 : Ref sig .tc := ⟨.hbm, 31, rfl⟩
abbrev main_v15 : Ref sig .tc := ⟨.hbm, 32, rfl⟩
abbrev main_v16 : Ref sig .tc := ⟨.hbm, 33, rfl⟩
abbrev main_v17 : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩
abbrev main_cst_3 : Ref sig .tc := ⟨.hbm, 38, rfl⟩
abbrev main_v21 : Ref sig .tc := ⟨.hbm, 39, rfl⟩
abbrev main_v22 : Ref sig .tc := ⟨.hbm, 40, rfl⟩
abbrev main_v23 : Ref sig .tc := ⟨.hbm, 41, rfl⟩
abbrev main_v24 : Ref sig .tc := ⟨.hbm, 42, rfl⟩
abbrev main_cst_4 : Ref sig .tc := ⟨.hbm, 43, rfl⟩
abbrev main_v25 : Ref sig .tc := ⟨.hbm, 44, rfl⟩
abbrev main_v26 : Ref sig .tc := ⟨.hbm, 45, rfl⟩
abbrev main_cst_5 : Ref sig .tc := ⟨.hbm, 46, rfl⟩
abbrev main_v27 : Ref sig .tc := ⟨.hbm, 47, rfl⟩
abbrev main_v28 : Ref sig .tc := ⟨.hbm, 48, rfl⟩
abbrev main_v29 : Ref sig .tc := ⟨.hbm, 49, rfl⟩
abbrev main_v30 : Ref sig .tc := ⟨.hbm, 50, rfl⟩
abbrev main_v31 : Ref sig .tc := ⟨.hbm, 51, rfl⟩
abbrev main_v32 : Ref sig .tc := ⟨.hbm, 52, rfl⟩
abbrev main_cst_6 : Ref sig .tc := ⟨.hbm, 53, rfl⟩
abbrev main_v33 : Ref sig .tc := ⟨.hbm, 54, rfl⟩
abbrev main_v34 : Ref sig .tc := ⟨.hbm, 55, rfl⟩
abbrev main_cst_7 : Ref sig .tc := ⟨.hbm, 56, rfl⟩
abbrev main_v35 : Ref sig .tc := ⟨.hbm, 57, rfl⟩
abbrev main_v36 : Ref sig .tc := ⟨.hbm, 58, rfl⟩
abbrev main_v37 : Ref sig .tc := ⟨.hbm, 59, rfl⟩
abbrev main_v38 : Ref sig .tc := ⟨.hbm, 60, rfl⟩
abbrev main_v39 : Ref sig .tc := ⟨.hbm, 61, rfl⟩
abbrev main_v40 : Ref sig .tc := ⟨.hbm, 62, rfl⟩
abbrev main_v41 : Ref sig .tc := ⟨.hbm, 63, rfl⟩
abbrev main_v42 : Ref sig .tc := ⟨.hbm, 64, rfl⟩

abbrev nD : Nat := 1
abbrev τ : Topo := Topo.v7x

variable {F : FTy → Type} [FloatOps F]
-- ==== Kernel16.lean ====
abbrev S8192x1024 : Shape := ⟨2, ![8192, 1024]⟩
abbrev S8192x512 : Shape := ⟨2, ![8192, 512]⟩
abbrev S8x1024x576 : Shape := ⟨3, ![8, 1024, 576]⟩
abbrev S512x512 : Shape := ⟨2, ![512, 512]⟩
abbrev S8x512x576 : Shape := ⟨3, ![8, 512, 576]⟩
abbrev S512x576 : Shape := ⟨2, ![512, 576]⟩
abbrev S512x64 : Shape := ⟨2, ![512, 64]⟩
abbrev S1x512x576 : Shape := ⟨3, ![1, 512, 576]⟩

abbrev nBuf : Space → Nat
  | .hbm => 12
  | .vmem => 26
  | .smem => 0
  | _ => 0

abbrev bufTy : (tb : Table) → Fin (tcTables nBuf tb) → BufTy
  | .hbm, ⟨0, _⟩ => ⟨S8192x1024, .bf16⟩
  | .hbm, ⟨1, _⟩ => ⟨S8192x512, .bf16⟩
  | .hbm, ⟨2, _⟩ => ⟨S8192x512, .bf16⟩
  | .hbm, ⟨3, _⟩ => ⟨S8192x512, .bf16⟩
  | .hbm, ⟨4, _⟩ => ⟨S8192x512, .bf16⟩
  | .hbm, ⟨5, _⟩ => ⟨S8192x512, .bf16⟩
  | .hbm, ⟨6, _⟩ => ⟨S8192x512, .bf16⟩
  | .hbm, ⟨7, _⟩ => ⟨S8192x512, .bf16⟩
  | .hbm, ⟨8, _⟩ => ⟨S8192x512, .bf16⟩
  | .hbm, ⟨9, _⟩ => ⟨S8192x512, .bf16⟩
  | .hbm, ⟨10, _⟩ => ⟨S8x1024x576, .f32⟩
  | .hbm, ⟨11, _⟩ => ⟨S8x1024x576, .bf16⟩
  | .local _ .vmem, ⟨0, _⟩ => ⟨S512x512, .bf16⟩
  | .local _ .vmem, ⟨1, _⟩ => ⟨S512x512, .bf16⟩
  | .local _ .vmem, ⟨2, _⟩ => ⟨S512x512, .bf16⟩
  | .local _ .vmem, ⟨3, _⟩ => ⟨S512x512, .bf16⟩
  | .local _ .vmem, ⟨4, _⟩ => ⟨S512x512, .bf16⟩
  | .local _ .vmem, ⟨5, _⟩ => ⟨S512x512, .bf16⟩
  | .local _ .vmem, ⟨6, _⟩ => ⟨S512x512, .bf16⟩
  | .local _ .vmem, ⟨7, _⟩ => ⟨S512x512, .bf16⟩
  | .local _ .vmem, ⟨8, _⟩ => ⟨S512x512, .bf16⟩
  | .local _ .vmem, ⟨9, _⟩ => ⟨S512x512, .bf16⟩
  | .local _ .vmem, ⟨10, _⟩ => ⟨S512x512, .bf16⟩
  | .local _ .vmem, ⟨11, _⟩ => ⟨S512x512, .bf16⟩
  | .local _ .vmem, ⟨12, _⟩ => ⟨S512x512, .bf16⟩
  | .local _ .vmem, ⟨13, _⟩ => ⟨S512x512, .bf16⟩
  | .local _ .vmem, ⟨14, _⟩ => ⟨S512x512, .bf16⟩
  | .local _ .vmem, ⟨15, _⟩ => ⟨S512x512, .bf16⟩
  | .local _ .vmem, ⟨16, _⟩ => ⟨S512x512, .bf16⟩
  | .local _ .vmem, ⟨17, _⟩ => ⟨S512x512, .bf16⟩
  | .local _ .vmem, ⟨18, _⟩ => ⟨S512x512, .bf16⟩
  | .local _ .vmem, ⟨19, _⟩ => ⟨S512x512, .bf16⟩
  | .local _ .vmem, ⟨20, _⟩ => ⟨S8x512x576, .f32⟩
  | .local _ .vmem, ⟨21, _⟩ => ⟨S8x512x576, .f32⟩
  | .local _ .vmem, ⟨22, _⟩ => ⟨S8x512x576, .bf16⟩
  | .local _ .vmem, ⟨23, _⟩ => ⟨S8x512x576, .bf16⟩
  | .local _ .vmem, ⟨24, _⟩ => ⟨S512x576, .bf16⟩
  | .local _ .vmem, ⟨25, _⟩ => ⟨S512x576, .bf16⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | _, _ => false

abbrev semScoped : Fin 0 → Bool
  | ⟨_, h⟩ => absurd h (Nat.not_lt_zero _)

abbrev dmaSemScoped : Fin 24 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | _ => false

abbrev sig : RefSig :=
  ofTc nBuf bufTy 0 24 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0_0 : Ref sig .tc := ⟨.hbm, 10, rfl⟩
abbrev main_v0_1 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_stg11_0 : Ref sig .tc := ⟨.vmem, 22, rfl⟩
abbrev cc0_stg11_1 : Ref sig .tc := ⟨.vmem, 23, rfl⟩
abbrev cc0_scratch0 : Ref sig .tc := ⟨.vmem, 24, rfl⟩
abbrev cc0_scratch1 : Ref sig .tc := ⟨.vmem, 25, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21
abbrev cc0_sem11_0 : DmaSem sig := 22
abbrev cc0_sem11_1 : DmaSem sig := 23

abbrev nD : Nat := 1
abbrev τ : Topo := Topo.v7x

variable {F : FTy → Type} [FloatOps F]

abbrev grid0 : Pipeline.Grid := ⟨3, ![2, 1, 16], ![false, false, false]⟩

def k0_cond2 (i : grid0.Coords) : BitVec 1 :=
  let arg2 : BitVec 32 := BitVec.ofNat 32 (i 2).val
  let c15_i32 : BitVec 32 := 15#32
  let v357 : BitVec 1 := Scalar.cmpi .eq arg2 c15_i32
  let v358 : BitVec 32 := Scalar.extui v357
  let c0_i32_346 : BitVec 32 := 0#32
  let v359 : BitVec 1 := Scalar.cmpi .ne v358 c0_i32_346
  v359

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg2.toNat, c0_i32.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg2.toNat, c0_i32.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg2.toNat, c0_i32.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg2.toNat, c0_i32.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg2.toNat, c0_i32.toNat]

def cc0_transform_6 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg2.toNat, c0_i32.toNat]

def cc0_transform_7 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg2.toNat, c0_i32.toNat]

def cc0_transform_8 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg2.toNat, c0_i32.toNat]

def cc0_transform_9 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg2.toNat, c0_i32.toNat]

def cc0_transform_10 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg1.toNat, arg0.toNat, c0_i32.toNat]

def cc0_transform_11 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg1.toNat, arg0.toNat, c0_i32.toNat]

abbrev stage0_0 : Fin 2 → Memref sig .tc .vmem S512x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S512x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, false, true]

abbrev stage0_2 : Fin 2 → Memref sig .tc .vmem S512x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, false, true]

abbrev stage0_3 : Fin 2 → Memref sig .tc .vmem S512x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, false, true]

abbrev stage0_4 : Fin 2 → Memref sig .tc .vmem S512x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, false, true]

abbrev stage0_5 : Fin 2 → Memref sig .tc .vmem S512x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, false, true]

abbrev stage0_6 : Fin 2 → Memref sig .tc .vmem S512x512 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![false, false, true]

abbrev stage0_7 : Fin 2 → Memref sig .tc .vmem S512x512 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![false, false, true]

abbrev stage0_8 : Fin 2 → Memref sig .tc .vmem S512x512 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![false, false, true]

abbrev stage0_9 : Fin 2 → Memref sig .tc .vmem S512x512 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![false, false, true]

abbrev stage0_10 : Fin 2 → Memref sig .tc .vmem S8x512x576 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true, false]

abbrev stage0_11 : Fin 2 → Memref sig .tc .vmem S8x512x576 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, true, false]
-- ==== Reference16Ideal.lean ====
abbrev S8192x1024 : Shape := ⟨2, ![8192, 1024]⟩
abbrev S8192x512 : Shape := ⟨2, ![8192, 512]⟩
abbrev S8192x4608 : Shape := ⟨2, ![8192, 4608]⟩
abbrev S_ : Shape := ⟨0, ![]⟩
abbrev S1024x4608 : Shape := ⟨2, ![1024, 4608]⟩
abbrev S4608x1024 : Shape := ⟨2, ![4608, 1024]⟩
abbrev S1024x8x576 : Shape := ⟨3, ![1024, 8, 576]⟩
abbrev S8x1024x576 : Shape := ⟨3, ![8, 1024, 576]⟩

abbrev nBuf : Space → Nat
  | .hbm => 21
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S8192x512, .bf16⟩
  | .hbm, ⟨2, _⟩ => ⟨S8192x512, .bf16⟩
  | .hbm, ⟨3, _⟩ => ⟨S8192x512, .bf16⟩
  | .hbm, ⟨4, _⟩ => ⟨S8192x512, .bf16⟩
  | .hbm, ⟨5, _⟩ => ⟨S8192x512, .bf16⟩
  | .hbm, ⟨6, _⟩ => ⟨S8192x512, .bf16⟩
  | .hbm, ⟨7, _⟩ => ⟨S8192x512, .bf16⟩
  | .hbm, ⟨8, _⟩ => ⟨S8192x512, .bf16⟩
  | .hbm, ⟨9, _⟩ => ⟨S8192x512, .bf16⟩
  | .hbm, ⟨10, _⟩ => ⟨S8192x4608, .bf16⟩
  | .hbm, ⟨11, _⟩ => ⟨S8192x4608, .f32⟩
  | .hbm, ⟨12, _⟩ => ⟨S_, .f32⟩
  | .hbm, ⟨13, _⟩ => ⟨S1024x4608, .f32⟩
  | .hbm, ⟨14, _⟩ => ⟨S8192x1024, .f32⟩
  | .hbm, ⟨15, _⟩ => ⟨S8192x4608, .f32⟩
  | .hbm, ⟨16, _⟩ => ⟨S4608x1024, .f32⟩
  | .hbm, ⟨17, _⟩ => ⟨S1024x4608, .f32⟩
  | .hbm, ⟨18, _⟩ => ⟨S1024x8x576, .f32⟩
  | .hbm, ⟨19, _⟩ => ⟨S8x1024x576, .f32⟩
  | .hbm, ⟨20, _⟩ => ⟨S8x1024x576, .bf16⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_cst : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩

abbrev nD : Nat := 1
abbrev τ : Topo := Topo.v7x

variable {F : FTy → Type} [FloatOps F]
-- ==== Kernel17.lean ====
abbrev S8192x1024 : Shape := ⟨2, ![8192, 1024]⟩
abbrev S1024x4608 : Shape := ⟨2, ![1024, 4608]⟩
abbrev S1024x8x576 : Shape := ⟨3, ![1024, 8, 576]⟩
abbrev S8x1024x576 : Shape := ⟨3, ![8, 1024, 576]⟩
abbrev S8192x512 : Shape := ⟨2, ![8192, 512]⟩
abbrev S512x1024 : Shape := ⟨2, ![512, 1024]⟩
abbrev S512x512 : Shape := ⟨2, ![512, 512]⟩
abbrev S1x1024x576 : Shape := ⟨3, ![1, 1024, 576]⟩
abbrev S1024x576 : Shape := ⟨2, ![1024, 576]⟩
abbrev S512x576 : Shape := ⟨2, ![512, 576]⟩
abbrev S512x64 : Shape := ⟨2, ![512, 64]⟩

abbrev nBuf : Space → Nat
  | .hbm => 14
  | .vmem => 21
  | .smem => 0
  | _ => 0

abbrev bufTy : (tb : Table) → Fin (tcTables nBuf tb) → BufTy
  | .hbm, ⟨0, _⟩ => ⟨S8192x1024, .bf16⟩
  | .hbm, ⟨1, _⟩ => ⟨S1024x4608, .f32⟩
  | .hbm, ⟨2, _⟩ => ⟨S1024x4608, .bf16⟩
  | .hbm, ⟨3, _⟩ => ⟨S1024x8x576, .bf16⟩
  | .hbm, ⟨4, _⟩ => ⟨S8x1024x576, .bf16⟩
  | .hbm, ⟨5, _⟩ => ⟨S8192x512, .bf16⟩
  | .hbm, ⟨6, _⟩ => ⟨S8192x512, .bf16⟩
  | .hbm, ⟨7, _⟩ => ⟨S8192x512, .bf16⟩
  | .hbm, ⟨8, _⟩ => ⟨S8192x512, .bf16⟩
  | .hbm, ⟨9, _⟩ => ⟨S8192x512, .bf16⟩
  | .hbm, ⟨10, _⟩ => ⟨S8192x512, .bf16⟩
  | .hbm, ⟨11, _⟩ => ⟨S8192x512, .bf16⟩
  | .hbm, ⟨12, _⟩ => ⟨S8192x512, .bf16⟩
  | .hbm, ⟨13, _⟩ => ⟨S8192x512, .bf16⟩
  | .local _ .vmem, ⟨0, _⟩ => ⟨S512x1024, .bf16⟩
  | .local _ .vmem, ⟨1, _⟩ => ⟨S512x1024, .bf16⟩
  | .local _ .vmem, ⟨2, _⟩ => ⟨S8x1024x576, .bf16⟩
  | .local _ .vmem, ⟨3, _⟩ => ⟨S512x512, .bf16⟩
  | .local _ .vmem, ⟨4, _⟩ => ⟨S512x512, .bf16⟩
  | .local _ .vmem, ⟨5, _⟩ => ⟨S512x512, .bf16⟩
  | .local _ .vmem, ⟨6, _⟩ => ⟨S512x512, .bf16⟩
  | .local _ .vmem, ⟨7, _⟩ => ⟨S512x512, .bf16⟩
  | .local _ .vmem, ⟨8, _⟩ => ⟨S512x512, .bf16⟩
  | .local _ .vmem, ⟨9, _⟩ => ⟨S512x512, .bf16⟩
  | .local _ .vmem, ⟨10, _⟩ => ⟨S512x512, .bf16⟩
  | .local _ .vmem, ⟨11, _⟩ => ⟨S512x512, .bf16⟩
  | .local _ .vmem, ⟨12, _⟩ => ⟨S512x512, .bf16⟩
  | .local _ .vmem, ⟨13, _⟩ => ⟨S512x512, .bf16⟩
  | .local _ .vmem, ⟨14, _⟩ => ⟨S512x512, .bf16⟩
  | .local _ .vmem, ⟨15, _⟩ => ⟨S512x512, .bf16⟩
  | .local _ .vmem, ⟨16, _⟩ => ⟨S512x512, .bf16⟩
  | .local _ .vmem, ⟨17, _⟩ => ⟨S512x512, .bf16⟩
  | .local _ .vmem, ⟨18, _⟩ => ⟨S512x512, .bf16⟩
  | .local _ .vmem, ⟨19, _⟩ => ⟨S512x512, .bf16⟩
  | .local _ .vmem, ⟨20, _⟩ => ⟨S512x512, .bf16⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | _, _ => false

abbrev semScoped : Fin 0 → Bool
  | ⟨_, h⟩ => absurd h (Nat.not_lt_zero _)

abbrev dmaSemScoped : Fin 21 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | _ => false

abbrev sig : RefSig :=
  ofTc nBuf bufTy 0 21 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3_0 : Ref sig .tc := ⟨.hbm, 5, rfl⟩
abbrev main_v3_1 : Ref sig .tc := ⟨.hbm, 6, rfl⟩
abbrev main_v3_2 : Ref sig .tc := ⟨.hbm, 7, rfl⟩
abbrev main_v3_3 : Ref sig .tc := ⟨.hbm, 8, rfl⟩
abbrev main_v3_4 : Ref sig .tc := ⟨.hbm, 9, rfl⟩
abbrev main_v3_5 : Ref sig .tc := ⟨.hbm, 10, rfl⟩
abbrev main_v3_6 : Ref sig .tc := ⟨.hbm, 11, rfl⟩
abbrev main_v3_7 : Ref sig .tc := ⟨.hbm, 12, rfl⟩
abbrev main_v3_8 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_stg7_1 : Ref sig .tc := ⟨.vmem, 14, rfl⟩
abbrev cc0_stg8_0 : Ref sig .tc := ⟨.vmem, 15, rfl⟩
abbrev cc0_stg8_1 : Ref sig .tc := ⟨.vmem, 16, rfl⟩
abbrev cc0_stg9_0 : Ref sig .tc := ⟨.vmem, 17, rfl⟩
abbrev cc0_stg9_1 : Ref sig .tc := ⟨.vmem, 18, rfl⟩
abbrev cc0_stg10_0 : Ref sig .tc := ⟨.vmem, 19, rfl⟩
abbrev cc0_stg10_1 : Ref sig .tc := ⟨.vmem, 20, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13
abbrev cc0_sem7_1 : DmaSem sig := 14
abbrev cc0_sem8_0 : DmaSem sig := 15
abbrev cc0_sem8_1 : DmaSem sig := 16
abbrev cc0_sem9_0 : DmaSem sig := 17
abbrev cc0_sem9_1 : DmaSem sig := 18
abbrev cc0_sem10_0 : DmaSem sig := 19
abbrev cc0_sem10_1 : DmaSem sig := 20

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S8x1024x576 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x512 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x512 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S512x512 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S512x512 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S512x512 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]
-- ==== Reference17Ideal.lean ====
abbrev S8192x1024 : Shape := ⟨2, ![8192, 1024]⟩
abbrev S1024x4608 : Shape := ⟨2, ![1024, 4608]⟩
abbrev S8192x4608 : Shape := ⟨2, ![8192, 4608]⟩
abbrev S8192x512 : Shape := ⟨2, ![8192, 512]⟩

abbrev nBuf : Space → Nat
  | .hbm => 14
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S1024x4608, .f32⟩
  | .hbm, ⟨2, _⟩ => ⟨S8192x1024, .f32⟩
  | .hbm, ⟨3, _⟩ => ⟨S8192x4608, .f32⟩
  | .hbm, ⟨4, _⟩ => ⟨S8192x4608, .bf16⟩
  | .hbm, ⟨5, _⟩ => ⟨S8192x512, .bf16⟩
  | .hbm, ⟨6, _⟩ => ⟨S8192x512, .bf16⟩
  | .hbm, ⟨7, _⟩ => ⟨S8192x512, .bf16⟩
  | .hbm, ⟨8, _⟩ => ⟨S8192x512, .bf16⟩
  | .hbm, ⟨9, _⟩ => ⟨S8192x512, .bf16⟩
  | .hbm, ⟨10, _⟩ => ⟨S8192x512, .bf16⟩
  | .hbm, ⟨11, _⟩ => ⟨S8192x512, .bf16⟩
  | .hbm, ⟨12, _⟩ => ⟨S8192x512, .bf16⟩
  | .hbm, ⟨13, _⟩ => ⟨S8192x512, .bf16⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_v9 : Ref sig .tc := ⟨.hbm, 11, rfl⟩
abbrev main_v10 : Ref sig .tc := ⟨.hbm, 12, rfl⟩
abbrev main_v11 : Ref sig .tc := ⟨.hbm, 13, rfl⟩

abbrev nD : Nat := 1
abbrev τ : Topo := Topo.v7x

variable {F : FTy → Type} [FloatOps F]
-- ==== Kernel18.lean ====
abbrev S8192x1024 : Shape := ⟨2, ![8192, 1024]⟩
abbrev S1024x2048 : Shape := ⟨2, ![1024, 2048]⟩
abbrev S2048 : Shape := ⟨1, ![2048]⟩
abbrev S1024x8x256 : Shape := ⟨3, ![1024, 8, 256]⟩
abbrev S8x1024x256 : Shape := ⟨3, ![8, 1024, 256]⟩
abbrev S1x2048 : Shape := ⟨2, ![1, 2048]⟩
abbrev S8192x2048 : Shape := ⟨2, ![8192, 2048]⟩
abbrev S512x1024 : Shape := ⟨2, ![512, 1024]⟩
abbrev S512x2048 : Shape := ⟨2, ![512, 2048]⟩
abbrev S1x1024x256 : Shape := ⟨3, ![1, 1024, 256]⟩
abbrev S1024x256 : Shape := ⟨2, ![1024, 256]⟩
abbrev S512x256 : Shape := ⟨2, ![512, 256]⟩

abbrev nBuf : Space → Nat
  | .hbm => 9
  | .vmem => 8
  | .smem => 0
  | _ => 0

abbrev bufTy : (tb : Table) → Fin (tcTables nBuf tb) → BufTy
  | .hbm, ⟨0, _⟩ => ⟨S8192x1024, .bf16⟩
  | .hbm, ⟨1, _⟩ => ⟨S1024x2048, .f32⟩
  | .hbm, ⟨2, _⟩ => ⟨S2048, .f32⟩
  | .hbm, ⟨3, _⟩ => ⟨S1024x2048, .bf16⟩
  | .hbm, ⟨4, _⟩ => ⟨S1024x8x256, .bf16⟩
  | .hbm, ⟨5, _⟩ => ⟨S8x1024x256, .bf16⟩
  | .hbm, ⟨6, _⟩ => ⟨S1x2048, .f32⟩
  | .hbm, ⟨7, _⟩ => ⟨S8192x2048, .f32⟩
  | .hbm, ⟨8, _⟩ => ⟨S8192x1024, .f32⟩
  | .local _ .vmem, ⟨0, _⟩ => ⟨S512x1024, .bf16⟩
  | .local _ .vmem, ⟨1, _⟩ => ⟨S512x1024, .bf16⟩
  | .local _ .vmem, ⟨2, _⟩ => ⟨S8x1024x256, .bf16⟩
  | .local _ .vmem, ⟨3, _⟩ => ⟨S1x2048, .f32⟩
  | .local _ .vmem, ⟨4, _⟩ => ⟨S512x2048, .f32⟩
  | .local _ .vmem, ⟨5, _⟩ => ⟨S512x2048, .f32⟩
  | .local _ .vmem, ⟨6, _⟩ => ⟨S512x1024, .f32⟩
  | .local _ .vmem, ⟨7, _⟩ => ⟨S512x1024, .f32⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4_0 : Ref sig .tc := ⟨.hbm, 7, rfl⟩
abbrev main_v4_1 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S8x1024x256 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== Reference18Ideal.lean ====
abbrev S8192x1024 : Shape := ⟨2, ![8192, 1024]⟩
abbrev S1024x2048 : Shape := ⟨2, ![1024, 2048]⟩
abbrev S2048 : Shape := ⟨1, ![2048]⟩
abbrev S8192x2048 : Shape := ⟨2, ![8192, 2048]⟩
abbrev S1x2048 : Shape := ⟨2, ![1, 2048]⟩
abbrev S_ : Shape := ⟨0, ![]⟩

abbrev nBuf : Space → Nat
  | .hbm => 19
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S1024x2048, .f32⟩
  | .hbm, ⟨2, _⟩ => ⟨S2048, .f32⟩
  | .hbm, ⟨3, _⟩ => ⟨S8192x1024, .f32⟩
  | .hbm, ⟨4, _⟩ => ⟨S8192x2048, .f32⟩
  | .hbm, ⟨5, _⟩ => ⟨S1x2048, .f32⟩
  | .hbm, ⟨6, _⟩ => ⟨S8192x2048, .f32⟩
  | .hbm, ⟨7, _⟩ => ⟨S8192x2048, .f32⟩
  | .hbm, ⟨8, _⟩ => ⟨S8192x1024, .f32⟩
  | .hbm, ⟨9, _⟩ => ⟨S8192x1024, .f32⟩
  | .hbm, ⟨10, _⟩ => ⟨S8192x1024, .f32⟩
  | .hbm, ⟨11, _⟩ => ⟨S8192x1024, .f32⟩
  | .hbm, ⟨12, _⟩ => ⟨S_, .f32⟩
  | .hbm, ⟨13, _⟩ => ⟨S8192x1024, .f32⟩
  | .hbm, ⟨14, _⟩ => ⟨S8192x1024, .f32⟩
  | .hbm, ⟨15, _⟩ => ⟨S_, .f32⟩
  | .hbm, ⟨16, _⟩ => ⟨S8192x1024, .f32⟩
  | .hbm, ⟨17, _⟩ => ⟨S8192x1024, .f32⟩
  | .hbm, ⟨18, _⟩ => ⟨S8192x1024, .f32⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_cst : Ref sig .tc := ⟨.hbm, 12, rfl⟩
abbrev main_v9 : Ref sig .tc := ⟨.hbm, 13, rfl⟩
abbrev main_v10 : Ref sig .tc := ⟨.hbm, 14, rfl⟩
abbrev main_cst_0 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩

abbrev nD : Nat := 1
abbrev τ : Topo := Topo.v7x

variable {F : FTy → Type} [FloatOps F]
-- ==== Kernel19.lean ====
abbrev S8192x1024 : Shape := ⟨2, ![8192, 1024]⟩
abbrev S1024x2048 : Shape := ⟨2, ![1024, 2048]⟩
abbrev S1024 : Shape := ⟨1, ![1024]⟩
abbrev S1024x8x256 : Shape := ⟨3, ![1024, 8, 256]⟩
abbrev S8x1024x256 : Shape := ⟨3, ![8, 1024, 256]⟩
abbrev S1x1024 : Shape := ⟨2, ![1, 1024]⟩
abbrev S8192x2048 : Shape := ⟨2, ![8192, 2048]⟩
abbrev S512x1024 : Shape := ⟨2, ![512, 1024]⟩
abbrev S512x2048 : Shape := ⟨2, ![512, 2048]⟩
abbrev S1x1024x256 : Shape := ⟨3, ![1, 1024, 256]⟩
abbrev S1024x256 : Shape := ⟨2, ![1024, 256]⟩
abbrev S512x256 : Shape := ⟨2, ![512, 256]⟩
abbrev S512 : Shape := ⟨1, ![512]⟩
abbrev S512x1 : Shape := ⟨2, ![512, 1]⟩

abbrev nBuf : Space → Nat
  | .hbm => 11
  | .vmem => 12
  | .smem => 0
  | _ => 0

abbrev bufTy : (tb : Table) → Fin (tcTables nBuf tb) → BufTy
  | .hbm, ⟨0, _⟩ => ⟨S8192x1024, .bf16⟩
  | .hbm, ⟨1, _⟩ => ⟨S1024x2048, .f32⟩
  | .hbm, ⟨2, _⟩ => ⟨S8192x1024, .f32⟩
  | .hbm, ⟨3, _⟩ => ⟨S1024, .f32⟩
  | .hbm, ⟨4, _⟩ => ⟨S1024x2048, .bf16⟩
  | .hbm, ⟨5, _⟩ => ⟨S1024x8x256, .bf16⟩
  | .hbm, ⟨6, _⟩ => ⟨S8x1024x256, .bf16⟩
  | .hbm, ⟨7, _⟩ => ⟨S1x1024, .f32⟩
  | .hbm, ⟨8, _⟩ => ⟨S8192x2048, .f32⟩
  | .hbm, ⟨9, _⟩ => ⟨S8192x1024, .f32⟩
  | .hbm, ⟨10, _⟩ => ⟨S8192x1024, .bf16⟩
  | .local _ .vmem, ⟨0, _⟩ => ⟨S512x1024, .bf16⟩
  | .local _ .vmem, ⟨1, _⟩ => ⟨S512x1024, .bf16⟩
  | .local _ .vmem, ⟨2, _⟩ => ⟨S8x1024x256, .bf16⟩
  | .local _ .vmem, ⟨3, _⟩ => ⟨S512x1024, .f32⟩
  | .local _ .vmem, ⟨4, _⟩ => ⟨S512x1024, .f32⟩
  | .local _ .vmem, ⟨5, _⟩ => ⟨S1x1024, .f32⟩
  | .local _ .vmem, ⟨6, _⟩ => ⟨S512x2048, .f32⟩
  | .local _ .vmem, ⟨7, _⟩ => ⟨S512x2048, .f32⟩
  | .local _ .vmem, ⟨8, _⟩ => ⟨S512x1024, .f32⟩
  | .local _ .vmem, ⟨9, _⟩ => ⟨S512x1024, .f32⟩
  | .local _ .vmem, ⟨10, _⟩ => ⟨S512x1024, .bf16⟩
  | .local _ .vmem, ⟨11, _⟩ => ⟨S512x1024, .bf16⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4_0 : Ref sig .tc := ⟨.hbm, 8, rfl⟩
abbrev main_v4_1 : Ref sig .tc := ⟨.hbm, 9, rfl⟩
abbrev main_v4_2 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem6_1 : DmaSem sig := 11

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S8x1024x256 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== Reference19Ideal.lean ====
abbrev S8192x1024 : Shape := ⟨2, ![8192, 1024]⟩
abbrev S1024x2048 : Shape := ⟨2, ![1024, 2048]⟩
abbrev S1024 : Shape := ⟨1, ![1024]⟩
abbrev S8192x2048 : Shape := ⟨2, ![8192, 2048]⟩
abbrev S_ : Shape := ⟨0, ![]⟩
abbrev S8192 : Shape := ⟨1, ![8192]⟩
abbrev S8192x1 : Shape := ⟨2, ![8192, 1]⟩
abbrev S1x1024 : Shape := ⟨2, ![1, 1024]⟩

abbrev nBuf : Space → Nat
  | .hbm => 35
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S1024x2048, .f32⟩
  | .hbm, ⟨2, _⟩ => ⟨S8192x1024, .f32⟩
  | .hbm, ⟨3, _⟩ => ⟨S1024, .f32⟩
  | .hbm, ⟨4, _⟩ => ⟨S8192x1024, .f32⟩
  | .hbm, ⟨5, _⟩ => ⟨S8192x2048, .f32⟩
  | .hbm, ⟨6, _⟩ => ⟨S8192x1024, .f32⟩
  | .hbm, ⟨7, _⟩ => ⟨S8192x1024, .f32⟩
  | .hbm, ⟨8, _⟩ => ⟨S8192x1024, .f32⟩
  | .hbm, ⟨9, _⟩ => ⟨S8192x1024, .f32⟩
  | .hbm, ⟨10, _⟩ => ⟨S_, .f32⟩
  | .hbm, ⟨11, _⟩ => ⟨S8192x1024, .f32⟩
  | .hbm, ⟨12, _⟩ => ⟨S8192x1024, .f32⟩
  | .hbm, ⟨13, _⟩ => ⟨S_, .f32⟩
  | .hbm, ⟨14, _⟩ => ⟨S8192x1024, .f32⟩
  | .hbm, ⟨15, _⟩ => ⟨S8192x1024, .f32⟩
  | .hbm, ⟨16, _⟩ => ⟨S8192x1024, .f32⟩
  | .hbm, ⟨17, _⟩ => ⟨S8192x1024, .f32⟩
  | .hbm, ⟨18, _⟩ => ⟨S8192x1024, .f32⟩
  | .hbm, ⟨19, _⟩ => ⟨S_, .f32⟩
  | .hbm, ⟨20, _⟩ => ⟨S8192, .f32⟩
  | .hbm, ⟨21, _⟩ => ⟨S8192x1, .f32⟩
  | .hbm, ⟨22, _⟩ => ⟨S_, .f32⟩
  | .hbm, ⟨23, _⟩ => ⟨S8192x1, .f32⟩
  | .hbm, ⟨24, _⟩ => ⟨S8192x1, .f32⟩
  | .hbm, ⟨25, _⟩ => ⟨S_, .f32⟩
  | .hbm, ⟨26, _⟩ => ⟨S8192x1, .f32⟩
  | .hbm, ⟨27, _⟩ => ⟨S8192x1, .f32⟩
  | .hbm, ⟨28, _⟩ => ⟨S8192x1, .f32⟩
  | .hbm, ⟨29, _⟩ => ⟨S8192x1024, .f32⟩
  | .hbm, ⟨30, _⟩ => ⟨S8192x1024, .f32⟩
  | .hbm, ⟨31, _⟩ => ⟨S1x1024, .f32⟩
  | .hbm, ⟨32, _⟩ => ⟨S8192x1024, .f32⟩
  | .hbm, ⟨33, _⟩ => ⟨S8192x1024, .f32⟩
  | .hbm, ⟨34, _⟩ => ⟨S8192x1024, .bf16⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_cst : Ref sig .tc := ⟨.hbm, 10, rfl⟩
abbrev main_v6 : Ref sig .tc := ⟨.hbm, 11, rfl⟩
abbrev main_v7 : Ref sig .tc := ⟨.hbm, 12, rfl⟩
abbrev main_cst_0 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_cst_1 : Ref sig .tc := ⟨.hbm, 19, rfl⟩
abbrev main_v13 : Ref sig .tc := ⟨.hbm, 20, rfl⟩
abbrev main_v14 : Ref sig .tc := ⟨.hbm, 21, rfl⟩
abbrev main_cst_2 : Ref sig .tc := ⟨.hbm, 22, rfl⟩
abbrev main_v15 : Ref sig .tc := ⟨.hbm, 23, rfl⟩
abbrev main_v16 : Ref sig .tc := ⟨.hbm, 24, rfl⟩
abbrev main_cst_3 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩

abbrev nD : Nat := 1
abbrev τ : Topo := Topo.v7x

variable {F : FTy → Type} [FloatOps F]
-- ==== Kernel20.lean ====
abbrev S8192x1024 : Shape := ⟨2, ![8192, 1024]⟩
abbrev S1024x2048 : Shape := ⟨2, ![1024, 2048]⟩
abbrev S1024 : Shape := ⟨1, ![1024]⟩
abbrev S1024x8x256 : Shape := ⟨3, ![1024, 8, 256]⟩
abbrev S8x1024x256 : Shape := ⟨3, ![8, 1024, 256]⟩
abbrev S1x1024 : Shape := ⟨2, ![1, 1024]⟩
abbrev S8192x2048 : Shape := ⟨2, ![8192, 2048]⟩
abbrev S512x1024 : Shape := ⟨2, ![512, 1024]⟩
abbrev S512x2048 : Shape := ⟨2, ![512, 2048]⟩
abbrev S1x1024x256 : Shape := ⟨3, ![1, 1024, 256]⟩
abbrev S1024x256 : Shape := ⟨2, ![1024, 256]⟩
abbrev S512x256 : Shape := ⟨2, ![512, 256]⟩
abbrev S512 : Shape := ⟨1, ![512]⟩
abbrev S512x1 : Shape := ⟨2, ![512, 1]⟩

abbrev nBuf : Space → Nat
  | .hbm => 12
  | .vmem => 11
  | .smem => 0
  | _ => 0

abbrev bufTy : (tb : Table) → Fin (tcTables nBuf tb) → BufTy
  | .hbm, ⟨0, _⟩ => ⟨S8192x1024, .bf16⟩
  | .hbm, ⟨1, _⟩ => ⟨S1024x2048, .f32⟩
  | .hbm, ⟨2, _⟩ => ⟨S1024, .f32⟩
  | .hbm, ⟨3, _⟩ => ⟨S1024, .f32⟩
  | .hbm, ⟨4, _⟩ => ⟨S1024x2048, .bf16⟩
  | .hbm, ⟨5, _⟩ => ⟨S1024x8x256, .bf16⟩
  | .hbm, ⟨6, _⟩ => ⟨S8x1024x256, .bf16⟩
  | .hbm, ⟨7, _⟩ => ⟨S1x1024, .f32⟩
  | .hbm, ⟨8, _⟩ => ⟨S1x1024, .f32⟩
  | .hbm, ⟨9, _⟩ => ⟨S8192x2048, .f32⟩
  | .hbm, ⟨10, _⟩ => ⟨S8192x1024, .f32⟩
  | .hbm, ⟨11, _⟩ => ⟨S8192x1024, .bf16⟩
  | .local _ .vmem, ⟨0, _⟩ => ⟨S512x1024, .bf16⟩
  | .local _ .vmem, ⟨1, _⟩ => ⟨S512x1024, .bf16⟩
  | .local _ .vmem, ⟨2, _⟩ => ⟨S8x1024x256, .bf16⟩
  | .local _ .vmem, ⟨3, _⟩ => ⟨S1x1024, .f32⟩
  | .local _ .vmem, ⟨4, _⟩ => ⟨S1x1024, .f32⟩
  | .local _ .vmem, ⟨5, _⟩ => ⟨S512x2048, .f32⟩
  | .local _ .vmem, ⟨6, _⟩ => ⟨S512x2048, .f32⟩
  | .local _ .vmem, ⟨7, _⟩ => ⟨S512x1024, .f32⟩
  | .local _ .vmem, ⟨8, _⟩ => ⟨S512x1024, .f32⟩
  | .local _ .vmem, ⟨9, _⟩ => ⟨S512x1024, .bf16⟩
  | .local _ .vmem, ⟨10, _⟩ => ⟨S512x1024, .bf16⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5_0 : Ref sig .tc := ⟨.hbm, 9, rfl⟩
abbrev main_v5_1 : Ref sig .tc := ⟨.hbm, 10, rfl⟩
abbrev main_v5_2 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg6_1 : Ref sig .tc := ⟨.vmem, 10, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6
abbrev cc0_sem5_0 : DmaSem sig := 7
abbrev cc0_sem5_1 : DmaSem sig := 8
abbrev cc0_sem6_0 : DmaSem sig := 9
abbrev cc0_sem6_1 : DmaSem sig := 10

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S8x1024x256 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== Reference20Ideal.lean ====
abbrev S8192x1024 : Shape := ⟨2, ![8192, 1024]⟩
abbrev S1024x2048 : Shape := ⟨2, ![1024, 2048]⟩
abbrev S1024 : Shape := ⟨1, ![1024]⟩
abbrev S8192x2048 : Shape := ⟨2, ![8192, 2048]⟩
abbrev S_ : Shape := ⟨0, ![]⟩
abbrev S8192 : Shape := ⟨1, ![8192]⟩
abbrev S8192x1 : Shape := ⟨2, ![8192, 1]⟩
abbrev S1x1024 : Shape := ⟨2, ![1, 1024]⟩

abbrev nBuf : Space → Nat
  | .hbm => 55
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S1024x2048, .f32⟩
  | .hbm, ⟨2, _⟩ => ⟨S1024, .f32⟩
  | .hbm, ⟨3, _⟩ => ⟨S1024, .f32⟩
  | .hbm, ⟨4, _⟩ => ⟨S8192x1024, .f32⟩
  | .hbm, ⟨5, _⟩ => ⟨S8192x2048, .f32⟩
  | .hbm, ⟨6, _⟩ => ⟨S8192x2048, .f32⟩
  | .hbm, ⟨7, _⟩ => ⟨S8192x2048, .f32⟩
  | .hbm, ⟨8, _⟩ => ⟨S_, .f32⟩
  | .hbm, ⟨9, _⟩ => ⟨S8192x2048, .f32⟩
  | .hbm, ⟨10, _⟩ => ⟨S8192x2048, .f32⟩
  | .hbm, ⟨11, _⟩ => ⟨S8192x2048, .f32⟩
  | .hbm, ⟨12, _⟩ => ⟨S_, .f32⟩
  | .hbm, ⟨13, _⟩ => ⟨S8192x2048, .f32⟩
  | .hbm, ⟨14, _⟩ => ⟨S8192x2048, .f32⟩
  | .hbm, ⟨15, _⟩ => ⟨S8192x2048, .f32⟩
  | .hbm, ⟨16, _⟩ => ⟨S_, .f32⟩
  | .hbm, ⟨17, _⟩ => ⟨S8192x2048, .f32⟩
  | .hbm, ⟨18, _⟩ => ⟨S8192x2048, .f32⟩
  | .hbm, ⟨19, _⟩ => ⟨S_, .f32⟩
  | .hbm, ⟨20, _⟩ => ⟨S8192x2048, .f32⟩
  | .hbm, ⟨21, _⟩ => ⟨S8192x2048, .f32⟩
  | .hbm, ⟨22, _⟩ => ⟨S8192x2048, .f32⟩
  | .hbm, ⟨23, _⟩ => ⟨S8192x1024, .f32⟩
  | .hbm, ⟨24, _⟩ => ⟨S8192x1024, .f32⟩
  | .hbm, ⟨25, _⟩ => ⟨S_, .f32⟩
  | .hbm, ⟨26, _⟩ => ⟨S8192, .f32⟩
  | .hbm, ⟨27, _⟩ => ⟨S8192x1, .f32⟩
  | .hbm, ⟨28, _⟩ => ⟨S_, .f32⟩
  | .hbm, ⟨29, _⟩ => ⟨S8192x1, .f32⟩
  | .hbm, ⟨30, _⟩ => ⟨S8192x1, .f32⟩
  | .hbm, ⟨31, _⟩ => ⟨S8192x1024, .f32⟩
  | .hbm, ⟨32, _⟩ => ⟨S8192x1024, .f32⟩
  | .hbm, ⟨33, _⟩ => ⟨S8192x1024, .f32⟩
  | .hbm, ⟨34, _⟩ => ⟨S_, .f32⟩
  | .hbm, ⟨35, _⟩ => ⟨S8192, .f32⟩
  | .hbm, ⟨36, _⟩ => ⟨S8192x1, .f32⟩
  | .hbm, ⟨37, _⟩ => ⟨S_, .f32⟩
  | .hbm, ⟨38, _⟩ => ⟨S8192x1, .f32⟩
  | .hbm, ⟨39, _⟩ => ⟨S8192x1, .f32⟩
  | .hbm, ⟨40, _⟩ => ⟨S8192x1024, .f32⟩
  | .hbm, ⟨41, _⟩ => ⟨S8192x1024, .f32⟩
  | .hbm, ⟨42, _⟩ => ⟨S_, .f32⟩
  | .hbm, ⟨43, _⟩ => ⟨S8192x1, .f32⟩
  | .hbm, ⟨44, _⟩ => ⟨S8192x1, .f32⟩
  | .hbm, ⟨45, _⟩ => ⟨S8192x1, .f32⟩
  | .hbm, ⟨46, _⟩ => ⟨S8192x1024, .f32⟩
  | .hbm, ⟨47, _⟩ => ⟨S8192x1024, .f32⟩
  | .hbm, ⟨48, _⟩ => ⟨S1x1024, .f32⟩
  | .hbm, ⟨49, _⟩ => ⟨S8192x1024, .f32⟩
  | .hbm, ⟨50, _⟩ => ⟨S8192x1024, .f32⟩
  | .hbm, ⟨51, _⟩ => ⟨S1x1024, .f32⟩
  | .hbm, ⟨52, _⟩ => ⟨S8192x1024, .f32⟩
  | .hbm, ⟨53, _⟩ => ⟨S8192x1024, .f32⟩
  | .hbm, ⟨54, _⟩ => ⟨S8192x1024, .bf16⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_cst : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_cst_0 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_cst_1 : Ref sig .tc := ⟨.hbm, 16, rfl⟩
abbrev main_v10 : Ref sig .tc := ⟨.hbm, 17, rfl⟩
abbrev main_v11 : Ref sig .tc := ⟨.hbm, 18, rfl⟩
abbrev main_cst_2 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_cst_3 : Ref sig .tc := ⟨.hbm, 25, rfl⟩
abbrev main_v17 : Ref sig .tc := ⟨.hbm, 26, rfl⟩
abbrev main_v18 : Ref sig .tc := ⟨.hbm, 27, rfl⟩
abbrev main_cst_4 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_cst_5 : Ref sig .tc := ⟨.hbm, 34, rfl⟩
abbrev main_v24 : Ref sig .tc := ⟨.hbm, 35, rfl⟩
abbrev main_v25 : Ref sig .tc := ⟨.hbm, 36, rfl⟩
abbrev main_cst_6 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_cst_7 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩
abbrev main_v40 : Ref sig .tc := ⟨.hbm, 53, rfl⟩
abbrev main_v41 : Ref sig .tc := ⟨.hbm, 54, rfl⟩

abbrev nD : Nat := 1
abbrev τ : Topo := Topo.v7x

variable {F : FTy → Type} [FloatOps F]
-- ==== Kernel21.lean ====
abbrev S8192x1024 : Shape := ⟨2, ![8192, 1024]⟩
abbrev S1024x1024 : Shape := ⟨2, ![1024, 1024]⟩
abbrev S1024 : Shape := ⟨1, ![1024]⟩
abbrev S1x1024 : Shape := ⟨2, ![1, 1024]⟩
abbrev S512x1024 : Shape := ⟨2, ![512, 1024]⟩
abbrev S1024x512 : Shape := ⟨2, ![1024, 512]⟩
abbrev S512x512 : Shape := ⟨2, ![512, 512]⟩
abbrev S512 : Shape := ⟨1, ![512]⟩
abbrev S512x1 : Shape := ⟨2, ![512, 1]⟩

abbrev nBuf : Space → Nat
  | .hbm => 8
  | .vmem => 10
  | .smem => 0
  | _ => 0

abbrev bufTy : (tb : Table) → Fin (tcTables nBuf tb) → BufTy
  | .hbm, ⟨0, _⟩ => ⟨S8192x1024, .bf16⟩
  | .hbm, ⟨1, _⟩ => ⟨S1024x1024, .f32⟩
  | .hbm, ⟨2, _⟩ => ⟨S8192x1024, .f32⟩
  | .hbm, ⟨3, _⟩ => ⟨S1024, .f32⟩
  | .hbm, ⟨4, _⟩ => ⟨S1024x1024, .bf16⟩
  | .hbm, ⟨5, _⟩ => ⟨S1x1024, .f32⟩
  | .hbm, ⟨6, _⟩ => ⟨S8192x1024, .f32⟩
  | .hbm, ⟨7, _⟩ => ⟨S8192x1024, .bf16⟩
  | .local _ .vmem, ⟨0, _⟩ => ⟨S512x1024, .bf16⟩
  | .local _ .vmem, ⟨1, _⟩ => ⟨S512x1024, .bf16⟩
  | .local _ .vmem, ⟨2, _⟩ => ⟨S1024x1024, .bf16⟩
  | .local _ .vmem, ⟨3, _⟩ => ⟨S512x1024, .f32⟩
  | .local _ .vmem, ⟨4, _⟩ => ⟨S512x1024, .f32⟩
  | .local _ .vmem, ⟨5, _⟩ => ⟨S1x1024, .f32⟩
  | .local _ .vmem, ⟨6, _⟩ => ⟨S512x1024, .f32⟩
  | .local _ .vmem, ⟨7, _⟩ => ⟨S512x1024, .f32⟩
  | .local _ .vmem, ⟨8, _⟩ => ⟨S512x1024, .bf16⟩
  | .local _ .vmem, ⟨9, _⟩ => ⟨S512x1024, .bf16⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2_0 : Ref sig .tc := ⟨.hbm, 6, rfl⟩
abbrev main_v2_1 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== Reference21Ideal.lean ====
abbrev S8192x1024 : Shape := ⟨2, ![8192, 1024]⟩
abbrev S1024x1024 : Shape := ⟨2, ![1024, 1024]⟩
abbrev S1024 : Shape := ⟨1, ![1024]⟩
abbrev S_ : Shape := ⟨0, ![]⟩
abbrev S8192 : Shape := ⟨1, ![8192]⟩
abbrev S8192x1 : Shape := ⟨2, ![8192, 1]⟩
abbrev S1x1024 : Shape := ⟨2, ![1, 1024]⟩

abbrev nBuf : Space → Nat
  | .hbm => 24
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S1024x1024, .f32⟩
  | .hbm, ⟨2, _⟩ => ⟨S8192x1024, .f32⟩
  | .hbm, ⟨3, _⟩ => ⟨S1024, .f32⟩
  | .hbm, ⟨4, _⟩ => ⟨S8192x1024, .f32⟩
  | .hbm, ⟨5, _⟩ => ⟨S8192x1024, .f32⟩
  | .hbm, ⟨6, _⟩ => ⟨S8192x1024, .f32⟩
  | .hbm, ⟨7, _⟩ => ⟨S8192x1024, .f32⟩
  | .hbm, ⟨8, _⟩ => ⟨S_, .f32⟩
  | .hbm, ⟨9, _⟩ => ⟨S8192, .f32⟩
  | .hbm, ⟨10, _⟩ => ⟨S8192x1, .f32⟩
  | .hbm, ⟨11, _⟩ => ⟨S_, .f32⟩
  | .hbm, ⟨12, _⟩ => ⟨S8192x1, .f32⟩
  | .hbm, ⟨13, _⟩ => ⟨S8192x1, .f32⟩
  | .hbm, ⟨14, _⟩ => ⟨S_, .f32⟩
  | .hbm, ⟨15, _⟩ => ⟨S8192x1, .f32⟩
  | .hbm, ⟨16, _⟩ => ⟨S8192x1, .f32⟩
  | .hbm, ⟨17, _⟩ => ⟨S8192x1, .f32⟩
  | .hbm, ⟨18, _⟩ => ⟨S8192x1024, .f32⟩
  | .hbm, ⟨19, _⟩ => ⟨S8192x1024, .f32⟩
  | .hbm, ⟨20, _⟩ => ⟨S1x1024, .f32⟩
  | .hbm, ⟨21, _⟩ => ⟨S8192x1024, .f32⟩
  | .hbm, ⟨22, _⟩ => ⟨S8192x1024, .f32⟩
  | .hbm, ⟨23, _⟩ => ⟨S8192x1024, .bf16⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_cst : Ref sig .tc := ⟨.hbm, 8, rfl⟩
abbrev main_v4 : Ref sig .tc := ⟨.hbm, 9, rfl⟩
abbrev main_v5 : Ref sig .tc := ⟨.hbm, 10, rfl⟩
abbrev main_cst_0 : Ref sig .tc := ⟨.hbm, 11, rfl⟩
abbrev main_v6 : Ref sig .tc := ⟨.hbm, 12, rfl⟩
abbrev main_v7 : Ref sig .tc := ⟨.hbm, 13, rfl⟩
abbrev main_cst_1 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩

abbrev nD : Nat := 1
abbrev τ : Topo := Topo.v7x

variable {F : FTy → Type} [FloatOps F]
-- ==== Kernel22.lean ====
abbrev S8192x1024 : Shape := ⟨2, ![8192, 1024]⟩
abbrev S1024x1024 : Shape := ⟨2, ![1024, 1024]⟩
abbrev S1024 : Shape := ⟨1, ![1024]⟩
abbrev S1x1024 : Shape := ⟨2, ![1, 1024]⟩
abbrev S512x1024 : Shape := ⟨2, ![512, 1024]⟩
abbrev S1024x512 : Shape := ⟨2, ![1024, 512]⟩
abbrev S512x512 : Shape := ⟨2, ![512, 512]⟩
abbrev S512 : Shape := ⟨1, ![512]⟩
abbrev S512x1 : Shape := ⟨2, ![512, 1]⟩

abbrev nBuf : Space → Nat
  | .hbm => 10
  | .vmem => 11
  | .smem => 0
  | _ => 0

abbrev bufTy : (tb : Table) → Fin (tcTables nBuf tb) → BufTy
  | .hbm, ⟨0, _⟩ => ⟨S8192x1024, .bf16⟩
  | .hbm, ⟨1, _⟩ => ⟨S1024x1024, .f32⟩
  | .hbm, ⟨2, _⟩ => ⟨S1024, .f32⟩
  | .hbm, ⟨3, _⟩ => ⟨S8192x1024, .f32⟩
  | .hbm, ⟨4, _⟩ => ⟨S1024, .f32⟩
  | .hbm, ⟨5, _⟩ => ⟨S1024x1024, .bf16⟩
  | .hbm, ⟨6, _⟩ => ⟨S1x1024, .f32⟩
  | .hbm, ⟨7, _⟩ => ⟨S1x1024, .f32⟩
  | .hbm, ⟨8, _⟩ => ⟨S8192x1024, .f32⟩
  | .hbm, ⟨9, _⟩ => ⟨S8192x1024, .bf16⟩
  | .local _ .vmem, ⟨0, _⟩ => ⟨S512x1024, .bf16⟩
  | .local _ .vmem, ⟨1, _⟩ => ⟨S512x1024, .bf16⟩
  | .local _ .vmem, ⟨2, _⟩ => ⟨S1024x1024, .bf16⟩
  | .local _ .vmem, ⟨3, _⟩ => ⟨S1x1024, .f32⟩
  | .local _ .vmem, ⟨4, _⟩ => ⟨S512x1024, .f32⟩
  | .local _ .vmem, ⟨5, _⟩ => ⟨S512x1024, .f32⟩
  | .local _ .vmem, ⟨6, _⟩ => ⟨S1x1024, .f32⟩
  | .local _ .vmem, ⟨7, _⟩ => ⟨S512x1024, .f32⟩
  | .local _ .vmem, ⟨8, _⟩ => ⟨S512x1024, .f32⟩
  | .local _ .vmem, ⟨9, _⟩ => ⟨S512x1024, .bf16⟩
  | .local _ .vmem, ⟨10, _⟩ => ⟨S512x1024, .bf16⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3_0 : Ref sig .tc := ⟨.hbm, 8, rfl⟩
abbrev main_v3_1 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg6_1 : Ref sig .tc := ⟨.vmem, 10, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem5_0 : DmaSem sig := 7
abbrev cc0_sem5_1 : DmaSem sig := 8
abbrev cc0_sem6_0 : DmaSem sig := 9
abbrev cc0_sem6_1 : DmaSem sig := 10

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== Reference22Ideal.lean ====
abbrev S8192x1024 : Shape := ⟨2, ![8192, 1024]⟩
abbrev S1024x1024 : Shape := ⟨2, ![1024, 1024]⟩
abbrev S1024 : Shape := ⟨1, ![1024]⟩
abbrev S1x1024 : Shape := ⟨2, ![1, 1024]⟩
abbrev S_ : Shape := ⟨0, ![]⟩
abbrev S8192 : Shape := ⟨1, ![8192]⟩
abbrev S8192x1 : Shape := ⟨2, ![8192, 1]⟩

abbrev nBuf : Space → Nat
  | .hbm => 28
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S1024x1024, .f32⟩
  | .hbm, ⟨2, _⟩ => ⟨S1024, .f32⟩
  | .hbm, ⟨3, _⟩ => ⟨S8192x1024, .f32⟩
  | .hbm, ⟨4, _⟩ => ⟨S1024, .f32⟩
  | .hbm, ⟨5, _⟩ => ⟨S8192x1024, .f32⟩
  | .hbm, ⟨6, _⟩ => ⟨S8192x1024, .f32⟩
  | .hbm, ⟨7, _⟩ => ⟨S1x1024, .f32⟩
  | .hbm, ⟨8, _⟩ => ⟨S8192x1024, .f32⟩
  | .hbm, ⟨9, _⟩ => ⟨S8192x1024, .f32⟩
  | .hbm, ⟨10, _⟩ => ⟨S8192x1024, .f32⟩
  | .hbm, ⟨11, _⟩ => ⟨S8192x1024, .f32⟩
  | .hbm, ⟨12, _⟩ => ⟨S_, .f32⟩
  | .hbm, ⟨13, _⟩ => ⟨S8192, .f32⟩
  | .hbm, ⟨14, _⟩ => ⟨S8192x1, .f32⟩
  | .hbm, ⟨15, _⟩ => ⟨S_, .f32⟩
  | .hbm, ⟨16, _⟩ => ⟨S8192x1, .f32⟩
  | .hbm, ⟨17, _⟩ => ⟨S8192x1, .f32⟩
  | .hbm, ⟨18, _⟩ => ⟨S_, .f32⟩
  | .hbm, ⟨19, _⟩ => ⟨S8192x1, .f32⟩
  | .hbm, ⟨20, _⟩ => ⟨S8192x1, .f32⟩
  | .hbm, ⟨21, _⟩ => ⟨S8192x1, .f32⟩
  | .hbm, ⟨22, _⟩ => ⟨S8192x1024, .f32⟩
  | .hbm, ⟨23, _⟩ => ⟨S8192x1024, .f32⟩
  | .hbm, ⟨24, _⟩ => ⟨S1x1024, .f32⟩
  | .hbm, ⟨25, _⟩ => ⟨S8192x1024, .f32⟩
  | .hbm, ⟨26, _⟩ => ⟨S8192x1024, .f32⟩
  | .hbm, ⟨27, _⟩ => ⟨S8192x1024, .bf16⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_cst : Ref sig .tc := ⟨.hbm, 12, rfl⟩
abbrev main_v7 : Ref sig .tc := ⟨.hbm, 13, rfl⟩
abbrev main_v8 : Ref sig .tc := ⟨.hbm, 14, rfl⟩
abbrev main_cst_0 : Ref sig .tc := ⟨.hbm, 15, rfl⟩
abbrev main_v9 : Ref sig .tc := ⟨.hbm, 16, rfl⟩
abbrev main_v10 : Ref sig .tc := ⟨.hbm, 17, rfl⟩
abbrev main_cst_1 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩

abbrev nD : Nat := 1
abbrev τ : Topo := Topo.v7x

variable {F : FTy → Type} [FloatOps F]
-- ==== Kernel23.lean ====
abbrev S8192x512 : Shape := ⟨2, ![8192, 512]⟩
abbrev S512x1024 : Shape := ⟨2, ![512, 1024]⟩
abbrev S8192x1024 : Shape := ⟨2, ![8192, 1024]⟩
abbrev S1024 : Shape := ⟨1, ![1024]⟩
abbrev S1x1024 : Shape := ⟨2, ![1, 1024]⟩
abbrev S512x512 : Shape := ⟨2, ![512, 512]⟩
abbrev S512 : Shape := ⟨1, ![512]⟩
abbrev S512x1 : Shape := ⟨2, ![512, 1]⟩

abbrev nBuf : Space → Nat
  | .hbm => 8
  | .vmem => 10
  | .smem => 0
  | _ => 0

abbrev bufTy : (tb : Table) → Fin (tcTables nBuf tb) → BufTy
  | .hbm, ⟨0, _⟩ => ⟨S8192x512, .bf16⟩
  | .hbm, ⟨1, _⟩ => ⟨S512x1024, .f32⟩
  | .hbm, ⟨2, _⟩ => ⟨S8192x1024, .f32⟩
  | .hbm, ⟨3, _⟩ => ⟨S1024, .f32⟩
  | .hbm, ⟨4, _⟩ => ⟨S512x1024, .bf16⟩
  | .hbm, ⟨5, _⟩ => ⟨S1x1024, .f32⟩
  | .hbm, ⟨6, _⟩ => ⟨S8192x1024, .f32⟩
  | .hbm, ⟨7, _⟩ => ⟨S8192x1024, .bf16⟩
  | .local _ .vmem, ⟨0, _⟩ => ⟨S512x512, .bf16⟩
  | .local _ .vmem, ⟨1, _⟩ => ⟨S512x512, .bf16⟩
  | .local _ .vmem, ⟨2, _⟩ => ⟨S512x1024, .bf16⟩
  | .local _ .vmem, ⟨3, _⟩ => ⟨S512x1024, .f32⟩
  | .local _ .vmem, ⟨4, _⟩ => ⟨S512x1024, .f32⟩
  | .local _ .vmem, ⟨5, _⟩ => ⟨S1x1024, .f32⟩
  | .local _ .vmem, ⟨6, _⟩ => ⟨S512x1024, .f32⟩
  | .local _ .vmem, ⟨7, _⟩ => ⟨S512x1024, .f32⟩
  | .local _ .vmem, ⟨8, _⟩ => ⟨S512x1024, .bf16⟩
  | .local _ .vmem, ⟨9, _⟩ => ⟨S512x1024, .bf16⟩
  | _, _ => ⟨S8192x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2_0 : Ref sig .tc := ⟨.hbm, 6, rfl⟩
abbrev main_v2_1 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S512x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== Reference23Ideal.lean ====
abbrev S8192x512 : Shape := ⟨2, ![8192, 512]⟩
abbrev S512x1024 : Shape := ⟨2, ![512, 1024]⟩
abbrev S8192x1024 : Shape := ⟨2, ![8192, 1024]⟩
abbrev S1024 : Shape := ⟨1, ![1024]⟩
abbrev S_ : Shape := ⟨0, ![]⟩
abbrev S8192 : Shape := ⟨1, ![8192]⟩
abbrev S8192x1 : Shape := ⟨2, ![8192, 1]⟩
abbrev S1x1024 : Shape := ⟨2, ![1, 1024]⟩

abbrev nBuf : Space → Nat
  | .hbm => 24
  | .vmem => 0
  | .smem => 0
  | _ => 0

abbrev bufTy : (tb : Table) → Fin (tcTables nBuf tb) → BufTy
  | .hbm, ⟨0, _⟩ => ⟨S8192x512, .bf16⟩
  | .hbm, ⟨1, _⟩ => ⟨S512x1024, .f32⟩
  | .hbm, ⟨2, _⟩ => ⟨S8192x1024, .f32⟩
  | .hbm, ⟨3, _⟩ => ⟨S1024, .f32⟩
  | .hbm, ⟨4, _⟩ => ⟨S8192x512, .f32⟩
  | .hbm, ⟨5, _⟩ => ⟨S8192x1024, .f32⟩
  | .hbm, ⟨6, _⟩ => ⟨S8192x1024, .f32⟩
  | .hbm, ⟨7, _⟩ => ⟨S8192x1024, .f32⟩
  | .hbm, ⟨8, _⟩ => ⟨S_, .f32⟩
  | .hbm, ⟨9, _⟩ => ⟨S8192, .f32⟩
  | .hbm, ⟨10, _⟩ => ⟨S8192x1, .f32⟩
  | .hbm, ⟨11, _⟩ => ⟨S_, .f32⟩
  | .hbm, ⟨12, _⟩ => ⟨S8192x1, .f32⟩
  | .hbm, ⟨13, _⟩ => ⟨S8192x1, .f32⟩
  | .hbm, ⟨14, _⟩ => ⟨S_, .f32⟩
  | .hbm, ⟨15, _⟩ => ⟨S8192x1, .f32⟩
  | .hbm, ⟨16, _⟩ => ⟨S8192x1, .f32⟩
  | .hbm, ⟨17, _⟩ => ⟨S8192x1, .f32⟩
  | .hbm, ⟨18, _⟩ => ⟨S8192x1024, .f32⟩
  | .hbm, ⟨19, _⟩ => ⟨S8192x1024, .f32⟩
  | .hbm, ⟨20, _⟩ => ⟨S1x1024, .f32⟩
  | .hbm, ⟨21, _⟩ => ⟨S8192x1024, .f32⟩
  | .hbm, ⟨22, _⟩ => ⟨S8192x1024, .f32⟩
  | .hbm, ⟨23, _⟩ => ⟨S8192x1024, .bf16⟩
  | _, _ => ⟨S8192x512, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_cst : Ref sig .tc := ⟨.hbm, 8, rfl⟩
abbrev main_v4 : Ref sig .tc := ⟨.hbm, 9, rfl⟩
abbrev main_v5 : Ref sig .tc := ⟨.hbm, 10, rfl⟩
abbrev main_cst_0 : Ref sig .tc := ⟨.hbm, 11, rfl⟩
abbrev main_v6 : Ref sig .tc := ⟨.hbm, 12, rfl⟩
abbrev main_v7 : Ref sig .tc := ⟨.hbm, 13, rfl⟩
abbrev main_cst_1 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩

abbrev nD : Nat := 1
abbrev τ : Topo := Topo.v7x

variable {F : FTy → Type} [FloatOps F]
-- ==== Kernel24.lean ====
abbrev S8192x1024 : Shape := ⟨2, ![8192, 1024]⟩
abbrev S512x1024 : Shape := ⟨2, ![512, 1024]⟩
abbrev S512x8x128 : Shape := ⟨3, ![512, 8, 128]⟩
abbrev S8x512x128 : Shape := ⟨3, ![8, 512, 128]⟩
abbrev S8192x512 : Shape := ⟨2, ![8192, 512]⟩
abbrev S2048x1024 : Shape := ⟨2, ![2048, 1024]⟩
abbrev S2048x512 : Shape := ⟨2, ![2048, 512]⟩
abbrev S2048x128 : Shape := ⟨2, ![2048, 128]⟩
abbrev S1x512x128 : Shape := ⟨3, ![1, 512, 128]⟩
abbrev S512x128 : Shape := ⟨2, ![512, 128]⟩

abbrev nBuf : Space → Nat
  | .hbm => 6
  | .vmem => 5
  | .smem => 0
  | _ => 0

abbrev bufTy : (tb : Table) → Fin (tcTables nBuf tb) → BufTy
  | .hbm, ⟨0, _⟩ => ⟨S8192x1024, .bf16⟩
  | .hbm, ⟨1, _⟩ => ⟨S512x1024, .f32⟩
  | .hbm, ⟨2, _⟩ => ⟨S512x1024, .bf16⟩
  | .hbm, ⟨3, _⟩ => ⟨S512x8x128, .bf16⟩
  | .hbm, ⟨4, _⟩ => ⟨S8x512x128, .bf16⟩
  | .hbm, ⟨5, _⟩ => ⟨S8192x512, .f32⟩
  | .local _ .vmem, ⟨0, _⟩ => ⟨S2048x1024, .bf16⟩
  | .local _ .vmem, ⟨1, _⟩ => ⟨S2048x1024, .bf16⟩
  | .local _ .vmem, ⟨2, _⟩ => ⟨S8x512x128, .bf16⟩
  | .local _ .vmem, ⟨3, _⟩ => ⟨S2048x512, .f32⟩
  | .local _ .vmem, ⟨4, _⟩ => ⟨S2048x512, .f32⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S8x512x128 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S2048x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== Reference24Ideal.lean ====
abbrev S8192x1024 : Shape := ⟨2, ![8192, 1024]⟩
abbrev S512x1024 : Shape := ⟨2, ![512, 1024]⟩
abbrev S_ : Shape := ⟨0, ![]⟩
abbrev S8192x512 : Shape := ⟨2, ![8192, 512]⟩

abbrev nBuf : Space → Nat
  | .hbm => 7
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S512x1024, .f32⟩
  | .hbm, ⟨2, _⟩ => ⟨S_, .f32⟩
  | .hbm, ⟨3, _⟩ => ⟨S8192x512, .f32⟩
  | .hbm, ⟨4, _⟩ => ⟨S8192x1024, .f32⟩
  | .hbm, ⟨5, _⟩ => ⟨S8192x1024, .f32⟩
  | .hbm, ⟨6, _⟩ => ⟨S8192x512, .f32⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== Kernel25.lean ====
abbrev S8192x512 : Shape := ⟨2, ![8192, 512]⟩
abbrev S8192x1024 : Shape := ⟨2, ![8192, 1024]⟩
abbrev S8x512x128 : Shape := ⟨3, ![8, 512, 128]⟩
abbrev S1024x512 : Shape := ⟨2, ![1024, 512]⟩
abbrev S1024x1024 : Shape := ⟨2, ![1024, 1024]⟩
abbrev S512x1024 : Shape := ⟨2, ![512, 1024]⟩
abbrev S1024x128 : Shape := ⟨2, ![1024, 128]⟩
abbrev S1x512x128 : Shape := ⟨3, ![1, 512, 128]⟩
abbrev S512x128 : Shape := ⟨2, ![512, 128]⟩

abbrev nBuf : Space → Nat
  | .hbm => 4
  | .vmem => 6
  | .smem => 0
  | _ => 0

abbrev bufTy : (tb : Table) → Fin (tcTables nBuf tb) → BufTy
  | .hbm, ⟨0, _⟩ => ⟨S8192x512, .bf16⟩
  | .hbm, ⟨1, _⟩ => ⟨S8192x1024, .bf16⟩
  | .hbm, ⟨2, _⟩ => ⟨S8x512x128, .f32⟩
  | .hbm, ⟨3, _⟩ => ⟨S8x512x128, .bf16⟩
  | .local _ .vmem, ⟨0, _⟩ => ⟨S1024x512, .bf16⟩
  | .local _ .vmem, ⟨1, _⟩ => ⟨S1024x512, .bf16⟩
  | .local _ .vmem, ⟨2, _⟩ => ⟨S1024x1024, .bf16⟩
  | .local _ .vmem, ⟨3, _⟩ => ⟨S1024x1024, .bf16⟩
  | .local _ .vmem, ⟨4, _⟩ => ⟨S8x512x128, .f32⟩
  | .local _ .vmem, ⟨5, _⟩ => ⟨S8x512x128, .bf16⟩
  | _, _ => ⟨S8192x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0_0 : Ref sig .tc := ⟨.hbm, 2, rfl⟩
abbrev main_v0_1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5

abbrev nD : Nat := 1
abbrev τ : Topo := Topo.v7x

variable {F : FTy → Type} [FloatOps F]

abbrev grid0 : Pipeline.Grid := ⟨3, ![1, 1, 8], ![false, false, false]⟩

def k0_cond2 (i : grid0.Coords) : BitVec 1 :=
  let arg2 : BitVec 32 := BitVec.ofNat 32 (i 2).val
  let c7_i32 : BitVec 32 := 7#32
  let v69 : BitVec 1 := Scalar.cmpi .eq arg2 c7_i32
  let v70 : BitVec 32 := Scalar.extui v69
  let c0_i32_59 : BitVec 32 := 0#32
  let v71 : BitVec 1 := Scalar.cmpi .ne v70 c0_i32_59
  v71

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg1.toNat, arg0.toNat, c0_i32.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg1.toNat, arg0.toNat, c0_i32.toNat]

abbrev stage0_0 : Fin 2 → Memref sig .tc .vmem S1024x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 1 → Memref sig .tc .vmem S8x512x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true, false]

abbrev stage0_3 : Fin 1 → Memref sig .tc .vmem S8x512x128 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true, true, false]
-- ==== Reference25Ideal.lean ====
abbrev S8192x512 : Shape := ⟨2, ![8192, 512]⟩
abbrev S8192x1024 : Shape := ⟨2, ![8192, 1024]⟩
abbrev S_ : Shape := ⟨0, ![]⟩
abbrev S512x1024 : Shape := ⟨2, ![512, 1024]⟩
abbrev S1024x512 : Shape := ⟨2, ![1024, 512]⟩
abbrev S512x8x128 : Shape := ⟨3, ![512, 8, 128]⟩
abbrev S8x512x128 : Shape := ⟨3, ![8, 512, 128]⟩

abbrev nBuf : Space → Nat
  | .hbm => 12
  | .vmem => 0
  | .smem => 0
  | _ => 0

abbrev bufTy : (tb : Table) → Fin (tcTables nBuf tb) → BufTy
  | .hbm, ⟨0, _⟩ => ⟨S8192x512, .bf16⟩
  | .hbm, ⟨1, _⟩ => ⟨S8192x1024, .bf16⟩
  | .hbm, ⟨2, _⟩ => ⟨S_, .f32⟩
  | .hbm, ⟨3, _⟩ => ⟨S512x1024, .f32⟩
  | .hbm, ⟨4, _⟩ => ⟨S8192x512, .f32⟩
  | .hbm, ⟨5, _⟩ => ⟨S8192x1024, .f32⟩
  | .hbm, ⟨6, _⟩ => ⟨S8192x1024, .f32⟩
  | .hbm, ⟨7, _⟩ => ⟨S1024x512, .f32⟩
  | .hbm, ⟨8, _⟩ => ⟨S512x1024, .f32⟩
  | .hbm, ⟨9, _⟩ => ⟨S512x8x128, .f32⟩
  | .hbm, ⟨10, _⟩ => ⟨S8x512x128, .f32⟩
  | .hbm, ⟨11, _⟩ => ⟨S8x512x128, .bf16⟩
  | _, _ => ⟨S8192x512, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩

abbrev nD : Nat := 1
abbrev τ : Topo := Topo.v7x

variable {F : FTy → Type} [FloatOps F]
-- ==== Proof.GateBlock.lean ====
module

public import proofs.«01_k».proof.Proof.Gen.KernelIdeal.Frame
public import Idealize.ShloMosaic.Lib.Pipeline.Value
public import Idealize.ShloMosaic.Lib.Pipeline.ReadBack
public import Idealize.ShloMosaic.Lib.Pointwise

/-! What one grid point of the gate's backward kernel leaves in its four output blocks, as functions of the blocks it
reads: `u` (`x0`), the gate input `v` (`x1`), the cotangent `g` (`x2`), the masked mixing matrices `W` (`x3`), the bias
spread over a head's columns (`x4`), and of what the two accumulators held (`a7`, `a8`). -/

@[expose] public section

set_option maxRecDepth 16384

noncomputable section

namespace Cert.KernelIdeal.Gate

open Cert.KernelIdeal Cert.KernelIdeal.Gen Idealize.ShloMosaic Idealize.ShloMosaic.TcCoe Idealize.SL.Sem
open Idealize.ShloMosaic.Pipeline (Dat)

/-- Column `e` of head `h`. -/
def col (h : Fin 4) (e : Fin 256) : Fin 1024 := ⟨256 * h.val + e.val, by omega⟩

/-- The head a column belongs to. -/
def hd (k : Fin 1024) : Fin 4 := ⟨k.val / 256, by omega⟩

theorem hd_col (h : Fin 4) (e : Fin 256) : hd (col h e) = h := Fin.ext (by simp only [hd, col]; omega)

theorem col0 (e : Fin 256) : col 0 e = ⟨e.val, by omega⟩ := Fin.ext (Nat.zero_add _)
theorem col1 (e : Fin 256) : col 1 e = ⟨256 + e.val, by omega⟩ := rfl
theorem col2 (e : Fin 256) : col 2 e = ⟨512 + e.val, by omega⟩ := rfl
theorem col3 (e : Fin 256) : col 3 e = ⟨768 + e.val, by omega⟩ := rfl

/-- The mixed value of a head before the bias: `(W_h v)(t, k)`. -/
def mixed (x1 : Vec Ideal S128x1024 .bf16) (x3 : Vec Ideal S4x128x128 .bf16) (t : Fin 128) (k : Fin 1024) : EReal :=
  ∑ s : Fin 128, x3 (ix3 (hd k) t s) * x1 (ix2 s k)

/-- The block of the gradient of `u`: the cotangent times the mixed gate. -/
def duBlk (x1 x2 : Vec Ideal S128x1024 .bf16) (x3 : Vec Ideal S4x128x128 .bf16) (x4 : Vec Ideal S128x1024 .f32) :
    Vec Ideal S128x1024 .f32 :=
  fun y => x2 y * (mixed x1 x3 (y 0) (y 1) + x4 y)

/-- The block of the gradient of `v`: the transposed mixing of the cotangent times `u`. -/
def dvBlk (x0 : Vec Ideal S128x1024 .f32) (x2 : Vec Ideal S128x1024 .bf16) (x3 : Vec Ideal S4x128x128 .bf16) :
    Vec Ideal S128x1024 .f32 :=
  fun y => ∑ t : Fin 128, x3 (ix3 (hd (y 1)) t (y 0)) * (x2 (ix2 t (y 1)) * x0 (ix2 t (y 1)))

/-- The word of the mask bit at row `t`, column `s`: one on and below the diagonal. -/
def low (t s : Fin 128) : BitVec 1 := k0_pay5 (ix2 t s)

/-- The step of the mixing matrices' gradient. -/
def dwBlk (x0 : Vec Ideal S128x1024 .f32) (x1 x2 : Vec Ideal S128x1024 .bf16) : Vec Ideal S4x128x128 .f32 :=
  fun y => Scalar.select (low (y 1) (y 2))
    (∑ e : Fin 256, (x2 (ix2 (y 1) (col (y 0) e)) * x0 (ix2 (y 1) (col (y 0) e))) * x1 (ix2 (y 2) (col (y 0) e))) (0 : EReal)

/-- The step of the bias's gradient. -/
def dbBlk (x0 : Vec Ideal S128x1024 .f32) (x2 : Vec Ideal S128x1024 .bf16) : Vec Ideal S128x1024 .f32 :=
  fun y => x2 y * x0 y

/-- Four stores side by side, one per head, leave what each says of its own columns. -/
theorem canon_cols (G : S128x1024.Idx → Ideal .f32) (w0 w1 w2 w3 : S128x256.Idx → Ideal .f32)
    (L : List (View.Piece (Elt Ideal) S128x1024 .f32))
    (h0 : ∀ (r : Fin 128) (e : Fin 256), w0 (ix2 r e) = G (ix2 r (col 0 e)))
    (h1 : ∀ (r : Fin 128) (e : Fin 256), w1 (ix2 r e) = G (ix2 r (col 1 e)))
    (h2 : ∀ (r : Fin 128) (e : Fin 256), w2 (ix2 r e) = G (ix2 r (col 2 e)))
    (h3 : ∀ (r : Fin 128) (e : Fin 256), w3 (ix2 r e) = G (ix2 r (col 3 e))) :
    View.canon ((⟨Rect.unit ![0, 768] ![128, 256] inb_S128x1024_S128x256_0_768, w3⟩ : View.Piece (Elt Ideal) S128x1024 .f32) ::
      ⟨Rect.unit ![0, 512] ![128, 256] inb_S128x1024_S128x256_0_512, w2⟩ ::
      ⟨Rect.unit ![0, 256] ![128, 256] inb_S128x1024_S128x256_0_256, w1⟩ ::
      ⟨Rect.unit ![0, 0] ![128, 256] inb_S128x1024_S128x256_0_0, w0⟩ :: L) = G := by
  funext y
  refine View.canon_append_of_piecesOf G L [⟨Rect.unit ![0, 768] ![128, 256] inb_S128x1024_S128x256_0_768, w3⟩,
      ⟨Rect.unit ![0, 512] ![128, 256] inb_S128x1024_S128x256_0_512, w2⟩,
      ⟨Rect.unit ![0, 256] ![128, 256] inb_S128x1024_S128x256_0_256, w1⟩,
      ⟨Rect.unit ![0, 0] ![128, 256] inb_S128x1024_S128x256_0_0, w0⟩] ⟨?_, ?_, ?_, ?_, trivial⟩ y
      (View.cover_of_tiledL (s := S128x1024) _ S128x256.size (by sl_kernel_rfl) y)
  all_goals intro x; obtain ⟨r, e, rfl⟩ : ∃ (r : Fin 128) (e : Fin 256), x = ix2 r e := ⟨x 0, x 1, eq_ix2 x⟩
  · refine (h3 r e).trans (congrArg G ?_); funext a; apply Fin.ext
    match a with
    | ⟨0, _⟩ => show r.val = 0 + 1 * r.val; omega
    | ⟨1, _⟩ => show 256 * 3 + e.val = 768 + 1 * e.val; omega
  · refine (h2 r e).trans (congrArg G ?_); funext a; apply Fin.ext
    match a with
    | ⟨0, _⟩ => show r.val = 0 + 1 * r.val; omega
    | ⟨1, _⟩ => show 256 * 2 + e.val = 512 + 1 * e.val; omega
  · refine (h1 r e).trans (congrArg G ?_); funext a; apply Fin.ext
    match a with
    | ⟨0, _⟩ => show r.val = 0 + 1 * r.val; omega
    | ⟨1, _⟩ => show 256 * 1 + e.val = 256 + 1 * e.val; omega
  · refine (h0 r e).trans (congrArg G ?_); funext a; apply Fin.ext
    match a with
    | ⟨0, _⟩ => show r.val = 0 + 1 * r.val; omega
    | ⟨1, _⟩ => show 256 * 0 + e.val = 0 + 1 * e.val; omega

/-- Four stores one behind the other, one per head, leave what each says of its own matrix. -/
theorem canon_heads (G : S4x128x128.Idx → Ideal .f32) (w0 w1 w2 w3 : S1x128x128.Idx → Ideal .f32)
    (L : List (View.Piece (Elt Ideal) S4x128x128 .f32))
    (h0 : ∀ (r e : Fin 128), w0 (ix3 0 r e) = G (ix3 0 r e))
    (h1 : ∀ (r e : Fin 128), w1 (ix3 0 r e) = G (ix3 1 r e))
    (h2 : ∀ (r e : Fin 128), w2 (ix3 0 r e) = G (ix3 2 r e))
    (h3 : ∀ (r e : Fin 128), w3 (ix3 0 r e) = G (ix3 3 r e)) :
    View.canon ((⟨Rect.unit ![3, 0, 0] ![1, 128, 128] inb_S4x128x128_S1x128x128_3_0_0, w3⟩ : View.Piece (Elt Ideal) S4x128x128 .f32) ::
      ⟨Rect.unit ![2, 0, 0] ![1, 128, 128] inb_S4x128x128_S1x128x128_2_0_0, w2⟩ ::
      ⟨Rect.unit ![1, 0, 0] ![1, 128, 128] inb_S4x128x128_S1x128x128_1_0_0, w1⟩ ::
      ⟨Rect.unit ![0, 0, 0] ![1, 128, 128] inb_S4x128x128_S1x128x128_0_0_0, w0⟩ :: L) = G := by
  funext y
  refine View.canon_append_of_piecesOf G L [⟨Rect.unit ![3, 0, 0] ![1, 128, 128] inb_S4x128x128_S1x128x128_3_0_0, w3⟩,
      ⟨Rect.unit ![2, 0, 0] ![1, 128, 128] inb_S4x128x128_S1x128x128_2_0_0, w2⟩,
      ⟨Rect.unit ![1, 0, 0] ![1, 128, 128] inb_S4x128x128_S1x128x128_1_0_0, w1⟩,
      ⟨Rect.unit ![0, 0, 0] ![1, 128, 128] inb_S4x128x128_S1x128x128_0_0_0, w0⟩] ⟨?_, ?_, ?_, ?_, trivial⟩ y
      (View.cover_of_tiledL (s := S4x128x128) _ S1x128x128.size (by sl_kernel_rfl) y)
  all_goals intro x; obtain ⟨z, r, e, rfl⟩ : ∃ (z : Fin 1) (r e : Fin 128), x = ix3 z r e := ⟨x 0, x 1, x 2, eq_ix3 x⟩; obtain rfl : z = 0 := Subsingleton.elim _ _
  · refine (h3 r e).trans (congrArg G ?_); funext a; apply Fin.ext
    match a with
    | ⟨0, _⟩ => show 3 = 3 + 1 * 0; omega
    | ⟨1, _⟩ => show r.val = 0 + 1 * r.val; omega
    | ⟨2, _⟩ => show e.val = 0 + 1 * e.val; omega
  · refine (h2 r e).trans (congrArg G ?_); funext a; apply Fin.ext
    match a with
    | ⟨0, _⟩ => show 2 = 2 + 1 * 0; omega
    | ⟨1, _⟩ => show r.val = 0 + 1 * r.val; omega
    | ⟨2, _⟩ => show e.val = 0 + 1 * e.val; omega
  · refine (h1 r e).trans (congrArg G ?_); funext a; apply Fin.ext
    match a with
    | ⟨0, _⟩ => show 1 = 1 + 1 * 0; omega
    | ⟨1, _⟩ => show r.val = 0 + 1 * r.val; omega
    | ⟨2, _⟩ => show e.val = 0 + 1 * e.val; omega
  · refine (h0 r e).trans (congrArg G ?_); funext a; apply Fin.ext
    match a with
    | ⟨0, _⟩ => show 0 = 0 + 1 * 0; omega
    | ⟨1, _⟩ => show r.val = 0 + 1 * r.val; omega
    | ⟨2, _⟩ => show e.val = 0 + 1 * e.val; omega

variable (c : Dev nD) (i : grid0.Coords) (arg1 : Memref sig .tc .vmem S128x1024 .f32) (harg1 : arg1.IsWhole) (arg2 : Memref sig .tc .vmem S128x1024 .bf16) (harg2 : arg2.IsWhole) (arg3 : Memref sig .tc .vmem S128x1024 .bf16) (harg3 : arg3.IsWhole) (arg4 : Memref sig .tc .vmem S4x128x128 .bf16) (harg4 : arg4.IsWhole) (arg5 : Memref sig .tc .vmem S128x1024 .f32) (harg5 : arg5.IsWhole) (arg6 : Memref sig .tc .vmem S128x1024 .f32) (harg6 : arg6.IsWhole) (arg7 : Memref sig .tc .vmem S128x1024 .f32) (harg7 : arg7.IsWhole) (arg8 : Memref sig .tc .vmem S4x128x128 .f32) (harg8 : arg8.IsWhole) (arg9 : Memref sig .tc .vmem S128x1024 .f32) (harg9 : arg9.IsWhole)
    (x0 : Vec Ideal S128x1024 .f32) (x1 x2 : Vec Ideal S128x1024 .bf16) (x3 : Vec Ideal S4x128x128 .bf16) (x4 : Vec Ideal S128x1024 .f32)
    (a7 : Vec Ideal S4x128x128 .f32) (a8 : Vec Ideal S128x1024 .f32)

/-- The gradient of `u`, at the first point. -/
theorem out_A_5 (hc : cond0_0 i) : out0_A_5 c i arg1 harg1 arg2 harg2 arg3 harg3 arg4 harg4 arg5 harg5 arg6 harg6 arg7 harg7 arg8 harg8 arg9 harg9 hc x0 x1 x2 x3 x4 = duBlk x1 x2 x3 x4 := by
  unfold out0_A_5
  rw [View.read_writes_eq_canon _ _ _ (cover0_A_5 c i arg1 harg1 arg2 harg2 arg3 harg3 arg4 harg4 arg5 harg5 arg6 harg6 arg7 harg7 arg8 harg8 arg9 harg9 hc x0 x1 x2 x3 x4)]
  unfold kernelRun0_A
  dsimp only
  sl_unfold_words
  simp (disch := decide) only [↓View.readCov_skip, ↓View.readCov_fill, View.readAt_eq_ld, harg1.read_unread, harg2.read_unread, harg3.read_unread, harg4.read_unread, harg5.read_unread, harg8.read_unread, harg9.read_unread]
  apply canon_cols
  all_goals intro r e; pointwise [k0_pay1, k0_pay2, k0_pay3, k0_pay4, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, duBlk, mixed, hd_col]
  all_goals simp only [col0, col1, col2, col3]

/-- The gradient of `v`, at the first point. -/
theorem out_A_6 (hc : cond0_0 i) : out0_A_6 c i arg1 harg1 arg2 harg2 arg3 harg3 arg4 harg4 arg5 harg5 arg6 harg6 arg7 harg7 arg8 harg8 arg9 harg9 hc x0 x1 x2 x3 x4 = dvBlk x0 x2 x3 := by
  unfold out0_A_6
  rw [View.read_writes_eq_canon _ _ _ (cover0_A_6 c i arg1 harg1 arg2 harg2 arg3 harg3 arg4 harg4 arg5 harg5 arg6 harg6 arg7 harg7 arg8 harg8 arg9 harg9 hc x0 x1 x2 x3 x4)]
  unfold kernelRun0_A
  dsimp only
  sl_unfold_words
  simp (disch := decide) only [↓View.readCov_skip, ↓View.readCov_fill, View.readAt_eq_ld, harg1.read_unread, harg2.read_unread, harg3.read_unread, harg4.read_unread, harg5.read_unread, harg8.read_unread, harg9.read_unread]
  apply canon_cols
  all_goals intro r e; pointwise [k0_pay1, k0_pay2, k0_pay3, k0_pay4, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, dvBlk, hd_col]
  all_goals simp only [col0, col1, col2, col3]

/-- The mixing matrices' gradient, at the first point. -/
theorem out_A_7 (hc : cond0_0 i) : out0_A_7 c i arg1 harg1 arg2 harg2 arg3 harg3 arg4 harg4 arg5 harg5 arg6 harg6 arg7 harg7 arg8 harg8 arg9 harg9 hc x0 x1 x2 x3 x4 = dwBlk x0 x1 x2 := by
  unfold out0_A_7
  rw [View.read_writes_eq_canon _ _ _ (cover0_A_7 c i arg1 harg1 arg2 harg2 arg3 harg3 arg4 harg4 arg5 harg5 arg6 harg6 arg7 harg7 arg8 harg8 arg9 harg9 hc x0 x1 x2 x3 x4)]
  unfold kernelRun0_A
  dsimp only
  sl_unfold_words
  simp (disch := decide) only [↓View.readCov_skip, ↓View.readCov_fill, View.readAt_eq_ld, harg1.read_unread, harg2.read_unread, harg3.read_unread, harg4.read_unread, harg5.read_unread, harg8.read_unread, harg9.read_unread]
  apply canon_heads
  all_goals intro r e; pointwise [k0_pay1, k0_pay2, k0_pay3, k0_pay4, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, dwBlk, low]
  all_goals simp only [col0, col1, col2, col3]

/-- The bias's gradient, at the first point. -/
theorem out_A_8 (hc : cond0_0 i) : out0_A_8 c i arg1 harg1 arg2 harg2 arg3 harg3 arg4 harg4 arg5 harg5 arg6 harg6 arg7 harg7 arg8 harg8 arg9 harg9 hc x0 x1 x2 x3 x4 = dbBlk x0 x2 := by
  unfold out0_A_8
  rw [View.read_writes_eq_canon _ _ _ (cover0_A_8 c i arg1 harg1 arg2 harg2 arg3 harg3 arg4 harg4 arg5 harg5 arg6 harg6 arg7 harg7 arg8 harg8 arg9 harg9 hc x0 x1 x2 x3 x4)]
  unfold kernelRun0_A
  dsimp only
  sl_unfold_words
  simp (disch := decide) only [↓View.readCov_skip, ↓View.readCov_fill, View.readAt_eq_ld, harg1.read_unread, harg2.read_unread, harg3.read_unread, harg4.read_unread, harg5.read_unread, harg8.read_unread, harg9.read_unread]
  apply canon_cols
  all_goals intro r e; pointwise [k0_pay1, k0_pay2, k0_pay3, k0_pay4, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, dbBlk]
  all_goals simp only [col0, col1, col2, col3]

/-- The gradient of `u`, at a later point. -/
theorem out_B_5 (hc : ¬cond0_0 i) : out0_B_5 c i arg1 harg1 arg2 harg2 arg3 harg3 arg4 harg4 arg5 harg5 arg6 harg6 arg7 harg7 arg8 harg8 arg9 harg9 hc x0 x1 x2 x3 x4 a7 a8 = duBlk x1 x2 x3 x4 := by
  unfold out0_B_5
  rw [View.read_writes_eq_canon _ _ _ (cover0_B_5 c i arg1 harg1 arg2 harg2 arg3 harg3 arg4 harg4 arg5 harg5 arg6 harg6 arg7 harg7 arg8 harg8 arg9 harg9 hc x0 x1 x2 x3 x4 a7 a8)]
  unfold kernelRun0_B
  dsimp only
  sl_unfold_words
  simp (disch := decide) only [↓View.readCov_skip, ↓View.readCov_fill, View.readAt_eq_ld, harg1.read_unread, harg2.read_unread, harg3.read_unread, harg4.read_unread, harg5.read_unread, harg8.read_unread, harg9.read_unread]
  apply canon_cols
  all_goals intro r e; pointwise [k0_pay1, k0_pay2, k0_pay3, k0_pay4, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, duBlk, mixed, hd_col]
  all_goals simp only [col0, col1, col2, col3]

/-- The gradient of `v`, at a later point. -/
theorem out_B_6 (hc : ¬cond0_0 i) : out0_B_6 c i arg1 harg1 arg2 harg2 arg3 harg3 arg4 harg4 arg5 harg5 arg6 harg6 arg7 harg7 arg8 harg8 arg9 harg9 hc x0 x1 x2 x3 x4 a7 a8 = dvBlk x0 x2 x3 := by
  unfold out0_B_6
  rw [View.read_writes_eq_canon _ _ _ (cover0_B_6 c i arg1 harg1 arg2 harg2 arg3 harg3 arg4 harg4 arg5 harg5 arg6 harg6 arg7 harg7 arg8 harg8 arg9 harg9 hc x0 x1 x2 x3 x4 a7 a8)]
  unfold kernelRun0_B
  dsimp only
  sl_unfold_words
  simp (disch := decide) only [↓View.readCov_skip, ↓View.readCov_fill, View.readAt_eq_ld, harg1.read_unread, harg2.read_unread, harg3.read_unread, harg4.read_unread, harg5.read_unread, harg8.read_unread, harg9.read_unread]
  apply canon_cols
  all_goals intro r e; pointwise [k0_pay1, k0_pay2, k0_pay3, k0_pay4, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, dvBlk, hd_col]
  all_goals simp only [col0, col1, col2, col3]

/-- The mixing matrices' gradient, at a later point. -/
theorem out_B_7 (hc : ¬cond0_0 i) : out0_B_7 c i arg1 harg1 arg2 harg2 arg3 harg3 arg4 harg4 arg5 harg5 arg6 harg6 arg7 harg7 arg8 harg8 arg9 harg9 hc x0 x1 x2 x3 x4 a7 a8 = fun y => a7 y + dwBlk x0 x1 x2 y := by
  unfold out0_B_7
  rw [View.read_writes_eq_canon _ _ _ (cover0_B_7 c i arg1 harg1 arg2 harg2 arg3 harg3 arg4 harg4 arg5 harg5 arg6 harg6 arg7 harg7 arg8 harg8 arg9 harg9 hc x0 x1 x2 x3 x4 a7 a8)]
  unfold kernelRun0_B
  dsimp only
  sl_unfold_words
  simp (disch := decide) only [↓View.readCov_skip, ↓View.readCov_fill, View.readAt_eq_ld, harg1.read_unread, harg2.read_unread, harg3.read_unread, harg4.read_unread, harg5.read_unread, harg8.read_unread, harg9.read_unread]
  apply canon_heads
  all_goals intro r e; pointwise [k0_pay1, k0_pay2, k0_pay3, k0_pay4, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, dwBlk, low]
  all_goals simp only [col0, col1, col2, col3]

/-- The bias's gradient, at a later point. -/
theorem out_B_8 (hc : ¬cond0_0 i) : out0_B_8 c i arg1 harg1 arg2 harg2 arg3 harg3 arg4 harg4 arg5 harg5 arg6 harg6 arg7 harg7 arg8 harg8 arg9 harg9 hc x0 x1 x2 x3 x4 a7 a8 = fun y => a8 y + dbBlk x0 x2 y := by
  unfold out0_B_8
  rw [View.read_writes_eq_canon _ _ _ (cover0_B_8 c i arg1 harg1 arg2 harg2 arg3 harg3 arg4 harg4 arg5 harg5 arg6 harg6 arg7 harg7 arg8 harg8 arg9 harg9 hc x0 x1 x2 x3 x4 a7 a8)]
  unfold kernelRun0_B
  dsimp only
  sl_unfold_words
  simp (disch := decide) only [↓View.readCov_skip, ↓View.readCov_fill, View.readAt_eq_ld, harg1.read_unread, harg2.read_unread, harg3.read_unread, harg4.read_unread, harg5.read_unread, harg8.read_unread, harg9.read_unread]
  apply canon_cols
  all_goals intro r e; pointwise [k0_pay1, k0_pay2, k0_pay3, k0_pay4, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, dbBlk]
  all_goals simp only [col0, col1, col2, col3]

end Cert.KernelIdeal.Gate
-- ==== Proof.Rows.lean ====
module

public import Idealize.ShloMosaic.Lib.Pipeline.Value
public import Idealize.ShloMosaic.Lib.Pipeline.ReadBack
public import Idealize.ShloMosaic.Lib.Pipeline.ValueKit.Geometry
public import Idealize.ShloMosaic.Lib.Pipeline.ValueKit.Acc
public import Idealize.ShloMosaic.Lib.Pointwise

/-! Arrays of 8192 rows taken in chunks of rows, and the norms of a row. -/

@[expose] public section

set_option maxRecDepth 16384

noncomputable section

namespace Cert.Rows

open Idealize.ShloMosaic

/-- Row `r` of chunk `t`, in chunks of `n` rows. -/
def row (n t : Nat) (r : Fin n) : Fin 8192 := ⟨(n * t + r.val) % 8192, Nat.mod_lt _ (by decide)⟩

/-- The rows of chunk `t`. -/
def rows {k : Nat} {e : EltTy} (n : Nat) (X : (⟨2, ![8192, k]⟩ : Shape).Idx → Elt Ideal e) (t : Nat) : (⟨2, ![n, k]⟩ : Shape).Idx → Elt Ideal e :=
  fun y => X (ix2 (row n t (y 0)) (y 1))

/-- A row's index inside a chunk, placed in the array. -/
theorem eq_row {n k t a b : Nat} {i : (⟨2, ![8192, k]⟩ : Shape).Idx} {p : Fin n} {q : Fin k} (ha : a = t) (hb : b = 0) (ht : n * t + n ≤ 8192)
    (h0 : (i 0).val = a * n + 1 * p.val) (h1 : (i 1).val = b * k + 1 * q.val) : i = ix2 (row n t p) q := by
  subst ha hb
  funext x
  apply Fin.ext
  match x with
  | ⟨0, _⟩ =>
    show (i 0).val = (n * a + p.val) % 8192
    rw [h0, Nat.mod_eq_of_lt (by have := p.isLt; omega), Nat.mul_comm a n, Nat.one_mul]
  | ⟨1, _⟩ => show (i 1).val = q.val; omega

/-- An index of a block which is the whole array. -/
theorem eq_whole {l k a b : Nat} {i y : (⟨2, ![l, k]⟩ : Shape).Idx} (ha : a = 0) (hb : b = 0)
    (h0 : (i 0).val = a * l + 1 * (y 0).val) (h1 : (i 1).val = b * k + 1 * (y 1).val) : i = y := by
  subst ha hb
  funext x
  apply Fin.ext
  match x with
  | ⟨0, _⟩ => show (i 0).val = (y 0).val; omega
  | ⟨1, _⟩ => show (i 1).val = (y 1).val; omega

/-- The same of three axes. -/
theorem eq_whole3 {l k n a b d : Nat} {i y : (⟨3, ![l, k, n]⟩ : Shape).Idx} (ha : a = 0) (hb : b = 0) (hd : d = 0)
    (h0 : (i 0).val = a * l + 1 * (y 0).val) (h1 : (i 1).val = b * k + 1 * (y 1).val) (h2 : (i 2).val = d * n + 1 * (y 2).val) : i = y := by
  subst ha hb hd
  funext x
  apply Fin.ext
  match x with
  | ⟨0, _⟩ => show (i 0).val = (y 0).val; omega
  | ⟨1, _⟩ => show (i 1).val = (y 1).val; omega
  | ⟨2, _⟩ => show (i 2).val = (y 2).val; omega

/-- The product of a block of rows and the weight. -/
def prod {n l k : Nat} (x : (⟨2, ![n, l]⟩ : Shape).Idx → EReal) (w : (⟨2, ![l, k]⟩ : Shape).Idx → EReal) : (⟨2, ![n, k]⟩ : Shape).Idx → EReal :=
  fun y => ∑ i : Fin l, x (ix2 (y 0) i) * w (ix2 i (y 1))

set_option maxHeartbeats 2000000 in
/-- Eight arrays of 256 columns side by side. -/
theorem cat8 {n : Nat} (a0 a1 a2 a3 a4 a5 a6 a7 : (⟨2, ![n, 256]⟩ : Shape).Idx → EReal) (f : (⟨2, ![n, 2048]⟩ : Shape).Idx → EReal)
    (h0 : ∀ (r : Fin n) (x : Fin 256), a0 (ix2 r x) = f (ix2 r ⟨0 + x.val, by omega⟩))
    (h1 : ∀ (r : Fin n) (x : Fin 256), a1 (ix2 r x) = f (ix2 r ⟨256 + x.val, by omega⟩))
    (h2 : ∀ (r : Fin n) (x : Fin 256), a2 (ix2 r x) = f (ix2 r ⟨512 + x.val, by omega⟩))
    (h3 : ∀ (r : Fin n) (x : Fin 256), a3 (ix2 r x) = f (ix2 r ⟨768 + x.val, by omega⟩))
    (h4 : ∀ (r : Fin n) (x : Fin 256), a4 (ix2 r x) = f (ix2 r ⟨1024 + x.val, by omega⟩))
    (h5 : ∀ (r : Fin n) (x : Fin 256), a5 (ix2 r x) = f (ix2 r ⟨1280 + x.val, by omega⟩))
    (h6 : ∀ (r : Fin n) (x : Fin 256), a6 (ix2 r x) = f (ix2 r ⟨1536 + x.val, by omega⟩))
    (h7 : ∀ (r : Fin n) (x : Fin 256), a7 (ix2 r x) = f (ix2 r ⟨1792 + x.val, by omega⟩))
    (hc : Shape.Concatenates [⟨2, ![n, 256]⟩, ⟨2, ![n, 256]⟩, ⟨2, ![n, 256]⟩, ⟨2, ![n, 256]⟩, ⟨2, ![n, 256]⟩, ⟨2, ![n, 256]⟩, ⟨2, ![n, 256]⟩, ⟨2, ![n, 256]⟩] ⟨2, ![n, 2048]⟩ 1) :
    concatenate ⟨2, ![n, 2048]⟩ 1 [⟨⟨2, ![n, 256]⟩, a0⟩, ⟨⟨2, ![n, 256]⟩, a1⟩, ⟨⟨2, ![n, 256]⟩, a2⟩, ⟨⟨2, ![n, 256]⟩, a3⟩, ⟨⟨2, ![n, 256]⟩, a4⟩, ⟨⟨2, ![n, 256]⟩, a5⟩, ⟨⟨2, ![n, 256]⟩, a6⟩, ⟨⟨2, ![n, 256]⟩, a7⟩] hc = f := by
  suffices hs : ∀ (r : Fin n) (j : Fin 2048), concatenate ⟨2, ![n, 2048]⟩ 1 [⟨⟨2, ![n, 256]⟩, a0⟩, ⟨⟨2, ![n, 256]⟩, a1⟩, ⟨⟨2, ![n, 256]⟩, a2⟩, ⟨⟨2, ![n, 256]⟩, a3⟩, ⟨⟨2, ![n, 256]⟩, a4⟩, ⟨⟨2, ![n, 256]⟩, a5⟩, ⟨⟨2, ![n, 256]⟩, a6⟩, ⟨⟨2, ![n, 256]⟩, a7⟩] hc (ix2 r j) = f (ix2 r j) by
    funext y
    rw [eq_ix2 y]
    exact hs _ _
  intro r j
  have hj := j.isLt
  have hd : j.val / 256 = 0 ∨ j.val / 256 = 1 ∨ j.val / 256 = 2 ∨ j.val / 256 = 3 ∨ j.val / 256 = 4 ∨ j.val / 256 = 5 ∨ j.val / 256 = 6 ∨ j.val / 256 = 7 := by omega
  rcases hd with h | h | h | h | h | h | h | h
  · obtain ⟨e, he⟩ : ∃ e : Fin 256, j.val = 0 + e.val := ⟨⟨j.val - 0, by omega⟩, by show j.val = 0 + (j.val - 0); omega⟩
    have ej : j = ⟨0 + e.val, by omega⟩ := Fin.ext he
    refine Eq.trans ?_ ((h0 r e).trans (by rw [ej]))
    exact concatenate_apply_piece 1 [⟨⟨2, ![n, 256]⟩, a0⟩, ⟨⟨2, ![n, 256]⟩, a1⟩, ⟨⟨2, ![n, 256]⟩, a2⟩, ⟨⟨2, ![n, 256]⟩, a3⟩, ⟨⟨2, ![n, 256]⟩, a4⟩, ⟨⟨2, ![n, 256]⟩, a5⟩, ⟨⟨2, ![n, 256]⟩, a6⟩, ⟨⟨2, ![n, 256]⟩, a7⟩] _ (ix2 r j) 0 (show 0 < 8 by decide) ⟨2, ![n, 256]⟩ a0 rfl rfl 0 rfl (ix2 r e)
      (fun b hb => match b with | ⟨0, _⟩ => rfl | ⟨1, _⟩ => absurd rfl hb) he.symm
  · obtain ⟨e, he⟩ : ∃ e : Fin 256, j.val = 256 + e.val := ⟨⟨j.val - 256, by omega⟩, by show j.val = 256 + (j.val - 256); omega⟩
    have ej : j = ⟨256 + e.val, by omega⟩ := Fin.ext he
    refine Eq.trans ?_ ((h1 r e).trans (by rw [ej]))
    exact concatenate_apply_piece 1 [⟨⟨2, ![n, 256]⟩, a0⟩, ⟨⟨2, ![n, 256]⟩, a1⟩, ⟨⟨2, ![n, 256]⟩, a2⟩, ⟨⟨2, ![n, 256]⟩, a3⟩, ⟨⟨2, ![n, 256]⟩, a4⟩, ⟨⟨2, ![n, 256]⟩, a5⟩, ⟨⟨2, ![n, 256]⟩, a6⟩, ⟨⟨2, ![n, 256]⟩, a7⟩] _ (ix2 r j) 1 (show 1 < 8 by decide) ⟨2, ![n, 256]⟩ a1 rfl rfl 256 rfl (ix2 r e)
      (fun b hb => match b with | ⟨0, _⟩ => rfl | ⟨1, _⟩ => absurd rfl hb) he.symm
  · obtain ⟨e, he⟩ : ∃ e : Fin 256, j.val = 512 + e.val := ⟨⟨j.val - 512, by omega⟩, by show j.val = 512 + (j.val - 512); omega⟩
    have ej : j = ⟨512 + e.val, by omega⟩ := Fin.ext he
    refine Eq.trans ?_ ((h2 r e).trans (by rw [ej]))
    exact concatenate_apply_piece 1 [⟨⟨2, ![n, 256]⟩, a0⟩, ⟨⟨2, ![n, 256]⟩, a1⟩, ⟨⟨2, ![n, 256]⟩, a2⟩, ⟨⟨2, ![n, 256]⟩, a3⟩, ⟨⟨2, ![n, 256]⟩, a4⟩, ⟨⟨2, ![n, 256]⟩, a5⟩, ⟨⟨2, ![n, 256]⟩, a6⟩, ⟨⟨2, ![n, 256]⟩, a7⟩] _ (ix2 r j) 2 (show 2 < 8 by decide) ⟨2, ![n, 256]⟩ a2 rfl rfl 512 rfl (ix2 r e)
      (fun b hb => match b with | ⟨0, _⟩ => rfl | ⟨1, _⟩ => absurd rfl hb) he.symm
  · obtain ⟨e, he⟩ : ∃ e : Fin 256, j.val = 768 + e.val := ⟨⟨j.val - 768, by omega⟩, by show j.val = 768 + (j.val - 768); omega⟩
    have ej : j = ⟨768 + e.val, by omega⟩ := Fin.ext he
    refine Eq.trans ?_ ((h3 r e).trans (by rw [ej]))
    exact concatenate_apply_piece 1 [⟨⟨2, ![n, 256]⟩, a0⟩, ⟨⟨2, ![n, 256]⟩, a1⟩, ⟨⟨2, ![n, 256]⟩, a2⟩, ⟨⟨2, ![n, 256]⟩, a3⟩, ⟨⟨2, ![n, 256]⟩, a4⟩, ⟨⟨2, ![n, 256]⟩, a5⟩, ⟨⟨2, ![n, 256]⟩, a6⟩, ⟨⟨2, ![n, 256]⟩, a7⟩] _ (ix2 r j) 3 (show 3 < 8 by decide) ⟨2, ![n, 256]⟩ a3 rfl rfl 768 rfl (ix2 r e)
      (fun b hb => match b with | ⟨0, _⟩ => rfl | ⟨1, _⟩ => absurd rfl hb) he.symm
  · obtain ⟨e, he⟩ : ∃ e : Fin 256, j.val = 1024 + e.val := ⟨⟨j.val - 1024, by omega⟩, by show j.val = 1024 + (j.val - 1024); omega⟩
    have ej : j = ⟨1024 + e.val, by omega⟩ := Fin.ext he
    refine Eq.trans ?_ ((h4 r e).trans (by rw [ej]))
    exact concatenate_apply_piece 1 [⟨⟨2, ![n, 256]⟩, a0⟩, ⟨⟨2, ![n, 256]⟩, a1⟩, ⟨⟨2, ![n, 256]⟩, a2⟩, ⟨⟨2, ![n, 256]⟩, a3⟩, ⟨⟨2, ![n, 256]⟩, a4⟩, ⟨⟨2, ![n, 256]⟩, a5⟩, ⟨⟨2, ![n, 256]⟩, a6⟩, ⟨⟨2, ![n, 256]⟩, a7⟩] _ (ix2 r j) 4 (show 4 < 8 by decide) ⟨2, ![n, 256]⟩ a4 rfl rfl 1024 rfl (ix2 r e)
      (fun b hb => match b with | ⟨0, _⟩ => rfl | ⟨1, _⟩ => absurd rfl hb) he.symm
  · obtain ⟨e, he⟩ : ∃ e : Fin 256, j.val = 1280 + e.val := ⟨⟨j.val - 1280, by omega⟩, by show j.val = 1280 + (j.val - 1280); omega⟩
    have ej : j = ⟨1280 + e.val, by omega⟩ := Fin.ext he
    refine Eq.trans ?_ ((h5 r e).trans (by rw [ej]))
    exact concatenate_apply_piece 1 [⟨⟨2, ![n, 256]⟩, a0⟩, ⟨⟨2, ![n, 256]⟩, a1⟩, ⟨⟨2, ![n, 256]⟩, a2⟩, ⟨⟨2, ![n, 256]⟩, a3⟩, ⟨⟨2, ![n, 256]⟩, a4⟩, ⟨⟨2, ![n, 256]⟩, a5⟩, ⟨⟨2, ![n, 256]⟩, a6⟩, ⟨⟨2, ![n, 256]⟩, a7⟩] _ (ix2 r j) 5 (show 5 < 8 by decide) ⟨2, ![n, 256]⟩ a5 rfl rfl 1280 rfl (ix2 r e)
      (fun b hb => match b with | ⟨0, _⟩ => rfl | ⟨1, _⟩ => absurd rfl hb) he.symm
  · obtain ⟨e, he⟩ : ∃ e : Fin 256, j.val = 1536 + e.val := ⟨⟨j.val - 1536, by omega⟩, by show j.val = 1536 + (j.val - 1536); omega⟩
    have ej : j = ⟨1536 + e.val, by omega⟩ := Fin.ext he
    refine Eq.trans ?_ ((h6 r e).trans (by rw [ej]))
    exact concatenate_apply_piece 1 [⟨⟨2, ![n, 256]⟩, a0⟩, ⟨⟨2, ![n, 256]⟩, a1⟩, ⟨⟨2, ![n, 256]⟩, a2⟩, ⟨⟨2, ![n, 256]⟩, a3⟩, ⟨⟨2, ![n, 256]⟩, a4⟩, ⟨⟨2, ![n, 256]⟩, a5⟩, ⟨⟨2, ![n, 256]⟩, a6⟩, ⟨⟨2, ![n, 256]⟩, a7⟩] _ (ix2 r j) 6 (show 6 < 8 by decide) ⟨2, ![n, 256]⟩ a6 rfl rfl 1536 rfl (ix2 r e)
      (fun b hb => match b with | ⟨0, _⟩ => rfl | ⟨1, _⟩ => absurd rfl hb) he.symm
  · obtain ⟨e, he⟩ : ∃ e : Fin 256, j.val = 1792 + e.val := ⟨⟨j.val - 1792, by omega⟩, by show j.val = 1792 + (j.val - 1792); omega⟩
    have ej : j = ⟨1792 + e.val, by omega⟩ := Fin.ext he
    refine Eq.trans ?_ ((h7 r e).trans (by rw [ej]))
    exact concatenate_apply_piece 1 [⟨⟨2, ![n, 256]⟩, a0⟩, ⟨⟨2, ![n, 256]⟩, a1⟩, ⟨⟨2, ![n, 256]⟩, a2⟩, ⟨⟨2, ![n, 256]⟩, a3⟩, ⟨⟨2, ![n, 256]⟩, a4⟩, ⟨⟨2, ![n, 256]⟩, a5⟩, ⟨⟨2, ![n, 256]⟩, a6⟩, ⟨⟨2, ![n, 256]⟩, a7⟩] _ (ix2 r j) 7 (show 7 < 8 by decide) ⟨2, ![n, 256]⟩ a7 rfl rfl 1792 rfl (ix2 r e)
      (fun b hb => match b with | ⟨0, _⟩ => rfl | ⟨1, _⟩ => absurd rfl hb) he.symm

/-- Entry `j` of a row's norm: over the root of the row's mean square, scaled. -/
def nrm (x : Fin 1024 → EReal) (g : EReal) (j : Fin 1024) : EReal :=
  x j * Ideal.rsqrt (Ideal.div (∑ k : Fin 1024, x k * x k) (Ideal.ofBits FTy.f32 1149239296#32) + Ideal.ofBits FTy.f32 897988541#32) * g

/-- What a function of the chunk and of the place inside it holds at an index of the array, chunk by chunk. -/
theorem at_chunk {N n k a b : Nat} {α : Type} (F : Nat → (⟨2, ![n, k]⟩ : Shape).Idx → α) (t : Nat) (j : (⟨2, ![n, k]⟩ : Shape).Idx)
    {i : (⟨2, ![N, k]⟩ : Shape).Idx} (hn : 0 < n) (ha : a = t) (hb : b = 0)
    (h0 : (i 0).val = a * n + 1 * (j 0).val) (h1 : (i 1).val = b * k + 1 * (j 1).val) :
    F t j = F ((i 0).val / n) (ix2 ⟨(i 0).val % n, Nat.mod_lt _ hn⟩ (i 1)) := by
  subst ha hb
  have hj : (j 0).val < n := (j 0).isLt
  have ed : (i 0).val / n = a := by
    rw [h0, Nat.one_mul, Nat.mul_comm a n, Nat.mul_add_div hn, Nat.div_eq_of_lt hj, Nat.add_zero]
  have e : (ix2 ⟨(i 0).val % n, Nat.mod_lt _ hn⟩ (i 1) : (⟨2, ![n, k]⟩ : Shape).Idx) = j := by
    funext x
    apply Fin.ext
    match x with
    | ⟨0, _⟩ =>
      show (i 0).val % n = (j 0).val
      rw [h0, Nat.one_mul, Nat.mul_comm a n, Nat.mul_add_mod, Nat.mod_eq_of_lt hj]
    | ⟨1, _⟩ => show (i 1).val = (j 1).val; omega
  rw [ed, e]

end Cert.Rows
-- ==== Proof.GateFold.lean ====
module

public import proofs.«01_k».proof.Proof.GateBlock
public import Idealize.ShloMosaic.Lib.StableHlo.Run
public import proofs.«01_k».proof.Proof.Rows

/-! The gate's backward kernel over its 64 chunks: what the four result arrays hold after the run, as functions of the
arrays the region reads. -/

@[expose] public section

set_option maxRecDepth 16384

noncomputable section

namespace Cert.KernelIdeal.Gate

open Cert.KernelIdeal Cert.KernelIdeal.Gen Idealize.ShloMosaic Idealize.ShloMosaic.TcCoe Idealize.SL.Sem
open Idealize.ShloMosaic.Pipeline (Dat)

variable (m : (ℓ : Loc nD τ sig) → Buf (Elt Ideal) ℓ)

/-- The rows of chunk `s` of a `[8192, 1024]` array. -/
def chunk {e : EltTy} (X : Vec Ideal S8192x1024 e) (s : Nat) : Vec Ideal S128x1024 e :=
  fun y => X (ix2 ⟨(128 * s + (y 0).val) % 8192, Nat.mod_lt _ (by decide)⟩ (y 1))

/-- The five arrays the region reads. -/
abbrev aU (c : Dev nD) : Vec Ideal S8192x1024 .f32 := V m c main_arg0
abbrev aV (c : Dev nD) : Vec Ideal S8192x1024 .bf16 := V m c main_arg1
abbrev aG (c : Dev nD) : Vec Ideal S8192x1024 .bf16 := V m c main_arg2
abbrev aW (c : Dev nD) : Vec Ideal S4x128x128 .bf16 := V m c main_v4
abbrev aB (c : Dev nD) : Vec Ideal S128x1024 .f32 := V m c main_v7

theorem lt64 (t : Fin cfg0.N) : t.val < 64 := lt_of_lt_of_eq t.isLt N_0

theorem index0 : ∀ t : Fin grid0.N, win0_0.index t 0 = t.val ∧ win0_0.index t 1 = 0 := by decide +kernel
theorem index1 : ∀ t : Fin grid0.N, win0_1.index t 0 = t.val ∧ win0_1.index t 1 = 0 := by decide +kernel
theorem index2 : ∀ t : Fin grid0.N, win0_2.index t 0 = t.val ∧ win0_2.index t 1 = 0 := by decide +kernel
theorem index5 : ∀ t : Fin grid0.N, win0_5.index t 0 = t.val ∧ win0_5.index t 1 = 0 := by decide +kernel
theorem index6 : ∀ t : Fin grid0.N, win0_6.index t 0 = t.val ∧ win0_6.index t 1 = 0 := by decide +kernel
theorem index3 : ∀ t : Fin grid0.N, win0_3.index t 0 = 0 ∧ win0_3.index t 1 = 0 ∧ win0_3.index t 2 = 0 := by decide +kernel
theorem index4 : ∀ t : Fin grid0.N, win0_4.index t 0 = 0 ∧ win0_4.index t 1 = 0 := by decide +kernel
theorem index7 : ∀ t : Fin grid0.N, win0_7.index t 0 = 0 ∧ win0_7.index t 1 = 0 ∧ win0_7.index t 2 = 0 := by decide +kernel
theorem index8 : ∀ t : Fin grid0.N, win0_8.index t 0 = 0 ∧ win0_8.index t 1 = 0 := by decide +kernel

/-- Window 0's block at point `t` is chunk `t` of its array. -/
theorem iblk0 (c : Dev nD) (t : Fin cfg0.N) : (iblk m c 0 t : Vec Ideal S128x1024 .f32) = chunk (aU m c) t.val := by
  funext j
  unfold iblk
  rw [View.read_apply]
  exact congrArg (aU m c) (Rows.eq_row (index0 t).1 (index0 t).2 (by have := lt64 t; omega) rfl rfl)

/-- Window 1's block at point `t` is chunk `t` of its array. -/
theorem iblk1 (c : Dev nD) (t : Fin cfg0.N) : (iblk m c 1 t : Vec Ideal S128x1024 .bf16) = chunk (aV m c) t.val := by
  funext j
  unfold iblk
  rw [View.read_apply]
  exact congrArg (aV m c) (Rows.eq_row (index1 t).1 (index1 t).2 (by have := lt64 t; omega) rfl rfl)

/-- Window 2's block at point `t` is chunk `t` of its array. -/
theorem iblk2 (c : Dev nD) (t : Fin cfg0.N) : (iblk m c 2 t : Vec Ideal S128x1024 .bf16) = chunk (aG m c) t.val := by
  funext j
  unfold iblk
  rw [View.read_apply]
  exact congrArg (aG m c) (Rows.eq_row (index2 t).1 (index2 t).2 (by have := lt64 t; omega) rfl rfl)

/-- The mixing matrices are read whole, -/
theorem iblk3 (c : Dev nD) (t : Fin cfg0.N) : (iblk m c 3 t : Vec Ideal S4x128x128 .bf16) = aW m c := by
  funext j
  unfold iblk
  rw [View.read_apply]
  exact congrArg (aW m c) (Rows.eq_whole3 (index3 t).1 (index3 t).2.1 (index3 t).2.2 rfl rfl rfl)

/-- and so is the bias. -/
theorem iblk4 (c : Dev nD) (t : Fin cfg0.N) : (iblk m c 4 t : Vec Ideal S128x1024 .f32) = aB m c := by
  funext j
  unfold iblk
  rw [View.read_apply]
  exact congrArg (aB m c) (Rows.eq_whole (index4 t).1 (index4 t).2 rfl rfl)

/-- The sum over the first `n` chunks of the gradient of the mixing matrices, -/
def sumDw (c : Dev nD) (n : Nat) : Vec Ideal S4x128x128 .f32 := fun y =>
  ∑ s ∈ Finset.range n, dwBlk (chunk (aU m c) s) (chunk (aV m c) s) (chunk (aG m c) s) y

/-- and of the gradient of the bias. -/
def sumDb (c : Dev nD) (n : Nat) : Vec Ideal S128x1024 .f32 := fun y =>
  ∑ s ∈ Finset.range n, dbBlk (chunk (aU m c) s) (chunk (aG m c) s) y

/-- What the four blocks hold after point `n`: the first two are the point's own, the last two the sums so far. -/
theorem outsAt_eq (c : Dev nD) : ∀ (n : ℕ) (h : n < cfg0.N), outsAt0 m c n h =
    (duBlk (chunk (aV m c) n) (chunk (aG m c) n) (aW m c) (aB m c),
      dvBlk (chunk (aU m c) n) (chunk (aG m c) n) (aW m c),
      sumDw m c (n + 1), sumDb m c (n + 1))
  | 0, h => by
    rw [outsAt0_A m c ⟨0, h⟩ rfl, out_A_5, out_A_6, out_A_7, out_A_8, iblk0, iblk1, iblk2, iblk3, iblk4]
    refine congrArg₂ Prod.mk rfl (congrArg₂ Prod.mk rfl (congrArg₂ Prod.mk ?_ ?_)) <;> funext y <;>
      simp only [sumDw, sumDb, Finset.sum_range_one, Nat.zero_add]
  | n + 1, h => by
    have hB : ¬(⟨n + 1, h⟩ : Fin cfg0.N).val % 64 = 0 := by
      have := lt64 ⟨n + 1, h⟩; dsimp only at this ⊢; omega
    rw [outsAt0_B m c ⟨n + 1, h⟩ hB, out_B_5, out_B_6, out_B_7, out_B_8, iblk0, iblk1, iblk2, iblk3, iblk4]
    simp only [Nat.add_sub_cancel, outsAt_eq c n (Nat.lt_of_succ_lt h)]
    refine congrArg₂ Prod.mk rfl (congrArg₂ Prod.mk rfl (congrArg₂ Prod.mk ?_ ?_)) <;> funext y <;>
      simp only [sumDw, sumDb, Finset.sum_range_succ _ (n + 1)]

/-- The gradient of `u`. -/
def gDu (c : Dev nD) : Vec Ideal S8192x1024 .f32 := fun i =>
  duBlk (chunk (aV m c) ((i 0).val / 128)) (chunk (aG m c) ((i 0).val / 128)) (aW m c) (aB m c)
    (ix2 ⟨(i 0).val % 128, Nat.mod_lt _ (by decide)⟩ (i 1))

/-- The gradient of `v`. -/
def gDv (c : Dev nD) : Vec Ideal S8192x1024 .f32 := fun i =>
  dvBlk (chunk (aU m c) ((i 0).val / 128)) (chunk (aG m c) ((i 0).val / 128)) (aW m c)
    (ix2 ⟨(i 0).val % 128, Nat.mod_lt _ (by decide)⟩ (i 1))

/-- The gradient of the mixing matrices, -/
abbrev gDw (c : Dev nD) : Vec Ideal S4x128x128 .f32 := sumDw m c 64

/-- and of the bias before its columns are summed. -/
abbrev gDb (c : Dev nD) : Vec Ideal S128x1024 .f32 := sumDb m c 64

/-- Point `t` writes its 128 rows of `gDu`, -/
theorem flushed5 (c : Dev nD) (t : Fin cfg0.N) :
    (dats m 0 c).flushed 5 t = ((cfg0.win 5).blk t).view.read (Elt Ideal) (gDu m c) := by
  have ht := lt64 t
  show (cfg0.win 5).cut (grid0.coords t) ((dats m 0 c).after 5 t) = _
  rw [after0_5, outsAt_eq]
  funext j
  rw [View.read_apply]
  exact Rows.at_chunk (fun s => duBlk (chunk (aV m c) s) (chunk (aG m c) s) (aW m c) (aB m c)) t.val j (by decide) (index5 t).1 (index5 t).2 rfl rfl

/-- so the array ends holding it. -/
theorem final5 (c : Dev nD) : (dats m 0 c).arrAt 5 cfg0.N = gDu m c :=
  (dats m 0 c).arrAt_eq_of_cover 5 (gDu m c) (fun t _ => flushed5 m c t) ((by decide +kernel : (cfg0.win 5).Covers).cover _ (Memref.isWhole_whole _))

/-- Point `t` writes its 128 rows of `gDv`, -/
theorem flushed6 (c : Dev nD) (t : Fin cfg0.N) :
    (dats m 0 c).flushed 6 t = ((cfg0.win 6).blk t).view.read (Elt Ideal) (gDv m c) := by
  have ht := lt64 t
  show (cfg0.win 6).cut (grid0.coords t) ((dats m 0 c).after 6 t) = _
  rw [after0_6, outsAt_eq]
  funext j
  rw [View.read_apply]
  exact Rows.at_chunk (fun s => dvBlk (chunk (aU m c) s) (chunk (aG m c) s) (aW m c)) t.val j (by decide) (index6 t).1 (index6 t).2 rfl rfl

/-- so the array ends holding it. -/
theorem final6 (c : Dev nD) : (dats m 0 c).arrAt 6 cfg0.N = gDv m c :=
  (dats m 0 c).arrAt_eq_of_cover 6 (gDv m c) (fun t _ => flushed6 m c t) ((by decide +kernel : (cfg0.win 6).Covers).cover _ (Memref.isWhole_whole _))

/-- The last point writes the whole of `gDw`, -/
theorem flushed7 (c : Dev nD) (t : Fin cfg0.N) (hf : (cfg0.win 7).flush t = true) :
    (dats m 0 c).flushed 7 t = ((cfg0.win 7).blk t).view.read (Elt Ideal) (gDw m c) := by
  have ht := lt64 t
  have h63 : t.val = 63 := by have := (flush0_7 t).mp hf; omega
  show (cfg0.win 7).cut (grid0.coords t) ((dats m 0 c).after 7 t) = _
  rw [after0_7, outsAt_eq]
  funext j
  rw [View.read_apply]
  have e : ((cfg0.win 7).blk t).view.emb j = j := by
    funext a
    apply Fin.ext
    match a with
    | ⟨0, _⟩ => show win0_7.index t 0 * 4 + 1 * (j 0).val = (j 0).val; rw [(index7 t).1]; omega
    | ⟨1, _⟩ => show win0_7.index t 1 * 128 + 1 * (j 1).val = (j 1).val; rw [(index7 t).2.1]; omega
    | ⟨2, _⟩ => show win0_7.index t 2 * 128 + 1 * (j 2).val = (j 2).val; rw [(index7 t).2.2]; omega
  rw [e]
  show sumDw m c (t.val + 1) j = sumDw m c 64 j
  rw [h63]

/-- so the array ends holding it. -/
theorem final7 (c : Dev nD) : (dats m 0 c).arrAt 7 cfg0.N = gDw m c :=
  (dats m 0 c).arrAt_eq_of_cover 7 (gDw m c) (flushed7 m c) ((by decide +kernel : (cfg0.win 7).Covers).cover _ (Memref.isWhole_whole _))

/-- The last point writes the whole of `gDb`, -/
theorem flushed8 (c : Dev nD) (t : Fin cfg0.N) (hf : (cfg0.win 8).flush t = true) :
    (dats m 0 c).flushed 8 t = ((cfg0.win 8).blk t).view.read (Elt Ideal) (gDb m c) := by
  have ht := lt64 t
  have h63 : t.val = 63 := by have := (flush0_8 t).mp hf; omega
  show (cfg0.win 8).cut (grid0.coords t) ((dats m 0 c).after 8 t) = _
  rw [after0_8, outsAt_eq]
  funext j
  rw [View.read_apply]
  have e : ((cfg0.win 8).blk t).view.emb j = j := by
    funext a
    apply Fin.ext
    match a with
    | ⟨0, _⟩ => show win0_8.index t 0 * 128 + 1 * (j 0).val = (j 0).val; rw [(index8 t).1]; omega
    | ⟨1, _⟩ => show win0_8.index t 1 * 1024 + 1 * (j 1).val = (j 1).val; rw [(index8 t).2]; omega
  rw [e]
  show sumDb m c (t.val + 1) j = sumDb m c 64 j
  rw [h63]

/-- so the array ends holding it. -/
theorem final8 (c : Dev nD) : (dats m 0 c).arrAt 8 cfg0.N = gDb m c :=
  (dats m 0 c).arrAt_eq_of_cover 8 (gDb m c) (flushed8 m c) ((by decide +kernel : (cfg0.win 8).Covers).cover _ (Memref.isWhole_whole _))

end Cert.KernelIdeal.Gate
-- ==== Proof.GateRef.lean ====
module

public import proofs.«01_k».proof.Proof.Gen.ReferenceIdeal.Run
public import Idealize.ShloMosaic.Lib.Pointwise
public import Idealize.ShloMosaic.Lib.IdealHost

/-! The gate's gradients as the reference computes them, read at an index: `row b c t` is token `t` of chunk `c` of
sequence `b`, `col h e` is column `e` of head `h`. -/

@[expose] public section

set_option maxRecDepth 16384

noncomputable section

namespace Cert.ReferenceIdeal.Gate

open Cert.ReferenceIdeal Cert.ReferenceIdeal.Gen Idealize.ShloMosaic Idealize.ShloMosaic.TcCoe
open scoped BigOperators

/-- Token `t` of chunk `c` of sequence `b`, -/
def row (b : Fin 2) (c : Fin 32) (t : Fin 128) : Fin 8192 := ⟨4096 * b.val + 128 * c.val + t.val, by omega⟩

/-- and column `e` of head `h`. -/
def col (h : Fin 4) (e : Fin 256) : Fin 1024 := ⟨256 * h.val + e.val, by omega⟩

variable (u : FVec Ideal S8192x1024 .f32) (v g : FVec Ideal S8192x1024 .bf16) (w : FVec Ideal S4x128x128 .f32)
  (b : FVec Ideal S4x128 .f32)

/-- The lower triangle. -/
def mask : IVec S128x128 1 :=
  select (cmpi .sge (addi (iotaInDim S128x128 32 0) (broadcastInDim S128x128 ![] bcast_S_S128x128 (constantI S_ 32 0#32))) (iotaInDim S128x128 32 1)) (broadcastInDim S128x128 ![] bcast_S_S128x128 (constantI S_ 1 1#1)) (broadcastInDim S128x128 ![] bcast_S_S128x128 (constantI S_ 1 0#1))

/-- The mixing matrices under it. -/
def wTril : FVec Ideal S4x128x128 .f32 :=
  select (broadcastInDim S4x128x128 ![0, 1, 2] bcast_S1x128x128_S4x128x128_0_1_2 (broadcastInDim S1x128x128 ![1, 2] bcast_S128x128_S1x128x128_1_2 mask)) w (broadcastInDim S4x128x128 ![] bcast_S_S4x128x128 (id (constant S_ .f32 0x00000000#32)))

/-- `v` by sequence, chunk, token, head and column. -/
def v5 : FVec Ideal S2x32x128x4x256 .f32 :=
  shapeCast _ (shapeCast S2x4096x1024 (extf .f32 v bitsLt_bf16_f32) shapeCasts_S8192x1024_S2x4096x1024) shapeCasts_S2x4096x1024_S2x32x128x4x256

/-- The mixed `v` with its bias. -/
def mixB : FVec Ideal S2x4096x1024 .f32 :=
  shapeCast _ (addf (transpose S2x32x128x4x256 [1, 2, 4, 0, 3] (Host.dotGeneral dot_S2x32x128x4x256_S4x128x128_S4x2x32x256x128_2_2_014_1_3_0 none (v5 v) (wTril w)) transposes_S4x2x32x256x128_S2x32x128x4x256_1_2_4_0_3) (broadcastInDim S2x32x128x4x256 ![0, 1, 2, 3, 4] bcast_S1x1x128x4x1_S2x32x128x4x256_0_1_2_3_4 (broadcastInDim S1x1x128x4x1 ![2, 3] bcast_S128x4_S1x1x128x4x1_2_3 (transpose S128x4 [1, 0] b transposes_S4x128_S128x4_1_0)))) shapeCasts_S2x32x128x4x256_S2x4096x1024

/-- The cotangent by sequence. -/
def g3 : FVec Ideal S2x4096x1024 .f32 :=
  shapeCast _ (extf .f32 g bitsLt_bf16_f32) shapeCasts_S8192x1024_S2x4096x1024

/-- The cotangent of the mixed `v`. -/
def ug5 : FVec Ideal S2x32x128x4x256 .f32 :=
  shapeCast _ (mulf (shapeCast S2x4096x1024 u shapeCasts_S8192x1024_S2x4096x1024) (g3 g)) shapeCasts_S2x4096x1024_S2x32x128x4x256

/-- The same with the head first and the token last. -/
def ug5t : FVec Ideal S4x2x32x256x128 .f32 :=
  transpose S4x2x32x256x128 [3, 0, 1, 4, 2] (ug5 u g) transposes_S2x32x128x4x256_S4x2x32x256x128_3_0_1_4_2

/-- The four results. -/
def rDu : FVec Ideal S8192x1024 .f32 := shapeCast _ (mulf (g3 g) (mixB v w b)) shapeCasts_S2x4096x1024_S8192x1024
def rDv : FVec Ideal S8192x1024 .f32 :=
  shapeCast _ (shapeCast S2x4096x1024 (transpose S2x32x128x4x256 [1, 2, 4, 0, 3] (Host.dotGeneral dot_S4x2x32x256x128_S4x128x128_S4x2x32x256x128_4_1_123_2_0_0 none (ug5t u g) (wTril w)) transposes_S4x2x32x256x128_S2x32x128x4x256_1_2_4_0_3) shapeCasts_S2x32x128x4x256_S2x4096x1024) shapeCasts_S2x4096x1024_S8192x1024
def rDw : FVec Ideal S4x128x128 .f32 :=
  select (broadcastInDim S4x128x128 ![0, 1, 2] bcast_S1x128x128_S4x128x128_0_1_2 (broadcastInDim S1x128x128 ![1, 2] bcast_S128x128_S1x128x128_1_2 mask)) (Host.dotGeneral dot_S4x2x32x256x128_S2x32x128x4x256_S4x128x128_123_014_4_2_0_3 none (ug5t u g) (v5 v)) (broadcastInDim S4x128x128 ![] bcast_S_S4x128x128 (constant S_ .f32 0x00000000#32))
def dbOnce : FVec Ideal S128x4 .f32 :=
  Host.reduceAdd (ug5 u g) (constant S_ .f32 0x00000000#32) reducesTo_S2x32x128x4x256_S128x4_d0_1_4 h_S_
def rDb : FVec Ideal S4x128 .f32 :=
  transpose S4x128 [1, 0] (Host.reduceAdd (shapeCast S1x1x128x4x1 (dbOnce u g) shapeCasts_S128x4_S1x1x128x4x1) (constant S_ .f32 0x00000000#32) reducesTo_S1x1x128x4x1_S128x4_d0_1_4 h_S_) transposes_S128x4_S4x128_1_0

theorem wTril_apply (h : Fin 4) (t s : Fin 128) :
    wTril w (ix3 h t s) = Scalar.select (mask (ix2 t s)) (w (ix3 h t s)) 0 := by
  pointwise [wTril]
  exact congrArg _ Ideal.ofBits_zero_f32

theorem v5_apply (i : Fin 2) (c : Fin 32) (t : Fin 128) (h : Fin 4) (e : Fin 256) :
    v5 v (ix5 i c t h e) = v (ix2 (row i c t) (col h e)) := by
  pointwise [v5]
  refine congrArg v (congrArg₂ ix2 (Fin.ext ?_) (Fin.ext ?_)) <;> simp only [row, col] <;> omega

theorem ug5_apply (i : Fin 2) (c : Fin 32) (t : Fin 128) (h : Fin 4) (e : Fin 256) :
    ug5 u g (ix5 i c t h e) = u (ix2 (row i c t) (col h e)) * g (ix2 (row i c t) (col h e)) := by
  pointwise [ug5, g3]
  refine congrArg₂ (· * ·) (congrArg u (congrArg₂ ix2 (Fin.ext ?_) (Fin.ext ?_)))
    (congrArg g (congrArg₂ ix2 (Fin.ext ?_) (Fin.ext ?_))) <;> simp only [row, col] <;> omega

theorem ug5t_apply (i : Fin 2) (c : Fin 32) (t : Fin 128) (h : Fin 4) (e : Fin 256) :
    ug5t u g (ix5 h i c e t) = u (ix2 (row i c t) (col h e)) * g (ix2 (row i c t) (col h e)) := by
  rw [← ug5_apply]
  pointwise [ug5t]

theorem rDu_apply (i : Fin 2) (c : Fin 32) (t : Fin 128) (h : Fin 4) (e : Fin 256) :
    rDu v g w b (ix2 (row i c t) (col h e)) = g (ix2 (row i c t) (col h e)) *
      (∑ s : Fin 128, v (ix2 (row i c s) (col h e)) * wTril w (ix3 h t s) + b (ix2 h t)) := by
  have r := (row i c t).isLt
  have k := (col h e).isLt
  have e0 : (⟨(row i c t).val / 4096, by omega⟩ : Fin 2) = i := Fin.ext (by simp only [row]; omega)
  have e1 : (⟨(row i c t).val % 4096 / 128, by omega⟩ : Fin 32) = c := Fin.ext (by simp only [row]; omega)
  have e2 : (⟨(row i c t).val % 4096 % 128, by omega⟩ : Fin 128) = t := Fin.ext (by simp only [row]; omega)
  have e3 : (⟨(col h e).val / 256, by omega⟩ : Fin 4) = h := Fin.ext (by simp only [col]; omega)
  have e4 : (⟨(col h e).val % 256, by omega⟩ : Fin 256) = e := Fin.ext (by simp only [col]; omega)
  pointwise [rDu, mixB, g3]
  rw [e0, e1, e2, e3, e4]
  simp only [v5_apply]

theorem rDv_apply (i : Fin 2) (c : Fin 32) (s : Fin 128) (h : Fin 4) (e : Fin 256) :
    rDv u g w (ix2 (row i c s) (col h e)) =
      ∑ t : Fin 128, (u (ix2 (row i c t) (col h e)) * g (ix2 (row i c t) (col h e))) * wTril w (ix3 h t s) := by
  simp only [← ug5t_apply]
  pointwise [rDv]
  have e0 : (⟨(row i c s).val / 4096, by have := (row i c s).isLt; omega⟩ : Fin 2) = i := Fin.ext (by simp only [row]; omega)
  have e1 : (⟨(row i c s).val / 128 % 32, by omega⟩ : Fin 32) = c := Fin.ext (by simp only [row]; omega)
  have e2 : (⟨(row i c s).val % 128, by omega⟩ : Fin 128) = s := Fin.ext (by simp only [row]; omega)
  have e3 : (⟨(col h e).val / 256, by have := (col h e).isLt; omega⟩ : Fin 4) = h := Fin.ext (by simp only [col]; omega)
  have e4 : (⟨(col h e).val % 256, by omega⟩ : Fin 256) = e := Fin.ext (by simp only [col]; omega)
  rw [e0, e1, e2, e3, e4]

/-- The contraction index of a sequence, a chunk and a column. -/
def kix (i : Fin 2) (c : Fin 32) (e : Fin 256) : dot_S4x2x32x256x128_S2x32x128x4x256_S4x128x128_123_014_4_2_0_3.contr.Idx := fun (a : Fin 3) =>
  match a with
  | ⟨0, _⟩ => i
  | ⟨1, _⟩ => c
  | ⟨2, _⟩ => e

/-- A sum over the contracted sequence, chunk and column is the triple sum. -/
theorem sum_contr (f : dot_S4x2x32x256x128_S2x32x128x4x256_S4x128x128_123_014_4_2_0_3.contr.Idx → EReal) :
    ∑ k, f k = ∑ i : Fin 2, ∑ c : Fin 32, ∑ e : Fin 256, f (kix i c e) := by
  have hb : Function.Bijective (fun p : Fin 2 × Fin 32 × Fin 256 => kix p.1 p.2.1 p.2.2) := by
    refine ⟨fun p q hpq => ?_, fun k => ⟨(k ⟨0, by decide⟩, k ⟨1, by decide⟩, k ⟨2, by decide⟩), ?_⟩⟩
    · have h0 := congrFun hpq ⟨0, by decide⟩
      have h1 := congrFun hpq ⟨1, by decide⟩
      have h2 := congrFun hpq ⟨2, by decide⟩
      exact Prod.ext h0 (Prod.ext h1 h2)
    · funext (a : Fin 3)
      match a with
      | ⟨0, _⟩ => rfl
      | ⟨1, _⟩ => rfl
      | ⟨2, _⟩ => rfl
  rw [← (Equiv.ofBijective _ hb).sum_comp f, Fintype.sum_prod_type]
  refine Finset.sum_congr rfl fun i _ => ?_
  rw [Fintype.sum_prod_type]
  rfl

/-- A sum over the indices which reduce to `(t, h)` is the triple sum. -/
theorem sum_red (x : S2x32x128x4x256.Idx → EReal) (t : Fin 128) (h : Fin 4) :
    ∑ i ∈ Finset.univ.filter (fun i => reducesTo_S2x32x128x4x256_S128x4_d0_1_4.drop i = ix2 t h), x i =
      ∑ i : Fin 2, ∑ c : Fin 32, ∑ e : Fin 256, x (ix5 i c t h e) := by
  have hd : ∀ i : S2x32x128x4x256.Idx, reducesTo_S2x32x128x4x256_S128x4_d0_1_4.drop i = ix2 (i 2) (i 3) := fun i => by
    funext a
    match a with
    | ⟨0, _⟩ => rfl
    | ⟨1, _⟩ => rfl
  have hj : Function.Injective (fun p : Fin 2 × Fin 32 × Fin 256 => (ix5 p.1 p.2.1 t h p.2.2 : S2x32x128x4x256.Idx)) :=
    fun p q hpq => Prod.ext (congrFun hpq 0) (Prod.ext (congrFun hpq 1) (congrFun hpq 4))
  have e : Finset.univ.filter (fun i : S2x32x128x4x256.Idx => reducesTo_S2x32x128x4x256_S128x4_d0_1_4.drop i = ix2 t h) =
      Finset.univ.map ⟨_, hj⟩ := by
    ext i
    simp only [Finset.mem_filter, Finset.mem_univ, true_and, Finset.mem_map, Function.Embedding.coeFn_mk, hd]
    refine ⟨fun hi => ⟨(i 0, i 1, i 4), ?_⟩, fun ⟨p, hp⟩ => by rw [← hp]; rfl⟩
    have h2 : i 2 = t := congrFun hi 0
    have h3 : i 3 = h := congrFun hi 1
    subst h2 h3
    funext a
    match a with
    | ⟨0, _⟩ => rfl
    | ⟨1, _⟩ => rfl
    | ⟨2, _⟩ => rfl
    | ⟨3, _⟩ => rfl
    | ⟨4, _⟩ => rfl
  rw [e, Finset.sum_map, Fintype.sum_prod_type]
  refine Finset.sum_congr rfl fun i _ => ?_
  rw [Fintype.sum_prod_type]
  rfl

theorem dbOnce_apply (h : Fin 4) (t : Fin 128) :
    dbOnce u g (ix2 t h) = ∑ i : Fin 2, ∑ c : Fin 32, ∑ e : Fin 256,
      u (ix2 (row i c t) (col h e)) * g (ix2 (row i c t) (col h e)) := by
  show Ideal.ofBits .f32 0x00000000#32 + ∑ i ∈ Finset.univ.filter (fun i => reducesTo_S2x32x128x4x256_S128x4_d0_1_4.drop i = ix2 t h), ug5 u g i = _
  rw [Ideal.ofBits_zero_f32, zero_add, sum_red]
  simp only [ug5_apply]

theorem rDw_apply (h : Fin 4) (t s : Fin 128) :
    rDw u v g (ix3 h t s) = Scalar.select (mask (ix2 t s)) (∑ i : Fin 2, ∑ c : Fin 32, ∑ e : Fin 256,
      (u (ix2 (row i c t) (col h e)) * g (ix2 (row i c t) (col h e))) * v (ix2 (row i c s) (col h e))) 0 := by
  pointwise [rDw]
  congr 1
  show 0 + ∑ k, _ = _
  rw [zero_add, sum_contr]
  refine Finset.sum_congr rfl fun i _ => Finset.sum_congr rfl fun c _ => Finset.sum_congr rfl fun e _ => ?_
  rw [← ug5t_apply, ← v5_apply v]
  refine congrArg₂ (· * ·) (congrArg _ ?_) (congrArg _ ?_)
  · funext a
    match a with
    | ⟨0, _⟩ => rfl
    | ⟨1, _⟩ => rfl
    | ⟨2, _⟩ => rfl
    | ⟨3, _⟩ => rfl
    | ⟨4, _⟩ => rfl
  · funext a
    match a with
    | ⟨0, _⟩ => rfl
    | ⟨1, _⟩ => rfl
    | ⟨2, _⟩ => rfl
    | ⟨3, _⟩ => rfl
    | ⟨4, _⟩ => rfl

theorem rDb_apply (h : Fin 4) (t : Fin 128) :
    rDb u g (ix2 h t) = ∑ i : Fin 2, ∑ c : Fin 32, ∑ e : Fin 256,
      u (ix2 (row i c t) (col h e)) * g (ix2 (row i c t) (col h e)) := by
  rw [← dbOnce_apply]
  have hd : ∀ i : S1x1x128x4x1.Idx, reducesTo_S1x1x128x4x1_S128x4_d0_1_4.drop i = ix2 (i 2) (i 3) := fun i => by
    funext a
    match a with
    | ⟨0, _⟩ => rfl
    | ⟨1, _⟩ => rfl
  have e : Finset.univ.filter (fun i : S1x1x128x4x1.Idx => reducesTo_S1x1x128x4x1_S128x4_d0_1_4.drop i = ix2 t h) =
      {ix5 0 0 t h 0} := by
    ext i
    simp only [Finset.mem_filter, Finset.mem_univ, true_and, Finset.mem_singleton, hd]
    refine ⟨fun hi => ?_, fun hi => by rw [hi]; rfl⟩
    have h2 : i 2 = t := congrFun hi 0
    have h3 : i 3 = h := congrFun hi 1
    subst h2 h3
    funext a
    match a with
    | ⟨0, _⟩ => exact Subsingleton.elim (α := Fin 1) _ _
    | ⟨1, _⟩ => exact Subsingleton.elim (α := Fin 1) _ _
    | ⟨2, _⟩ => rfl
    | ⟨3, _⟩ => rfl
    | ⟨4, _⟩ => exact Subsingleton.elim (α := Fin 1) _ _
  generalize hx : dbOnce u g = x
  pointwise [rDb]
  unfold Ideal.hostReduceAdd
  rw [e, Finset.sum_singleton, zero_add, hx]
  pointwise

end Cert.ReferenceIdeal.Gate
-- ==== Proof.GateValue.lean ====
module

public import proofs.«01_k».proof.Proof.GateFold
public import proofs.«01_k».proof.Proof.GateRef

/-! The gate's kernel against its reference: the arrays the host prepares, the bias gradient's column sums after the
region, and the four equations. -/

@[expose] public section

set_option maxRecDepth 16384

noncomputable section

namespace Cert.KernelIdeal.Gate

open Cert.KernelIdeal Cert.KernelIdeal.Gen Idealize.ShloMosaic Idealize.ShloMosaic.TcCoe Idealize.SL.Sem
open Idealize.ShloMosaic.Pipeline (Dat)
open Cert.ReferenceIdeal.Gate (row wTril mask rDu rDv rDw rDb rDu_apply rDv_apply rDw_apply rDb_apply)

variable (m : (ℓ : Loc nD τ sig) → Buf (Elt Ideal) ℓ)

/-- The bias over the columns of its head. -/
def biasCols (b : FVec Ideal S4x128 .f32) : FVec Ideal S128x1024 .f32 :=
  shapeCast _ (broadcastInDim S128x4x256 ![0, 1] bcast_S128x4_S128x4x256_0_1 (transpose S128x4 [1, 0] b transposes_S4x128_S128x4_1_0)) shapeCasts_S128x4x256_S128x1024

/-- What the host adds up after the region. -/
def colSums (x : FVec Ideal S128x1024 .f32) : FVec Ideal S4x128 .f32 :=
  transpose S4x128 [1, 0] (Host.reduceAdd (shapeCast S128x4x256 x shapeCasts_S128x1024_S128x4x256) (constant S_ .f32 0x00000000#32) reducesTo_S128x4x256_S128x4_d2 h_S_) transposes_S128x4_S4x128_1_0

theorem aW_eq (c : Dev nD) : aW m c = wTril (m ((c.tc : Thread nD τ).loc main_arg3)) := by
  show StableHlo.after (List.flatten [hostOps0, hostOps0_1, hostOps0_2, hostOps0_3, hostOps0_4]) (fun b => m (c, b)) (Proc.devRef .tc main_v4) = _
  simp only [hostOps0, hostOps0_1, hostOps0_2, hostOps0_3, hostOps0_4, List.flatten_cons, List.flatten_nil, List.append_nil, List.cons_append,
    List.nil_append, StableHlo.TRef.binary, StableHlo.TRef.nullary, StableHlo.TRef.ternary, StableHlo.TRef.unary, StableHlo.TRef.toBuf, StableHlo.TRef.ofBuf, cast_eq]
  after_results_simp
  rfl

theorem aB_eq (c : Dev nD) : aB m c = biasCols (m ((c.tc : Thread nD τ).loc main_arg4)) := by
  show StableHlo.after (List.flatten [hostOps0, hostOps0_1, hostOps0_2, hostOps0_3, hostOps0_4]) (fun b => m (c, b)) (Proc.devRef .tc main_v7) = _
  simp only [hostOps0, hostOps0_1, hostOps0_2, hostOps0_3, hostOps0_4, List.flatten_cons, List.flatten_nil, List.append_nil, List.cons_append,
    List.nil_append, StableHlo.TRef.binary, StableHlo.TRef.nullary, StableHlo.TRef.ternary, StableHlo.TRef.unary, StableHlo.TRef.toBuf, StableHlo.TRef.ofBuf, cast_eq]
  after_results_simp
  rfl

/-- The last result is the column sums of what the region left. -/
theorem tail_eq (c : Dev nD) :
    Pipeline.afterTail₀ cfgs (dats m) 0 (V0 m) [hostOps1] c main_v11 = colSums (gDb m c) := by
  have h : Pipeline.withArrays (cfgs 0).spec c (V0 m c) (fun w => (dats m 0 c).arrAt w cfg0.N) (Proc.devRef .tc main_v8_3) = gDb m c :=
    (Pipeline.withArrays_arr (cfgs 0).spec (by decide) c (V0 m c) (fun w => (dats m 0 c).arrAt w cfg0.N) 8).trans (final8 m c)
  unfold Pipeline.afterTail₀
  simp only [hostOps1, List.flatten_cons, List.flatten_nil, List.append_nil]
  generalize Pipeline.withArrays (cfgs 0).spec c (V0 m c) (fun w => (dats m 0 c).arrAt w cfg0.N) = W at h ⊢
  after_results_simp
  rw [h]
  rfl

theorem biasCols_apply (b : FVec Ideal S4x128 .f32) (t : Fin 128) (h : Fin 4) (e : Fin 256) :
    biasCols b (ix2 t (col h e)) = b (ix2 h t) := by
  have hk := (col h e).isLt
  have e3 : (⟨(col h e).val / 256, by omega⟩ : Fin 4) = h := Fin.ext (by simp only [col]; omega)
  pointwise [biasCols]
  rw [e3]

theorem colSums_apply (x : FVec Ideal S128x1024 .f32) (h : Fin 4) (t : Fin 128) :
    colSums x (ix2 h t) = ∑ e : Fin 256, x (ix2 t (col h e)) := by
  pointwise [colSums]
  refine Finset.sum_congr rfl fun e _ => congrArg x (congrArg₂ ix2 rfl (Fin.ext ?_))
  simp only [col]; omega

/-- The kernel's triangle is the host's. -/
theorem low_eq : ∀ t s : Fin 128, low t s = mask (ix2 t s) := by decide +kernel

theorem exists_row (r : Fin 8192) : ∃ i c t, r = row i c t :=
  ⟨⟨r.val / 4096, by omega⟩, ⟨r.val / 128 % 32, by omega⟩, ⟨r.val % 128, by omega⟩, Fin.ext (by simp only [row]; omega)⟩

theorem exists_col (k : Fin 1024) : ∃ h e, k = col h e :=
  ⟨⟨k.val / 256, by omega⟩, ⟨k.val % 256, by omega⟩, Fin.ext (by simp only [col]; omega)⟩

theorem col_eq (h : Fin 4) (e : Fin 256) : Cert.ReferenceIdeal.Gate.col h e = col h e :=
  Fin.ext (by simp only [col, Cert.ReferenceIdeal.Gate.col])

/-- Chunk `32 i + c` holds the rows `row i c`. -/
theorem chunk_apply {e : EltTy} (X : Vec Ideal S8192x1024 e) (i : Fin 2) (c : Fin 32) (t : Fin 128) (k : Fin 1024) (s : Nat)
    (hs : s = 32 * i.val + c.val) : chunk X s (ix2 t k) = X (ix2 (row i c t) k) := by
  subst hs
  exact congrArg X (congrArg₂ ix2 (Fin.ext (by show (128 * _ + t.val) % 8192 = _; simp only [row]; omega)) rfl)

theorem row_div (i : Fin 2) (c : Fin 32) (t : Fin 128) : (row i c t).val / 128 = 32 * i.val + c.val := by
  simp only [row]; omega
theorem row_mod (i : Fin 2) (c : Fin 32) (t : Fin 128) : (⟨(row i c t).val % 128, Nat.mod_lt _ (by decide)⟩ : Fin 128) = t :=
  Fin.ext (by simp only [row]; omega)

/-- A sum over the 64 chunks is a sum over sequences and their chunks. -/
theorem sum_chunks (f : Nat → EReal) :
    ∑ s ∈ Finset.range 64, f s = ∑ i : Fin 2, ∑ c : Fin 32, f (32 * i.val + c.val) := by
  rw [Fin.sum_univ_two, ← Fin.sum_univ_eq_sum_range, Fin.sum_univ_add (a := 32) (b := 32)]
  refine congrArg₂ (· + ·) (Finset.sum_congr rfl fun c _ => congrArg f ?_) (Finset.sum_congr rfl fun c _ => congrArg f ?_)
  · show c.val = 32 * 0 + c.val; omega
  · show 32 + c.val = 32 * 1 + c.val; omega

theorem gDu_eq (c : Dev nD) : gDu m c = rDu (aV m c) (aG m c) (m ((c.tc : Thread nD τ).loc main_arg3)) (m ((c.tc : Thread nD τ).loc main_arg4)) := by
  funext y
  rw [eq_ix2 y]
  obtain ⟨i, n, t, hr⟩ := exists_row (y 0)
  obtain ⟨h, e, hk⟩ := exists_col (y 1)
  rw [hr, hk, ← col_eq, rDu_apply, col_eq]
  show duBlk (chunk (aV m c) ((row i n t).val / 128)) (chunk (aG m c) ((row i n t).val / 128)) (aW m c) (aB m c)
    (ix2 ⟨(row i n t).val % 128, _⟩ (col h e)) = _
  rw [row_div, row_mod]
  show chunk (aG m c) (32 * i.val + n.val) (ix2 t (col h e)) * ((∑ s, aW m c (ix3 (hd (col h e)) t s) * chunk (aV m c) (32 * i.val + n.val) (ix2 s (col h e))) + aB m c (ix2 t (col h e))) = _
  rw [hd_col, aB_eq, biasCols_apply, aW_eq, chunk_apply _ i n t _ _ rfl]
  refine congrArg (_ * ·) (congrArg (· + _) (Finset.sum_congr rfl fun s _ => ?_))
  rw [chunk_apply _ i n s _ _ rfl]
  exact mul_comm _ _

theorem gDv_eq (c : Dev nD) : gDv m c = rDv (aU m c) (aG m c) (m ((c.tc : Thread nD τ).loc main_arg3)) := by
  funext y
  rw [eq_ix2 y]
  obtain ⟨i, n, s, hr⟩ := exists_row (y 0)
  obtain ⟨h, e, hk⟩ := exists_col (y 1)
  rw [hr, hk, ← col_eq, rDv_apply, col_eq]
  show dvBlk (chunk (aU m c) ((row i n s).val / 128)) (chunk (aG m c) ((row i n s).val / 128)) (aW m c)
    (ix2 ⟨(row i n s).val % 128, _⟩ (col h e)) = _
  rw [row_div, row_mod]
  show ∑ t, aW m c (ix3 (hd (col h e)) t s) * (chunk (aG m c) (32 * i.val + n.val) (ix2 t (col h e)) * chunk (aU m c) (32 * i.val + n.val) (ix2 t (col h e))) = _
  rw [hd_col, aW_eq]
  refine Finset.sum_congr rfl fun t _ => ?_
  rw [chunk_apply _ i n t _ _ rfl, chunk_apply _ i n t _ _ rfl, mul_comm]
  exact congrArg (· * _) (mul_comm _ _)

theorem gDw_eq (c : Dev nD) : gDw m c = rDw (aU m c) (aV m c) (aG m c) := by
  suffices hs : ∀ (h : Fin 4) (t s : Fin 128), gDw m c (ix3 h t s) = rDw (aU m c) (aV m c) (aG m c) (ix3 h t s) by
    funext y
    rw [eq_ix3 y]
    exact hs _ _ _
  intro h t s
  rw [rDw_apply]
  show ∑ n ∈ Finset.range 64, Scalar.select (low t s) (∑ e : Fin 256, (chunk (aG m c) n (ix2 t (col h e)) * chunk (aU m c) n (ix2 t (col h e))) * chunk (aV m c) n (ix2 s (col h e))) 0 = _
  rw [low_eq, sum_chunks]
  have hz : ∀ (b : BitVec 1) (f : Fin 2 → Fin 32 → EReal), ∑ i, ∑ n, Scalar.select b (f i n) 0 = Scalar.select b (∑ i, ∑ n, f i n) 0 := by
    intro b f
    unfold Scalar.select
    split
    · rfl
    · simp only [Finset.sum_const_zero]
  rw [hz]
  refine congrArg (Scalar.select _ · 0) (Finset.sum_congr rfl fun i _ => Finset.sum_congr rfl fun n _ => Finset.sum_congr rfl fun e _ => ?_)
  rw [chunk_apply _ i n t _ _ rfl, chunk_apply _ i n t _ _ rfl, chunk_apply _ i n s _ _ rfl, col_eq]
  exact congrArg (· * _) (mul_comm _ _)

theorem gDb_eq (c : Dev nD) : colSums (gDb m c) = rDb (aU m c) (aG m c) := by
  suffices hs : ∀ (h : Fin 4) (t : Fin 128), colSums (gDb m c) (ix2 h t) = rDb (aU m c) (aG m c) (ix2 h t) by
    funext y
    rw [eq_ix2 y]
    exact hs _ _
  intro h t
  rw [rDb_apply, colSums_apply]
  show ∑ e : Fin 256, ∑ n ∈ Finset.range 64, chunk (aG m c) n (ix2 t (col h e)) * chunk (aU m c) n (ix2 t (col h e)) = _
  rw [Finset.sum_comm, sum_chunks]
  refine Finset.sum_congr rfl fun i _ => Finset.sum_congr rfl fun n _ => Finset.sum_congr rfl fun e _ => ?_
  rw [chunk_apply _ i n t _ _ rfl, chunk_apply _ i n t _ _ rfl, col_eq]
  exact mul_comm _ _

/-- The kernel's run ends with the reference's four gradients. -/
theorem run (ρ : Dev nD → PrngReg) :
    θ_run defs (onTc (τ := τ) (main (F := Ideal))) ⟨m, fun _ => 0, ρ⟩ fun r => ∀ c : Dev nD,
      r.2.mem ((c.tc : Thread nD τ).loc main_v8_0) = rDu (m ((c.tc : Thread nD τ).loc main_arg1)) (m ((c.tc : Thread nD τ).loc main_arg2)) (m ((c.tc : Thread nD τ).loc main_arg3)) (m ((c.tc : Thread nD τ).loc main_arg4))
      ∧ r.2.mem ((c.tc : Thread nD τ).loc main_v8_1) = rDv (m ((c.tc : Thread nD τ).loc main_arg0)) (m ((c.tc : Thread nD τ).loc main_arg2)) (m ((c.tc : Thread nD τ).loc main_arg3))
      ∧ r.2.mem ((c.tc : Thread nD τ).loc main_v8_2) = rDw (m ((c.tc : Thread nD τ).loc main_arg0)) (m ((c.tc : Thread nD τ).loc main_arg1)) (m ((c.tc : Thread nD τ).loc main_arg2))
      ∧ r.2.mem ((c.tc : Thread nD τ).loc main_v11) = rDb (m ((c.tc : Thread nD τ).loc main_arg0)) (m ((c.tc : Thread nD τ).loc main_arg2)) :=
  (θ_run defs _ _).mono (fun _ h c => by
    have h0 : aU m c = m ((c.tc : Thread nD τ).loc main_arg0) := V_main_arg0 m c
    have h1 : aV m c = m ((c.tc : Thread nD τ).loc main_arg1) := V_main_arg1 m c
    have h2 : aG m c = m ((c.tc : Thread nD τ).loc main_arg2) := V_main_arg2 m c
    refine ⟨((h c).1 5).trans ((final5 m c).trans ?_), ((h c).1 6).trans ((final6 m c).trans ?_), ((h c).1 7).trans ((final7 m c).trans ?_),
      ((h c).2 main_v11 (Pipeline.mem_restRefs_of main_v11 (by decide) (by decide))).trans ((tail_eq m c).trans ?_)⟩
    · rw [gDu_eq, h1, h2]
    · rw [gDv_eq, h0, h2]
    · rw [gDw_eq, h0, h1, h2]
    · rw [gDb_eq, h0, h2]) (run_main m ρ)

end Cert.KernelIdeal.Gate
-- ==== Proof.GateRun.lean ====
module

public import proofs.«01_k».proof.Proof.GateRef

/-! The reference of the gate ends with its four results as `GateRef` reads them. -/

@[expose] public section

noncomputable section

namespace Cert.ReferenceIdeal.Gate

open Cert.ReferenceIdeal Cert.ReferenceIdeal.Gen Idealize.ShloMosaic Idealize.ShloMosaic.TcCoe Idealize.SL.Sem

/-- The reference's run ends with them. -/
theorem run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v31) = rDu (m ((c.tc : Thread nD τ).loc main_arg1)) (m ((c.tc : Thread nD τ).loc main_arg2)) (m ((c.tc : Thread nD τ).loc main_arg3)) (m ((c.tc : Thread nD τ).loc main_arg4))
      ∧ r.2.mem ((c.tc : Thread nD τ).loc main_v32) = rDv (m ((c.tc : Thread nD τ).loc main_arg0)) (m ((c.tc : Thread nD τ).loc main_arg2)) (m ((c.tc : Thread nD τ).loc main_arg3))
      ∧ r.2.mem ((c.tc : Thread nD τ).loc main_v29) = rDw (m ((c.tc : Thread nD τ).loc main_arg0)) (m ((c.tc : Thread nD τ).loc main_arg1)) (m ((c.tc : Thread nD τ).loc main_arg2))
      ∧ r.2.mem ((c.tc : Thread nD τ).loc main_v24) = rDb (m ((c.tc : Thread nD τ).loc main_arg0)) (m ((c.tc : Thread nD τ).loc main_arg2)) :=
  (θ_run defs _ _).mono (fun _ h c => ⟨(h c).1.trans (by unfold rDu g3 mixB v5 wTril mask; rfl), (h c).2.1.trans (by unfold rDv ug5t ug5 g3 wTril mask; rfl), (h c).2.2.1.trans (by unfold rDw ug5t ug5 g3 v5 mask; rfl), (h c).2.2.2.1.trans (by unfold rDb dbOnce ug5 g3; rfl)⟩) (Value.run m ρ)

end Cert.ReferenceIdeal.Gate
-- ==== Proof.MlpOutBwd.lean ====
module

public import proofs.«01_k».proof.Proof.Gen.Kernel2Ideal.Value
public import proofs.«01_k».proof.Proof.Gen.Reference2Ideal.Run
public import Idealize.ShloMosaic.Lib.Pipeline.Value
public import Idealize.ShloMosaic.Lib.Pipeline.ReadBack
public import Idealize.ShloMosaic.Lib.Pointwise
public import proofs.«01_k».proof.Proof.Rows

/-! The cotangent of the MLP's hidden layer before its squared ReLU: the kernel multiplies 512 rows of the output's
cotangent by the transposed weight, a column block at a time, and scales by `2 max(a, 0)`; the reference is the gradient
of the squared ReLU followed by the product. -/

@[expose] public section

set_option maxRecDepth 16384

noncomputable section

namespace Cert.Kernel2Ideal.Bwd

open Cert.Kernel2Ideal Cert.Kernel2Ideal.Gen Idealize.ShloMosaic Idealize.ShloMosaic.TcCoe Idealize.SL.Sem
open Idealize.ShloMosaic.Pipeline (Dat)

/-- Column `e` of the `q`th of eight column blocks. -/
def col (q : Fin 8) (e : Fin 512) : Fin 4096 := ⟨512 * q.val + e.val, by omega⟩

theorem col0 (e : Fin 512) : col 0 e = ⟨e.val, by omega⟩ := Fin.ext (Nat.zero_add _)
theorem col1 (e : Fin 512) : col 1 e = ⟨512 + e.val, by omega⟩ := rfl
theorem col2 (e : Fin 512) : col 2 e = ⟨1024 + e.val, by omega⟩ := rfl
theorem col3 (e : Fin 512) : col 3 e = ⟨1536 + e.val, by omega⟩ := rfl
theorem col4 (e : Fin 512) : col 4 e = ⟨2048 + e.val, by omega⟩ := rfl
theorem col5 (e : Fin 512) : col 5 e = ⟨2560 + e.val, by omega⟩ := rfl
theorem col6 (e : Fin 512) : col 6 e = ⟨3072 + e.val, by omega⟩ := rfl
theorem col7 (e : Fin 512) : col 7 e = ⟨3584 + e.val, by omega⟩ := rfl

/-- Eight stores side by side leave what each says of its own columns. -/
theorem canon_cols (G : S512x4096.Idx → Ideal .bf16) (w0 w1 w2 w3 w4 w5 w6 w7 : S512x512.Idx → Ideal .bf16)
    (L : List (View.Piece (Elt Ideal) S512x4096 .bf16))
    (h0 : ∀ (r : Fin 512) (e : Fin 512), w0 (ix2 r e) = G (ix2 r (col 0 e)))
    (h1 : ∀ (r : Fin 512) (e : Fin 512), w1 (ix2 r e) = G (ix2 r (col 1 e)))
    (h2 : ∀ (r : Fin 512) (e : Fin 512), w2 (ix2 r e) = G (ix2 r (col 2 e)))
    (h3 : ∀ (r : Fin 512) (e : Fin 512), w3 (ix2 r e) = G (ix2 r (col 3 e)))
    (h4 : ∀ (r : Fin 512) (e : Fin 512), w4 (ix2 r e) = G (ix2 r (col 4 e)))
    (h5 : ∀ (r : Fin 512) (e : Fin 512), w5 (ix2 r e) = G (ix2 r (col 5 e)))
    (h6 : ∀ (r : Fin 512) (e : Fin 512), w6 (ix2 r e) = G (ix2 r (col 6 e)))
    (h7 : ∀ (r : Fin 512) (e : Fin 512), w7 (ix2 r e) = G (ix2 r (col 7 e))) :
    View.canon ((⟨Rect.unit ![0, 3584] ![512, 512] inb_S512x4096_S512x512_0_3584, w7⟩ : View.Piece (Elt Ideal) S512x4096 .bf16) ::
      ⟨Rect.unit ![0, 3072] ![512, 512] inb_S512x4096_S512x512_0_3072, w6⟩ ::
      ⟨Rect.unit ![0, 2560] ![512, 512] inb_S512x4096_S512x512_0_2560, w5⟩ ::
      ⟨Rect.unit ![0, 2048] ![512, 512] inb_S512x4096_S512x512_0_2048, w4⟩ ::
      ⟨Rect.unit ![0, 1536] ![512, 512] inb_S512x4096_S512x512_0_1536, w3⟩ ::
      ⟨Rect.unit ![0, 1024] ![512, 512] inb_S512x4096_S512x512_0_1024, w2⟩ ::
      ⟨Rect.unit ![0, 512] ![512, 512] inb_S512x4096_S512x512_0_512, w1⟩ ::
      ⟨Rect.unit ![0, 0] ![512, 512] inb_S512x4096_S512x512_0_0, w0⟩ :: L) = G := by
  funext y
  refine View.canon_append_of_piecesOf G L [⟨Rect.unit ![0, 3584] ![512, 512] inb_S512x4096_S512x512_0_3584, w7⟩,
      ⟨Rect.unit ![0, 3072] ![512, 512] inb_S512x4096_S512x512_0_3072, w6⟩,
      ⟨Rect.unit ![0, 2560] ![512, 512] inb_S512x4096_S512x512_0_2560, w5⟩,
      ⟨Rect.unit ![0, 2048] ![512, 512] inb_S512x4096_S512x512_0_2048, w4⟩,
      ⟨Rect.unit ![0, 1536] ![512, 512] inb_S512x4096_S512x512_0_1536, w3⟩,
      ⟨Rect.unit ![0, 1024] ![512, 512] inb_S512x4096_S512x512_0_1024, w2⟩,
      ⟨Rect.unit ![0, 512] ![512, 512] inb_S512x4096_S512x512_0_512, w1⟩,
      ⟨Rect.unit ![0, 0] ![512, 512] inb_S512x4096_S512x512_0_0, w0⟩] ⟨?_, ?_, ?_, ?_, ?_, ?_, ?_, ?_, trivial⟩ y
      (View.cover_of_tiledL (s := S512x4096) _ S512x512.size (by sl_kernel_rfl) y)
  all_goals intro x; obtain ⟨r, e, rfl⟩ : ∃ (r : Fin 512) (e : Fin 512), x = ix2 r e := ⟨x 0, x 1, eq_ix2 x⟩
  · refine (h7 r e).trans (congrArg G ?_); funext a; apply Fin.ext
    match a with
    | ⟨0, _⟩ => show r.val = 0 + 1 * r.val; omega
    | ⟨1, _⟩ => show 512 * 7 + e.val = 3584 + 1 * e.val; omega
  · refine (h6 r e).trans (congrArg G ?_); funext a; apply Fin.ext
    match a with
    | ⟨0, _⟩ => show r.val = 0 + 1 * r.val; omega
    | ⟨1, _⟩ => show 512 * 6 + e.val = 3072 + 1 * e.val; omega
  · refine (h5 r e).trans (congrArg G ?_); funext a; apply Fin.ext
    match a with
    | ⟨0, _⟩ => show r.val = 0 + 1 * r.val; omega
    | ⟨1, _⟩ => show 512 * 5 + e.val = 2560 + 1 * e.val; omega
  · refine (h4 r e).trans (congrArg G ?_); funext a; apply Fin.ext
    match a with
    | ⟨0, _⟩ => show r.val = 0 + 1 * r.val; omega
    | ⟨1, _⟩ => show 512 * 4 + e.val = 2048 + 1 * e.val; omega
  · refine (h3 r e).trans (congrArg G ?_); funext a; apply Fin.ext
    match a with
    | ⟨0, _⟩ => show r.val = 0 + 1 * r.val; omega
    | ⟨1, _⟩ => show 512 * 3 + e.val = 1536 + 1 * e.val; omega
  · refine (h2 r e).trans (congrArg G ?_); funext a; apply Fin.ext
    match a with
    | ⟨0, _⟩ => show r.val = 0 + 1 * r.val; omega
    | ⟨1, _⟩ => show 512 * 2 + e.val = 1024 + 1 * e.val; omega
  · refine (h1 r e).trans (congrArg G ?_); funext a; apply Fin.ext
    match a with
    | ⟨0, _⟩ => show r.val = 0 + 1 * r.val; omega
    | ⟨1, _⟩ => show 512 * 1 + e.val = 512 + 1 * e.val; omega
  · refine (h0 r e).trans (congrArg G ?_); funext a; apply Fin.ext
    match a with
    | ⟨0, _⟩ => show r.val = 0 + 1 * r.val; omega
    | ⟨1, _⟩ => show 512 * 0 + e.val = 0 + 1 * e.val; omega

/-- The block of the hidden layer's cotangent. -/
def daBlk (x0 : Vec Ideal S512x1024 .bf16) (x1 : Vec Ideal S4096x1024 .bf16) (x2 : Vec Ideal S512x4096 .bf16) :
    Vec Ideal S512x4096 .bf16 := fun y =>
  (∑ k : Fin 1024, x0 (ix2 (y 0) k) * x1 (ix2 (y 1) k)) * (Scalar.ofBits (F := Ideal) .f32 0x40000000#32 * max (x2 y) 0)

/-- What a grid point leaves in its output block. -/
theorem out_eq (x0 : Vec Ideal S512x1024 .bf16) (x1 : Vec Ideal S4096x1024 .bf16) (x2 : Vec Ideal S512x4096 .bf16) :
    out0_3 x0 x1 x2 = daBlk x0 x1 x2 := by
  unfold out0_3
  apply canon_cols
  all_goals intro r e; pointwise [k0_pay1, k0_pay2, k0_pay3, k0_pay4, k0_pay5, k0_pay6, k0_pay7, k0_pay8, k0_pay9, k0_pay10, k0_pay11, k0_pay12, daBlk]
  all_goals simp only [col0, col1, col2, col3, col4, col5, col6, col7]

end Cert.Kernel2Ideal.Bwd

namespace Cert.Reference2Ideal.Bwd

open Cert.Reference2Ideal Cert.Reference2Ideal.Gen Idealize.ShloMosaic Idealize.ShloMosaic.TcCoe Idealize.SL.Sem

/-- The reference's cotangent of the hidden layer. -/
def rDa (g : FVec Ideal S8192x1024 .bf16) (w : FVec Ideal S4096x1024 .f32) (a : FVec Ideal S8192x4096 .bf16) : FVec Ideal S8192x4096 .bf16 :=
  truncf .bf16 (select (cmpf .ogt (extf .f32 a bitsLt_bf16_f32) (broadcastInDim S8192x4096 ![] bcast_S_S8192x4096 (constant S_ .f32 0x00000000#32))) (mulf (Host.dotGeneral dot_S8192x1024_S4096x1024_S8192x4096_1_1_0_0_n_n none (extf .f32 g bitsLt_bf16_f32) w) (mulf (broadcastInDim S8192x4096 ![] bcast_S_S8192x4096 (constant S_ .f32 0x40000000#32)) (maximumf (extf .f32 a bitsLt_bf16_f32) (broadcastInDim S8192x4096 ![] bcast_S_S8192x4096 (constant S_ .f32 0x00000000#32))))) (broadcastInDim S8192x4096 ![] bcast_S_S8192x4096 (constant S_ .f32 0x00000000#32))) bitsLt_bf16_f32

theorem rDa_apply (g : FVec Ideal S8192x1024 .bf16) (w : FVec Ideal S4096x1024 .f32) (a : FVec Ideal S8192x4096 .bf16) (i : Fin 8192) (j : Fin 4096) :
    rDa g w a (ix2 i j) = (∑ k : Fin 1024, g (ix2 i k) * w (ix2 j k)) * (Scalar.ofBits (F := Ideal) .f32 0x40000000#32 * max (a (ix2 i j)) 0) := by
  pointwise [rDa]
  split
  · rfl
  · next h => rw [max_eq_right (not_lt.mp h), mul_zero, mul_zero]

end Cert.Reference2Ideal.Bwd

namespace Cert.Kernel2Ideal.Bwd

open Cert.Kernel2Ideal Cert.Kernel2Ideal.Gen Idealize.ShloMosaic Idealize.ShloMosaic.TcCoe Idealize.SL.Sem
open Cert.Reference2Ideal.Bwd (rDa rDa_apply)

variable (m : (ℓ : Loc nD τ sig) → Buf (Elt Ideal) ℓ)

/-- The three arrays the region reads: the output's cotangents, the weight and the hidden layer before its activation. -/
abbrev aG (c : Dev nD) : Vec Ideal S8192x1024 .bf16 := V m c main_arg0
abbrev aW (c : Dev nD) : Vec Ideal S4096x1024 .bf16 := V m c main_v0
abbrev aA (c : Dev nD) : Vec Ideal S8192x4096 .bf16 := V m c main_arg2

/-- The weight is read as launched: narrowing is the identity over the extended reals. -/
theorem aW_eq (c : Dev nD) : aW m c = (m ((c.tc : Thread nD τ).loc main_arg1) : S4096x1024.Idx → EReal) := by
  show StableHlo.after hostOps0 (fun b => m (c, b)) (Proc.devRef .tc main_v0) = _
  simp only [hostOps0, StableHlo.TRef.binary, StableHlo.TRef.nullary, StableHlo.TRef.ternary, StableHlo.TRef.unary, StableHlo.TRef.toBuf, StableHlo.TRef.ofBuf, cast_eq]
  after_results_simp
  rfl

/-- The rows of chunk `s` of an array of 8192 rows. -/
def chunk {n : Nat} {e : EltTy} (X : (⟨2, ![8192, n]⟩ : Shape).Idx → Elt Ideal e) (s : Nat) : (⟨2, ![512, n]⟩ : Shape).Idx → Elt Ideal e :=
  fun y => X (ix2 ⟨(512 * s + (y 0).val) % 8192, Nat.mod_lt _ (by decide)⟩ (y 1))

theorem lt16 (t : Fin cfg0.N) : t.val < 16 := lt_of_lt_of_eq t.isLt N_0

theorem index0 : ∀ t : Fin grid0.N, win0_0.index t 0 = t.val ∧ win0_0.index t 1 = 0 := by decide +kernel
theorem index1 : ∀ t : Fin grid0.N, win0_1.index t 0 = 0 ∧ win0_1.index t 1 = 0 := by decide +kernel
theorem index2 : ∀ t : Fin grid0.N, win0_2.index t 0 = t.val ∧ win0_2.index t 1 = 0 := by decide +kernel
theorem index3 : ∀ t : Fin grid0.N, win0_3.index t 0 = t.val ∧ win0_3.index t 1 = 0 := by decide +kernel

/-- Point `t` reads chunk `t` of the cotangents, -/
theorem iblk0 (c : Dev nD) (t : Fin cfg0.N) : (iblk m c 0 t : Vec Ideal S512x1024 .bf16) = chunk (aG m c) t.val := by
  funext j
  unfold iblk
  rw [View.read_apply]
  exact congrArg (aG m c) (Rows.eq_row (index0 t).1 (index0 t).2 (by have := lt16 t; omega) rfl rfl)

/-- the whole weight, -/
theorem iblk1 (c : Dev nD) (t : Fin cfg0.N) : (iblk m c 1 t : Vec Ideal S4096x1024 .bf16) = aW m c := by
  funext j
  unfold iblk
  rw [View.read_apply]
  exact congrArg (aW m c) (Rows.eq_whole (index1 t).1 (index1 t).2 rfl rfl)

/-- and chunk `t` of the hidden layer. -/
theorem iblk2 (c : Dev nD) (t : Fin cfg0.N) : (iblk m c 2 t : Vec Ideal S512x4096 .bf16) = chunk (aA m c) t.val := by
  funext j
  unfold iblk
  rw [View.read_apply]
  exact congrArg (aA m c) (Rows.eq_row (index2 t).1 (index2 t).2 (by have := lt16 t; omega) rfl rfl)

/-- The hidden layer's cotangent. -/
def gDa (c : Dev nD) : Vec Ideal S8192x4096 .bf16 := fun i =>
  daBlk (chunk (aG m c) ((i 0).val / 512)) (aW m c) (chunk (aA m c) ((i 0).val / 512)) (ix2 ⟨(i 0).val % 512, Nat.mod_lt _ (by decide)⟩ (i 1))

/-- Point `t` writes its 512 rows of it, -/
theorem flushed3 (c : Dev nD) (t : Fin cfg0.N) :
    (dats m 0 c).flushed 3 t = ((cfg0.win 3).blk t).view.read (Elt Ideal) (gDa m c) := by
  have ht := lt16 t
  rw [Value.flushed3, out_eq, iblk0, iblk1, iblk2]
  funext j
  rw [View.read_apply]
  exact Rows.at_chunk (fun s => daBlk (chunk (aG m c) s) (aW m c) (chunk (aA m c) s)) t.val j (by decide) (index3 t).1 (index3 t).2 rfl rfl

/-- so the output ends holding it. -/
theorem final3 (c : Dev nD) : (dats m 0 c).arrAt 3 cfg0.N = gDa m c :=
  (dats m 0 c).arrAt_eq_of_cover 3 (gDa m c) (fun t _ => flushed3 m c t) ((by decide +kernel : (cfg0.win 3).Covers).cover _ (Memref.isWhole_whole _))

/-- It is the reference's. -/
theorem gDa_eq (c : Dev nD) : gDa m c = rDa (aG m c) (aW m c) (aA m c) := by
  suffices hs : ∀ (i : Fin 8192) (j : Fin 4096), gDa m c (ix2 i j) = rDa (aG m c) (aW m c) (aA m c) (ix2 i j) by
    funext y
    rw [eq_ix2 y]
    exact hs _ _
  intro i j
  rw [rDa_apply]
  have e : (⟨(512 * (i.val / 512) + i.val % 512) % 8192, Nat.mod_lt _ (by decide)⟩ : Fin 8192) = i := Fin.ext (by show _ % 8192 = i.val; omega)
  show (∑ k : Fin 1024, aG m c (ix2 ⟨(512 * (i.val / 512) + i.val % 512) % 8192, _⟩ k) * aW m c (ix2 j k)) * (_ * max (aA m c (ix2 ⟨(512 * (i.val / 512) + i.val % 512) % 8192, _⟩ j)) 0) = _
  simp only [e]

/-- The kernel's run ends with the reference's cotangent. -/
theorem run (ρ : Dev nD → PrngReg) :
    θ_run defs (onTc (τ := τ) (main (F := Ideal))) ⟨m, fun _ => 0, ρ⟩ fun r => ∀ c : Dev nD,
      r.2.mem ((c.tc : Thread nD τ).loc main_v1) = rDa (m ((c.tc : Thread nD τ).loc main_arg0)) (m ((c.tc : Thread nD τ).loc main_arg1)) (m ((c.tc : Thread nD τ).loc main_arg2)) :=
  (θ_run defs _ _).mono (fun _ h c => by
    have e : gDa m c = rDa (m ((c.tc : Thread nD τ).loc main_arg0)) (m ((c.tc : Thread nD τ).loc main_arg1)) (m ((c.tc : Thread nD τ).loc main_arg2)) := by
      rw [gDa_eq, aW_eq, show aG m c = _ from V_main_arg0 m c, show aA m c = _ from V_main_arg2 m c]
    exact (h c).1.trans ((final3 m c).trans e)) (Value.run_blocks m ρ)

end Cert.Kernel2Ideal.Bwd

namespace Cert.Reference2Ideal.Bwd

open Cert.Reference2Ideal Cert.Reference2Ideal.Gen Idealize.ShloMosaic Idealize.ShloMosaic.TcCoe Idealize.SL.Sem

/-- The reference's run ends with it. -/
theorem run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v14) = rDa (m ((c.tc : Thread nD τ).loc main_arg0)) (m ((c.tc : Thread nD τ).loc main_arg1)) (m ((c.tc : Thread nD τ).loc main_arg2)) :=
  (θ_run defs _ _).mono (fun _ h c => (h c).1.trans (by unfold rDa; rfl)) (Value.run (F := Ideal) m ρ)

end Cert.Reference2Ideal.Bwd
-- ==== Proof.MlpOutWg.lean ====
module

public import proofs.«01_k».proof.Proof.Gen.Kernel3Ideal.Value
public import proofs.«01_k».proof.Proof.Gen.Reference3Ideal.Run
public import Idealize.ShloMosaic.Lib.Pipeline.Value
public import Idealize.ShloMosaic.Lib.Pipeline.ReadBack
public import Idealize.ShloMosaic.Lib.Pipeline.ValueKit.Acc
public import Idealize.ShloMosaic.Lib.Pointwise
public import proofs.«01_k».proof.Proof.Rows

/-! The gradient of the MLP's second weight: the kernel adds, over eight blocks of 1024 rows, the products of the
transposed activations' block and the cotangent's; the sum over all 8192 rows is the reference's one product. -/

@[expose] public section

set_option maxRecDepth 16384

noncomputable section

namespace Cert.Kernel3Ideal.Wg

open Cert.Kernel3Ideal Cert.Kernel3Ideal.Gen Idealize.ShloMosaic Idealize.ShloMosaic.TcCoe Idealize.SL.Sem
open Idealize.ShloMosaic.Pipeline (Dat)

/-- The product of a block's transposed activations and its cotangents. -/
def wgBlk (a g : Vec Ideal S1024x1024 .bf16) : Vec Ideal S1024x1024 .f32 := fun y =>
  ∑ r : Fin 1024, a (ix2 r (y 0)) * g (ix2 r (y 1))

section
variable (c : Dev nD) (i : grid0.Coords) (arg3 : Memref sig .tc .vmem S1024x1024 .bf16) (harg3 : arg3.IsWhole) (arg4 : Memref sig .tc .vmem S1024x1024 .bf16) (harg4 : arg4.IsWhole) (arg5 : Memref sig .tc .vmem S1024x1024 .f32) (harg5 : arg5.IsWhole) (arg6 : Memref sig .tc .vmem S1024x1024 .bf16) (harg6 : arg6.IsWhole)
    (x0 x1 : Vec Ideal S1024x1024 .bf16) (o : Vec Ideal S1024x1024 .f32)

/-- One store of the whole block leaves what was stored. -/
theorem canon_whole {e : EltTy} (G : S1024x1024.Idx → Elt Ideal e) (w : S1024x1024.Idx → Elt Ideal e)
    (L : List (View.Piece (Elt Ideal) S1024x1024 e)) (h : ∀ r s : Fin 1024, w (ix2 r s) = G (ix2 r s)) :
    View.canon ((⟨Rect.unit ![0, 0] ![1024, 1024] inb_S1024x1024_S1024x1024_0_0, w⟩ : View.Piece (Elt Ideal) S1024x1024 e) :: L) = G := by
  funext y
  refine View.canon_append_of_piecesOf G L [⟨Rect.unit ![0, 0] ![1024, 1024] inb_S1024x1024_S1024x1024_0_0, w⟩] ⟨?_, trivial⟩ y
      (View.cover_of_tiledL (s := S1024x1024) _ S1024x1024.size (by sl_kernel_rfl) y)
  intro x
  obtain ⟨r, s, rfl⟩ : ∃ (r s : Fin 1024), x = ix2 r s := ⟨x 0, x 1, eq_ix2 x⟩
  refine (h r s).trans (congrArg G ?_); funext a; apply Fin.ext
  match a with
  | ⟨0, _⟩ => show r.val = 0 + 1 * r.val; omega
  | ⟨1, _⟩ => show s.val = 0 + 1 * s.val; omega

/-- The first point of a column block starts the sum at its product, -/
theorem out_A (hc0 : cond0_0 i) (hc1 : ¬cond0_1 i) :
    out0_A_2 c i arg3 harg3 arg4 harg4 arg5 harg5 arg6 harg6 hc0 hc1 x0 x1 = wgBlk x0 x1 := by
  unfold out0_A_2
  rw [View.read_writes_eq_canon _ _ _ (cover0_A_2 c i arg3 harg3 arg4 harg4 arg5 harg5 arg6 harg6 hc0 hc1 x0 x1)]
  unfold kernelRun0_A
  dsimp only
  sl_unfold_words
  simp (disch := decide) only [↓View.readCov_skip, ↓View.readCov_fill, View.readAt_eq_ld, harg3.read_unread, harg4.read_unread, harg5.read_unread, harg6.read_unread]
  apply canon_whole
  intro r s
  pointwise [k0_pay1, k0_pay2, wgBlk]

/-- a later one adds its own, -/
theorem out_B (hc0 : ¬cond0_0 i) (hc1 : ¬cond0_1 i) :
    out0_B_2 c i arg3 harg3 arg4 harg4 arg5 harg5 arg6 harg6 hc0 hc1 x0 x1 o = fun y => o y + wgBlk x0 x1 y := by
  unfold out0_B_2
  rw [View.read_writes_eq_canon _ _ _ (cover0_B_2 c i arg3 harg3 arg4 harg4 arg5 harg5 arg6 harg6 hc0 hc1 x0 x1 o)]
  unfold kernelRun0_B
  dsimp only
  sl_unfold_words
  simp (disch := decide) only [↓View.readCov_skip, ↓View.readCov_fill, View.readAt_eq_ld, harg3.read_unread, harg4.read_unread, harg5.read_unread, harg6.read_unread]
  apply canon_whole
  intro r s
  pointwise [k0_pay1, k0_pay2, wgBlk]

/-- and so does the last, -/
theorem out_C (hc0 : ¬cond0_0 i) (hc1 : cond0_1 i) :
    out0_C_2 c i arg3 harg3 arg4 harg4 arg5 harg5 arg6 harg6 hc0 hc1 x0 x1 o = fun y => o y + wgBlk x0 x1 y := by
  unfold out0_C_2
  rw [View.read_writes_eq_canon _ _ _ (cover0_C_2 c i arg3 harg3 arg4 harg4 arg5 harg5 arg6 harg6 hc0 hc1 x0 x1 o)]
  unfold kernelRun0_C
  dsimp only
  sl_unfold_words
  simp (disch := decide) only [↓View.readCov_skip, ↓View.readCov_fill, View.readAt_eq_ld, harg3.read_unread, harg4.read_unread, harg5.read_unread, harg6.read_unread]
  apply canon_whole
  intro r s
  pointwise [k0_pay1, k0_pay2, wgBlk]

/-- which also leaves the finished sum in the second output. -/
theorem out_C' (hc0 : ¬cond0_0 i) (hc1 : cond0_1 i) :
    out0_C_3 c i arg3 harg3 arg4 harg4 arg5 harg5 arg6 harg6 hc0 hc1 x0 x1 o = fun y => o y + wgBlk x0 x1 y := by
  unfold out0_C_3
  rw [View.read_writes_eq_canon _ _ _ (cover0_C_3 c i arg3 harg3 arg4 harg4 arg5 harg5 arg6 harg6 hc0 hc1 x0 x1 o)]
  unfold kernelRun0_C
  dsimp only
  sl_unfold_words
  simp (disch := decide) only [↓View.readCov_skip, ↓View.readCov_fill, View.readAt_eq_ld, harg3.read_unread, harg4.read_unread, harg5.read_unread, harg6.read_unread]
  apply canon_whole
  intro r s
  pointwise [k0_pay1, k0_pay2, k0_pay3, wgBlk]

end

variable (m : (ℓ : Loc nD τ sig) → Buf (Elt Ideal) ℓ)

/-- The activations and the cotangents, as the region finds them. -/
abbrev aX (c : Dev nD) : Vec Ideal S8192x4096 .bf16 := V m c main_arg0
abbrev aG (c : Dev nD) : Vec Ideal S8192x1024 .bf16 := V m c main_arg1

/-- Rows `1024 k …` of column block `i` of the activations, -/
def blkX (X : Vec Ideal S8192x4096 .bf16) (i k : Nat) : Vec Ideal S1024x1024 .bf16 := fun y =>
  X (ix2 ⟨(1024 * k + (y 0).val) % 8192, Nat.mod_lt _ (by decide)⟩ ⟨(1024 * i + (y 1).val) % 4096, Nat.mod_lt _ (by decide)⟩)

/-- and of the cotangents. -/
def blkG (X : Vec Ideal S8192x1024 .bf16) (k : Nat) : Vec Ideal S1024x1024 .bf16 := fun y =>
  X (ix2 ⟨(1024 * k + (y 0).val) % 8192, Nat.mod_lt _ (by decide)⟩ (y 1))

theorem lt32 (t : Fin cfg0.N) : t.val < 32 := lt_of_lt_of_eq t.isLt N_0

theorem index0 : ∀ t : Fin grid0.N, win0_0.index t 0 = t.val % 8 ∧ win0_0.index t 1 = t.val / 8 := by decide +kernel
theorem index1 : ∀ t : Fin grid0.N, win0_1.index t 0 = t.val % 8 ∧ win0_1.index t 1 = 0 := by decide +kernel
theorem index2 : ∀ t : Fin grid0.N, win0_2.index t 0 = t.val / 8 ∧ win0_2.index t 1 = 0 := by decide +kernel
theorem index3 : ∀ t : Fin grid0.N, win0_3.index t 0 = t.val / 8 ∧ win0_3.index t 1 = 0 := by decide +kernel

/-- What point `t` reads of the activations, -/
theorem iblk0 (c : Dev nD) (t : Fin cfg0.N) : (iblk m c 0 t : Vec Ideal S1024x1024 .bf16) = blkX (aX m c) (t.val / 8) (t.val % 8) := by
  have ht := lt32 t
  funext j
  unfold iblk
  rw [View.read_apply]
  show V m c main_arg0 _ = V m c main_arg0 _
  congr 1
  funext a
  apply Fin.ext
  have h0 : (j 0 : Nat) < 1024 := (j 0).isLt
  have h1 : (j 1 : Nat) < 1024 := (j 1).isLt
  match a with
  | ⟨0, _⟩ => show win0_0.index t 0 * 1024 + 1 * (j 0).val = (1024 * (t.val % 8) + (j 0).val) % 8192; rw [(index0 t).1]; omega
  | ⟨1, _⟩ => show win0_0.index t 1 * 1024 + 1 * (j 1).val = (1024 * (t.val / 8) + (j 1).val) % 4096; rw [(index0 t).2]; omega

/-- and of the cotangents. -/
theorem iblk1 (c : Dev nD) (t : Fin cfg0.N) : (iblk m c 1 t : Vec Ideal S1024x1024 .bf16) = blkG (aG m c) (t.val % 8) := by
  funext j
  unfold iblk
  rw [View.read_apply]
  exact congrArg (aG m c) (Rows.eq_row (index1 t).1 (index1 t).2 (by have := lt32 t; omega) rfl rfl)

/-- The sum over the first `n` row blocks for column block `i`. -/
def part (c : Dev nD) (i n : Nat) : Vec Ideal S1024x1024 .f32 := fun y =>
  ∑ k ∈ Finset.range n, wgBlk (blkX (aX m c) i k) (blkG (aG m c) k) y

/-- What the first output's block holds after point `n`: the column block's sum so far; -/
theorem outsAt_fst (c : Dev nD) : ∀ (n : ℕ) (h : n < cfg0.N), (outsAt0 m c n h).1 = part m c (n / 8) (n % 8 + 1)
  | 0, h => by
    rw [outsAt0_A m c ⟨0, h⟩ rfl (by show ¬0 % 8 = 7; decide), out_A, iblk0, iblk1]
    funext y
    simp only [part, Nat.zero_mod, Nat.zero_div, Nat.zero_add, Finset.sum_range_one]
  | n + 1, h => by
    have ht := lt32 ⟨n + 1, h⟩
    dsimp only at ht
    by_cases h0 : (n + 1) % 8 = 0
    · have h1 : ¬(n + 1) % 8 = 7 := by omega
      rw [outsAt0_A m c ⟨n + 1, h⟩ h0 h1, out_A, iblk0, iblk1]
      funext y
      simp only [part, h0, Nat.zero_add, Finset.sum_range_one]
    · have e1 : n / 8 = (n + 1) / 8 := by omega
      have e2 : n % 8 + 1 = (n + 1) % 8 := by omega
      by_cases h1 : (n + 1) % 8 = 7
      · rw [outsAt0_C m c ⟨n + 1, h⟩ h0 h1, out_C, iblk0, iblk1]
        simp only [Nat.add_sub_cancel, outsAt_fst c n (Nat.lt_of_succ_lt h), e1, e2]
        funext y
        simp only [part, Finset.sum_range_succ _ ((n + 1) % 8)]
      · rw [outsAt0_B m c ⟨n + 1, h⟩ h0 h1, out_B, iblk0, iblk1]
        simp only [Nat.add_sub_cancel, outsAt_fst c n (Nat.lt_of_succ_lt h), e1, e2]
        funext y
        simp only [part, Finset.sum_range_succ _ ((n + 1) % 8)]

/-- at a column block's last point the second output's holds the same. -/
theorem outsAt_snd (c : Dev nD) (t : Fin cfg0.N) (h1 : t.val % 8 = 7) :
    (outsAt0 m c t.val t.isLt).2 = part m c (t.val / 8) 8 := by
  have h0 : ¬t.val % 8 = 0 := by omega
  have h8 : t.val % 8 + 1 = 8 := by omega
  refine Eq.trans ?_ ((outsAt_fst m c t.val t.isLt).trans (by rw [h8]))
  rw [outsAt0_C m c t h0 h1, out_C, out_C']

/-- The gradient. -/
def gW (c : Dev nD) : Vec Ideal S4096x1024 .f32 := fun i =>
  part m c ((i 0).val / 1024) 8 (ix2 ⟨(i 0).val % 1024, Nat.mod_lt _ (by decide)⟩ (i 1))

/-- A column block's last point writes its rows of the gradient to the first output, -/
theorem flushed2 (c : Dev nD) (t : Fin cfg0.N) (hf : (cfg0.win 2).flush t = true) :
    (dats m 0 c).flushed 2 t = ((cfg0.win 2).blk t).view.read (Elt Ideal) (gW m c) := by
  have ht := lt32 t
  have h7 : t.val % 8 + 1 = 8 := by have := (flush0_2 t).mp hf; omega
  rw [Value.flushed2, outsAt_fst, h7]
  funext j
  rw [View.read_apply]
  exact Rows.at_chunk (fun s => part m c s 8) (t.val / 8) j (by decide) (index2 t).1 (index2 t).2 rfl rfl

/-- and to the second. -/
theorem flushed3 (c : Dev nD) (t : Fin cfg0.N) (hf : (cfg0.win 3).flush t = true) :
    (dats m 0 c).flushed 3 t = ((cfg0.win 3).blk t).view.read (Elt Ideal) (gW m c) := by
  have ht := lt32 t
  have h7 : t.val % 8 = 7 := (flush0_3 t).mp hf
  rw [Value.flushed3, outsAt_snd m c t h7]
  funext j
  rw [View.read_apply]
  exact Rows.at_chunk (fun s => part m c s 8) (t.val / 8) j (by decide) (index3 t).1 (index3 t).2 rfl rfl

/-- So the first output ends holding the gradient, -/
theorem final2 (c : Dev nD) : (dats m 0 c).arrAt 2 cfg0.N = gW m c :=
  (dats m 0 c).arrAt_eq_of_cover 2 (gW m c) (flushed2 m c) ((by decide +kernel : (cfg0.win 2).Covers).cover _ (Memref.isWhole_whole _))

/-- and so does the second. -/
theorem final3 (c : Dev nD) : (dats m 0 c).arrAt 3 cfg0.N = gW m c :=
  (dats m 0 c).arrAt_eq_of_cover 3 (gW m c) (flushed3 m c) ((by decide +kernel : (cfg0.win 3).Covers).cover _ (Memref.isWhole_whole _))

end Cert.Kernel3Ideal.Wg

namespace Cert.Reference3Ideal.Wg

open Cert.Reference3Ideal Cert.Reference3Ideal.Gen Idealize.ShloMosaic Idealize.ShloMosaic.TcCoe Idealize.SL.Sem

/-- The reference's gradient of the weight, from the activations and the cotangents, -/
def rW (x : FVec Ideal S8192x4096 .bf16) (g : FVec Ideal S8192x1024 .bf16) : FVec Ideal S4096x1024 .f32 :=
  transpose S4096x1024 [1, 0] (Host.dotGeneral dot_S8192x1024_S8192x4096_S1024x4096_0_0_1_1_n_n none
    (extf .f32 g bitsLt_bf16_f32) (extf .f32 x bitsLt_bf16_f32)) transposes_S1024x4096_S4096x1024_1_0

/-- one sum over all rows. -/
theorem rW_apply (x : FVec Ideal S8192x4096 .bf16) (g : FVec Ideal S8192x1024 .bf16) (i : Fin 4096) (j : Fin 1024) :
    rW x g (ix2 i j) = ∑ r : Fin 8192, g (ix2 r j) * x (ix2 r i) := by
  pointwise [rW]

/-- The reference's run ends with it, twice. -/
theorem run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v5) = rW (m ((c.tc : Thread nD τ).loc main_arg0)) (m ((c.tc : Thread nD τ).loc main_arg1))
      ∧ r.2.mem ((c.tc : Thread nD τ).loc main_v6) = rW (m ((c.tc : Thread nD τ).loc main_arg0)) (m ((c.tc : Thread nD τ).loc main_arg1)) :=
  (θ_run defs _ _).mono (fun _ h c => ⟨(h c).1.trans (by unfold rW; rfl), (h c).2.1.trans (by unfold rW; rfl)⟩) (Value.run (F := Ideal) m ρ)

end Cert.Reference3Ideal.Wg

namespace Cert.Kernel3Ideal.Wg

open Cert.Kernel3Ideal Cert.Kernel3Ideal.Gen Idealize.ShloMosaic Idealize.ShloMosaic.TcCoe Idealize.SL.Sem
open Cert.Reference3Ideal.Wg (rW rW_apply)

variable (m : (ℓ : Loc nD τ sig) → Buf (Elt Ideal) ℓ)

/-- The kernel's blocks make up the reference's sum over all rows. -/
theorem gW_eq (c : Dev nD) : gW m c = rW (aX m c) (aG m c) := by
  suffices hs : ∀ (i : Fin 4096) (j : Fin 1024), gW m c (ix2 i j) = rW (aX m c) (aG m c) (ix2 i j) by
    funext y
    rw [eq_ix2 y]
    exact hs _ _
  intro i j
  rw [rW_apply]
  show ∑ k ∈ Finset.range 8, ∑ r : Fin 1024, blkX (aX m c) (i.val / 1024) k (ix2 r ⟨i.val % 1024, _⟩) * blkG (aG m c) k (ix2 r j) = _
  rw [Finset.sum_range]
  refine Fin.sum_mul_add_congr (fun k r hl => ?_)
  rw [mul_comm]
  refine congrArg₂ (fun p q : EReal => p * q) (congrArg (aG m c) (congrArg₂ ix2 (Fin.ext ?_) rfl)) (congrArg (aX m c) (congrArg₂ ix2 (Fin.ext ?_) (Fin.ext ?_)))
  · show (1024 * k.val + r.val) % 8192 = k.val * 1024 + r.val; omega
  · show (1024 * k.val + r.val) % 8192 = k.val * 1024 + r.val; omega
  · show (1024 * (i.val / 1024) + i.val % 1024) % 4096 = i.val; omega

/-- The kernel's run ends with the reference's gradient in both outputs. -/
theorem run (ρ : Dev nD → PrngReg) :
    θ_run defs (onTc (τ := τ) (main (F := Ideal))) ⟨m, fun _ => 0, ρ⟩ fun r => ∀ c : Dev nD,
      r.2.mem ((c.tc : Thread nD τ).loc main_v0_0) = rW (m ((c.tc : Thread nD τ).loc main_arg0)) (m ((c.tc : Thread nD τ).loc main_arg1))
      ∧ r.2.mem ((c.tc : Thread nD τ).loc main_v0_1) = rW (m ((c.tc : Thread nD τ).loc main_arg0)) (m ((c.tc : Thread nD τ).loc main_arg1)) :=
  (θ_run defs _ _).mono (fun _ h c => by
    have e : gW m c = rW (m ((c.tc : Thread nD τ).loc main_arg0)) (m ((c.tc : Thread nD τ).loc main_arg1)) := by
      rw [gW_eq, show aX m c = _ from V_main_arg0 m c, show aG m c = _ from V_main_arg1 m c]
    exact ⟨(h c).1.trans ((final2 m c).trans e), (h c).2.1.trans ((final3 m c).trans e)⟩) (Value.run_blocks m ρ)

end Cert.Kernel3Ideal.Wg
-- ==== Proof.Blocks.lean ====
module

public import Idealize.ShloMosaic.Lib.Pipeline.Value
public import Idealize.ShloMosaic.Lib.Pipeline.ReadBack
public import Idealize.ShloMosaic.Lib.Pipeline.ValueKit.Geometry
public import Idealize.ShloMosaic.Lib.Pipeline.ValueKit.Acc
public import Idealize.ShloMosaic.Lib.Pointwise

/-! What stores of the blocks of an array leave, and arrays laid side by side. -/

@[expose] public section

set_option maxRecDepth 16384

noncomputable section

namespace Cert.Blocks

open Idealize.ShloMosaic

/-- A store of block `q` agrees with the array. -/
theorem piece {b n k : Nat} (G : (⟨3, ![b, n, k]⟩ : Shape).Idx → Ideal .f32) (w : (⟨3, ![1, n, k]⟩ : Shape).Idx → Ideal .f32) (q : Nat) (hq : q < b)
    (inb : ∀ a, (![q, 0, 0] : Fin 3 → Nat) a + (![1, n, k] : Fin 3 → Nat) a ≤ (![b, n, k] : Fin 3 → Nat) a)
    (h : ∀ (r : Fin n) (e : Fin k), w (ix3 0 r e) = G (ix3 ⟨q, hq⟩ r e)) (x : (⟨3, ![1, n, k]⟩ : Shape).Idx) :
    w x = G ((Rect.unit (s := ⟨3, ![b, n, k]⟩) ![q, 0, 0] ![1, n, k] inb).toLoadRect.idx x) := by
  obtain ⟨z, r, e, rfl⟩ : ∃ (z : Fin 1) (r : Fin n) (e : Fin k), x = ix3 z r e := ⟨x 0, x 1, x 2, eq_ix3 x⟩
  obtain rfl : z = 0 := Subsingleton.elim _ _
  refine (h r e).trans (congrArg G ?_); funext a; apply Fin.ext
  match a with
  | ⟨0, _⟩ => show q = q + 1 * 0; omega
  | ⟨1, _⟩ => show r.val = 0 + 1 * r.val; omega
  | ⟨2, _⟩ => show e.val = 0 + 1 * e.val; omega

/-- Block `q` holds the entries whose first coordinate is `q`. -/
theorem mem {b n k : Nat} (q : Nat) (inb : ∀ a, (![q, 0, 0] : Fin 3 → Nat) a + (![1, n, k] : Fin 3 → Nat) a ≤ (![b, n, k] : Fin 3 → Nat) a)
    (y : (⟨3, ![b, n, k]⟩ : Shape).Idx) (h : (y 0).val = q) : y ∈ (Rect.unit (s := ⟨3, ![b, n, k]⟩) ![q, 0, 0] ![1, n, k] inb).set := by
  rw [Rect.mem_set_unit]
  intro a
  match a with
  | ⟨0, _⟩ => show q ≤ (y 0).val ∧ (y 0).val < q + 1; rw [h]; omega
  | ⟨1, _⟩ => exact ⟨Nat.zero_le _, by show (y 1).val < 0 + n; have : (y 1).val < n := (y 1).isLt; omega⟩
  | ⟨2, _⟩ => exact ⟨Nat.zero_le _, by show (y 2).val < 0 + k; have : (y 2).val < k := (y 2).isLt; omega⟩

/-- Eight stores of the blocks leave what they say. -/
theorem eight {n k : Nat} (G : (⟨3, ![8, n, k]⟩ : Shape).Idx → Ideal .f32) (w0 w1 w2 w3 w4 w5 w6 w7 : (⟨3, ![1, n, k]⟩ : Shape).Idx → Ideal .f32)
    (L : List (View.Piece (Elt Ideal) ⟨3, ![8, n, k]⟩ .f32))
    (i0 : ∀ a, (![0, 0, 0] : Fin 3 → Nat) a + (![1, n, k] : Fin 3 → Nat) a ≤ (![8, n, k] : Fin 3 → Nat) a)
    (i1 : ∀ a, (![1, 0, 0] : Fin 3 → Nat) a + (![1, n, k] : Fin 3 → Nat) a ≤ (![8, n, k] : Fin 3 → Nat) a)
    (i2 : ∀ a, (![2, 0, 0] : Fin 3 → Nat) a + (![1, n, k] : Fin 3 → Nat) a ≤ (![8, n, k] : Fin 3 → Nat) a)
    (i3 : ∀ a, (![3, 0, 0] : Fin 3 → Nat) a + (![1, n, k] : Fin 3 → Nat) a ≤ (![8, n, k] : Fin 3 → Nat) a)
    (i4 : ∀ a, (![4, 0, 0] : Fin 3 → Nat) a + (![1, n, k] : Fin 3 → Nat) a ≤ (![8, n, k] : Fin 3 → Nat) a)
    (i5 : ∀ a, (![5, 0, 0] : Fin 3 → Nat) a + (![1, n, k] : Fin 3 → Nat) a ≤ (![8, n, k] : Fin 3 → Nat) a)
    (i6 : ∀ a, (![6, 0, 0] : Fin 3 → Nat) a + (![1, n, k] : Fin 3 → Nat) a ≤ (![8, n, k] : Fin 3 → Nat) a)
    (i7 : ∀ a, (![7, 0, 0] : Fin 3 → Nat) a + (![1, n, k] : Fin 3 → Nat) a ≤ (![8, n, k] : Fin 3 → Nat) a)
    (h0 : ∀ (r : Fin n) (e : Fin k), w0 (ix3 0 r e) = G (ix3 0 r e))
    (h1 : ∀ (r : Fin n) (e : Fin k), w1 (ix3 0 r e) = G (ix3 1 r e))
    (h2 : ∀ (r : Fin n) (e : Fin k), w2 (ix3 0 r e) = G (ix3 2 r e))
    (h3 : ∀ (r : Fin n) (e : Fin k), w3 (ix3 0 r e) = G (ix3 3 r e))
    (h4 : ∀ (r : Fin n) (e : Fin k), w4 (ix3 0 r e) = G (ix3 4 r e))
    (h5 : ∀ (r : Fin n) (e : Fin k), w5 (ix3 0 r e) = G (ix3 5 r e))
    (h6 : ∀ (r : Fin n) (e : Fin k), w6 (ix3 0 r e) = G (ix3 6 r e))
    (h7 : ∀ (r : Fin n) (e : Fin k), w7 (ix3 0 r e) = G (ix3 7 r e)) :
    View.canon ((⟨Rect.unit ![7, 0, 0] ![1, n, k] i7, w7⟩ : View.Piece (Elt Ideal) ⟨3, ![8, n, k]⟩ .f32) :: ⟨Rect.unit ![6, 0, 0] ![1, n, k] i6, w6⟩ :: ⟨Rect.unit ![5, 0, 0] ![1, n, k] i5, w5⟩ :: ⟨Rect.unit ![4, 0, 0] ![1, n, k] i4, w4⟩ :: ⟨Rect.unit ![3, 0, 0] ![1, n, k] i3, w3⟩ :: ⟨Rect.unit ![2, 0, 0] ![1, n, k] i2, w2⟩ :: ⟨Rect.unit ![1, 0, 0] ![1, n, k] i1, w1⟩ :: ⟨Rect.unit ![0, 0, 0] ![1, n, k] i0, w0⟩ :: L) = G := by
  funext y
  refine View.canon_append_of_piecesOf G L [⟨Rect.unit ![7, 0, 0] ![1, n, k] i7, w7⟩, ⟨Rect.unit ![6, 0, 0] ![1, n, k] i6, w6⟩, ⟨Rect.unit ![5, 0, 0] ![1, n, k] i5, w5⟩, ⟨Rect.unit ![4, 0, 0] ![1, n, k] i4, w4⟩, ⟨Rect.unit ![3, 0, 0] ![1, n, k] i3, w3⟩, ⟨Rect.unit ![2, 0, 0] ![1, n, k] i2, w2⟩, ⟨Rect.unit ![1, 0, 0] ![1, n, k] i1, w1⟩, ⟨Rect.unit ![0, 0, 0] ![1, n, k] i0, w0⟩]
    ⟨?_, ?_, ?_, ?_, ?_, ?_, ?_, ?_, trivial⟩ y ?_
  · exact piece G w7 7 (by decide) i7 h7
  · exact piece G w6 6 (by decide) i6 h6
  · exact piece G w5 5 (by decide) i5 h5
  · exact piece G w4 4 (by decide) i4 h4
  · exact piece G w3 3 (by decide) i3 h3
  · exact piece G w2 2 (by decide) i2 h2
  · exact piece G w1 1 (by decide) i1 h1
  · exact piece G w0 0 (by decide) i0 h0
  obtain ⟨q, hq⟩ : ∃ q : Fin 8, y 0 = q := ⟨y 0, rfl⟩
  fin_cases q
  · exact ⟨⟨_, w0⟩, .tail _ (.tail _ (.tail _ (.tail _ (.tail _ (.tail _ (.tail _ (.head _))))))), mem 0 i0 y (congrArg Fin.val hq)⟩
  · exact ⟨⟨_, w1⟩, .tail _ (.tail _ (.tail _ (.tail _ (.tail _ (.tail _ (.head _)))))), mem 1 i1 y (congrArg Fin.val hq)⟩
  · exact ⟨⟨_, w2⟩, .tail _ (.tail _ (.tail _ (.tail _ (.tail _ (.head _))))), mem 2 i2 y (congrArg Fin.val hq)⟩
  · exact ⟨⟨_, w3⟩, .tail _ (.tail _ (.tail _ (.tail _ (.head _)))), mem 3 i3 y (congrArg Fin.val hq)⟩
  · exact ⟨⟨_, w4⟩, .tail _ (.tail _ (.tail _ (.head _))), mem 4 i4 y (congrArg Fin.val hq)⟩
  · exact ⟨⟨_, w5⟩, .tail _ (.tail _ (.head _)), mem 5 i5 y (congrArg Fin.val hq)⟩
  · exact ⟨⟨_, w6⟩, .tail _ (.head _), mem 6 i6 y (congrArg Fin.val hq)⟩
  · exact ⟨⟨_, w7⟩, .head _, mem 7 i7 y (congrArg Fin.val hq)⟩

/-- One store of the whole array leaves what was stored. -/
theorem whole {b n k : Nat} {e : EltTy} (G w : (⟨3, ![b, n, k]⟩ : Shape).Idx → Elt Ideal e) (L : List (View.Piece (Elt Ideal) ⟨3, ![b, n, k]⟩ e))
    (inb : ∀ a, (![0, 0, 0] : Fin 3 → Nat) a + (![b, n, k] : Fin 3 → Nat) a ≤ (![b, n, k] : Fin 3 → Nat) a)
    (h : ∀ (q : Fin b) (r : Fin n) (s : Fin k), w (ix3 q r s) = G (ix3 q r s)) :
    View.canon ((⟨Rect.unit ![0, 0, 0] ![b, n, k] inb, w⟩ : View.Piece (Elt Ideal) ⟨3, ![b, n, k]⟩ e) :: L) = G := by
  funext y
  refine View.canon_append_of_piecesOf G L [⟨Rect.unit ![0, 0, 0] ![b, n, k] inb, w⟩] ⟨?_, trivial⟩ y ⟨⟨Rect.unit ![0, 0, 0] ![b, n, k] inb, w⟩, .head _, ?_⟩
  · intro x
    obtain ⟨q, r, s, rfl⟩ : ∃ (q : Fin b) (r : Fin n) (s : Fin k), x = ix3 q r s := ⟨x 0, x 1, x 2, eq_ix3 x⟩
    refine (h q r s).trans (congrArg G ?_); funext a; apply Fin.ext
    match a with
    | ⟨0, _⟩ => show q.val = 0 + 1 * q.val; omega
    | ⟨1, _⟩ => show r.val = 0 + 1 * r.val; omega
    | ⟨2, _⟩ => show s.val = 0 + 1 * s.val; omega
  · rw [Rect.mem_set_unit]
    intro a
    match a with
    | ⟨0, _⟩ => exact ⟨Nat.zero_le _, by show (y 0).val < 0 + b; have : (y 0).val < b := (y 0).isLt; omega⟩
    | ⟨1, _⟩ => exact ⟨Nat.zero_le _, by show (y 1).val < 0 + n; have : (y 1).val < n := (y 1).isLt; omega⟩
    | ⟨2, _⟩ => exact ⟨Nat.zero_le _, by show (y 2).val < 0 + k; have : (y 2).val < k := (y 2).isLt; omega⟩

/-- The same of a matrix. -/
theorem whole2 {n k : Nat} {e : EltTy} (G w : (⟨2, ![n, k]⟩ : Shape).Idx → Elt Ideal e) (L : List (View.Piece (Elt Ideal) ⟨2, ![n, k]⟩ e))
    (inb : ∀ a, (![0, 0] : Fin 2 → Nat) a + (![n, k] : Fin 2 → Nat) a ≤ (![n, k] : Fin 2 → Nat) a)
    (h : ∀ (r : Fin n) (s : Fin k), w (ix2 r s) = G (ix2 r s)) :
    View.canon ((⟨Rect.unit ![0, 0] ![n, k] inb, w⟩ : View.Piece (Elt Ideal) ⟨2, ![n, k]⟩ e) :: L) = G := by
  funext y
  refine View.canon_append_of_piecesOf G L [⟨Rect.unit ![0, 0] ![n, k] inb, w⟩] ⟨?_, trivial⟩ y ⟨⟨Rect.unit ![0, 0] ![n, k] inb, w⟩, .head _, ?_⟩
  · intro x
    obtain ⟨r, s, rfl⟩ : ∃ (r : Fin n) (s : Fin k), x = ix2 r s := ⟨x 0, x 1, eq_ix2 x⟩
    refine (h r s).trans (congrArg G ?_); funext a; apply Fin.ext
    match a with
    | ⟨0, _⟩ => show r.val = 0 + 1 * r.val; omega
    | ⟨1, _⟩ => show s.val = 0 + 1 * s.val; omega
  · rw [Rect.mem_set_unit]
    intro a
    match a with
    | ⟨0, _⟩ => exact ⟨Nat.zero_le _, by show (y 0).val < 0 + n; have : (y 0).val < n := (y 0).isLt; omega⟩
    | ⟨1, _⟩ => exact ⟨Nat.zero_le _, by show (y 1).val < 0 + k; have : (y 1).val < k := (y 1).isLt; omega⟩

/-- Column `e` of head `q`, of nine heads of 64 columns. -/
def hcol (q : Fin 9) (e : Fin 64) : Fin 576 := ⟨64 * q.val + e.val, by omega⟩

/-- A store of a head's columns agrees with the array. -/
theorem piece2 {n : Nat} (G : (⟨2, ![n, 576]⟩ : Shape).Idx → Ideal .bf16) (w : (⟨2, ![n, 64]⟩ : Shape).Idx → Ideal .bf16) (q : Fin 9) (o : Nat) (ho : 64 * q.val = o)
    (inb : ∀ a, (![0, o] : Fin 2 → Nat) a + (![n, 64] : Fin 2 → Nat) a ≤ (![n, 576] : Fin 2 → Nat) a)
    (h : ∀ (r : Fin n) (e : Fin 64), w (ix2 r e) = G (ix2 r (hcol q e))) (x : (⟨2, ![n, 64]⟩ : Shape).Idx) :
    w x = G ((Rect.unit (s := ⟨2, ![n, 576]⟩) ![0, o] ![n, 64] inb).toLoadRect.idx x) := by
  obtain ⟨r, e, rfl⟩ : ∃ (r : Fin n) (e : Fin 64), x = ix2 r e := ⟨x 0, x 1, eq_ix2 x⟩
  refine (h r e).trans (congrArg G ?_); funext a; apply Fin.ext
  match a with
  | ⟨0, _⟩ => show r.val = 0 + 1 * r.val; omega
  | ⟨1, _⟩ => show 64 * q.val + e.val = o + 1 * e.val; omega

/-- A head holds its own columns. -/
theorem mem2 {n : Nat} (o : Nat) (inb : ∀ a, (![0, o] : Fin 2 → Nat) a + (![n, 64] : Fin 2 → Nat) a ≤ (![n, 576] : Fin 2 → Nat) a)
    (y : (⟨2, ![n, 576]⟩ : Shape).Idx) (h : o ≤ (y 1).val ∧ (y 1).val < o + 64) : y ∈ (Rect.unit (s := ⟨2, ![n, 576]⟩) ![0, o] ![n, 64] inb).set := by
  rw [Rect.mem_set_unit]
  intro a
  match a with
  | ⟨0, _⟩ => exact ⟨Nat.zero_le _, by show (y 0).val < 0 + n; have : (y 0).val < n := (y 0).isLt; omega⟩
  | ⟨1, _⟩ => exact h

/-- Nine stores side by side, read back, are what each says of its own columns. -/
theorem nine {sig : RefSig} {κ : Kind} {sp : Space} {n : Nat} (v : View sig κ sp ⟨2, ![n, 576]⟩ .bf16) (G : (⟨2, ![n, 576]⟩ : Shape).Idx → Ideal .bf16)
    (w0 w1 w2 w3 w4 w5 w6 w7 w8 : (⟨2, ![n, 64]⟩ : Shape).Idx → Ideal .bf16) (L : List (View.Piece (Elt Ideal) ⟨2, ![n, 576]⟩ .bf16))
    (i0 : ∀ a, (![0, 0] : Fin 2 → Nat) a + (![n, 64] : Fin 2 → Nat) a ≤ (![n, 576] : Fin 2 → Nat) a)
    (i1 : ∀ a, (![0, 64] : Fin 2 → Nat) a + (![n, 64] : Fin 2 → Nat) a ≤ (![n, 576] : Fin 2 → Nat) a)
    (i2 : ∀ a, (![0, 128] : Fin 2 → Nat) a + (![n, 64] : Fin 2 → Nat) a ≤ (![n, 576] : Fin 2 → Nat) a)
    (i3 : ∀ a, (![0, 192] : Fin 2 → Nat) a + (![n, 64] : Fin 2 → Nat) a ≤ (![n, 576] : Fin 2 → Nat) a)
    (i4 : ∀ a, (![0, 256] : Fin 2 → Nat) a + (![n, 64] : Fin 2 → Nat) a ≤ (![n, 576] : Fin 2 → Nat) a)
    (i5 : ∀ a, (![0, 320] : Fin 2 → Nat) a + (![n, 64] : Fin 2 → Nat) a ≤ (![n, 576] : Fin 2 → Nat) a)
    (i6 : ∀ a, (![0, 384] : Fin 2 → Nat) a + (![n, 64] : Fin 2 → Nat) a ≤ (![n, 576] : Fin 2 → Nat) a)
    (i7 : ∀ a, (![0, 448] : Fin 2 → Nat) a + (![n, 64] : Fin 2 → Nat) a ≤ (![n, 576] : Fin 2 → Nat) a)
    (i8 : ∀ a, (![0, 512] : Fin 2 → Nat) a + (![n, 64] : Fin 2 → Nat) a ≤ (![n, 576] : Fin 2 → Nat) a)
    (i9 : ∀ a, (![0, 0] : Fin 2 → Nat) a + (![n, 576] : Fin 2 → Nat) a ≤ (![n, 576] : Fin 2 → Nat) a)
    (h0 : ∀ (r : Fin n) (e : Fin 64), w0 (ix2 r e) = G (ix2 r (hcol 0 e)))
    (h1 : ∀ (r : Fin n) (e : Fin 64), w1 (ix2 r e) = G (ix2 r (hcol 1 e)))
    (h2 : ∀ (r : Fin n) (e : Fin 64), w2 (ix2 r e) = G (ix2 r (hcol 2 e)))
    (h3 : ∀ (r : Fin n) (e : Fin 64), w3 (ix2 r e) = G (ix2 r (hcol 3 e)))
    (h4 : ∀ (r : Fin n) (e : Fin 64), w4 (ix2 r e) = G (ix2 r (hcol 4 e)))
    (h5 : ∀ (r : Fin n) (e : Fin 64), w5 (ix2 r e) = G (ix2 r (hcol 5 e)))
    (h6 : ∀ (r : Fin n) (e : Fin 64), w6 (ix2 r e) = G (ix2 r (hcol 6 e)))
    (h7 : ∀ (r : Fin n) (e : Fin 64), w7 (ix2 r e) = G (ix2 r (hcol 7 e)))
    (h8 : ∀ (r : Fin n) (e : Fin 64), w8 (ix2 r e) = G (ix2 r (hcol 8 e))) :
    v.readCov ((⟨Rect.unit ![0, 512] ![n, 64] i8, w8⟩ : View.Piece (Elt Ideal) ⟨2, ![n, 576]⟩ .bf16) :: ⟨Rect.unit ![0, 448] ![n, 64] i7, w7⟩ :: ⟨Rect.unit ![0, 384] ![n, 64] i6, w6⟩ :: ⟨Rect.unit ![0, 320] ![n, 64] i5, w5⟩ :: ⟨Rect.unit ![0, 256] ![n, 64] i4, w4⟩ :: ⟨Rect.unit ![0, 192] ![n, 64] i3, w3⟩ :: ⟨Rect.unit ![0, 128] ![n, 64] i2, w2⟩ :: ⟨Rect.unit ![0, 64] ![n, 64] i1, w1⟩ :: ⟨Rect.unit ![0, 0] ![n, 64] i0, w0⟩ :: L)
      (Rect.unit (s := ⟨2, ![n, 576]⟩) ![0, 0] ![n, 576] i9).toLoadRect = G := by
  rw [View.readCov_eq_canon']
  have hc : View.canon ((⟨Rect.unit ![0, 512] ![n, 64] i8, w8⟩ : View.Piece (Elt Ideal) ⟨2, ![n, 576]⟩ .bf16) :: ⟨Rect.unit ![0, 448] ![n, 64] i7, w7⟩ :: ⟨Rect.unit ![0, 384] ![n, 64] i6, w6⟩ :: ⟨Rect.unit ![0, 320] ![n, 64] i5, w5⟩ :: ⟨Rect.unit ![0, 256] ![n, 64] i4, w4⟩ :: ⟨Rect.unit ![0, 192] ![n, 64] i3, w3⟩ :: ⟨Rect.unit ![0, 128] ![n, 64] i2, w2⟩ :: ⟨Rect.unit ![0, 64] ![n, 64] i1, w1⟩ :: ⟨Rect.unit ![0, 0] ![n, 64] i0, w0⟩ :: L) = G := by
    funext y
    refine View.canon_append_of_piecesOf G L [⟨Rect.unit ![0, 512] ![n, 64] i8, w8⟩, ⟨Rect.unit ![0, 448] ![n, 64] i7, w7⟩, ⟨Rect.unit ![0, 384] ![n, 64] i6, w6⟩, ⟨Rect.unit ![0, 320] ![n, 64] i5, w5⟩, ⟨Rect.unit ![0, 256] ![n, 64] i4, w4⟩, ⟨Rect.unit ![0, 192] ![n, 64] i3, w3⟩, ⟨Rect.unit ![0, 128] ![n, 64] i2, w2⟩, ⟨Rect.unit ![0, 64] ![n, 64] i1, w1⟩, ⟨Rect.unit ![0, 0] ![n, 64] i0, w0⟩]
      ⟨?_, ?_, ?_, ?_, ?_, ?_, ?_, ?_, ?_, trivial⟩ y ?_
    · exact piece2 G w8 8 512 rfl i8 h8
    · exact piece2 G w7 7 448 rfl i7 h7
    · exact piece2 G w6 6 384 rfl i6 h6
    · exact piece2 G w5 5 320 rfl i5 h5
    · exact piece2 G w4 4 256 rfl i4 h4
    · exact piece2 G w3 3 192 rfl i3 h3
    · exact piece2 G w2 2 128 rfl i2 h2
    · exact piece2 G w1 1 64 rfl i1 h1
    · exact piece2 G w0 0 0 rfl i0 h0
    have hy : (y 1).val < 576 := (y 1).isLt
    have hd : (0 ≤ (y 1).val ∧ (y 1).val < 0 + 64) ∨ (64 ≤ (y 1).val ∧ (y 1).val < 64 + 64) ∨ (128 ≤ (y 1).val ∧ (y 1).val < 128 + 64) ∨ (192 ≤ (y 1).val ∧ (y 1).val < 192 + 64) ∨ (256 ≤ (y 1).val ∧ (y 1).val < 256 + 64) ∨ (320 ≤ (y 1).val ∧ (y 1).val < 320 + 64) ∨ (384 ≤ (y 1).val ∧ (y 1).val < 384 + 64) ∨ (448 ≤ (y 1).val ∧ (y 1).val < 448 + 64) ∨ (512 ≤ (y 1).val ∧ (y 1).val < 512 + 64) := by omega
    rcases hd with h | h | h | h | h | h | h | h | h
    · exact ⟨⟨_, w0⟩, .tail _ (.tail _ (.tail _ (.tail _ (.tail _ (.tail _ (.tail _ (.tail _ (.head _)))))))), mem2 0 i0 y h⟩
    · exact ⟨⟨_, w1⟩, .tail _ (.tail _ (.tail _ (.tail _ (.tail _ (.tail _ (.tail _ (.head _))))))), mem2 64 i1 y h⟩
    · exact ⟨⟨_, w2⟩, .tail _ (.tail _ (.tail _ (.tail _ (.tail _ (.tail _ (.head _)))))), mem2 128 i2 y h⟩
    · exact ⟨⟨_, w3⟩, .tail _ (.tail _ (.tail _ (.tail _ (.tail _ (.head _))))), mem2 192 i3 y h⟩
    · exact ⟨⟨_, w4⟩, .tail _ (.tail _ (.tail _ (.tail _ (.head _)))), mem2 256 i4 y h⟩
    · exact ⟨⟨_, w5⟩, .tail _ (.tail _ (.tail _ (.head _))), mem2 320 i5 y h⟩
    · exact ⟨⟨_, w6⟩, .tail _ (.tail _ (.head _)), mem2 384 i6 y h⟩
    · exact ⟨⟨_, w7⟩, .tail _ (.head _), mem2 448 i7 y h⟩
    · exact ⟨⟨_, w8⟩, .head _, mem2 512 i8 y h⟩
  funext x
  rw [hc]
  congr 1
  funext a
  apply Fin.ext
  match a with
  | ⟨0, _⟩ => show 0 + 1 * (x 0).val = (x 0).val; omega
  | ⟨1, _⟩ => show 0 + 1 * (x 1).val = (x 1).val; omega

/-- Entry `e` of piece `q` of arrays of `k` columns laid side by side. -/
theorem side {n k t : Nat} (xs : List ((s : Shape) × (s.Idx → EReal))) (h : Shape.Concatenates (xs.map (·.1)) ⟨2, ![n, t]⟩ 1) (r : Fin n) (j : Fin t)
    (q : Nat) (hq : q < xs.length) (x : (⟨2, ![n, k]⟩ : Shape).Idx → EReal) (hx : xs[q] = ⟨⟨2, ![n, k]⟩, x⟩) (p : Nat)
    (hp : (((xs.take q).map (·.1)).map fun s => if h : s.rank = 2 then s.size ((1 : Fin 2).cast h.symm) else 0).sum = p)
    (e : Fin k) (he : p + e.val = j.val) :
    concatenate ⟨2, ![n, t]⟩ 1 xs h (ix2 r j) = x (ix2 r e) :=
  concatenate_apply_piece 1 xs h (ix2 r j) q hq ⟨2, ![n, k]⟩ x hx rfl p hp (ix2 r e)
    (fun b hb => match b with | ⟨0, _⟩ => rfl | ⟨1, _⟩ => absurd rfl hb) he

end Cert.Blocks
-- ==== Proof.MlpInBwd.lean ====
module

public import proofs.«01_k».proof.Proof.Gen.Kernel4Ideal.Value
public import proofs.«01_k».proof.Proof.Gen.Reference4Ideal.Run
public import Idealize.ShloMosaic.Lib.Pipeline.Value
public import Idealize.ShloMosaic.Lib.Pipeline.ReadBack
public import Idealize.ShloMosaic.Lib.Pipeline.ValueKit.Acc
public import Idealize.ShloMosaic.Lib.Pointwise
public import proofs.«01_k».proof.Proof.Rows
public import proofs.«01_k».proof.Proof.Blocks

/-! The gradient through the MLP's first product and the norm before it: the kernel multiplies 512 rows of the hidden layer's
cotangent by the transposed weight in eight column blocks and takes the norm's gradient there, adding up the gain's over
the grid; the reference is the gradient of the norm followed by the product. -/

@[expose] public section

set_option maxRecDepth 16384

noncomputable section

namespace Cert.Reference4Ideal.Bwd

open Cert.Reference4Ideal Cert.Reference4Ideal.Gen Idealize.ShloMosaic Idealize.ShloMosaic.TcCoe Idealize.SL.Sem

/-- A row's mean square and the constant added to it. -/
def msq (x : Fin 1024 → EReal) : EReal :=
  Ideal.div (∑ k : Fin 1024, x k * x k) (Ideal.ofBits FTy.f32 1149239296#32) + Ideal.ofBits FTy.f32 897988541#32

/-- What the mean square's cotangent adds to each entry of a row, per unit of the entry. -/
def slope (x d : Fin 1024 → EReal) : EReal :=
  Ideal.div ((∑ k : Fin 1024, x k * d k) * (Ideal.ofBits FTy.f32 3204448256#32 * Ideal.div (Ideal.rsqrt (msq x)) (msq x))) (Ideal.ofBits FTy.f32 1149239296#32)

/-- The cotangents of the norm's result, -/
def rDh (da : FVec Ideal S8192x4096 .bf16) (w : FVec Ideal S1024x4096 .f32) : FVec Ideal S8192x1024 .f32 := Host.dotGeneral dot_S8192x4096_S1024x4096_S8192x1024_1_1_0_0_n_n none (extf .f32 da bitsLt_bf16_f32) w

/-- of the scaled rows, -/
def rDn (dh : FVec Ideal S8192x1024 .f32) (g : FVec Ideal S1024 .f32) : FVec Ideal S8192x1024 .f32 :=
  mulf dh (broadcastInDim S8192x1024 ![0, 1] bcast_S1x1024_S8192x1024_0_1 (broadcastInDim S1x1024 ![1] bcast_S1024_S1x1024_1 g))

def rMs (x : FVec Ideal S8192x1024 .f32) : FVec Ideal S8192x1 .f32 :=
  addf (Host.divf (broadcastInDim S8192x1 ![0] bcast_S8192_S8192x1_0 (Host.reduceAdd (mulf x x) (constant S_ .f32 0x00000000#32) reducesTo_S8192x1024_S8192_d1 h_S_)) (broadcastInDim S8192x1 ![] bcast_S_S8192x1 (constant S_ .f32 0x44800000#32))) (broadcastInDim S8192x1 ![] bcast_S_S8192x1 (constant S_ .f32 0x358637BD#32))

def rSl (x dn : FVec Ideal S8192x1024 .f32) : FVec Ideal S8192 .f32 :=
  Host.reduceAdd (Host.divf (mulf (shapeCast S8192x1 (Host.reduceAdd (mulf x dn) (constant S_ .f32 0x00000000#32) reducesTo_S8192x1024_S8192_d1 h_S_) shapeCasts_S8192_S8192x1) (mulf (broadcastInDim S8192x1 ![] bcast_S_S8192x1 (constant S_ .f32 0xBF000000#32)) (Host.divf (Host.rsqrt (rMs x)) (rMs x)))) (broadcastInDim S8192x1 ![] bcast_S_S8192x1 (constant S_ .f32 0x44800000#32))) (constant S_ .f32 0x00000000#32) reducesTo_S8192x1_S8192_d1 h_S_

/-- of the residual stream -/
def rDx (dr x dn : FVec Ideal S8192x1024 .f32) : FVec Ideal S8192x1024 .f32 :=
  addf (addf (addf dr (mulf dn (broadcastInDim S8192x1024 ![0, 1] bcast_S8192x1_S8192x1024_0_1 (Host.rsqrt (rMs x))))) (mulf x (broadcastInDim S8192x1024 ![0] bcast_S8192_S8192x1024_0 (rSl x dn)))) (mulf (broadcastInDim S8192x1024 ![0] bcast_S8192_S8192x1024_0 (rSl x dn)) x)

/-- and of the gain. -/
def rDg (x dh : FVec Ideal S8192x1024 .f32) : FVec Ideal S1x1024 .f32 :=
  shapeCast S1x1024 (Host.reduceAdd (shapeCast S1x1024 (Host.reduceAdd (mulf (mulf x (broadcastInDim S8192x1024 ![0, 1] bcast_S8192x1_S8192x1024_0_1 (Host.rsqrt (rMs x)))) dh) (constant S_ .f32 0x00000000#32) reducesTo_S8192x1024_S1024_d0 h_S_) shapeCasts_S1024_S1x1024) (constant S_ .f32 0x00000000#32) reducesTo_S1x1024_S1024_d0 h_S_) shapeCasts_S1024_S1x1024

theorem rDh_apply (da : FVec Ideal S8192x4096 .bf16) (w : FVec Ideal S1024x4096 .f32) (i : Fin 8192) (j : Fin 1024) :
    rDh da w (ix2 i j) = ∑ k : Fin 4096, da (ix2 i k) * w (ix2 j k) := by
  pointwise [rDh]

theorem rDn_apply (dh : FVec Ideal S8192x1024 .f32) (g : FVec Ideal S1024 .f32) (i : Fin 8192) (j : Fin 1024) :
    rDn dh g (ix2 i j) = dh (ix2 i j) * g (ix1 j) := by
  pointwise [rDn]

theorem rMs_apply (x : FVec Ideal S8192x1024 .f32) (i : Fin 8192) : rMs x (ix2 i 0) = msq (fun k => x (ix2 i k)) := by
  unfold msq
  pointwise [rMs]

theorem rSl_apply (x dn : FVec Ideal S8192x1024 .f32) (i : Fin 8192) : rSl x dn (ix1 i) = slope (fun k => x (ix2 i k)) (fun k => dn (ix2 i k)) := by
  unfold slope
  rw [← rMs_apply]
  pointwise [rSl]
  simp only [Finset.univ_unique, Finset.sum_singleton]
  rfl

theorem rDx_apply (dr x dn : FVec Ideal S8192x1024 .f32) (i : Fin 8192) (j : Fin 1024) :
    rDx dr x dn (ix2 i j) = dr (ix2 i j) + dn (ix2 i j) * Ideal.rsqrt (msq (fun k => x (ix2 i k))) + x (ix2 i j) * slope (fun k => x (ix2 i k)) (fun k => dn (ix2 i k))
      + slope (fun k => x (ix2 i k)) (fun k => dn (ix2 i k)) * x (ix2 i j) := by
  rw [← rMs_apply, ← rSl_apply]
  pointwise [rDx]

theorem rDg_apply (x dh : FVec Ideal S8192x1024 .f32) (j : Fin 1024) :
    rDg x dh (ix2 0 j) = ∑ i : Fin 8192, x (ix2 i j) * Ideal.rsqrt (msq (fun k => x (ix2 i k))) * dh (ix2 i j) := by
  simp only [← rMs_apply]
  pointwise [rDg]
  simp only [Finset.univ_unique, Finset.sum_singleton]

/-- The reference's run ends with the three. -/
theorem run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v39) = rDx (m ((c.tc : Thread nD τ).loc main_arg3)) (m ((c.tc : Thread nD τ).loc main_arg2)) (rDn (rDh (m ((c.tc : Thread nD τ).loc main_arg0)) (m ((c.tc : Thread nD τ).loc main_arg1))) (m ((c.tc : Thread nD τ).loc main_arg4))) ∧
      r.2.mem ((c.tc : Thread nD τ).loc main_v40) = rDx (m ((c.tc : Thread nD τ).loc main_arg3)) (m ((c.tc : Thread nD τ).loc main_arg2)) (rDn (rDh (m ((c.tc : Thread nD τ).loc main_arg0)) (m ((c.tc : Thread nD τ).loc main_arg1))) (m ((c.tc : Thread nD τ).loc main_arg4))) ∧
      r.2.mem ((c.tc : Thread nD τ).loc main_v41) = rDg (m ((c.tc : Thread nD τ).loc main_arg2)) (rDh (m ((c.tc : Thread nD τ).loc main_arg0)) (m ((c.tc : Thread nD τ).loc main_arg1))) :=
  (θ_run defs _ _).mono (fun _ h c => ⟨(h c).1.trans (by unfold Value.res_main_v39 rDx rSl rMs rDn rDh; rfl), (h c).2.1.trans (by unfold Value.res_main_v40 rDx rSl rMs rDn rDh; rfl),
    (h c).2.2.1.trans (by unfold rDg rMs rDh; rfl)⟩) (Value.run (F := Ideal) m ρ)

end Cert.Reference4Ideal.Bwd

namespace Cert.Kernel4Ideal.Bwd

open Cert.Kernel4Ideal Cert.Kernel4Ideal.Gen Idealize.ShloMosaic Idealize.ShloMosaic.TcCoe Idealize.SL.Sem
open Idealize.ShloMosaic.Pipeline (Dat)
open Cert.Reference4Ideal.Bwd (rDh rDn rDx rDg rDh_apply rDn_apply rDx_apply rDg_apply msq slope)

/-- Column `e` of the `q`th of eight column blocks. -/
def col (q : Fin 8) (e : Fin 512) : Fin 4096 := ⟨512 * q.val + e.val, by omega⟩

theorem col0 (e : Fin 512) : col 0 e = ⟨e.val, by omega⟩ := Fin.ext (Nat.zero_add _)
theorem col1 (e : Fin 512) : col 1 e = ⟨512 + e.val, by omega⟩ := rfl
theorem col2 (e : Fin 512) : col 2 e = ⟨1024 + e.val, by omega⟩ := rfl
theorem col3 (e : Fin 512) : col 3 e = ⟨1536 + e.val, by omega⟩ := rfl
theorem col4 (e : Fin 512) : col 4 e = ⟨2048 + e.val, by omega⟩ := rfl
theorem col5 (e : Fin 512) : col 5 e = ⟨2560 + e.val, by omega⟩ := rfl
theorem col6 (e : Fin 512) : col 6 e = ⟨3072 + e.val, by omega⟩ := rfl
theorem col7 (e : Fin 512) : col 7 e = ⟨3584 + e.val, by omega⟩ := rfl

/-- The block of the cotangent of the norm's result, by column blocks; -/
def dhBlk (x0 : Vec Ideal S512x4096 .bf16) (x1 : Vec Ideal S8x1024x512 .bf16) : Vec Ideal S512x1024 .f32 := fun y =>
  ∑ q : Fin 8, ∑ e : Fin 512, x0 (ix2 (y 0) (col q e)) * x1 (ix3 q (y 1) e)

/-- of the residual stream's; -/
def dxBlk (x0 : Vec Ideal S512x4096 .bf16) (x1 : Vec Ideal S8x1024x512 .bf16) (x2 x3 : Vec Ideal S512x1024 .f32) (x4 : Vec Ideal S1x1024 .f32) : Vec Ideal S512x1024 .f32 := fun y =>
  dhBlk x0 x1 y * x4 (ix2 0 (y 1)) * Ideal.rsqrt (msq (fun k => x2 (ix2 (y 0) k)))
    + x2 y * slope (fun k => x2 (ix2 (y 0) k)) (fun k => dhBlk x0 x1 (ix2 (y 0) k) * x4 (ix2 0 k))
    + slope (fun k => x2 (ix2 (y 0) k)) (fun k => dhBlk x0 x1 (ix2 (y 0) k) * x4 (ix2 0 k)) * x2 y + x3 y

/-- and the rows' part of the gain's. -/
def dgBlk (x0 : Vec Ideal S512x4096 .bf16) (x1 : Vec Ideal S8x1024x512 .bf16) (x2 : Vec Ideal S512x1024 .f32) : Vec Ideal S1x1024 .f32 := fun y =>
  ∑ r : Fin 512, x2 (ix2 r (y 1)) * Ideal.rsqrt (msq (fun k => x2 (ix2 r k))) * dhBlk x0 x1 (ix2 r (y 1))

theorem prod_apply (x0 : Vec Ideal S512x4096 .bf16) (x1 : Vec Ideal S8x1024x512 .bf16) (r : Fin 512) (j : Fin 1024) :
    k0_pay6 (k0_pay5 (View.ld x0 (Rect.unit (s := S512x4096) ![0, 0] ![512, 512] inb_S512x4096_S512x512_0_0)) (View.ld x1 (Rect.unit (s := S8x1024x512) ![0, 0, 0] ![1, 1024, 512] inb_S8x1024x512_S1x1024x512_0_0_0)) (View.ld x0 (Rect.unit (s := S512x4096) ![0, 512] ![512, 512] inb_S512x4096_S512x512_0_512)) (View.ld x1 (Rect.unit (s := S8x1024x512) ![1, 0, 0] ![1, 1024, 512] inb_S8x1024x512_S1x1024x512_1_0_0)) (View.ld x0 (Rect.unit (s := S512x4096) ![0, 1024] ![512, 512] inb_S512x4096_S512x512_0_1024)) (View.ld x1 (Rect.unit (s := S8x1024x512) ![2, 0, 0] ![1, 1024, 512] inb_S8x1024x512_S1x1024x512_2_0_0)) (View.ld x0 (Rect.unit (s := S512x4096) ![0, 1536] ![512, 512] inb_S512x4096_S512x512_0_1536)) (View.ld x1 (Rect.unit (s := S8x1024x512) ![3, 0, 0] ![1, 1024, 512] inb_S8x1024x512_S1x1024x512_3_0_0)) (View.ld x0 (Rect.unit (s := S512x4096) ![0, 2048] ![512, 512] inb_S512x4096_S512x512_0_2048)) (View.ld x1 (Rect.unit (s := S8x1024x512) ![4, 0, 0] ![1, 1024, 512] inb_S8x1024x512_S1x1024x512_4_0_0))) (View.ld x0 (Rect.unit (s := S512x4096) ![0, 2560] ![512, 512] inb_S512x4096_S512x512_0_2560)) (View.ld x1 (Rect.unit (s := S8x1024x512) ![5, 0, 0] ![1, 1024, 512] inb_S8x1024x512_S1x1024x512_5_0_0)) (View.ld x0 (Rect.unit (s := S512x4096) ![0, 3072] ![512, 512] inb_S512x4096_S512x512_0_3072)) (View.ld x1 (Rect.unit (s := S8x1024x512) ![6, 0, 0] ![1, 1024, 512] inb_S8x1024x512_S1x1024x512_6_0_0)) (View.ld x0 (Rect.unit (s := S512x4096) ![0, 3584] ![512, 512] inb_S512x4096_S512x512_0_3584)) (View.ld x1 (Rect.unit (s := S8x1024x512) ![7, 0, 0] ![1, 1024, 512] inb_S8x1024x512_S1x1024x512_7_0_0)) (ix2 r j) = dhBlk x0 x1 (ix2 r j) := by
  show _ = ∑ q : Fin 8, ∑ e : Fin 512, x0 (ix2 r (col q e)) * x1 (ix3 q j e)
  rw [Fin.sum_univ_eight]
  simp only [col0, col1, col2, col3, col4, col5, col6, col7]
  pointwise [k0_pay5, k0_pay6]

section
variable (c : Dev nD) (i : grid0.Coords) (arg1 : Memref sig .tc .vmem S512x4096 .bf16) (harg1 : arg1.IsWhole) (arg2 : Memref sig .tc .vmem S8x1024x512 .bf16) (harg2 : arg2.IsWhole) (arg3 : Memref sig .tc .vmem S512x1024 .f32) (harg3 : arg3.IsWhole) (arg4 : Memref sig .tc .vmem S512x1024 .f32) (harg4 : arg4.IsWhole) (arg5 : Memref sig .tc .vmem S1x1024 .f32) (harg5 : arg5.IsWhole) (arg6 : Memref sig .tc .vmem S512x1024 .f32) (harg6 : arg6.IsWhole) (arg7 : Memref sig .tc .vmem S512x1024 .bf16) (harg7 : arg7.IsWhole) (arg8 : Memref sig .tc .vmem S1x1024 .f32) (harg8 : arg8.IsWhole)
    (x0 : Vec Ideal S512x4096 .bf16) (x1 : Vec Ideal S8x1024x512 .bf16) (x2 x3 : Vec Ideal S512x1024 .f32) (x4 : Vec Ideal S1x1024 .f32) (o : Vec Ideal S1x1024 .f32)

theorem out_A5 (hc0 : cond0_0 i) :
    out0_A_5 c i arg1 harg1 arg2 harg2 arg3 harg3 arg4 harg4 arg5 harg5 arg6 harg6 arg7 harg7 arg8 harg8 hc0 x0 x1 x2 x3 x4 = dxBlk x0 x1 x2 x3 x4 := by
  unfold out0_A_5
  rw [View.read_writes_eq_canon _ _ _ (cover0_A_5 c i arg1 harg1 arg2 harg2 arg3 harg3 arg4 harg4 arg5 harg5 arg6 harg6 arg7 harg7 arg8 harg8 hc0 x0 x1 x2 x3 x4)]
  unfold kernelRun0_A
  dsimp only
  sl_unfold_words
  simp (disch := decide) only [↓View.readCov_skip, ↓View.readCov_fill, View.readAt_eq_ld, harg1.read_unread, harg2.read_unread, harg3.read_unread, harg4.read_unread, harg5.read_unread, harg6.read_unread, harg7.read_unread, harg8.read_unread]
  apply Blocks.whole2
  intro r j
  pointwise [k0_pay2, k0_pay1, k0_pay7, k0_pay8, k0_pay9, k0_pay11]
  simp only [prod_apply, Finset.univ_unique, Finset.sum_singleton]
  rfl

theorem out_A6 (hc0 : cond0_0 i) :
    out0_A_6 c i arg1 harg1 arg2 harg2 arg3 harg3 arg4 harg4 arg5 harg5 arg6 harg6 arg7 harg7 arg8 harg8 hc0 x0 x1 x2 x3 x4 = dxBlk x0 x1 x2 x3 x4 := by
  unfold out0_A_6
  rw [View.read_writes_eq_canon _ _ _ (cover0_A_6 c i arg1 harg1 arg2 harg2 arg3 harg3 arg4 harg4 arg5 harg5 arg6 harg6 arg7 harg7 arg8 harg8 hc0 x0 x1 x2 x3 x4)]
  unfold kernelRun0_A
  dsimp only
  sl_unfold_words
  simp (disch := decide) only [↓View.readCov_skip, ↓View.readCov_fill, View.readAt_eq_ld, harg1.read_unread, harg2.read_unread, harg3.read_unread, harg4.read_unread, harg5.read_unread, harg6.read_unread, harg7.read_unread, harg8.read_unread]
  apply Blocks.whole2
  intro r j
  pointwise [k0_pay2, k0_pay1, k0_pay7, k0_pay8, k0_pay9, k0_pay11]
  simp only [prod_apply, Finset.univ_unique, Finset.sum_singleton]
  rfl

theorem out_B5 (hc0 : ¬cond0_0 i) :
    out0_B_5 c i arg1 harg1 arg2 harg2 arg3 harg3 arg4 harg4 arg5 harg5 arg6 harg6 arg7 harg7 arg8 harg8 hc0 x0 x1 x2 x3 x4 o = dxBlk x0 x1 x2 x3 x4 := by
  unfold out0_B_5
  rw [View.read_writes_eq_canon _ _ _ (cover0_B_5 c i arg1 harg1 arg2 harg2 arg3 harg3 arg4 harg4 arg5 harg5 arg6 harg6 arg7 harg7 arg8 harg8 hc0 x0 x1 x2 x3 x4 o)]
  unfold kernelRun0_B
  dsimp only
  sl_unfold_words
  simp (disch := decide) only [↓View.readCov_skip, ↓View.readCov_fill, View.readAt_eq_ld, harg1.read_unread, harg2.read_unread, harg3.read_unread, harg4.read_unread, harg5.read_unread, harg6.read_unread, harg7.read_unread, harg8.read_unread]
  apply Blocks.whole2
  intro r j
  pointwise [k0_pay2, k0_pay1, k0_pay7, k0_pay8, k0_pay9, k0_pay11]
  simp only [prod_apply, Finset.univ_unique, Finset.sum_singleton]
  rfl

theorem out_B6 (hc0 : ¬cond0_0 i) :
    out0_B_6 c i arg1 harg1 arg2 harg2 arg3 harg3 arg4 harg4 arg5 harg5 arg6 harg6 arg7 harg7 arg8 harg8 hc0 x0 x1 x2 x3 x4 o = dxBlk x0 x1 x2 x3 x4 := by
  unfold out0_B_6
  rw [View.read_writes_eq_canon _ _ _ (cover0_B_6 c i arg1 harg1 arg2 harg2 arg3 harg3 arg4 harg4 arg5 harg5 arg6 harg6 arg7 harg7 arg8 harg8 hc0 x0 x1 x2 x3 x4 o)]
  unfold kernelRun0_B
  dsimp only
  sl_unfold_words
  simp (disch := decide) only [↓View.readCov_skip, ↓View.readCov_fill, View.readAt_eq_ld, harg1.read_unread, harg2.read_unread, harg3.read_unread, harg4.read_unread, harg5.read_unread, harg6.read_unread, harg7.read_unread, harg8.read_unread]
  apply Blocks.whole2
  intro r j
  pointwise [k0_pay2, k0_pay1, k0_pay7, k0_pay8, k0_pay9, k0_pay11]
  simp only [prod_apply, Finset.univ_unique, Finset.sum_singleton]
  rfl

theorem out_A7 (hc0 : cond0_0 i) :
    out0_A_7 c i arg1 harg1 arg2 harg2 arg3 harg3 arg4 harg4 arg5 harg5 arg6 harg6 arg7 harg7 arg8 harg8 hc0 x0 x1 x2 x3 x4 = dgBlk x0 x1 x2 := by
  unfold out0_A_7
  rw [View.read_writes_eq_canon _ _ _ (cover0_A_7 c i arg1 harg1 arg2 harg2 arg3 harg3 arg4 harg4 arg5 harg5 arg6 harg6 arg7 harg7 arg8 harg8 hc0 x0 x1 x2 x3 x4)]
  unfold kernelRun0_A
  dsimp only
  sl_unfold_words
  simp (disch := decide) only [↓View.readCov_skip, ↓View.readCov_fill, View.readAt_eq_ld, harg1.read_unread, harg2.read_unread, harg3.read_unread, harg4.read_unread, harg5.read_unread, harg6.read_unread, harg7.read_unread, harg8.read_unread]
  apply Blocks.whole2
  intro r j
  obtain rfl : r = 0 := Fin.ext (by omega)
  pointwise [k0_pay3, k0_pay4, k0_pay7, k0_pay8, k0_pay10]
  simp only [prod_apply]
  rfl

theorem out_B7 (hc0 : ¬cond0_0 i) :
    out0_B_7 c i arg1 harg1 arg2 harg2 arg3 harg3 arg4 harg4 arg5 harg5 arg6 harg6 arg7 harg7 arg8 harg8 hc0 x0 x1 x2 x3 x4 o = fun y => o y + dgBlk x0 x1 x2 y := by
  unfold out0_B_7
  rw [View.read_writes_eq_canon _ _ _ (cover0_B_7 c i arg1 harg1 arg2 harg2 arg3 harg3 arg4 harg4 arg5 harg5 arg6 harg6 arg7 harg7 arg8 harg8 hc0 x0 x1 x2 x3 x4 o)]
  unfold kernelRun0_B
  dsimp only
  sl_unfold_words
  simp (disch := decide) only [↓View.readCov_skip, ↓View.readCov_fill, View.readAt_eq_ld, harg1.read_unread, harg2.read_unread, harg3.read_unread, harg4.read_unread, harg5.read_unread, harg6.read_unread, harg7.read_unread, harg8.read_unread]
  apply Blocks.whole2
  intro r j
  obtain rfl : r = 0 := Fin.ext (by omega)
  pointwise [k0_pay3, k0_pay4, k0_pay7, k0_pay8, k0_pay10]
  simp only [prod_apply]
  rfl

end

variable (m : (ℓ : Loc nD τ sig) → Buf (Elt Ideal) ℓ)

/-- The five arrays the region reads: the hidden layer's cotangent, the weight in column blocks, the residual stream, its
cotangent from above and the norm's gain. -/
abbrev aDa (c : Dev nD) : Vec Ideal S8192x4096 .bf16 := V m c main_arg0
abbrev aW (c : Dev nD) : Vec Ideal S8x1024x512 .bf16 := V m c main_v2
abbrev aX (c : Dev nD) : Vec Ideal S8192x1024 .f32 := V m c main_arg2
abbrev aDr (c : Dev nD) : Vec Ideal S8192x1024 .f32 := V m c main_arg3
abbrev aG (c : Dev nD) : Vec Ideal S1x1024 .f32 := V m c main_v3

/-- The weight cut into column blocks. -/
def colBlocks (w : FVec Ideal S1024x4096 .f32) : FVec Ideal S8x1024x512 .bf16 :=
  transpose S8x1024x512 [1, 0, 2] (shapeCast S1024x8x512 (truncf .bf16 w bitsLt_bf16_f32) shapeCasts_S1024x4096_S1024x8x512) transposes_S1024x8x512_S8x1024x512_1_0_2

theorem colBlocks_apply (w : FVec Ideal S1024x4096 .f32) (q : Fin 8) (k : Fin 1024) (e : Fin 512) : colBlocks w (ix3 q k e) = w (ix2 k (col q e)) := by
  pointwise [colBlocks]
  exact congrArg w (congrArg (ix2 k) (Fin.ext (by show q.val * 512 + e.val = 512 * q.val + e.val; omega)))

/-- A vector as one row. -/
def asRow (g : FVec Ideal S1024 .f32) : FVec Ideal S1x1024 .f32 := shapeCast S1x1024 g shapeCasts_S1024_S1x1024

theorem asRow_apply (g : FVec Ideal S1024 .f32) (j : Fin 1024) : asRow g (ix2 0 j) = g (ix1 j) := by
  pointwise [asRow]

theorem aW_eq (c : Dev nD) : aW m c = colBlocks (m ((c.tc : Thread nD τ).loc main_arg1)) := by
  show StableHlo.after hostOps0 (fun b => m (c, b)) (Proc.devRef .tc main_v2) = _
  simp only [hostOps0, StableHlo.TRef.binary, StableHlo.TRef.nullary, StableHlo.TRef.ternary, StableHlo.TRef.unary, StableHlo.TRef.toBuf, StableHlo.TRef.ofBuf, cast_eq]
  after_results_simp
  rfl

theorem aG_eq (c : Dev nD) : aG m c = asRow (m ((c.tc : Thread nD τ).loc main_arg4)) := by
  show StableHlo.after hostOps0 (fun b => m (c, b)) (Proc.devRef .tc main_v3) = _
  simp only [hostOps0, StableHlo.TRef.binary, StableHlo.TRef.nullary, StableHlo.TRef.ternary, StableHlo.TRef.unary, StableHlo.TRef.toBuf, StableHlo.TRef.ofBuf, cast_eq]
  after_results_simp
  rfl

/-- The rows of chunk `s` of an array of 8192 rows. -/
def chunk {n : Nat} {e : EltTy} (X : (⟨2, ![8192, n]⟩ : Shape).Idx → Elt Ideal e) (s : Nat) : (⟨2, ![512, n]⟩ : Shape).Idx → Elt Ideal e :=
  fun y => X (ix2 ⟨(512 * s + (y 0).val) % 8192, Nat.mod_lt _ (by decide)⟩ (y 1))

theorem lt16 (t : Fin cfg0.N) : t.val < 16 := lt_of_lt_of_eq t.isLt N_0

theorem index0 : ∀ t : Fin grid0.N, win0_0.index t 0 = t.val ∧ win0_0.index t 1 = 0 := by decide +kernel
theorem index1 : ∀ t : Fin grid0.N, win0_1.index t 0 = 0 ∧ win0_1.index t 1 = 0 ∧ win0_1.index t 2 = 0 := by decide +kernel
theorem index2 : ∀ t : Fin grid0.N, win0_2.index t 0 = t.val ∧ win0_2.index t 1 = 0 := by decide +kernel
theorem index3 : ∀ t : Fin grid0.N, win0_3.index t 0 = t.val ∧ win0_3.index t 1 = 0 := by decide +kernel
theorem index4 : ∀ t : Fin grid0.N, win0_4.index t 0 = 0 ∧ win0_4.index t 1 = 0 := by decide +kernel
theorem index5 : ∀ t : Fin grid0.N, win0_5.index t 0 = t.val ∧ win0_5.index t 1 = 0 := by decide +kernel
theorem index6 : ∀ t : Fin grid0.N, win0_6.index t 0 = t.val ∧ win0_6.index t 1 = 0 := by decide +kernel
theorem index7 : ∀ t : Fin grid0.N, win0_7.index t 0 = 0 ∧ win0_7.index t 1 = 0 := by decide +kernel

/-- Point `t` reads chunk `t` of the hidden layer's cotangent, -/
theorem iblk0 (c : Dev nD) (t : Fin cfg0.N) : (iblk m c 0 t : Vec Ideal S512x4096 .bf16) = chunk (aDa m c) t.val := by
  funext j
  unfold iblk
  rw [View.read_apply]
  exact congrArg (aDa m c) (Rows.eq_row (index0 t).1 (index0 t).2 (by have := lt16 t; omega) rfl rfl)

/-- the whole weight, -/
theorem iblk1 (c : Dev nD) (t : Fin cfg0.N) : (iblk m c 1 t : Vec Ideal S8x1024x512 .bf16) = aW m c := by
  funext j
  unfold iblk
  rw [View.read_apply]
  exact congrArg (aW m c) (Rows.eq_whole3 (index1 t).1 (index1 t).2.1 (index1 t).2.2 rfl rfl rfl)

/-- chunk `t` of the stream -/
theorem iblk2 (c : Dev nD) (t : Fin cfg0.N) : (iblk m c 2 t : Vec Ideal S512x1024 .f32) = chunk (aX m c) t.val := by
  funext j
  unfold iblk
  rw [View.read_apply]
  exact congrArg (aX m c) (Rows.eq_row (index2 t).1 (index2 t).2 (by have := lt16 t; omega) rfl rfl)

/-- and of its cotangent, -/
theorem iblk3 (c : Dev nD) (t : Fin cfg0.N) : (iblk m c 3 t : Vec Ideal S512x1024 .f32) = chunk (aDr m c) t.val := by
  funext j
  unfold iblk
  rw [View.read_apply]
  exact congrArg (aDr m c) (Rows.eq_row (index3 t).1 (index3 t).2 (by have := lt16 t; omega) rfl rfl)

/-- and the gain. -/
theorem iblk4 (c : Dev nD) (t : Fin cfg0.N) : (iblk m c 4 t : Vec Ideal S1x1024 .f32) = aG m c := by
  funext j
  unfold iblk
  rw [View.read_apply]
  exact congrArg (aG m c) (Rows.eq_whole (index4 t).1 (index4 t).2 rfl rfl)

/-- Chunk `t`'s part of the stream's cotangent. -/
def dxAt (c : Dev nD) (t : Nat) : Vec Ideal S512x1024 .f32 := dxBlk (chunk (aDa m c) t) (aW m c) (chunk (aX m c) t) (chunk (aDr m c) t) (aG m c)

/-- The first `n` chunks' part of the gain's. -/
def part (c : Dev nD) (n : Nat) : Vec Ideal S1x1024 .f32 := fun y =>
  ∑ k ∈ Finset.range n, dgBlk (chunk (aDa m c) k) (aW m c) (chunk (aX m c) k) y

/-- What the first two outputs' blocks hold after point `t`, -/
theorem outsAt_dx (c : Dev nD) (t : Fin cfg0.N) : (outsAt0 m c t.val t.isLt).1 = dxAt m c t.val := by
  by_cases h0 : t.val % 16 = 0
  · rw [outsAt0_A m c t h0]
    dsimp only
    rw [out_A5, iblk0, iblk1, iblk2, iblk3, iblk4]
    rfl
  · rw [outsAt0_B m c t h0]
    dsimp only
    rw [out_B5, iblk0, iblk1, iblk2, iblk3, iblk4]
    rfl

theorem outsAt_dxb (c : Dev nD) (t : Fin cfg0.N) : (outsAt0 m c t.val t.isLt).2.1 = dxAt m c t.val := by
  by_cases h0 : t.val % 16 = 0
  · rw [outsAt0_A m c t h0]
    dsimp only
    rw [out_A6, iblk0, iblk1, iblk2, iblk3, iblk4]
    rfl
  · rw [outsAt0_B m c t h0]
    dsimp only
    rw [out_B6, iblk0, iblk1, iblk2, iblk3, iblk4]
    rfl

/-- and what the third's does: the gain's cotangent so far. -/
theorem outsAt_dg (c : Dev nD) : ∀ (n : ℕ) (h : n < cfg0.N), (outsAt0 m c n h).2.2 = part m c (n + 1)
  | 0, h => by
    rw [outsAt0_A m c ⟨0, h⟩ rfl]
    dsimp only
    rw [out_A7, iblk0, iblk1, iblk2]
    funext y
    simp only [part, Nat.zero_add, Finset.sum_range_one]
  | n + 1, h => by
    have ht := lt16 ⟨n + 1, h⟩
    dsimp only at ht
    have h0 : ¬(n + 1) % 16 = 0 := by omega
    rw [outsAt0_B m c ⟨n + 1, h⟩ h0]
    dsimp only
    rw [out_B7, iblk0, iblk1, iblk2]
    funext y
    show (outsAt0 m c n _).2.2 y + _ = _
    rw [outsAt_dg c n]
    simp only [part, Finset.sum_range_succ]

/-- The residual stream's cotangent, -/
def gX (c : Dev nD) : Vec Ideal S8192x1024 .f32 := fun i =>
  dxAt m c ((i 0).val / 512) (ix2 ⟨(i 0).val % 512, Nat.mod_lt _ (by decide)⟩ (i 1))

/-- Point `t` writes its 512 rows of it, -/
theorem flushed5 (c : Dev nD) (t : Fin cfg0.N) :
    (dats m 0 c).flushed 5 t = ((cfg0.win 5).blk t).view.read (Elt Ideal) (gX m c) := by
  have ht := lt16 t
  rw [Value.flushed5, outsAt_dx]
  funext j
  rw [View.read_apply]
  exact Rows.at_chunk (fun s => dxAt m c s) t.val j (by decide) (index5 t).1 (index5 t).2 rfl rfl

/-- so the output ends holding it. -/
theorem final5 (c : Dev nD) : (dats m 0 c).arrAt 5 cfg0.N = gX m c :=
  (dats m 0 c).arrAt_eq_of_cover 5 (gX m c) (fun t _ => flushed5 m c t) ((by decide +kernel : (cfg0.win 5).Covers).cover _ (Memref.isWhole_whole _))

/-- narrowed, -/
def gXb (c : Dev nD) : Vec Ideal S8192x1024 .bf16 := fun i =>
  dxAt m c ((i 0).val / 512) (ix2 ⟨(i 0).val % 512, Nat.mod_lt _ (by decide)⟩ (i 1))

/-- Point `t` writes its 512 rows of it, -/
theorem flushed6 (c : Dev nD) (t : Fin cfg0.N) :
    (dats m 0 c).flushed 6 t = ((cfg0.win 6).blk t).view.read (Elt Ideal) (gXb m c) := by
  have ht := lt16 t
  rw [Value.flushed6, outsAt_dxb]
  funext j
  rw [View.read_apply]
  exact Rows.at_chunk (fun s => dxAt m c s) t.val j (by decide) (index6 t).1 (index6 t).2 rfl rfl

/-- so the output ends holding it. -/
theorem final6 (c : Dev nD) : (dats m 0 c).arrAt 6 cfg0.N = gXb m c :=
  (dats m 0 c).arrAt_eq_of_cover 6 (gXb m c) (fun t _ => flushed6 m c t) ((by decide +kernel : (cfg0.win 6).Covers).cover _ (Memref.isWhole_whole _))

/-- The last point writes the gain's cotangent. -/
theorem flushed7 (c : Dev nD) (t : Fin cfg0.N) (hf : (cfg0.win 7).flush t = true) :
    (dats m 0 c).flushed 7 t = ((cfg0.win 7).blk t).view.read (Elt Ideal) (part m c 16) := by
  have ht := lt16 t
  have h15 : t.val % 16 = 15 := (flush0_7 t).mp hf
  rw [Value.flushed7, outsAt_dg, show t.val + 1 = 16 by omega]
  funext j
  rw [View.read_apply]
  have e : ((cfg0.win 7).blk t).view.emb j = (j : S1x1024.Idx) := by
    funext a
    apply Fin.ext
    match a with
    | ⟨0, _⟩ => show win0_7.index t 0 * 1 + 1 * (j 0).val = (j 0).val; rw [(index7 t).1]; omega
    | ⟨1, _⟩ => show win0_7.index t 1 * 1024 + 1 * (j 1).val = (j 1).val; rw [(index7 t).2]; omega
  rw [e]
  rfl

theorem final7 (c : Dev nD) : (dats m 0 c).arrAt 7 cfg0.N = part m c 16 :=
  (dats m 0 c).arrAt_eq_of_cover 7 (part m c 16) (flushed7 m c) ((by decide +kernel : (cfg0.win 7).Covers).cover _ (Memref.isWhole_whole _))

/-- A chunk's row of the norm's cotangent is the reference's: the eight column blocks' sums are the sum. -/
theorem dhBlk_eq (c : Dev nD) (t : Nat) (r : Fin 512) (i : Fin 8192) (hi : i.val = 512 * t + r.val) (j : Fin 1024) :
    dhBlk (chunk (aDa m c) t) (aW m c) (ix2 r j) = rDh (aDa m c) (m ((c.tc : Thread nD τ).loc main_arg1)) (ix2 i j) := by
  rw [rDh_apply, aW_eq]
  show (∑ q : Fin 8, ∑ e : Fin 512, aDa m c (ix2 ⟨(512 * t + r.val) % 8192, _⟩ (col q e)) * colBlocks _ (ix3 q j e)) = _
  refine Fin.sum_mul_add_congr (fun q e hl => ?_)
  rw [colBlocks_apply]
  refine congrArg₂ (fun p q : EReal => p * q) (congrArg (aDa m c) (congrArg₂ ix2 (Fin.ext ?_) (Fin.ext ?_))) (congrArg (m ((c.tc : Thread nD τ).loc main_arg1) : S1024x4096.Idx → EReal) (congrArg₂ ix2 rfl (Fin.ext ?_)))
  · show (512 * t + r.val) % 8192 = i.val; omega
  · show 512 * q.val + e.val = q.val * 512 + e.val; omega
  · show 512 * q.val + e.val = q.val * 512 + e.val; omega

theorem chunk_row {n : Nat} {e : EltTy} (X : (⟨2, ![8192, n]⟩ : Shape).Idx → Elt Ideal e) (t : Nat) (r : Fin 512) (i : Fin 8192) (hi : i.val = 512 * t + r.val) (k : Fin n) :
    chunk X t (ix2 r k) = X (ix2 i k) :=
  congrArg X (congrArg (fun p => (ix2 p k : (⟨2, ![8192, n]⟩ : Shape).Idx)) (Fin.ext (by show (512 * t + r.val) % 8192 = i.val; omega)))

/-- The stream's cotangent is the reference's, -/
theorem dx_eq (c : Dev nD) (i : Fin 8192) (j : Fin 1024) :
    dxAt m c (i.val / 512) (ix2 ⟨i.val % 512, Nat.mod_lt _ (by decide)⟩ j) =
      rDx (aDr m c) (aX m c) (rDn (rDh (aDa m c) (m ((c.tc : Thread nD τ).loc main_arg1))) (m ((c.tc : Thread nD τ).loc main_arg4))) (ix2 i j) := by
  have hi : i.val = 512 * (i.val / 512) + (⟨i.val % 512, Nat.mod_lt _ (by decide)⟩ : Fin 512).val := by show i.val = 512 * (i.val / 512) + i.val % 512; omega
  generalize (⟨i.val % 512, Nat.mod_lt _ (by decide)⟩ : Fin 512) = r at hi ⊢
  generalize i.val / 512 = t at hi ⊢
  rw [rDx_apply]
  simp only [rDn_apply]
  show dhBlk (chunk (aDa m c) t) (aW m c) (ix2 r j) * aG m c (ix2 0 j) * Ideal.rsqrt (msq (fun k => chunk (aX m c) t (ix2 r k)))
    + chunk (aX m c) t (ix2 r j) * slope (fun k => chunk (aX m c) t (ix2 r k)) (fun k => dhBlk (chunk (aDa m c) t) (aW m c) (ix2 r k) * aG m c (ix2 0 k))
    + slope (fun k => chunk (aX m c) t (ix2 r k)) (fun k => dhBlk (chunk (aDa m c) t) (aW m c) (ix2 r k) * aG m c (ix2 0 k)) * chunk (aX m c) t (ix2 r j)
    + chunk (aDr m c) t (ix2 r j) = _
  have eg : ∀ k, aG m c (ix2 0 k) = (m ((c.tc : Thread nD τ).loc main_arg4) : S1024.Idx → EReal) (ix1 k) := fun k => by
    rw [aG_eq]
    exact asRow_apply _ k
  simp only [chunk_row _ t r i hi, dhBlk_eq m c t r i hi, eg]
  rw [add_comm, ← add_assoc, ← add_assoc]

/-- and so is the gain's. -/
theorem dg_eq (c : Dev nD) : part m c 16 = rDg (aX m c) (rDh (aDa m c) (m ((c.tc : Thread nD τ).loc main_arg1))) := by
  suffices hs : ∀ (z : Fin 1) (j : Fin 1024), part m c 16 (ix2 z j) = rDg (aX m c) (rDh (aDa m c) (m ((c.tc : Thread nD τ).loc main_arg1))) (ix2 z j) by
    funext y
    rw [eq_ix2 y]
    exact hs _ _
  intro z j
  obtain rfl : z = 0 := Fin.ext (by omega)
  rw [rDg_apply]
  show ∑ k ∈ Finset.range 16, ∑ r : Fin 512, chunk (aX m c) k (ix2 r j) * Ideal.rsqrt (msq (fun l => chunk (aX m c) k (ix2 r l))) * dhBlk (chunk (aDa m c) k) (aW m c) (ix2 r j) = _
  rw [Finset.sum_range]
  refine Fin.sum_mul_add_congr (fun k r hl => ?_)
  have hi : (⟨k.val * 512 + r.val, hl⟩ : Fin 8192).val = 512 * k.val + r.val := by show k.val * 512 + r.val = 512 * k.val + r.val; omega
  simp only [chunk_row _ k.val r ⟨k.val * 512 + r.val, hl⟩ hi, dhBlk_eq m c k.val r ⟨k.val * 512 + r.val, hl⟩ hi]

theorem gX_eq (c : Dev nD) : gX m c = rDx (aDr m c) (aX m c) (rDn (rDh (aDa m c) (m ((c.tc : Thread nD τ).loc main_arg1))) (m ((c.tc : Thread nD τ).loc main_arg4))) := by
  suffices hs : ∀ (i : Fin 8192) (j : Fin 1024), gX m c (ix2 i j) = rDx (aDr m c) (aX m c) (rDn (rDh (aDa m c) (m ((c.tc : Thread nD τ).loc main_arg1))) (m ((c.tc : Thread nD τ).loc main_arg4))) (ix2 i j) by
    funext y
    rw [eq_ix2 y]
    exact hs _ _
  exact fun i j => dx_eq m c i j

/-- The kernel's run ends with the reference's three results. -/
theorem run (ρ : Dev nD → PrngReg) :
    θ_run defs (onTc (τ := τ) (main (F := Ideal))) ⟨m, fun _ => 0, ρ⟩ fun r => ∀ c : Dev nD,
      r.2.mem ((c.tc : Thread nD τ).loc main_v4_0) = rDx (m ((c.tc : Thread nD τ).loc main_arg3)) (m ((c.tc : Thread nD τ).loc main_arg2)) (rDn (rDh (m ((c.tc : Thread nD τ).loc main_arg0)) (m ((c.tc : Thread nD τ).loc main_arg1))) (m ((c.tc : Thread nD τ).loc main_arg4))) ∧
      r.2.mem ((c.tc : Thread nD τ).loc main_v4_1) = rDx (m ((c.tc : Thread nD τ).loc main_arg3)) (m ((c.tc : Thread nD τ).loc main_arg2)) (rDn (rDh (m ((c.tc : Thread nD τ).loc main_arg0)) (m ((c.tc : Thread nD τ).loc main_arg1))) (m ((c.tc : Thread nD τ).loc main_arg4))) ∧
      r.2.mem ((c.tc : Thread nD τ).loc main_v4_2) = rDg (m ((c.tc : Thread nD τ).loc main_arg2)) (rDh (m ((c.tc : Thread nD τ).loc main_arg0)) (m ((c.tc : Thread nD τ).loc main_arg1))) :=
  (θ_run defs _ _).mono (fun _ h c => by
    have e0 : aDa m c = _ := V_main_arg0 m c
    have e2 : aX m c = _ := V_main_arg2 m c
    have e3 : aDr m c = _ := V_main_arg3 m c
    have ex : gX m c = rDx (m ((c.tc : Thread nD τ).loc main_arg3)) (m ((c.tc : Thread nD τ).loc main_arg2)) (rDn (rDh (m ((c.tc : Thread nD τ).loc main_arg0)) (m ((c.tc : Thread nD τ).loc main_arg1))) (m ((c.tc : Thread nD τ).loc main_arg4))) := by rw [gX_eq, e0, e2, e3]
    have eg : part m c 16 = rDg (m ((c.tc : Thread nD τ).loc main_arg2)) (rDh (m ((c.tc : Thread nD τ).loc main_arg0)) (m ((c.tc : Thread nD τ).loc main_arg1))) := by rw [dg_eq, e0, e2]
    exact ⟨(h c).1.trans ((final5 m c).trans ex), (h c).2.1.trans ((final6 m c).trans ex), (h c).2.2.1.trans ((final7 m c).trans eg)⟩) (Value.run_blocks m ρ)

end Cert.Kernel4Ideal.Bwd
-- ==== Proof.MlpInWg.lean ====
module

public import proofs.«01_k».proof.Proof.Gen.Kernel5Ideal.Value
public import proofs.«01_k».proof.Proof.Gen.Reference5Ideal.Run
public import Idealize.ShloMosaic.Lib.Pipeline.Value
public import Idealize.ShloMosaic.Lib.Pipeline.ReadBack
public import Idealize.ShloMosaic.Lib.Pipeline.ValueKit.Acc
public import Idealize.ShloMosaic.Lib.Pointwise
public import proofs.«01_k».proof.Proof.Rows

/-! The gradient of the MLP's first weight, by column blocks: the kernel adds, over eight blocks of 1024 rows, the
products of the transposed input's block and four column blocks of the cotangent; the sum over all 8192 rows is the
reference's one product. -/

@[expose] public section

set_option maxRecDepth 16384

noncomputable section

namespace Cert.Kernel5Ideal.Wg

open Cert.Kernel5Ideal Cert.Kernel5Ideal.Gen Idealize.ShloMosaic Idealize.ShloMosaic.TcCoe Idealize.SL.Sem
open Idealize.ShloMosaic.Pipeline (Dat)

/-- Column `e` of block `q` among a point's four. -/
def col (q : Fin 4) (e : Fin 512) : Fin 2048 := ⟨512 * q.val + e.val, by omega⟩

theorem col0 (e : Fin 512) : col 0 e = ⟨e.val, by omega⟩ := Fin.ext (Nat.zero_add _)
theorem col1 (e : Fin 512) : col 1 e = ⟨512 + e.val, by omega⟩ := rfl
theorem col2 (e : Fin 512) : col 2 e = ⟨1024 + e.val, by omega⟩ := rfl
theorem col3 (e : Fin 512) : col 3 e = ⟨1536 + e.val, by omega⟩ := rfl

/-- The products of a block's transposed input and its cotangents' four column blocks. -/
def wgBlk (a : Vec Ideal S1024x1024 .bf16) (g : Vec Ideal S1024x2048 .bf16) : Vec Ideal S4x1024x512 .f32 := fun y =>
  ∑ r : Fin 1024, a (ix2 r (y 1)) * g (ix2 r (col (y 0) (y 2)))

/-- Four stores one behind the other leave what each says of its own column block. -/
theorem canon_four (G : S4x1024x512.Idx → Ideal .f32) (w0 w1 w2 w3 : S1x1024x512.Idx → Ideal .f32)
    (L : List (View.Piece (Elt Ideal) S4x1024x512 .f32))
    (h0 : ∀ (r : Fin 1024) (e : Fin 512), w0 (ix3 0 r e) = G (ix3 0 r e))
    (h1 : ∀ (r : Fin 1024) (e : Fin 512), w1 (ix3 0 r e) = G (ix3 1 r e))
    (h2 : ∀ (r : Fin 1024) (e : Fin 512), w2 (ix3 0 r e) = G (ix3 2 r e))
    (h3 : ∀ (r : Fin 1024) (e : Fin 512), w3 (ix3 0 r e) = G (ix3 3 r e)) :
    View.canon ((⟨Rect.unit ![3, 0, 0] ![1, 1024, 512] inb_S4x1024x512_S1x1024x512_3_0_0, w3⟩ : View.Piece (Elt Ideal) S4x1024x512 .f32) ::
      ⟨Rect.unit ![2, 0, 0] ![1, 1024, 512] inb_S4x1024x512_S1x1024x512_2_0_0, w2⟩ ::
      ⟨Rect.unit ![1, 0, 0] ![1, 1024, 512] inb_S4x1024x512_S1x1024x512_1_0_0, w1⟩ ::
      ⟨Rect.unit ![0, 0, 0] ![1, 1024, 512] inb_S4x1024x512_S1x1024x512_0_0_0, w0⟩ :: L) = G := by
  funext y
  refine View.canon_append_of_piecesOf G L [⟨Rect.unit ![3, 0, 0] ![1, 1024, 512] inb_S4x1024x512_S1x1024x512_3_0_0, w3⟩,
      ⟨Rect.unit ![2, 0, 0] ![1, 1024, 512] inb_S4x1024x512_S1x1024x512_2_0_0, w2⟩,
      ⟨Rect.unit ![1, 0, 0] ![1, 1024, 512] inb_S4x1024x512_S1x1024x512_1_0_0, w1⟩,
      ⟨Rect.unit ![0, 0, 0] ![1, 1024, 512] inb_S4x1024x512_S1x1024x512_0_0_0, w0⟩] ⟨?_, ?_, ?_, ?_, trivial⟩ y
      (View.cover_of_tiledL (s := S4x1024x512) _ S1x1024x512.size (by sl_kernel_rfl) y)
  all_goals intro x; obtain ⟨z, r, e, rfl⟩ : ∃ (z : Fin 1) (r : Fin 1024) (e : Fin 512), x = ix3 z r e := ⟨x 0, x 1, x 2, eq_ix3 x⟩; obtain rfl : z = 0 := Subsingleton.elim _ _
  · refine (h3 r e).trans (congrArg G ?_); funext a; apply Fin.ext
    match a with
    | ⟨0, _⟩ => show 3 = 3 + 1 * 0; omega
    | ⟨1, _⟩ => show r.val = 0 + 1 * r.val; omega
    | ⟨2, _⟩ => show e.val = 0 + 1 * e.val; omega
  · refine (h2 r e).trans (congrArg G ?_); funext a; apply Fin.ext
    match a with
    | ⟨0, _⟩ => show 2 = 2 + 1 * 0; omega
    | ⟨1, _⟩ => show r.val = 0 + 1 * r.val; omega
    | ⟨2, _⟩ => show e.val = 0 + 1 * e.val; omega
  · refine (h1 r e).trans (congrArg G ?_); funext a; apply Fin.ext
    match a with
    | ⟨0, _⟩ => show 1 = 1 + 1 * 0; omega
    | ⟨1, _⟩ => show r.val = 0 + 1 * r.val; omega
    | ⟨2, _⟩ => show e.val = 0 + 1 * e.val; omega
  · refine (h0 r e).trans (congrArg G ?_); funext a; apply Fin.ext
    match a with
    | ⟨0, _⟩ => show 0 = 0 + 1 * 0; omega
    | ⟨1, _⟩ => show r.val = 0 + 1 * r.val; omega
    | ⟨2, _⟩ => show e.val = 0 + 1 * e.val; omega

/-- One store of the whole block leaves what was stored. -/
theorem canon_whole {e : EltTy} (G w : S4x1024x512.Idx → Elt Ideal e) (L : List (View.Piece (Elt Ideal) S4x1024x512 e))
    (h : ∀ (q : Fin 4) (r : Fin 1024) (s : Fin 512), w (ix3 q r s) = G (ix3 q r s)) :
    View.canon ((⟨Rect.unit ![0, 0, 0] ![4, 1024, 512] inb_S4x1024x512_S4x1024x512_0_0_0, w⟩ : View.Piece (Elt Ideal) S4x1024x512 e) :: L) = G := by
  funext y
  refine View.canon_append_of_piecesOf G L [⟨Rect.unit ![0, 0, 0] ![4, 1024, 512] inb_S4x1024x512_S4x1024x512_0_0_0, w⟩] ⟨?_, trivial⟩ y
      (View.cover_of_tiledL (s := S4x1024x512) _ S4x1024x512.size (by sl_kernel_rfl) y)
  intro x
  obtain ⟨q, r, s, rfl⟩ : ∃ (q : Fin 4) (r : Fin 1024) (s : Fin 512), x = ix3 q r s := ⟨x 0, x 1, x 2, eq_ix3 x⟩
  refine (h q r s).trans (congrArg G ?_); funext a; apply Fin.ext
  match a with
  | ⟨0, _⟩ => show q.val = 0 + 1 * q.val; omega
  | ⟨1, _⟩ => show r.val = 0 + 1 * r.val; omega
  | ⟨2, _⟩ => show s.val = 0 + 1 * s.val; omega

section
variable (c : Dev nD) (i : grid0.Coords) (arg3 : Memref sig .tc .vmem S1024x1024 .bf16) (harg3 : arg3.IsWhole) (arg4 : Memref sig .tc .vmem S1024x2048 .bf16) (harg4 : arg4.IsWhole) (arg5 : Memref sig .tc .vmem S4x1024x512 .f32) (harg5 : arg5.IsWhole) (arg6 : Memref sig .tc .vmem S4x1024x512 .bf16) (harg6 : arg6.IsWhole)
    (x0 : Vec Ideal S1024x1024 .bf16) (x1 : Vec Ideal S1024x2048 .bf16) (o : Vec Ideal S4x1024x512 .f32)

/-- The first point of a column block starts the sums at its products, -/
theorem out_A (hc0 : cond0_0 i) (hc1 : ¬cond0_1 i) :
    out0_A_2 c i arg3 harg3 arg4 harg4 arg5 harg5 arg6 harg6 hc0 hc1 x0 x1 = wgBlk x0 x1 := by
  unfold out0_A_2
  rw [View.read_writes_eq_canon _ _ _ (cover0_A_2 c i arg3 harg3 arg4 harg4 arg5 harg5 arg6 harg6 hc0 hc1 x0 x1)]
  unfold kernelRun0_A
  dsimp only
  sl_unfold_words
  simp (disch := decide) only [↓View.readCov_skip, ↓View.readCov_fill, View.readAt_eq_ld, harg3.read_unread, harg4.read_unread, harg5.read_unread, harg6.read_unread]
  apply canon_four
  all_goals intro r e; pointwise [k0_pay1, k0_pay2, k0_pay4, k0_pay5, k0_pay6, k0_pay7, k0_pay8, wgBlk]
  all_goals simp only [col0, col1, col2, col3]

/-- a later one adds its own, -/
theorem out_B (hc0 : ¬cond0_0 i) (hc1 : ¬cond0_1 i) :
    out0_B_2 c i arg3 harg3 arg4 harg4 arg5 harg5 arg6 harg6 hc0 hc1 x0 x1 o = fun y => o y + wgBlk x0 x1 y := by
  unfold out0_B_2
  rw [View.read_writes_eq_canon _ _ _ (cover0_B_2 c i arg3 harg3 arg4 harg4 arg5 harg5 arg6 harg6 hc0 hc1 x0 x1 o)]
  unfold kernelRun0_B
  dsimp only
  sl_unfold_words
  simp (disch := decide) only [↓View.readCov_skip, ↓View.readCov_fill, View.readAt_eq_ld, harg3.read_unread, harg4.read_unread, harg5.read_unread, harg6.read_unread]
  apply canon_four
  all_goals intro r e; pointwise [k0_pay1, k0_pay2, k0_pay4, k0_pay5, k0_pay6, k0_pay7, k0_pay8, wgBlk]
  all_goals simp only [col0, col1, col2, col3]

/-- and so does the last, -/
theorem out_C (hc0 : ¬cond0_0 i) (hc1 : cond0_1 i) :
    out0_C_2 c i arg3 harg3 arg4 harg4 arg5 harg5 arg6 harg6 hc0 hc1 x0 x1 o = fun y => o y + wgBlk x0 x1 y := by
  unfold out0_C_2
  rw [View.read_writes_eq_canon _ _ _ (cover0_C_2 c i arg3 harg3 arg4 harg4 arg5 harg5 arg6 harg6 hc0 hc1 x0 x1 o)]
  unfold kernelRun0_C
  dsimp only
  sl_unfold_words
  simp (disch := decide) only [↓View.readCov_skip, ↓View.readCov_fill, View.readAt_eq_ld, harg3.read_unread, harg4.read_unread, harg5.read_unread, harg6.read_unread]
  apply canon_four
  all_goals intro r e; pointwise [k0_pay1, k0_pay2, k0_pay4, k0_pay5, k0_pay6, k0_pay7, k0_pay8, wgBlk]
  all_goals simp only [col0, col1, col2, col3]

/-- which also leaves the finished sum in the second output. -/
theorem out_C' (hc0 : ¬cond0_0 i) (hc1 : cond0_1 i) :
    out0_C_3 c i arg3 harg3 arg4 harg4 arg5 harg5 arg6 harg6 hc0 hc1 x0 x1 o = fun y => o y + wgBlk x0 x1 y := by
  unfold out0_C_3
  rw [View.read_writes_eq_canon _ _ _ (cover0_C_3 c i arg3 harg3 arg4 harg4 arg5 harg5 arg6 harg6 hc0 hc1 x0 x1 o)]
  unfold kernelRun0_C
  dsimp only
  sl_unfold_words
  simp (disch := decide) only [↓View.readCov_skip, ↓View.readCov_fill, View.readAt_eq_ld, harg3.read_unread, harg4.read_unread, harg5.read_unread, harg6.read_unread]
  apply canon_whole
  intro q r s
  pointwise [k0_pay3]
  rw [View.readCov_eq_canon', canon_four (fun y => o y + wgBlk x0 x1 y)]
  · have e : (Rect.unit (s := S4x1024x512) ![0, 0, 0] ![4, 1024, 512] inb_S4x1024x512_S4x1024x512_0_0_0).toLoadRect.idx (ix3 q r s) = (ix3 q r s : S4x1024x512.Idx) := by
      funext a; apply Fin.ext
      match a with
      | ⟨0, _⟩ => show 0 + 1 * q.val = q.val; omega
      | ⟨1, _⟩ => show 0 + 1 * r.val = r.val; omega
      | ⟨2, _⟩ => show 0 + 1 * s.val = s.val; omega
    exact congrArg (fun y => o y + wgBlk x0 x1 y) e
  all_goals intro r e; pointwise [k0_pay1, k0_pay2, k0_pay4, k0_pay5, k0_pay6, k0_pay7, k0_pay8, wgBlk]
  all_goals simp only [col0, col1, col2, col3]

end

variable (m : (ℓ : Loc nD τ sig) → Buf (Elt Ideal) ℓ)

/-- The input and the cotangents, as the region finds them. -/
abbrev aX (c : Dev nD) : Vec Ideal S8192x1024 .bf16 := V m c main_arg0
abbrev aG (c : Dev nD) : Vec Ideal S8192x4096 .bf16 := V m c main_arg1

/-- Rows `1024 k …` of the input, -/
def blkX (X : Vec Ideal S8192x1024 .bf16) (k : Nat) : Vec Ideal S1024x1024 .bf16 := fun y =>
  X (ix2 ⟨(1024 * k + (y 0).val) % 8192, Nat.mod_lt _ (by decide)⟩ (y 1))

/-- and of columns `2048 i …` of the cotangents. -/
def blkG (X : Vec Ideal S8192x4096 .bf16) (i k : Nat) : Vec Ideal S1024x2048 .bf16 := fun y =>
  X (ix2 ⟨(1024 * k + (y 0).val) % 8192, Nat.mod_lt _ (by decide)⟩ ⟨(2048 * i + (y 1).val) % 4096, Nat.mod_lt _ (by decide)⟩)

theorem lt16 (t : Fin cfg0.N) : t.val < 16 := lt_of_lt_of_eq t.isLt N_0

theorem index0 : ∀ t : Fin grid0.N, win0_0.index t 0 = t.val % 8 ∧ win0_0.index t 1 = 0 := by decide +kernel
theorem index1 : ∀ t : Fin grid0.N, win0_1.index t 0 = t.val % 8 ∧ win0_1.index t 1 = t.val / 8 := by decide +kernel
theorem index2 : ∀ t : Fin grid0.N, win0_2.index t 0 = t.val / 8 ∧ win0_2.index t 1 = 0 ∧ win0_2.index t 2 = 0 := by decide +kernel
theorem index3 : ∀ t : Fin grid0.N, win0_3.index t 0 = t.val / 8 ∧ win0_3.index t 1 = 0 ∧ win0_3.index t 2 = 0 := by decide +kernel

/-- What point `t` reads of the input, -/
theorem iblk0 (c : Dev nD) (t : Fin cfg0.N) : (iblk m c 0 t : Vec Ideal S1024x1024 .bf16) = blkX (aX m c) (t.val % 8) := by
  funext j
  unfold iblk
  rw [View.read_apply]
  exact congrArg (aX m c) (Rows.eq_row (index0 t).1 (index0 t).2 (by have := lt16 t; omega) rfl rfl)

/-- and of the cotangents. -/
theorem iblk1 (c : Dev nD) (t : Fin cfg0.N) : (iblk m c 1 t : Vec Ideal S1024x2048 .bf16) = blkG (aG m c) (t.val / 8) (t.val % 8) := by
  have ht := lt16 t
  funext j
  unfold iblk
  rw [View.read_apply]
  show V m c main_arg1 _ = V m c main_arg1 _
  congr 1
  funext a
  apply Fin.ext
  have h0 : (j 0 : Nat) < 1024 := (j 0).isLt
  match a with
  | ⟨0, _⟩ => show win0_1.index t 0 * 1024 + 1 * (j 0).val = (1024 * (t.val % 8) + (j 0).val) % 8192; rw [(index1 t).1]; omega
  | ⟨1, _⟩ => have h1 : (j 1 : Nat) < 2048 := (j 1).isLt
              show win0_1.index t 1 * 2048 + 1 * (j 1).val = (2048 * (t.val / 8) + (j 1).val) % 4096; rw [(index1 t).2]; omega

/-- The sum over the first `n` row blocks for the `i`th four column blocks. -/
def part (c : Dev nD) (i n : Nat) : Vec Ideal S4x1024x512 .f32 := fun y =>
  ∑ k ∈ Finset.range n, wgBlk (blkX (aX m c) k) (blkG (aG m c) i k) y

/-- What the first output's block holds after point `n`: the four column blocks' sums so far; -/
theorem outsAt_fst (c : Dev nD) : ∀ (n : ℕ) (h : n < cfg0.N), (outsAt0 m c n h).1 = part m c (n / 8) (n % 8 + 1)
  | 0, h => by
    rw [outsAt0_A m c ⟨0, h⟩ rfl (by show ¬0 % 8 = 7; decide), out_A, iblk0, iblk1]
    funext y
    simp only [part, Nat.zero_mod, Nat.zero_div, Nat.zero_add, Finset.sum_range_one]
  | n + 1, h => by
    have ht := lt16 ⟨n + 1, h⟩
    dsimp only at ht
    by_cases h0 : (n + 1) % 8 = 0
    · have h1 : ¬(n + 1) % 8 = 7 := by omega
      rw [outsAt0_A m c ⟨n + 1, h⟩ h0 h1, out_A, iblk0, iblk1]
      funext y
      simp only [part, h0, Nat.zero_add, Finset.sum_range_one]
    · have e1 : n / 8 = (n + 1) / 8 := by omega
      have e2 : n % 8 + 1 = (n + 1) % 8 := by omega
      by_cases h1 : (n + 1) % 8 = 7
      · rw [outsAt0_C m c ⟨n + 1, h⟩ h0 h1, out_C, iblk0, iblk1]
        simp only [Nat.add_sub_cancel, outsAt_fst c n (Nat.lt_of_succ_lt h), e1, e2]
        funext y
        simp only [part, Finset.sum_range_succ _ ((n + 1) % 8)]
      · rw [outsAt0_B m c ⟨n + 1, h⟩ h0 h1, out_B, iblk0, iblk1]
        simp only [Nat.add_sub_cancel, outsAt_fst c n (Nat.lt_of_succ_lt h), e1, e2]
        funext y
        simp only [part, Finset.sum_range_succ _ ((n + 1) % 8)]

/-- at their last point the second output's holds the same. -/
theorem outsAt_snd (c : Dev nD) (t : Fin cfg0.N) (h1 : t.val % 8 = 7) :
    (outsAt0 m c t.val t.isLt).2 = part m c (t.val / 8) 8 := by
  have h0 : ¬t.val % 8 = 0 := by omega
  have h8 : t.val % 8 + 1 = 8 := by omega
  refine Eq.trans ?_ ((outsAt_fst m c t.val t.isLt).trans (by rw [h8]))
  rw [outsAt0_C m c t h0 h1, out_C, out_C']

/-- The gradient, by column blocks. -/
def gW (c : Dev nD) : Vec Ideal S8x1024x512 .f32 := fun i =>
  part m c ((i 0).val / 4) 8 (ix3 ⟨(i 0).val % 4, Nat.mod_lt _ (by decide)⟩ (i 1) (i 2))

/-- The last point of four column blocks writes its part of the gradient to the first output, -/
theorem flushed2 (c : Dev nD) (t : Fin cfg0.N) (hf : (cfg0.win 2).flush t = true) :
    (dats m 0 c).flushed 2 t = ((cfg0.win 2).blk t).view.read (Elt Ideal) (gW m c) := by
  have ht := lt16 t
  have h7 : t.val % 8 = 7 := (flush0_2 t).mp hf
  rw [Value.flushed2, outsAt_fst, show t.val % 8 + 1 = 8 by omega]
  funext j
  rw [View.read_apply]
  have h0 : (j 0 : Nat) < 4 := (j 0).isLt
  have e : ((cfg0.win 2).blk t).view.emb j = (ix3 ⟨4 * (t.val / 8) + (j 0).val, by omega⟩ (j 1) (j 2) : S8x1024x512.Idx) := by
    funext a
    apply Fin.ext
    match a with
    | ⟨0, _⟩ => show win0_2.index t 0 * 4 + 1 * (j 0).val = 4 * (t.val / 8) + (j 0).val; rw [(index2 t).1]; omega
    | ⟨1, _⟩ => show win0_2.index t 1 * 1024 + 1 * (j 1).val = (j 1).val; rw [(index2 t).2.1]; omega
    | ⟨2, _⟩ => show win0_2.index t 2 * 512 + 1 * (j 2).val = (j 2).val; rw [(index2 t).2.2]; omega
  rw [e]
  have e1 : (4 * (t.val / 8) + (j 0).val) / 4 = t.val / 8 := by omega
  have e2 : (⟨(4 * (t.val / 8) + (j 0).val) % 4, Nat.mod_lt _ (by decide)⟩ : Fin 4) = j 0 := Fin.ext (by show _ % 4 = (j 0).val; omega)
  show _ = part m c ((4 * (t.val / 8) + (j 0).val) / 4) 8 (ix3 ⟨(4 * (t.val / 8) + (j 0).val) % 4, _⟩ (j 1) (j 2))
  rw [e1, e2]
  exact congrArg (part m c (t.val / 8) 8) (eq_ix3 j)

/-- and to the second. -/
theorem flushed3 (c : Dev nD) (t : Fin cfg0.N) (hf : (cfg0.win 3).flush t = true) :
    (dats m 0 c).flushed 3 t = ((cfg0.win 3).blk t).view.read (Elt Ideal) (gW m c) := by
  have ht := lt16 t
  have h7 : t.val % 8 = 7 := (flush0_3 t).mp hf
  rw [Value.flushed3, outsAt_snd m c t h7]
  funext j
  rw [View.read_apply]
  have h0 : (j 0 : Nat) < 4 := (j 0).isLt
  have e : ((cfg0.win 3).blk t).view.emb j = (ix3 ⟨4 * (t.val / 8) + (j 0).val, by omega⟩ (j 1) (j 2) : S8x1024x512.Idx) := by
    funext a
    apply Fin.ext
    match a with
    | ⟨0, _⟩ => show win0_3.index t 0 * 4 + 1 * (j 0).val = 4 * (t.val / 8) + (j 0).val; rw [(index3 t).1]; omega
    | ⟨1, _⟩ => show win0_3.index t 1 * 1024 + 1 * (j 1).val = (j 1).val; rw [(index3 t).2.1]; omega
    | ⟨2, _⟩ => show win0_3.index t 2 * 512 + 1 * (j 2).val = (j 2).val; rw [(index3 t).2.2]; omega
  rw [e]
  have e1 : (4 * (t.val / 8) + (j 0).val) / 4 = t.val / 8 := by omega
  have e2 : (⟨(4 * (t.val / 8) + (j 0).val) % 4, Nat.mod_lt _ (by decide)⟩ : Fin 4) = j 0 := Fin.ext (by show _ % 4 = (j 0).val; omega)
  show _ = part m c ((4 * (t.val / 8) + (j 0).val) / 4) 8 (ix3 ⟨(4 * (t.val / 8) + (j 0).val) % 4, _⟩ (j 1) (j 2))
  rw [e1, e2]
  exact congrArg (part m c (t.val / 8) 8) (eq_ix3 j)

/-- So the first output ends holding the gradient, -/
theorem final2 (c : Dev nD) : (dats m 0 c).arrAt 2 cfg0.N = gW m c :=
  (dats m 0 c).arrAt_eq_of_cover 2 (gW m c) (flushed2 m c) ((by decide +kernel : (cfg0.win 2).Covers).cover _ (Memref.isWhole_whole _))

/-- and so does the second. -/
theorem final3 (c : Dev nD) : (dats m 0 c).arrAt 3 cfg0.N = gW m c :=
  (dats m 0 c).arrAt_eq_of_cover 3 (gW m c) (flushed3 m c) ((by decide +kernel : (cfg0.win 3).Covers).cover _ (Memref.isWhole_whole _))

end Cert.Kernel5Ideal.Wg

namespace Cert.Reference5Ideal.Wg

open Cert.Reference5Ideal Cert.Reference5Ideal.Gen Idealize.ShloMosaic Idealize.ShloMosaic.TcCoe Idealize.SL.Sem

/-- The reference's gradient of the weight, from the input and the cotangents, by column blocks: -/
def rW (x : FVec Ideal S8192x1024 .bf16) (g : FVec Ideal S8192x4096 .bf16) : FVec Ideal S8x1024x512 .f32 :=
  transpose S8x1024x512 [1, 0, 2] (shapeCast S1024x8x512 (transpose S1024x4096 [1, 0] (Host.dotGeneral dot_S8192x4096_S8192x1024_S4096x1024_0_0_1_1_n_n none
    (extf .f32 g bitsLt_bf16_f32) (extf .f32 x bitsLt_bf16_f32)) transposes_S4096x1024_S1024x4096_1_0) shapeCasts_S1024x4096_S1024x8x512) transposes_S1024x8x512_S8x1024x512_1_0_2

/-- one sum over all rows. -/
theorem rW_apply (x : FVec Ideal S8192x1024 .bf16) (g : FVec Ideal S8192x4096 .bf16) (q : Fin 8) (i : Fin 1024) (j : Fin 512) :
    rW x g (ix3 q i j) = ∑ r : Fin 8192, g (ix2 r ⟨q.val * 512 + j.val, by omega⟩) * x (ix2 r i) := by
  pointwise [rW]

/-- The reference's run ends with it, twice. -/
theorem run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v7) = rW (m ((c.tc : Thread nD τ).loc main_arg0)) (m ((c.tc : Thread nD τ).loc main_arg1))
      ∧ r.2.mem ((c.tc : Thread nD τ).loc main_v8) = rW (m ((c.tc : Thread nD τ).loc main_arg0)) (m ((c.tc : Thread nD τ).loc main_arg1)) :=
  (θ_run defs _ _).mono (fun _ h c => ⟨(h c).1.trans (by unfold rW; rfl), (h c).2.1.trans (by unfold rW; rfl)⟩) (Value.run (F := Ideal) m ρ)

end Cert.Reference5Ideal.Wg

namespace Cert.Kernel5Ideal.Wg

open Cert.Kernel5Ideal Cert.Kernel5Ideal.Gen Idealize.ShloMosaic Idealize.ShloMosaic.TcCoe Idealize.SL.Sem
open Cert.Reference5Ideal.Wg (rW rW_apply)

variable (m : (ℓ : Loc nD τ sig) → Buf (Elt Ideal) ℓ)

/-- The kernel's blocks make up the reference's sum over all rows. -/
theorem gW_eq (c : Dev nD) : gW m c = rW (aX m c) (aG m c) := by
  suffices hs : ∀ (q : Fin 8) (i : Fin 1024) (j : Fin 512), gW m c (ix3 q i j) = rW (aX m c) (aG m c) (ix3 q i j) by
    funext y
    rw [eq_ix3 y]
    exact hs _ _ _
  intro q i j
  rw [rW_apply]
  show ∑ k ∈ Finset.range 8, ∑ r : Fin 1024, blkX (aX m c) k (ix2 r i) * blkG (aG m c) (q.val / 4) k (ix2 r (col ⟨q.val % 4, _⟩ j)) = _
  rw [Finset.sum_range]
  refine Fin.sum_mul_add_congr (fun k r hl => ?_)
  rw [mul_comm]
  refine congrArg₂ (fun p q : EReal => p * q) (congrArg (aG m c) (congrArg₂ ix2 (Fin.ext ?_) (Fin.ext ?_))) (congrArg (aX m c) (congrArg₂ ix2 (Fin.ext ?_) rfl))
  · show (1024 * k.val + r.val) % 8192 = k.val * 1024 + r.val; omega
  · show (2048 * (q.val / 4) + (512 * (q.val % 4) + j.val)) % 4096 = q.val * 512 + j.val; omega
  · show (1024 * k.val + r.val) % 8192 = k.val * 1024 + r.val; omega

/-- The kernel's run ends with the reference's gradient in both outputs. -/
theorem run (ρ : Dev nD → PrngReg) :
    θ_run defs (onTc (τ := τ) (main (F := Ideal))) ⟨m, fun _ => 0, ρ⟩ fun r => ∀ c : Dev nD,
      r.2.mem ((c.tc : Thread nD τ).loc main_v0_0) = rW (m ((c.tc : Thread nD τ).loc main_arg0)) (m ((c.tc : Thread nD τ).loc main_arg1))
      ∧ r.2.mem ((c.tc : Thread nD τ).loc main_v0_1) = rW (m ((c.tc : Thread nD τ).loc main_arg0)) (m ((c.tc : Thread nD τ).loc main_arg1)) :=
  (θ_run defs _ _).mono (fun _ h c => by
    have e : gW m c = rW (m ((c.tc : Thread nD τ).loc main_arg0)) (m ((c.tc : Thread nD τ).loc main_arg1)) := by
      rw [gW_eq, show aX m c = _ from V_main_arg0 m c, show aG m c = _ from V_main_arg1 m c]
    exact ⟨(h c).1.trans ((final2 m c).trans e), (h c).2.1.trans ((final3 m c).trans e)⟩) (Value.run_blocks m ρ)

end Cert.Kernel5Ideal.Wg
-- ==== Proof.MlpIn.lean ====
module

public import proofs.«01_k».proof.Proof.Gen.Kernel6Ideal.Value
public import proofs.«01_k».proof.Proof.Gen.Reference6Ideal.Run
public import Idealize.ShloMosaic.Lib.Pipeline.Value
public import Idealize.ShloMosaic.Lib.Pipeline.ReadBack
public import Idealize.ShloMosaic.Lib.Pointwise
public import proofs.«01_k».proof.Proof.Rows

/-! The MLP's first product: the kernel multiplies 512 rows of the normed stream by the weight, a column block at a time, and
stores the hidden layer and its squared ReLU; the reference is the whole product and its squared ReLU. -/

@[expose] public section

set_option maxRecDepth 16384

noncomputable section

namespace Cert.Reference6Ideal.Hid

open Cert.Reference6Ideal Cert.Reference6Ideal.Gen Idealize.ShloMosaic Idealize.ShloMosaic.TcCoe Idealize.SL.Sem

/-- The reference's hidden layer, -/
def rA (h : FVec Ideal S8192x1024 .bf16) (w : FVec Ideal S1024x4096 .f32) : FVec Ideal S8192x4096 .bf16 :=
  truncf .bf16 (Host.dotGeneral dot_S8192x1024_S1024x4096_S8192x4096_1_0_0_1_n_n none (extf .f32 h bitsLt_bf16_f32) w) bitsLt_bf16_f32

/-- and its squared ReLU. -/
def rAct (h : FVec Ideal S8192x1024 .bf16) (w : FVec Ideal S1024x4096 .f32) : FVec Ideal S8192x4096 .bf16 :=
  truncf .bf16 (mulf (maximumf (Host.dotGeneral dot_S8192x1024_S1024x4096_S8192x4096_1_0_0_1_n_n none (extf .f32 h bitsLt_bf16_f32) w) (broadcastInDim S8192x4096 ![] bcast_S_S8192x4096 (constant S_ .f32 0x00000000#32))) (maximumf (Host.dotGeneral dot_S8192x1024_S1024x4096_S8192x4096_1_0_0_1_n_n none (extf .f32 h bitsLt_bf16_f32) w) (broadcastInDim S8192x4096 ![] bcast_S_S8192x4096 (constant S_ .f32 0x00000000#32)))) bitsLt_bf16_f32

theorem rA_apply (h : FVec Ideal S8192x1024 .bf16) (w : FVec Ideal S1024x4096 .f32) (i : Fin 8192) (j : Fin 4096) :
    rA h w (ix2 i j) = ∑ k : Fin 1024, h (ix2 i k) * w (ix2 k j) := by
  pointwise [rA]

theorem rAct_apply (h : FVec Ideal S8192x1024 .bf16) (w : FVec Ideal S1024x4096 .f32) (i : Fin 8192) (j : Fin 4096) :
    rAct h w (ix2 i j) = max (∑ k : Fin 1024, h (ix2 i k) * w (ix2 k j)) 0 * max (∑ k : Fin 1024, h (ix2 i k) * w (ix2 k j)) 0 := by
  pointwise [rAct]

/-- The reference's run ends with both. -/
theorem run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v2) = rA (m ((c.tc : Thread nD τ).loc main_arg0)) (m ((c.tc : Thread nD τ).loc main_arg1)) ∧
      r.2.mem ((c.tc : Thread nD τ).loc main_v5) = rAct (m ((c.tc : Thread nD τ).loc main_arg0)) (m ((c.tc : Thread nD τ).loc main_arg1)) :=
  (θ_run defs _ _).mono (fun _ h c => ⟨(h c).1.trans (by unfold rA; rfl), (h c).2.1.trans (by unfold rAct; rfl)⟩) (Value.run (F := Ideal) m ρ)

end Cert.Reference6Ideal.Hid

namespace Cert.Kernel6Ideal.Hid

open Cert.Kernel6Ideal Cert.Kernel6Ideal.Gen Idealize.ShloMosaic Idealize.ShloMosaic.TcCoe Idealize.SL.Sem
open Idealize.ShloMosaic.Pipeline (Dat)
open Cert.Reference6Ideal.Hid (rA rAct rA_apply rAct_apply)

/-- Column `e` of the `q`th of eight column blocks. -/
def col (q : Fin 8) (e : Fin 512) : Fin 4096 := ⟨512 * q.val + e.val, by omega⟩

theorem col0 (e : Fin 512) : col 0 e = ⟨e.val, by omega⟩ := Fin.ext (Nat.zero_add _)
theorem col1 (e : Fin 512) : col 1 e = ⟨512 + e.val, by omega⟩ := rfl
theorem col2 (e : Fin 512) : col 2 e = ⟨1024 + e.val, by omega⟩ := rfl
theorem col3 (e : Fin 512) : col 3 e = ⟨1536 + e.val, by omega⟩ := rfl
theorem col4 (e : Fin 512) : col 4 e = ⟨2048 + e.val, by omega⟩ := rfl
theorem col5 (e : Fin 512) : col 5 e = ⟨2560 + e.val, by omega⟩ := rfl
theorem col6 (e : Fin 512) : col 6 e = ⟨3072 + e.val, by omega⟩ := rfl
theorem col7 (e : Fin 512) : col 7 e = ⟨3584 + e.val, by omega⟩ := rfl

/-- Eight stores side by side leave what each says of its own columns. -/
theorem canon_cols (G : S512x4096.Idx → Ideal .bf16) (w0 w1 w2 w3 w4 w5 w6 w7 : S512x512.Idx → Ideal .bf16)
    (L : List (View.Piece (Elt Ideal) S512x4096 .bf16))
    (h0 : ∀ (r : Fin 512) (e : Fin 512), w0 (ix2 r e) = G (ix2 r (col 0 e)))
    (h1 : ∀ (r : Fin 512) (e : Fin 512), w1 (ix2 r e) = G (ix2 r (col 1 e)))
    (h2 : ∀ (r : Fin 512) (e : Fin 512), w2 (ix2 r e) = G (ix2 r (col 2 e)))
    (h3 : ∀ (r : Fin 512) (e : Fin 512), w3 (ix2 r e) = G (ix2 r (col 3 e)))
    (h4 : ∀ (r : Fin 512) (e : Fin 512), w4 (ix2 r e) = G (ix2 r (col 4 e)))
    (h5 : ∀ (r : Fin 512) (e : Fin 512), w5 (ix2 r e) = G (ix2 r (col 5 e)))
    (h6 : ∀ (r : Fin 512) (e : Fin 512), w6 (ix2 r e) = G (ix2 r (col 6 e)))
    (h7 : ∀ (r : Fin 512) (e : Fin 512), w7 (ix2 r e) = G (ix2 r (col 7 e))) :
    View.canon ((⟨Rect.unit ![0, 3584] ![512, 512] inb_S512x4096_S512x512_0_3584, w7⟩ : View.Piece (Elt Ideal) S512x4096 .bf16) ::
      ⟨Rect.unit ![0, 3072] ![512, 512] inb_S512x4096_S512x512_0_3072, w6⟩ ::
      ⟨Rect.unit ![0, 2560] ![512, 512] inb_S512x4096_S512x512_0_2560, w5⟩ ::
      ⟨Rect.unit ![0, 2048] ![512, 512] inb_S512x4096_S512x512_0_2048, w4⟩ ::
      ⟨Rect.unit ![0, 1536] ![512, 512] inb_S512x4096_S512x512_0_1536, w3⟩ ::
      ⟨Rect.unit ![0, 1024] ![512, 512] inb_S512x4096_S512x512_0_1024, w2⟩ ::
      ⟨Rect.unit ![0, 512] ![512, 512] inb_S512x4096_S512x512_0_512, w1⟩ ::
      ⟨Rect.unit ![0, 0] ![512, 512] inb_S512x4096_S512x512_0_0, w0⟩ :: L) = G := by
  funext y
  refine View.canon_append_of_piecesOf G L [⟨Rect.unit ![0, 3584] ![512, 512] inb_S512x4096_S512x512_0_3584, w7⟩,
      ⟨Rect.unit ![0, 3072] ![512, 512] inb_S512x4096_S512x512_0_3072, w6⟩,
      ⟨Rect.unit ![0, 2560] ![512, 512] inb_S512x4096_S512x512_0_2560, w5⟩,
      ⟨Rect.unit ![0, 2048] ![512, 512] inb_S512x4096_S512x512_0_2048, w4⟩,
      ⟨Rect.unit ![0, 1536] ![512, 512] inb_S512x4096_S512x512_0_1536, w3⟩,
      ⟨Rect.unit ![0, 1024] ![512, 512] inb_S512x4096_S512x512_0_1024, w2⟩,
      ⟨Rect.unit ![0, 512] ![512, 512] inb_S512x4096_S512x512_0_512, w1⟩,
      ⟨Rect.unit ![0, 0] ![512, 512] inb_S512x4096_S512x512_0_0, w0⟩] ⟨?_, ?_, ?_, ?_, ?_, ?_, ?_, ?_, trivial⟩ y
      (View.cover_of_tiledL (s := S512x4096) _ S512x512.size (by sl_kernel_rfl) y)
  all_goals intro x; obtain ⟨r, e, rfl⟩ : ∃ (r : Fin 512) (e : Fin 512), x = ix2 r e := ⟨x 0, x 1, eq_ix2 x⟩
  · refine (h7 r e).trans (congrArg G ?_); funext a; apply Fin.ext
    match a with
    | ⟨0, _⟩ => show r.val = 0 + 1 * r.val; omega
    | ⟨1, _⟩ => show 512 * 7 + e.val = 3584 + 1 * e.val; omega
  · refine (h6 r e).trans (congrArg G ?_); funext a; apply Fin.ext
    match a with
    | ⟨0, _⟩ => show r.val = 0 + 1 * r.val; omega
    | ⟨1, _⟩ => show 512 * 6 + e.val = 3072 + 1 * e.val; omega
  · refine (h5 r e).trans (congrArg G ?_); funext a; apply Fin.ext
    match a with
    | ⟨0, _⟩ => show r.val = 0 + 1 * r.val; omega
    | ⟨1, _⟩ => show 512 * 5 + e.val = 2560 + 1 * e.val; omega
  · refine (h4 r e).trans (congrArg G ?_); funext a; apply Fin.ext
    match a with
    | ⟨0, _⟩ => show r.val = 0 + 1 * r.val; omega
    | ⟨1, _⟩ => show 512 * 4 + e.val = 2048 + 1 * e.val; omega
  · refine (h3 r e).trans (congrArg G ?_); funext a; apply Fin.ext
    match a with
    | ⟨0, _⟩ => show r.val = 0 + 1 * r.val; omega
    | ⟨1, _⟩ => show 512 * 3 + e.val = 1536 + 1 * e.val; omega
  · refine (h2 r e).trans (congrArg G ?_); funext a; apply Fin.ext
    match a with
    | ⟨0, _⟩ => show r.val = 0 + 1 * r.val; omega
    | ⟨1, _⟩ => show 512 * 2 + e.val = 1024 + 1 * e.val; omega
  · refine (h1 r e).trans (congrArg G ?_); funext a; apply Fin.ext
    match a with
    | ⟨0, _⟩ => show r.val = 0 + 1 * r.val; omega
    | ⟨1, _⟩ => show 512 * 1 + e.val = 512 + 1 * e.val; omega
  · refine (h0 r e).trans (congrArg G ?_); funext a; apply Fin.ext
    match a with
    | ⟨0, _⟩ => show r.val = 0 + 1 * r.val; omega
    | ⟨1, _⟩ => show 512 * 0 + e.val = 0 + 1 * e.val; omega

/-- The column block a column lies in, and its place there. -/
def quo (j : Fin 4096) : Fin 8 := ⟨j.val / 512, by omega⟩
def rem (j : Fin 4096) : Fin 512 := ⟨j.val % 512, by omega⟩
theorem quo_col (q : Fin 8) (e : Fin 512) : quo (col q e) = q := Fin.ext (by show (512 * q.val + e.val) / 512 = q.val; omega)
theorem rem_col (q : Fin 8) (e : Fin 512) : rem (col q e) = e := Fin.ext (by show (512 * q.val + e.val) % 512 = e.val; omega)

/-- The block of the hidden layer, -/
def aBlk (x0 : Vec Ideal S512x1024 .bf16) (x1 : Vec Ideal S8x1024x512 .bf16) : Vec Ideal S512x4096 .bf16 := fun y =>
  ∑ k : Fin 1024, x0 (ix2 (y 0) k) * x1 (ix3 (quo (y 1)) k (rem (y 1)))

/-- and of its squared ReLU. -/
def actBlk (x0 : Vec Ideal S512x1024 .bf16) (x1 : Vec Ideal S8x1024x512 .bf16) : Vec Ideal S512x4096 .bf16 := fun y =>
  max (aBlk x0 x1 y) 0 * max (aBlk x0 x1 y) 0

theorem aBlk_col (x0 : Vec Ideal S512x1024 .bf16) (x1 : Vec Ideal S8x1024x512 .bf16) (r e : Fin 512) (q : Fin 8) :
    aBlk x0 x1 (ix2 r (col q e)) = ∑ k : Fin 1024, x0 (ix2 r k) * x1 (ix3 q k e) := by
  show (∑ k : Fin 1024, x0 (ix2 r k) * x1 (ix3 (quo (col q e)) k (rem (col q e)))) = _
  rw [quo_col, rem_col]

theorem actBlk_col (x0 : Vec Ideal S512x1024 .bf16) (x1 : Vec Ideal S8x1024x512 .bf16) (r e : Fin 512) (q : Fin 8) :
    actBlk x0 x1 (ix2 r (col q e)) = max (∑ k : Fin 1024, x0 (ix2 r k) * x1 (ix3 q k e)) 0 * max (∑ k : Fin 1024, x0 (ix2 r k) * x1 (ix3 q k e)) 0 := by
  show max (aBlk x0 x1 (ix2 r (col q e))) 0 * max (aBlk x0 x1 (ix2 r (col q e))) 0 = _
  rw [aBlk_col]

/-- What a grid point leaves in its two output blocks. -/
theorem out_eq2 (x0 : Vec Ideal S512x1024 .bf16) (x1 : Vec Ideal S8x1024x512 .bf16) : out0_2 x0 x1 = aBlk x0 x1 := by
  unfold out0_2
  apply canon_cols
  all_goals intro r e; rw [aBlk_col]; pointwise [k0_pay1, k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26]

theorem out_eq3 (x0 : Vec Ideal S512x1024 .bf16) (x1 : Vec Ideal S8x1024x512 .bf16) : out0_3 x0 x1 = actBlk x0 x1 := by
  unfold out0_3
  apply canon_cols
  all_goals intro r e; rw [actBlk_col]; pointwise [k0_pay1, k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26]

variable (m : (ℓ : Loc nD τ sig) → Buf (Elt Ideal) ℓ)

/-- The two arrays the region reads: the normed stream and the weight in column blocks. -/
abbrev aH (c : Dev nD) : Vec Ideal S8192x1024 .bf16 := V m c main_arg0
abbrev aW (c : Dev nD) : Vec Ideal S8x1024x512 .bf16 := V m c main_v2

/-- The weight cut into column blocks. -/
def colBlocks (w : FVec Ideal S1024x4096 .f32) : FVec Ideal S8x1024x512 .bf16 :=
  transpose S8x1024x512 [1, 0, 2] (shapeCast S1024x8x512 (truncf .bf16 w bitsLt_bf16_f32) shapeCasts_S1024x4096_S1024x8x512) transposes_S1024x8x512_S8x1024x512_1_0_2

theorem colBlocks_apply (w : FVec Ideal S1024x4096 .f32) (k : Fin 1024) (j : Fin 4096) : colBlocks w (ix3 (quo j) k (rem j)) = w (ix2 k j) := by
  pointwise [colBlocks]
  exact congrArg w (congrArg (ix2 k) (Fin.ext (by show j.val / 512 * 512 + j.val % 512 = j.val; omega)))

theorem aW_eq (c : Dev nD) : aW m c = colBlocks (m ((c.tc : Thread nD τ).loc main_arg1)) := by
  show StableHlo.after hostOps0 (fun b => m (c, b)) (Proc.devRef .tc main_v2) = _
  simp only [hostOps0, StableHlo.TRef.binary, StableHlo.TRef.nullary, StableHlo.TRef.ternary, StableHlo.TRef.unary, StableHlo.TRef.toBuf, StableHlo.TRef.ofBuf, cast_eq]
  after_results_simp
  rfl

/-- The rows of chunk `s` of an array of 8192 rows. -/
def chunk {n : Nat} {e : EltTy} (X : (⟨2, ![8192, n]⟩ : Shape).Idx → Elt Ideal e) (s : Nat) : (⟨2, ![512, n]⟩ : Shape).Idx → Elt Ideal e :=
  fun y => X (ix2 ⟨(512 * s + (y 0).val) % 8192, Nat.mod_lt _ (by decide)⟩ (y 1))

theorem lt16 (t : Fin cfg0.N) : t.val < 16 := lt_of_lt_of_eq t.isLt N_0

theorem index0 : ∀ t : Fin grid0.N, win0_0.index t 0 = t.val ∧ win0_0.index t 1 = 0 := by decide +kernel
theorem index1 : ∀ t : Fin grid0.N, win0_1.index t 0 = 0 ∧ win0_1.index t 1 = 0 ∧ win0_1.index t 2 = 0 := by decide +kernel
theorem index2 : ∀ t : Fin grid0.N, win0_2.index t 0 = t.val ∧ win0_2.index t 1 = 0 := by decide +kernel
theorem index3 : ∀ t : Fin grid0.N, win0_3.index t 0 = t.val ∧ win0_3.index t 1 = 0 := by decide +kernel

/-- Point `t` reads chunk `t` of the stream -/
theorem iblk0 (c : Dev nD) (t : Fin cfg0.N) : (iblk m c 0 t : Vec Ideal S512x1024 .bf16) = chunk (aH m c) t.val := by
  funext j
  unfold iblk
  rw [View.read_apply]
  exact congrArg (aH m c) (Rows.eq_row (index0 t).1 (index0 t).2 (by have := lt16 t; omega) rfl rfl)

/-- and the whole weight. -/
theorem iblk1 (c : Dev nD) (t : Fin cfg0.N) : (iblk m c 1 t : Vec Ideal S8x1024x512 .bf16) = aW m c := by
  funext j
  unfold iblk
  rw [View.read_apply]
  exact congrArg (aW m c) (Rows.eq_whole3 (index1 t).1 (index1 t).2.1 (index1 t).2.2 rfl rfl rfl)

/-- The array output 2 ends with. -/
def gA (c : Dev nD) : Vec Ideal S8192x4096 .bf16 := fun i =>
  aBlk (chunk (aH m c) ((i 0).val / 512)) (aW m c) (ix2 ⟨(i 0).val % 512, Nat.mod_lt _ (by decide)⟩ (i 1))

/-- Point `t` writes its 512 rows of it, -/
theorem flushed2 (c : Dev nD) (t : Fin cfg0.N) :
    (dats m 0 c).flushed 2 t = ((cfg0.win 2).blk t).view.read (Elt Ideal) (gA m c) := by
  have ht := lt16 t
  rw [Value.flushed2, out_eq2, iblk0, iblk1]
  funext j
  rw [View.read_apply]
  exact Rows.at_chunk (fun s => aBlk (chunk (aH m c) s) (aW m c)) t.val j (by decide) (index2 t).1 (index2 t).2 rfl rfl

/-- so the output ends holding it. -/
theorem final2 (c : Dev nD) : (dats m 0 c).arrAt 2 cfg0.N = gA m c :=
  (dats m 0 c).arrAt_eq_of_cover 2 (gA m c) (fun t _ => flushed2 m c t) ((by decide +kernel : (cfg0.win 2).Covers).cover _ (Memref.isWhole_whole _))

/-- The array output 3 ends with. -/
def gAct (c : Dev nD) : Vec Ideal S8192x4096 .bf16 := fun i =>
  actBlk (chunk (aH m c) ((i 0).val / 512)) (aW m c) (ix2 ⟨(i 0).val % 512, Nat.mod_lt _ (by decide)⟩ (i 1))

/-- Point `t` writes its 512 rows of it, -/
theorem flushed3 (c : Dev nD) (t : Fin cfg0.N) :
    (dats m 0 c).flushed 3 t = ((cfg0.win 3).blk t).view.read (Elt Ideal) (gAct m c) := by
  have ht := lt16 t
  rw [Value.flushed3, out_eq3, iblk0, iblk1]
  funext j
  rw [View.read_apply]
  exact Rows.at_chunk (fun s => actBlk (chunk (aH m c) s) (aW m c)) t.val j (by decide) (index3 t).1 (index3 t).2 rfl rfl

/-- so the output ends holding it. -/
theorem final3 (c : Dev nD) : (dats m 0 c).arrAt 3 cfg0.N = gAct m c :=
  (dats m 0 c).arrAt_eq_of_cover 3 (gAct m c) (fun t _ => flushed3 m c t) ((by decide +kernel : (cfg0.win 3).Covers).cover _ (Memref.isWhole_whole _))

theorem aBlk_eq (c : Dev nD) (i : Fin 8192) (j : Fin 4096) :
    aBlk (chunk (aH m c) (i.val / 512)) (aW m c) (ix2 ⟨i.val % 512, Nat.mod_lt _ (by decide)⟩ j) =
      ∑ k : Fin 1024, aH m c (ix2 i k) * m ((c.tc : Thread nD τ).loc main_arg1) (ix2 k j : S1024x4096.Idx) := by
  rw [aW_eq]
  have e : (⟨(512 * (i.val / 512) + i.val % 512) % 8192, Nat.mod_lt _ (by decide)⟩ : Fin 8192) = i := Fin.ext (by show _ % 8192 = i.val; omega)
  show (∑ k : Fin 1024, aH m c (ix2 ⟨(512 * (i.val / 512) + i.val % 512) % 8192, _⟩ k) * colBlocks _ (ix3 (quo j) k (rem j))) = _
  simp only [e, colBlocks_apply]

/-- They are the reference's. -/
theorem gA_eq (c : Dev nD) : gA m c = rA (aH m c) (m ((c.tc : Thread nD τ).loc main_arg1)) := by
  suffices hs : ∀ (i : Fin 8192) (j : Fin 4096), gA m c (ix2 i j) = rA (aH m c) (m ((c.tc : Thread nD τ).loc main_arg1)) (ix2 i j) by
    funext y
    rw [eq_ix2 y]
    exact hs _ _
  intro i j
  rw [rA_apply]
  exact aBlk_eq m c i j

theorem gAct_eq (c : Dev nD) : gAct m c = rAct (aH m c) (m ((c.tc : Thread nD τ).loc main_arg1)) := by
  suffices hs : ∀ (i : Fin 8192) (j : Fin 4096), gAct m c (ix2 i j) = rAct (aH m c) (m ((c.tc : Thread nD τ).loc main_arg1)) (ix2 i j) by
    funext y
    rw [eq_ix2 y]
    exact hs _ _
  intro i j
  rw [rAct_apply]
  exact congrArg (fun a : EReal => max a 0 * max a 0) (aBlk_eq m c i j)

/-- The kernel's run ends with the reference's two results. -/
theorem run (ρ : Dev nD → PrngReg) :
    θ_run defs (onTc (τ := τ) (main (F := Ideal))) ⟨m, fun _ => 0, ρ⟩ fun r => ∀ c : Dev nD,
      r.2.mem ((c.tc : Thread nD τ).loc main_v3_0) = rA (m ((c.tc : Thread nD τ).loc main_arg0)) (m ((c.tc : Thread nD τ).loc main_arg1)) ∧
      r.2.mem ((c.tc : Thread nD τ).loc main_v3_1) = rAct (m ((c.tc : Thread nD τ).loc main_arg0)) (m ((c.tc : Thread nD τ).loc main_arg1)) :=
  (θ_run defs _ _).mono (fun _ h c => by
    have e : aH m c = _ := V_main_arg0 m c
    have e2 : gA m c = rA (m ((c.tc : Thread nD τ).loc main_arg0)) (m ((c.tc : Thread nD τ).loc main_arg1)) := by rw [gA_eq, e]
    have e3 : gAct m c = rAct (m ((c.tc : Thread nD τ).loc main_arg0)) (m ((c.tc : Thread nD τ).loc main_arg1)) := by rw [gAct_eq, e]
    exact ⟨(h c).1.trans ((final2 m c).trans e2), (h c).2.1.trans ((final3 m c).trans e3)⟩) (Value.run_blocks m ρ)

end Cert.Kernel6Ideal.Hid
-- ==== Proof.MlpOut.lean ====
module

public import proofs.«01_k».proof.Proof.Gen.Kernel7Ideal.Frame
public import proofs.«01_k».proof.Proof.Gen.Reference7Ideal.Run
public import proofs.«01_k».proof.Proof.Rows

/-! The MLP's second product, the residual stream and its norm: the kernel takes 512 rows at a time and the weight in two
column blocks, the reference whole arrays. -/

@[expose] public section

set_option maxRecDepth 16384

noncomputable section

namespace Cert.Reference7Ideal.Out

open Cert.Reference7Ideal Cert.Reference7Ideal.Gen Idealize.ShloMosaic Idealize.ShloMosaic.TcCoe Idealize.SL.Sem Cert.Rows

/-- The reference's residual stream, -/
def rX (t : FVec Ideal S8192x4096 .bf16) (w : FVec Ideal S4096x1024 .f32) (x : FVec Ideal S8192x1024 .f32) : FVec Ideal S8192x1024 .f32 :=
  addf x (Host.dotGeneral dot_S8192x4096_S4096x1024_S8192x1024_1_0_0_1_n_n none (extf .f32 t bitsLt_bf16_f32) w)

/-- and its norm. -/
def rH (x : FVec Ideal S8192x1024 .f32) (g : FVec Ideal S1024 .f32) : FVec Ideal S8192x1024 .bf16 :=
  truncf .bf16 (mulf (mulf x (broadcastInDim S8192x1024 ![0, 1] bcast_S8192x1_S8192x1024_0_1 (Host.rsqrt (addf (Host.divf (broadcastInDim S8192x1 ![0] bcast_S8192_S8192x1_0 (Host.reduceAdd (mulf x x) (constant S_ .f32 0x00000000#32) reducesTo_S8192x1024_S8192_d1 h_S_)) (broadcastInDim S8192x1 ![] bcast_S_S8192x1 (constant S_ .f32 0x44800000#32))) (broadcastInDim S8192x1 ![] bcast_S_S8192x1 (constant S_ .f32 0x358637BD#32)))))) (broadcastInDim S8192x1024 ![0, 1] bcast_S1x1024_S8192x1024_0_1 (broadcastInDim S1x1024 ![1] bcast_S1024_S1x1024_1 g))) bitsLt_bf16_f32

theorem rX_apply (t : FVec Ideal S8192x4096 .bf16) (w : FVec Ideal S4096x1024 .f32) (x : FVec Ideal S8192x1024 .f32) (i : Fin 8192) (j : Fin 1024) :
    rX t w x (ix2 i j) = x (ix2 i j) + prod t w (ix2 i j) := by
  pointwise [rX, prod]

theorem rH_apply (x : FVec Ideal S8192x1024 .f32) (g : FVec Ideal S1024 .f32) (i : Fin 8192) (j : Fin 1024) :
    rH x g (ix2 i j) = nrm (fun k => x (ix2 i k)) (g (ix1 j)) j := by
  unfold nrm
  pointwise [rH]

/-- The reference's run ends with both. -/
theorem run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v2) = rX (m ((c.tc : Thread nD τ).loc main_arg0)) (m ((c.tc : Thread nD τ).loc main_arg1)) (m ((c.tc : Thread nD τ).loc main_arg2)) ∧
      r.2.mem ((c.tc : Thread nD τ).loc main_v16) = rH (rX (m ((c.tc : Thread nD τ).loc main_arg0)) (m ((c.tc : Thread nD τ).loc main_arg1)) (m ((c.tc : Thread nD τ).loc main_arg2))) (m ((c.tc : Thread nD τ).loc main_arg3)) :=
  (θ_run defs _ _).mono (fun _ h c => ⟨(h c).1.trans (by unfold rX; rfl), (h c).2.1.trans (by unfold rH rX; rfl)⟩) (Value.run (F := Ideal) m ρ)

end Cert.Reference7Ideal.Out

namespace Cert.Kernel7Ideal.Out

open Cert.Kernel7Ideal Cert.Kernel7Ideal.Gen Idealize.ShloMosaic Idealize.ShloMosaic.TcCoe Idealize.SL.Sem Cert.Rows
open Idealize.ShloMosaic.Pipeline (Dat)
open Cert.Reference7Ideal.Out (rX rH rX_apply rH_apply)

variable (m : (ℓ : Loc nD τ sig) → Buf (Elt Ideal) ℓ)

/-- The arrays the region reads: the rows, the weight, the residual stream and the gain of the norm. -/
abbrev aT (c : Dev nD) : Vec Ideal S8192x4096 .bf16 := V m c main_arg0
abbrev aW (c : Dev nD) : Vec Ideal S4096x1024 .bf16 := V m c main_v0
abbrev aX (c : Dev nD) : Vec Ideal S8192x1024 .f32 := V m c main_arg2
abbrev aG (c : Dev nD) : Vec Ideal S1x1024 .f32 := V m c main_v1

theorem lt16 (t : Fin cfg0.N) : t.val < 16 := lt_of_lt_of_eq t.isLt N_0

/-- The weight is read as launched: narrowing is the identity over the extended reals. -/
theorem aW_eq (c : Dev nD) : aW m c = ((m ((c.tc : Thread nD τ).loc main_arg1)) : S4096x1024.Idx → EReal) := by
  show StableHlo.after hostOps0 (fun b => m (c, b)) (Proc.devRef .tc main_v0) = _
  simp only [hostOps0, StableHlo.TRef.binary, StableHlo.TRef.nullary, StableHlo.TRef.ternary, StableHlo.TRef.unary, StableHlo.TRef.toBuf, StableHlo.TRef.ofBuf, cast_eq]
  after_results_simp
  rfl

/-- A vector as one row. -/
def asRow (g : FVec Ideal S1024 .f32) : FVec Ideal S1x1024 .f32 := shapeCast S1x1024 g shapeCasts_S1024_S1x1024

theorem asRow_apply (g : FVec Ideal S1024 .f32) (j : Fin 1024) : asRow g (ix2 0 j) = g (ix1 j) := by
  pointwise [asRow]

theorem aG_eq (c : Dev nD) : aG m c = asRow (m ((c.tc : Thread nD τ).loc main_arg3)) := by
  show StableHlo.after hostOps0 (fun b => m (c, b)) (Proc.devRef .tc main_v1) = _
  simp only [hostOps0, StableHlo.TRef.binary, StableHlo.TRef.nullary, StableHlo.TRef.ternary, StableHlo.TRef.unary, StableHlo.TRef.toBuf, StableHlo.TRef.ofBuf, cast_eq]
  after_results_simp
  rfl

theorem idx0 : ∀ t : Fin grid0.N, win0_0.index t 0 = t.val ∧ win0_0.index t 1 = 0 := by decide +kernel
theorem idx1 : ∀ t : Fin grid0.N, win0_1.index t 0 = 0 ∧ win0_1.index t 1 = 0 := by decide +kernel
theorem idx2 : ∀ t : Fin grid0.N, win0_2.index t 0 = t.val ∧ win0_2.index t 1 = 0 := by decide +kernel
theorem idx3 : ∀ t : Fin grid0.N, win0_3.index t 0 = 0 ∧ win0_3.index t 1 = 0 := by decide +kernel
theorem idx4 : ∀ t : Fin grid0.N, win0_4.index t 0 = t.val ∧ win0_4.index t 1 = 0 := by decide +kernel
theorem idx5 : ∀ t : Fin grid0.N, win0_5.index t 0 = t.val ∧ win0_5.index t 1 = 0 := by decide +kernel

/-- Point `t` reads chunk `t` of operand 0. -/
theorem iblk0 (c : Dev nD) (t : Fin cfg0.N) : (iblk m c 0 t : Vec Ideal S512x4096 .bf16) = rows 512 (aT m c) t.val := by
  funext y
  unfold iblk
  rw [View.read_apply]
  exact congrArg (aT m c) (eq_row (idx0 t).1 (idx0 t).2 (by have := lt16 t; omega) rfl rfl)

/-- It reads operand 1 whole. -/
theorem iblk1 (c : Dev nD) (t : Fin cfg0.N) : (iblk m c 1 t : Vec Ideal S4096x1024 .bf16) = aW m c := by
  funext y
  unfold iblk
  rw [View.read_apply]
  exact congrArg (aW m c) (eq_whole (idx1 t).1 (idx1 t).2 rfl rfl)

/-- Point `t` reads chunk `t` of operand 2. -/
theorem iblk2 (c : Dev nD) (t : Fin cfg0.N) : (iblk m c 2 t : Vec Ideal S512x1024 .f32) = rows 512 (aX m c) t.val := by
  funext y
  unfold iblk
  rw [View.read_apply]
  exact congrArg (aX m c) (eq_row (idx2 t).1 (idx2 t).2 (by have := lt16 t; omega) rfl rfl)

/-- It reads operand 3 whole. -/
theorem iblk3 (c : Dev nD) (t : Fin cfg0.N) : (iblk m c 3 t : Vec Ideal S1x1024 .f32) = aG m c := by
  funext y
  unfold iblk
  rw [View.read_apply]
  exact congrArg (aG m c) (eq_whole (idx3 t).1 (idx3 t).2 rfl rfl)

/-- The two column blocks of the product, side by side, are the product. -/
theorem x_apply (x0 : Vec Ideal S512x4096 .bf16) (x1 : Vec Ideal S4096x1024 .bf16) (x2 : Vec Ideal S512x1024 .f32) (r : Fin 512) (j : Fin 1024) :
    k0_pay1 x0 (View.ld x1 r0_1) (View.ld x1 r0_2) x2 (ix2 r j) = x2 (ix2 r j) + prod x0 x1 (ix2 r j) := by
  rw [add_comm]
  pointwise [k0_pay1, prod]
  split
  · rfl
  · next h =>
    have e : ∀ p : 512 + (j.val - 512) < 1024, (⟨512 + (j.val - 512), p⟩ : Fin 1024) = j := fun p => Fin.ext (by show 512 + (j.val - 512) = j.val; omega)
    simp only [e]

theorem h_apply (x0 : Vec Ideal S512x4096 .bf16) (x1 : Vec Ideal S4096x1024 .bf16) (x2 : Vec Ideal S512x1024 .f32) (g : Vec Ideal S1x1024 .f32) (r : Fin 512) (j : Fin 1024) :
    k0_pay2 x0 (View.ld x1 r0_1) (View.ld x1 r0_2) x2 g (ix2 r j) = nrm (fun k => x2 (ix2 r k) + prod x0 x1 (ix2 r k)) (g (ix2 0 j)) j := by
  pointwise [k0_pay2]
  simp only [x_apply]
  rfl

/-- The first output ends with the residual stream, every point writing its rows of it, -/
theorem final4 (c : Dev nD) : (dats m 0 c).arrAt 4 cfg0.N = rX (aT m c) (m ((c.tc : Thread nD τ).loc main_arg1)) (aX m c) := by
  refine (dats m 0 c).arrAt_eq_of_covers 4 _ (by decide +kernel) fun t hf y => ?_
  obtain ⟨r, j, rfl⟩ : ∃ (r : Fin 512) (j : Fin 1024), y = ix2 r j := ⟨y 0, y 1, eq_ix2 y⟩
  have he : (win0_4.blk t).view.emb (ix2 r j) = ix2 (row 512 t.val r) j := eq_row (idx4 t).1 (idx4 t).2 (by have := lt16 t; omega) rfl rfl
  blk_simp [he]
  rw [after0_4, iblk0, iblk1, iblk2, iblk3, rX_apply]
  frame_out
  rw [x_apply, aW_eq]
  rfl

/-- and the second with its norm. -/
theorem final5 (c : Dev nD) : (dats m 0 c).arrAt 5 cfg0.N = rH (rX (aT m c) (m ((c.tc : Thread nD τ).loc main_arg1)) (aX m c)) (m ((c.tc : Thread nD τ).loc main_arg3)) := by
  refine (dats m 0 c).arrAt_eq_of_covers 5 _ (by decide +kernel) fun t hf y => ?_
  obtain ⟨r, j, rfl⟩ : ∃ (r : Fin 512) (j : Fin 1024), y = ix2 r j := ⟨y 0, y 1, eq_ix2 y⟩
  have he : (win0_5.blk t).view.emb (ix2 r j) = ix2 (row 512 t.val r) j := eq_row (idx5 t).1 (idx5 t).2 (by have := lt16 t; omega) rfl rfl
  blk_simp [he]
  rw [after0_5, iblk0, iblk1, iblk2, iblk3, rH_apply]
  simp only [rX_apply]
  frame_out
  rw [h_apply, aW_eq, aG_eq, asRow_apply]
  rfl

/-- The kernel's run ends with the reference's two results. -/
theorem run (ρ : Dev nD → PrngReg) :
    θ_run defs (onTc (τ := τ) (main (F := Ideal))) ⟨m, fun _ => 0, ρ⟩ fun r => ∀ c : Dev nD,
      r.2.mem ((c.tc : Thread nD τ).loc main_v2_0) = rX (m ((c.tc : Thread nD τ).loc main_arg0)) (m ((c.tc : Thread nD τ).loc main_arg1)) (m ((c.tc : Thread nD τ).loc main_arg2)) ∧
      r.2.mem ((c.tc : Thread nD τ).loc main_v2_1) = rH (rX (m ((c.tc : Thread nD τ).loc main_arg0)) (m ((c.tc : Thread nD τ).loc main_arg1)) (m ((c.tc : Thread nD τ).loc main_arg2))) (m ((c.tc : Thread nD τ).loc main_arg3)) :=
  (θ_run defs _ _).mono (fun _ h c => by
    have e0 : aT m c = (m ((c.tc : Thread nD τ).loc main_arg0)) := V_main_arg0 m c
    have e2 : aX m c = (m ((c.tc : Thread nD τ).loc main_arg2)) := V_main_arg2 m c
    exact ⟨((h c).1 4).trans ((final4 m c).trans (by rw [e0, e2])), ((h c).1 5).trans ((final5 m c).trans (by rw [e0, e2]))⟩) (run_main m ρ)

end Cert.Kernel7Ideal.Out
-- ==== Proof.MixInBwd.lean ====
module

public import proofs.«01_k».proof.Proof.Gen.Kernel8Ideal.Value
public import proofs.«01_k».proof.Proof.Gen.Reference8Ideal.Run
public import Idealize.ShloMosaic.Lib.Pipeline.Value
public import Idealize.ShloMosaic.Lib.Pipeline.ReadBack
public import Idealize.ShloMosaic.Lib.Pipeline.ValueKit.Acc
public import Idealize.ShloMosaic.Lib.Pointwise
public import proofs.«01_k».proof.Proof.Rows
public import proofs.«01_k».proof.Proof.Blocks

/-! The gradient through the mixer's first product and the norm before it: the kernel multiplies 1024 rows of the gated layer's
cotangent by the transposed weight in eight column blocks and takes the norm's gradient there, adding up the gain's over
the grid; the reference is the gradient of the norm followed by the product. -/

@[expose] public section

set_option maxRecDepth 16384

noncomputable section

namespace Cert.Reference8Ideal.Bwd

open Cert.Reference8Ideal Cert.Reference8Ideal.Gen Idealize.ShloMosaic Idealize.ShloMosaic.TcCoe Idealize.SL.Sem

/-- A row's mean square and the constant added to it. -/
def msq (x : Fin 1024 → EReal) : EReal :=
  Ideal.div (∑ k : Fin 1024, x k * x k) (Ideal.ofBits FTy.f32 1149239296#32) + Ideal.ofBits FTy.f32 897988541#32

/-- What the mean square's cotangent adds to each entry of a row, per unit of the entry. -/
def slope (x d : Fin 1024 → EReal) : EReal :=
  Ideal.div ((∑ k : Fin 1024, x k * d k) * (Ideal.ofBits FTy.f32 3204448256#32 * Ideal.div (Ideal.rsqrt (msq x)) (msq x))) (Ideal.ofBits FTy.f32 1149239296#32)

/-- The cotangents of the norm's result, -/
def rDh (da : FVec Ideal S8192x2048 .bf16) (w : FVec Ideal S1024x2048 .f32) : FVec Ideal S8192x1024 .f32 := Host.dotGeneral dot_S8192x2048_S1024x2048_S8192x1024_1_1_0_0_n_n none (extf .f32 da bitsLt_bf16_f32) w

/-- of the scaled rows, -/
def rDn (dh : FVec Ideal S8192x1024 .f32) (g : FVec Ideal S1024 .f32) : FVec Ideal S8192x1024 .f32 :=
  mulf dh (broadcastInDim S8192x1024 ![0, 1] bcast_S1x1024_S8192x1024_0_1 (broadcastInDim S1x1024 ![1] bcast_S1024_S1x1024_1 g))

def rMs (x : FVec Ideal S8192x1024 .f32) : FVec Ideal S8192x1 .f32 :=
  addf (Host.divf (broadcastInDim S8192x1 ![0] bcast_S8192_S8192x1_0 (Host.reduceAdd (mulf x x) (constant S_ .f32 0x00000000#32) reducesTo_S8192x1024_S8192_d1 h_S_)) (broadcastInDim S8192x1 ![] bcast_S_S8192x1 (constant S_ .f32 0x44800000#32))) (broadcastInDim S8192x1 ![] bcast_S_S8192x1 (constant S_ .f32 0x358637BD#32))

def rSl (x dn : FVec Ideal S8192x1024 .f32) : FVec Ideal S8192 .f32 :=
  Host.reduceAdd (Host.divf (mulf (shapeCast S8192x1 (Host.reduceAdd (mulf x dn) (constant S_ .f32 0x00000000#32) reducesTo_S8192x1024_S8192_d1 h_S_) shapeCasts_S8192_S8192x1) (mulf (broadcastInDim S8192x1 ![] bcast_S_S8192x1 (constant S_ .f32 0xBF000000#32)) (Host.divf (Host.rsqrt (rMs x)) (rMs x)))) (broadcastInDim S8192x1 ![] bcast_S_S8192x1 (constant S_ .f32 0x44800000#32))) (constant S_ .f32 0x00000000#32) reducesTo_S8192x1_S8192_d1 h_S_

/-- of the residual stream -/
def rDx (dr x dn : FVec Ideal S8192x1024 .f32) : FVec Ideal S8192x1024 .f32 :=
  addf (addf (addf dr (mulf dn (broadcastInDim S8192x1024 ![0, 1] bcast_S8192x1_S8192x1024_0_1 (Host.rsqrt (rMs x))))) (mulf x (broadcastInDim S8192x1024 ![0] bcast_S8192_S8192x1024_0 (rSl x dn)))) (mulf (broadcastInDim S8192x1024 ![0] bcast_S8192_S8192x1024_0 (rSl x dn)) x)

/-- and of the gain. -/
def rDg (x dh : FVec Ideal S8192x1024 .f32) : FVec Ideal S1x1024 .f32 :=
  shapeCast S1x1024 (Host.reduceAdd (shapeCast S1x1024 (Host.reduceAdd (mulf (mulf x (broadcastInDim S8192x1024 ![0, 1] bcast_S8192x1_S8192x1024_0_1 (Host.rsqrt (rMs x)))) dh) (constant S_ .f32 0x00000000#32) reducesTo_S8192x1024_S1024_d0 h_S_) shapeCasts_S1024_S1x1024) (constant S_ .f32 0x00000000#32) reducesTo_S1x1024_S1024_d0 h_S_) shapeCasts_S1024_S1x1024

theorem rDh_apply (da : FVec Ideal S8192x2048 .bf16) (w : FVec Ideal S1024x2048 .f32) (i : Fin 8192) (j : Fin 1024) :
    rDh da w (ix2 i j) = ∑ k : Fin 2048, da (ix2 i k) * w (ix2 j k) := by
  pointwise [rDh]

theorem rDn_apply (dh : FVec Ideal S8192x1024 .f32) (g : FVec Ideal S1024 .f32) (i : Fin 8192) (j : Fin 1024) :
    rDn dh g (ix2 i j) = dh (ix2 i j) * g (ix1 j) := by
  pointwise [rDn]

theorem rMs_apply (x : FVec Ideal S8192x1024 .f32) (i : Fin 8192) : rMs x (ix2 i 0) = msq (fun k => x (ix2 i k)) := by
  unfold msq
  pointwise [rMs]

theorem rSl_apply (x dn : FVec Ideal S8192x1024 .f32) (i : Fin 8192) : rSl x dn (ix1 i) = slope (fun k => x (ix2 i k)) (fun k => dn (ix2 i k)) := by
  unfold slope
  rw [← rMs_apply]
  pointwise [rSl]
  simp only [Finset.univ_unique, Finset.sum_singleton]
  rfl

theorem rDx_apply (dr x dn : FVec Ideal S8192x1024 .f32) (i : Fin 8192) (j : Fin 1024) :
    rDx dr x dn (ix2 i j) = dr (ix2 i j) + dn (ix2 i j) * Ideal.rsqrt (msq (fun k => x (ix2 i k))) + x (ix2 i j) * slope (fun k => x (ix2 i k)) (fun k => dn (ix2 i k))
      + slope (fun k => x (ix2 i k)) (fun k => dn (ix2 i k)) * x (ix2 i j) := by
  rw [← rMs_apply, ← rSl_apply]
  pointwise [rDx]

theorem rDg_apply (x dh : FVec Ideal S8192x1024 .f32) (j : Fin 1024) :
    rDg x dh (ix2 0 j) = ∑ i : Fin 8192, x (ix2 i j) * Ideal.rsqrt (msq (fun k => x (ix2 i k))) * dh (ix2 i j) := by
  simp only [← rMs_apply]
  pointwise [rDg]
  simp only [Finset.univ_unique, Finset.sum_singleton]

/-- The reference's run ends with the three. -/
theorem run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v39) = rDx (m ((c.tc : Thread nD τ).loc main_arg3)) (m ((c.tc : Thread nD τ).loc main_arg2)) (rDn (rDh (m ((c.tc : Thread nD τ).loc main_arg0)) (m ((c.tc : Thread nD τ).loc main_arg1))) (m ((c.tc : Thread nD τ).loc main_arg4))) ∧
      r.2.mem ((c.tc : Thread nD τ).loc main_v40) = rDx (m ((c.tc : Thread nD τ).loc main_arg3)) (m ((c.tc : Thread nD τ).loc main_arg2)) (rDn (rDh (m ((c.tc : Thread nD τ).loc main_arg0)) (m ((c.tc : Thread nD τ).loc main_arg1))) (m ((c.tc : Thread nD τ).loc main_arg4))) ∧
      r.2.mem ((c.tc : Thread nD τ).loc main_v41) = rDg (m ((c.tc : Thread nD τ).loc main_arg2)) (rDh (m ((c.tc : Thread nD τ).loc main_arg0)) (m ((c.tc : Thread nD τ).loc main_arg1))) :=
  (θ_run defs _ _).mono (fun _ h c => ⟨(h c).1.trans (by unfold Value.res_main_v39 rDx rSl rMs rDn rDh; rfl), (h c).2.1.trans (by unfold Value.res_main_v40 rDx rSl rMs rDn rDh; rfl),
    (h c).2.2.1.trans (by unfold rDg rMs rDh; rfl)⟩) (Value.run (F := Ideal) m ρ)

end Cert.Reference8Ideal.Bwd

namespace Cert.Kernel8Ideal.Bwd

open Cert.Kernel8Ideal Cert.Kernel8Ideal.Gen Idealize.ShloMosaic Idealize.ShloMosaic.TcCoe Idealize.SL.Sem
open Idealize.ShloMosaic.Pipeline (Dat)
open Cert.Reference8Ideal.Bwd (rDh rDn rDx rDg rDh_apply rDn_apply rDx_apply rDg_apply msq slope)

/-- Column `e` of the `q`th of eight column blocks. -/
def col (q : Fin 8) (e : Fin 256) : Fin 2048 := ⟨256 * q.val + e.val, by omega⟩

theorem col0 (e : Fin 256) : col 0 e = ⟨e.val, by omega⟩ := Fin.ext (Nat.zero_add _)
theorem col1 (e : Fin 256) : col 1 e = ⟨256 + e.val, by omega⟩ := rfl
theorem col2 (e : Fin 256) : col 2 e = ⟨512 + e.val, by omega⟩ := rfl
theorem col3 (e : Fin 256) : col 3 e = ⟨768 + e.val, by omega⟩ := rfl
theorem col4 (e : Fin 256) : col 4 e = ⟨1024 + e.val, by omega⟩ := rfl
theorem col5 (e : Fin 256) : col 5 e = ⟨1280 + e.val, by omega⟩ := rfl
theorem col6 (e : Fin 256) : col 6 e = ⟨1536 + e.val, by omega⟩ := rfl
theorem col7 (e : Fin 256) : col 7 e = ⟨1792 + e.val, by omega⟩ := rfl

/-- The block of the cotangent of the norm's result, by column blocks; -/
def dhBlk (x0 : Vec Ideal S1024x2048 .bf16) (x1 : Vec Ideal S8x1024x256 .bf16) : Vec Ideal S1024x1024 .f32 := fun y =>
  ∑ q : Fin 8, ∑ e : Fin 256, x0 (ix2 (y 0) (col q e)) * x1 (ix3 q (y 1) e)

/-- of the residual stream's; -/
def dxBlk (x0 : Vec Ideal S1024x2048 .bf16) (x1 : Vec Ideal S8x1024x256 .bf16) (x2 x3 : Vec Ideal S1024x1024 .f32) (x4 : Vec Ideal S1x1024 .f32) : Vec Ideal S1024x1024 .f32 := fun y =>
  dhBlk x0 x1 y * x4 (ix2 0 (y 1)) * Ideal.rsqrt (msq (fun k => x2 (ix2 (y 0) k)))
    + x2 y * slope (fun k => x2 (ix2 (y 0) k)) (fun k => dhBlk x0 x1 (ix2 (y 0) k) * x4 (ix2 0 k))
    + slope (fun k => x2 (ix2 (y 0) k)) (fun k => dhBlk x0 x1 (ix2 (y 0) k) * x4 (ix2 0 k)) * x2 y + x3 y

/-- and the rows' part of the gain's. -/
def dgBlk (x0 : Vec Ideal S1024x2048 .bf16) (x1 : Vec Ideal S8x1024x256 .bf16) (x2 : Vec Ideal S1024x1024 .f32) : Vec Ideal S1x1024 .f32 := fun y =>
  ∑ r : Fin 1024, x2 (ix2 r (y 1)) * Ideal.rsqrt (msq (fun k => x2 (ix2 r k))) * dhBlk x0 x1 (ix2 r (y 1))

theorem prod_apply (x0 : Vec Ideal S1024x2048 .bf16) (x1 : Vec Ideal S8x1024x256 .bf16) (r : Fin 1024) (j : Fin 1024) :
    k0_pay6 (k0_pay5 (View.ld x0 (Rect.unit (s := S1024x2048) ![0, 0] ![1024, 256] inb_S1024x2048_S1024x256_0_0)) (View.ld x1 (Rect.unit (s := S8x1024x256) ![0, 0, 0] ![1, 1024, 256] inb_S8x1024x256_S1x1024x256_0_0_0)) (View.ld x0 (Rect.unit (s := S1024x2048) ![0, 256] ![1024, 256] inb_S1024x2048_S1024x256_0_256)) (View.ld x1 (Rect.unit (s := S8x1024x256) ![1, 0, 0] ![1, 1024, 256] inb_S8x1024x256_S1x1024x256_1_0_0)) (View.ld x0 (Rect.unit (s := S1024x2048) ![0, 512] ![1024, 256] inb_S1024x2048_S1024x256_0_512)) (View.ld x1 (Rect.unit (s := S8x1024x256) ![2, 0, 0] ![1, 1024, 256] inb_S8x1024x256_S1x1024x256_2_0_0)) (View.ld x0 (Rect.unit (s := S1024x2048) ![0, 768] ![1024, 256] inb_S1024x2048_S1024x256_0_768)) (View.ld x1 (Rect.unit (s := S8x1024x256) ![3, 0, 0] ![1, 1024, 256] inb_S8x1024x256_S1x1024x256_3_0_0)) (View.ld x0 (Rect.unit (s := S1024x2048) ![0, 1024] ![1024, 256] inb_S1024x2048_S1024x256_0_1024)) (View.ld x1 (Rect.unit (s := S8x1024x256) ![4, 0, 0] ![1, 1024, 256] inb_S8x1024x256_S1x1024x256_4_0_0))) (View.ld x0 (Rect.unit (s := S1024x2048) ![0, 1280] ![1024, 256] inb_S1024x2048_S1024x256_0_1280)) (View.ld x1 (Rect.unit (s := S8x1024x256) ![5, 0, 0] ![1, 1024, 256] inb_S8x1024x256_S1x1024x256_5_0_0)) (View.ld x0 (Rect.unit (s := S1024x2048) ![0, 1536] ![1024, 256] inb_S1024x2048_S1024x256_0_1536)) (View.ld x1 (Rect.unit (s := S8x1024x256) ![6, 0, 0] ![1, 1024, 256] inb_S8x1024x256_S1x1024x256_6_0_0)) (View.ld x0 (Rect.unit (s := S1024x2048) ![0, 1792] ![1024, 256] inb_S1024x2048_S1024x256_0_1792)) (View.ld x1 (Rect.unit (s := S8x1024x256) ![7, 0, 0] ![1, 1024, 256] inb_S8x1024x256_S1x1024x256_7_0_0)) (ix2 r j) = dhBlk x0 x1 (ix2 r j) := by
  show _ = ∑ q : Fin 8, ∑ e : Fin 256, x0 (ix2 r (col q e)) * x1 (ix3 q j e)
  rw [Fin.sum_univ_eight]
  simp only [col0, col1, col2, col3, col4, col5, col6, col7]
  pointwise [k0_pay5, k0_pay6]

section
variable (c : Dev nD) (i : grid0.Coords) (arg1 : Memref sig .tc .vmem S1024x2048 .bf16) (harg1 : arg1.IsWhole) (arg2 : Memref sig .tc .vmem S8x1024x256 .bf16) (harg2 : arg2.IsWhole) (arg3 : Memref sig .tc .vmem S1024x1024 .f32) (harg3 : arg3.IsWhole) (arg4 : Memref sig .tc .vmem S1024x1024 .f32) (harg4 : arg4.IsWhole) (arg5 : Memref sig .tc .vmem S1x1024 .f32) (harg5 : arg5.IsWhole) (arg6 : Memref sig .tc .vmem S1024x1024 .f32) (harg6 : arg6.IsWhole) (arg7 : Memref sig .tc .vmem S1024x1024 .bf16) (harg7 : arg7.IsWhole) (arg8 : Memref sig .tc .vmem S1x1024 .f32) (harg8 : arg8.IsWhole)
    (x0 : Vec Ideal S1024x2048 .bf16) (x1 : Vec Ideal S8x1024x256 .bf16) (x2 x3 : Vec Ideal S1024x1024 .f32) (x4 : Vec Ideal S1x1024 .f32) (o : Vec Ideal S1x1024 .f32)

theorem out_A5 (hc0 : cond0_0 i) :
    out0_A_5 c i arg1 harg1 arg2 harg2 arg3 harg3 arg4 harg4 arg5 harg5 arg6 harg6 arg7 harg7 arg8 harg8 hc0 x0 x1 x2 x3 x4 = dxBlk x0 x1 x2 x3 x4 := by
  unfold out0_A_5
  rw [View.read_writes_eq_canon _ _ _ (cover0_A_5 c i arg1 harg1 arg2 harg2 arg3 harg3 arg4 harg4 arg5 harg5 arg6 harg6 arg7 harg7 arg8 harg8 hc0 x0 x1 x2 x3 x4)]
  unfold kernelRun0_A
  dsimp only
  sl_unfold_words
  simp (disch := decide) only [↓View.readCov_skip, ↓View.readCov_fill, View.readAt_eq_ld, harg1.read_unread, harg2.read_unread, harg3.read_unread, harg4.read_unread, harg5.read_unread, harg6.read_unread, harg7.read_unread, harg8.read_unread]
  apply Blocks.whole2
  intro r j
  pointwise [k0_pay2, k0_pay1, k0_pay7, k0_pay8, k0_pay9, k0_pay11]
  simp only [prod_apply, Finset.univ_unique, Finset.sum_singleton]
  rfl

theorem out_A6 (hc0 : cond0_0 i) :
    out0_A_6 c i arg1 harg1 arg2 harg2 arg3 harg3 arg4 harg4 arg5 harg5 arg6 harg6 arg7 harg7 arg8 harg8 hc0 x0 x1 x2 x3 x4 = dxBlk x0 x1 x2 x3 x4 := by
  unfold out0_A_6
  rw [View.read_writes_eq_canon _ _ _ (cover0_A_6 c i arg1 harg1 arg2 harg2 arg3 harg3 arg4 harg4 arg5 harg5 arg6 harg6 arg7 harg7 arg8 harg8 hc0 x0 x1 x2 x3 x4)]
  unfold kernelRun0_A
  dsimp only
  sl_unfold_words
  simp (disch := decide) only [↓View.readCov_skip, ↓View.readCov_fill, View.readAt_eq_ld, harg1.read_unread, harg2.read_unread, harg3.read_unread, harg4.read_unread, harg5.read_unread, harg6.read_unread, harg7.read_unread, harg8.read_unread]
  apply Blocks.whole2
  intro r j
  pointwise [k0_pay2, k0_pay1, k0_pay7, k0_pay8, k0_pay9, k0_pay11]
  simp only [prod_apply, Finset.univ_unique, Finset.sum_singleton]
  rfl

theorem out_B5 (hc0 : ¬cond0_0 i) :
    out0_B_5 c i arg1 harg1 arg2 harg2 arg3 harg3 arg4 harg4 arg5 harg5 arg6 harg6 arg7 harg7 arg8 harg8 hc0 x0 x1 x2 x3 x4 o = dxBlk x0 x1 x2 x3 x4 := by
  unfold out0_B_5
  rw [View.read_writes_eq_canon _ _ _ (cover0_B_5 c i arg1 harg1 arg2 harg2 arg3 harg3 arg4 harg4 arg5 harg5 arg6 harg6 arg7 harg7 arg8 harg8 hc0 x0 x1 x2 x3 x4 o)]
  unfold kernelRun0_B
  dsimp only
  sl_unfold_words
  simp (disch := decide) only [↓View.readCov_skip, ↓View.readCov_fill, View.readAt_eq_ld, harg1.read_unread, harg2.read_unread, harg3.read_unread, harg4.read_unread, harg5.read_unread, harg6.read_unread, harg7.read_unread, harg8.read_unread]
  apply Blocks.whole2
  intro r j
  pointwise [k0_pay2, k0_pay1, k0_pay7, k0_pay8, k0_pay9, k0_pay11]
  simp only [prod_apply, Finset.univ_unique, Finset.sum_singleton]
  rfl

theorem out_B6 (hc0 : ¬cond0_0 i) :
    out0_B_6 c i arg1 harg1 arg2 harg2 arg3 harg3 arg4 harg4 arg5 harg5 arg6 harg6 arg7 harg7 arg8 harg8 hc0 x0 x1 x2 x3 x4 o = dxBlk x0 x1 x2 x3 x4 := by
  unfold out0_B_6
  rw [View.read_writes_eq_canon _ _ _ (cover0_B_6 c i arg1 harg1 arg2 harg2 arg3 harg3 arg4 harg4 arg5 harg5 arg6 harg6 arg7 harg7 arg8 harg8 hc0 x0 x1 x2 x3 x4 o)]
  unfold kernelRun0_B
  dsimp only
  sl_unfold_words
  simp (disch := decide) only [↓View.readCov_skip, ↓View.readCov_fill, View.readAt_eq_ld, harg1.read_unread, harg2.read_unread, harg3.read_unread, harg4.read_unread, harg5.read_unread, harg6.read_unread, harg7.read_unread, harg8.read_unread]
  apply Blocks.whole2
  intro r j
  pointwise [k0_pay2, k0_pay1, k0_pay7, k0_pay8, k0_pay9, k0_pay11]
  simp only [prod_apply, Finset.univ_unique, Finset.sum_singleton]
  rfl

theorem out_A7 (hc0 : cond0_0 i) :
    out0_A_7 c i arg1 harg1 arg2 harg2 arg3 harg3 arg4 harg4 arg5 harg5 arg6 harg6 arg7 harg7 arg8 harg8 hc0 x0 x1 x2 x3 x4 = dgBlk x0 x1 x2 := by
  unfold out0_A_7
  rw [View.read_writes_eq_canon _ _ _ (cover0_A_7 c i arg1 harg1 arg2 harg2 arg3 harg3 arg4 harg4 arg5 harg5 arg6 harg6 arg7 harg7 arg8 harg8 hc0 x0 x1 x2 x3 x4)]
  unfold kernelRun0_A
  dsimp only
  sl_unfold_words
  simp (disch := decide) only [↓View.readCov_skip, ↓View.readCov_fill, View.readAt_eq_ld, harg1.read_unread, harg2.read_unread, harg3.read_unread, harg4.read_unread, harg5.read_unread, harg6.read_unread, harg7.read_unread, harg8.read_unread]
  apply Blocks.whole2
  intro r j
  obtain rfl : r = 0 := Fin.ext (by omega)
  pointwise [k0_pay3, k0_pay4, k0_pay7, k0_pay8, k0_pay10]
  simp only [prod_apply]
  rfl

theorem out_B7 (hc0 : ¬cond0_0 i) :
    out0_B_7 c i arg1 harg1 arg2 harg2 arg3 harg3 arg4 harg4 arg5 harg5 arg6 harg6 arg7 harg7 arg8 harg8 hc0 x0 x1 x2 x3 x4 o = fun y => o y + dgBlk x0 x1 x2 y := by
  unfold out0_B_7
  rw [View.read_writes_eq_canon _ _ _ (cover0_B_7 c i arg1 harg1 arg2 harg2 arg3 harg3 arg4 harg4 arg5 harg5 arg6 harg6 arg7 harg7 arg8 harg8 hc0 x0 x1 x2 x3 x4 o)]
  unfold kernelRun0_B
  dsimp only
  sl_unfold_words
  simp (disch := decide) only [↓View.readCov_skip, ↓View.readCov_fill, View.readAt_eq_ld, harg1.read_unread, harg2.read_unread, harg3.read_unread, harg4.read_unread, harg5.read_unread, harg6.read_unread, harg7.read_unread, harg8.read_unread]
  apply Blocks.whole2
  intro r j
  obtain rfl : r = 0 := Fin.ext (by omega)
  pointwise [k0_pay3, k0_pay4, k0_pay7, k0_pay8, k0_pay10]
  simp only [prod_apply]
  rfl

end

variable (m : (ℓ : Loc nD τ sig) → Buf (Elt Ideal) ℓ)

/-- The five arrays the region reads: the gated layer's cotangent, the weight in column blocks, the residual stream, its
cotangent from above and the norm's gain. -/
abbrev aDa (c : Dev nD) : Vec Ideal S8192x2048 .bf16 := V m c main_arg0
abbrev aW (c : Dev nD) : Vec Ideal S8x1024x256 .bf16 := V m c main_v2
abbrev aX (c : Dev nD) : Vec Ideal S8192x1024 .f32 := V m c main_arg2
abbrev aDr (c : Dev nD) : Vec Ideal S8192x1024 .f32 := V m c main_arg3
abbrev aG (c : Dev nD) : Vec Ideal S1x1024 .f32 := V m c main_v3

/-- The weight cut into column blocks. -/
def colBlocks (w : FVec Ideal S1024x2048 .f32) : FVec Ideal S8x1024x256 .bf16 :=
  transpose S8x1024x256 [1, 0, 2] (shapeCast S1024x8x256 (truncf .bf16 w bitsLt_bf16_f32) shapeCasts_S1024x2048_S1024x8x256) transposes_S1024x8x256_S8x1024x256_1_0_2

theorem colBlocks_apply (w : FVec Ideal S1024x2048 .f32) (q : Fin 8) (k : Fin 1024) (e : Fin 256) : colBlocks w (ix3 q k e) = w (ix2 k (col q e)) := by
  pointwise [colBlocks]
  exact congrArg w (congrArg (ix2 k) (Fin.ext (by show q.val * 256 + e.val = 256 * q.val + e.val; omega)))

/-- A vector as one row. -/
def asRow (g : FVec Ideal S1024 .f32) : FVec Ideal S1x1024 .f32 := shapeCast S1x1024 g shapeCasts_S1024_S1x1024

theorem asRow_apply (g : FVec Ideal S1024 .f32) (j : Fin 1024) : asRow g (ix2 0 j) = g (ix1 j) := by
  pointwise [asRow]

theorem aW_eq (c : Dev nD) : aW m c = colBlocks (m ((c.tc : Thread nD τ).loc main_arg1)) := by
  show StableHlo.after hostOps0 (fun b => m (c, b)) (Proc.devRef .tc main_v2) = _
  simp only [hostOps0, StableHlo.TRef.binary, StableHlo.TRef.nullary, StableHlo.TRef.ternary, StableHlo.TRef.unary, StableHlo.TRef.toBuf, StableHlo.TRef.ofBuf, cast_eq]
  after_results_simp
  rfl

theorem aG_eq (c : Dev nD) : aG m c = asRow (m ((c.tc : Thread nD τ).loc main_arg4)) := by
  show StableHlo.after hostOps0 (fun b => m (c, b)) (Proc.devRef .tc main_v3) = _
  simp only [hostOps0, StableHlo.TRef.binary, StableHlo.TRef.nullary, StableHlo.TRef.ternary, StableHlo.TRef.unary, StableHlo.TRef.toBuf, StableHlo.TRef.ofBuf, cast_eq]
  after_results_simp
  rfl

/-- The rows of chunk `s` of an array of 8192 rows. -/
def chunk {n : Nat} {e : EltTy} (X : (⟨2, ![8192, n]⟩ : Shape).Idx → Elt Ideal e) (s : Nat) : (⟨2, ![1024, n]⟩ : Shape).Idx → Elt Ideal e :=
  fun y => X (ix2 ⟨(1024 * s + (y 0).val) % 8192, Nat.mod_lt _ (by decide)⟩ (y 1))

theorem lt8 (t : Fin cfg0.N) : t.val < 8 := lt_of_lt_of_eq t.isLt N_0

theorem index0 : ∀ t : Fin grid0.N, win0_0.index t 0 = t.val ∧ win0_0.index t 1 = 0 := by decide +kernel
theorem index1 : ∀ t : Fin grid0.N, win0_1.index t 0 = 0 ∧ win0_1.index t 1 = 0 ∧ win0_1.index t 2 = 0 := by decide +kernel
theorem index2 : ∀ t : Fin grid0.N, win0_2.index t 0 = t.val ∧ win0_2.index t 1 = 0 := by decide +kernel
theorem index3 : ∀ t : Fin grid0.N, win0_3.index t 0 = t.val ∧ win0_3.index t 1 = 0 := by decide +kernel
theorem index4 : ∀ t : Fin grid0.N, win0_4.index t 0 = 0 ∧ win0_4.index t 1 = 0 := by decide +kernel
theorem index5 : ∀ t : Fin grid0.N, win0_5.index t 0 = t.val ∧ win0_5.index t 1 = 0 := by decide +kernel
theorem index6 : ∀ t : Fin grid0.N, win0_6.index t 0 = t.val ∧ win0_6.index t 1 = 0 := by decide +kernel
theorem index7 : ∀ t : Fin grid0.N, win0_7.index t 0 = 0 ∧ win0_7.index t 1 = 0 := by decide +kernel

/-- Point `t` reads chunk `t` of the gated layer's cotangent, -/
theorem iblk0 (c : Dev nD) (t : Fin cfg0.N) : (iblk m c 0 t : Vec Ideal S1024x2048 .bf16) = chunk (aDa m c) t.val := by
  funext j
  unfold iblk
  rw [View.read_apply]
  exact congrArg (aDa m c) (Rows.eq_row (index0 t).1 (index0 t).2 (by have := lt8 t; omega) rfl rfl)

/-- the whole weight, -/
theorem iblk1 (c : Dev nD) (t : Fin cfg0.N) : (iblk m c 1 t : Vec Ideal S8x1024x256 .bf16) = aW m c := by
  funext j
  unfold iblk
  rw [View.read_apply]
  exact congrArg (aW m c) (Rows.eq_whole3 (index1 t).1 (index1 t).2.1 (index1 t).2.2 rfl rfl rfl)

/-- chunk `t` of the stream -/
theorem iblk2 (c : Dev nD) (t : Fin cfg0.N) : (iblk m c 2 t : Vec Ideal S1024x1024 .f32) = chunk (aX m c) t.val := by
  funext j
  unfold iblk
  rw [View.read_apply]
  exact congrArg (aX m c) (Rows.eq_row (index2 t).1 (index2 t).2 (by have := lt8 t; omega) rfl rfl)

/-- and of its cotangent, -/
theorem iblk3 (c : Dev nD) (t : Fin cfg0.N) : (iblk m c 3 t : Vec Ideal S1024x1024 .f32) = chunk (aDr m c) t.val := by
  funext j
  unfold iblk
  rw [View.read_apply]
  exact congrArg (aDr m c) (Rows.eq_row (index3 t).1 (index3 t).2 (by have := lt8 t; omega) rfl rfl)

/-- and the gain. -/
theorem iblk4 (c : Dev nD) (t : Fin cfg0.N) : (iblk m c 4 t : Vec Ideal S1x1024 .f32) = aG m c := by
  funext j
  unfold iblk
  rw [View.read_apply]
  exact congrArg (aG m c) (Rows.eq_whole (index4 t).1 (index4 t).2 rfl rfl)

/-- Chunk `t`'s part of the stream's cotangent. -/
def dxAt (c : Dev nD) (t : Nat) : Vec Ideal S1024x1024 .f32 := dxBlk (chunk (aDa m c) t) (aW m c) (chunk (aX m c) t) (chunk (aDr m c) t) (aG m c)

/-- The first `n` chunks' part of the gain's. -/
def part (c : Dev nD) (n : Nat) : Vec Ideal S1x1024 .f32 := fun y =>
  ∑ k ∈ Finset.range n, dgBlk (chunk (aDa m c) k) (aW m c) (chunk (aX m c) k) y

/-- What the first two outputs' blocks hold after point `t`, -/
theorem outsAt_dx (c : Dev nD) (t : Fin cfg0.N) : (outsAt0 m c t.val t.isLt).1 = dxAt m c t.val := by
  by_cases h0 : t.val % 8 = 0
  · rw [outsAt0_A m c t h0]
    dsimp only
    rw [out_A5, iblk0, iblk1, iblk2, iblk3, iblk4]
    rfl
  · rw [outsAt0_B m c t h0]
    dsimp only
    rw [out_B5, iblk0, iblk1, iblk2, iblk3, iblk4]
    rfl

theorem outsAt_dxb (c : Dev nD) (t : Fin cfg0.N) : (outsAt0 m c t.val t.isLt).2.1 = dxAt m c t.val := by
  by_cases h0 : t.val % 8 = 0
  · rw [outsAt0_A m c t h0]
    dsimp only
    rw [out_A6, iblk0, iblk1, iblk2, iblk3, iblk4]
    rfl
  · rw [outsAt0_B m c t h0]
    dsimp only
    rw [out_B6, iblk0, iblk1, iblk2, iblk3, iblk4]
    rfl

/-- and what the third's does: the gain's cotangent so far. -/
theorem outsAt_dg (c : Dev nD) : ∀ (n : ℕ) (h : n < cfg0.N), (outsAt0 m c n h).2.2 = part m c (n + 1)
  | 0, h => by
    rw [outsAt0_A m c ⟨0, h⟩ rfl]
    dsimp only
    rw [out_A7, iblk0, iblk1, iblk2]
    funext y
    simp only [part, Nat.zero_add, Finset.sum_range_one]
  | n + 1, h => by
    have ht := lt8 ⟨n + 1, h⟩
    dsimp only at ht
    have h0 : ¬(n + 1) % 8 = 0 := by omega
    rw [outsAt0_B m c ⟨n + 1, h⟩ h0]
    dsimp only
    rw [out_B7, iblk0, iblk1, iblk2]
    funext y
    show (outsAt0 m c n _).2.2 y + _ = _
    rw [outsAt_dg c n]
    simp only [part, Finset.sum_range_succ]

/-- The residual stream's cotangent, -/
def gX (c : Dev nD) : Vec Ideal S8192x1024 .f32 := fun i =>
  dxAt m c ((i 0).val / 1024) (ix2 ⟨(i 0).val % 1024, Nat.mod_lt _ (by decide)⟩ (i 1))

/-- Point `t` writes its 1024 rows of it, -/
theorem flushed5 (c : Dev nD) (t : Fin cfg0.N) :
    (dats m 0 c).flushed 5 t = ((cfg0.win 5).blk t).view.read (Elt Ideal) (gX m c) := by
  have ht := lt8 t
  rw [Value.flushed5, outsAt_dx]
  funext j
  rw [View.read_apply]
  exact Rows.at_chunk (fun s => dxAt m c s) t.val j (by decide) (index5 t).1 (index5 t).2 rfl rfl

/-- so the output ends holding it. -/
theorem final5 (c : Dev nD) : (dats m 0 c).arrAt 5 cfg0.N = gX m c :=
  (dats m 0 c).arrAt_eq_of_cover 5 (gX m c) (fun t _ => flushed5 m c t) ((by decide +kernel : (cfg0.win 5).Covers).cover _ (Memref.isWhole_whole _))

/-- narrowed, -/
def gXb (c : Dev nD) : Vec Ideal S8192x1024 .bf16 := fun i =>
  dxAt m c ((i 0).val / 1024) (ix2 ⟨(i 0).val % 1024, Nat.mod_lt _ (by decide)⟩ (i 1))

/-- Point `t` writes its 1024 rows of it, -/
theorem flushed6 (c : Dev nD) (t : Fin cfg0.N) :
    (dats m 0 c).flushed 6 t = ((cfg0.win 6).blk t).view.read (Elt Ideal) (gXb m c) := by
  have ht := lt8 t
  rw [Value.flushed6, outsAt_dxb]
  funext j
  rw [View.read_apply]
  exact Rows.at_chunk (fun s => dxAt m c s) t.val j (by decide) (index6 t).1 (index6 t).2 rfl rfl

/-- so the output ends holding it. -/
theorem final6 (c : Dev nD) : (dats m 0 c).arrAt 6 cfg0.N = gXb m c :=
  (dats m 0 c).arrAt_eq_of_cover 6 (gXb m c) (fun t _ => flushed6 m c t) ((by decide +kernel : (cfg0.win 6).Covers).cover _ (Memref.isWhole_whole _))

/-- The last point writes the gain's cotangent. -/
theorem flushed7 (c : Dev nD) (t : Fin cfg0.N) (hf : (cfg0.win 7).flush t = true) :
    (dats m 0 c).flushed 7 t = ((cfg0.win 7).blk t).view.read (Elt Ideal) (part m c 8) := by
  have ht := lt8 t
  have hl : t.val % 8 = 7 := (flush0_7 t).mp hf
  rw [Value.flushed7, outsAt_dg, show t.val + 1 = 8 by omega]
  funext j
  rw [View.read_apply]
  have e : ((cfg0.win 7).blk t).view.emb j = (j : S1x1024.Idx) := by
    funext a
    apply Fin.ext
    match a with
    | ⟨0, _⟩ => show win0_7.index t 0 * 1 + 1 * (j 0).val = (j 0).val; rw [(index7 t).1]; omega
    | ⟨1, _⟩ => show win0_7.index t 1 * 1024 + 1 * (j 1).val = (j 1).val; rw [(index7 t).2]; omega
  rw [e]
  rfl

theorem final7 (c : Dev nD) : (dats m 0 c).arrAt 7 cfg0.N = part m c 8 :=
  (dats m 0 c).arrAt_eq_of_cover 7 (part m c 8) (flushed7 m c) ((by decide +kernel : (cfg0.win 7).Covers).cover _ (Memref.isWhole_whole _))

/-- A chunk's row of the norm's cotangent is the reference's: the eight column blocks' sums are the sum. -/
theorem dhBlk_eq (c : Dev nD) (t : Nat) (r : Fin 1024) (i : Fin 8192) (hi : i.val = 1024 * t + r.val) (j : Fin 1024) :
    dhBlk (chunk (aDa m c) t) (aW m c) (ix2 r j) = rDh (aDa m c) (m ((c.tc : Thread nD τ).loc main_arg1)) (ix2 i j) := by
  rw [rDh_apply, aW_eq]
  show (∑ q : Fin 8, ∑ e : Fin 256, aDa m c (ix2 ⟨(1024 * t + r.val) % 8192, _⟩ (col q e)) * colBlocks _ (ix3 q j e)) = _
  refine Fin.sum_mul_add_congr (fun q e hl => ?_)
  rw [colBlocks_apply]
  refine congrArg₂ (fun p q : EReal => p * q) (congrArg (aDa m c) (congrArg₂ ix2 (Fin.ext ?_) (Fin.ext ?_))) (congrArg (m ((c.tc : Thread nD τ).loc main_arg1) : S1024x2048.Idx → EReal) (congrArg₂ ix2 rfl (Fin.ext ?_)))
  · show (1024 * t + r.val) % 8192 = i.val; omega
  · show 256 * q.val + e.val = q.val * 256 + e.val; omega
  · show 256 * q.val + e.val = q.val * 256 + e.val; omega

theorem chunk_row {n : Nat} {e : EltTy} (X : (⟨2, ![8192, n]⟩ : Shape).Idx → Elt Ideal e) (t : Nat) (r : Fin 1024) (i : Fin 8192) (hi : i.val = 1024 * t + r.val) (k : Fin n) :
    chunk X t (ix2 r k) = X (ix2 i k) :=
  congrArg X (congrArg (fun p => (ix2 p k : (⟨2, ![8192, n]⟩ : Shape).Idx)) (Fin.ext (by show (1024 * t + r.val) % 8192 = i.val; omega)))

/-- The stream's cotangent is the reference's, -/
theorem dx_eq (c : Dev nD) (i : Fin 8192) (j : Fin 1024) :
    dxAt m c (i.val / 1024) (ix2 ⟨i.val % 1024, Nat.mod_lt _ (by decide)⟩ j) =
      rDx (aDr m c) (aX m c) (rDn (rDh (aDa m c) (m ((c.tc : Thread nD τ).loc main_arg1))) (m ((c.tc : Thread nD τ).loc main_arg4))) (ix2 i j) := by
  have hi : i.val = 1024 * (i.val / 1024) + (⟨i.val % 1024, Nat.mod_lt _ (by decide)⟩ : Fin 1024).val := by show i.val = 1024 * (i.val / 1024) + i.val % 1024; omega
  generalize (⟨i.val % 1024, Nat.mod_lt _ (by decide)⟩ : Fin 1024) = r at hi ⊢
  generalize i.val / 1024 = t at hi ⊢
  rw [rDx_apply]
  simp only [rDn_apply]
  show dhBlk (chunk (aDa m c) t) (aW m c) (ix2 r j) * aG m c (ix2 0 j) * Ideal.rsqrt (msq (fun k => chunk (aX m c) t (ix2 r k)))
    + chunk (aX m c) t (ix2 r j) * slope (fun k => chunk (aX m c) t (ix2 r k)) (fun k => dhBlk (chunk (aDa m c) t) (aW m c) (ix2 r k) * aG m c (ix2 0 k))
    + slope (fun k => chunk (aX m c) t (ix2 r k)) (fun k => dhBlk (chunk (aDa m c) t) (aW m c) (ix2 r k) * aG m c (ix2 0 k)) * chunk (aX m c) t (ix2 r j)
    + chunk (aDr m c) t (ix2 r j) = _
  have eg : ∀ k, aG m c (ix2 0 k) = (m ((c.tc : Thread nD τ).loc main_arg4) : S1024.Idx → EReal) (ix1 k) := fun k => by
    rw [aG_eq]
    exact asRow_apply _ k
  simp only [chunk_row _ t r i hi, dhBlk_eq m c t r i hi, eg]
  rw [add_comm, ← add_assoc, ← add_assoc]

/-- and so is the gain's. -/
theorem dg_eq (c : Dev nD) : part m c 8 = rDg (aX m c) (rDh (aDa m c) (m ((c.tc : Thread nD τ).loc main_arg1))) := by
  suffices hs : ∀ (z : Fin 1) (j : Fin 1024), part m c 8 (ix2 z j) = rDg (aX m c) (rDh (aDa m c) (m ((c.tc : Thread nD τ).loc main_arg1))) (ix2 z j) by
    funext y
    rw [eq_ix2 y]
    exact hs _ _
  intro z j
  obtain rfl : z = 0 := Fin.ext (by omega)
  rw [rDg_apply]
  show ∑ k ∈ Finset.range 8, ∑ r : Fin 1024, chunk (aX m c) k (ix2 r j) * Ideal.rsqrt (msq (fun l => chunk (aX m c) k (ix2 r l))) * dhBlk (chunk (aDa m c) k) (aW m c) (ix2 r j) = _
  rw [Finset.sum_range]
  refine Fin.sum_mul_add_congr (fun k r hl => ?_)
  have hi : (⟨k.val * 1024 + r.val, hl⟩ : Fin 8192).val = 1024 * k.val + r.val := by show k.val * 1024 + r.val = 1024 * k.val + r.val; omega
  simp only [chunk_row _ k.val r ⟨k.val * 1024 + r.val, hl⟩ hi, dhBlk_eq m c k.val r ⟨k.val * 1024 + r.val, hl⟩ hi]

theorem gX_eq (c : Dev nD) : gX m c = rDx (aDr m c) (aX m c) (rDn (rDh (aDa m c) (m ((c.tc : Thread nD τ).loc main_arg1))) (m ((c.tc : Thread nD τ).loc main_arg4))) := by
  suffices hs : ∀ (i : Fin 8192) (j : Fin 1024), gX m c (ix2 i j) = rDx (aDr m c) (aX m c) (rDn (rDh (aDa m c) (m ((c.tc : Thread nD τ).loc main_arg1))) (m ((c.tc : Thread nD τ).loc main_arg4))) (ix2 i j) by
    funext y
    rw [eq_ix2 y]
    exact hs _ _
  exact fun i j => dx_eq m c i j

/-- The kernel's run ends with the reference's three results. -/
theorem run (ρ : Dev nD → PrngReg) :
    θ_run defs (onTc (τ := τ) (main (F := Ideal))) ⟨m, fun _ => 0, ρ⟩ fun r => ∀ c : Dev nD,
      r.2.mem ((c.tc : Thread nD τ).loc main_v4_0) = rDx (m ((c.tc : Thread nD τ).loc main_arg3)) (m ((c.tc : Thread nD τ).loc main_arg2)) (rDn (rDh (m ((c.tc : Thread nD τ).loc main_arg0)) (m ((c.tc : Thread nD τ).loc main_arg1))) (m ((c.tc : Thread nD τ).loc main_arg4))) ∧
      r.2.mem ((c.tc : Thread nD τ).loc main_v4_1) = rDx (m ((c.tc : Thread nD τ).loc main_arg3)) (m ((c.tc : Thread nD τ).loc main_arg2)) (rDn (rDh (m ((c.tc : Thread nD τ).loc main_arg0)) (m ((c.tc : Thread nD τ).loc main_arg1))) (m ((c.tc : Thread nD τ).loc main_arg4))) ∧
      r.2.mem ((c.tc : Thread nD τ).loc main_v4_2) = rDg (m ((c.tc : Thread nD τ).loc main_arg2)) (rDh (m ((c.tc : Thread nD τ).loc main_arg0)) (m ((c.tc : Thread nD τ).loc main_arg1))) :=
  (θ_run defs _ _).mono (fun _ h c => by
    have e0 : aDa m c = _ := V_main_arg0 m c
    have e2 : aX m c = _ := V_main_arg2 m c
    have e3 : aDr m c = _ := V_main_arg3 m c
    have ex : gX m c = rDx (m ((c.tc : Thread nD τ).loc main_arg3)) (m ((c.tc : Thread nD τ).loc main_arg2)) (rDn (rDh (m ((c.tc : Thread nD τ).loc main_arg0)) (m ((c.tc : Thread nD τ).loc main_arg1))) (m ((c.tc : Thread nD τ).loc main_arg4))) := by rw [gX_eq, e0, e2, e3]
    have eg : part m c 8 = rDg (m ((c.tc : Thread nD τ).loc main_arg2)) (rDh (m ((c.tc : Thread nD τ).loc main_arg0)) (m ((c.tc : Thread nD τ).loc main_arg1))) := by rw [dg_eq, e0, e2]
    exact ⟨(h c).1.trans ((final5 m c).trans ex), (h c).2.1.trans ((final6 m c).trans ex), (h c).2.2.1.trans ((final7 m c).trans eg)⟩) (Value.run_blocks m ρ)

end Cert.Kernel8Ideal.Bwd
-- ==== Proof.MixInWg.lean ====
module

public import proofs.«01_k».proof.Proof.Gen.Kernel9Ideal.Value
public import proofs.«01_k».proof.Proof.Gen.Reference9Ideal.Run
public import Idealize.ShloMosaic.Lib.Pipeline.Value
public import Idealize.ShloMosaic.Lib.Pipeline.ReadBack
public import Idealize.ShloMosaic.Lib.Pipeline.ValueKit.Acc
public import Idealize.ShloMosaic.Lib.Pointwise
public import proofs.«01_k».proof.Proof.Blocks
public import proofs.«01_k».proof.Proof.Rows

/-! The gradient of the mixer's first weight, by column blocks: the kernel adds, over eight blocks of 1024 rows, the
products of the transposed input's block and eight column blocks of the cotangent; the sum over all 8192 rows is the
reference's one product. -/

@[expose] public section

set_option maxRecDepth 16384

noncomputable section

namespace Cert.Kernel9Ideal.Wg

open Cert.Kernel9Ideal Cert.Kernel9Ideal.Gen Idealize.ShloMosaic Idealize.ShloMosaic.TcCoe Idealize.SL.Sem
open Idealize.ShloMosaic.Pipeline (Dat)

/-- Column `e` of block `q` among eight. -/
def col (q : Fin 8) (e : Fin 256) : Fin 2048 := ⟨256 * q.val + e.val, by omega⟩

theorem col0 (e : Fin 256) : col 0 e = ⟨e.val, by omega⟩ := Fin.ext (Nat.zero_add _)
theorem col1 (e : Fin 256) : col 1 e = ⟨256 + e.val, by omega⟩ := rfl
theorem col2 (e : Fin 256) : col 2 e = ⟨512 + e.val, by omega⟩ := rfl
theorem col3 (e : Fin 256) : col 3 e = ⟨768 + e.val, by omega⟩ := rfl
theorem col4 (e : Fin 256) : col 4 e = ⟨1024 + e.val, by omega⟩ := rfl
theorem col5 (e : Fin 256) : col 5 e = ⟨1280 + e.val, by omega⟩ := rfl
theorem col6 (e : Fin 256) : col 6 e = ⟨1536 + e.val, by omega⟩ := rfl
theorem col7 (e : Fin 256) : col 7 e = ⟨1792 + e.val, by omega⟩ := rfl

/-- The products of a block's transposed input and its cotangents' eight column blocks. -/
def wgBlk (a : Vec Ideal S1024x1024 .bf16) (g : Vec Ideal S1024x2048 .bf16) : Vec Ideal S8x1024x256 .f32 := fun y =>
  ∑ r : Fin 1024, a (ix2 r (y 1)) * g (ix2 r (col (y 0) (y 2)))

section
variable (c : Dev nD) (i : grid0.Coords) (arg3 : Memref sig .tc .vmem S1024x1024 .bf16) (harg3 : arg3.IsWhole) (arg4 : Memref sig .tc .vmem S1024x2048 .bf16) (harg4 : arg4.IsWhole) (arg5 : Memref sig .tc .vmem S8x1024x256 .f32) (harg5 : arg5.IsWhole) (arg6 : Memref sig .tc .vmem S8x1024x256 .bf16) (harg6 : arg6.IsWhole)
    (x0 : Vec Ideal S1024x1024 .bf16) (x1 : Vec Ideal S1024x2048 .bf16) (o : Vec Ideal S8x1024x256 .f32)

/-- The first point of a column block starts the sums at its products, -/
theorem out_A (hc0 : cond0_0 i) (hc1 : ¬cond0_1 i) :
    out0_A_2 c i arg3 harg3 arg4 harg4 arg5 harg5 arg6 harg6 hc0 hc1 x0 x1 = wgBlk x0 x1 := by
  unfold out0_A_2
  rw [View.read_writes_eq_canon _ _ _ (cover0_A_2 c i arg3 harg3 arg4 harg4 arg5 harg5 arg6 harg6 hc0 hc1 x0 x1)]
  unfold kernelRun0_A
  dsimp only
  sl_unfold_words
  simp (disch := decide) only [↓View.readCov_skip, ↓View.readCov_fill, View.readAt_eq_ld, harg3.read_unread, harg4.read_unread, harg5.read_unread, harg6.read_unread]
  apply Blocks.eight
  all_goals intro r e; pointwise [k0_pay1, k0_pay2, k0_pay4, k0_pay5, k0_pay6, k0_pay7, k0_pay8, k0_pay9, k0_pay10, k0_pay11, k0_pay12, wgBlk]
  all_goals simp only [col0, col1, col2, col3, col4, col5, col6, col7]

/-- a later one adds its own, -/
theorem out_B (hc0 : ¬cond0_0 i) (hc1 : ¬cond0_1 i) :
    out0_B_2 c i arg3 harg3 arg4 harg4 arg5 harg5 arg6 harg6 hc0 hc1 x0 x1 o = fun y => o y + wgBlk x0 x1 y := by
  unfold out0_B_2
  rw [View.read_writes_eq_canon _ _ _ (cover0_B_2 c i arg3 harg3 arg4 harg4 arg5 harg5 arg6 harg6 hc0 hc1 x0 x1 o)]
  unfold kernelRun0_B
  dsimp only
  sl_unfold_words
  simp (disch := decide) only [↓View.readCov_skip, ↓View.readCov_fill, View.readAt_eq_ld, harg3.read_unread, harg4.read_unread, harg5.read_unread, harg6.read_unread]
  apply Blocks.eight
  all_goals intro r e; pointwise [k0_pay1, k0_pay2, k0_pay4, k0_pay5, k0_pay6, k0_pay7, k0_pay8, k0_pay9, k0_pay10, k0_pay11, k0_pay12, wgBlk]
  all_goals simp only [col0, col1, col2, col3, col4, col5, col6, col7]

/-- and so does the last, -/
theorem out_C (hc0 : ¬cond0_0 i) (hc1 : cond0_1 i) :
    out0_C_2 c i arg3 harg3 arg4 harg4 arg5 harg5 arg6 harg6 hc0 hc1 x0 x1 o = fun y => o y + wgBlk x0 x1 y := by
  unfold out0_C_2
  rw [View.read_writes_eq_canon _ _ _ (cover0_C_2 c i arg3 harg3 arg4 harg4 arg5 harg5 arg6 harg6 hc0 hc1 x0 x1 o)]
  unfold kernelRun0_C
  dsimp only
  sl_unfold_words
  simp (disch := decide) only [↓View.readCov_skip, ↓View.readCov_fill, View.readAt_eq_ld, harg3.read_unread, harg4.read_unread, harg5.read_unread, harg6.read_unread]
  apply Blocks.eight
  all_goals intro r e; pointwise [k0_pay1, k0_pay2, k0_pay4, k0_pay5, k0_pay6, k0_pay7, k0_pay8, k0_pay9, k0_pay10, k0_pay11, k0_pay12, wgBlk]
  all_goals simp only [col0, col1, col2, col3, col4, col5, col6, col7]

/-- which also leaves the finished sum in the second output. -/
theorem out_C' (hc0 : ¬cond0_0 i) (hc1 : cond0_1 i) :
    out0_C_3 c i arg3 harg3 arg4 harg4 arg5 harg5 arg6 harg6 hc0 hc1 x0 x1 o = fun y => o y + wgBlk x0 x1 y := by
  unfold out0_C_3
  rw [View.read_writes_eq_canon _ _ _ (cover0_C_3 c i arg3 harg3 arg4 harg4 arg5 harg5 arg6 harg6 hc0 hc1 x0 x1 o)]
  unfold kernelRun0_C
  dsimp only
  sl_unfold_words
  simp (disch := decide) only [↓View.readCov_skip, ↓View.readCov_fill, View.readAt_eq_ld, harg3.read_unread, harg4.read_unread, harg5.read_unread, harg6.read_unread]
  apply Blocks.whole
  intro q r s
  pointwise [k0_pay3]
  rw [View.readCov_eq_canon', Blocks.eight (fun y => o y + wgBlk x0 x1 y)]
  · have e : (Rect.unit (s := S8x1024x256) ![0, 0, 0] ![8, 1024, 256] inb_S8x1024x256_S8x1024x256_0_0_0).toLoadRect.idx (ix3 q r s) = (ix3 q r s : S8x1024x256.Idx) := by
      funext a; apply Fin.ext
      match a with
      | ⟨0, _⟩ => show 0 + 1 * q.val = q.val; omega
      | ⟨1, _⟩ => show 0 + 1 * r.val = r.val; omega
      | ⟨2, _⟩ => show 0 + 1 * s.val = s.val; omega
    exact congrArg (fun y => o y + wgBlk x0 x1 y) e
  all_goals intro r e; pointwise [k0_pay1, k0_pay2, k0_pay4, k0_pay5, k0_pay6, k0_pay7, k0_pay8, k0_pay9, k0_pay10, k0_pay11, k0_pay12, wgBlk]
  all_goals simp only [col0, col1, col2, col3, col4, col5, col6, col7]

end

variable (m : (ℓ : Loc nD τ sig) → Buf (Elt Ideal) ℓ)

/-- The input and the cotangents, as the region finds them. -/
abbrev aX (c : Dev nD) : Vec Ideal S8192x1024 .bf16 := V m c main_arg0
abbrev aG (c : Dev nD) : Vec Ideal S8192x2048 .bf16 := V m c main_arg1

/-- Rows `1024 k …` of the input, -/
def blkX (X : Vec Ideal S8192x1024 .bf16) (k : Nat) : Vec Ideal S1024x1024 .bf16 := fun y =>
  X (ix2 ⟨(1024 * k + (y 0).val) % 8192, Nat.mod_lt _ (by decide)⟩ (y 1))

/-- and of columns `2048 i …` of the cotangents. -/
def blkG (X : Vec Ideal S8192x2048 .bf16) (i k : Nat) : Vec Ideal S1024x2048 .bf16 := fun y =>
  X (ix2 ⟨(1024 * k + (y 0).val) % 8192, Nat.mod_lt _ (by decide)⟩ ⟨(2048 * i + (y 1).val) % 2048, Nat.mod_lt _ (by decide)⟩)

theorem lt8 (t : Fin cfg0.N) : t.val < 8 := lt_of_lt_of_eq t.isLt N_0

theorem index0 : ∀ t : Fin grid0.N, win0_0.index t 0 = t.val % 8 ∧ win0_0.index t 1 = 0 := by decide +kernel
theorem index1 : ∀ t : Fin grid0.N, win0_1.index t 0 = t.val % 8 ∧ win0_1.index t 1 = t.val / 8 := by decide +kernel
theorem index2 : ∀ t : Fin grid0.N, win0_2.index t 0 = t.val / 8 ∧ win0_2.index t 1 = 0 ∧ win0_2.index t 2 = 0 := by decide +kernel
theorem index3 : ∀ t : Fin grid0.N, win0_3.index t 0 = t.val / 8 ∧ win0_3.index t 1 = 0 ∧ win0_3.index t 2 = 0 := by decide +kernel

/-- What point `t` reads of the input, -/
theorem iblk0 (c : Dev nD) (t : Fin cfg0.N) : (iblk m c 0 t : Vec Ideal S1024x1024 .bf16) = blkX (aX m c) (t.val % 8) := by
  funext j
  unfold iblk
  rw [View.read_apply]
  exact congrArg (aX m c) (Rows.eq_row (index0 t).1 (index0 t).2 (by have := lt8 t; omega) rfl rfl)

/-- and of the cotangents. -/
theorem iblk1 (c : Dev nD) (t : Fin cfg0.N) : (iblk m c 1 t : Vec Ideal S1024x2048 .bf16) = blkG (aG m c) (t.val / 8) (t.val % 8) := by
  have ht := lt8 t
  funext j
  unfold iblk
  rw [View.read_apply]
  show V m c main_arg1 _ = V m c main_arg1 _
  congr 1
  funext a
  apply Fin.ext
  have h0 : (j 0 : Nat) < 1024 := (j 0).isLt
  match a with
  | ⟨0, _⟩ => show win0_1.index t 0 * 1024 + 1 * (j 0).val = (1024 * (t.val % 8) + (j 0).val) % 8192; rw [(index1 t).1]; omega
  | ⟨1, _⟩ => have h1 : (j 1 : Nat) < 2048 := (j 1).isLt
              show win0_1.index t 1 * 2048 + 1 * (j 1).val = (2048 * (t.val / 8) + (j 1).val) % 2048; rw [(index1 t).2]; omega

/-- The sum over the first `n` row blocks for the eight column blocks. -/
def part (c : Dev nD) (i n : Nat) : Vec Ideal S8x1024x256 .f32 := fun y =>
  ∑ k ∈ Finset.range n, wgBlk (blkX (aX m c) k) (blkG (aG m c) i k) y

/-- What the first output's block holds after point `n`: the eight column blocks' sums so far; -/
theorem outsAt_fst (c : Dev nD) : ∀ (n : ℕ) (h : n < cfg0.N), (outsAt0 m c n h).1 = part m c (n / 8) (n % 8 + 1)
  | 0, h => by
    rw [outsAt0_A m c ⟨0, h⟩ rfl (by show ¬0 % 8 = 7; decide), out_A, iblk0, iblk1]
    funext y
    simp only [part, Nat.zero_mod, Nat.zero_div, Nat.zero_add, Finset.sum_range_one]
  | n + 1, h => by
    have ht := lt8 ⟨n + 1, h⟩
    dsimp only at ht
    by_cases h0 : (n + 1) % 8 = 0
    · have h1 : ¬(n + 1) % 8 = 7 := by omega
      rw [outsAt0_A m c ⟨n + 1, h⟩ h0 h1, out_A, iblk0, iblk1]
      funext y
      simp only [part, h0, Nat.zero_add, Finset.sum_range_one]
    · have e1 : n / 8 = (n + 1) / 8 := by omega
      have e2 : n % 8 + 1 = (n + 1) % 8 := by omega
      by_cases h1 : (n + 1) % 8 = 7
      · rw [outsAt0_C m c ⟨n + 1, h⟩ h0 h1, out_C, iblk0, iblk1]
        simp only [Nat.add_sub_cancel, outsAt_fst c n (Nat.lt_of_succ_lt h), e1, e2]
        funext y
        simp only [part, Finset.sum_range_succ _ ((n + 1) % 8)]
      · rw [outsAt0_B m c ⟨n + 1, h⟩ h0 h1, out_B, iblk0, iblk1]
        simp only [Nat.add_sub_cancel, outsAt_fst c n (Nat.lt_of_succ_lt h), e1, e2]
        funext y
        simp only [part, Finset.sum_range_succ _ ((n + 1) % 8)]

/-- at their last point the second output's holds the same. -/
theorem outsAt_snd (c : Dev nD) (t : Fin cfg0.N) (h1 : t.val % 8 = 7) :
    (outsAt0 m c t.val t.isLt).2 = part m c (t.val / 8) 8 := by
  have h0 : ¬t.val % 8 = 0 := by omega
  have h8 : t.val % 8 + 1 = 8 := by omega
  refine Eq.trans ?_ ((outsAt_fst m c t.val t.isLt).trans (by rw [h8]))
  rw [outsAt0_C m c t h0 h1, out_C, out_C']

/-- The gradient, by column blocks. -/
def gW (c : Dev nD) : Vec Ideal S8x1024x256 .f32 := fun i =>
  part m c ((i 0).val / 8) 8 (ix3 ⟨(i 0).val % 8, Nat.mod_lt _ (by decide)⟩ (i 1) (i 2))

/-- The last point of eight column blocks writes its part of the gradient to the first output, -/
theorem flushed2 (c : Dev nD) (t : Fin cfg0.N) (hf : (cfg0.win 2).flush t = true) :
    (dats m 0 c).flushed 2 t = ((cfg0.win 2).blk t).view.read (Elt Ideal) (gW m c) := by
  have ht := lt8 t
  have h7 : t.val % 8 = 7 := (flush0_2 t).mp hf
  rw [Value.flushed2, outsAt_fst, show t.val % 8 + 1 = 8 by omega]
  funext j
  rw [View.read_apply]
  have h0 : (j 0 : Nat) < 8 := (j 0).isLt
  have e : ((cfg0.win 2).blk t).view.emb j = (ix3 ⟨8 * (t.val / 8) + (j 0).val, by omega⟩ (j 1) (j 2) : S8x1024x256.Idx) := by
    funext a
    apply Fin.ext
    match a with
    | ⟨0, _⟩ => show win0_2.index t 0 * 8 + 1 * (j 0).val = 8 * (t.val / 8) + (j 0).val; rw [(index2 t).1]; omega
    | ⟨1, _⟩ => show win0_2.index t 1 * 1024 + 1 * (j 1).val = (j 1).val; rw [(index2 t).2.1]; omega
    | ⟨2, _⟩ => show win0_2.index t 2 * 256 + 1 * (j 2).val = (j 2).val; rw [(index2 t).2.2]; omega
  rw [e]
  have e1 : (8 * (t.val / 8) + (j 0).val) / 8 = t.val / 8 := by omega
  have e2 : (⟨(8 * (t.val / 8) + (j 0).val) % 8, Nat.mod_lt _ (by decide)⟩ : Fin 8) = j 0 := Fin.ext (by show _ % 8 = (j 0).val; omega)
  show _ = part m c ((8 * (t.val / 8) + (j 0).val) / 8) 8 (ix3 ⟨(8 * (t.val / 8) + (j 0).val) % 8, _⟩ (j 1) (j 2))
  rw [e1, e2]
  exact congrArg (part m c (t.val / 8) 8) (eq_ix3 j)

/-- and to the second. -/
theorem flushed3 (c : Dev nD) (t : Fin cfg0.N) (hf : (cfg0.win 3).flush t = true) :
    (dats m 0 c).flushed 3 t = ((cfg0.win 3).blk t).view.read (Elt Ideal) (gW m c) := by
  have ht := lt8 t
  have h7 : t.val % 8 = 7 := (flush0_3 t).mp hf
  rw [Value.flushed3, outsAt_snd m c t h7]
  funext j
  rw [View.read_apply]
  have h0 : (j 0 : Nat) < 8 := (j 0).isLt
  have e : ((cfg0.win 3).blk t).view.emb j = (ix3 ⟨8 * (t.val / 8) + (j 0).val, by omega⟩ (j 1) (j 2) : S8x1024x256.Idx) := by
    funext a
    apply Fin.ext
    match a with
    | ⟨0, _⟩ => show win0_3.index t 0 * 8 + 1 * (j 0).val = 8 * (t.val / 8) + (j 0).val; rw [(index3 t).1]; omega
    | ⟨1, _⟩ => show win0_3.index t 1 * 1024 + 1 * (j 1).val = (j 1).val; rw [(index3 t).2.1]; omega
    | ⟨2, _⟩ => show win0_3.index t 2 * 256 + 1 * (j 2).val = (j 2).val; rw [(index3 t).2.2]; omega
  rw [e]
  have e1 : (8 * (t.val / 8) + (j 0).val) / 8 = t.val / 8 := by omega
  have e2 : (⟨(8 * (t.val / 8) + (j 0).val) % 8, Nat.mod_lt _ (by decide)⟩ : Fin 8) = j 0 := Fin.ext (by show _ % 8 = (j 0).val; omega)
  show _ = part m c ((8 * (t.val / 8) + (j 0).val) / 8) 8 (ix3 ⟨(8 * (t.val / 8) + (j 0).val) % 8, _⟩ (j 1) (j 2))
  rw [e1, e2]
  exact congrArg (part m c (t.val / 8) 8) (eq_ix3 j)

/-- So the first output ends holding the gradient, -/
theorem final2 (c : Dev nD) : (dats m 0 c).arrAt 2 cfg0.N = gW m c :=
  (dats m 0 c).arrAt_eq_of_cover 2 (gW m c) (flushed2 m c) ((by decide +kernel : (cfg0.win 2).Covers).cover _ (Memref.isWhole_whole _))

/-- and so does the second. -/
theorem final3 (c : Dev nD) : (dats m 0 c).arrAt 3 cfg0.N = gW m c :=
  (dats m 0 c).arrAt_eq_of_cover 3 (gW m c) (flushed3 m c) ((by decide +kernel : (cfg0.win 3).Covers).cover _ (Memref.isWhole_whole _))

end Cert.Kernel9Ideal.Wg

namespace Cert.Reference9Ideal.Wg

open Cert.Reference9Ideal Cert.Reference9Ideal.Gen Idealize.ShloMosaic Idealize.ShloMosaic.TcCoe Idealize.SL.Sem

/-- The reference's gradient of the weight, from the input and the cotangents, by column blocks: -/
def rW (x : FVec Ideal S8192x1024 .bf16) (g : FVec Ideal S8192x2048 .bf16) : FVec Ideal S8x1024x256 .f32 :=
  transpose S8x1024x256 [1, 0, 2] (shapeCast S1024x8x256 (transpose S1024x2048 [1, 0] (Host.dotGeneral dot_S8192x2048_S8192x1024_S2048x1024_0_0_1_1_n_n none
    (extf .f32 g bitsLt_bf16_f32) (extf .f32 x bitsLt_bf16_f32)) transposes_S2048x1024_S1024x2048_1_0) shapeCasts_S1024x2048_S1024x8x256) transposes_S1024x8x256_S8x1024x256_1_0_2

/-- one sum over all rows. -/
theorem rW_apply (x : FVec Ideal S8192x1024 .bf16) (g : FVec Ideal S8192x2048 .bf16) (q : Fin 8) (i : Fin 1024) (j : Fin 256) :
    rW x g (ix3 q i j) = ∑ r : Fin 8192, g (ix2 r ⟨q.val * 256 + j.val, by omega⟩) * x (ix2 r i) := by
  pointwise [rW]

/-- The reference's run ends with it, twice. -/
theorem run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v7) = rW (m ((c.tc : Thread nD τ).loc main_arg0)) (m ((c.tc : Thread nD τ).loc main_arg1))
      ∧ r.2.mem ((c.tc : Thread nD τ).loc main_v8) = rW (m ((c.tc : Thread nD τ).loc main_arg0)) (m ((c.tc : Thread nD τ).loc main_arg1)) :=
  (θ_run defs _ _).mono (fun _ h c => ⟨(h c).1.trans (by unfold rW; rfl), (h c).2.1.trans (by unfold rW; rfl)⟩) (Value.run (F := Ideal) m ρ)

end Cert.Reference9Ideal.Wg

namespace Cert.Kernel9Ideal.Wg

open Cert.Kernel9Ideal Cert.Kernel9Ideal.Gen Idealize.ShloMosaic Idealize.ShloMosaic.TcCoe Idealize.SL.Sem
open Cert.Reference9Ideal.Wg (rW rW_apply)

variable (m : (ℓ : Loc nD τ sig) → Buf (Elt Ideal) ℓ)

/-- The kernel's blocks make up the reference's sum over all rows. -/
theorem gW_eq (c : Dev nD) : gW m c = rW (aX m c) (aG m c) := by
  suffices hs : ∀ (q : Fin 8) (i : Fin 1024) (j : Fin 256), gW m c (ix3 q i j) = rW (aX m c) (aG m c) (ix3 q i j) by
    funext y
    rw [eq_ix3 y]
    exact hs _ _ _
  intro q i j
  rw [rW_apply]
  show ∑ k ∈ Finset.range 8, ∑ r : Fin 1024, blkX (aX m c) k (ix2 r i) * blkG (aG m c) (q.val / 8) k (ix2 r (col ⟨q.val % 8, _⟩ j)) = _
  rw [Finset.sum_range]
  refine Fin.sum_mul_add_congr (fun k r hl => ?_)
  rw [mul_comm]
  refine congrArg₂ (fun p q : EReal => p * q) (congrArg (aG m c) (congrArg₂ ix2 (Fin.ext ?_) (Fin.ext ?_))) (congrArg (aX m c) (congrArg₂ ix2 (Fin.ext ?_) rfl))
  · show (1024 * k.val + r.val) % 8192 = k.val * 1024 + r.val; omega
  · show (2048 * (q.val / 8) + (256 * (q.val % 8) + j.val)) % 2048 = q.val * 256 + j.val; omega
  · show (1024 * k.val + r.val) % 8192 = k.val * 1024 + r.val; omega

/-- The kernel's run ends with the reference's gradient in both outputs. -/
theorem run (ρ : Dev nD → PrngReg) :
    θ_run defs (onTc (τ := τ) (main (F := Ideal))) ⟨m, fun _ => 0, ρ⟩ fun r => ∀ c : Dev nD,
      r.2.mem ((c.tc : Thread nD τ).loc main_v0_0) = rW (m ((c.tc : Thread nD τ).loc main_arg0)) (m ((c.tc : Thread nD τ).loc main_arg1))
      ∧ r.2.mem ((c.tc : Thread nD τ).loc main_v0_1) = rW (m ((c.tc : Thread nD τ).loc main_arg0)) (m ((c.tc : Thread nD τ).loc main_arg1)) :=
  (θ_run defs _ _).mono (fun _ h c => by
    have e : gW m c = rW (m ((c.tc : Thread nD τ).loc main_arg0)) (m ((c.tc : Thread nD τ).loc main_arg1)) := by
      rw [gW_eq, show aX m c = _ from V_main_arg0 m c, show aG m c = _ from V_main_arg1 m c]
    exact ⟨(h c).1.trans ((final2 m c).trans e), (h c).2.1.trans ((final3 m c).trans e)⟩) (Value.run_blocks m ρ)

end Cert.Kernel9Ideal.Wg
-- ==== Proof.MixOutWg.lean ====
module

public import proofs.«01_k».proof.Proof.Gen.Kernel10Ideal.Value
public import proofs.«01_k».proof.Proof.Gen.Reference10Ideal.Run
public import Idealize.ShloMosaic.Lib.Pipeline.Value
public import Idealize.ShloMosaic.Lib.Pipeline.ReadBack
public import Idealize.ShloMosaic.Lib.Pipeline.ValueKit.Acc
public import Idealize.ShloMosaic.Lib.Pointwise
public import proofs.«01_k».proof.Proof.Rows

/-! The gradient of the mixer's second weight: the kernel adds, over eight blocks of 1024 rows, the products of the
transposed inputs' block and the cotangent's; the sum over all 8192 rows is the reference's one product. -/

@[expose] public section

set_option maxRecDepth 16384

noncomputable section

namespace Cert.Kernel10Ideal.Wg

open Cert.Kernel10Ideal Cert.Kernel10Ideal.Gen Idealize.ShloMosaic Idealize.ShloMosaic.TcCoe Idealize.SL.Sem
open Idealize.ShloMosaic.Pipeline (Dat)

/-- The product of a block's transposed inputs and its cotangents. -/
def wgBlk (a g : Vec Ideal S1024x1024 .bf16) : Vec Ideal S1024x1024 .f32 := fun y =>
  ∑ r : Fin 1024, a (ix2 r (y 0)) * g (ix2 r (y 1))

section
variable (c : Dev nD) (i : grid0.Coords) (arg3 : Memref sig .tc .vmem S1024x1024 .bf16) (harg3 : arg3.IsWhole) (arg4 : Memref sig .tc .vmem S1024x1024 .bf16) (harg4 : arg4.IsWhole) (arg5 : Memref sig .tc .vmem S1024x1024 .f32) (harg5 : arg5.IsWhole) (arg6 : Memref sig .tc .vmem S1024x1024 .bf16) (harg6 : arg6.IsWhole)
    (x0 x1 : Vec Ideal S1024x1024 .bf16) (o : Vec Ideal S1024x1024 .f32)

/-- One store of the whole block leaves what was stored. -/
theorem canon_whole {e : EltTy} (G : S1024x1024.Idx → Elt Ideal e) (w : S1024x1024.Idx → Elt Ideal e)
    (L : List (View.Piece (Elt Ideal) S1024x1024 e)) (h : ∀ r s : Fin 1024, w (ix2 r s) = G (ix2 r s)) :
    View.canon ((⟨Rect.unit ![0, 0] ![1024, 1024] inb_S1024x1024_S1024x1024_0_0, w⟩ : View.Piece (Elt Ideal) S1024x1024 e) :: L) = G := by
  funext y
  refine View.canon_append_of_piecesOf G L [⟨Rect.unit ![0, 0] ![1024, 1024] inb_S1024x1024_S1024x1024_0_0, w⟩] ⟨?_, trivial⟩ y
      (View.cover_of_tiledL (s := S1024x1024) _ S1024x1024.size (by sl_kernel_rfl) y)
  intro x
  obtain ⟨r, s, rfl⟩ : ∃ (r s : Fin 1024), x = ix2 r s := ⟨x 0, x 1, eq_ix2 x⟩
  refine (h r s).trans (congrArg G ?_); funext a; apply Fin.ext
  match a with
  | ⟨0, _⟩ => show r.val = 0 + 1 * r.val; omega
  | ⟨1, _⟩ => show s.val = 0 + 1 * s.val; omega

/-- The first point of a column block starts the sum at its product, -/
theorem out_A (hc0 : cond0_0 i) (hc1 : ¬cond0_1 i) :
    out0_A_2 c i arg3 harg3 arg4 harg4 arg5 harg5 arg6 harg6 hc0 hc1 x0 x1 = wgBlk x0 x1 := by
  unfold out0_A_2
  rw [View.read_writes_eq_canon _ _ _ (cover0_A_2 c i arg3 harg3 arg4 harg4 arg5 harg5 arg6 harg6 hc0 hc1 x0 x1)]
  unfold kernelRun0_A
  dsimp only
  sl_unfold_words
  simp (disch := decide) only [↓View.readCov_skip, ↓View.readCov_fill, View.readAt_eq_ld, harg3.read_unread, harg4.read_unread, harg5.read_unread, harg6.read_unread]
  apply canon_whole
  intro r s
  pointwise [k0_pay1, k0_pay2, wgBlk]

/-- a later one adds its own, -/
theorem out_B (hc0 : ¬cond0_0 i) (hc1 : ¬cond0_1 i) :
    out0_B_2 c i arg3 harg3 arg4 harg4 arg5 harg5 arg6 harg6 hc0 hc1 x0 x1 o = fun y => o y + wgBlk x0 x1 y := by
  unfold out0_B_2
  rw [View.read_writes_eq_canon _ _ _ (cover0_B_2 c i arg3 harg3 arg4 harg4 arg5 harg5 arg6 harg6 hc0 hc1 x0 x1 o)]
  unfold kernelRun0_B
  dsimp only
  sl_unfold_words
  simp (disch := decide) only [↓View.readCov_skip, ↓View.readCov_fill, View.readAt_eq_ld, harg3.read_unread, harg4.read_unread, harg5.read_unread, harg6.read_unread]
  apply canon_whole
  intro r s
  pointwise [k0_pay1, k0_pay2, wgBlk]

/-- and so does the last, -/
theorem out_C (hc0 : ¬cond0_0 i) (hc1 : cond0_1 i) :
    out0_C_2 c i arg3 harg3 arg4 harg4 arg5 harg5 arg6 harg6 hc0 hc1 x0 x1 o = fun y => o y + wgBlk x0 x1 y := by
  unfold out0_C_2
  rw [View.read_writes_eq_canon _ _ _ (cover0_C_2 c i arg3 harg3 arg4 harg4 arg5 harg5 arg6 harg6 hc0 hc1 x0 x1 o)]
  unfold kernelRun0_C
  dsimp only
  sl_unfold_words
  simp (disch := decide) only [↓View.readCov_skip, ↓View.readCov_fill, View.readAt_eq_ld, harg3.read_unread, harg4.read_unread, harg5.read_unread, harg6.read_unread]
  apply canon_whole
  intro r s
  pointwise [k0_pay1, k0_pay2, wgBlk]

/-- which also leaves the finished sum in the second output. -/
theorem out_C' (hc0 : ¬cond0_0 i) (hc1 : cond0_1 i) :
    out0_C_3 c i arg3 harg3 arg4 harg4 arg5 harg5 arg6 harg6 hc0 hc1 x0 x1 o = fun y => o y + wgBlk x0 x1 y := by
  unfold out0_C_3
  rw [View.read_writes_eq_canon _ _ _ (cover0_C_3 c i arg3 harg3 arg4 harg4 arg5 harg5 arg6 harg6 hc0 hc1 x0 x1 o)]
  unfold kernelRun0_C
  dsimp only
  sl_unfold_words
  simp (disch := decide) only [↓View.readCov_skip, ↓View.readCov_fill, View.readAt_eq_ld, harg3.read_unread, harg4.read_unread, harg5.read_unread, harg6.read_unread]
  apply canon_whole
  intro r s
  pointwise [k0_pay1, k0_pay2, k0_pay3, wgBlk]

end

variable (m : (ℓ : Loc nD τ sig) → Buf (Elt Ideal) ℓ)

/-- The inputs and the cotangents, as the region finds them. -/
abbrev aX (c : Dev nD) : Vec Ideal S8192x1024 .bf16 := V m c main_arg0
abbrev aG (c : Dev nD) : Vec Ideal S8192x1024 .bf16 := V m c main_arg1

/-- Rows `1024 k …` of column block `i` of the inputs, -/
def blkX (X : Vec Ideal S8192x1024 .bf16) (i k : Nat) : Vec Ideal S1024x1024 .bf16 := fun y =>
  X (ix2 ⟨(1024 * k + (y 0).val) % 8192, Nat.mod_lt _ (by decide)⟩ ⟨(1024 * i + (y 1).val) % 1024, Nat.mod_lt _ (by decide)⟩)

/-- and of the cotangents. -/
def blkG (X : Vec Ideal S8192x1024 .bf16) (k : Nat) : Vec Ideal S1024x1024 .bf16 := fun y =>
  X (ix2 ⟨(1024 * k + (y 0).val) % 8192, Nat.mod_lt _ (by decide)⟩ (y 1))

theorem lt8 (t : Fin cfg0.N) : t.val < 8 := lt_of_lt_of_eq t.isLt N_0

theorem index0 : ∀ t : Fin grid0.N, win0_0.index t 0 = t.val % 8 ∧ win0_0.index t 1 = t.val / 8 := by decide +kernel
theorem index1 : ∀ t : Fin grid0.N, win0_1.index t 0 = t.val % 8 ∧ win0_1.index t 1 = 0 := by decide +kernel
theorem index2 : ∀ t : Fin grid0.N, win0_2.index t 0 = t.val / 8 ∧ win0_2.index t 1 = 0 := by decide +kernel
theorem index3 : ∀ t : Fin grid0.N, win0_3.index t 0 = t.val / 8 ∧ win0_3.index t 1 = 0 := by decide +kernel

/-- What point `t` reads of the inputs, -/
theorem iblk0 (c : Dev nD) (t : Fin cfg0.N) : (iblk m c 0 t : Vec Ideal S1024x1024 .bf16) = blkX (aX m c) (t.val / 8) (t.val % 8) := by
  have ht := lt8 t
  funext j
  unfold iblk
  rw [View.read_apply]
  show V m c main_arg0 _ = V m c main_arg0 _
  congr 1
  funext a
  apply Fin.ext
  have h0 : (j 0 : Nat) < 1024 := (j 0).isLt
  have h1 : (j 1 : Nat) < 1024 := (j 1).isLt
  match a with
  | ⟨0, _⟩ => show win0_0.index t 0 * 1024 + 1 * (j 0).val = (1024 * (t.val % 8) + (j 0).val) % 8192; rw [(index0 t).1]; omega
  | ⟨1, _⟩ => show win0_0.index t 1 * 1024 + 1 * (j 1).val = (1024 * (t.val / 8) + (j 1).val) % 1024; rw [(index0 t).2]; omega

/-- and of the cotangents. -/
theorem iblk1 (c : Dev nD) (t : Fin cfg0.N) : (iblk m c 1 t : Vec Ideal S1024x1024 .bf16) = blkG (aG m c) (t.val % 8) := by
  funext j
  unfold iblk
  rw [View.read_apply]
  exact congrArg (aG m c) (Rows.eq_row (index1 t).1 (index1 t).2 (by have := lt8 t; omega) rfl rfl)

/-- The sum over the first `n` row blocks for column block `i`. -/
def part (c : Dev nD) (i n : Nat) : Vec Ideal S1024x1024 .f32 := fun y =>
  ∑ k ∈ Finset.range n, wgBlk (blkX (aX m c) i k) (blkG (aG m c) k) y

/-- What the first output's block holds after point `n`: the column block's sum so far; -/
theorem outsAt_fst (c : Dev nD) : ∀ (n : ℕ) (h : n < cfg0.N), (outsAt0 m c n h).1 = part m c (n / 8) (n % 8 + 1)
  | 0, h => by
    rw [outsAt0_A m c ⟨0, h⟩ rfl (by show ¬0 % 8 = 7; decide), out_A, iblk0, iblk1]
    funext y
    simp only [part, Nat.zero_mod, Nat.zero_div, Nat.zero_add, Finset.sum_range_one]
  | n + 1, h => by
    have ht := lt8 ⟨n + 1, h⟩
    dsimp only at ht
    by_cases h0 : (n + 1) % 8 = 0
    · have h1 : ¬(n + 1) % 8 = 7 := by omega
      rw [outsAt0_A m c ⟨n + 1, h⟩ h0 h1, out_A, iblk0, iblk1]
      funext y
      simp only [part, h0, Nat.zero_add, Finset.sum_range_one]
    · have e1 : n / 8 = (n + 1) / 8 := by omega
      have e2 : n % 8 + 1 = (n + 1) % 8 := by omega
      by_cases h1 : (n + 1) % 8 = 7
      · rw [outsAt0_C m c ⟨n + 1, h⟩ h0 h1, out_C, iblk0, iblk1]
        simp only [Nat.add_sub_cancel, outsAt_fst c n (Nat.lt_of_succ_lt h), e1, e2]
        funext y
        simp only [part, Finset.sum_range_succ _ ((n + 1) % 8)]
      · rw [outsAt0_B m c ⟨n + 1, h⟩ h0 h1, out_B, iblk0, iblk1]
        simp only [Nat.add_sub_cancel, outsAt_fst c n (Nat.lt_of_succ_lt h), e1, e2]
        funext y
        simp only [part, Finset.sum_range_succ _ ((n + 1) % 8)]

/-- at a column block's last point the second output's holds the same. -/
theorem outsAt_snd (c : Dev nD) (t : Fin cfg0.N) (h1 : t.val % 8 = 7) :
    (outsAt0 m c t.val t.isLt).2 = part m c (t.val / 8) 8 := by
  have h0 : ¬t.val % 8 = 0 := by omega
  have h8 : t.val % 8 + 1 = 8 := by omega
  refine Eq.trans ?_ ((outsAt_fst m c t.val t.isLt).trans (by rw [h8]))
  rw [outsAt0_C m c t h0 h1, out_C, out_C']

/-- The gradient. -/
def gW (c : Dev nD) : Vec Ideal S1024x1024 .f32 := fun i =>
  part m c ((i 0).val / 1024) 8 (ix2 ⟨(i 0).val % 1024, Nat.mod_lt _ (by decide)⟩ (i 1))

/-- A column block's last point writes its rows of the gradient to the first output, -/
theorem flushed2 (c : Dev nD) (t : Fin cfg0.N) (hf : (cfg0.win 2).flush t = true) :
    (dats m 0 c).flushed 2 t = ((cfg0.win 2).blk t).view.read (Elt Ideal) (gW m c) := by
  have ht := lt8 t
  have h7 : t.val % 8 + 1 = 8 := by have := (flush0_2 t).mp hf; omega
  rw [Value.flushed2, outsAt_fst, h7]
  funext j
  rw [View.read_apply]
  exact Rows.at_chunk (fun s => part m c s 8) (t.val / 8) j (by decide) (index2 t).1 (index2 t).2 rfl rfl

/-- and to the second. -/
theorem flushed3 (c : Dev nD) (t : Fin cfg0.N) (hf : (cfg0.win 3).flush t = true) :
    (dats m 0 c).flushed 3 t = ((cfg0.win 3).blk t).view.read (Elt Ideal) (gW m c) := by
  have ht := lt8 t
  have h7 : t.val % 8 = 7 := (flush0_3 t).mp hf
  rw [Value.flushed3, outsAt_snd m c t h7]
  funext j
  rw [View.read_apply]
  exact Rows.at_chunk (fun s => part m c s 8) (t.val / 8) j (by decide) (index3 t).1 (index3 t).2 rfl rfl

/-- So the first output ends holding the gradient, -/
theorem final2 (c : Dev nD) : (dats m 0 c).arrAt 2 cfg0.N = gW m c :=
  (dats m 0 c).arrAt_eq_of_cover 2 (gW m c) (flushed2 m c) ((by decide +kernel : (cfg0.win 2).Covers).cover _ (Memref.isWhole_whole _))

/-- and so does the second. -/
theorem final3 (c : Dev nD) : (dats m 0 c).arrAt 3 cfg0.N = gW m c :=
  (dats m 0 c).arrAt_eq_of_cover 3 (gW m c) (flushed3 m c) ((by decide +kernel : (cfg0.win 3).Covers).cover _ (Memref.isWhole_whole _))

end Cert.Kernel10Ideal.Wg

namespace Cert.Reference10Ideal.Wg

open Cert.Reference10Ideal Cert.Reference10Ideal.Gen Idealize.ShloMosaic Idealize.ShloMosaic.TcCoe Idealize.SL.Sem

/-- The reference's gradient of the weight, from the inputs and the cotangents, -/
def rW (x : FVec Ideal S8192x1024 .bf16) (g : FVec Ideal S8192x1024 .bf16) : FVec Ideal S1024x1024 .f32 :=
  transpose S1024x1024 [1, 0] (Host.dotGeneral dot_S8192x1024_S8192x1024_S1024x1024_0_0_1_1_n_n none
    (extf .f32 g bitsLt_bf16_f32) (extf .f32 x bitsLt_bf16_f32)) transposes_S1024x1024_S1024x1024_1_0

/-- one sum over all rows. -/
theorem rW_apply (x : FVec Ideal S8192x1024 .bf16) (g : FVec Ideal S8192x1024 .bf16) (i : Fin 1024) (j : Fin 1024) :
    rW x g (ix2 i j) = ∑ r : Fin 8192, g (ix2 r j) * x (ix2 r i) := by
  pointwise [rW]

/-- The reference's run ends with it, twice. -/
theorem run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v5) = rW (m ((c.tc : Thread nD τ).loc main_arg0)) (m ((c.tc : Thread nD τ).loc main_arg1))
      ∧ r.2.mem ((c.tc : Thread nD τ).loc main_v6) = rW (m ((c.tc : Thread nD τ).loc main_arg0)) (m ((c.tc : Thread nD τ).loc main_arg1)) :=
  (θ_run defs _ _).mono (fun _ h c => ⟨(h c).1.trans (by unfold rW; rfl), (h c).2.1.trans (by unfold rW; rfl)⟩) (Value.run (F := Ideal) m ρ)

end Cert.Reference10Ideal.Wg

namespace Cert.Kernel10Ideal.Wg

open Cert.Kernel10Ideal Cert.Kernel10Ideal.Gen Idealize.ShloMosaic Idealize.ShloMosaic.TcCoe Idealize.SL.Sem
open Cert.Reference10Ideal.Wg (rW rW_apply)

variable (m : (ℓ : Loc nD τ sig) → Buf (Elt Ideal) ℓ)

/-- The kernel's blocks make up the reference's sum over all rows. -/
theorem gW_eq (c : Dev nD) : gW m c = rW (aX m c) (aG m c) := by
  suffices hs : ∀ (i : Fin 1024) (j : Fin 1024), gW m c (ix2 i j) = rW (aX m c) (aG m c) (ix2 i j) by
    funext y
    rw [eq_ix2 y]
    exact hs _ _
  intro i j
  rw [rW_apply]
  show ∑ k ∈ Finset.range 8, ∑ r : Fin 1024, blkX (aX m c) (i.val / 1024) k (ix2 r ⟨i.val % 1024, _⟩) * blkG (aG m c) k (ix2 r j) = _
  rw [Finset.sum_range]
  refine Fin.sum_mul_add_congr (fun k r hl => ?_)
  rw [mul_comm]
  refine congrArg₂ (fun p q : EReal => p * q) (congrArg (aG m c) (congrArg₂ ix2 (Fin.ext ?_) rfl)) (congrArg (aX m c) (congrArg₂ ix2 (Fin.ext ?_) (Fin.ext ?_)))
  · show (1024 * k.val + r.val) % 8192 = k.val * 1024 + r.val; omega
  · show (1024 * k.val + r.val) % 8192 = k.val * 1024 + r.val; omega
  · show (1024 * (i.val / 1024) + i.val % 1024) % 1024 = i.val; omega

/-- The kernel's run ends with the reference's gradient in both outputs. -/
theorem run (ρ : Dev nD → PrngReg) :
    θ_run defs (onTc (τ := τ) (main (F := Ideal))) ⟨m, fun _ => 0, ρ⟩ fun r => ∀ c : Dev nD,
      r.2.mem ((c.tc : Thread nD τ).loc main_v0_0) = rW (m ((c.tc : Thread nD τ).loc main_arg0)) (m ((c.tc : Thread nD τ).loc main_arg1))
      ∧ r.2.mem ((c.tc : Thread nD τ).loc main_v0_1) = rW (m ((c.tc : Thread nD τ).loc main_arg0)) (m ((c.tc : Thread nD τ).loc main_arg1)) :=
  (θ_run defs _ _).mono (fun _ h c => by
    have e : gW m c = rW (m ((c.tc : Thread nD τ).loc main_arg0)) (m ((c.tc : Thread nD τ).loc main_arg1)) := by
      rw [gW_eq, show aX m c = _ from V_main_arg0 m c, show aG m c = _ from V_main_arg1 m c]
    exact ⟨(h c).1.trans ((final2 m c).trans e), (h c).2.1.trans ((final3 m c).trans e)⟩) (Value.run_blocks m ρ)

end Cert.Kernel10Ideal.Wg
-- ==== Proof.MlpOutLast.lean ====
module

public import proofs.«01_k».proof.Proof.Gen.Kernel11Ideal.Value
public import proofs.«01_k».proof.Proof.Gen.Reference11Ideal.Run
public import Idealize.ShloMosaic.Lib.Pipeline.Value
public import Idealize.ShloMosaic.Lib.Pipeline.ReadBack
public import Idealize.ShloMosaic.Lib.Pointwise
public import proofs.«01_k».proof.Proof.Rows

/-! The last MLP's second product: the kernel multiplies 512 rows of the activations by the weight, in two column blocks, and
adds the residual stream; the reference does the same of whole arrays. -/

@[expose] public section

set_option maxRecDepth 16384

noncomputable section

namespace Cert.Reference11Ideal.Out

open Cert.Reference11Ideal Cert.Reference11Ideal.Gen Idealize.ShloMosaic Idealize.ShloMosaic.TcCoe Idealize.SL.Sem

/-- The reference's result. -/
def rO (t : FVec Ideal S8192x4096 .bf16) (w : FVec Ideal S4096x1024 .f32) (x : FVec Ideal S8192x1024 .f32) : FVec Ideal S8192x1024 .f32 :=
  addf x (Host.dotGeneral dot_S8192x4096_S4096x1024_S8192x1024_1_0_0_1_n_n none (extf .f32 t bitsLt_bf16_f32) w)

theorem rO_apply (t : FVec Ideal S8192x4096 .bf16) (w : FVec Ideal S4096x1024 .f32) (x : FVec Ideal S8192x1024 .f32) (i : Fin 8192) (j : Fin 1024) :
    rO t w x (ix2 i j) = x (ix2 i j) + ∑ k : Fin 4096, t (ix2 i k) * w (ix2 k j) := by
  pointwise [rO]

/-- The reference's run ends with it. -/
theorem run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v2) = rO (m ((c.tc : Thread nD τ).loc main_arg0)) (m ((c.tc : Thread nD τ).loc main_arg1)) (m ((c.tc : Thread nD τ).loc main_arg2)) :=
  (θ_run defs _ _).mono (fun _ h c => (h c).1.trans (by unfold rO; rfl)) (Value.run (F := Ideal) m ρ)

end Cert.Reference11Ideal.Out

namespace Cert.Kernel11Ideal.Out

open Cert.Kernel11Ideal Cert.Kernel11Ideal.Gen Idealize.ShloMosaic Idealize.ShloMosaic.TcCoe Idealize.SL.Sem
open Idealize.ShloMosaic.Pipeline (Dat)
open Cert.Reference11Ideal.Out (rO rO_apply)

/-- Column `e` of the `q`th of two column blocks. -/
def col (q : Fin 2) (e : Fin 512) : Fin 1024 := ⟨512 * q.val + e.val, by omega⟩

theorem col0 (e : Fin 512) : col 0 e = ⟨e.val, by omega⟩ := Fin.ext (Nat.zero_add _)
theorem col1 (e : Fin 512) : col 1 e = ⟨512 + e.val, by omega⟩ := rfl

/-- Two stores side by side leave what each says of its own columns. -/
theorem canon_cols (G : S512x1024.Idx → Ideal .f32) (w0 w1 : S512x512.Idx → Ideal .f32)
    (L : List (View.Piece (Elt Ideal) S512x1024 .f32))
    (h0 : ∀ (r : Fin 512) (e : Fin 512), w0 (ix2 r e) = G (ix2 r (col 0 e)))
    (h1 : ∀ (r : Fin 512) (e : Fin 512), w1 (ix2 r e) = G (ix2 r (col 1 e))) :
    View.canon ((⟨Rect.unit ![0, 512] ![512, 512] inb_S512x1024_S512x512_0_512, w1⟩ : View.Piece (Elt Ideal) S512x1024 .f32) ::
      ⟨Rect.unit ![0, 0] ![512, 512] inb_S512x1024_S512x512_0_0, w0⟩ :: L) = G := by
  funext y
  refine View.canon_append_of_piecesOf G L [⟨Rect.unit ![0, 512] ![512, 512] inb_S512x1024_S512x512_0_512, w1⟩, ⟨Rect.unit ![0, 0] ![512, 512] inb_S512x1024_S512x512_0_0, w0⟩] ⟨?_, ?_, trivial⟩ y
      (View.cover_of_tiledL (s := S512x1024) _ S512x512.size (by sl_kernel_rfl) y)
  all_goals intro x; obtain ⟨r, e, rfl⟩ : ∃ (r : Fin 512) (e : Fin 512), x = ix2 r e := ⟨x 0, x 1, eq_ix2 x⟩
  · refine (h1 r e).trans (congrArg G ?_); funext a; apply Fin.ext
    match a with
    | ⟨0, _⟩ => show r.val = 0 + 1 * r.val; omega
    | ⟨1, _⟩ => show 512 * 1 + e.val = 512 + 1 * e.val; omega
  · refine (h0 r e).trans (congrArg G ?_); funext a; apply Fin.ext
    match a with
    | ⟨0, _⟩ => show r.val = 0 + 1 * r.val; omega
    | ⟨1, _⟩ => show 512 * 0 + e.val = 0 + 1 * e.val; omega

/-- The block of the result. -/
def oBlk (x0 : Vec Ideal S512x4096 .bf16) (x1 : Vec Ideal S4096x1024 .bf16) (x2 : Vec Ideal S512x1024 .f32) : Vec Ideal S512x1024 .f32 := fun y =>
  (∑ k : Fin 4096, x0 (ix2 (y 0) k) * x1 (ix2 k (y 1))) + x2 y

/-- What a grid point leaves in its output block. -/
theorem out_eq (x0 : Vec Ideal S512x4096 .bf16) (x1 : Vec Ideal S4096x1024 .bf16) (x2 : Vec Ideal S512x1024 .f32) : out0_3 x0 x1 x2 = oBlk x0 x1 x2 := by
  unfold out0_3
  apply canon_cols
  all_goals intro r e; pointwise [k0_pay1, k0_pay2, oBlk]
  all_goals simp only [col0, col1]

variable (m : (ℓ : Loc nD τ sig) → Buf (Elt Ideal) ℓ)

/-- The arrays the region reads. -/
abbrev aT (c : Dev nD) : Vec Ideal S8192x4096 .bf16 := V m c main_arg0
abbrev aW (c : Dev nD) : Vec Ideal S4096x1024 .bf16 := V m c main_v0
abbrev aX (c : Dev nD) : Vec Ideal S8192x1024 .f32 := V m c main_arg2

/-- The weight is read as launched, but for its place: narrowing is the identity over the extended reals. -/
theorem aW_eq (c : Dev nD) : aW m c = (m ((c.tc : Thread nD τ).loc main_arg1) : S4096x1024.Idx → EReal) := by
  show StableHlo.after hostOps0 (fun b => m (c, b)) (Proc.devRef .tc main_v0) = _
  simp only [hostOps0, StableHlo.TRef.binary, StableHlo.TRef.nullary, StableHlo.TRef.ternary, StableHlo.TRef.unary, StableHlo.TRef.toBuf, StableHlo.TRef.ofBuf, cast_eq]
  after_results_simp
  rfl

/-- The rows of chunk `s` of an array of 8192 rows. -/
def chunk {n : Nat} {e : EltTy} (X : (⟨2, ![8192, n]⟩ : Shape).Idx → Elt Ideal e) (s : Nat) : (⟨2, ![512, n]⟩ : Shape).Idx → Elt Ideal e :=
  fun y => X (ix2 ⟨(512 * s + (y 0).val) % 8192, Nat.mod_lt _ (by decide)⟩ (y 1))

theorem lt16 (t : Fin cfg0.N) : t.val < 16 := lt_of_lt_of_eq t.isLt N_0

theorem index0 : ∀ t : Fin grid0.N, win0_0.index t 0 = t.val ∧ win0_0.index t 1 = 0 := by decide +kernel
theorem index1 : ∀ t : Fin grid0.N, win0_1.index t 0 = 0 ∧ win0_1.index t 1 = 0 := by decide +kernel
theorem index2 : ∀ t : Fin grid0.N, win0_2.index t 0 = t.val ∧ win0_2.index t 1 = 0 := by decide +kernel
theorem index3 : ∀ t : Fin grid0.N, win0_3.index t 0 = t.val ∧ win0_3.index t 1 = 0 := by decide +kernel

/-- Point `t` reads its rows of input 0. -/
theorem iblk0 (c : Dev nD) (t : Fin cfg0.N) : (iblk m c 0 t : Vec Ideal S512x4096 .bf16) = chunk (aT m c) t.val := by
  funext j
  unfold iblk
  rw [View.read_apply]
  exact congrArg (aT m c) (Rows.eq_row (index0 t).1 (index0 t).2 (by have := lt16 t; omega) rfl rfl)

/-- Every point reads the whole weight. -/
theorem iblk1 (c : Dev nD) (t : Fin cfg0.N) : (iblk m c 1 t : Vec Ideal S4096x1024 .bf16) = aW m c := by
  funext j
  unfold iblk
  rw [View.read_apply]
  exact congrArg (aW m c) (Rows.eq_whole (index1 t).1 (index1 t).2 rfl rfl)

/-- Point `t` reads its rows of input 2. -/
theorem iblk2 (c : Dev nD) (t : Fin cfg0.N) : (iblk m c 2 t : Vec Ideal S512x1024 .f32) = chunk (aX m c) t.val := by
  funext j
  unfold iblk
  rw [View.read_apply]
  exact congrArg (aX m c) (Rows.eq_row (index2 t).1 (index2 t).2 (by have := lt16 t; omega) rfl rfl)

/-- What the output ends holding. -/
def gO (c : Dev nD) : Vec Ideal S8192x1024 .f32 := fun i =>
  oBlk (chunk (aT m c) ((i 0).val / 512)) (aW m c) (chunk (aX m c) ((i 0).val / 512)) (ix2 ⟨(i 0).val % 512, Nat.mod_lt _ (by decide)⟩ (i 1))

/-- Point `t` writes its rows of it, -/
theorem flushed3 (c : Dev nD) (t : Fin cfg0.N) :
    (dats m 0 c).flushed 3 t = ((cfg0.win 3).blk t).view.read (Elt Ideal) (gO m c) := by
  have ht := lt16 t
  rw [Value.flushed3, out_eq, iblk0, iblk1, iblk2]
  funext j
  rw [View.read_apply]
  exact Rows.at_chunk (fun s => oBlk (chunk (aT m c) s) (aW m c) (chunk (aX m c) s)) t.val j (by decide) (index3 t).1 (index3 t).2 rfl rfl

/-- so the output ends holding it. -/
theorem final3 (c : Dev nD) : (dats m 0 c).arrAt 3 cfg0.N = gO m c :=
  (dats m 0 c).arrAt_eq_of_cover 3 (gO m c) (fun t _ => flushed3 m c t) ((by decide +kernel : (cfg0.win 3).Covers).cover _ (Memref.isWhole_whole _))

/-- It is the reference's. -/
theorem gO_eq (c : Dev nD) : gO m c = rO (aT m c) (aW m c) (aX m c) := by
  suffices hs : ∀ (i : Fin 8192) (j : Fin 1024), gO m c (ix2 i j) = rO (aT m c) (aW m c) (aX m c) (ix2 i j) by
    funext y
    rw [eq_ix2 y]
    exact hs _ _
  intro i j
  rw [rO_apply]
  have e : (⟨(512 * (i.val / 512) + i.val % 512) % 8192, Nat.mod_lt _ (by decide)⟩ : Fin 8192) = i := Fin.ext (by show _ % 8192 = i.val; omega)
  show (∑ k : Fin 4096, aT m c (ix2 ⟨(512 * (i.val / 512) + i.val % 512) % 8192, _⟩ k) * aW m c (ix2 k j)) + aX m c (ix2 ⟨(512 * (i.val / 512) + i.val % 512) % 8192, _⟩ j) = _
  simp only [e]
  exact add_comm _ _

/-- The kernel's run ends with the reference's stream. -/
theorem run (ρ : Dev nD → PrngReg) :
    θ_run defs (onTc (τ := τ) (main (F := Ideal))) ⟨m, fun _ => 0, ρ⟩ fun r => ∀ c : Dev nD,
      r.2.mem ((c.tc : Thread nD τ).loc main_v1) = rO (m ((c.tc : Thread nD τ).loc main_arg0)) (m ((c.tc : Thread nD τ).loc main_arg1)) (m ((c.tc : Thread nD τ).loc main_arg2)) :=
  (θ_run defs _ _).mono (fun _ h c => by
    have e : gO m c = rO (m ((c.tc : Thread nD τ).loc main_arg0)) (m ((c.tc : Thread nD τ).loc main_arg1)) (m ((c.tc : Thread nD τ).loc main_arg2)) := by
      rw [gO_eq, aW_eq, show aT m c = _ from V_main_arg0 m c, show aX m c = _ from V_main_arg2 m c]
    exact (h c).1.trans ((final3 m c).trans e)) (Value.run_blocks m ρ)

end Cert.Kernel11Ideal.Out
-- ==== Proof.GluMmBwd.lean ====
module

public import proofs.«01_k».proof.Proof.Gen.Kernel12Ideal.Value
public import proofs.«01_k».proof.Proof.Gen.Reference12Ideal.Run
public import Idealize.ShloMosaic.Lib.Pipeline.Value
public import Idealize.ShloMosaic.Lib.Pipeline.ReadBack
public import Idealize.ShloMosaic.Lib.Pointwise
public import Idealize.ShloMosaic.Lib.Pipeline.ValueKit.Acc
public import proofs.«01_k».proof.Proof.Rows
public import proofs.«01_k».proof.Proof.Blocks

/-! The cotangent of the left side of the gated unit's product: the kernel multiplies 1024 rows of the output's cotangent by the
transposed weight, summing eight column blocks; the reference is the gradient of the product. -/

@[expose] public section

set_option maxRecDepth 16384

noncomputable section

namespace Cert.Reference12Ideal.Bwd

open Cert.Reference12Ideal Cert.Reference12Ideal.Gen Idealize.ShloMosaic Idealize.ShloMosaic.TcCoe Idealize.SL.Sem

/-- The reference's result. -/
def rO (g : FVec Ideal S8192x2048 .bf16) (w : FVec Ideal S1024x2048 .f32) : FVec Ideal S8192x1024 .f32 :=
  Host.dotGeneral dot_S8192x2048_S1024x2048_S8192x1024_1_1_0_0_n_n none (extf .f32 g bitsLt_bf16_f32) w

theorem rO_apply (g : FVec Ideal S8192x2048 .bf16) (w : FVec Ideal S1024x2048 .f32) (i : Fin 8192) (j : Fin 1024) :
    rO g w (ix2 i j) = ∑ k : Fin 2048, g (ix2 i k) * w (ix2 j k) := by
  pointwise [rO]

/-- The reference's run ends with it. -/
theorem run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v3) = rO (m ((c.tc : Thread nD τ).loc main_arg0)) (m ((c.tc : Thread nD τ).loc main_arg1)) :=
  (θ_run defs _ _).mono (fun _ h c => (h c).1.trans (by unfold rO; rfl)) (Value.run (F := Ideal) m ρ)

end Cert.Reference12Ideal.Bwd

namespace Cert.Kernel12Ideal.Bwd

open Cert.Kernel12Ideal Cert.Kernel12Ideal.Gen Idealize.ShloMosaic Idealize.ShloMosaic.TcCoe Idealize.SL.Sem
open Idealize.ShloMosaic.Pipeline (Dat)
open Cert.Reference12Ideal.Bwd (rO rO_apply)

/-- Column `e` of the `q`th of eight column blocks. -/
def col (q : Fin 8) (e : Fin 256) : Fin 2048 := ⟨256 * q.val + e.val, by omega⟩

theorem col0 (e : Fin 256) : col 0 e = ⟨e.val, by omega⟩ := Fin.ext (Nat.zero_add _)
theorem col1 (e : Fin 256) : col 1 e = ⟨256 + e.val, by omega⟩ := rfl
theorem col2 (e : Fin 256) : col 2 e = ⟨512 + e.val, by omega⟩ := rfl
theorem col3 (e : Fin 256) : col 3 e = ⟨768 + e.val, by omega⟩ := rfl
theorem col4 (e : Fin 256) : col 4 e = ⟨1024 + e.val, by omega⟩ := rfl
theorem col5 (e : Fin 256) : col 5 e = ⟨1280 + e.val, by omega⟩ := rfl
theorem col6 (e : Fin 256) : col 6 e = ⟨1536 + e.val, by omega⟩ := rfl
theorem col7 (e : Fin 256) : col 7 e = ⟨1792 + e.val, by omega⟩ := rfl

/-- The block of the result. -/
def oBlk (x0 : Vec Ideal S1024x2048 .bf16) (x1 : Vec Ideal S8x1024x256 .bf16) : Vec Ideal S1024x1024 .f32 := fun y =>
  ∑ q : Fin 8, ∑ e : Fin 256, x0 (ix2 (y 0) (col q e)) * x1 (ix3 q (y 1) e)

/-- What a grid point leaves in its output block. -/
theorem out_eq (x0 : Vec Ideal S1024x2048 .bf16) (x1 : Vec Ideal S8x1024x256 .bf16) : out0_2 x0 x1 = oBlk x0 x1 := by
  unfold out0_2
  apply Blocks.whole2
  intro r j
  show _ = ∑ q : Fin 8, ∑ e : Fin 256, x0 (ix2 r (col q e)) * x1 (ix3 q j e)
  rw [Fin.sum_univ_eight]
  simp only [col0, col1, col2, col3, col4, col5, col6, col7]
  pointwise [k0_pay1, k0_pay2]

variable (m : (ℓ : Loc nD τ sig) → Buf (Elt Ideal) ℓ)

/-- The arrays the region reads. -/
abbrev aG (c : Dev nD) : Vec Ideal S8192x2048 .bf16 := V m c main_arg0
abbrev aW (c : Dev nD) : Vec Ideal S8x1024x256 .bf16 := V m c main_v2

/-- The weight cut into column blocks. -/
def colBlocks (w : FVec Ideal S1024x2048 .f32) : FVec Ideal S8x1024x256 .bf16 :=
  transpose S8x1024x256 [1, 0, 2] (shapeCast S1024x8x256 (truncf .bf16 w bitsLt_bf16_f32) shapeCasts_S1024x2048_S1024x8x256) transposes_S1024x8x256_S8x1024x256_1_0_2

theorem colBlocks_apply (w : FVec Ideal S1024x2048 .f32) (q : Fin 8) (k : Fin 1024) (e : Fin 256) : colBlocks w (ix3 q k e) = w (ix2 k (col q e)) := by
  pointwise [colBlocks]
  exact congrArg w (congrArg (ix2 k) (Fin.ext (by show q.val * 256 + e.val = 256 * q.val + e.val; omega)))

/-- The weight is read as launched, but for its place: narrowing is the identity over the extended reals. -/
theorem aW_eq (c : Dev nD) : aW m c = colBlocks (m ((c.tc : Thread nD τ).loc main_arg1)) := by
  show StableHlo.after hostOps0 (fun b => m (c, b)) (Proc.devRef .tc main_v2) = _
  simp only [hostOps0, StableHlo.TRef.binary, StableHlo.TRef.nullary, StableHlo.TRef.ternary, StableHlo.TRef.unary, StableHlo.TRef.toBuf, StableHlo.TRef.ofBuf, cast_eq]
  after_results_simp
  rfl

/-- The rows of chunk `s` of an array of 8192 rows. -/
def chunk {n : Nat} {e : EltTy} (X : (⟨2, ![8192, n]⟩ : Shape).Idx → Elt Ideal e) (s : Nat) : (⟨2, ![1024, n]⟩ : Shape).Idx → Elt Ideal e :=
  fun y => X (ix2 ⟨(1024 * s + (y 0).val) % 8192, Nat.mod_lt _ (by decide)⟩ (y 1))

theorem lt8 (t : Fin cfg0.N) : t.val < 8 := lt_of_lt_of_eq t.isLt N_0

theorem index0 : ∀ t : Fin grid0.N, win0_0.index t 0 = t.val ∧ win0_0.index t 1 = 0 := by decide +kernel
theorem index1 : ∀ t : Fin grid0.N, win0_1.index t 0 = 0 ∧ win0_1.index t 1 = 0 ∧ win0_1.index t 2 = 0 := by decide +kernel
theorem index2 : ∀ t : Fin grid0.N, win0_2.index t 0 = t.val ∧ win0_2.index t 1 = 0 := by decide +kernel

/-- Point `t` reads its rows of input 0. -/
theorem iblk0 (c : Dev nD) (t : Fin cfg0.N) : (iblk m c 0 t : Vec Ideal S1024x2048 .bf16) = chunk (aG m c) t.val := by
  funext j
  unfold iblk
  rw [View.read_apply]
  exact congrArg (aG m c) (Rows.eq_row (index0 t).1 (index0 t).2 (by have := lt8 t; omega) rfl rfl)

/-- Every point reads the whole weight. -/
theorem iblk1 (c : Dev nD) (t : Fin cfg0.N) : (iblk m c 1 t : Vec Ideal S8x1024x256 .bf16) = aW m c := by
  funext j
  unfold iblk
  rw [View.read_apply]
  exact congrArg (aW m c) (Rows.eq_whole3 (index1 t).1 (index1 t).2.1 (index1 t).2.2 rfl rfl rfl)

/-- What the output ends holding. -/
def gO (c : Dev nD) : Vec Ideal S8192x1024 .f32 := fun i =>
  oBlk (chunk (aG m c) ((i 0).val / 1024)) (aW m c) (ix2 ⟨(i 0).val % 1024, Nat.mod_lt _ (by decide)⟩ (i 1))

/-- Point `t` writes its rows of it, -/
theorem flushed2 (c : Dev nD) (t : Fin cfg0.N) :
    (dats m 0 c).flushed 2 t = ((cfg0.win 2).blk t).view.read (Elt Ideal) (gO m c) := by
  have ht := lt8 t
  rw [Value.flushed2, out_eq, iblk0, iblk1]
  funext j
  rw [View.read_apply]
  exact Rows.at_chunk (fun s => oBlk (chunk (aG m c) s) (aW m c)) t.val j (by decide) (index2 t).1 (index2 t).2 rfl rfl

/-- so the output ends holding it. -/
theorem final2 (c : Dev nD) : (dats m 0 c).arrAt 2 cfg0.N = gO m c :=
  (dats m 0 c).arrAt_eq_of_cover 2 (gO m c) (fun t _ => flushed2 m c t) ((by decide +kernel : (cfg0.win 2).Covers).cover _ (Memref.isWhole_whole _))

/-- It is the reference's: the eight column blocks' sums are the sum. -/
theorem gO_eq (c : Dev nD) : gO m c = rO (aG m c) (m ((c.tc : Thread nD τ).loc main_arg1)) := by
  suffices hs : ∀ (i : Fin 8192) (j : Fin 1024), gO m c (ix2 i j) = rO (aG m c) (m ((c.tc : Thread nD τ).loc main_arg1)) (ix2 i j) by
    funext y
    rw [eq_ix2 y]
    exact hs _ _
  intro i j
  rw [rO_apply]
  show (∑ q : Fin 8, ∑ e : Fin 256, aG m c (ix2 ⟨(1024 * (i.val / 1024) + i.val % 1024) % 8192, _⟩ (col q e)) * aW m c (ix3 q j e)) = _
  refine Fin.sum_mul_add_congr (fun q e hl => ?_)
  rw [aW_eq, colBlocks_apply]
  refine congrArg₂ (fun p q : EReal => p * q) (congrArg (aG m c) (congrArg₂ ix2 (Fin.ext ?_) (Fin.ext ?_))) (congrArg (m ((c.tc : Thread nD τ).loc main_arg1) : S1024x2048.Idx → EReal) (congrArg₂ ix2 rfl (Fin.ext ?_)))
  · show (1024 * (i.val / 1024) + i.val % 1024) % 8192 = i.val; omega
  · show 256 * q.val + e.val = q.val * 256 + e.val; omega
  · show 256 * q.val + e.val = q.val * 256 + e.val; omega

/-- The kernel's run ends with the reference's cotangent. -/
theorem run (ρ : Dev nD → PrngReg) :
    θ_run defs (onTc (τ := τ) (main (F := Ideal))) ⟨m, fun _ => 0, ρ⟩ fun r => ∀ c : Dev nD,
      r.2.mem ((c.tc : Thread nD τ).loc main_v3) = rO (m ((c.tc : Thread nD τ).loc main_arg0)) (m ((c.tc : Thread nD τ).loc main_arg1)) :=
  (θ_run defs _ _).mono (fun _ h c => by
    have e : gO m c = rO (m ((c.tc : Thread nD τ).loc main_arg0)) (m ((c.tc : Thread nD τ).loc main_arg1)) := by
      rw [gO_eq, show aG m c = _ from V_main_arg0 m c]
    exact (h c).1.trans ((final2 m c).trans e)) (Value.run_blocks m ρ)

end Cert.Kernel12Ideal.Bwd
-- ==== Proof.ConvPw2Bwd.lean ====
module

public import proofs.«01_k».proof.Proof.Gen.Kernel13Ideal.Value
public import proofs.«01_k».proof.Proof.Gen.Reference13Ideal.Run
public import Idealize.ShloMosaic.Lib.Pipeline.Value
public import Idealize.ShloMosaic.Lib.Pipeline.ReadBack
public import Idealize.ShloMosaic.Lib.Pointwise
public import proofs.«01_k».proof.Proof.Rows

/-! The cotangent of a square product's left side: the kernel multiplies 1024 rows of the output's cotangent by the transposed
weight, in two column blocks; the reference is the gradient of the product. -/

@[expose] public section

set_option maxRecDepth 16384

noncomputable section

namespace Cert.Reference13Ideal.Bwd

open Cert.Reference13Ideal Cert.Reference13Ideal.Gen Idealize.ShloMosaic Idealize.ShloMosaic.TcCoe Idealize.SL.Sem

/-- The reference's result. -/
def rO (g : FVec Ideal S8192x1024 .bf16) (w : FVec Ideal S1024x1024 .f32) : FVec Ideal S8192x1024 .f32 :=
  Host.dotGeneral dot_S8192x1024_S1024x1024_S8192x1024_1_1_0_0_n_n none (extf .f32 g bitsLt_bf16_f32) w

theorem rO_apply (g : FVec Ideal S8192x1024 .bf16) (w : FVec Ideal S1024x1024 .f32) (i : Fin 8192) (j : Fin 1024) :
    rO g w (ix2 i j) = ∑ k : Fin 1024, g (ix2 i k) * w (ix2 j k) := by
  pointwise [rO]

/-- The reference's run ends with it. -/
theorem run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v3) = rO (m ((c.tc : Thread nD τ).loc main_arg0)) (m ((c.tc : Thread nD τ).loc main_arg1)) :=
  (θ_run defs _ _).mono (fun _ h c => (h c).1.trans (by unfold rO; rfl)) (Value.run (F := Ideal) m ρ)

end Cert.Reference13Ideal.Bwd

namespace Cert.Kernel13Ideal.Bwd

open Cert.Kernel13Ideal Cert.Kernel13Ideal.Gen Idealize.ShloMosaic Idealize.ShloMosaic.TcCoe Idealize.SL.Sem
open Idealize.ShloMosaic.Pipeline (Dat)
open Cert.Reference13Ideal.Bwd (rO rO_apply)

/-- Column `e` of the `q`th of two column blocks. -/
def col (q : Fin 2) (e : Fin 512) : Fin 1024 := ⟨512 * q.val + e.val, by omega⟩

theorem col0 (e : Fin 512) : col 0 e = ⟨e.val, by omega⟩ := Fin.ext (Nat.zero_add _)
theorem col1 (e : Fin 512) : col 1 e = ⟨512 + e.val, by omega⟩ := rfl

/-- Two stores side by side leave what each says of its own columns. -/
theorem canon_cols (G : S1024x1024.Idx → Ideal .f32) (w0 w1 : S1024x512.Idx → Ideal .f32)
    (L : List (View.Piece (Elt Ideal) S1024x1024 .f32))
    (h0 : ∀ (r : Fin 1024) (e : Fin 512), w0 (ix2 r e) = G (ix2 r (col 0 e)))
    (h1 : ∀ (r : Fin 1024) (e : Fin 512), w1 (ix2 r e) = G (ix2 r (col 1 e))) :
    View.canon ((⟨Rect.unit ![0, 512] ![1024, 512] inb_S1024x1024_S1024x512_0_512, w1⟩ : View.Piece (Elt Ideal) S1024x1024 .f32) ::
      ⟨Rect.unit ![0, 0] ![1024, 512] inb_S1024x1024_S1024x512_0_0, w0⟩ :: L) = G := by
  funext y
  refine View.canon_append_of_piecesOf G L [⟨Rect.unit ![0, 512] ![1024, 512] inb_S1024x1024_S1024x512_0_512, w1⟩, ⟨Rect.unit ![0, 0] ![1024, 512] inb_S1024x1024_S1024x512_0_0, w0⟩] ⟨?_, ?_, trivial⟩ y
      (View.cover_of_tiledL (s := S1024x1024) _ S1024x512.size (by sl_kernel_rfl) y)
  all_goals intro x; obtain ⟨r, e, rfl⟩ : ∃ (r : Fin 1024) (e : Fin 512), x = ix2 r e := ⟨x 0, x 1, eq_ix2 x⟩
  · refine (h1 r e).trans (congrArg G ?_); funext a; apply Fin.ext
    match a with
    | ⟨0, _⟩ => show r.val = 0 + 1 * r.val; omega
    | ⟨1, _⟩ => show 512 * 1 + e.val = 512 + 1 * e.val; omega
  · refine (h0 r e).trans (congrArg G ?_); funext a; apply Fin.ext
    match a with
    | ⟨0, _⟩ => show r.val = 0 + 1 * r.val; omega
    | ⟨1, _⟩ => show 512 * 0 + e.val = 0 + 1 * e.val; omega

/-- The block of the result. -/
def oBlk (x0 : Vec Ideal S1024x1024 .bf16) (x1 : Vec Ideal S1024x1024 .bf16) : Vec Ideal S1024x1024 .f32 := fun y =>
  ∑ k : Fin 1024, x0 (ix2 (y 0) k) * x1 (ix2 (y 1) k)

/-- What a grid point leaves in its output block. -/
theorem out_eq (x0 : Vec Ideal S1024x1024 .bf16) (x1 : Vec Ideal S1024x1024 .bf16) : out0_2 x0 x1 = oBlk x0 x1 := by
  unfold out0_2
  apply canon_cols
  all_goals intro r e; pointwise [k0_pay1, k0_pay2, oBlk]
  all_goals simp only [col0, col1]

variable (m : (ℓ : Loc nD τ sig) → Buf (Elt Ideal) ℓ)

/-- The arrays the region reads. -/
abbrev aG (c : Dev nD) : Vec Ideal S8192x1024 .bf16 := V m c main_arg0
abbrev aW (c : Dev nD) : Vec Ideal S1024x1024 .bf16 := V m c main_v0

/-- The weight is read as launched, but for its place: narrowing is the identity over the extended reals. -/
theorem aW_eq (c : Dev nD) : aW m c = (m ((c.tc : Thread nD τ).loc main_arg1) : S1024x1024.Idx → EReal) := by
  show StableHlo.after hostOps0 (fun b => m (c, b)) (Proc.devRef .tc main_v0) = _
  simp only [hostOps0, StableHlo.TRef.binary, StableHlo.TRef.nullary, StableHlo.TRef.ternary, StableHlo.TRef.unary, StableHlo.TRef.toBuf, StableHlo.TRef.ofBuf, cast_eq]
  after_results_simp
  rfl

/-- The rows of chunk `s` of an array of 8192 rows. -/
def chunk {n : Nat} {e : EltTy} (X : (⟨2, ![8192, n]⟩ : Shape).Idx → Elt Ideal e) (s : Nat) : (⟨2, ![1024, n]⟩ : Shape).Idx → Elt Ideal e :=
  fun y => X (ix2 ⟨(1024 * s + (y 0).val) % 8192, Nat.mod_lt _ (by decide)⟩ (y 1))

theorem lt8 (t : Fin cfg0.N) : t.val < 8 := lt_of_lt_of_eq t.isLt N_0

theorem index0 : ∀ t : Fin grid0.N, win0_0.index t 0 = t.val ∧ win0_0.index t 1 = 0 := by decide +kernel
theorem index1 : ∀ t : Fin grid0.N, win0_1.index t 0 = 0 ∧ win0_1.index t 1 = 0 := by decide +kernel
theorem index2 : ∀ t : Fin grid0.N, win0_2.index t 0 = t.val ∧ win0_2.index t 1 = 0 := by decide +kernel

/-- Point `t` reads its rows of input 0. -/
theorem iblk0 (c : Dev nD) (t : Fin cfg0.N) : (iblk m c 0 t : Vec Ideal S1024x1024 .bf16) = chunk (aG m c) t.val := by
  funext j
  unfold iblk
  rw [View.read_apply]
  exact congrArg (aG m c) (Rows.eq_row (index0 t).1 (index0 t).2 (by have := lt8 t; omega) rfl rfl)

/-- Every point reads the whole weight. -/
theorem iblk1 (c : Dev nD) (t : Fin cfg0.N) : (iblk m c 1 t : Vec Ideal S1024x1024 .bf16) = aW m c := by
  funext j
  unfold iblk
  rw [View.read_apply]
  exact congrArg (aW m c) (Rows.eq_whole (index1 t).1 (index1 t).2 rfl rfl)

/-- What the output ends holding. -/
def gO (c : Dev nD) : Vec Ideal S8192x1024 .f32 := fun i =>
  oBlk (chunk (aG m c) ((i 0).val / 1024)) (aW m c) (ix2 ⟨(i 0).val % 1024, Nat.mod_lt _ (by decide)⟩ (i 1))

/-- Point `t` writes its rows of it, -/
theorem flushed2 (c : Dev nD) (t : Fin cfg0.N) :
    (dats m 0 c).flushed 2 t = ((cfg0.win 2).blk t).view.read (Elt Ideal) (gO m c) := by
  have ht := lt8 t
  rw [Value.flushed2, out_eq, iblk0, iblk1]
  funext j
  rw [View.read_apply]
  exact Rows.at_chunk (fun s => oBlk (chunk (aG m c) s) (aW m c)) t.val j (by decide) (index2 t).1 (index2 t).2 rfl rfl

/-- so the output ends holding it. -/
theorem final2 (c : Dev nD) : (dats m 0 c).arrAt 2 cfg0.N = gO m c :=
  (dats m 0 c).arrAt_eq_of_cover 2 (gO m c) (fun t _ => flushed2 m c t) ((by decide +kernel : (cfg0.win 2).Covers).cover _ (Memref.isWhole_whole _))

/-- It is the reference's. -/
theorem gO_eq (c : Dev nD) : gO m c = rO (aG m c) (aW m c) := by
  suffices hs : ∀ (i : Fin 8192) (j : Fin 1024), gO m c (ix2 i j) = rO (aG m c) (aW m c) (ix2 i j) by
    funext y
    rw [eq_ix2 y]
    exact hs _ _
  intro i j
  rw [rO_apply]
  have e : (⟨(1024 * (i.val / 1024) + i.val % 1024) % 8192, Nat.mod_lt _ (by decide)⟩ : Fin 8192) = i := Fin.ext (by show _ % 8192 = i.val; omega)
  show ∑ k : Fin 1024, aG m c (ix2 ⟨(1024 * (i.val / 1024) + i.val % 1024) % 8192, _⟩ k) * aW m c (ix2 j k) = _
  simp only [e]

/-- The kernel's run ends with the reference's cotangent. -/
theorem run (ρ : Dev nD → PrngReg) :
    θ_run defs (onTc (τ := τ) (main (F := Ideal))) ⟨m, fun _ => 0, ρ⟩ fun r => ∀ c : Dev nD,
      r.2.mem ((c.tc : Thread nD τ).loc main_v1) = rO (m ((c.tc : Thread nD τ).loc main_arg0)) (m ((c.tc : Thread nD τ).loc main_arg1)) :=
  (θ_run defs _ _).mono (fun _ h c => by
    have e : gO m c = rO (m ((c.tc : Thread nD τ).loc main_arg0)) (m ((c.tc : Thread nD τ).loc main_arg1)) := by
      rw [gO_eq, aW_eq, show aG m c = _ from V_main_arg0 m c]
    exact (h c).1.trans ((final2 m c).trans e)) (Value.run_blocks m ρ)

end Cert.Kernel13Ideal.Bwd
-- ==== Proof.GmlpOutBwd.lean ====
module

public import proofs.«01_k».proof.Proof.Gen.Kernel14Ideal.Value
public import proofs.«01_k».proof.Proof.Gen.Reference14Ideal.Run
public import Idealize.ShloMosaic.Lib.Pipeline.Value
public import Idealize.ShloMosaic.Lib.Pipeline.ReadBack
public import Idealize.ShloMosaic.Lib.Pointwise
public import proofs.«01_k».proof.Proof.Rows

/-! The cotangent of a square product's left side: the kernel multiplies 1024 rows of the output's cotangent by the transposed
weight, in two column blocks; the reference is the gradient of the product. -/

@[expose] public section

set_option maxRecDepth 16384

noncomputable section

namespace Cert.Reference14Ideal.Bwd

open Cert.Reference14Ideal Cert.Reference14Ideal.Gen Idealize.ShloMosaic Idealize.ShloMosaic.TcCoe Idealize.SL.Sem

/-- The reference's result. -/
def rO (g : FVec Ideal S8192x1024 .bf16) (w : FVec Ideal S1024x1024 .f32) : FVec Ideal S8192x1024 .bf16 :=
  truncf .bf16 (Host.dotGeneral dot_S8192x1024_S1024x1024_S8192x1024_1_1_0_0_n_n none (extf .f32 g bitsLt_bf16_f32) w) bitsLt_bf16_f32

theorem rO_apply (g : FVec Ideal S8192x1024 .bf16) (w : FVec Ideal S1024x1024 .f32) (i : Fin 8192) (j : Fin 1024) :
    rO g w (ix2 i j) = ∑ k : Fin 1024, g (ix2 i k) * w (ix2 j k) := by
  pointwise [rO]

/-- The reference's run ends with it. -/
theorem run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v4) = rO (m ((c.tc : Thread nD τ).loc main_arg0)) (m ((c.tc : Thread nD τ).loc main_arg1)) :=
  (θ_run defs _ _).mono (fun _ h c => (h c).1.trans (by unfold rO; rfl)) (Value.run (F := Ideal) m ρ)

end Cert.Reference14Ideal.Bwd

namespace Cert.Kernel14Ideal.Bwd

open Cert.Kernel14Ideal Cert.Kernel14Ideal.Gen Idealize.ShloMosaic Idealize.ShloMosaic.TcCoe Idealize.SL.Sem
open Idealize.ShloMosaic.Pipeline (Dat)
open Cert.Reference14Ideal.Bwd (rO rO_apply)

/-- Column `e` of the `q`th of two column blocks. -/
def col (q : Fin 2) (e : Fin 512) : Fin 1024 := ⟨512 * q.val + e.val, by omega⟩

theorem col0 (e : Fin 512) : col 0 e = ⟨e.val, by omega⟩ := Fin.ext (Nat.zero_add _)
theorem col1 (e : Fin 512) : col 1 e = ⟨512 + e.val, by omega⟩ := rfl

/-- Two stores side by side leave what each says of its own columns. -/
theorem canon_cols (G : S1024x1024.Idx → Ideal .bf16) (w0 w1 : S1024x512.Idx → Ideal .bf16)
    (L : List (View.Piece (Elt Ideal) S1024x1024 .bf16))
    (h0 : ∀ (r : Fin 1024) (e : Fin 512), w0 (ix2 r e) = G (ix2 r (col 0 e)))
    (h1 : ∀ (r : Fin 1024) (e : Fin 512), w1 (ix2 r e) = G (ix2 r (col 1 e))) :
    View.canon ((⟨Rect.unit ![0, 512] ![1024, 512] inb_S1024x1024_S1024x512_0_512, w1⟩ : View.Piece (Elt Ideal) S1024x1024 .bf16) ::
      ⟨Rect.unit ![0, 0] ![1024, 512] inb_S1024x1024_S1024x512_0_0, w0⟩ :: L) = G := by
  funext y
  refine View.canon_append_of_piecesOf G L [⟨Rect.unit ![0, 512] ![1024, 512] inb_S1024x1024_S1024x512_0_512, w1⟩, ⟨Rect.unit ![0, 0] ![1024, 512] inb_S1024x1024_S1024x512_0_0, w0⟩] ⟨?_, ?_, trivial⟩ y
      (View.cover_of_tiledL (s := S1024x1024) _ S1024x512.size (by sl_kernel_rfl) y)
  all_goals intro x; obtain ⟨r, e, rfl⟩ : ∃ (r : Fin 1024) (e : Fin 512), x = ix2 r e := ⟨x 0, x 1, eq_ix2 x⟩
  · refine (h1 r e).trans (congrArg G ?_); funext a; apply Fin.ext
    match a with
    | ⟨0, _⟩ => show r.val = 0 + 1 * r.val; omega
    | ⟨1, _⟩ => show 512 * 1 + e.val = 512 + 1 * e.val; omega
  · refine (h0 r e).trans (congrArg G ?_); funext a; apply Fin.ext
    match a with
    | ⟨0, _⟩ => show r.val = 0 + 1 * r.val; omega
    | ⟨1, _⟩ => show 512 * 0 + e.val = 0 + 1 * e.val; omega

/-- The block of the result. -/
def oBlk (x0 : Vec Ideal S1024x1024 .bf16) (x1 : Vec Ideal S1024x1024 .bf16) : Vec Ideal S1024x1024 .bf16 := fun y =>
  ∑ k : Fin 1024, x0 (ix2 (y 0) k) * x1 (ix2 (y 1) k)

/-- What a grid point leaves in its output block. -/
theorem out_eq (x0 : Vec Ideal S1024x1024 .bf16) (x1 : Vec Ideal S1024x1024 .bf16) : out0_2 x0 x1 = oBlk x0 x1 := by
  unfold out0_2
  apply canon_cols
  all_goals intro r e; pointwise [k0_pay1, k0_pay2, oBlk]
  all_goals simp only [col0, col1]

variable (m : (ℓ : Loc nD τ sig) → Buf (Elt Ideal) ℓ)

/-- The arrays the region reads. -/
abbrev aG (c : Dev nD) : Vec Ideal S8192x1024 .bf16 := V m c main_arg0
abbrev aW (c : Dev nD) : Vec Ideal S1024x1024 .bf16 := V m c main_v0

/-- The weight is read as launched, but for its place: narrowing is the identity over the extended reals. -/
theorem aW_eq (c : Dev nD) : aW m c = (m ((c.tc : Thread nD τ).loc main_arg1) : S1024x1024.Idx → EReal) := by
  show StableHlo.after hostOps0 (fun b => m (c, b)) (Proc.devRef .tc main_v0) = _
  simp only [hostOps0, StableHlo.TRef.binary, StableHlo.TRef.nullary, StableHlo.TRef.ternary, StableHlo.TRef.unary, StableHlo.TRef.toBuf, StableHlo.TRef.ofBuf, cast_eq]
  after_results_simp
  rfl

/-- The rows of chunk `s` of an array of 8192 rows. -/
def chunk {n : Nat} {e : EltTy} (X : (⟨2, ![8192, n]⟩ : Shape).Idx → Elt Ideal e) (s : Nat) : (⟨2, ![1024, n]⟩ : Shape).Idx → Elt Ideal e :=
  fun y => X (ix2 ⟨(1024 * s + (y 0).val) % 8192, Nat.mod_lt _ (by decide)⟩ (y 1))

theorem lt8 (t : Fin cfg0.N) : t.val < 8 := lt_of_lt_of_eq t.isLt N_0

theorem index0 : ∀ t : Fin grid0.N, win0_0.index t 0 = t.val ∧ win0_0.index t 1 = 0 := by decide +kernel
theorem index1 : ∀ t : Fin grid0.N, win0_1.index t 0 = 0 ∧ win0_1.index t 1 = 0 := by decide +kernel
theorem index2 : ∀ t : Fin grid0.N, win0_2.index t 0 = t.val ∧ win0_2.index t 1 = 0 := by decide +kernel

/-- Point `t` reads its rows of input 0. -/
theorem iblk0 (c : Dev nD) (t : Fin cfg0.N) : (iblk m c 0 t : Vec Ideal S1024x1024 .bf16) = chunk (aG m c) t.val := by
  funext j
  unfold iblk
  rw [View.read_apply]
  exact congrArg (aG m c) (Rows.eq_row (index0 t).1 (index0 t).2 (by have := lt8 t; omega) rfl rfl)

/-- Every point reads the whole weight. -/
theorem iblk1 (c : Dev nD) (t : Fin cfg0.N) : (iblk m c 1 t : Vec Ideal S1024x1024 .bf16) = aW m c := by
  funext j
  unfold iblk
  rw [View.read_apply]
  exact congrArg (aW m c) (Rows.eq_whole (index1 t).1 (index1 t).2 rfl rfl)

/-- What the output ends holding. -/
def gO (c : Dev nD) : Vec Ideal S8192x1024 .bf16 := fun i =>
  oBlk (chunk (aG m c) ((i 0).val / 1024)) (aW m c) (ix2 ⟨(i 0).val % 1024, Nat.mod_lt _ (by decide)⟩ (i 1))

/-- Point `t` writes its rows of it, -/
theorem flushed2 (c : Dev nD) (t : Fin cfg0.N) :
    (dats m 0 c).flushed 2 t = ((cfg0.win 2).blk t).view.read (Elt Ideal) (gO m c) := by
  have ht := lt8 t
  rw [Value.flushed2, out_eq, iblk0, iblk1]
  funext j
  rw [View.read_apply]
  exact Rows.at_chunk (fun s => oBlk (chunk (aG m c) s) (aW m c)) t.val j (by decide) (index2 t).1 (index2 t).2 rfl rfl

/-- so the output ends holding it. -/
theorem final2 (c : Dev nD) : (dats m 0 c).arrAt 2 cfg0.N = gO m c :=
  (dats m 0 c).arrAt_eq_of_cover 2 (gO m c) (fun t _ => flushed2 m c t) ((by decide +kernel : (cfg0.win 2).Covers).cover _ (Memref.isWhole_whole _))

/-- It is the reference's. -/
theorem gO_eq (c : Dev nD) : gO m c = rO (aG m c) (aW m c) := by
  suffices hs : ∀ (i : Fin 8192) (j : Fin 1024), gO m c (ix2 i j) = rO (aG m c) (aW m c) (ix2 i j) by
    funext y
    rw [eq_ix2 y]
    exact hs _ _
  intro i j
  rw [rO_apply]
  have e : (⟨(1024 * (i.val / 1024) + i.val % 1024) % 8192, Nat.mod_lt _ (by decide)⟩ : Fin 8192) = i := Fin.ext (by show _ % 8192 = i.val; omega)
  show ∑ k : Fin 1024, aG m c (ix2 ⟨(1024 * (i.val / 1024) + i.val % 1024) % 8192, _⟩ k) * aW m c (ix2 j k) = _
  simp only [e]

/-- The kernel's run ends with the reference's cotangent. -/
theorem run (ρ : Dev nD → PrngReg) :
    θ_run defs (onTc (τ := τ) (main (F := Ideal))) ⟨m, fun _ => 0, ρ⟩ fun r => ∀ c : Dev nD,
      r.2.mem ((c.tc : Thread nD τ).loc main_v1) = rO (m ((c.tc : Thread nD τ).loc main_arg0)) (m ((c.tc : Thread nD τ).loc main_arg1)) :=
  (θ_run defs _ _).mono (fun _ h c => by
    have e : gO m c = rO (m ((c.tc : Thread nD τ).loc main_arg0)) (m ((c.tc : Thread nD τ).loc main_arg1)) := by
      rw [gO_eq, aW_eq, show aG m c = _ from V_main_arg0 m c]
    exact (h c).1.trans ((final2 m c).trans e)) (Value.run_blocks m ρ)

end Cert.Kernel14Ideal.Bwd
-- ==== Proof.Heads.lean ====
module

public import Idealize.ShloMosaic.Lib.Pointwise
public import proofs.«01_k».proof.Proof.Blocks

/-! Nine arrays of 512 columns (eight heads of 64) side by side, column by column. -/

@[expose] public section

set_option maxRecDepth 16384

noncomputable section

namespace Cert.Heads

open Idealize.ShloMosaic

/-- Nine arrays of 512 columns side by side. -/
def cat {n : Nat} (a0 a1 a2 a3 a4 a5 a6 a7 a8 : (⟨2, ![n, 512]⟩ : Shape).Idx → Elt Ideal .bf16) : (⟨2, ![n, 4608]⟩ : Shape).Idx → Elt Ideal .bf16 := fun y =>
  (![a0, a1, a2, a3, a4, a5, a6, a7, a8] : Fin 9 → (⟨2, ![n, 512]⟩ : Shape).Idx → Elt Ideal .bf16) ⟨(y 1).val / 512, by have h : (y 1).val < 4608 := (y 1).isLt; omega⟩
    (ix2 (y 0) ⟨(y 1).val % 512, Nat.mod_lt _ (by decide)⟩)

theorem cat_of {n : Nat} (a0 a1 a2 a3 a4 a5 a6 a7 a8 : (⟨2, ![n, 512]⟩ : Shape).Idx → Elt Ideal .bf16) (r : Fin n) (k : Fin 4608) (q : Fin 9) (e : Fin 512) (h : k.val = 512 * q.val + e.val) :
    cat a0 a1 a2 a3 a4 a5 a6 a7 a8 (ix2 r k) = (![a0, a1, a2, a3, a4, a5, a6, a7, a8] : Fin 9 → (⟨2, ![n, 512]⟩ : Shape).Idx → Elt Ideal .bf16) q (ix2 r e) := by
  have hq : (⟨k.val / 512, by omega⟩ : Fin 9) = q := Fin.ext (by show k.val / 512 = q.val; omega)
  have he : (⟨k.val % 512, Nat.mod_lt _ (by decide)⟩ : Fin 512) = e := Fin.ext (by show k.val % 512 = e.val; omega)
  show (![a0, a1, a2, a3, a4, a5, a6, a7, a8] : Fin 9 → (⟨2, ![n, 512]⟩ : Shape).Idx → Elt Ideal .bf16) ⟨k.val / 512, _⟩ (ix2 r ⟨k.val % 512, _⟩) = _
  rw [hq, he]

set_option maxHeartbeats 2000000 in
/-- Laid side by side they are that array. -/
theorem cat_eq {n : Nat} (a0 a1 a2 a3 a4 a5 a6 a7 a8 : (⟨2, ![n, 512]⟩ : Shape).Idx → Ideal .bf16)
    (hc : Shape.Concatenates [⟨2, ![n, 512]⟩, ⟨2, ![n, 512]⟩, ⟨2, ![n, 512]⟩, ⟨2, ![n, 512]⟩, ⟨2, ![n, 512]⟩, ⟨2, ![n, 512]⟩, ⟨2, ![n, 512]⟩, ⟨2, ![n, 512]⟩, ⟨2, ![n, 512]⟩] ⟨2, ![n, 4608]⟩ 1) :
    concatenate ⟨2, ![n, 4608]⟩ 1 [⟨⟨2, ![n, 512]⟩, a0⟩, ⟨⟨2, ![n, 512]⟩, a1⟩, ⟨⟨2, ![n, 512]⟩, a2⟩, ⟨⟨2, ![n, 512]⟩, a3⟩, ⟨⟨2, ![n, 512]⟩, a4⟩, ⟨⟨2, ![n, 512]⟩, a5⟩, ⟨⟨2, ![n, 512]⟩, a6⟩, ⟨⟨2, ![n, 512]⟩, a7⟩, ⟨⟨2, ![n, 512]⟩, a8⟩] hc = cat a0 a1 a2 a3 a4 a5 a6 a7 a8 := by
  suffices hs : ∀ (r : Fin n) (k : Fin 4608), concatenate ⟨2, ![n, 4608]⟩ 1 [⟨⟨2, ![n, 512]⟩, a0⟩, ⟨⟨2, ![n, 512]⟩, a1⟩, ⟨⟨2, ![n, 512]⟩, a2⟩, ⟨⟨2, ![n, 512]⟩, a3⟩, ⟨⟨2, ![n, 512]⟩, a4⟩, ⟨⟨2, ![n, 512]⟩, a5⟩, ⟨⟨2, ![n, 512]⟩, a6⟩, ⟨⟨2, ![n, 512]⟩, a7⟩, ⟨⟨2, ![n, 512]⟩, a8⟩] hc (ix2 r k) = cat a0 a1 a2 a3 a4 a5 a6 a7 a8 (ix2 r k) by
    funext y
    rw [eq_ix2 y]
    exact hs _ _
  intro r k
  obtain ⟨q, e, h⟩ : ∃ (q : Fin 9) (e : Fin 512), k.val = 512 * q.val + e.val :=
    ⟨⟨k.val / 512, by omega⟩, ⟨k.val % 512, Nat.mod_lt _ (by decide)⟩, by show k.val = 512 * (k.val / 512) + k.val % 512; omega⟩
  rw [cat_of a0 a1 a2 a3 a4 a5 a6 a7 a8 r k q e h]
  have key := Blocks.side (k := 512) [⟨⟨2, ![n, 512]⟩, a0⟩, ⟨⟨2, ![n, 512]⟩, a1⟩, ⟨⟨2, ![n, 512]⟩, a2⟩, ⟨⟨2, ![n, 512]⟩, a3⟩, ⟨⟨2, ![n, 512]⟩, a4⟩, ⟨⟨2, ![n, 512]⟩, a5⟩, ⟨⟨2, ![n, 512]⟩, a6⟩, ⟨⟨2, ![n, 512]⟩, a7⟩, ⟨⟨2, ![n, 512]⟩, a8⟩] hc r k
  fin_cases q
  · exact key 0 (show 0 < 9 by omega) a0 rfl 0 rfl e h.symm
  · exact key 1 (show 1 < 9 by omega) a1 rfl 512 rfl e h.symm
  · exact key 2 (show 2 < 9 by omega) a2 rfl 1024 rfl e h.symm
  · exact key 3 (show 3 < 9 by omega) a3 rfl 1536 rfl e h.symm
  · exact key 4 (show 4 < 9 by omega) a4 rfl 2048 rfl e h.symm
  · exact key 5 (show 5 < 9 by omega) a5 rfl 2560 rfl e h.symm
  · exact key 6 (show 6 < 9 by omega) a6 rfl 3072 rfl e h.symm
  · exact key 7 (show 7 < 9 by omega) a7 rfl 3584 rfl e h.symm
  · exact key 8 (show 8 < 9 by omega) a8 rfl 4096 rfl e h.symm

/-- The nine heads of device `q`'s columns. -/
def gath {n : Nat} (q : Fin 8) (d : (⟨2, ![n, 4608]⟩ : Shape).Idx → Elt Ideal .bf16) : (⟨2, ![n, 576]⟩ : Shape).Idx → Ideal .bf16 :=
  fun y => d (ix2 (y 0) ⟨576 * q.val + (y 1).val, by have h : (y 1).val < 576 := (y 1).isLt; omega⟩)

/-- Head `i` of device `q` lies in array `a`, from column `o`. -/
theorem head_of {n : Nat} (a0 a1 a2 a3 a4 a5 a6 a7 a8 : (⟨2, ![n, 512]⟩ : Shape).Idx → Elt Ideal .bf16) (q : Fin 8) (i : Fin 9) (a : Fin 9) (o : Nat) (ho : o + 64 ≤ 512)
    (h : 576 * q.val + 64 * i.val = 512 * a.val + o) (r : Fin n) (e : Fin 64) :
    (![a0, a1, a2, a3, a4, a5, a6, a7, a8] : Fin 9 → (⟨2, ![n, 512]⟩ : Shape).Idx → Elt Ideal .bf16) a (ix2 r ⟨o + e.val, by omega⟩) = gath q (cat a0 a1 a2 a3 a4 a5 a6 a7 a8) (ix2 r (Blocks.hcol i e)) :=
  (cat_of a0 a1 a2 a3 a4 a5 a6 a7 a8 r ⟨576 * q.val + (64 * i.val + e.val), by omega⟩ a ⟨o + e.val, by omega⟩ (by show 576 * q.val + (64 * i.val + e.val) = 512 * a.val + (o + e.val); omega)).symm

/-- The same of a head at an array's start. -/
theorem head0_of {n : Nat} (a0 a1 a2 a3 a4 a5 a6 a7 a8 : (⟨2, ![n, 512]⟩ : Shape).Idx → Elt Ideal .bf16) (q : Fin 8) (i : Fin 9) (a : Fin 9)
    (h : 576 * q.val + 64 * i.val = 512 * a.val) (r : Fin n) (e : Fin 64) :
    (![a0, a1, a2, a3, a4, a5, a6, a7, a8] : Fin 9 → (⟨2, ![n, 512]⟩ : Shape).Idx → Elt Ideal .bf16) a (ix2 r ⟨e.val, by omega⟩) = gath q (cat a0 a1 a2 a3 a4 a5 a6 a7 a8) (ix2 r (Blocks.hcol i e)) :=
  (cat_of a0 a1 a2 a3 a4 a5 a6 a7 a8 r ⟨576 * q.val + (64 * i.val + e.val), by omega⟩ a ⟨e.val, by omega⟩ (by show 576 * q.val + (64 * i.val + e.val) = 512 * a.val + e.val; omega)).symm

end Cert.Heads
-- ==== Proof.AttnQkvBwdBlock.lean ====
module

public import proofs.«01_k».proof.Proof.Heads
public import proofs.«01_k».proof.Proof.Gen.Kernel15Ideal.Value
public import proofs.«01_k».proof.Proof.Gen.Reference15Ideal.Run
public import Idealize.ShloMosaic.Lib.Pipeline.Value
public import Idealize.ShloMosaic.Lib.Pipeline.ReadBack
public import Idealize.ShloMosaic.Lib.Pipeline.ValueKit.Acc
public import Idealize.ShloMosaic.Lib.Pointwise
public import proofs.«01_k».proof.Proof.Blocks

/-! The cotangent through attention's first product and norm, on a block of 256 rows: the kernel gathers each device's nine heads
into a block, multiplies the eight blocks by the transposed weight's, and writes out the norm's gradient; the reference is
automatic differentiation of the norm and the product, of the cotangents side by side. -/

@[expose] public section

set_option maxRecDepth 16384

noncomputable section

namespace Cert.Reference15Ideal.Bwd

open Cert.Reference15Ideal Cert.Reference15Ideal.Gen Idealize.ShloMosaic Idealize.ShloMosaic.TcCoe Idealize.SL.Sem
open Cert.Heads (cat cat_of cat_eq gath head_of head0_of)

/-- The nine cotangents side by side, -/
def rCat (a0 a1 a2 a3 a4 a5 a6 a7 a8 : FVec Ideal S8192x512 .bf16) : FVec Ideal S8192x4608 .bf16 :=
  concatenate S8192x4608 1 [⟨S8192x512, a0⟩, ⟨S8192x512, a1⟩, ⟨S8192x512, a2⟩, ⟨S8192x512, a3⟩, ⟨S8192x512, a4⟩, ⟨S8192x512, a5⟩, ⟨S8192x512, a6⟩, ⟨S8192x512, a7⟩, ⟨S8192x512, a8⟩] concatenates_S8192x512_S8192x512_S8192x512_S8192x512_S8192x512_S8192x512_S8192x512_S8192x512_S8192x512_S8192x4608_d1

theorem rCat_eq (a0 a1 a2 a3 a4 a5 a6 a7 a8 : FVec Ideal S8192x512 .bf16) : rCat a0 a1 a2 a3 a4 a5 a6 a7 a8 = cat a0 a1 a2 a3 a4 a5 a6 a7 a8 := cat_eq a0 a1 a2 a3 a4 a5 a6 a7 a8 _

/-- A row's mean square and the constant added to it. -/
def msq (x : Fin 1024 → EReal) : EReal :=
  Ideal.div (∑ k : Fin 1024, x k * x k) (Ideal.ofBits FTy.f32 1149239296#32) + Ideal.ofBits FTy.f32 897988541#32

/-- What the mean square's cotangent adds to each entry of a row, per unit of the entry. -/
def slope (x d : Fin 1024 → EReal) : EReal :=
  Ideal.div ((∑ k : Fin 1024, x k * d k) * (Ideal.ofBits FTy.f32 3204448256#32 * Ideal.div (Ideal.rsqrt (msq x)) (msq x))) (Ideal.ofBits FTy.f32 1149239296#32)

/-- the cotangents of the norm's result, -/
def rDh (da : FVec Ideal S8192x4608 .bf16) (w : FVec Ideal S1024x4608 .f32) : FVec Ideal S8192x1024 .f32 := Host.dotGeneral dot_S8192x4608_S1024x4608_S8192x1024_1_1_0_0_n_n none (extf .f32 da bitsLt_bf16_f32) w

/-- of the scaled rows, -/
def rDn (dh : FVec Ideal S8192x1024 .f32) (g : FVec Ideal S1024 .f32) : FVec Ideal S8192x1024 .f32 :=
  mulf dh (broadcastInDim S8192x1024 ![0, 1] bcast_S1x1024_S8192x1024_0_1 (broadcastInDim S1x1024 ![1] bcast_S1024_S1x1024_1 g))

def rMs (x : FVec Ideal S8192x1024 .f32) : FVec Ideal S8192x1 .f32 :=
  addf (Host.divf (broadcastInDim S8192x1 ![0] bcast_S8192_S8192x1_0 (Host.reduceAdd (mulf x x) (constant S_ .f32 0x00000000#32) reducesTo_S8192x1024_S8192_d1 h_S_)) (broadcastInDim S8192x1 ![] bcast_S_S8192x1 (constant S_ .f32 0x44800000#32))) (broadcastInDim S8192x1 ![] bcast_S_S8192x1 (constant S_ .f32 0x358637BD#32))

def rSl (x dn : FVec Ideal S8192x1024 .f32) : FVec Ideal S8192 .f32 :=
  Host.reduceAdd (Host.divf (mulf (shapeCast S8192x1 (Host.reduceAdd (mulf x dn) (constant S_ .f32 0x00000000#32) reducesTo_S8192x1024_S8192_d1 h_S_) shapeCasts_S8192_S8192x1) (mulf (broadcastInDim S8192x1 ![] bcast_S_S8192x1 (constant S_ .f32 0xBF000000#32)) (Host.divf (Host.rsqrt (rMs x)) (rMs x)))) (broadcastInDim S8192x1 ![] bcast_S_S8192x1 (constant S_ .f32 0x44800000#32))) (constant S_ .f32 0x00000000#32) reducesTo_S8192x1_S8192_d1 h_S_

/-- of the residual stream -/
def rDx (dr x dn : FVec Ideal S8192x1024 .f32) : FVec Ideal S8192x1024 .f32 :=
  addf (addf (addf dr (mulf dn (broadcastInDim S8192x1024 ![0, 1] bcast_S8192x1_S8192x1024_0_1 (Host.rsqrt (rMs x))))) (mulf x (broadcastInDim S8192x1024 ![0] bcast_S8192_S8192x1024_0 (rSl x dn)))) (mulf (broadcastInDim S8192x1024 ![0] bcast_S8192_S8192x1024_0 (rSl x dn)) x)

/-- and of the gain. -/
def rDg (x dh : FVec Ideal S8192x1024 .f32) : FVec Ideal S1x1024 .f32 :=
  shapeCast S1x1024 (Host.reduceAdd (shapeCast S1x1024 (Host.reduceAdd (mulf (mulf x (broadcastInDim S8192x1024 ![0, 1] bcast_S8192x1_S8192x1024_0_1 (Host.rsqrt (rMs x)))) dh) (constant S_ .f32 0x00000000#32) reducesTo_S8192x1024_S1024_d0 h_S_) shapeCasts_S1024_S1x1024) (constant S_ .f32 0x00000000#32) reducesTo_S1x1024_S1024_d0 h_S_) shapeCasts_S1024_S1x1024

theorem rDh_apply (da : FVec Ideal S8192x4608 .bf16) (w : FVec Ideal S1024x4608 .f32) (i : Fin 8192) (j : Fin 1024) :
    rDh da w (ix2 i j) = ∑ k : Fin 4608, da (ix2 i k) * w (ix2 j k) := by
  pointwise [rDh]

theorem rDn_apply (dh : FVec Ideal S8192x1024 .f32) (g : FVec Ideal S1024 .f32) (i : Fin 8192) (j : Fin 1024) :
    rDn dh g (ix2 i j) = dh (ix2 i j) * g (ix1 j) := by
  pointwise [rDn]

theorem rMs_apply (x : FVec Ideal S8192x1024 .f32) (i : Fin 8192) : rMs x (ix2 i 0) = msq (fun k => x (ix2 i k)) := by
  unfold msq
  pointwise [rMs]

theorem rSl_apply (x dn : FVec Ideal S8192x1024 .f32) (i : Fin 8192) : rSl x dn (ix1 i) = slope (fun k => x (ix2 i k)) (fun k => dn (ix2 i k)) := by
  unfold slope
  rw [← rMs_apply]
  pointwise [rSl]
  simp only [Finset.univ_unique, Finset.sum_singleton]
  rfl

theorem rDx_apply (dr x dn : FVec Ideal S8192x1024 .f32) (i : Fin 8192) (j : Fin 1024) :
    rDx dr x dn (ix2 i j) = dr (ix2 i j) + dn (ix2 i j) * Ideal.rsqrt (msq (fun k => x (ix2 i k))) + x (ix2 i j) * slope (fun k => x (ix2 i k)) (fun k => dn (ix2 i k))
      + slope (fun k => x (ix2 i k)) (fun k => dn (ix2 i k)) * x (ix2 i j) := by
  rw [← rMs_apply, ← rSl_apply]
  pointwise [rDx]

theorem rDg_apply (x dh : FVec Ideal S8192x1024 .f32) (j : Fin 1024) :
    rDg x dh (ix2 0 j) = ∑ i : Fin 8192, x (ix2 i j) * Ideal.rsqrt (msq (fun k => x (ix2 i k))) * dh (ix2 i j) := by
  simp only [← rMs_apply]
  pointwise [rDg]
  simp only [Finset.univ_unique, Finset.sum_singleton]

/-- The reference's run ends with the three. -/
theorem run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v40) = rDx (m ((c.tc : Thread nD τ).loc main_arg11)) (m ((c.tc : Thread nD τ).loc main_arg10)) (rDn (rDh (rCat (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8))) (m ((c.tc : Thread nD τ).loc main_arg9))) (m ((c.tc : Thread nD τ).loc main_arg12))) ∧
      r.2.mem ((c.tc : Thread nD τ).loc main_v41) = rDx (m ((c.tc : Thread nD τ).loc main_arg11)) (m ((c.tc : Thread nD τ).loc main_arg10)) (rDn (rDh (rCat (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8))) (m ((c.tc : Thread nD τ).loc main_arg9))) (m ((c.tc : Thread nD τ).loc main_arg12))) ∧
      r.2.mem ((c.tc : Thread nD τ).loc main_v42) = rDg (m ((c.tc : Thread nD τ).loc main_arg10)) (rDh (rCat (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8))) (m ((c.tc : Thread nD τ).loc main_arg9))) :=
  (θ_run defs _ _).mono (fun _ h c => ⟨(h c).1.trans (by unfold Value.res_main_v40 rDx rSl rMs rDn rDh rCat; rfl), (h c).2.1.trans (by unfold Value.res_main_v41 rDx rSl rMs rDn rDh rCat; rfl),
    (h c).2.2.1.trans (by unfold rDg rMs rDh rCat; rfl)⟩) (Value.run (F := Ideal) m ρ)

end Cert.Reference15Ideal.Bwd

namespace Cert.Kernel15Ideal.Bwd

open Cert.Kernel15Ideal Cert.Kernel15Ideal.Gen Idealize.ShloMosaic Idealize.ShloMosaic.TcCoe Idealize.SL.Sem
open Idealize.ShloMosaic.Pipeline (Dat)
open Cert.Heads (cat cat_of cat_eq gath head_of head0_of)
open Cert.Reference15Ideal.Bwd (rDh rDn rDx rDg rDh_apply rDn_apply rDx_apply rDg_apply msq slope)

section
variable {sig : RefSig} {κ : Kind} {sp : Space} (v : View sig κ sp S256x576 .bf16)
  (x0 : Vec Ideal S256x512 .bf16) (x1 : Vec Ideal S256x512 .bf16) (x2 : Vec Ideal S256x512 .bf16) (x3 : Vec Ideal S256x512 .bf16) (x4 : Vec Ideal S256x512 .bf16) (x5 : Vec Ideal S256x512 .bf16) (x6 : Vec Ideal S256x512 .bf16) (x7 : Vec Ideal S256x512 .bf16) (x8 : Vec Ideal S256x512 .bf16)
  (L : List (View.Piece (Elt Ideal) S256x576 .bf16))

/-- The nine heads of each device's columns, read back. -/
theorem read_0 :
    v.readCov ((⟨Rect.unit ![0, 512] ![256, 64] inb_S256x576_S256x64_0_512, k0_pay13 (View.ld x1 (Rect.unit (s := S256x512) ![0, 0] ![256, 64] inb_S256x512_S256x64_0_0))⟩ : View.Piece (Elt Ideal) S256x576 .bf16) ::
      ⟨Rect.unit ![0, 448] ![256, 64] inb_S256x576_S256x64_0_448, k0_pay12 (View.ld x0 (Rect.unit (s := S256x512) ![0, 448] ![256, 64] inb_S256x512_S256x64_0_448))⟩ ::
      ⟨Rect.unit ![0, 384] ![256, 64] inb_S256x576_S256x64_0_384, k0_pay11 (View.ld x0 (Rect.unit (s := S256x512) ![0, 384] ![256, 64] inb_S256x512_S256x64_0_384))⟩ ::
      ⟨Rect.unit ![0, 320] ![256, 64] inb_S256x576_S256x64_0_320, k0_pay10 (View.ld x0 (Rect.unit (s := S256x512) ![0, 320] ![256, 64] inb_S256x512_S256x64_0_320))⟩ ::
      ⟨Rect.unit ![0, 256] ![256, 64] inb_S256x576_S256x64_0_256, k0_pay9 (View.ld x0 (Rect.unit (s := S256x512) ![0, 256] ![256, 64] inb_S256x512_S256x64_0_256))⟩ ::
      ⟨Rect.unit ![0, 192] ![256, 64] inb_S256x576_S256x64_0_192, k0_pay8 (View.ld x0 (Rect.unit (s := S256x512) ![0, 192] ![256, 64] inb_S256x512_S256x64_0_192))⟩ ::
      ⟨Rect.unit ![0, 128] ![256, 64] inb_S256x576_S256x64_0_128, k0_pay7 (View.ld x0 (Rect.unit (s := S256x512) ![0, 128] ![256, 64] inb_S256x512_S256x64_0_128))⟩ ::
      ⟨Rect.unit ![0, 64] ![256, 64] inb_S256x576_S256x64_0_64, k0_pay6 (View.ld x0 (Rect.unit (s := S256x512) ![0, 64] ![256, 64] inb_S256x512_S256x64_0_64))⟩ ::
      ⟨Rect.unit ![0, 0] ![256, 64] inb_S256x576_S256x64_0_0, k0_pay5 (View.ld x0 (Rect.unit (s := S256x512) ![0, 0] ![256, 64] inb_S256x512_S256x64_0_0))⟩ :: L) (Rect.unit (s := S256x576) ![0, 0] ![256, 576] inb_S256x576_S256x576_0_0).toLoadRect = gath 0 (cat x0 x1 x2 x3 x4 x5 x6 x7 x8) := by
  apply Blocks.nine
  · intro r e; pointwise [k0_pay5]; exact head0_of x0 x1 x2 x3 x4 x5 x6 x7 x8 0 0 0 (by decide) r e
  · intro r e; pointwise [k0_pay6]; exact head_of x0 x1 x2 x3 x4 x5 x6 x7 x8 0 1 0 64 (by decide) (by decide) r e
  · intro r e; pointwise [k0_pay7]; exact head_of x0 x1 x2 x3 x4 x5 x6 x7 x8 0 2 0 128 (by decide) (by decide) r e
  · intro r e; pointwise [k0_pay8]; exact head_of x0 x1 x2 x3 x4 x5 x6 x7 x8 0 3 0 192 (by decide) (by decide) r e
  · intro r e; pointwise [k0_pay9]; exact head_of x0 x1 x2 x3 x4 x5 x6 x7 x8 0 4 0 256 (by decide) (by decide) r e
  · intro r e; pointwise [k0_pay10]; exact head_of x0 x1 x2 x3 x4 x5 x6 x7 x8 0 5 0 320 (by decide) (by decide) r e
  · intro r e; pointwise [k0_pay11]; exact head_of x0 x1 x2 x3 x4 x5 x6 x7 x8 0 6 0 384 (by decide) (by decide) r e
  · intro r e; pointwise [k0_pay12]; exact head_of x0 x1 x2 x3 x4 x5 x6 x7 x8 0 7 0 448 (by decide) (by decide) r e
  · intro r e; pointwise [k0_pay13]; exact head0_of x0 x1 x2 x3 x4 x5 x6 x7 x8 0 8 1 (by decide) r e

theorem read_1 :
    v.readCov ((⟨Rect.unit ![0, 512] ![256, 64] inb_S256x576_S256x64_0_512, k0_pay23 (View.ld x2 (Rect.unit (s := S256x512) ![0, 64] ![256, 64] inb_S256x512_S256x64_0_64))⟩ : View.Piece (Elt Ideal) S256x576 .bf16) ::
      ⟨Rect.unit ![0, 448] ![256, 64] inb_S256x576_S256x64_0_448, k0_pay22 (View.ld x2 (Rect.unit (s := S256x512) ![0, 0] ![256, 64] inb_S256x512_S256x64_0_0))⟩ ::
      ⟨Rect.unit ![0, 384] ![256, 64] inb_S256x576_S256x64_0_384, k0_pay21 (View.ld x1 (Rect.unit (s := S256x512) ![0, 448] ![256, 64] inb_S256x512_S256x64_0_448))⟩ ::
      ⟨Rect.unit ![0, 320] ![256, 64] inb_S256x576_S256x64_0_320, k0_pay20 (View.ld x1 (Rect.unit (s := S256x512) ![0, 384] ![256, 64] inb_S256x512_S256x64_0_384))⟩ ::
      ⟨Rect.unit ![0, 256] ![256, 64] inb_S256x576_S256x64_0_256, k0_pay19 (View.ld x1 (Rect.unit (s := S256x512) ![0, 320] ![256, 64] inb_S256x512_S256x64_0_320))⟩ ::
      ⟨Rect.unit ![0, 192] ![256, 64] inb_S256x576_S256x64_0_192, k0_pay18 (View.ld x1 (Rect.unit (s := S256x512) ![0, 256] ![256, 64] inb_S256x512_S256x64_0_256))⟩ ::
      ⟨Rect.unit ![0, 128] ![256, 64] inb_S256x576_S256x64_0_128, k0_pay17 (View.ld x1 (Rect.unit (s := S256x512) ![0, 192] ![256, 64] inb_S256x512_S256x64_0_192))⟩ ::
      ⟨Rect.unit ![0, 64] ![256, 64] inb_S256x576_S256x64_0_64, k0_pay16 (View.ld x1 (Rect.unit (s := S256x512) ![0, 128] ![256, 64] inb_S256x512_S256x64_0_128))⟩ ::
      ⟨Rect.unit ![0, 0] ![256, 64] inb_S256x576_S256x64_0_0, k0_pay15 (View.ld x1 (Rect.unit (s := S256x512) ![0, 64] ![256, 64] inb_S256x512_S256x64_0_64))⟩ :: L) (Rect.unit (s := S256x576) ![0, 0] ![256, 576] inb_S256x576_S256x576_0_0).toLoadRect = gath 1 (cat x0 x1 x2 x3 x4 x5 x6 x7 x8) := by
  apply Blocks.nine
  · intro r e; pointwise [k0_pay15]; exact head_of x0 x1 x2 x3 x4 x5 x6 x7 x8 1 0 1 64 (by decide) (by decide) r e
  · intro r e; pointwise [k0_pay16]; exact head_of x0 x1 x2 x3 x4 x5 x6 x7 x8 1 1 1 128 (by decide) (by decide) r e
  · intro r e; pointwise [k0_pay17]; exact head_of x0 x1 x2 x3 x4 x5 x6 x7 x8 1 2 1 192 (by decide) (by decide) r e
  · intro r e; pointwise [k0_pay18]; exact head_of x0 x1 x2 x3 x4 x5 x6 x7 x8 1 3 1 256 (by decide) (by decide) r e
  · intro r e; pointwise [k0_pay19]; exact head_of x0 x1 x2 x3 x4 x5 x6 x7 x8 1 4 1 320 (by decide) (by decide) r e
  · intro r e; pointwise [k0_pay20]; exact head_of x0 x1 x2 x3 x4 x5 x6 x7 x8 1 5 1 384 (by decide) (by decide) r e
  · intro r e; pointwise [k0_pay21]; exact head_of x0 x1 x2 x3 x4 x5 x6 x7 x8 1 6 1 448 (by decide) (by decide) r e
  · intro r e; pointwise [k0_pay22]; exact head0_of x0 x1 x2 x3 x4 x5 x6 x7 x8 1 7 2 (by decide) r e
  · intro r e; pointwise [k0_pay23]; exact head_of x0 x1 x2 x3 x4 x5 x6 x7 x8 1 8 2 64 (by decide) (by decide) r e

theorem read_2 :
    v.readCov ((⟨Rect.unit ![0, 512] ![256, 64] inb_S256x576_S256x64_0_512, k0_pay33 (View.ld x3 (Rect.unit (s := S256x512) ![0, 128] ![256, 64] inb_S256x512_S256x64_0_128))⟩ : View.Piece (Elt Ideal) S256x576 .bf16) ::
      ⟨Rect.unit ![0, 448] ![256, 64] inb_S256x576_S256x64_0_448, k0_pay32 (View.ld x3 (Rect.unit (s := S256x512) ![0, 64] ![256, 64] inb_S256x512_S256x64_0_64))⟩ ::
      ⟨Rect.unit ![0, 384] ![256, 64] inb_S256x576_S256x64_0_384, k0_pay31 (View.ld x3 (Rect.unit (s := S256x512) ![0, 0] ![256, 64] inb_S256x512_S256x64_0_0))⟩ ::
      ⟨Rect.unit ![0, 320] ![256, 64] inb_S256x576_S256x64_0_320, k0_pay30 (View.ld x2 (Rect.unit (s := S256x512) ![0, 448] ![256, 64] inb_S256x512_S256x64_0_448))⟩ ::
      ⟨Rect.unit ![0, 256] ![256, 64] inb_S256x576_S256x64_0_256, k0_pay29 (View.ld x2 (Rect.unit (s := S256x512) ![0, 384] ![256, 64] inb_S256x512_S256x64_0_384))⟩ ::
      ⟨Rect.unit ![0, 192] ![256, 64] inb_S256x576_S256x64_0_192, k0_pay28 (View.ld x2 (Rect.unit (s := S256x512) ![0, 320] ![256, 64] inb_S256x512_S256x64_0_320))⟩ ::
      ⟨Rect.unit ![0, 128] ![256, 64] inb_S256x576_S256x64_0_128, k0_pay27 (View.ld x2 (Rect.unit (s := S256x512) ![0, 256] ![256, 64] inb_S256x512_S256x64_0_256))⟩ ::
      ⟨Rect.unit ![0, 64] ![256, 64] inb_S256x576_S256x64_0_64, k0_pay26 (View.ld x2 (Rect.unit (s := S256x512) ![0, 192] ![256, 64] inb_S256x512_S256x64_0_192))⟩ ::
      ⟨Rect.unit ![0, 0] ![256, 64] inb_S256x576_S256x64_0_0, k0_pay25 (View.ld x2 (Rect.unit (s := S256x512) ![0, 128] ![256, 64] inb_S256x512_S256x64_0_128))⟩ :: L) (Rect.unit (s := S256x576) ![0, 0] ![256, 576] inb_S256x576_S256x576_0_0).toLoadRect = gath 2 (cat x0 x1 x2 x3 x4 x5 x6 x7 x8) := by
  apply Blocks.nine
  · intro r e; pointwise [k0_pay25]; exact head_of x0 x1 x2 x3 x4 x5 x6 x7 x8 2 0 2 128 (by decide) (by decide) r e
  · intro r e; pointwise [k0_pay26]; exact head_of x0 x1 x2 x3 x4 x5 x6 x7 x8 2 1 2 192 (by decide) (by decide) r e
  · intro r e; pointwise [k0_pay27]; exact head_of x0 x1 x2 x3 x4 x5 x6 x7 x8 2 2 2 256 (by decide) (by decide) r e
  · intro r e; pointwise [k0_pay28]; exact head_of x0 x1 x2 x3 x4 x5 x6 x7 x8 2 3 2 320 (by decide) (by decide) r e
  · intro r e; pointwise [k0_pay29]; exact head_of x0 x1 x2 x3 x4 x5 x6 x7 x8 2 4 2 384 (by decide) (by decide) r e
  · intro r e; pointwise [k0_pay30]; exact head_of x0 x1 x2 x3 x4 x5 x6 x7 x8 2 5 2 448 (by decide) (by decide) r e
  · intro r e; pointwise [k0_pay31]; exact head0_of x0 x1 x2 x3 x4 x5 x6 x7 x8 2 6 3 (by decide) r e
  · intro r e; pointwise [k0_pay32]; exact head_of x0 x1 x2 x3 x4 x5 x6 x7 x8 2 7 3 64 (by decide) (by decide) r e
  · intro r e; pointwise [k0_pay33]; exact head_of x0 x1 x2 x3 x4 x5 x6 x7 x8 2 8 3 128 (by decide) (by decide) r e

theorem read_3 :
    v.readCov ((⟨Rect.unit ![0, 512] ![256, 64] inb_S256x576_S256x64_0_512, k0_pay43 (View.ld x4 (Rect.unit (s := S256x512) ![0, 192] ![256, 64] inb_S256x512_S256x64_0_192))⟩ : View.Piece (Elt Ideal) S256x576 .bf16) ::
      ⟨Rect.unit ![0, 448] ![256, 64] inb_S256x576_S256x64_0_448, k0_pay42 (View.ld x4 (Rect.unit (s := S256x512) ![0, 128] ![256, 64] inb_S256x512_S256x64_0_128))⟩ ::
      ⟨Rect.unit ![0, 384] ![256, 64] inb_S256x576_S256x64_0_384, k0_pay41 (View.ld x4 (Rect.unit (s := S256x512) ![0, 64] ![256, 64] inb_S256x512_S256x64_0_64))⟩ ::
      ⟨Rect.unit ![0, 320] ![256, 64] inb_S256x576_S256x64_0_320, k0_pay40 (View.ld x4 (Rect.unit (s := S256x512) ![0, 0] ![256, 64] inb_S256x512_S256x64_0_0))⟩ ::
      ⟨Rect.unit ![0, 256] ![256, 64] inb_S256x576_S256x64_0_256, k0_pay39 (View.ld x3 (Rect.unit (s := S256x512) ![0, 448] ![256, 64] inb_S256x512_S256x64_0_448))⟩ ::
      ⟨Rect.unit ![0, 192] ![256, 64] inb_S256x576_S256x64_0_192, k0_pay38 (View.ld x3 (Rect.unit (s := S256x512) ![0, 384] ![256, 64] inb_S256x512_S256x64_0_384))⟩ ::
      ⟨Rect.unit ![0, 128] ![256, 64] inb_S256x576_S256x64_0_128, k0_pay37 (View.ld x3 (Rect.unit (s := S256x512) ![0, 320] ![256, 64] inb_S256x512_S256x64_0_320))⟩ ::
      ⟨Rect.unit ![0, 64] ![256, 64] inb_S256x576_S256x64_0_64, k0_pay36 (View.ld x3 (Rect.unit (s := S256x512) ![0, 256] ![256, 64] inb_S256x512_S256x64_0_256))⟩ ::
      ⟨Rect.unit ![0, 0] ![256, 64] inb_S256x576_S256x64_0_0, k0_pay35 (View.ld x3 (Rect.unit (s := S256x512) ![0, 192] ![256, 64] inb_S256x512_S256x64_0_192))⟩ :: L) (Rect.unit (s := S256x576) ![0, 0] ![256, 576] inb_S256x576_S256x576_0_0).toLoadRect = gath 3 (cat x0 x1 x2 x3 x4 x5 x6 x7 x8) := by
  apply Blocks.nine
  · intro r e; pointwise [k0_pay35]; exact head_of x0 x1 x2 x3 x4 x5 x6 x7 x8 3 0 3 192 (by decide) (by decide) r e
  · intro r e; pointwise [k0_pay36]; exact head_of x0 x1 x2 x3 x4 x5 x6 x7 x8 3 1 3 256 (by decide) (by decide) r e
  · intro r e; pointwise [k0_pay37]; exact head_of x0 x1 x2 x3 x4 x5 x6 x7 x8 3 2 3 320 (by decide) (by decide) r e
  · intro r e; pointwise [k0_pay38]; exact head_of x0 x1 x2 x3 x4 x5 x6 x7 x8 3 3 3 384 (by decide) (by decide) r e
  · intro r e; pointwise [k0_pay39]; exact head_of x0 x1 x2 x3 x4 x5 x6 x7 x8 3 4 3 448 (by decide) (by decide) r e
  · intro r e; pointwise [k0_pay40]; exact head0_of x0 x1 x2 x3 x4 x5 x6 x7 x8 3 5 4 (by decide) r e
  · intro r e; pointwise [k0_pay41]; exact head_of x0 x1 x2 x3 x4 x5 x6 x7 x8 3 6 4 64 (by decide) (by decide) r e
  · intro r e; pointwise [k0_pay42]; exact head_of x0 x1 x2 x3 x4 x5 x6 x7 x8 3 7 4 128 (by decide) (by decide) r e
  · intro r e; pointwise [k0_pay43]; exact head_of x0 x1 x2 x3 x4 x5 x6 x7 x8 3 8 4 192 (by decide) (by decide) r e

theorem read_4 :
    v.readCov ((⟨Rect.unit ![0, 512] ![256, 64] inb_S256x576_S256x64_0_512, k0_pay53 (View.ld x5 (Rect.unit (s := S256x512) ![0, 256] ![256, 64] inb_S256x512_S256x64_0_256))⟩ : View.Piece (Elt Ideal) S256x576 .bf16) ::
      ⟨Rect.unit ![0, 448] ![256, 64] inb_S256x576_S256x64_0_448, k0_pay52 (View.ld x5 (Rect.unit (s := S256x512) ![0, 192] ![256, 64] inb_S256x512_S256x64_0_192))⟩ ::
      ⟨Rect.unit ![0, 384] ![256, 64] inb_S256x576_S256x64_0_384, k0_pay51 (View.ld x5 (Rect.unit (s := S256x512) ![0, 128] ![256, 64] inb_S256x512_S256x64_0_128))⟩ ::
      ⟨Rect.unit ![0, 320] ![256, 64] inb_S256x576_S256x64_0_320, k0_pay50 (View.ld x5 (Rect.unit (s := S256x512) ![0, 64] ![256, 64] inb_S256x512_S256x64_0_64))⟩ ::
      ⟨Rect.unit ![0, 256] ![256, 64] inb_S256x576_S256x64_0_256, k0_pay49 (View.ld x5 (Rect.unit (s := S256x512) ![0, 0] ![256, 64] inb_S256x512_S256x64_0_0))⟩ ::
      ⟨Rect.unit ![0, 192] ![256, 64] inb_S256x576_S256x64_0_192, k0_pay48 (View.ld x4 (Rect.unit (s := S256x512) ![0, 448] ![256, 64] inb_S256x512_S256x64_0_448))⟩ ::
      ⟨Rect.unit ![0, 128] ![256, 64] inb_S256x576_S256x64_0_128, k0_pay47 (View.ld x4 (Rect.unit (s := S256x512) ![0, 384] ![256, 64] inb_S256x512_S256x64_0_384))⟩ ::
      ⟨Rect.unit ![0, 64] ![256, 64] inb_S256x576_S256x64_0_64, k0_pay46 (View.ld x4 (Rect.unit (s := S256x512) ![0, 320] ![256, 64] inb_S256x512_S256x64_0_320))⟩ ::
      ⟨Rect.unit ![0, 0] ![256, 64] inb_S256x576_S256x64_0_0, k0_pay45 (View.ld x4 (Rect.unit (s := S256x512) ![0, 256] ![256, 64] inb_S256x512_S256x64_0_256))⟩ :: L) (Rect.unit (s := S256x576) ![0, 0] ![256, 576] inb_S256x576_S256x576_0_0).toLoadRect = gath 4 (cat x0 x1 x2 x3 x4 x5 x6 x7 x8) := by
  apply Blocks.nine
  · intro r e; pointwise [k0_pay45]; exact head_of x0 x1 x2 x3 x4 x5 x6 x7 x8 4 0 4 256 (by decide) (by decide) r e
  · intro r e; pointwise [k0_pay46]; exact head_of x0 x1 x2 x3 x4 x5 x6 x7 x8 4 1 4 320 (by decide) (by decide) r e
  · intro r e; pointwise [k0_pay47]; exact head_of x0 x1 x2 x3 x4 x5 x6 x7 x8 4 2 4 384 (by decide) (by decide) r e
  · intro r e; pointwise [k0_pay48]; exact head_of x0 x1 x2 x3 x4 x5 x6 x7 x8 4 3 4 448 (by decide) (by decide) r e
  · intro r e; pointwise [k0_pay49]; exact head0_of x0 x1 x2 x3 x4 x5 x6 x7 x8 4 4 5 (by decide) r e
  · intro r e; pointwise [k0_pay50]; exact head_of x0 x1 x2 x3 x4 x5 x6 x7 x8 4 5 5 64 (by decide) (by decide) r e
  · intro r e; pointwise [k0_pay51]; exact head_of x0 x1 x2 x3 x4 x5 x6 x7 x8 4 6 5 128 (by decide) (by decide) r e
  · intro r e; pointwise [k0_pay52]; exact head_of x0 x1 x2 x3 x4 x5 x6 x7 x8 4 7 5 192 (by decide) (by decide) r e
  · intro r e; pointwise [k0_pay53]; exact head_of x0 x1 x2 x3 x4 x5 x6 x7 x8 4 8 5 256 (by decide) (by decide) r e

theorem read_5 :
    v.readCov ((⟨Rect.unit ![0, 512] ![256, 64] inb_S256x576_S256x64_0_512, k0_pay63 (View.ld x6 (Rect.unit (s := S256x512) ![0, 320] ![256, 64] inb_S256x512_S256x64_0_320))⟩ : View.Piece (Elt Ideal) S256x576 .bf16) ::
      ⟨Rect.unit ![0, 448] ![256, 64] inb_S256x576_S256x64_0_448, k0_pay62 (View.ld x6 (Rect.unit (s := S256x512) ![0, 256] ![256, 64] inb_S256x512_S256x64_0_256))⟩ ::
      ⟨Rect.unit ![0, 384] ![256, 64] inb_S256x576_S256x64_0_384, k0_pay61 (View.ld x6 (Rect.unit (s := S256x512) ![0, 192] ![256, 64] inb_S256x512_S256x64_0_192))⟩ ::
      ⟨Rect.unit ![0, 320] ![256, 64] inb_S256x576_S256x64_0_320, k0_pay60 (View.ld x6 (Rect.unit (s := S256x512) ![0, 128] ![256, 64] inb_S256x512_S256x64_0_128))⟩ ::
      ⟨Rect.unit ![0, 256] ![256, 64] inb_S256x576_S256x64_0_256, k0_pay59 (View.ld x6 (Rect.unit (s := S256x512) ![0, 64] ![256, 64] inb_S256x512_S256x64_0_64))⟩ ::
      ⟨Rect.unit ![0, 192] ![256, 64] inb_S256x576_S256x64_0_192, k0_pay58 (View.ld x6 (Rect.unit (s := S256x512) ![0, 0] ![256, 64] inb_S256x512_S256x64_0_0))⟩ ::
      ⟨Rect.unit ![0, 128] ![256, 64] inb_S256x576_S256x64_0_128, k0_pay57 (View.ld x5 (Rect.unit (s := S256x512) ![0, 448] ![256, 64] inb_S256x512_S256x64_0_448))⟩ ::
      ⟨Rect.unit ![0, 64] ![256, 64] inb_S256x576_S256x64_0_64, k0_pay56 (View.ld x5 (Rect.unit (s := S256x512) ![0, 384] ![256, 64] inb_S256x512_S256x64_0_384))⟩ ::
      ⟨Rect.unit ![0, 0] ![256, 64] inb_S256x576_S256x64_0_0, k0_pay55 (View.ld x5 (Rect.unit (s := S256x512) ![0, 320] ![256, 64] inb_S256x512_S256x64_0_320))⟩ :: L) (Rect.unit (s := S256x576) ![0, 0] ![256, 576] inb_S256x576_S256x576_0_0).toLoadRect = gath 5 (cat x0 x1 x2 x3 x4 x5 x6 x7 x8) := by
  apply Blocks.nine
  · intro r e; pointwise [k0_pay55]; exact head_of x0 x1 x2 x3 x4 x5 x6 x7 x8 5 0 5 320 (by decide) (by decide) r e
  · intro r e; pointwise [k0_pay56]; exact head_of x0 x1 x2 x3 x4 x5 x6 x7 x8 5 1 5 384 (by decide) (by decide) r e
  · intro r e; pointwise [k0_pay57]; exact head_of x0 x1 x2 x3 x4 x5 x6 x7 x8 5 2 5 448 (by decide) (by decide) r e
  · intro r e; pointwise [k0_pay58]; exact head0_of x0 x1 x2 x3 x4 x5 x6 x7 x8 5 3 6 (by decide) r e
  · intro r e; pointwise [k0_pay59]; exact head_of x0 x1 x2 x3 x4 x5 x6 x7 x8 5 4 6 64 (by decide) (by decide) r e
  · intro r e; pointwise [k0_pay60]; exact head_of x0 x1 x2 x3 x4 x5 x6 x7 x8 5 5 6 128 (by decide) (by decide) r e
  · intro r e; pointwise [k0_pay61]; exact head_of x0 x1 x2 x3 x4 x5 x6 x7 x8 5 6 6 192 (by decide) (by decide) r e
  · intro r e; pointwise [k0_pay62]; exact head_of x0 x1 x2 x3 x4 x5 x6 x7 x8 5 7 6 256 (by decide) (by decide) r e
  · intro r e; pointwise [k0_pay63]; exact head_of x0 x1 x2 x3 x4 x5 x6 x7 x8 5 8 6 320 (by decide) (by decide) r e

theorem read_6 :
    v.readCov ((⟨Rect.unit ![0, 512] ![256, 64] inb_S256x576_S256x64_0_512, k0_pay73 (View.ld x7 (Rect.unit (s := S256x512) ![0, 384] ![256, 64] inb_S256x512_S256x64_0_384))⟩ : View.Piece (Elt Ideal) S256x576 .bf16) ::
      ⟨Rect.unit ![0, 448] ![256, 64] inb_S256x576_S256x64_0_448, k0_pay72 (View.ld x7 (Rect.unit (s := S256x512) ![0, 320] ![256, 64] inb_S256x512_S256x64_0_320))⟩ ::
      ⟨Rect.unit ![0, 384] ![256, 64] inb_S256x576_S256x64_0_384, k0_pay71 (View.ld x7 (Rect.unit (s := S256x512) ![0, 256] ![256, 64] inb_S256x512_S256x64_0_256))⟩ ::
      ⟨Rect.unit ![0, 320] ![256, 64] inb_S256x576_S256x64_0_320, k0_pay70 (View.ld x7 (Rect.unit (s := S256x512) ![0, 192] ![256, 64] inb_S256x512_S256x64_0_192))⟩ ::
      ⟨Rect.unit ![0, 256] ![256, 64] inb_S256x576_S256x64_0_256, k0_pay69 (View.ld x7 (Rect.unit (s := S256x512) ![0, 128] ![256, 64] inb_S256x512_S256x64_0_128))⟩ ::
      ⟨Rect.unit ![0, 192] ![256, 64] inb_S256x576_S256x64_0_192, k0_pay68 (View.ld x7 (Rect.unit (s := S256x512) ![0, 64] ![256, 64] inb_S256x512_S256x64_0_64))⟩ ::
      ⟨Rect.unit ![0, 128] ![256, 64] inb_S256x576_S256x64_0_128, k0_pay67 (View.ld x7 (Rect.unit (s := S256x512) ![0, 0] ![256, 64] inb_S256x512_S256x64_0_0))⟩ ::
      ⟨Rect.unit ![0, 64] ![256, 64] inb_S256x576_S256x64_0_64, k0_pay66 (View.ld x6 (Rect.unit (s := S256x512) ![0, 448] ![256, 64] inb_S256x512_S256x64_0_448))⟩ ::
      ⟨Rect.unit ![0, 0] ![256, 64] inb_S256x576_S256x64_0_0, k0_pay65 (View.ld x6 (Rect.unit (s := S256x512) ![0, 384] ![256, 64] inb_S256x512_S256x64_0_384))⟩ :: L) (Rect.unit (s := S256x576) ![0, 0] ![256, 576] inb_S256x576_S256x576_0_0).toLoadRect = gath 6 (cat x0 x1 x2 x3 x4 x5 x6 x7 x8) := by
  apply Blocks.nine
  · intro r e; pointwise [k0_pay65]; exact head_of x0 x1 x2 x3 x4 x5 x6 x7 x8 6 0 6 384 (by decide) (by decide) r e
  · intro r e; pointwise [k0_pay66]; exact head_of x0 x1 x2 x3 x4 x5 x6 x7 x8 6 1 6 448 (by decide) (by decide) r e
  · intro r e; pointwise [k0_pay67]; exact head0_of x0 x1 x2 x3 x4 x5 x6 x7 x8 6 2 7 (by decide) r e
  · intro r e; pointwise [k0_pay68]; exact head_of x0 x1 x2 x3 x4 x5 x6 x7 x8 6 3 7 64 (by decide) (by decide) r e
  · intro r e; pointwise [k0_pay69]; exact head_of x0 x1 x2 x3 x4 x5 x6 x7 x8 6 4 7 128 (by decide) (by decide) r e
  · intro r e; pointwise [k0_pay70]; exact head_of x0 x1 x2 x3 x4 x5 x6 x7 x8 6 5 7 192 (by decide) (by decide) r e
  · intro r e; pointwise [k0_pay71]; exact head_of x0 x1 x2 x3 x4 x5 x6 x7 x8 6 6 7 256 (by decide) (by decide) r e
  · intro r e; pointwise [k0_pay72]; exact head_of x0 x1 x2 x3 x4 x5 x6 x7 x8 6 7 7 320 (by decide) (by decide) r e
  · intro r e; pointwise [k0_pay73]; exact head_of x0 x1 x2 x3 x4 x5 x6 x7 x8 6 8 7 384 (by decide) (by decide) r e

theorem read_7 :
    v.readCov ((⟨Rect.unit ![0, 512] ![256, 64] inb_S256x576_S256x64_0_512, k0_pay83 (View.ld x8 (Rect.unit (s := S256x512) ![0, 448] ![256, 64] inb_S256x512_S256x64_0_448))⟩ : View.Piece (Elt Ideal) S256x576 .bf16) ::
      ⟨Rect.unit ![0, 448] ![256, 64] inb_S256x576_S256x64_0_448, k0_pay82 (View.ld x8 (Rect.unit (s := S256x512) ![0, 384] ![256, 64] inb_S256x512_S256x64_0_384))⟩ ::
      ⟨Rect.unit ![0, 384] ![256, 64] inb_S256x576_S256x64_0_384, k0_pay81 (View.ld x8 (Rect.unit (s := S256x512) ![0, 320] ![256, 64] inb_S256x512_S256x64_0_320))⟩ ::
      ⟨Rect.unit ![0, 320] ![256, 64] inb_S256x576_S256x64_0_320, k0_pay80 (View.ld x8 (Rect.unit (s := S256x512) ![0, 256] ![256, 64] inb_S256x512_S256x64_0_256))⟩ ::
      ⟨Rect.unit ![0, 256] ![256, 64] inb_S256x576_S256x64_0_256, k0_pay79 (View.ld x8 (Rect.unit (s := S256x512) ![0, 192] ![256, 64] inb_S256x512_S256x64_0_192))⟩ ::
      ⟨Rect.unit ![0, 192] ![256, 64] inb_S256x576_S256x64_0_192, k0_pay78 (View.ld x8 (Rect.unit (s := S256x512) ![0, 128] ![256, 64] inb_S256x512_S256x64_0_128))⟩ ::
      ⟨Rect.unit ![0, 128] ![256, 64] inb_S256x576_S256x64_0_128, k0_pay77 (View.ld x8 (Rect.unit (s := S256x512) ![0, 64] ![256, 64] inb_S256x512_S256x64_0_64))⟩ ::
      ⟨Rect.unit ![0, 64] ![256, 64] inb_S256x576_S256x64_0_64, k0_pay76 (View.ld x8 (Rect.unit (s := S256x512) ![0, 0] ![256, 64] inb_S256x512_S256x64_0_0))⟩ ::
      ⟨Rect.unit ![0, 0] ![256, 64] inb_S256x576_S256x64_0_0, k0_pay75 (View.ld x7 (Rect.unit (s := S256x512) ![0, 448] ![256, 64] inb_S256x512_S256x64_0_448))⟩ :: L) (Rect.unit (s := S256x576) ![0, 0] ![256, 576] inb_S256x576_S256x576_0_0).toLoadRect = gath 7 (cat x0 x1 x2 x3 x4 x5 x6 x7 x8) := by
  apply Blocks.nine
  · intro r e; pointwise [k0_pay75]; exact head_of x0 x1 x2 x3 x4 x5 x6 x7 x8 7 0 7 448 (by decide) (by decide) r e
  · intro r e; pointwise [k0_pay76]; exact head0_of x0 x1 x2 x3 x4 x5 x6 x7 x8 7 1 8 (by decide) r e
  · intro r e; pointwise [k0_pay77]; exact head_of x0 x1 x2 x3 x4 x5 x6 x7 x8 7 2 8 64 (by decide) (by decide) r e
  · intro r e; pointwise [k0_pay78]; exact head_of x0 x1 x2 x3 x4 x5 x6 x7 x8 7 3 8 128 (by decide) (by decide) r e
  · intro r e; pointwise [k0_pay79]; exact head_of x0 x1 x2 x3 x4 x5 x6 x7 x8 7 4 8 192 (by decide) (by decide) r e
  · intro r e; pointwise [k0_pay80]; exact head_of x0 x1 x2 x3 x4 x5 x6 x7 x8 7 5 8 256 (by decide) (by decide) r e
  · intro r e; pointwise [k0_pay81]; exact head_of x0 x1 x2 x3 x4 x5 x6 x7 x8 7 6 8 320 (by decide) (by decide) r e
  · intro r e; pointwise [k0_pay82]; exact head_of x0 x1 x2 x3 x4 x5 x6 x7 x8 7 7 8 384 (by decide) (by decide) r e
  · intro r e; pointwise [k0_pay83]; exact head_of x0 x1 x2 x3 x4 x5 x6 x7 x8 7 8 8 448 (by decide) (by decide) r e

end

/-- The block of the cotangent of the norm's result, by devices' columns; -/
def dhBlk (d : (⟨2, ![256, 4608]⟩ : Shape).Idx → Elt Ideal .bf16) (x9 : Vec Ideal S8x1024x576 .bf16) : Vec Ideal S256x1024 .f32 := fun y =>
  ∑ q : Fin 8, ∑ e : Fin 576, gath q d (ix2 (y 0) e) * x9 (ix3 q (y 1) e)

/-- of the residual stream's; -/
def dxBlk (d : (⟨2, ![256, 4608]⟩ : Shape).Idx → Elt Ideal .bf16) (x9 : Vec Ideal S8x1024x576 .bf16) (x10 x11 : Vec Ideal S256x1024 .f32) (x12 : Vec Ideal S1x1024 .f32) : Vec Ideal S256x1024 .f32 := fun y =>
  dhBlk d x9 y * x12 (ix2 0 (y 1)) * Ideal.rsqrt (msq (fun k => x10 (ix2 (y 0) k)))
    + x10 y * slope (fun k => x10 (ix2 (y 0) k)) (fun k => dhBlk d x9 (ix2 (y 0) k) * x12 (ix2 0 k))
    + slope (fun k => x10 (ix2 (y 0) k)) (fun k => dhBlk d x9 (ix2 (y 0) k) * x12 (ix2 0 k)) * x10 y + x11 y

/-- and the rows' part of the gain's. -/
def dgBlk (d : (⟨2, ![256, 4608]⟩ : Shape).Idx → Elt Ideal .bf16) (x9 : Vec Ideal S8x1024x576 .bf16) (x10 : Vec Ideal S256x1024 .f32) : Vec Ideal S1x1024 .f32 := fun y =>
  ∑ r : Fin 256, x10 (ix2 r (y 1)) * Ideal.rsqrt (msq (fun k => x10 (ix2 r k))) * dhBlk d x9 (ix2 r (y 1))

theorem prod_apply (d : (⟨2, ![256, 4608]⟩ : Shape).Idx → Elt Ideal .bf16) (x9 : Vec Ideal S8x1024x576 .bf16) (r : Fin 256) (j : Fin 1024) :
    k0_pay84 (k0_pay74 (k0_pay64 (k0_pay54 (k0_pay44 (k0_pay34 (k0_pay24 (k0_pay14 (gath 0 d) (View.ld x9 (Rect.unit (s := S8x1024x576) ![0, 0, 0] ![1, 1024, 576] inb_S8x1024x576_S1x1024x576_0_0_0))) (gath 1 d) (View.ld x9 (Rect.unit (s := S8x1024x576) ![1, 0, 0] ![1, 1024, 576] inb_S8x1024x576_S1x1024x576_1_0_0))) (gath 2 d) (View.ld x9 (Rect.unit (s := S8x1024x576) ![2, 0, 0] ![1, 1024, 576] inb_S8x1024x576_S1x1024x576_2_0_0))) (gath 3 d) (View.ld x9 (Rect.unit (s := S8x1024x576) ![3, 0, 0] ![1, 1024, 576] inb_S8x1024x576_S1x1024x576_3_0_0))) (gath 4 d) (View.ld x9 (Rect.unit (s := S8x1024x576) ![4, 0, 0] ![1, 1024, 576] inb_S8x1024x576_S1x1024x576_4_0_0))) (gath 5 d) (View.ld x9 (Rect.unit (s := S8x1024x576) ![5, 0, 0] ![1, 1024, 576] inb_S8x1024x576_S1x1024x576_5_0_0))) (gath 6 d) (View.ld x9 (Rect.unit (s := S8x1024x576) ![6, 0, 0] ![1, 1024, 576] inb_S8x1024x576_S1x1024x576_6_0_0))) (gath 7 d) (View.ld x9 (Rect.unit (s := S8x1024x576) ![7, 0, 0] ![1, 1024, 576] inb_S8x1024x576_S1x1024x576_7_0_0)) (ix2 r j) = dhBlk d x9 (ix2 r j) := by
  show _ = ∑ q : Fin 8, ∑ e : Fin 576, gath q d (ix2 r e) * x9 (ix3 q j e)
  rw [Fin.sum_univ_eight]
  pointwise [k0_pay14, k0_pay24, k0_pay34, k0_pay44, k0_pay54, k0_pay64, k0_pay74, k0_pay84]

section
variable (c : Dev nD) (i : grid0.Coords) (arg1 : Memref sig .tc .vmem S256x512 .bf16) (harg1 : arg1.IsWhole) (arg2 : Memref sig .tc .vmem S256x512 .bf16) (harg2 : arg2.IsWhole) (arg3 : Memref sig .tc .vmem S256x512 .bf16) (harg3 : arg3.IsWhole) (arg4 : Memref sig .tc .vmem S256x512 .bf16) (harg4 : arg4.IsWhole) (arg5 : Memref sig .tc .vmem S256x512 .bf16) (harg5 : arg5.IsWhole) (arg6 : Memref sig .tc .vmem S256x512 .bf16) (harg6 : arg6.IsWhole) (arg7 : Memref sig .tc .vmem S256x512 .bf16) (harg7 : arg7.IsWhole) (arg8 : Memref sig .tc .vmem S256x512 .bf16) (harg8 : arg8.IsWhole) (arg9 : Memref sig .tc .vmem S256x512 .bf16) (harg9 : arg9.IsWhole) (arg10 : Memref sig .tc .vmem S8x1024x576 .bf16) (harg10 : arg10.IsWhole) (arg11 : Memref sig .tc .vmem S256x1024 .f32) (harg11 : arg11.IsWhole) (arg12 : Memref sig .tc .vmem S256x1024 .f32) (harg12 : arg12.IsWhole) (arg13 : Memref sig .tc .vmem S1x1024 .f32) (harg13 : arg13.IsWhole) (arg14 : Memref sig .tc .vmem S256x1024 .f32) (harg14 : arg14.IsWhole) (arg15 : Memref sig .tc .vmem S256x1024 .bf16) (harg15 : arg15.IsWhole) (arg16 : Memref sig .tc .vmem S1x1024 .f32) (harg16 : arg16.IsWhole) (arg17 : Memref sig .tc .vmem S256x576 .bf16) (harg17 : arg17.IsWhole) (arg18 : Memref sig .tc .vmem S256x576 .bf16) (harg18 : arg18.IsWhole)
    (x0 x1 x2 x3 x4 x5 x6 x7 x8 : Vec Ideal S256x512 .bf16) (x9 : Vec Ideal S8x1024x576 .bf16) (x10 x11 : Vec Ideal S256x1024 .f32) (x12 : Vec Ideal S1x1024 .f32) (o : Vec Ideal S1x1024 .f32)

theorem out_A13 (hc0 : cond0_0 i) :
    out0_A_13 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 x0 x1 x2 x3 x4 x5 x6 x7 x8 x9 x10 x11 x12 = dxBlk (cat x0 x1 x2 x3 x4 x5 x6 x7 x8) x9 x10 x11 x12 := by
  unfold out0_A_13
  rw [View.read_writes_eq_canon _ _ _ (cover0_A_13 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 x0 x1 x2 x3 x4 x5 x6 x7 x8 x9 x10 x11 x12)]
  unfold kernelRun0_A
  dsimp only
  sl_unfold_words
  simp (disch := decide) only [↓View.readCov_skip, ↓View.readCov_fill, View.readAt_eq_ld, harg1.read_unread, harg2.read_unread, harg3.read_unread, harg4.read_unread, harg5.read_unread, harg6.read_unread, harg7.read_unread, harg8.read_unread, harg9.read_unread, harg10.read_unread, harg11.read_unread, harg12.read_unread, harg13.read_unread, harg14.read_unread, harg15.read_unread, harg16.read_unread, harg17.read_unread, harg18.read_unread, read_0 _ x0 x1 x2 x3 x4 x5 x6 x7 x8, read_1 _ x0 x1 x2 x3 x4 x5 x6 x7 x8, read_2 _ x0 x1 x2 x3 x4 x5 x6 x7 x8, read_3 _ x0 x1 x2 x3 x4 x5 x6 x7 x8, read_4 _ x0 x1 x2 x3 x4 x5 x6 x7 x8, read_5 _ x0 x1 x2 x3 x4 x5 x6 x7 x8, read_6 _ x0 x1 x2 x3 x4 x5 x6 x7 x8, read_7 _ x0 x1 x2 x3 x4 x5 x6 x7 x8]
  apply Blocks.whole2
  intro r j
  pointwise [k0_pay1, k0_pay2, k0_pay85, k0_pay86, k0_pay88, k0_pay89, k0_pay90]
  simp only [prod_apply, Finset.univ_unique, Finset.sum_singleton]
  rfl

theorem out_A14 (hc0 : cond0_0 i) :
    out0_A_14 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 x0 x1 x2 x3 x4 x5 x6 x7 x8 x9 x10 x11 x12 = dxBlk (cat x0 x1 x2 x3 x4 x5 x6 x7 x8) x9 x10 x11 x12 := by
  unfold out0_A_14
  rw [View.read_writes_eq_canon _ _ _ (cover0_A_14 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 x0 x1 x2 x3 x4 x5 x6 x7 x8 x9 x10 x11 x12)]
  unfold kernelRun0_A
  dsimp only
  sl_unfold_words
  simp (disch := decide) only [↓View.readCov_skip, ↓View.readCov_fill, View.readAt_eq_ld, harg1.read_unread, harg2.read_unread, harg3.read_unread, harg4.read_unread, harg5.read_unread, harg6.read_unread, harg7.read_unread, harg8.read_unread, harg9.read_unread, harg10.read_unread, harg11.read_unread, harg12.read_unread, harg13.read_unread, harg14.read_unread, harg15.read_unread, harg16.read_unread, harg17.read_unread, harg18.read_unread, read_0 _ x0 x1 x2 x3 x4 x5 x6 x7 x8, read_1 _ x0 x1 x2 x3 x4 x5 x6 x7 x8, read_2 _ x0 x1 x2 x3 x4 x5 x6 x7 x8, read_3 _ x0 x1 x2 x3 x4 x5 x6 x7 x8, read_4 _ x0 x1 x2 x3 x4 x5 x6 x7 x8, read_5 _ x0 x1 x2 x3 x4 x5 x6 x7 x8, read_6 _ x0 x1 x2 x3 x4 x5 x6 x7 x8, read_7 _ x0 x1 x2 x3 x4 x5 x6 x7 x8]
  apply Blocks.whole2
  intro r j
  pointwise [k0_pay1, k0_pay2, k0_pay85, k0_pay86, k0_pay88, k0_pay89, k0_pay90]
  simp only [prod_apply, Finset.univ_unique, Finset.sum_singleton]
  rfl

theorem out_A15 (hc0 : cond0_0 i) :
    out0_A_15 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 x0 x1 x2 x3 x4 x5 x6 x7 x8 x9 x10 x11 x12 = dgBlk (cat x0 x1 x2 x3 x4 x5 x6 x7 x8) x9 x10 := by
  unfold out0_A_15
  rw [View.read_writes_eq_canon _ _ _ (cover0_A_15 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 x0 x1 x2 x3 x4 x5 x6 x7 x8 x9 x10 x11 x12)]
  unfold kernelRun0_A
  dsimp only
  sl_unfold_words
  simp (disch := decide) only [↓View.readCov_skip, ↓View.readCov_fill, View.readAt_eq_ld, harg1.read_unread, harg2.read_unread, harg3.read_unread, harg4.read_unread, harg5.read_unread, harg6.read_unread, harg7.read_unread, harg8.read_unread, harg9.read_unread, harg10.read_unread, harg11.read_unread, harg12.read_unread, harg13.read_unread, harg14.read_unread, harg15.read_unread, harg16.read_unread, harg17.read_unread, harg18.read_unread, read_0 _ x0 x1 x2 x3 x4 x5 x6 x7 x8, read_1 _ x0 x1 x2 x3 x4 x5 x6 x7 x8, read_2 _ x0 x1 x2 x3 x4 x5 x6 x7 x8, read_3 _ x0 x1 x2 x3 x4 x5 x6 x7 x8, read_4 _ x0 x1 x2 x3 x4 x5 x6 x7 x8, read_5 _ x0 x1 x2 x3 x4 x5 x6 x7 x8, read_6 _ x0 x1 x2 x3 x4 x5 x6 x7 x8, read_7 _ x0 x1 x2 x3 x4 x5 x6 x7 x8]
  apply Blocks.whole2
  intro r j
  obtain rfl : r = 0 := Fin.ext (by omega)
  pointwise [k0_pay3, k0_pay4, k0_pay85, k0_pay86, k0_pay87]
  simp only [prod_apply]
  rfl

theorem out_B13 (hc0 : ¬cond0_0 i) :
    out0_B_13 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 x0 x1 x2 x3 x4 x5 x6 x7 x8 x9 x10 x11 x12 o = dxBlk (cat x0 x1 x2 x3 x4 x5 x6 x7 x8) x9 x10 x11 x12 := by
  unfold out0_B_13
  rw [View.read_writes_eq_canon _ _ _ (cover0_B_13 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 x0 x1 x2 x3 x4 x5 x6 x7 x8 x9 x10 x11 x12 o)]
  unfold kernelRun0_B
  dsimp only
  sl_unfold_words
  simp (disch := decide) only [↓View.readCov_skip, ↓View.readCov_fill, View.readAt_eq_ld, harg1.read_unread, harg2.read_unread, harg3.read_unread, harg4.read_unread, harg5.read_unread, harg6.read_unread, harg7.read_unread, harg8.read_unread, harg9.read_unread, harg10.read_unread, harg11.read_unread, harg12.read_unread, harg13.read_unread, harg14.read_unread, harg15.read_unread, harg16.read_unread, harg17.read_unread, harg18.read_unread, read_0 _ x0 x1 x2 x3 x4 x5 x6 x7 x8, read_1 _ x0 x1 x2 x3 x4 x5 x6 x7 x8, read_2 _ x0 x1 x2 x3 x4 x5 x6 x7 x8, read_3 _ x0 x1 x2 x3 x4 x5 x6 x7 x8, read_4 _ x0 x1 x2 x3 x4 x5 x6 x7 x8, read_5 _ x0 x1 x2 x3 x4 x5 x6 x7 x8, read_6 _ x0 x1 x2 x3 x4 x5 x6 x7 x8, read_7 _ x0 x1 x2 x3 x4 x5 x6 x7 x8]
  apply Blocks.whole2
  intro r j
  pointwise [k0_pay1, k0_pay2, k0_pay85, k0_pay86, k0_pay88, k0_pay89, k0_pay90]
  simp only [prod_apply, Finset.univ_unique, Finset.sum_singleton]
  rfl

theorem out_B14 (hc0 : ¬cond0_0 i) :
    out0_B_14 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 x0 x1 x2 x3 x4 x5 x6 x7 x8 x9 x10 x11 x12 o = dxBlk (cat x0 x1 x2 x3 x4 x5 x6 x7 x8) x9 x10 x11 x12 := by
  unfold out0_B_14
  rw [View.read_writes_eq_canon _ _ _ (cover0_B_14 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 x0 x1 x2 x3 x4 x5 x6 x7 x8 x9 x10 x11 x12 o)]
  unfold kernelRun0_B
  dsimp only
  sl_unfold_words
  simp (disch := decide) only [↓View.readCov_skip, ↓View.readCov_fill, View.readAt_eq_ld, harg1.read_unread, harg2.read_unread, harg3.read_unread, harg4.read_unread, harg5.read_unread, harg6.read_unread, harg7.read_unread, harg8.read_unread, harg9.read_unread, harg10.read_unread, harg11.read_unread, harg12.read_unread, harg13.read_unread, harg14.read_unread, harg15.read_unread, harg16.read_unread, harg17.read_unread, harg18.read_unread, read_0 _ x0 x1 x2 x3 x4 x5 x6 x7 x8, read_1 _ x0 x1 x2 x3 x4 x5 x6 x7 x8, read_2 _ x0 x1 x2 x3 x4 x5 x6 x7 x8, read_3 _ x0 x1 x2 x3 x4 x5 x6 x7 x8, read_4 _ x0 x1 x2 x3 x4 x5 x6 x7 x8, read_5 _ x0 x1 x2 x3 x4 x5 x6 x7 x8, read_6 _ x0 x1 x2 x3 x4 x5 x6 x7 x8, read_7 _ x0 x1 x2 x3 x4 x5 x6 x7 x8]
  apply Blocks.whole2
  intro r j
  pointwise [k0_pay1, k0_pay2, k0_pay85, k0_pay86, k0_pay88, k0_pay89, k0_pay90]
  simp only [prod_apply, Finset.univ_unique, Finset.sum_singleton]
  rfl

theorem out_B15 (hc0 : ¬cond0_0 i) :
    out0_B_15 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 x0 x1 x2 x3 x4 x5 x6 x7 x8 x9 x10 x11 x12 o = fun y => o y + dgBlk (cat x0 x1 x2 x3 x4 x5 x6 x7 x8) x9 x10 y := by
  unfold out0_B_15
  rw [View.read_writes_eq_canon _ _ _ (cover0_B_15 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 x0 x1 x2 x3 x4 x5 x6 x7 x8 x9 x10 x11 x12 o)]
  unfold kernelRun0_B
  dsimp only
  sl_unfold_words
  simp (disch := decide) only [↓View.readCov_skip, ↓View.readCov_fill, View.readAt_eq_ld, harg1.read_unread, harg2.read_unread, harg3.read_unread, harg4.read_unread, harg5.read_unread, harg6.read_unread, harg7.read_unread, harg8.read_unread, harg9.read_unread, harg10.read_unread, harg11.read_unread, harg12.read_unread, harg13.read_unread, harg14.read_unread, harg15.read_unread, harg16.read_unread, harg17.read_unread, harg18.read_unread, read_0 _ x0 x1 x2 x3 x4 x5 x6 x7 x8, read_1 _ x0 x1 x2 x3 x4 x5 x6 x7 x8, read_2 _ x0 x1 x2 x3 x4 x5 x6 x7 x8, read_3 _ x0 x1 x2 x3 x4 x5 x6 x7 x8, read_4 _ x0 x1 x2 x3 x4 x5 x6 x7 x8, read_5 _ x0 x1 x2 x3 x4 x5 x6 x7 x8, read_6 _ x0 x1 x2 x3 x4 x5 x6 x7 x8, read_7 _ x0 x1 x2 x3 x4 x5 x6 x7 x8]
  apply Blocks.whole2
  intro r j
  obtain rfl : r = 0 := Fin.ext (by omega)
  pointwise [k0_pay3, k0_pay4, k0_pay85, k0_pay86, k0_pay87]
  simp only [prod_apply]
  rfl

end

end Cert.Kernel15Ideal.Bwd
-- ==== Proof.AttnQkvBwd.lean ====
module

public import proofs.«01_k».proof.Proof.AttnQkvBwdBlock
public import proofs.«01_k».proof.Proof.Rows

/-! The blocks of `AttnQkvBwdBlock` over the grid: the 32 points' blocks of the residual stream's cotangent and the sum of the
gain's, and that the kernel ends with the reference's three results. -/

@[expose] public section

set_option maxRecDepth 16384

noncomputable section

namespace Cert.Kernel15Ideal.Bwd

open Cert.Kernel15Ideal Cert.Kernel15Ideal.Gen Idealize.ShloMosaic Idealize.ShloMosaic.TcCoe Idealize.SL.Sem
open Idealize.ShloMosaic.Pipeline (Dat)
open Cert.Heads (cat cat_of)
open Cert.Reference15Ideal.Bwd (rCat rCat_eq rDh rDn rDx rDg rDh_apply rDn_apply rDx_apply rDg_apply msq slope)

variable (m : (ℓ : Loc nD τ sig) → Buf (Elt Ideal) ℓ)

/-- The arrays the region reads: the cotangents side by side, the weight in column blocks, the residual stream, its
cotangent from above and the norm's gain. -/
abbrev aDa (c : Dev nD) : (⟨2, ![8192, 4608]⟩ : Shape).Idx → Elt Ideal .bf16 := cat (V m c main_arg0) (V m c main_arg1) (V m c main_arg2) (V m c main_arg3) (V m c main_arg4) (V m c main_arg5) (V m c main_arg6) (V m c main_arg7) (V m c main_arg8)
abbrev aW (c : Dev nD) : Vec Ideal S8x1024x576 .bf16 := V m c main_v2
abbrev aX (c : Dev nD) : Vec Ideal S8192x1024 .f32 := V m c main_arg10
abbrev aDr (c : Dev nD) : Vec Ideal S8192x1024 .f32 := V m c main_arg11
abbrev aG (c : Dev nD) : Vec Ideal S1x1024 .f32 := V m c main_v3

/-- Column `e` of the `q`th of eight blocks of columns. -/
def hcol8 (q : Fin 8) (e : Fin 576) : Fin 4608 := ⟨576 * q.val + e.val, by omega⟩

/-- The weight cut into blocks of columns, one block a device. -/
def colBlocks (w : FVec Ideal S1024x4608 .f32) : FVec Ideal S8x1024x576 .bf16 :=
  transpose S8x1024x576 [1, 0, 2] (shapeCast S1024x8x576 (truncf .bf16 w bitsLt_bf16_f32) shapeCasts_S1024x4608_S1024x8x576) transposes_S1024x8x576_S8x1024x576_1_0_2

theorem colBlocks_apply (w : FVec Ideal S1024x4608 .f32) (q : Fin 8) (k : Fin 1024) (e : Fin 576) : colBlocks w (ix3 q k e) = w (ix2 k (hcol8 q e)) := by
  pointwise [colBlocks]
  exact congrArg w (congrArg (ix2 k) (Fin.ext (by show q.val * 576 + e.val = 576 * q.val + e.val; omega)))

/-- A vector as one row. -/
def asRow (g : FVec Ideal S1024 .f32) : FVec Ideal S1x1024 .f32 := shapeCast S1x1024 g shapeCasts_S1024_S1x1024

theorem asRow_apply (g : FVec Ideal S1024 .f32) (j : Fin 1024) : asRow g (ix2 0 j) = g (ix1 j) := by
  pointwise [asRow]

theorem aW_eq (c : Dev nD) : aW m c = colBlocks (m ((c.tc : Thread nD τ).loc main_arg9)) := by
  show StableHlo.after hostOps0 (fun b => m (c, b)) (Proc.devRef .tc main_v2) = _
  simp only [hostOps0, StableHlo.TRef.binary, StableHlo.TRef.nullary, StableHlo.TRef.ternary, StableHlo.TRef.unary, StableHlo.TRef.toBuf, StableHlo.TRef.ofBuf, cast_eq]
  after_results_simp
  rfl

theorem aG_eq (c : Dev nD) : aG m c = asRow (m ((c.tc : Thread nD τ).loc main_arg12)) := by
  show StableHlo.after hostOps0 (fun b => m (c, b)) (Proc.devRef .tc main_v3) = _
  simp only [hostOps0, StableHlo.TRef.binary, StableHlo.TRef.nullary, StableHlo.TRef.ternary, StableHlo.TRef.unary, StableHlo.TRef.toBuf, StableHlo.TRef.ofBuf, cast_eq]
  after_results_simp
  rfl

/-- The rows of chunk `s` of an array of 8192 rows. -/
def chunk {n : Nat} {e : EltTy} (X : (⟨2, ![8192, n]⟩ : Shape).Idx → Elt Ideal e) (s : Nat) : (⟨2, ![256, n]⟩ : Shape).Idx → Elt Ideal e :=
  fun y => X (ix2 ⟨(256 * s + (y 0).val) % 8192, Nat.mod_lt _ (by decide)⟩ (y 1))

theorem chunk_cat (a0 a1 a2 a3 a4 a5 a6 a7 a8 : (⟨2, ![8192, 512]⟩ : Shape).Idx → Elt Ideal .bf16) (s : Nat) :
    cat (chunk a0 s) (chunk a1 s) (chunk a2 s) (chunk a3 s) (chunk a4 s) (chunk a5 s) (chunk a6 s) (chunk a7 s) (chunk a8 s) = chunk (cat a0 a1 a2 a3 a4 a5 a6 a7 a8) s := by
  funext y
  show (![chunk a0 s, chunk a1 s, chunk a2 s, chunk a3 s, chunk a4 s, chunk a5 s, chunk a6 s, chunk a7 s, chunk a8 s] : Fin 9 → (⟨2, ![256, 512]⟩ : Shape).Idx → Elt Ideal .bf16) ⟨(y 1).val / 512, _⟩ (ix2 (y 0) ⟨(y 1).val % 512, _⟩) =
    (![a0, a1, a2, a3, a4, a5, a6, a7, a8] : Fin 9 → (⟨2, ![8192, 512]⟩ : Shape).Idx → Elt Ideal .bf16) ⟨(y 1).val / 512, _⟩ (ix2 ⟨(256 * s + (y 0).val) % 8192, _⟩ ⟨(y 1).val % 512, _⟩)
  generalize (⟨(y 1).val / 512, _⟩ : Fin 9) = q
  match q with
  | ⟨0, _⟩ => rfl
  | ⟨1, _⟩ => rfl
  | ⟨2, _⟩ => rfl
  | ⟨3, _⟩ => rfl
  | ⟨4, _⟩ => rfl
  | ⟨5, _⟩ => rfl
  | ⟨6, _⟩ => rfl
  | ⟨7, _⟩ => rfl
  | ⟨8, _⟩ => rfl

theorem lt32 (t : Fin cfg0.N) : t.val < 32 := lt_of_lt_of_eq t.isLt N_0

theorem index0 : ∀ t : Fin grid0.N, win0_0.index t 0 = t.val ∧ win0_0.index t 1 = 0 := by decide +kernel
theorem index1 : ∀ t : Fin grid0.N, win0_1.index t 0 = t.val ∧ win0_1.index t 1 = 0 := by decide +kernel
theorem index2 : ∀ t : Fin grid0.N, win0_2.index t 0 = t.val ∧ win0_2.index t 1 = 0 := by decide +kernel
theorem index3 : ∀ t : Fin grid0.N, win0_3.index t 0 = t.val ∧ win0_3.index t 1 = 0 := by decide +kernel
theorem index4 : ∀ t : Fin grid0.N, win0_4.index t 0 = t.val ∧ win0_4.index t 1 = 0 := by decide +kernel
theorem index5 : ∀ t : Fin grid0.N, win0_5.index t 0 = t.val ∧ win0_5.index t 1 = 0 := by decide +kernel
theorem index6 : ∀ t : Fin grid0.N, win0_6.index t 0 = t.val ∧ win0_6.index t 1 = 0 := by decide +kernel
theorem index7 : ∀ t : Fin grid0.N, win0_7.index t 0 = t.val ∧ win0_7.index t 1 = 0 := by decide +kernel
theorem index8 : ∀ t : Fin grid0.N, win0_8.index t 0 = t.val ∧ win0_8.index t 1 = 0 := by decide +kernel
theorem index9 : ∀ t : Fin grid0.N, win0_9.index t 0 = 0 ∧ win0_9.index t 1 = 0 ∧ win0_9.index t 2 = 0 := by decide +kernel
theorem index10 : ∀ t : Fin grid0.N, win0_10.index t 0 = t.val ∧ win0_10.index t 1 = 0 := by decide +kernel
theorem index11 : ∀ t : Fin grid0.N, win0_11.index t 0 = t.val ∧ win0_11.index t 1 = 0 := by decide +kernel
theorem index12 : ∀ t : Fin grid0.N, win0_12.index t 0 = 0 ∧ win0_12.index t 1 = 0 := by decide +kernel
theorem index13 : ∀ t : Fin grid0.N, win0_13.index t 0 = t.val ∧ win0_13.index t 1 = 0 := by decide +kernel
theorem index14 : ∀ t : Fin grid0.N, win0_14.index t 0 = t.val ∧ win0_14.index t 1 = 0 := by decide +kernel
theorem index15 : ∀ t : Fin grid0.N, win0_15.index t 0 = 0 ∧ win0_15.index t 1 = 0 := by decide +kernel

/-- Point `t` reads chunk `t` of each of the nine parts, -/
theorem iblk0 (c : Dev nD) (t : Fin cfg0.N) : (iblk m c 0 t : Vec Ideal S256x512 .bf16) = chunk (V m c main_arg0) t.val := by
  funext j
  unfold iblk
  rw [View.read_apply]
  exact congrArg (V m c main_arg0) (Rows.eq_row (index0 t).1 (index0 t).2 (by have := lt32 t; omega) rfl rfl)

theorem iblk1 (c : Dev nD) (t : Fin cfg0.N) : (iblk m c 1 t : Vec Ideal S256x512 .bf16) = chunk (V m c main_arg1) t.val := by
  funext j
  unfold iblk
  rw [View.read_apply]
  exact congrArg (V m c main_arg1) (Rows.eq_row (index1 t).1 (index1 t).2 (by have := lt32 t; omega) rfl rfl)

theorem iblk2 (c : Dev nD) (t : Fin cfg0.N) : (iblk m c 2 t : Vec Ideal S256x512 .bf16) = chunk (V m c main_arg2) t.val := by
  funext j
  unfold iblk
  rw [View.read_apply]
  exact congrArg (V m c main_arg2) (Rows.eq_row (index2 t).1 (index2 t).2 (by have := lt32 t; omega) rfl rfl)

theorem iblk3 (c : Dev nD) (t : Fin cfg0.N) : (iblk m c 3 t : Vec Ideal S256x512 .bf16) = chunk (V m c main_arg3) t.val := by
  funext j
  unfold iblk
  rw [View.read_apply]
  exact congrArg (V m c main_arg3) (Rows.eq_row (index3 t).1 (index3 t).2 (by have := lt32 t; omega) rfl rfl)

theorem iblk4 (c : Dev nD) (t : Fin cfg0.N) : (iblk m c 4 t : Vec Ideal S256x512 .bf16) = chunk (V m c main_arg4) t.val := by
  funext j
  unfold iblk
  rw [View.read_apply]
  exact congrArg (V m c main_arg4) (Rows.eq_row (index4 t).1 (index4 t).2 (by have := lt32 t; omega) rfl rfl)

theorem iblk5 (c : Dev nD) (t : Fin cfg0.N) : (iblk m c 5 t : Vec Ideal S256x512 .bf16) = chunk (V m c main_arg5) t.val := by
  funext j
  unfold iblk
  rw [View.read_apply]
  exact congrArg (V m c main_arg5) (Rows.eq_row (index5 t).1 (index5 t).2 (by have := lt32 t; omega) rfl rfl)

theorem iblk6 (c : Dev nD) (t : Fin cfg0.N) : (iblk m c 6 t : Vec Ideal S256x512 .bf16) = chunk (V m c main_arg6) t.val := by
  funext j
  unfold iblk
  rw [View.read_apply]
  exact congrArg (V m c main_arg6) (Rows.eq_row (index6 t).1 (index6 t).2 (by have := lt32 t; omega) rfl rfl)

theorem iblk7 (c : Dev nD) (t : Fin cfg0.N) : (iblk m c 7 t : Vec Ideal S256x512 .bf16) = chunk (V m c main_arg7) t.val := by
  funext j
  unfold iblk
  rw [View.read_apply]
  exact congrArg (V m c main_arg7) (Rows.eq_row (index7 t).1 (index7 t).2 (by have := lt32 t; omega) rfl rfl)

theorem iblk8 (c : Dev nD) (t : Fin cfg0.N) : (iblk m c 8 t : Vec Ideal S256x512 .bf16) = chunk (V m c main_arg8) t.val := by
  funext j
  unfold iblk
  rw [View.read_apply]
  exact congrArg (V m c main_arg8) (Rows.eq_row (index8 t).1 (index8 t).2 (by have := lt32 t; omega) rfl rfl)

/-- the whole weight, -/
theorem iblk9 (c : Dev nD) (t : Fin cfg0.N) : (iblk m c 9 t : Vec Ideal S8x1024x576 .bf16) = aW m c := by
  funext j
  unfold iblk
  rw [View.read_apply]
  exact congrArg (aW m c) (Rows.eq_whole3 (index9 t).1 (index9 t).2.1 (index9 t).2.2 rfl rfl rfl)

/-- chunk `t` of the stream -/
theorem iblk10 (c : Dev nD) (t : Fin cfg0.N) : (iblk m c 10 t : Vec Ideal S256x1024 .f32) = chunk (aX m c) t.val := by
  funext j
  unfold iblk
  rw [View.read_apply]
  exact congrArg (aX m c) (Rows.eq_row (index10 t).1 (index10 t).2 (by have := lt32 t; omega) rfl rfl)

/-- and of its cotangent, -/
theorem iblk11 (c : Dev nD) (t : Fin cfg0.N) : (iblk m c 11 t : Vec Ideal S256x1024 .f32) = chunk (aDr m c) t.val := by
  funext j
  unfold iblk
  rw [View.read_apply]
  exact congrArg (aDr m c) (Rows.eq_row (index11 t).1 (index11 t).2 (by have := lt32 t; omega) rfl rfl)

/-- and the gain. -/
theorem iblk12 (c : Dev nD) (t : Fin cfg0.N) : (iblk m c 12 t : Vec Ideal S1x1024 .f32) = aG m c := by
  funext j
  unfold iblk
  rw [View.read_apply]
  exact congrArg (aG m c) (Rows.eq_whole (index12 t).1 (index12 t).2 rfl rfl)

/-- Chunk `t`'s part of the stream's cotangent. -/
def dxAt (c : Dev nD) (t : Nat) : Vec Ideal S256x1024 .f32 := dxBlk (chunk (aDa m c) t) (aW m c) (chunk (aX m c) t) (chunk (aDr m c) t) (aG m c)

/-- The first `n` chunks' part of the gain's. -/
def part (c : Dev nD) (n : Nat) : Vec Ideal S1x1024 .f32 := fun y =>
  ∑ k ∈ Finset.range n, dgBlk (chunk (aDa m c) k) (aW m c) (chunk (aX m c) k) y

/-- What the first two outputs' blocks hold after point `t`, -/
theorem outsAt_dx (c : Dev nD) (t : Fin cfg0.N) : (outsAt0 m c t.val t.isLt).1 = dxAt m c t.val := by
  by_cases h0 : t.val % 32 = 0
  · rw [outsAt0_A m c t h0]
    dsimp only
    rw [out_A13, iblk0, iblk1, iblk2, iblk3, iblk4, iblk5, iblk6, iblk7, iblk8, iblk9, iblk10, iblk11, iblk12, chunk_cat]
    rfl
  · rw [outsAt0_B m c t h0]
    dsimp only
    rw [out_B13, iblk0, iblk1, iblk2, iblk3, iblk4, iblk5, iblk6, iblk7, iblk8, iblk9, iblk10, iblk11, iblk12, chunk_cat]
    rfl

theorem outsAt_dxb (c : Dev nD) (t : Fin cfg0.N) : (outsAt0 m c t.val t.isLt).2.1 = dxAt m c t.val := by
  by_cases h0 : t.val % 32 = 0
  · rw [outsAt0_A m c t h0]
    dsimp only
    rw [out_A14, iblk0, iblk1, iblk2, iblk3, iblk4, iblk5, iblk6, iblk7, iblk8, iblk9, iblk10, iblk11, iblk12, chunk_cat]
    rfl
  · rw [outsAt0_B m c t h0]
    dsimp only
    rw [out_B14, iblk0, iblk1, iblk2, iblk3, iblk4, iblk5, iblk6, iblk7, iblk8, iblk9, iblk10, iblk11, iblk12, chunk_cat]
    rfl

/-- and what the third's does: the gain's cotangent so far. -/
theorem outsAt_dg (c : Dev nD) : ∀ (n : ℕ) (h : n < cfg0.N), (outsAt0 m c n h).2.2 = part m c (n + 1)
  | 0, h => by
    rw [outsAt0_A m c ⟨0, h⟩ rfl]
    dsimp only
    rw [out_A15, iblk0, iblk1, iblk2, iblk3, iblk4, iblk5, iblk6, iblk7, iblk8, iblk9, iblk10, chunk_cat]
    funext y
    simp only [part, Nat.zero_add, Finset.sum_range_one]
  | n + 1, h => by
    have ht := lt32 ⟨n + 1, h⟩
    dsimp only at ht
    have h0 : ¬(n + 1) % 32 = 0 := by omega
    rw [outsAt0_B m c ⟨n + 1, h⟩ h0]
    dsimp only
    rw [out_B15, iblk0, iblk1, iblk2, iblk3, iblk4, iblk5, iblk6, iblk7, iblk8, iblk9, iblk10, chunk_cat]
    funext y
    show (outsAt0 m c n _).2.2 y + _ = _
    rw [outsAt_dg c n]
    simp only [part, Finset.sum_range_succ]

/-- The residual stream's cotangent, -/
def gX (c : Dev nD) : Vec Ideal S8192x1024 .f32 := fun i =>
  dxAt m c ((i 0).val / 256) (ix2 ⟨(i 0).val % 256, Nat.mod_lt _ (by decide)⟩ (i 1))

/-- Point `t` writes its 256 rows of it, -/
theorem flushed13 (c : Dev nD) (t : Fin cfg0.N) :
    (dats m 0 c).flushed 13 t = ((cfg0.win 13).blk t).view.read (Elt Ideal) (gX m c) := by
  have ht := lt32 t
  rw [Value.flushed13, outsAt_dx]
  funext j
  rw [View.read_apply]
  exact Rows.at_chunk (fun s => dxAt m c s) t.val j (by decide) (index13 t).1 (index13 t).2 rfl rfl

/-- so the output ends holding it. -/
theorem final13 (c : Dev nD) : (dats m 0 c).arrAt 13 cfg0.N = gX m c :=
  (dats m 0 c).arrAt_eq_of_cover 13 (gX m c) (fun t _ => flushed13 m c t) ((by decide +kernel : (cfg0.win 13).Covers).cover _ (Memref.isWhole_whole _))

/-- narrowed, -/
def gXb (c : Dev nD) : Vec Ideal S8192x1024 .bf16 := fun i =>
  dxAt m c ((i 0).val / 256) (ix2 ⟨(i 0).val % 256, Nat.mod_lt _ (by decide)⟩ (i 1))

/-- Point `t` writes its 256 rows of it, -/
theorem flushed14 (c : Dev nD) (t : Fin cfg0.N) :
    (dats m 0 c).flushed 14 t = ((cfg0.win 14).blk t).view.read (Elt Ideal) (gXb m c) := by
  have ht := lt32 t
  rw [Value.flushed14, outsAt_dxb]
  funext j
  rw [View.read_apply]
  exact Rows.at_chunk (fun s => dxAt m c s) t.val j (by decide) (index14 t).1 (index14 t).2 rfl rfl

/-- so the output ends holding it. -/
theorem final14 (c : Dev nD) : (dats m 0 c).arrAt 14 cfg0.N = gXb m c :=
  (dats m 0 c).arrAt_eq_of_cover 14 (gXb m c) (fun t _ => flushed14 m c t) ((by decide +kernel : (cfg0.win 14).Covers).cover _ (Memref.isWhole_whole _))

/-- The last point writes the gain's cotangent. -/
theorem flushed15 (c : Dev nD) (t : Fin cfg0.N) (hf : (cfg0.win 15).flush t = true) :
    (dats m 0 c).flushed 15 t = ((cfg0.win 15).blk t).view.read (Elt Ideal) (part m c 32) := by
  have ht := lt32 t
  have hl : t.val % 32 = 31 := (flush0_15 t).mp hf
  rw [Value.flushed15, outsAt_dg, show t.val + 1 = 32 by omega]
  funext j
  rw [View.read_apply]
  have e : ((cfg0.win 15).blk t).view.emb j = (j : S1x1024.Idx) := by
    funext a
    apply Fin.ext
    match a with
    | ⟨0, _⟩ => show win0_15.index t 0 * 1 + 1 * (j 0).val = (j 0).val; rw [(index15 t).1]; omega
    | ⟨1, _⟩ => show win0_15.index t 1 * 1024 + 1 * (j 1).val = (j 1).val; rw [(index15 t).2]; omega
  rw [e]
  rfl

theorem final15 (c : Dev nD) : (dats m 0 c).arrAt 15 cfg0.N = part m c 32 :=
  (dats m 0 c).arrAt_eq_of_cover 15 (part m c 32) (flushed15 m c) ((by decide +kernel : (cfg0.win 15).Covers).cover _ (Memref.isWhole_whole _))

/-- A chunk's row of the norm's cotangent is the reference's: the eight column blocks' sums are the sum. -/
theorem dhBlk_eq (c : Dev nD) (t : Nat) (r : Fin 256) (i : Fin 8192) (hi : i.val = 256 * t + r.val) (j : Fin 1024) :
    dhBlk (chunk (aDa m c) t) (aW m c) (ix2 r j) = rDh (aDa m c) (m ((c.tc : Thread nD τ).loc main_arg9)) (ix2 i j) := by
  rw [rDh_apply, aW_eq]
  show (∑ q : Fin 8, ∑ e : Fin 576, aDa m c (ix2 ⟨(256 * t + r.val) % 8192, _⟩ (hcol8 q e)) * colBlocks _ (ix3 q j e)) = _
  refine Fin.sum_mul_add_congr (fun q e hl => ?_)
  rw [colBlocks_apply]
  refine congrArg₂ (fun p q : EReal => p * q) (congrArg (aDa m c) (congrArg₂ ix2 (Fin.ext ?_) (Fin.ext ?_))) (congrArg (m ((c.tc : Thread nD τ).loc main_arg9) : S1024x4608.Idx → EReal) (congrArg₂ ix2 rfl (Fin.ext ?_)))
  · show (256 * t + r.val) % 8192 = i.val; omega
  · show 576 * q.val + e.val = q.val * 576 + e.val; omega
  · show 576 * q.val + e.val = q.val * 576 + e.val; omega

theorem chunk_row {n : Nat} {e : EltTy} (X : (⟨2, ![8192, n]⟩ : Shape).Idx → Elt Ideal e) (t : Nat) (r : Fin 256) (i : Fin 8192) (hi : i.val = 256 * t + r.val) (k : Fin n) :
    chunk X t (ix2 r k) = X (ix2 i k) :=
  congrArg X (congrArg (fun p => (ix2 p k : (⟨2, ![8192, n]⟩ : Shape).Idx)) (Fin.ext (by show (256 * t + r.val) % 8192 = i.val; omega)))

/-- The stream's cotangent is the reference's, -/
theorem dx_eq (c : Dev nD) (i : Fin 8192) (j : Fin 1024) :
    dxAt m c (i.val / 256) (ix2 ⟨i.val % 256, Nat.mod_lt _ (by decide)⟩ j) =
      rDx (aDr m c) (aX m c) (rDn (rDh (aDa m c) (m ((c.tc : Thread nD τ).loc main_arg9))) (m ((c.tc : Thread nD τ).loc main_arg12))) (ix2 i j) := by
  have hi : i.val = 256 * (i.val / 256) + (⟨i.val % 256, Nat.mod_lt _ (by decide)⟩ : Fin 256).val := by show i.val = 256 * (i.val / 256) + i.val % 256; omega
  generalize (⟨i.val % 256, Nat.mod_lt _ (by decide)⟩ : Fin 256) = r at hi ⊢
  generalize i.val / 256 = t at hi ⊢
  rw [rDx_apply]
  simp only [rDn_apply]
  show dhBlk (chunk (aDa m c) t) (aW m c) (ix2 r j) * aG m c (ix2 0 j) * Ideal.rsqrt (msq (fun k => chunk (aX m c) t (ix2 r k)))
    + chunk (aX m c) t (ix2 r j) * slope (fun k => chunk (aX m c) t (ix2 r k)) (fun k => dhBlk (chunk (aDa m c) t) (aW m c) (ix2 r k) * aG m c (ix2 0 k))
    + slope (fun k => chunk (aX m c) t (ix2 r k)) (fun k => dhBlk (chunk (aDa m c) t) (aW m c) (ix2 r k) * aG m c (ix2 0 k)) * chunk (aX m c) t (ix2 r j)
    + chunk (aDr m c) t (ix2 r j) = _
  have eg : ∀ k, aG m c (ix2 0 k) = (m ((c.tc : Thread nD τ).loc main_arg12) : S1024.Idx → EReal) (ix1 k) := fun k => by
    rw [aG_eq]
    exact asRow_apply _ k
  simp only [chunk_row _ t r i hi, dhBlk_eq m c t r i hi, eg]
  rw [add_comm, ← add_assoc, ← add_assoc]

/-- and so is the gain's. -/
theorem dg_eq (c : Dev nD) : part m c 32 = rDg (aX m c) (rDh (aDa m c) (m ((c.tc : Thread nD τ).loc main_arg9))) := by
  suffices hs : ∀ (z : Fin 1) (j : Fin 1024), part m c 32 (ix2 z j) = rDg (aX m c) (rDh (aDa m c) (m ((c.tc : Thread nD τ).loc main_arg9))) (ix2 z j) by
    funext y
    rw [eq_ix2 y]
    exact hs _ _
  intro z j
  obtain rfl : z = 0 := Fin.ext (by omega)
  rw [rDg_apply]
  show ∑ k ∈ Finset.range 32, ∑ r : Fin 256, chunk (aX m c) k (ix2 r j) * Ideal.rsqrt (msq (fun l => chunk (aX m c) k (ix2 r l))) * dhBlk (chunk (aDa m c) k) (aW m c) (ix2 r j) = _
  rw [Finset.sum_range]
  refine Fin.sum_mul_add_congr (fun k r hl => ?_)
  have hi : (⟨k.val * 256 + r.val, hl⟩ : Fin 8192).val = 256 * k.val + r.val := by show k.val * 256 + r.val = 256 * k.val + r.val; omega
  simp only [chunk_row _ k.val r ⟨k.val * 256 + r.val, hl⟩ hi, dhBlk_eq m c k.val r ⟨k.val * 256 + r.val, hl⟩ hi]

theorem gX_eq (c : Dev nD) : gX m c = rDx (aDr m c) (aX m c) (rDn (rDh (aDa m c) (m ((c.tc : Thread nD τ).loc main_arg9))) (m ((c.tc : Thread nD τ).loc main_arg12))) := by
  suffices hs : ∀ (i : Fin 8192) (j : Fin 1024), gX m c (ix2 i j) = rDx (aDr m c) (aX m c) (rDn (rDh (aDa m c) (m ((c.tc : Thread nD τ).loc main_arg9))) (m ((c.tc : Thread nD τ).loc main_arg12))) (ix2 i j) by
    funext y
    rw [eq_ix2 y]
    exact hs _ _
  exact fun i j => dx_eq m c i j

/-- The kernel's run ends with the reference's three results. -/
theorem run (ρ : Dev nD → PrngReg) :
    θ_run defs (onTc (τ := τ) (main (F := Ideal))) ⟨m, fun _ => 0, ρ⟩ fun r => ∀ c : Dev nD,
      r.2.mem ((c.tc : Thread nD τ).loc main_v4_0) = rDx (m ((c.tc : Thread nD τ).loc main_arg11)) (m ((c.tc : Thread nD τ).loc main_arg10)) (rDn (rDh (rCat (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8))) (m ((c.tc : Thread nD τ).loc main_arg9))) (m ((c.tc : Thread nD τ).loc main_arg12))) ∧
      r.2.mem ((c.tc : Thread nD τ).loc main_v4_1) = rDx (m ((c.tc : Thread nD τ).loc main_arg11)) (m ((c.tc : Thread nD τ).loc main_arg10)) (rDn (rDh (rCat (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8))) (m ((c.tc : Thread nD τ).loc main_arg9))) (m ((c.tc : Thread nD τ).loc main_arg12))) ∧
      r.2.mem ((c.tc : Thread nD τ).loc main_v4_2) = rDg (m ((c.tc : Thread nD τ).loc main_arg10)) (rDh (rCat (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8))) (m ((c.tc : Thread nD τ).loc main_arg9))) :=
  (θ_run defs _ _).mono (fun _ h c => by
    have e0 : aDa m c = (rCat (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8))) := by
      rw [rCat_eq]
      show cat (V m c main_arg0) (V m c main_arg1) (V m c main_arg2) (V m c main_arg3) (V m c main_arg4) (V m c main_arg5) (V m c main_arg6) (V m c main_arg7) (V m c main_arg8) = _
      rw [V_main_arg0 m c, V_main_arg1 m c, V_main_arg2 m c, V_main_arg3 m c, V_main_arg4 m c, V_main_arg5 m c, V_main_arg6 m c, V_main_arg7 m c, V_main_arg8 m c]
    have e2 : aX m c = _ := V_main_arg10 m c
    have e3 : aDr m c = _ := V_main_arg11 m c
    have ex : gX m c = rDx (m ((c.tc : Thread nD τ).loc main_arg11)) (m ((c.tc : Thread nD τ).loc main_arg10)) (rDn (rDh (rCat (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8))) (m ((c.tc : Thread nD τ).loc main_arg9))) (m ((c.tc : Thread nD τ).loc main_arg12))) := by rw [gX_eq, e0, e2, e3]
    have eg : part m c 32 = rDg (m ((c.tc : Thread nD τ).loc main_arg10)) (rDh (rCat (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8))) (m ((c.tc : Thread nD τ).loc main_arg9))) := by rw [dg_eq, e0, e2]
    exact ⟨(h c).1.trans ((final13 m c).trans ex), (h c).2.1.trans ((final14 m c).trans ex), (h c).2.2.1.trans ((final15 m c).trans eg)⟩) (Value.run_blocks m ρ)

end Cert.Kernel15Ideal.Bwd
-- ==== Proof.AttnQkvWgBlock.lean ====
module

public import proofs.«01_k».proof.Proof.Heads
public import proofs.«01_k».proof.Proof.Gen.Kernel16Ideal.Value
public import proofs.«01_k».proof.Proof.Gen.Reference16Ideal.Run
public import Idealize.ShloMosaic.Lib.Pipeline.Value
public import Idealize.ShloMosaic.Lib.Pipeline.ReadBack
public import Idealize.ShloMosaic.Lib.Pipeline.ValueKit.Acc
public import Idealize.ShloMosaic.Lib.Pointwise
public import proofs.«01_k».proof.Proof.Blocks

/-! The weight's gradient of attention's first product, on a block: the kernel gathers each device's nine heads into a block,
multiplies the input's transposed block by it and adds the product to the block's sum. -/

@[expose] public section

set_option maxRecDepth 16384

noncomputable section

namespace Cert.Reference16Ideal.Wg

open Cert.Reference16Ideal Cert.Reference16Ideal.Gen Idealize.ShloMosaic Idealize.ShloMosaic.TcCoe Idealize.SL.Sem
open Cert.Heads (cat cat_of cat_eq gath head_of head0_of)

/-- The nine cotangents side by side, -/
def rCat (a0 a1 a2 a3 a4 a5 a6 a7 a8 : FVec Ideal S8192x512 .bf16) : FVec Ideal S8192x4608 .bf16 :=
  concatenate S8192x4608 1 [⟨S8192x512, a0⟩, ⟨S8192x512, a1⟩, ⟨S8192x512, a2⟩, ⟨S8192x512, a3⟩, ⟨S8192x512, a4⟩, ⟨S8192x512, a5⟩, ⟨S8192x512, a6⟩, ⟨S8192x512, a7⟩, ⟨S8192x512, a8⟩] concatenates_S8192x512_S8192x512_S8192x512_S8192x512_S8192x512_S8192x512_S8192x512_S8192x512_S8192x512_S8192x4608_d1

theorem rCat_eq (a0 a1 a2 a3 a4 a5 a6 a7 a8 : FVec Ideal S8192x512 .bf16) : rCat a0 a1 a2 a3 a4 a5 a6 a7 a8 = cat a0 a1 a2 a3 a4 a5 a6 a7 a8 := cat_eq a0 a1 a2 a3 a4 a5 a6 a7 a8 _

/-- The reference's gradient of the weight, from the input and the cotangents, by devices' columns: -/
def rW (x : FVec Ideal S8192x1024 .bf16) (g : FVec Ideal S8192x4608 .bf16) : FVec Ideal S8x1024x576 .f32 :=
  transpose S8x1024x576 [1, 0, 2] (shapeCast S1024x8x576 (transpose S1024x4608 [1, 0] (Host.dotGeneral dot_S8192x4608_S8192x1024_S4608x1024_0_0_1_1_n_n none
    (extf .f32 g bitsLt_bf16_f32) (extf .f32 x bitsLt_bf16_f32)) transposes_S4608x1024_S1024x4608_1_0) shapeCasts_S1024x4608_S1024x8x576) transposes_S1024x8x576_S8x1024x576_1_0_2

/-- one sum over all rows. -/
theorem rW_apply (x : FVec Ideal S8192x1024 .bf16) (g : FVec Ideal S8192x4608 .bf16) (q : Fin 8) (i : Fin 1024) (j : Fin 576) :
    rW x g (ix3 q i j) = ∑ r : Fin 8192, g (ix2 r ⟨q.val * 576 + j.val, by omega⟩) * x (ix2 r i) := by
  pointwise [rW]

/-- The reference's run ends with it, twice. -/
theorem run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v8) = rW (m ((c.tc : Thread nD τ).loc main_arg0)) (rCat (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)))
      ∧ r.2.mem ((c.tc : Thread nD τ).loc main_v9) = rW (m ((c.tc : Thread nD τ).loc main_arg0)) (rCat (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9))) :=
  (θ_run defs _ _).mono (fun _ h c => ⟨(h c).1.trans (by unfold rW rCat; rfl), (h c).2.1.trans (by unfold rW rCat; rfl)⟩) (Value.run (F := Ideal) m ρ)

end Cert.Reference16Ideal.Wg

namespace Cert.Kernel16Ideal.Wg

open Cert.Kernel16Ideal Cert.Kernel16Ideal.Gen Idealize.ShloMosaic Idealize.ShloMosaic.TcCoe Idealize.SL.Sem
open Idealize.ShloMosaic.Pipeline (Dat)
open Cert.Heads (cat cat_of cat_eq gath head_of head0_of)

section
variable {sig : RefSig} {κ : Kind} {sp : Space} (v : View sig κ sp S512x576 .bf16)
  (x0 : Vec Ideal S512x512 .bf16) (x1 : Vec Ideal S512x512 .bf16) (x2 : Vec Ideal S512x512 .bf16) (x3 : Vec Ideal S512x512 .bf16) (x4 : Vec Ideal S512x512 .bf16) (x5 : Vec Ideal S512x512 .bf16) (x6 : Vec Ideal S512x512 .bf16) (x7 : Vec Ideal S512x512 .bf16) (x8 : Vec Ideal S512x512 .bf16)
  (L : List (View.Piece (Elt Ideal) S512x576 .bf16))

/-- The nine heads of each device's columns, read back. -/
theorem read_0 :
    v.readCov ((⟨Rect.unit ![0, 512] ![512, 64] inb_S512x576_S512x64_0_512, k0_pay14 (View.ld x1 (Rect.unit (s := S512x512) ![0, 0] ![512, 64] inb_S512x512_S512x64_0_0))⟩ : View.Piece (Elt Ideal) S512x576 .bf16) ::
      ⟨Rect.unit ![0, 448] ![512, 64] inb_S512x576_S512x64_0_448, k0_pay13 (View.ld x0 (Rect.unit (s := S512x512) ![0, 448] ![512, 64] inb_S512x512_S512x64_0_448))⟩ ::
      ⟨Rect.unit ![0, 384] ![512, 64] inb_S512x576_S512x64_0_384, k0_pay12 (View.ld x0 (Rect.unit (s := S512x512) ![0, 384] ![512, 64] inb_S512x512_S512x64_0_384))⟩ ::
      ⟨Rect.unit ![0, 320] ![512, 64] inb_S512x576_S512x64_0_320, k0_pay11 (View.ld x0 (Rect.unit (s := S512x512) ![0, 320] ![512, 64] inb_S512x512_S512x64_0_320))⟩ ::
      ⟨Rect.unit ![0, 256] ![512, 64] inb_S512x576_S512x64_0_256, k0_pay10 (View.ld x0 (Rect.unit (s := S512x512) ![0, 256] ![512, 64] inb_S512x512_S512x64_0_256))⟩ ::
      ⟨Rect.unit ![0, 192] ![512, 64] inb_S512x576_S512x64_0_192, k0_pay9 (View.ld x0 (Rect.unit (s := S512x512) ![0, 192] ![512, 64] inb_S512x512_S512x64_0_192))⟩ ::
      ⟨Rect.unit ![0, 128] ![512, 64] inb_S512x576_S512x64_0_128, k0_pay8 (View.ld x0 (Rect.unit (s := S512x512) ![0, 128] ![512, 64] inb_S512x512_S512x64_0_128))⟩ ::
      ⟨Rect.unit ![0, 64] ![512, 64] inb_S512x576_S512x64_0_64, k0_pay7 (View.ld x0 (Rect.unit (s := S512x512) ![0, 64] ![512, 64] inb_S512x512_S512x64_0_64))⟩ ::
      ⟨Rect.unit ![0, 0] ![512, 64] inb_S512x576_S512x64_0_0, k0_pay6 (View.ld x0 (Rect.unit (s := S512x512) ![0, 0] ![512, 64] inb_S512x512_S512x64_0_0))⟩ :: L) (Rect.unit (s := S512x576) ![0, 0] ![512, 576] inb_S512x576_S512x576_0_0).toLoadRect = gath 0 (cat x0 x1 x2 x3 x4 x5 x6 x7 x8) := by
  apply Blocks.nine
  · intro r e; pointwise [k0_pay6]; exact head0_of x0 x1 x2 x3 x4 x5 x6 x7 x8 0 0 0 (by decide) r e
  · intro r e; pointwise [k0_pay7]; exact head_of x0 x1 x2 x3 x4 x5 x6 x7 x8 0 1 0 64 (by decide) (by decide) r e
  · intro r e; pointwise [k0_pay8]; exact head_of x0 x1 x2 x3 x4 x5 x6 x7 x8 0 2 0 128 (by decide) (by decide) r e
  · intro r e; pointwise [k0_pay9]; exact head_of x0 x1 x2 x3 x4 x5 x6 x7 x8 0 3 0 192 (by decide) (by decide) r e
  · intro r e; pointwise [k0_pay10]; exact head_of x0 x1 x2 x3 x4 x5 x6 x7 x8 0 4 0 256 (by decide) (by decide) r e
  · intro r e; pointwise [k0_pay11]; exact head_of x0 x1 x2 x3 x4 x5 x6 x7 x8 0 5 0 320 (by decide) (by decide) r e
  · intro r e; pointwise [k0_pay12]; exact head_of x0 x1 x2 x3 x4 x5 x6 x7 x8 0 6 0 384 (by decide) (by decide) r e
  · intro r e; pointwise [k0_pay13]; exact head_of x0 x1 x2 x3 x4 x5 x6 x7 x8 0 7 0 448 (by decide) (by decide) r e
  · intro r e; pointwise [k0_pay14]; exact head0_of x0 x1 x2 x3 x4 x5 x6 x7 x8 0 8 1 (by decide) r e

theorem read_1 :
    v.readCov ((⟨Rect.unit ![0, 512] ![512, 64] inb_S512x576_S512x64_0_512, k0_pay24 (View.ld x2 (Rect.unit (s := S512x512) ![0, 64] ![512, 64] inb_S512x512_S512x64_0_64))⟩ : View.Piece (Elt Ideal) S512x576 .bf16) ::
      ⟨Rect.unit ![0, 448] ![512, 64] inb_S512x576_S512x64_0_448, k0_pay23 (View.ld x2 (Rect.unit (s := S512x512) ![0, 0] ![512, 64] inb_S512x512_S512x64_0_0))⟩ ::
      ⟨Rect.unit ![0, 384] ![512, 64] inb_S512x576_S512x64_0_384, k0_pay22 (View.ld x1 (Rect.unit (s := S512x512) ![0, 448] ![512, 64] inb_S512x512_S512x64_0_448))⟩ ::
      ⟨Rect.unit ![0, 320] ![512, 64] inb_S512x576_S512x64_0_320, k0_pay21 (View.ld x1 (Rect.unit (s := S512x512) ![0, 384] ![512, 64] inb_S512x512_S512x64_0_384))⟩ ::
      ⟨Rect.unit ![0, 256] ![512, 64] inb_S512x576_S512x64_0_256, k0_pay20 (View.ld x1 (Rect.unit (s := S512x512) ![0, 320] ![512, 64] inb_S512x512_S512x64_0_320))⟩ ::
      ⟨Rect.unit ![0, 192] ![512, 64] inb_S512x576_S512x64_0_192, k0_pay19 (View.ld x1 (Rect.unit (s := S512x512) ![0, 256] ![512, 64] inb_S512x512_S512x64_0_256))⟩ ::
      ⟨Rect.unit ![0, 128] ![512, 64] inb_S512x576_S512x64_0_128, k0_pay18 (View.ld x1 (Rect.unit (s := S512x512) ![0, 192] ![512, 64] inb_S512x512_S512x64_0_192))⟩ ::
      ⟨Rect.unit ![0, 64] ![512, 64] inb_S512x576_S512x64_0_64, k0_pay17 (View.ld x1 (Rect.unit (s := S512x512) ![0, 128] ![512, 64] inb_S512x512_S512x64_0_128))⟩ ::
      ⟨Rect.unit ![0, 0] ![512, 64] inb_S512x576_S512x64_0_0, k0_pay16 (View.ld x1 (Rect.unit (s := S512x512) ![0, 64] ![512, 64] inb_S512x512_S512x64_0_64))⟩ :: L) (Rect.unit (s := S512x576) ![0, 0] ![512, 576] inb_S512x576_S512x576_0_0).toLoadRect = gath 1 (cat x0 x1 x2 x3 x4 x5 x6 x7 x8) := by
  apply Blocks.nine
  · intro r e; pointwise [k0_pay16]; exact head_of x0 x1 x2 x3 x4 x5 x6 x7 x8 1 0 1 64 (by decide) (by decide) r e
  · intro r e; pointwise [k0_pay17]; exact head_of x0 x1 x2 x3 x4 x5 x6 x7 x8 1 1 1 128 (by decide) (by decide) r e
  · intro r e; pointwise [k0_pay18]; exact head_of x0 x1 x2 x3 x4 x5 x6 x7 x8 1 2 1 192 (by decide) (by decide) r e
  · intro r e; pointwise [k0_pay19]; exact head_of x0 x1 x2 x3 x4 x5 x6 x7 x8 1 3 1 256 (by decide) (by decide) r e
  · intro r e; pointwise [k0_pay20]; exact head_of x0 x1 x2 x3 x4 x5 x6 x7 x8 1 4 1 320 (by decide) (by decide) r e
  · intro r e; pointwise [k0_pay21]; exact head_of x0 x1 x2 x3 x4 x5 x6 x7 x8 1 5 1 384 (by decide) (by decide) r e
  · intro r e; pointwise [k0_pay22]; exact head_of x0 x1 x2 x3 x4 x5 x6 x7 x8 1 6 1 448 (by decide) (by decide) r e
  · intro r e; pointwise [k0_pay23]; exact head0_of x0 x1 x2 x3 x4 x5 x6 x7 x8 1 7 2 (by decide) r e
  · intro r e; pointwise [k0_pay24]; exact head_of x0 x1 x2 x3 x4 x5 x6 x7 x8 1 8 2 64 (by decide) (by decide) r e

theorem read_2 :
    v.readCov ((⟨Rect.unit ![0, 512] ![512, 64] inb_S512x576_S512x64_0_512, k0_pay34 (View.ld x3 (Rect.unit (s := S512x512) ![0, 128] ![512, 64] inb_S512x512_S512x64_0_128))⟩ : View.Piece (Elt Ideal) S512x576 .bf16) ::
      ⟨Rect.unit ![0, 448] ![512, 64] inb_S512x576_S512x64_0_448, k0_pay33 (View.ld x3 (Rect.unit (s := S512x512) ![0, 64] ![512, 64] inb_S512x512_S512x64_0_64))⟩ ::
      ⟨Rect.unit ![0, 384] ![512, 64] inb_S512x576_S512x64_0_384, k0_pay32 (View.ld x3 (Rect.unit (s := S512x512) ![0, 0] ![512, 64] inb_S512x512_S512x64_0_0))⟩ ::
      ⟨Rect.unit ![0, 320] ![512, 64] inb_S512x576_S512x64_0_320, k0_pay31 (View.ld x2 (Rect.unit (s := S512x512) ![0, 448] ![512, 64] inb_S512x512_S512x64_0_448))⟩ ::
      ⟨Rect.unit ![0, 256] ![512, 64] inb_S512x576_S512x64_0_256, k0_pay30 (View.ld x2 (Rect.unit (s := S512x512) ![0, 384] ![512, 64] inb_S512x512_S512x64_0_384))⟩ ::
      ⟨Rect.unit ![0, 192] ![512, 64] inb_S512x576_S512x64_0_192, k0_pay29 (View.ld x2 (Rect.unit (s := S512x512) ![0, 320] ![512, 64] inb_S512x512_S512x64_0_320))⟩ ::
      ⟨Rect.unit ![0, 128] ![512, 64] inb_S512x576_S512x64_0_128, k0_pay28 (View.ld x2 (Rect.unit (s := S512x512) ![0, 256] ![512, 64] inb_S512x512_S512x64_0_256))⟩ ::
      ⟨Rect.unit ![0, 64] ![512, 64] inb_S512x576_S512x64_0_64, k0_pay27 (View.ld x2 (Rect.unit (s := S512x512) ![0, 192] ![512, 64] inb_S512x512_S512x64_0_192))⟩ ::
      ⟨Rect.unit ![0, 0] ![512, 64] inb_S512x576_S512x64_0_0, k0_pay26 (View.ld x2 (Rect.unit (s := S512x512) ![0, 128] ![512, 64] inb_S512x512_S512x64_0_128))⟩ :: L) (Rect.unit (s := S512x576) ![0, 0] ![512, 576] inb_S512x576_S512x576_0_0).toLoadRect = gath 2 (cat x0 x1 x2 x3 x4 x5 x6 x7 x8) := by
  apply Blocks.nine
  · intro r e; pointwise [k0_pay26]; exact head_of x0 x1 x2 x3 x4 x5 x6 x7 x8 2 0 2 128 (by decide) (by decide) r e
  · intro r e; pointwise [k0_pay27]; exact head_of x0 x1 x2 x3 x4 x5 x6 x7 x8 2 1 2 192 (by decide) (by decide) r e
  · intro r e; pointwise [k0_pay28]; exact head_of x0 x1 x2 x3 x4 x5 x6 x7 x8 2 2 2 256 (by decide) (by decide) r e
  · intro r e; pointwise [k0_pay29]; exact head_of x0 x1 x2 x3 x4 x5 x6 x7 x8 2 3 2 320 (by decide) (by decide) r e
  · intro r e; pointwise [k0_pay30]; exact head_of x0 x1 x2 x3 x4 x5 x6 x7 x8 2 4 2 384 (by decide) (by decide) r e
  · intro r e; pointwise [k0_pay31]; exact head_of x0 x1 x2 x3 x4 x5 x6 x7 x8 2 5 2 448 (by decide) (by decide) r e
  · intro r e; pointwise [k0_pay32]; exact head0_of x0 x1 x2 x3 x4 x5 x6 x7 x8 2 6 3 (by decide) r e
  · intro r e; pointwise [k0_pay33]; exact head_of x0 x1 x2 x3 x4 x5 x6 x7 x8 2 7 3 64 (by decide) (by decide) r e
  · intro r e; pointwise [k0_pay34]; exact head_of x0 x1 x2 x3 x4 x5 x6 x7 x8 2 8 3 128 (by decide) (by decide) r e

theorem read_3 :
    v.readCov ((⟨Rect.unit ![0, 512] ![512, 64] inb_S512x576_S512x64_0_512, k0_pay45 (View.ld x4 (Rect.unit (s := S512x512) ![0, 192] ![512, 64] inb_S512x512_S512x64_0_192))⟩ : View.Piece (Elt Ideal) S512x576 .bf16) ::
      ⟨Rect.unit ![0, 448] ![512, 64] inb_S512x576_S512x64_0_448, k0_pay44 (View.ld x4 (Rect.unit (s := S512x512) ![0, 128] ![512, 64] inb_S512x512_S512x64_0_128))⟩ ::
      ⟨Rect.unit ![0, 384] ![512, 64] inb_S512x576_S512x64_0_384, k0_pay43 (View.ld x4 (Rect.unit (s := S512x512) ![0, 64] ![512, 64] inb_S512x512_S512x64_0_64))⟩ ::
      ⟨Rect.unit ![0, 320] ![512, 64] inb_S512x576_S512x64_0_320, k0_pay42 (View.ld x4 (Rect.unit (s := S512x512) ![0, 0] ![512, 64] inb_S512x512_S512x64_0_0))⟩ ::
      ⟨Rect.unit ![0, 256] ![512, 64] inb_S512x576_S512x64_0_256, k0_pay41 (View.ld x3 (Rect.unit (s := S512x512) ![0, 448] ![512, 64] inb_S512x512_S512x64_0_448))⟩ ::
      ⟨Rect.unit ![0, 192] ![512, 64] inb_S512x576_S512x64_0_192, k0_pay40 (View.ld x3 (Rect.unit (s := S512x512) ![0, 384] ![512, 64] inb_S512x512_S512x64_0_384))⟩ ::
      ⟨Rect.unit ![0, 128] ![512, 64] inb_S512x576_S512x64_0_128, k0_pay39 (View.ld x3 (Rect.unit (s := S512x512) ![0, 320] ![512, 64] inb_S512x512_S512x64_0_320))⟩ ::
      ⟨Rect.unit ![0, 64] ![512, 64] inb_S512x576_S512x64_0_64, k0_pay38 (View.ld x3 (Rect.unit (s := S512x512) ![0, 256] ![512, 64] inb_S512x512_S512x64_0_256))⟩ ::
      ⟨Rect.unit ![0, 0] ![512, 64] inb_S512x576_S512x64_0_0, k0_pay37 (View.ld x3 (Rect.unit (s := S512x512) ![0, 192] ![512, 64] inb_S512x512_S512x64_0_192))⟩ :: L) (Rect.unit (s := S512x576) ![0, 0] ![512, 576] inb_S512x576_S512x576_0_0).toLoadRect = gath 3 (cat x0 x1 x2 x3 x4 x5 x6 x7 x8) := by
  apply Blocks.nine
  · intro r e; pointwise [k0_pay37]; exact head_of x0 x1 x2 x3 x4 x5 x6 x7 x8 3 0 3 192 (by decide) (by decide) r e
  · intro r e; pointwise [k0_pay38]; exact head_of x0 x1 x2 x3 x4 x5 x6 x7 x8 3 1 3 256 (by decide) (by decide) r e
  · intro r e; pointwise [k0_pay39]; exact head_of x0 x1 x2 x3 x4 x5 x6 x7 x8 3 2 3 320 (by decide) (by decide) r e
  · intro r e; pointwise [k0_pay40]; exact head_of x0 x1 x2 x3 x4 x5 x6 x7 x8 3 3 3 384 (by decide) (by decide) r e
  · intro r e; pointwise [k0_pay41]; exact head_of x0 x1 x2 x3 x4 x5 x6 x7 x8 3 4 3 448 (by decide) (by decide) r e
  · intro r e; pointwise [k0_pay42]; exact head0_of x0 x1 x2 x3 x4 x5 x6 x7 x8 3 5 4 (by decide) r e
  · intro r e; pointwise [k0_pay43]; exact head_of x0 x1 x2 x3 x4 x5 x6 x7 x8 3 6 4 64 (by decide) (by decide) r e
  · intro r e; pointwise [k0_pay44]; exact head_of x0 x1 x2 x3 x4 x5 x6 x7 x8 3 7 4 128 (by decide) (by decide) r e
  · intro r e; pointwise [k0_pay45]; exact head_of x0 x1 x2 x3 x4 x5 x6 x7 x8 3 8 4 192 (by decide) (by decide) r e

theorem read_4 :
    v.readCov ((⟨Rect.unit ![0, 512] ![512, 64] inb_S512x576_S512x64_0_512, k0_pay55 (View.ld x5 (Rect.unit (s := S512x512) ![0, 256] ![512, 64] inb_S512x512_S512x64_0_256))⟩ : View.Piece (Elt Ideal) S512x576 .bf16) ::
      ⟨Rect.unit ![0, 448] ![512, 64] inb_S512x576_S512x64_0_448, k0_pay54 (View.ld x5 (Rect.unit (s := S512x512) ![0, 192] ![512, 64] inb_S512x512_S512x64_0_192))⟩ ::
      ⟨Rect.unit ![0, 384] ![512, 64] inb_S512x576_S512x64_0_384, k0_pay53 (View.ld x5 (Rect.unit (s := S512x512) ![0, 128] ![512, 64] inb_S512x512_S512x64_0_128))⟩ ::
      ⟨Rect.unit ![0, 320] ![512, 64] inb_S512x576_S512x64_0_320, k0_pay52 (View.ld x5 (Rect.unit (s := S512x512) ![0, 64] ![512, 64] inb_S512x512_S512x64_0_64))⟩ ::
      ⟨Rect.unit ![0, 256] ![512, 64] inb_S512x576_S512x64_0_256, k0_pay51 (View.ld x5 (Rect.unit (s := S512x512) ![0, 0] ![512, 64] inb_S512x512_S512x64_0_0))⟩ ::
      ⟨Rect.unit ![0, 192] ![512, 64] inb_S512x576_S512x64_0_192, k0_pay50 (View.ld x4 (Rect.unit (s := S512x512) ![0, 448] ![512, 64] inb_S512x512_S512x64_0_448))⟩ ::
      ⟨Rect.unit ![0, 128] ![512, 64] inb_S512x576_S512x64_0_128, k0_pay49 (View.ld x4 (Rect.unit (s := S512x512) ![0, 384] ![512, 64] inb_S512x512_S512x64_0_384))⟩ ::
      ⟨Rect.unit ![0, 64] ![512, 64] inb_S512x576_S512x64_0_64, k0_pay48 (View.ld x4 (Rect.unit (s := S512x512) ![0, 320] ![512, 64] inb_S512x512_S512x64_0_320))⟩ ::
      ⟨Rect.unit ![0, 0] ![512, 64] inb_S512x576_S512x64_0_0, k0_pay47 (View.ld x4 (Rect.unit (s := S512x512) ![0, 256] ![512, 64] inb_S512x512_S512x64_0_256))⟩ :: L) (Rect.unit (s := S512x576) ![0, 0] ![512, 576] inb_S512x576_S512x576_0_0).toLoadRect = gath 4 (cat x0 x1 x2 x3 x4 x5 x6 x7 x8) := by
  apply Blocks.nine
  · intro r e; pointwise [k0_pay47]; exact head_of x0 x1 x2 x3 x4 x5 x6 x7 x8 4 0 4 256 (by decide) (by decide) r e
  · intro r e; pointwise [k0_pay48]; exact head_of x0 x1 x2 x3 x4 x5 x6 x7 x8 4 1 4 320 (by decide) (by decide) r e
  · intro r e; pointwise [k0_pay49]; exact head_of x0 x1 x2 x3 x4 x5 x6 x7 x8 4 2 4 384 (by decide) (by decide) r e
  · intro r e; pointwise [k0_pay50]; exact head_of x0 x1 x2 x3 x4 x5 x6 x7 x8 4 3 4 448 (by decide) (by decide) r e
  · intro r e; pointwise [k0_pay51]; exact head0_of x0 x1 x2 x3 x4 x5 x6 x7 x8 4 4 5 (by decide) r e
  · intro r e; pointwise [k0_pay52]; exact head_of x0 x1 x2 x3 x4 x5 x6 x7 x8 4 5 5 64 (by decide) (by decide) r e
  · intro r e; pointwise [k0_pay53]; exact head_of x0 x1 x2 x3 x4 x5 x6 x7 x8 4 6 5 128 (by decide) (by decide) r e
  · intro r e; pointwise [k0_pay54]; exact head_of x0 x1 x2 x3 x4 x5 x6 x7 x8 4 7 5 192 (by decide) (by decide) r e
  · intro r e; pointwise [k0_pay55]; exact head_of x0 x1 x2 x3 x4 x5 x6 x7 x8 4 8 5 256 (by decide) (by decide) r e

theorem read_5 :
    v.readCov ((⟨Rect.unit ![0, 512] ![512, 64] inb_S512x576_S512x64_0_512, k0_pay65 (View.ld x6 (Rect.unit (s := S512x512) ![0, 320] ![512, 64] inb_S512x512_S512x64_0_320))⟩ : View.Piece (Elt Ideal) S512x576 .bf16) ::
      ⟨Rect.unit ![0, 448] ![512, 64] inb_S512x576_S512x64_0_448, k0_pay64 (View.ld x6 (Rect.unit (s := S512x512) ![0, 256] ![512, 64] inb_S512x512_S512x64_0_256))⟩ ::
      ⟨Rect.unit ![0, 384] ![512, 64] inb_S512x576_S512x64_0_384, k0_pay63 (View.ld x6 (Rect.unit (s := S512x512) ![0, 192] ![512, 64] inb_S512x512_S512x64_0_192))⟩ ::
      ⟨Rect.unit ![0, 320] ![512, 64] inb_S512x576_S512x64_0_320, k0_pay62 (View.ld x6 (Rect.unit (s := S512x512) ![0, 128] ![512, 64] inb_S512x512_S512x64_0_128))⟩ ::
      ⟨Rect.unit ![0, 256] ![512, 64] inb_S512x576_S512x64_0_256, k0_pay61 (View.ld x6 (Rect.unit (s := S512x512) ![0, 64] ![512, 64] inb_S512x512_S512x64_0_64))⟩ ::
      ⟨Rect.unit ![0, 192] ![512, 64] inb_S512x576_S512x64_0_192, k0_pay60 (View.ld x6 (Rect.unit (s := S512x512) ![0, 0] ![512, 64] inb_S512x512_S512x64_0_0))⟩ ::
      ⟨Rect.unit ![0, 128] ![512, 64] inb_S512x576_S512x64_0_128, k0_pay59 (View.ld x5 (Rect.unit (s := S512x512) ![0, 448] ![512, 64] inb_S512x512_S512x64_0_448))⟩ ::
      ⟨Rect.unit ![0, 64] ![512, 64] inb_S512x576_S512x64_0_64, k0_pay58 (View.ld x5 (Rect.unit (s := S512x512) ![0, 384] ![512, 64] inb_S512x512_S512x64_0_384))⟩ ::
      ⟨Rect.unit ![0, 0] ![512, 64] inb_S512x576_S512x64_0_0, k0_pay57 (View.ld x5 (Rect.unit (s := S512x512) ![0, 320] ![512, 64] inb_S512x512_S512x64_0_320))⟩ :: L) (Rect.unit (s := S512x576) ![0, 0] ![512, 576] inb_S512x576_S512x576_0_0).toLoadRect = gath 5 (cat x0 x1 x2 x3 x4 x5 x6 x7 x8) := by
  apply Blocks.nine
  · intro r e; pointwise [k0_pay57]; exact head_of x0 x1 x2 x3 x4 x5 x6 x7 x8 5 0 5 320 (by decide) (by decide) r e
  · intro r e; pointwise [k0_pay58]; exact head_of x0 x1 x2 x3 x4 x5 x6 x7 x8 5 1 5 384 (by decide) (by decide) r e
  · intro r e; pointwise [k0_pay59]; exact head_of x0 x1 x2 x3 x4 x5 x6 x7 x8 5 2 5 448 (by decide) (by decide) r e
  · intro r e; pointwise [k0_pay60]; exact head0_of x0 x1 x2 x3 x4 x5 x6 x7 x8 5 3 6 (by decide) r e
  · intro r e; pointwise [k0_pay61]; exact head_of x0 x1 x2 x3 x4 x5 x6 x7 x8 5 4 6 64 (by decide) (by decide) r e
  · intro r e; pointwise [k0_pay62]; exact head_of x0 x1 x2 x3 x4 x5 x6 x7 x8 5 5 6 128 (by decide) (by decide) r e
  · intro r e; pointwise [k0_pay63]; exact head_of x0 x1 x2 x3 x4 x5 x6 x7 x8 5 6 6 192 (by decide) (by decide) r e
  · intro r e; pointwise [k0_pay64]; exact head_of x0 x1 x2 x3 x4 x5 x6 x7 x8 5 7 6 256 (by decide) (by decide) r e
  · intro r e; pointwise [k0_pay65]; exact head_of x0 x1 x2 x3 x4 x5 x6 x7 x8 5 8 6 320 (by decide) (by decide) r e

theorem read_6 :
    v.readCov ((⟨Rect.unit ![0, 512] ![512, 64] inb_S512x576_S512x64_0_512, k0_pay76 (View.ld x7 (Rect.unit (s := S512x512) ![0, 384] ![512, 64] inb_S512x512_S512x64_0_384))⟩ : View.Piece (Elt Ideal) S512x576 .bf16) ::
      ⟨Rect.unit ![0, 448] ![512, 64] inb_S512x576_S512x64_0_448, k0_pay75 (View.ld x7 (Rect.unit (s := S512x512) ![0, 320] ![512, 64] inb_S512x512_S512x64_0_320))⟩ ::
      ⟨Rect.unit ![0, 384] ![512, 64] inb_S512x576_S512x64_0_384, k0_pay74 (View.ld x7 (Rect.unit (s := S512x512) ![0, 256] ![512, 64] inb_S512x512_S512x64_0_256))⟩ ::
      ⟨Rect.unit ![0, 320] ![512, 64] inb_S512x576_S512x64_0_320, k0_pay73 (View.ld x7 (Rect.unit (s := S512x512) ![0, 192] ![512, 64] inb_S512x512_S512x64_0_192))⟩ ::
      ⟨Rect.unit ![0, 256] ![512, 64] inb_S512x576_S512x64_0_256, k0_pay72 (View.ld x7 (Rect.unit (s := S512x512) ![0, 128] ![512, 64] inb_S512x512_S512x64_0_128))⟩ ::
      ⟨Rect.unit ![0, 192] ![512, 64] inb_S512x576_S512x64_0_192, k0_pay71 (View.ld x7 (Rect.unit (s := S512x512) ![0, 64] ![512, 64] inb_S512x512_S512x64_0_64))⟩ ::
      ⟨Rect.unit ![0, 128] ![512, 64] inb_S512x576_S512x64_0_128, k0_pay70 (View.ld x7 (Rect.unit (s := S512x512) ![0, 0] ![512, 64] inb_S512x512_S512x64_0_0))⟩ ::
      ⟨Rect.unit ![0, 64] ![512, 64] inb_S512x576_S512x64_0_64, k0_pay69 (View.ld x6 (Rect.unit (s := S512x512) ![0, 448] ![512, 64] inb_S512x512_S512x64_0_448))⟩ ::
      ⟨Rect.unit ![0, 0] ![512, 64] inb_S512x576_S512x64_0_0, k0_pay68 (View.ld x6 (Rect.unit (s := S512x512) ![0, 384] ![512, 64] inb_S512x512_S512x64_0_384))⟩ :: L) (Rect.unit (s := S512x576) ![0, 0] ![512, 576] inb_S512x576_S512x576_0_0).toLoadRect = gath 6 (cat x0 x1 x2 x3 x4 x5 x6 x7 x8) := by
  apply Blocks.nine
  · intro r e; pointwise [k0_pay68]; exact head_of x0 x1 x2 x3 x4 x5 x6 x7 x8 6 0 6 384 (by decide) (by decide) r e
  · intro r e; pointwise [k0_pay69]; exact head_of x0 x1 x2 x3 x4 x5 x6 x7 x8 6 1 6 448 (by decide) (by decide) r e
  · intro r e; pointwise [k0_pay70]; exact head0_of x0 x1 x2 x3 x4 x5 x6 x7 x8 6 2 7 (by decide) r e
  · intro r e; pointwise [k0_pay71]; exact head_of x0 x1 x2 x3 x4 x5 x6 x7 x8 6 3 7 64 (by decide) (by decide) r e
  · intro r e; pointwise [k0_pay72]; exact head_of x0 x1 x2 x3 x4 x5 x6 x7 x8 6 4 7 128 (by decide) (by decide) r e
  · intro r e; pointwise [k0_pay73]; exact head_of x0 x1 x2 x3 x4 x5 x6 x7 x8 6 5 7 192 (by decide) (by decide) r e
  · intro r e; pointwise [k0_pay74]; exact head_of x0 x1 x2 x3 x4 x5 x6 x7 x8 6 6 7 256 (by decide) (by decide) r e
  · intro r e; pointwise [k0_pay75]; exact head_of x0 x1 x2 x3 x4 x5 x6 x7 x8 6 7 7 320 (by decide) (by decide) r e
  · intro r e; pointwise [k0_pay76]; exact head_of x0 x1 x2 x3 x4 x5 x6 x7 x8 6 8 7 384 (by decide) (by decide) r e

theorem read_7 :
    v.readCov ((⟨Rect.unit ![0, 512] ![512, 64] inb_S512x576_S512x64_0_512, k0_pay1 (View.ld x8 (Rect.unit (s := S512x512) ![0, 448] ![512, 64] inb_S512x512_S512x64_0_448))⟩ : View.Piece (Elt Ideal) S512x576 .bf16) ::
      ⟨Rect.unit ![0, 448] ![512, 64] inb_S512x576_S512x64_0_448, k0_pay85 (View.ld x8 (Rect.unit (s := S512x512) ![0, 384] ![512, 64] inb_S512x512_S512x64_0_384))⟩ ::
      ⟨Rect.unit ![0, 384] ![512, 64] inb_S512x576_S512x64_0_384, k0_pay84 (View.ld x8 (Rect.unit (s := S512x512) ![0, 320] ![512, 64] inb_S512x512_S512x64_0_320))⟩ ::
      ⟨Rect.unit ![0, 320] ![512, 64] inb_S512x576_S512x64_0_320, k0_pay83 (View.ld x8 (Rect.unit (s := S512x512) ![0, 256] ![512, 64] inb_S512x512_S512x64_0_256))⟩ ::
      ⟨Rect.unit ![0, 256] ![512, 64] inb_S512x576_S512x64_0_256, k0_pay82 (View.ld x8 (Rect.unit (s := S512x512) ![0, 192] ![512, 64] inb_S512x512_S512x64_0_192))⟩ ::
      ⟨Rect.unit ![0, 192] ![512, 64] inb_S512x576_S512x64_0_192, k0_pay81 (View.ld x8 (Rect.unit (s := S512x512) ![0, 128] ![512, 64] inb_S512x512_S512x64_0_128))⟩ ::
      ⟨Rect.unit ![0, 128] ![512, 64] inb_S512x576_S512x64_0_128, k0_pay80 (View.ld x8 (Rect.unit (s := S512x512) ![0, 64] ![512, 64] inb_S512x512_S512x64_0_64))⟩ ::
      ⟨Rect.unit ![0, 64] ![512, 64] inb_S512x576_S512x64_0_64, k0_pay79 (View.ld x8 (Rect.unit (s := S512x512) ![0, 0] ![512, 64] inb_S512x512_S512x64_0_0))⟩ ::
      ⟨Rect.unit ![0, 0] ![512, 64] inb_S512x576_S512x64_0_0, k0_pay78 (View.ld x7 (Rect.unit (s := S512x512) ![0, 448] ![512, 64] inb_S512x512_S512x64_0_448))⟩ :: L) (Rect.unit (s := S512x576) ![0, 0] ![512, 576] inb_S512x576_S512x576_0_0).toLoadRect = gath 7 (cat x0 x1 x2 x3 x4 x5 x6 x7 x8) := by
  apply Blocks.nine
  · intro r e; pointwise [k0_pay78]; exact head_of x0 x1 x2 x3 x4 x5 x6 x7 x8 7 0 7 448 (by decide) (by decide) r e
  · intro r e; pointwise [k0_pay79]; exact head0_of x0 x1 x2 x3 x4 x5 x6 x7 x8 7 1 8 (by decide) r e
  · intro r e; pointwise [k0_pay80]; exact head_of x0 x1 x2 x3 x4 x5 x6 x7 x8 7 2 8 64 (by decide) (by decide) r e
  · intro r e; pointwise [k0_pay81]; exact head_of x0 x1 x2 x3 x4 x5 x6 x7 x8 7 3 8 128 (by decide) (by decide) r e
  · intro r e; pointwise [k0_pay82]; exact head_of x0 x1 x2 x3 x4 x5 x6 x7 x8 7 4 8 192 (by decide) (by decide) r e
  · intro r e; pointwise [k0_pay83]; exact head_of x0 x1 x2 x3 x4 x5 x6 x7 x8 7 5 8 256 (by decide) (by decide) r e
  · intro r e; pointwise [k0_pay84]; exact head_of x0 x1 x2 x3 x4 x5 x6 x7 x8 7 6 8 320 (by decide) (by decide) r e
  · intro r e; pointwise [k0_pay85]; exact head_of x0 x1 x2 x3 x4 x5 x6 x7 x8 7 7 8 384 (by decide) (by decide) r e
  · intro r e; pointwise [k0_pay1]; exact head_of x0 x1 x2 x3 x4 x5 x6 x7 x8 7 8 8 448 (by decide) (by decide) r e

end

/-- The products of a block's transposed input and its cotangents' columns, by devices. -/
def wgBlk (a : Vec Ideal S512x512 .bf16) (d : (⟨2, ![512, 4608]⟩ : Shape).Idx → Elt Ideal .bf16) : Vec Ideal S8x512x576 .f32 := fun y =>
  ∑ r : Fin 512, a (ix2 r (y 1)) * gath (y 0) d (ix2 r (y 2))

section
variable (c : Dev nD) (i : grid0.Coords) (arg3 : Memref sig .tc .vmem S512x512 .bf16) (harg3 : arg3.IsWhole) (arg4 : Memref sig .tc .vmem S512x512 .bf16) (harg4 : arg4.IsWhole) (arg5 : Memref sig .tc .vmem S512x512 .bf16) (harg5 : arg5.IsWhole) (arg6 : Memref sig .tc .vmem S512x512 .bf16) (harg6 : arg6.IsWhole) (arg7 : Memref sig .tc .vmem S512x512 .bf16) (harg7 : arg7.IsWhole) (arg8 : Memref sig .tc .vmem S512x512 .bf16) (harg8 : arg8.IsWhole) (arg9 : Memref sig .tc .vmem S512x512 .bf16) (harg9 : arg9.IsWhole) (arg10 : Memref sig .tc .vmem S512x512 .bf16) (harg10 : arg10.IsWhole) (arg11 : Memref sig .tc .vmem S512x512 .bf16) (harg11 : arg11.IsWhole) (arg12 : Memref sig .tc .vmem S512x512 .bf16) (harg12 : arg12.IsWhole) (arg13 : Memref sig .tc .vmem S8x512x576 .f32) (harg13 : arg13.IsWhole) (arg14 : Memref sig .tc .vmem S8x512x576 .bf16) (harg14 : arg14.IsWhole) (arg15 : Memref sig .tc .vmem S512x576 .bf16) (harg15 : arg15.IsWhole) (arg16 : Memref sig .tc .vmem S512x576 .bf16) (harg16 : arg16.IsWhole)
    (x0 x1 x2 x3 x4 x5 x6 x7 x8 x9 : Vec Ideal S512x512 .bf16) (o : Vec Ideal S8x512x576 .f32)

/-- The first point of a block of the weight's rows starts the sums at its products, -/
theorem out_A (hc0 : cond0_0 i) (hc1 : ¬cond0_1 i) :
    out0_A_10 c i arg3 harg3 arg4 harg4 arg5 harg5 arg6 harg6 arg7 harg7 arg8 harg8 arg9 harg9 arg10 harg10 arg11 harg11 arg12 harg12 arg13 harg13 arg14 harg14 arg15 harg15 arg16 harg16 hc0 hc1 x0 x1 x2 x3 x4 x5 x6 x7 x8 x9 = wgBlk x0 (cat x1 x2 x3 x4 x5 x6 x7 x8 x9) := by
  unfold out0_A_10
  rw [View.read_writes_eq_canon _ _ _ (cover0_A_10 c i arg3 harg3 arg4 harg4 arg5 harg5 arg6 harg6 arg7 harg7 arg8 harg8 arg9 harg9 arg10 harg10 arg11 harg11 arg12 harg12 arg13 harg13 arg14 harg14 arg15 harg15 arg16 harg16 hc0 hc1 x0 x1 x2 x3 x4 x5 x6 x7 x8 x9)]
  unfold kernelRun0_A
  dsimp only
  sl_unfold_words
  simp (disch := decide) only [↓View.readCov_skip, ↓View.readCov_fill, View.readAt_eq_ld, harg3.read_unread, harg4.read_unread, harg5.read_unread, harg6.read_unread, harg7.read_unread, harg8.read_unread, harg9.read_unread, harg10.read_unread, harg11.read_unread, harg12.read_unread, harg13.read_unread, harg14.read_unread, harg15.read_unread, harg16.read_unread, read_0 _ x1 x2 x3 x4 x5 x6 x7 x8 x9, read_1 _ x1 x2 x3 x4 x5 x6 x7 x8 x9, read_2 _ x1 x2 x3 x4 x5 x6 x7 x8 x9, read_3 _ x1 x2 x3 x4 x5 x6 x7 x8 x9, read_4 _ x1 x2 x3 x4 x5 x6 x7 x8 x9, read_5 _ x1 x2 x3 x4 x5 x6 x7 x8 x9, read_6 _ x1 x2 x3 x4 x5 x6 x7 x8 x9, read_7 _ x1 x2 x3 x4 x5 x6 x7 x8 x9]
  apply Blocks.eight
  all_goals intro r e; pointwise [k0_pay2, k0_pay4, k0_pay5, k0_pay15, k0_pay25, k0_pay35, k0_pay36, k0_pay46, k0_pay56, k0_pay66, k0_pay67, k0_pay77, wgBlk]

/-- a later one adds its own, -/
theorem out_B (hc0 : ¬cond0_0 i) (hc1 : ¬cond0_1 i) :
    out0_B_10 c i arg3 harg3 arg4 harg4 arg5 harg5 arg6 harg6 arg7 harg7 arg8 harg8 arg9 harg9 arg10 harg10 arg11 harg11 arg12 harg12 arg13 harg13 arg14 harg14 arg15 harg15 arg16 harg16 hc0 hc1 x0 x1 x2 x3 x4 x5 x6 x7 x8 x9 o = fun y => o y + wgBlk x0 (cat x1 x2 x3 x4 x5 x6 x7 x8 x9) y := by
  unfold out0_B_10
  rw [View.read_writes_eq_canon _ _ _ (cover0_B_10 c i arg3 harg3 arg4 harg4 arg5 harg5 arg6 harg6 arg7 harg7 arg8 harg8 arg9 harg9 arg10 harg10 arg11 harg11 arg12 harg12 arg13 harg13 arg14 harg14 arg15 harg15 arg16 harg16 hc0 hc1 x0 x1 x2 x3 x4 x5 x6 x7 x8 x9 o)]
  unfold kernelRun0_B
  dsimp only
  sl_unfold_words
  simp (disch := decide) only [↓View.readCov_skip, ↓View.readCov_fill, View.readAt_eq_ld, harg3.read_unread, harg4.read_unread, harg5.read_unread, harg6.read_unread, harg7.read_unread, harg8.read_unread, harg9.read_unread, harg10.read_unread, harg11.read_unread, harg12.read_unread, harg13.read_unread, harg14.read_unread, harg15.read_unread, harg16.read_unread, read_0 _ x1 x2 x3 x4 x5 x6 x7 x8 x9, read_1 _ x1 x2 x3 x4 x5 x6 x7 x8 x9, read_2 _ x1 x2 x3 x4 x5 x6 x7 x8 x9, read_3 _ x1 x2 x3 x4 x5 x6 x7 x8 x9, read_4 _ x1 x2 x3 x4 x5 x6 x7 x8 x9, read_5 _ x1 x2 x3 x4 x5 x6 x7 x8 x9, read_6 _ x1 x2 x3 x4 x5 x6 x7 x8 x9, read_7 _ x1 x2 x3 x4 x5 x6 x7 x8 x9]
  apply Blocks.eight
  all_goals intro r e; pointwise [k0_pay2, k0_pay4, k0_pay5, k0_pay15, k0_pay25, k0_pay35, k0_pay36, k0_pay46, k0_pay56, k0_pay66, k0_pay67, k0_pay77, wgBlk]

/-- and so does the last, -/
theorem out_C (hc0 : ¬cond0_0 i) (hc1 : cond0_1 i) :
    out0_C_10 c i arg3 harg3 arg4 harg4 arg5 harg5 arg6 harg6 arg7 harg7 arg8 harg8 arg9 harg9 arg10 harg10 arg11 harg11 arg12 harg12 arg13 harg13 arg14 harg14 arg15 harg15 arg16 harg16 hc0 hc1 x0 x1 x2 x3 x4 x5 x6 x7 x8 x9 o = fun y => o y + wgBlk x0 (cat x1 x2 x3 x4 x5 x6 x7 x8 x9) y := by
  unfold out0_C_10
  rw [View.read_writes_eq_canon _ _ _ (cover0_C_10 c i arg3 harg3 arg4 harg4 arg5 harg5 arg6 harg6 arg7 harg7 arg8 harg8 arg9 harg9 arg10 harg10 arg11 harg11 arg12 harg12 arg13 harg13 arg14 harg14 arg15 harg15 arg16 harg16 hc0 hc1 x0 x1 x2 x3 x4 x5 x6 x7 x8 x9 o)]
  unfold kernelRun0_C
  dsimp only
  sl_unfold_words
  simp (disch := decide) only [↓View.readCov_skip, ↓View.readCov_fill, View.readAt_eq_ld, harg3.read_unread, harg4.read_unread, harg5.read_unread, harg6.read_unread, harg7.read_unread, harg8.read_unread, harg9.read_unread, harg10.read_unread, harg11.read_unread, harg12.read_unread, harg13.read_unread, harg14.read_unread, harg15.read_unread, harg16.read_unread, read_0 _ x1 x2 x3 x4 x5 x6 x7 x8 x9, read_1 _ x1 x2 x3 x4 x5 x6 x7 x8 x9, read_2 _ x1 x2 x3 x4 x5 x6 x7 x8 x9, read_3 _ x1 x2 x3 x4 x5 x6 x7 x8 x9, read_4 _ x1 x2 x3 x4 x5 x6 x7 x8 x9, read_5 _ x1 x2 x3 x4 x5 x6 x7 x8 x9, read_6 _ x1 x2 x3 x4 x5 x6 x7 x8 x9, read_7 _ x1 x2 x3 x4 x5 x6 x7 x8 x9]
  apply Blocks.eight
  all_goals intro r e; pointwise [k0_pay2, k0_pay4, k0_pay5, k0_pay15, k0_pay25, k0_pay35, k0_pay36, k0_pay46, k0_pay56, k0_pay66, k0_pay67, k0_pay77, wgBlk]

/-- which also leaves the finished sum in the second output. -/
theorem out_C' (hc0 : ¬cond0_0 i) (hc1 : cond0_1 i) :
    out0_C_11 c i arg3 harg3 arg4 harg4 arg5 harg5 arg6 harg6 arg7 harg7 arg8 harg8 arg9 harg9 arg10 harg10 arg11 harg11 arg12 harg12 arg13 harg13 arg14 harg14 arg15 harg15 arg16 harg16 hc0 hc1 x0 x1 x2 x3 x4 x5 x6 x7 x8 x9 o = fun y => o y + wgBlk x0 (cat x1 x2 x3 x4 x5 x6 x7 x8 x9) y := by
  unfold out0_C_11
  rw [View.read_writes_eq_canon _ _ _ (cover0_C_11 c i arg3 harg3 arg4 harg4 arg5 harg5 arg6 harg6 arg7 harg7 arg8 harg8 arg9 harg9 arg10 harg10 arg11 harg11 arg12 harg12 arg13 harg13 arg14 harg14 arg15 harg15 arg16 harg16 hc0 hc1 x0 x1 x2 x3 x4 x5 x6 x7 x8 x9 o)]
  unfold kernelRun0_C
  dsimp only
  sl_unfold_words
  simp (disch := decide) only [↓View.readCov_skip, ↓View.readCov_fill, View.readAt_eq_ld, harg3.read_unread, harg4.read_unread, harg5.read_unread, harg6.read_unread, harg7.read_unread, harg8.read_unread, harg9.read_unread, harg10.read_unread, harg11.read_unread, harg12.read_unread, harg13.read_unread, harg14.read_unread, harg15.read_unread, harg16.read_unread, read_0 _ x1 x2 x3 x4 x5 x6 x7 x8 x9, read_1 _ x1 x2 x3 x4 x5 x6 x7 x8 x9, read_2 _ x1 x2 x3 x4 x5 x6 x7 x8 x9, read_3 _ x1 x2 x3 x4 x5 x6 x7 x8 x9, read_4 _ x1 x2 x3 x4 x5 x6 x7 x8 x9, read_5 _ x1 x2 x3 x4 x5 x6 x7 x8 x9, read_6 _ x1 x2 x3 x4 x5 x6 x7 x8 x9, read_7 _ x1 x2 x3 x4 x5 x6 x7 x8 x9]
  apply Blocks.whole
  intro q r s
  pointwise [k0_pay3]
  rw [View.readCov_eq_canon', Blocks.eight (fun y => o y + wgBlk x0 (cat x1 x2 x3 x4 x5 x6 x7 x8 x9) y)]
  · have e : (Rect.unit (s := S8x512x576) ![0, 0, 0] ![8, 512, 576] inb_S8x512x576_S8x512x576_0_0_0).toLoadRect.idx (ix3 q r s) = (ix3 q r s : S8x512x576.Idx) := by
      funext a; apply Fin.ext
      match a with
      | ⟨0, _⟩ => show 0 + 1 * q.val = q.val; omega
      | ⟨1, _⟩ => show 0 + 1 * r.val = r.val; omega
      | ⟨2, _⟩ => show 0 + 1 * s.val = s.val; omega
    exact congrArg (fun y => o y + wgBlk x0 (cat x1 x2 x3 x4 x5 x6 x7 x8 x9) y) e
  all_goals intro r e; pointwise [k0_pay2, k0_pay4, k0_pay5, k0_pay15, k0_pay25, k0_pay35, k0_pay36, k0_pay46, k0_pay56, k0_pay66, k0_pay67, k0_pay77, wgBlk]

end

end Cert.Kernel16Ideal.Wg
-- ==== Proof.AttnQkvWg.lean ====
module

public import proofs.«01_k».proof.Proof.AttnQkvWgBlock
public import proofs.«01_k».proof.Proof.Rows

/-! The blocks of `AttnQkvWgBlock` over the grid: the sums over the rows, and that the kernel ends with the reference's gradient
in both outputs. -/

@[expose] public section

set_option maxRecDepth 16384

noncomputable section

namespace Cert.Kernel16Ideal.Wg

open Cert.Kernel16Ideal Cert.Kernel16Ideal.Gen Idealize.ShloMosaic Idealize.ShloMosaic.TcCoe Idealize.SL.Sem
open Idealize.ShloMosaic.Pipeline (Dat)
open Cert.Heads (cat cat_of)
open Cert.Reference16Ideal.Wg (rCat rCat_eq rW rW_apply)

variable (m : (ℓ : Loc nD τ sig) → Buf (Elt Ideal) ℓ)

/-- The input and the cotangents side by side, as the region finds them. -/
abbrev aX (c : Dev nD) : Vec Ideal S8192x1024 .bf16 := V m c main_arg0
abbrev aD (c : Dev nD) : (⟨2, ![8192, 4608]⟩ : Shape).Idx → Elt Ideal .bf16 := cat (V m c main_arg1) (V m c main_arg2) (V m c main_arg3) (V m c main_arg4) (V m c main_arg5) (V m c main_arg6) (V m c main_arg7) (V m c main_arg8) (V m c main_arg9)

/-- Rows `512 k …` and columns `512 i …` of the input. -/
def blkX (X : Vec Ideal S8192x1024 .bf16) (i k : Nat) : Vec Ideal S512x512 .bf16 := fun y =>
  X (ix2 ⟨(512 * k + (y 0).val) % 8192, Nat.mod_lt _ (by decide)⟩ ⟨(512 * i + (y 1).val) % 1024, Nat.mod_lt _ (by decide)⟩)

/-- The rows of chunk `s` of an array of 8192 rows. -/
def chunk {n : Nat} {e : EltTy} (X : (⟨2, ![8192, n]⟩ : Shape).Idx → Elt Ideal e) (s : Nat) : (⟨2, ![512, n]⟩ : Shape).Idx → Elt Ideal e :=
  fun y => X (ix2 ⟨(512 * s + (y 0).val) % 8192, Nat.mod_lt _ (by decide)⟩ (y 1))

theorem chunk_cat (a0 a1 a2 a3 a4 a5 a6 a7 a8 : (⟨2, ![8192, 512]⟩ : Shape).Idx → Elt Ideal .bf16) (s : Nat) :
    cat (chunk a0 s) (chunk a1 s) (chunk a2 s) (chunk a3 s) (chunk a4 s) (chunk a5 s) (chunk a6 s) (chunk a7 s) (chunk a8 s) = chunk (cat a0 a1 a2 a3 a4 a5 a6 a7 a8) s := by
  funext y
  show (![chunk a0 s, chunk a1 s, chunk a2 s, chunk a3 s, chunk a4 s, chunk a5 s, chunk a6 s, chunk a7 s, chunk a8 s] : Fin 9 → (⟨2, ![512, 512]⟩ : Shape).Idx → Elt Ideal .bf16) ⟨(y 1).val / 512, _⟩ (ix2 (y 0) ⟨(y 1).val % 512, _⟩) =
    (![a0, a1, a2, a3, a4, a5, a6, a7, a8] : Fin 9 → (⟨2, ![8192, 512]⟩ : Shape).Idx → Elt Ideal .bf16) ⟨(y 1).val / 512, _⟩ (ix2 ⟨(512 * s + (y 0).val) % 8192, _⟩ ⟨(y 1).val % 512, _⟩)
  generalize (⟨(y 1).val / 512, _⟩ : Fin 9) = q
  match q with
  | ⟨0, _⟩ => rfl
  | ⟨1, _⟩ => rfl
  | ⟨2, _⟩ => rfl
  | ⟨3, _⟩ => rfl
  | ⟨4, _⟩ => rfl
  | ⟨5, _⟩ => rfl
  | ⟨6, _⟩ => rfl
  | ⟨7, _⟩ => rfl
  | ⟨8, _⟩ => rfl

theorem lt32 (t : Fin cfg0.N) : t.val < 32 := lt_of_lt_of_eq t.isLt N_0

theorem index0 : ∀ t : Fin grid0.N, win0_0.index t 0 = t.val % 16 ∧ win0_0.index t 1 = t.val / 16 := by decide +kernel
theorem index1 : ∀ t : Fin grid0.N, win0_1.index t 0 = t.val % 16 ∧ win0_1.index t 1 = 0 := by decide +kernel
theorem index2 : ∀ t : Fin grid0.N, win0_2.index t 0 = t.val % 16 ∧ win0_2.index t 1 = 0 := by decide +kernel
theorem index3 : ∀ t : Fin grid0.N, win0_3.index t 0 = t.val % 16 ∧ win0_3.index t 1 = 0 := by decide +kernel
theorem index4 : ∀ t : Fin grid0.N, win0_4.index t 0 = t.val % 16 ∧ win0_4.index t 1 = 0 := by decide +kernel
theorem index5 : ∀ t : Fin grid0.N, win0_5.index t 0 = t.val % 16 ∧ win0_5.index t 1 = 0 := by decide +kernel
theorem index6 : ∀ t : Fin grid0.N, win0_6.index t 0 = t.val % 16 ∧ win0_6.index t 1 = 0 := by decide +kernel
theorem index7 : ∀ t : Fin grid0.N, win0_7.index t 0 = t.val % 16 ∧ win0_7.index t 1 = 0 := by decide +kernel
theorem index8 : ∀ t : Fin grid0.N, win0_8.index t 0 = t.val % 16 ∧ win0_8.index t 1 = 0 := by decide +kernel
theorem index9 : ∀ t : Fin grid0.N, win0_9.index t 0 = t.val % 16 ∧ win0_9.index t 1 = 0 := by decide +kernel
theorem index10 : ∀ t : Fin grid0.N, win0_10.index t 0 = 0 ∧ win0_10.index t 1 = t.val / 16 ∧ win0_10.index t 2 = 0 := by decide +kernel
theorem index11 : ∀ t : Fin grid0.N, win0_11.index t 0 = 0 ∧ win0_11.index t 1 = t.val / 16 ∧ win0_11.index t 2 = 0 := by decide +kernel

/-- What point `t` reads of the input, -/
theorem iblk0 (c : Dev nD) (t : Fin cfg0.N) : (iblk m c 0 t : Vec Ideal S512x512 .bf16) = blkX (aX m c) (t.val / 16) (t.val % 16) := by
  have ht := lt32 t
  funext j
  unfold iblk
  rw [View.read_apply]
  show V m c main_arg0 _ = V m c main_arg0 _
  congr 1
  funext a
  apply Fin.ext
  have h0 : (j 0 : Nat) < 512 := (j 0).isLt
  match a with
  | ⟨0, _⟩ => show win0_0.index t 0 * 512 + 1 * (j 0).val = (512 * (t.val % 16) + (j 0).val) % 8192; rw [(index0 t).1]; omega
  | ⟨1, _⟩ => have h1 : (j 1 : Nat) < 512 := (j 1).isLt
              show win0_0.index t 1 * 512 + 1 * (j 1).val = (512 * (t.val / 16) + (j 1).val) % 1024; rw [(index0 t).2]; omega

/-- and of the cotangents. -/
theorem iblk1 (c : Dev nD) (t : Fin cfg0.N) : (iblk m c 1 t : Vec Ideal S512x512 .bf16) = chunk (V m c main_arg1) (t.val % 16) := by
  funext j
  unfold iblk
  rw [View.read_apply]
  exact congrArg (V m c main_arg1) (Rows.eq_row (index1 t).1 (index1 t).2 (by have := lt32 t; omega) rfl rfl)

theorem iblk2 (c : Dev nD) (t : Fin cfg0.N) : (iblk m c 2 t : Vec Ideal S512x512 .bf16) = chunk (V m c main_arg2) (t.val % 16) := by
  funext j
  unfold iblk
  rw [View.read_apply]
  exact congrArg (V m c main_arg2) (Rows.eq_row (index2 t).1 (index2 t).2 (by have := lt32 t; omega) rfl rfl)

theorem iblk3 (c : Dev nD) (t : Fin cfg0.N) : (iblk m c 3 t : Vec Ideal S512x512 .bf16) = chunk (V m c main_arg3) (t.val % 16) := by
  funext j
  unfold iblk
  rw [View.read_apply]
  exact congrArg (V m c main_arg3) (Rows.eq_row (index3 t).1 (index3 t).2 (by have := lt32 t; omega) rfl rfl)

theorem iblk4 (c : Dev nD) (t : Fin cfg0.N) : (iblk m c 4 t : Vec Ideal S512x512 .bf16) = chunk (V m c main_arg4) (t.val % 16) := by
  funext j
  unfold iblk
  rw [View.read_apply]
  exact congrArg (V m c main_arg4) (Rows.eq_row (index4 t).1 (index4 t).2 (by have := lt32 t; omega) rfl rfl)

theorem iblk5 (c : Dev nD) (t : Fin cfg0.N) : (iblk m c 5 t : Vec Ideal S512x512 .bf16) = chunk (V m c main_arg5) (t.val % 16) := by
  funext j
  unfold iblk
  rw [View.read_apply]
  exact congrArg (V m c main_arg5) (Rows.eq_row (index5 t).1 (index5 t).2 (by have := lt32 t; omega) rfl rfl)

theorem iblk6 (c : Dev nD) (t : Fin cfg0.N) : (iblk m c 6 t : Vec Ideal S512x512 .bf16) = chunk (V m c main_arg6) (t.val % 16) := by
  funext j
  unfold iblk
  rw [View.read_apply]
  exact congrArg (V m c main_arg6) (Rows.eq_row (index6 t).1 (index6 t).2 (by have := lt32 t; omega) rfl rfl)

theorem iblk7 (c : Dev nD) (t : Fin cfg0.N) : (iblk m c 7 t : Vec Ideal S512x512 .bf16) = chunk (V m c main_arg7) (t.val % 16) := by
  funext j
  unfold iblk
  rw [View.read_apply]
  exact congrArg (V m c main_arg7) (Rows.eq_row (index7 t).1 (index7 t).2 (by have := lt32 t; omega) rfl rfl)

theorem iblk8 (c : Dev nD) (t : Fin cfg0.N) : (iblk m c 8 t : Vec Ideal S512x512 .bf16) = chunk (V m c main_arg8) (t.val % 16) := by
  funext j
  unfold iblk
  rw [View.read_apply]
  exact congrArg (V m c main_arg8) (Rows.eq_row (index8 t).1 (index8 t).2 (by have := lt32 t; omega) rfl rfl)

theorem iblk9 (c : Dev nD) (t : Fin cfg0.N) : (iblk m c 9 t : Vec Ideal S512x512 .bf16) = chunk (V m c main_arg9) (t.val % 16) := by
  funext j
  unfold iblk
  rw [View.read_apply]
  exact congrArg (V m c main_arg9) (Rows.eq_row (index9 t).1 (index9 t).2 (by have := lt32 t; omega) rfl rfl)

/-- The sum over the first `n` row blocks for the `i`th block of the weight's rows. -/
def part (c : Dev nD) (i n : Nat) : Vec Ideal S8x512x576 .f32 := fun y =>
  ∑ k ∈ Finset.range n, wgBlk (blkX (aX m c) i k) (chunk (aD m c) k) y

/-- What the first output's block holds after point `n`: the rows' sums so far; -/
theorem outsAt_fst (c : Dev nD) : ∀ (n : ℕ) (h : n < cfg0.N), (outsAt0 m c n h).1 = part m c (n / 16) (n % 16 + 1)
  | 0, h => by
    rw [outsAt0_A m c ⟨0, h⟩ rfl (by show ¬0 % 16 = 15; decide), out_A, iblk0, iblk1, iblk2, iblk3, iblk4, iblk5, iblk6, iblk7, iblk8, iblk9, chunk_cat]
    funext y
    simp only [part, Nat.zero_mod, Nat.zero_div, Nat.zero_add, Finset.sum_range_one]
  | n + 1, h => by
    have ht := lt32 ⟨n + 1, h⟩
    dsimp only at ht
    by_cases h0 : (n + 1) % 16 = 0
    · have h1 : ¬(n + 1) % 16 = 15 := by omega
      rw [outsAt0_A m c ⟨n + 1, h⟩ h0 h1, out_A, iblk0, iblk1, iblk2, iblk3, iblk4, iblk5, iblk6, iblk7, iblk8, iblk9, chunk_cat]
      funext y
      simp only [part, h0, Nat.zero_add, Finset.sum_range_one]
    · have e1 : n / 16 = (n + 1) / 16 := by omega
      have e2 : n % 16 + 1 = (n + 1) % 16 := by omega
      by_cases h1 : (n + 1) % 16 = 15
      · rw [outsAt0_C m c ⟨n + 1, h⟩ h0 h1, out_C, iblk0, iblk1, iblk2, iblk3, iblk4, iblk5, iblk6, iblk7, iblk8, iblk9, chunk_cat]
        simp only [Nat.add_sub_cancel, outsAt_fst c n (Nat.lt_of_succ_lt h), e1, e2]
        funext y
        simp only [part, Finset.sum_range_succ _ ((n + 1) % 16)]
      · rw [outsAt0_B m c ⟨n + 1, h⟩ h0 h1, out_B, iblk0, iblk1, iblk2, iblk3, iblk4, iblk5, iblk6, iblk7, iblk8, iblk9, chunk_cat]
        simp only [Nat.add_sub_cancel, outsAt_fst c n (Nat.lt_of_succ_lt h), e1, e2]
        funext y
        simp only [part, Finset.sum_range_succ _ ((n + 1) % 16)]

/-- at their last point the second output's holds the same. -/
theorem outsAt_snd (c : Dev nD) (t : Fin cfg0.N) (h1 : t.val % 16 = 15) :
    (outsAt0 m c t.val t.isLt).2 = part m c (t.val / 16) 16 := by
  have h0 : ¬t.val % 16 = 0 := by omega
  have h8 : t.val % 16 + 1 = 16 := by omega
  refine Eq.trans ?_ ((outsAt_fst m c t.val t.isLt).trans (by rw [h8]))
  rw [outsAt0_C m c t h0 h1, out_C, out_C']

/-- The gradient, by devices' columns. -/
def gW (c : Dev nD) : Vec Ideal S8x1024x576 .f32 := fun i =>
  part m c ((i 1).val / 512) 16 (ix3 (i 0) ⟨(i 1).val % 512, Nat.mod_lt _ (by decide)⟩ (i 2))

/-- The last point of a block of rows writes its part of the gradient to the first output, -/
theorem flushed10 (c : Dev nD) (t : Fin cfg0.N) (hf : (cfg0.win 10).flush t = true) :
    (dats m 0 c).flushed 10 t = ((cfg0.win 10).blk t).view.read (Elt Ideal) (gW m c) := by
  have ht := lt32 t
  have h7 : t.val % 16 = 15 := (flush0_10 t).mp hf
  rw [Value.flushed10, outsAt_fst, show t.val % 16 + 1 = 16 by omega]
  funext j
  rw [View.read_apply]
  have h1 : (j 1 : Nat) < 512 := (j 1).isLt
  have e : ((cfg0.win 10).blk t).view.emb j = (ix3 (j 0) ⟨512 * (t.val / 16) + (j 1).val, by omega⟩ (j 2) : S8x1024x576.Idx) := by
    funext a
    apply Fin.ext
    match a with
    | ⟨0, _⟩ => show win0_10.index t 0 * 8 + 1 * (j 0).val = (j 0).val; rw [(index10 t).1]; omega
    | ⟨1, _⟩ => show win0_10.index t 1 * 512 + 1 * (j 1).val = 512 * (t.val / 16) + (j 1).val; rw [(index10 t).2.1]; omega
    | ⟨2, _⟩ => show win0_10.index t 2 * 576 + 1 * (j 2).val = (j 2).val; rw [(index10 t).2.2]; omega
  rw [e]
  have e1 : (512 * (t.val / 16) + (j 1).val) / 512 = t.val / 16 := by omega
  have e2 : (⟨(512 * (t.val / 16) + (j 1).val) % 512, Nat.mod_lt _ (by decide)⟩ : Fin 512) = j 1 := Fin.ext (by show _ % 512 = (j 1).val; omega)
  show _ = part m c ((512 * (t.val / 16) + (j 1).val) / 512) 16 (ix3 (j 0) ⟨(512 * (t.val / 16) + (j 1).val) % 512, _⟩ (j 2))
  rw [e1, e2]
  exact congrArg (part m c (t.val / 16) 16) (eq_ix3 j)

/-- and to the second. -/
theorem flushed11 (c : Dev nD) (t : Fin cfg0.N) (hf : (cfg0.win 11).flush t = true) :
    (dats m 0 c).flushed 11 t = ((cfg0.win 11).blk t).view.read (Elt Ideal) (gW m c) := by
  have ht := lt32 t
  have h7 : t.val % 16 = 15 := (flush0_11 t).mp hf
  rw [Value.flushed11, outsAt_snd m c t h7]
  funext j
  rw [View.read_apply]
  have h1 : (j 1 : Nat) < 512 := (j 1).isLt
  have e : ((cfg0.win 11).blk t).view.emb j = (ix3 (j 0) ⟨512 * (t.val / 16) + (j 1).val, by omega⟩ (j 2) : S8x1024x576.Idx) := by
    funext a
    apply Fin.ext
    match a with
    | ⟨0, _⟩ => show win0_11.index t 0 * 8 + 1 * (j 0).val = (j 0).val; rw [(index11 t).1]; omega
    | ⟨1, _⟩ => show win0_11.index t 1 * 512 + 1 * (j 1).val = 512 * (t.val / 16) + (j 1).val; rw [(index11 t).2.1]; omega
    | ⟨2, _⟩ => show win0_11.index t 2 * 576 + 1 * (j 2).val = (j 2).val; rw [(index11 t).2.2]; omega
  rw [e]
  have e1 : (512 * (t.val / 16) + (j 1).val) / 512 = t.val / 16 := by omega
  have e2 : (⟨(512 * (t.val / 16) + (j 1).val) % 512, Nat.mod_lt _ (by decide)⟩ : Fin 512) = j 1 := Fin.ext (by show _ % 512 = (j 1).val; omega)
  show _ = part m c ((512 * (t.val / 16) + (j 1).val) / 512) 16 (ix3 (j 0) ⟨(512 * (t.val / 16) + (j 1).val) % 512, _⟩ (j 2))
  rw [e1, e2]
  exact congrArg (part m c (t.val / 16) 16) (eq_ix3 j)

/-- So the first output ends holding the gradient, -/
theorem final10 (c : Dev nD) : (dats m 0 c).arrAt 10 cfg0.N = gW m c :=
  (dats m 0 c).arrAt_eq_of_cover 10 (gW m c) (flushed10 m c) ((by decide +kernel : (cfg0.win 10).Covers).cover _ (Memref.isWhole_whole _))

/-- and so does the second. -/
theorem final11 (c : Dev nD) : (dats m 0 c).arrAt 11 cfg0.N = gW m c :=
  (dats m 0 c).arrAt_eq_of_cover 11 (gW m c) (flushed11 m c) ((by decide +kernel : (cfg0.win 11).Covers).cover _ (Memref.isWhole_whole _))

/-- The kernel's blocks make up the reference's sum over all rows. -/
theorem gW_eq (c : Dev nD) : gW m c = rW (aX m c) (aD m c) := by
  suffices hs : ∀ (q : Fin 8) (i : Fin 1024) (j : Fin 576), gW m c (ix3 q i j) = rW (aX m c) (aD m c) (ix3 q i j) by
    funext y
    rw [eq_ix3 y]
    exact hs _ _ _
  intro q i j
  rw [rW_apply]
  show ∑ k ∈ Finset.range 16, ∑ r : Fin 512, blkX (aX m c) (i.val / 512) k (ix2 r ⟨i.val % 512, _⟩) * chunk (aD m c) k (ix2 r ⟨576 * q.val + j.val, _⟩) = _
  rw [Finset.sum_range]
  refine Fin.sum_mul_add_congr (fun k r hl => ?_)
  rw [mul_comm]
  refine congrArg₂ (fun p q : EReal => p * q) (congrArg (aD m c) (congrArg₂ ix2 (Fin.ext ?_) (Fin.ext ?_))) (congrArg (aX m c) (congrArg₂ ix2 (Fin.ext ?_) (Fin.ext ?_)))
  · show (512 * k.val + r.val) % 8192 = k.val * 512 + r.val; omega
  · show 576 * q.val + j.val = q.val * 576 + j.val; omega
  · show (512 * k.val + r.val) % 8192 = k.val * 512 + r.val; omega
  · show (512 * (i.val / 512) + i.val % 512) % 1024 = i.val; omega

/-- The kernel's run ends with the reference's gradient in both outputs. -/
theorem run (ρ : Dev nD → PrngReg) :
    θ_run defs (onTc (τ := τ) (main (F := Ideal))) ⟨m, fun _ => 0, ρ⟩ fun r => ∀ c : Dev nD,
      r.2.mem ((c.tc : Thread nD τ).loc main_v0_0) = rW (m ((c.tc : Thread nD τ).loc main_arg0)) (rCat (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)))
      ∧ r.2.mem ((c.tc : Thread nD τ).loc main_v0_1) = rW (m ((c.tc : Thread nD τ).loc main_arg0)) (rCat (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9))) :=
  (θ_run defs _ _).mono (fun _ h c => by
    have e0 : aD m c = (rCat (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9))) := by
      rw [rCat_eq]
    have e : gW m c = rW (m ((c.tc : Thread nD τ).loc main_arg0)) (rCat (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9))) := by
      rw [gW_eq, e0, show aX m c = _ from V_main_arg0 m c]
    exact ⟨(h c).1.trans ((final10 m c).trans e), (h c).2.1.trans ((final11 m c).trans e)⟩) (Value.run_blocks m ρ)

end Cert.Kernel16Ideal.Wg
-- ==== Proof.AttnQkv.lean ====
module

public import proofs.«01_k».proof.Proof.Gen.Kernel17Ideal.Frame
public import proofs.«01_k».proof.Proof.Gen.Reference17Ideal.Run
public import proofs.«01_k».proof.Proof.Rows

/-! The attention's projections: the kernel takes 512 rows at a time and the weight in eight column blocks of nine heads, and puts
the 72 heads into nine arrays of eight; the reference splits one product into nine. -/

@[expose] public section

set_option maxRecDepth 16384

noncomputable section

namespace Cert.Reference17Ideal.Fwd

open Cert.Reference17Ideal Cert.Reference17Ideal.Gen Idealize.ShloMosaic Idealize.ShloMosaic.TcCoe Idealize.SL.Sem Cert.Rows

/-- The reference's product, -/
def rP (h : FVec Ideal S8192x1024 .bf16) (w : FVec Ideal S1024x4608 .f32) : FVec Ideal S8192x4608 .bf16 :=
  truncf .bf16 (Host.dotGeneral dot_S8192x1024_S1024x4608_S8192x4608_1_0_0_1_n_n none (extf .f32 h bitsLt_bf16_f32) w) bitsLt_bf16_f32

/-- and its nine parts. -/
def part0 (p : FVec Ideal S8192x4608 .bf16) : FVec Ideal S8192x512 .bf16 := extractStridedSlice S8192x512 ![0, 0] p slices_S8192x4608_S8192x512_0_0
def part1 (p : FVec Ideal S8192x4608 .bf16) : FVec Ideal S8192x512 .bf16 := extractStridedSlice S8192x512 ![0, 512] p slices_S8192x4608_S8192x512_0_512
def part2 (p : FVec Ideal S8192x4608 .bf16) : FVec Ideal S8192x512 .bf16 := extractStridedSlice S8192x512 ![0, 1024] p slices_S8192x4608_S8192x512_0_1024
def part3 (p : FVec Ideal S8192x4608 .bf16) : FVec Ideal S8192x512 .bf16 := extractStridedSlice S8192x512 ![0, 1536] p slices_S8192x4608_S8192x512_0_1536
def part4 (p : FVec Ideal S8192x4608 .bf16) : FVec Ideal S8192x512 .bf16 := extractStridedSlice S8192x512 ![0, 2048] p slices_S8192x4608_S8192x512_0_2048
def part5 (p : FVec Ideal S8192x4608 .bf16) : FVec Ideal S8192x512 .bf16 := extractStridedSlice S8192x512 ![0, 2560] p slices_S8192x4608_S8192x512_0_2560
def part6 (p : FVec Ideal S8192x4608 .bf16) : FVec Ideal S8192x512 .bf16 := extractStridedSlice S8192x512 ![0, 3072] p slices_S8192x4608_S8192x512_0_3072
def part7 (p : FVec Ideal S8192x4608 .bf16) : FVec Ideal S8192x512 .bf16 := extractStridedSlice S8192x512 ![0, 3584] p slices_S8192x4608_S8192x512_0_3584
def part8 (p : FVec Ideal S8192x4608 .bf16) : FVec Ideal S8192x512 .bf16 := extractStridedSlice S8192x512 ![0, 4096] p slices_S8192x4608_S8192x512_0_4096

theorem rP_eq (h : FVec Ideal S8192x1024 .bf16) (w : FVec Ideal S1024x4608 .f32) : rP h w = prod h w := by
  suffices hs : ∀ (i : Fin 8192) (j : Fin 4608), rP h w (ix2 i j) = prod h w (ix2 i j) by
    funext y
    rw [eq_ix2 y]
    exact hs _ _
  intro i j
  pointwise [rP, prod]

theorem part0_apply (p : FVec Ideal S8192x4608 .bf16) (i : Fin 8192) (j : Fin 512) : part0 p (ix2 i j) = p (ix2 i ⟨0 + j.val, by omega⟩) := by
  pointwise [part0]
theorem part1_apply (p : FVec Ideal S8192x4608 .bf16) (i : Fin 8192) (j : Fin 512) : part1 p (ix2 i j) = p (ix2 i ⟨512 + j.val, by omega⟩) := by
  pointwise [part1]
theorem part2_apply (p : FVec Ideal S8192x4608 .bf16) (i : Fin 8192) (j : Fin 512) : part2 p (ix2 i j) = p (ix2 i ⟨1024 + j.val, by omega⟩) := by
  pointwise [part2]
theorem part3_apply (p : FVec Ideal S8192x4608 .bf16) (i : Fin 8192) (j : Fin 512) : part3 p (ix2 i j) = p (ix2 i ⟨1536 + j.val, by omega⟩) := by
  pointwise [part3]
theorem part4_apply (p : FVec Ideal S8192x4608 .bf16) (i : Fin 8192) (j : Fin 512) : part4 p (ix2 i j) = p (ix2 i ⟨2048 + j.val, by omega⟩) := by
  pointwise [part4]
theorem part5_apply (p : FVec Ideal S8192x4608 .bf16) (i : Fin 8192) (j : Fin 512) : part5 p (ix2 i j) = p (ix2 i ⟨2560 + j.val, by omega⟩) := by
  pointwise [part5]
theorem part6_apply (p : FVec Ideal S8192x4608 .bf16) (i : Fin 8192) (j : Fin 512) : part6 p (ix2 i j) = p (ix2 i ⟨3072 + j.val, by omega⟩) := by
  pointwise [part6]
theorem part7_apply (p : FVec Ideal S8192x4608 .bf16) (i : Fin 8192) (j : Fin 512) : part7 p (ix2 i j) = p (ix2 i ⟨3584 + j.val, by omega⟩) := by
  pointwise [part7]
theorem part8_apply (p : FVec Ideal S8192x4608 .bf16) (i : Fin 8192) (j : Fin 512) : part8 p (ix2 i j) = p (ix2 i ⟨4096 + j.val, by omega⟩) := by
  pointwise [part8]

/-- The reference's run ends with the nine. -/
theorem run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v3) = part0 (rP (m ((c.tc : Thread nD τ).loc main_arg0)) (m ((c.tc : Thread nD τ).loc main_arg1))) ∧
      r.2.mem ((c.tc : Thread nD τ).loc main_v4) = part1 (rP (m ((c.tc : Thread nD τ).loc main_arg0)) (m ((c.tc : Thread nD τ).loc main_arg1))) ∧
      r.2.mem ((c.tc : Thread nD τ).loc main_v5) = part2 (rP (m ((c.tc : Thread nD τ).loc main_arg0)) (m ((c.tc : Thread nD τ).loc main_arg1))) ∧
      r.2.mem ((c.tc : Thread nD τ).loc main_v6) = part3 (rP (m ((c.tc : Thread nD τ).loc main_arg0)) (m ((c.tc : Thread nD τ).loc main_arg1))) ∧
      r.2.mem ((c.tc : Thread nD τ).loc main_v7) = part4 (rP (m ((c.tc : Thread nD τ).loc main_arg0)) (m ((c.tc : Thread nD τ).loc main_arg1))) ∧
      r.2.mem ((c.tc : Thread nD τ).loc main_v8) = part5 (rP (m ((c.tc : Thread nD τ).loc main_arg0)) (m ((c.tc : Thread nD τ).loc main_arg1))) ∧
      r.2.mem ((c.tc : Thread nD τ).loc main_v9) = part6 (rP (m ((c.tc : Thread nD τ).loc main_arg0)) (m ((c.tc : Thread nD τ).loc main_arg1))) ∧
      r.2.mem ((c.tc : Thread nD τ).loc main_v10) = part7 (rP (m ((c.tc : Thread nD τ).loc main_arg0)) (m ((c.tc : Thread nD τ).loc main_arg1))) ∧
      r.2.mem ((c.tc : Thread nD τ).loc main_v11) = part8 (rP (m ((c.tc : Thread nD τ).loc main_arg0)) (m ((c.tc : Thread nD τ).loc main_arg1))) :=
  (θ_run defs _ _).mono (fun _ h c => ⟨(h c).1.trans (by unfold part0 rP; rfl), (h c).2.1.trans (by unfold part1 rP; rfl), (h c).2.2.1.trans (by unfold part2 rP; rfl), (h c).2.2.2.1.trans (by unfold part3 rP; rfl), (h c).2.2.2.2.1.trans (by unfold part4 rP; rfl), (h c).2.2.2.2.2.1.trans (by unfold part5 rP; rfl), (h c).2.2.2.2.2.2.1.trans (by unfold part6 rP; rfl), (h c).2.2.2.2.2.2.2.1.trans (by unfold part7 rP; rfl), (h c).2.2.2.2.2.2.2.2.1.trans (by unfold part8 rP; rfl)⟩) (Value.run (F := Ideal) m ρ)

end Cert.Reference17Ideal.Fwd

namespace Cert.Kernel17Ideal.Fwd

open Cert.Kernel17Ideal Cert.Kernel17Ideal.Gen Idealize.ShloMosaic Idealize.ShloMosaic.TcCoe Idealize.SL.Sem Cert.Rows
open Idealize.ShloMosaic.Pipeline (Dat)
open Cert.Reference17Ideal.Fwd (rP rP_eq part0 part0_apply part1 part1_apply part2 part2_apply part3 part3_apply part4 part4_apply part5 part5_apply part6 part6_apply part7 part7_apply part8 part8_apply)

variable (m : (ℓ : Loc nD τ sig) → Buf (Elt Ideal) ℓ)

/-- The arrays the region reads: the hidden array and the weight. -/
abbrev aH (c : Dev nD) : Vec Ideal S8192x1024 .bf16 := V m c main_arg0
abbrev aW (c : Dev nD) : Vec Ideal S8x1024x576 .bf16 := V m c main_v2

theorem lt16 (t : Fin cfg0.N) : t.val < 16 := lt_of_lt_of_eq t.isLt N_0

/-- The weight cut into column blocks. -/
def colBlocks (w : FVec Ideal S1024x4608 .f32) : FVec Ideal S8x1024x576 .bf16 :=
  transpose S8x1024x576 [1, 0, 2] (shapeCast S1024x8x576 (truncf .bf16 w bitsLt_bf16_f32) shapeCasts_S1024x4608_S1024x8x576) transposes_S1024x8x576_S8x1024x576_1_0_2

theorem colBlocks_apply (w : FVec Ideal S1024x4608 .f32) (q : Fin 8) (k : Fin 1024) (e : Fin 576) : colBlocks w (ix3 q k e) = w (ix2 k ⟨576 * q.val + e.val, by omega⟩) := by
  pointwise [colBlocks]
  exact congrArg w (congrArg (ix2 k) (Fin.ext (by show q.val * 576 + e.val = 576 * q.val + e.val; omega)))

/-- The weight is read as launched, but for its place: narrowing is the identity over the extended reals. -/
theorem aW_eq (c : Dev nD) : aW m c = colBlocks (m ((c.tc : Thread nD τ).loc main_arg1)) := by
  show StableHlo.after hostOps0 (fun b => m (c, b)) (Proc.devRef .tc main_v2) = _
  simp only [hostOps0, StableHlo.TRef.binary, StableHlo.TRef.nullary, StableHlo.TRef.ternary, StableHlo.TRef.unary, StableHlo.TRef.toBuf, StableHlo.TRef.ofBuf, cast_eq]
  after_results_simp
  rfl

theorem idx0 : ∀ t : Fin grid0.N, win0_0.index t 0 = t.val ∧ win0_0.index t 1 = 0 := by decide +kernel
theorem idx1 : ∀ t : Fin grid0.N, win0_1.index t 0 = 0 ∧ win0_1.index t 1 = 0 ∧ win0_1.index t 2 = 0 := by decide +kernel
theorem idx2 : ∀ t : Fin grid0.N, win0_2.index t 0 = t.val ∧ win0_2.index t 1 = 0 := by decide +kernel
theorem idx3 : ∀ t : Fin grid0.N, win0_3.index t 0 = t.val ∧ win0_3.index t 1 = 0 := by decide +kernel
theorem idx4 : ∀ t : Fin grid0.N, win0_4.index t 0 = t.val ∧ win0_4.index t 1 = 0 := by decide +kernel
theorem idx5 : ∀ t : Fin grid0.N, win0_5.index t 0 = t.val ∧ win0_5.index t 1 = 0 := by decide +kernel
theorem idx6 : ∀ t : Fin grid0.N, win0_6.index t 0 = t.val ∧ win0_6.index t 1 = 0 := by decide +kernel
theorem idx7 : ∀ t : Fin grid0.N, win0_7.index t 0 = t.val ∧ win0_7.index t 1 = 0 := by decide +kernel
theorem idx8 : ∀ t : Fin grid0.N, win0_8.index t 0 = t.val ∧ win0_8.index t 1 = 0 := by decide +kernel
theorem idx9 : ∀ t : Fin grid0.N, win0_9.index t 0 = t.val ∧ win0_9.index t 1 = 0 := by decide +kernel
theorem idx10 : ∀ t : Fin grid0.N, win0_10.index t 0 = t.val ∧ win0_10.index t 1 = 0 := by decide +kernel

/-- Point `t` reads chunk `t` of operand 0. -/
theorem iblk0 (c : Dev nD) (t : Fin cfg0.N) : (iblk m c 0 t : Vec Ideal S512x1024 .bf16) = rows 512 (aH m c) t.val := by
  funext y
  unfold iblk
  rw [View.read_apply]
  exact congrArg (aH m c) (eq_row (idx0 t).1 (idx0 t).2 (by have := lt16 t; omega) rfl rfl)

/-- It reads operand 1 whole. -/
theorem iblk1 (c : Dev nD) (t : Fin cfg0.N) : (iblk m c 1 t : Vec Ideal S8x1024x576 .bf16) = aW m c := by
  funext y
  unfold iblk
  rw [View.read_apply]
  exact congrArg (aW m c) (eq_whole3 (idx1 t).1 (idx1 t).2.1 (idx1 t).2.2 rfl rfl rfl)

/-- Eight stores of 64 columns leave what they say. -/
theorem canon8 (G : S512x512.Idx → EReal) (w0 w1 w2 w3 w4 w5 w6 w7 : S512x64.Idx → EReal)
    (h0 : ∀ (r : Fin 512) (e : Fin 64), w0 (ix2 r e) = G (ix2 r ⟨0 + e.val, by omega⟩))
    (h1 : ∀ (r : Fin 512) (e : Fin 64), w1 (ix2 r e) = G (ix2 r ⟨64 + e.val, by omega⟩))
    (h2 : ∀ (r : Fin 512) (e : Fin 64), w2 (ix2 r e) = G (ix2 r ⟨128 + e.val, by omega⟩))
    (h3 : ∀ (r : Fin 512) (e : Fin 64), w3 (ix2 r e) = G (ix2 r ⟨192 + e.val, by omega⟩))
    (h4 : ∀ (r : Fin 512) (e : Fin 64), w4 (ix2 r e) = G (ix2 r ⟨256 + e.val, by omega⟩))
    (h5 : ∀ (r : Fin 512) (e : Fin 64), w5 (ix2 r e) = G (ix2 r ⟨320 + e.val, by omega⟩))
    (h6 : ∀ (r : Fin 512) (e : Fin 64), w6 (ix2 r e) = G (ix2 r ⟨384 + e.val, by omega⟩))
    (h7 : ∀ (r : Fin 512) (e : Fin 64), w7 (ix2 r e) = G (ix2 r ⟨448 + e.val, by omega⟩)) :
    View.canon ([⟨r0_9, w7⟩, ⟨r0_8, w6⟩, ⟨r0_7, w5⟩, ⟨r0_6, w4⟩, ⟨r0_5, w3⟩, ⟨r0_4, w2⟩, ⟨r0_3, w1⟩, ⟨r0_2, w0⟩] : List (View.Piece (Elt Ideal) S512x512 .bf16)) = G := by
  have key : ∀ (o : Nat) (w : S512x64.Idx → EReal) (ho : o + 64 ≤ 512) (h : ∀ (r : Fin 512) (e : Fin 64), w (ix2 r e) = G (ix2 r ⟨o + e.val, by omega⟩))
      (inb : ∀ a, (![0, o] : Fin 2 → Nat) a + S512x64.size a ≤ S512x512.size a) (x : S512x64.Idx), w x = G ((Rect.unit (s := S512x512) ![0, o] S512x64.size inb).emb x) := by
    intro o w ho h inb x
    obtain ⟨r, j, rfl⟩ : ∃ (r : Fin 512) (j : Fin 64), x = ix2 r j := ⟨x 0, x 1, eq_ix2 x⟩
    refine (h r j).trans (congrArg G ?_)
    funext a
    apply Fin.ext
    match a with
    | ⟨0, _⟩ => show r.val = 0 + 1 * r.val; omega
    | ⟨1, _⟩ => show o + j.val = o + 1 * j.val; omega
  funext y
  refine View.canon_append_of_piecesOf G [] ([⟨r0_9, w7⟩, ⟨r0_8, w6⟩, ⟨r0_7, w5⟩, ⟨r0_6, w4⟩, ⟨r0_5, w3⟩, ⟨r0_4, w2⟩, ⟨r0_3, w1⟩, ⟨r0_2, w0⟩] : List (View.Piece (Elt Ideal) S512x512 .bf16))
    ⟨?_, ?_, ?_, ?_, ?_, ?_, ?_, ?_, trivial⟩ y (View.cover_of_tiledL (s := S512x512) _ S512x64.size (by sl_kernel_rfl) y)
  all_goals first
    | exact key 448 w7 (by omega) h7 inb_S512x512_S512x64_0_448
    | exact key 384 w6 (by omega) h6 inb_S512x512_S512x64_0_384
    | exact key 320 w5 (by omega) h5 inb_S512x512_S512x64_0_320
    | exact key 256 w4 (by omega) h4 inb_S512x512_S512x64_0_256
    | exact key 192 w3 (by omega) h3 inb_S512x512_S512x64_0_192
    | exact key 128 w2 (by omega) h2 inb_S512x512_S512x64_0_128
    | exact key 64 w1 (by omega) h1 inb_S512x512_S512x64_0_64
    | exact key 0 w0 (by omega) h0 inb_S512x512_S512x64_0_0

/-- A head of a block of the product: the product's columns of that head. -/
theorem head (x0 : Vec Ideal S512x1024 .bf16) (x1 : Vec Ideal S8x1024x576 .bf16) (w : FVec Ideal S1024x4608 .f32)
    (hw : ∀ (q : Fin 8) (k : Fin 1024) (e : Fin 576), x1 (ix3 q k e) = w (ix2 k ⟨576 * q.val + e.val, by omega⟩))
    (q o : Nat) (inb : ∀ a, (![q, 0, 0] : Fin 3 → Nat) a + S1x1024x576.size a ≤ S8x1024x576.size a) (hs : S512x576.Slices ![0, o] S512x64)
    (r : Fin 512) (e : Fin 64) (p : Fin 4608) (hp : p.val = 576 * q + (o + e.val)) :
    extractStridedSlice S512x64 ![0, o] (k0_pay2 (View.ld x0 r0_0) (View.ld x1 (Rect.unit (s := S8x1024x576) ![q, 0, 0] S1x1024x576.size inb))) hs (ix2 r e) = prod x0 w (ix2 r p) := by
  have hq : q < 8 := by have := inb 0; change q + 1 ≤ 8 at this; omega
  have ho : o + 64 ≤ 576 := by obtain ⟨_, h⟩ := hs; exact h 1
  rw [extractStridedSlice_apply _ _ _ _ (ix2 r ⟨o + e.val, by omega⟩) (by intro a; fin_cases a <;> simp)]
  pointwise [k0_pay2, prod]
  refine Finset.sum_congr rfl fun k _ => congrArg (x0 (ix2 r k) * ·) ?_
  refine Eq.trans (congrArg x1 ?_) ((hw ⟨q, hq⟩ k ⟨o + e.val, by omega⟩).trans (congrArg w (congrArg (ix2 k) (Fin.ext hp.symm))))
  funext a; apply Fin.ext
  match a with
  | ⟨0, _⟩ => show q + 1 * 0 = q; omega
  | ⟨1, _⟩ => rfl
  | ⟨2, _⟩ => rfl

theorem out_eq2 (x0 : Vec Ideal S512x1024 .bf16) (x1 : Vec Ideal S8x1024x576 .bf16) (w : FVec Ideal S1024x4608 .f32)
    (hw : ∀ (q : Fin 8) (k : Fin 1024) (e : Fin 576), x1 (ix3 q k e) = w (ix2 k ⟨576 * q.val + e.val, by omega⟩)) :
    out0_2 x0 x1 = fun y => prod x0 w (ix2 (y 0) ⟨0 + (y 1).val, by have : (y 1).val < 512 := (y 1).isLt; omega⟩) := by
  unfold out0_2
  refine canon8 _ _ _ _ _ _ _ _ _ ?_ ?_ ?_ ?_ ?_ ?_ ?_ ?_
  all_goals exact fun r e => head x0 x1 w hw _ _ _ (by decide) r e _ (by simp only [ix2_1] <;> omega)

theorem out_eq3 (x0 : Vec Ideal S512x1024 .bf16) (x1 : Vec Ideal S8x1024x576 .bf16) (w : FVec Ideal S1024x4608 .f32)
    (hw : ∀ (q : Fin 8) (k : Fin 1024) (e : Fin 576), x1 (ix3 q k e) = w (ix2 k ⟨576 * q.val + e.val, by omega⟩)) :
    out0_3 x0 x1 = fun y => prod x0 w (ix2 (y 0) ⟨512 + (y 1).val, by have : (y 1).val < 512 := (y 1).isLt; omega⟩) := by
  unfold out0_3
  refine canon8 _ _ _ _ _ _ _ _ _ ?_ ?_ ?_ ?_ ?_ ?_ ?_ ?_
  all_goals exact fun r e => head x0 x1 w hw _ _ _ (by decide) r e _ (by simp only [ix2_1] <;> omega)

theorem out_eq4 (x0 : Vec Ideal S512x1024 .bf16) (x1 : Vec Ideal S8x1024x576 .bf16) (w : FVec Ideal S1024x4608 .f32)
    (hw : ∀ (q : Fin 8) (k : Fin 1024) (e : Fin 576), x1 (ix3 q k e) = w (ix2 k ⟨576 * q.val + e.val, by omega⟩)) :
    out0_4 x0 x1 = fun y => prod x0 w (ix2 (y 0) ⟨1024 + (y 1).val, by have : (y 1).val < 512 := (y 1).isLt; omega⟩) := by
  unfold out0_4
  refine canon8 _ _ _ _ _ _ _ _ _ ?_ ?_ ?_ ?_ ?_ ?_ ?_ ?_
  all_goals exact fun r e => head x0 x1 w hw _ _ _ (by decide) r e _ (by simp only [ix2_1] <;> omega)

theorem out_eq5 (x0 : Vec Ideal S512x1024 .bf16) (x1 : Vec Ideal S8x1024x576 .bf16) (w : FVec Ideal S1024x4608 .f32)
    (hw : ∀ (q : Fin 8) (k : Fin 1024) (e : Fin 576), x1 (ix3 q k e) = w (ix2 k ⟨576 * q.val + e.val, by omega⟩)) :
    out0_5 x0 x1 = fun y => prod x0 w (ix2 (y 0) ⟨1536 + (y 1).val, by have : (y 1).val < 512 := (y 1).isLt; omega⟩) := by
  unfold out0_5
  refine canon8 _ _ _ _ _ _ _ _ _ ?_ ?_ ?_ ?_ ?_ ?_ ?_ ?_
  all_goals exact fun r e => head x0 x1 w hw _ _ _ (by decide) r e _ (by simp only [ix2_1] <;> omega)

theorem out_eq6 (x0 : Vec Ideal S512x1024 .bf16) (x1 : Vec Ideal S8x1024x576 .bf16) (w : FVec Ideal S1024x4608 .f32)
    (hw : ∀ (q : Fin 8) (k : Fin 1024) (e : Fin 576), x1 (ix3 q k e) = w (ix2 k ⟨576 * q.val + e.val, by omega⟩)) :
    out0_6 x0 x1 = fun y => prod x0 w (ix2 (y 0) ⟨2048 + (y 1).val, by have : (y 1).val < 512 := (y 1).isLt; omega⟩) := by
  unfold out0_6
  refine canon8 _ _ _ _ _ _ _ _ _ ?_ ?_ ?_ ?_ ?_ ?_ ?_ ?_
  all_goals exact fun r e => head x0 x1 w hw _ _ _ (by decide) r e _ (by simp only [ix2_1] <;> omega)

theorem out_eq7 (x0 : Vec Ideal S512x1024 .bf16) (x1 : Vec Ideal S8x1024x576 .bf16) (w : FVec Ideal S1024x4608 .f32)
    (hw : ∀ (q : Fin 8) (k : Fin 1024) (e : Fin 576), x1 (ix3 q k e) = w (ix2 k ⟨576 * q.val + e.val, by omega⟩)) :
    out0_7 x0 x1 = fun y => prod x0 w (ix2 (y 0) ⟨2560 + (y 1).val, by have : (y 1).val < 512 := (y 1).isLt; omega⟩) := by
  unfold out0_7
  refine canon8 _ _ _ _ _ _ _ _ _ ?_ ?_ ?_ ?_ ?_ ?_ ?_ ?_
  all_goals exact fun r e => head x0 x1 w hw _ _ _ (by decide) r e _ (by simp only [ix2_1] <;> omega)

theorem out_eq8 (x0 : Vec Ideal S512x1024 .bf16) (x1 : Vec Ideal S8x1024x576 .bf16) (w : FVec Ideal S1024x4608 .f32)
    (hw : ∀ (q : Fin 8) (k : Fin 1024) (e : Fin 576), x1 (ix3 q k e) = w (ix2 k ⟨576 * q.val + e.val, by omega⟩)) :
    out0_8 x0 x1 = fun y => prod x0 w (ix2 (y 0) ⟨3072 + (y 1).val, by have : (y 1).val < 512 := (y 1).isLt; omega⟩) := by
  unfold out0_8
  refine canon8 _ _ _ _ _ _ _ _ _ ?_ ?_ ?_ ?_ ?_ ?_ ?_ ?_
  all_goals exact fun r e => head x0 x1 w hw _ _ _ (by decide) r e _ (by simp only [ix2_1] <;> omega)

theorem out_eq9 (x0 : Vec Ideal S512x1024 .bf16) (x1 : Vec Ideal S8x1024x576 .bf16) (w : FVec Ideal S1024x4608 .f32)
    (hw : ∀ (q : Fin 8) (k : Fin 1024) (e : Fin 576), x1 (ix3 q k e) = w (ix2 k ⟨576 * q.val + e.val, by omega⟩)) :
    out0_9 x0 x1 = fun y => prod x0 w (ix2 (y 0) ⟨3584 + (y 1).val, by have : (y 1).val < 512 := (y 1).isLt; omega⟩) := by
  unfold out0_9
  refine canon8 _ _ _ _ _ _ _ _ _ ?_ ?_ ?_ ?_ ?_ ?_ ?_ ?_
  all_goals exact fun r e => head x0 x1 w hw _ _ _ (by decide) r e _ (by simp only [ix2_1] <;> omega)

theorem out_eq10 (x0 : Vec Ideal S512x1024 .bf16) (x1 : Vec Ideal S8x1024x576 .bf16) (w : FVec Ideal S1024x4608 .f32)
    (hw : ∀ (q : Fin 8) (k : Fin 1024) (e : Fin 576), x1 (ix3 q k e) = w (ix2 k ⟨576 * q.val + e.val, by omega⟩)) :
    out0_10 x0 x1 = fun y => prod x0 w (ix2 (y 0) ⟨4096 + (y 1).val, by have : (y 1).val < 512 := (y 1).isLt; omega⟩) := by
  unfold out0_10
  refine canon8 _ _ _ _ _ _ _ _ _ ?_ ?_ ?_ ?_ ?_ ?_ ?_ ?_
  all_goals exact fun r e => head x0 x1 w hw _ _ _ (by decide) r e _ (by simp only [ix2_1] <;> omega)

/-- Output 0 ends with the reference's part 0, every point writing its rows of it. -/
theorem final2 (c : Dev nD) : (dats m 0 c).arrAt 2 cfg0.N = part0 (rP (aH m c) (m ((c.tc : Thread nD τ).loc main_arg1))) := by
  refine (dats m 0 c).arrAt_eq_of_covers 2 _ (by decide +kernel) fun t hf y => ?_
  obtain ⟨r, j, rfl⟩ : ∃ (r : Fin 512) (j : Fin 512), y = ix2 r j := ⟨y 0, y 1, eq_ix2 y⟩
  have he : (win0_2.blk t).view.emb (ix2 r j) = ix2 (row 512 t.val r) j := eq_row (idx2 t).1 (idx2 t).2 (by have := lt16 t; omega) rfl rfl
  blk_simp [he]
  rw [after0_2, iblk0, iblk1, part0_apply, rP_eq, out_eq2 _ _ (m ((c.tc : Thread nD τ).loc main_arg1)) (fun q k e => by rw [aW_eq, colBlocks_apply])]
  rfl

/-- Output 1 ends with the reference's part 1, every point writing its rows of it. -/
theorem final3 (c : Dev nD) : (dats m 0 c).arrAt 3 cfg0.N = part1 (rP (aH m c) (m ((c.tc : Thread nD τ).loc main_arg1))) := by
  refine (dats m 0 c).arrAt_eq_of_covers 3 _ (by decide +kernel) fun t hf y => ?_
  obtain ⟨r, j, rfl⟩ : ∃ (r : Fin 512) (j : Fin 512), y = ix2 r j := ⟨y 0, y 1, eq_ix2 y⟩
  have he : (win0_3.blk t).view.emb (ix2 r j) = ix2 (row 512 t.val r) j := eq_row (idx3 t).1 (idx3 t).2 (by have := lt16 t; omega) rfl rfl
  blk_simp [he]
  rw [after0_3, iblk0, iblk1, part1_apply, rP_eq, out_eq3 _ _ (m ((c.tc : Thread nD τ).loc main_arg1)) (fun q k e => by rw [aW_eq, colBlocks_apply])]
  rfl

/-- Output 2 ends with the reference's part 2, every point writing its rows of it. -/
theorem final4 (c : Dev nD) : (dats m 0 c).arrAt 4 cfg0.N = part2 (rP (aH m c) (m ((c.tc : Thread nD τ).loc main_arg1))) := by
  refine (dats m 0 c).arrAt_eq_of_covers 4 _ (by decide +kernel) fun t hf y => ?_
  obtain ⟨r, j, rfl⟩ : ∃ (r : Fin 512) (j : Fin 512), y = ix2 r j := ⟨y 0, y 1, eq_ix2 y⟩
  have he : (win0_4.blk t).view.emb (ix2 r j) = ix2 (row 512 t.val r) j := eq_row (idx4 t).1 (idx4 t).2 (by have := lt16 t; omega) rfl rfl
  blk_simp [he]
  rw [after0_4, iblk0, iblk1, part2_apply, rP_eq, out_eq4 _ _ (m ((c.tc : Thread nD τ).loc main_arg1)) (fun q k e => by rw [aW_eq, colBlocks_apply])]
  rfl

/-- Output 3 ends with the reference's part 3, every point writing its rows of it. -/
theorem final5 (c : Dev nD) : (dats m 0 c).arrAt 5 cfg0.N = part3 (rP (aH m c) (m ((c.tc : Thread nD τ).loc main_arg1))) := by
  refine (dats m 0 c).arrAt_eq_of_covers 5 _ (by decide +kernel) fun t hf y => ?_
  obtain ⟨r, j, rfl⟩ : ∃ (r : Fin 512) (j : Fin 512), y = ix2 r j := ⟨y 0, y 1, eq_ix2 y⟩
  have he : (win0_5.blk t).view.emb (ix2 r j) = ix2 (row 512 t.val r) j := eq_row (idx5 t).1 (idx5 t).2 (by have := lt16 t; omega) rfl rfl
  blk_simp [he]
  rw [after0_5, iblk0, iblk1, part3_apply, rP_eq, out_eq5 _ _ (m ((c.tc : Thread nD τ).loc main_arg1)) (fun q k e => by rw [aW_eq, colBlocks_apply])]
  rfl

/-- Output 4 ends with the reference's part 4, every point writing its rows of it. -/
theorem final6 (c : Dev nD) : (dats m 0 c).arrAt 6 cfg0.N = part4 (rP (aH m c) (m ((c.tc : Thread nD τ).loc main_arg1))) := by
  refine (dats m 0 c).arrAt_eq_of_covers 6 _ (by decide +kernel) fun t hf y => ?_
  obtain ⟨r, j, rfl⟩ : ∃ (r : Fin 512) (j : Fin 512), y = ix2 r j := ⟨y 0, y 1, eq_ix2 y⟩
  have he : (win0_6.blk t).view.emb (ix2 r j) = ix2 (row 512 t.val r) j := eq_row (idx6 t).1 (idx6 t).2 (by have := lt16 t; omega) rfl rfl
  blk_simp [he]
  rw [after0_6, iblk0, iblk1, part4_apply, rP_eq, out_eq6 _ _ (m ((c.tc : Thread nD τ).loc main_arg1)) (fun q k e => by rw [aW_eq, colBlocks_apply])]
  rfl

/-- Output 5 ends with the reference's part 5, every point writing its rows of it. -/
theorem final7 (c : Dev nD) : (dats m 0 c).arrAt 7 cfg0.N = part5 (rP (aH m c) (m ((c.tc : Thread nD τ).loc main_arg1))) := by
  refine (dats m 0 c).arrAt_eq_of_covers 7 _ (by decide +kernel) fun t hf y => ?_
  obtain ⟨r, j, rfl⟩ : ∃ (r : Fin 512) (j : Fin 512), y = ix2 r j := ⟨y 0, y 1, eq_ix2 y⟩
  have he : (win0_7.blk t).view.emb (ix2 r j) = ix2 (row 512 t.val r) j := eq_row (idx7 t).1 (idx7 t).2 (by have := lt16 t; omega) rfl rfl
  blk_simp [he]
  rw [after0_7, iblk0, iblk1, part5_apply, rP_eq, out_eq7 _ _ (m ((c.tc : Thread nD τ).loc main_arg1)) (fun q k e => by rw [aW_eq, colBlocks_apply])]
  rfl

/-- Output 6 ends with the reference's part 6, every point writing its rows of it. -/
theorem final8 (c : Dev nD) : (dats m 0 c).arrAt 8 cfg0.N = part6 (rP (aH m c) (m ((c.tc : Thread nD τ).loc main_arg1))) := by
  refine (dats m 0 c).arrAt_eq_of_covers 8 _ (by decide +kernel) fun t hf y => ?_
  obtain ⟨r, j, rfl⟩ : ∃ (r : Fin 512) (j : Fin 512), y = ix2 r j := ⟨y 0, y 1, eq_ix2 y⟩
  have he : (win0_8.blk t).view.emb (ix2 r j) = ix2 (row 512 t.val r) j := eq_row (idx8 t).1 (idx8 t).2 (by have := lt16 t; omega) rfl rfl
  blk_simp [he]
  rw [after0_8, iblk0, iblk1, part6_apply, rP_eq, out_eq8 _ _ (m ((c.tc : Thread nD τ).loc main_arg1)) (fun q k e => by rw [aW_eq, colBlocks_apply])]
  rfl

/-- Output 7 ends with the reference's part 7, every point writing its rows of it. -/
theorem final9 (c : Dev nD) : (dats m 0 c).arrAt 9 cfg0.N = part7 (rP (aH m c) (m ((c.tc : Thread nD τ).loc main_arg1))) := by
  refine (dats m 0 c).arrAt_eq_of_covers 9 _ (by decide +kernel) fun t hf y => ?_
  obtain ⟨r, j, rfl⟩ : ∃ (r : Fin 512) (j : Fin 512), y = ix2 r j := ⟨y 0, y 1, eq_ix2 y⟩
  have he : (win0_9.blk t).view.emb (ix2 r j) = ix2 (row 512 t.val r) j := eq_row (idx9 t).1 (idx9 t).2 (by have := lt16 t; omega) rfl rfl
  blk_simp [he]
  rw [after0_9, iblk0, iblk1, part7_apply, rP_eq, out_eq9 _ _ (m ((c.tc : Thread nD τ).loc main_arg1)) (fun q k e => by rw [aW_eq, colBlocks_apply])]
  rfl

/-- Output 8 ends with the reference's part 8, every point writing its rows of it. -/
theorem final10 (c : Dev nD) : (dats m 0 c).arrAt 10 cfg0.N = part8 (rP (aH m c) (m ((c.tc : Thread nD τ).loc main_arg1))) := by
  refine (dats m 0 c).arrAt_eq_of_covers 10 _ (by decide +kernel) fun t hf y => ?_
  obtain ⟨r, j, rfl⟩ : ∃ (r : Fin 512) (j : Fin 512), y = ix2 r j := ⟨y 0, y 1, eq_ix2 y⟩
  have he : (win0_10.blk t).view.emb (ix2 r j) = ix2 (row 512 t.val r) j := eq_row (idx10 t).1 (idx10 t).2 (by have := lt16 t; omega) rfl rfl
  blk_simp [he]
  rw [after0_10, iblk0, iblk1, part8_apply, rP_eq, out_eq10 _ _ (m ((c.tc : Thread nD τ).loc main_arg1)) (fun q k e => by rw [aW_eq, colBlocks_apply])]
  rfl

/-- The kernel's run ends with the reference's nine results. -/
theorem run (ρ : Dev nD → PrngReg) :
    θ_run defs (onTc (τ := τ) (main (F := Ideal))) ⟨m, fun _ => 0, ρ⟩ fun r => ∀ c : Dev nD,
      r.2.mem ((c.tc : Thread nD τ).loc main_v3_0) = part0 (rP (m ((c.tc : Thread nD τ).loc main_arg0)) (m ((c.tc : Thread nD τ).loc main_arg1))) ∧
      r.2.mem ((c.tc : Thread nD τ).loc main_v3_1) = part1 (rP (m ((c.tc : Thread nD τ).loc main_arg0)) (m ((c.tc : Thread nD τ).loc main_arg1))) ∧
      r.2.mem ((c.tc : Thread nD τ).loc main_v3_2) = part2 (rP (m ((c.tc : Thread nD τ).loc main_arg0)) (m ((c.tc : Thread nD τ).loc main_arg1))) ∧
      r.2.mem ((c.tc : Thread nD τ).loc main_v3_3) = part3 (rP (m ((c.tc : Thread nD τ).loc main_arg0)) (m ((c.tc : Thread nD τ).loc main_arg1))) ∧
      r.2.mem ((c.tc : Thread nD τ).loc main_v3_4) = part4 (rP (m ((c.tc : Thread nD τ).loc main_arg0)) (m ((c.tc : Thread nD τ).loc main_arg1))) ∧
      r.2.mem ((c.tc : Thread nD τ).loc main_v3_5) = part5 (rP (m ((c.tc : Thread nD τ).loc main_arg0)) (m ((c.tc : Thread nD τ).loc main_arg1))) ∧
      r.2.mem ((c.tc : Thread nD τ).loc main_v3_6) = part6 (rP (m ((c.tc : Thread nD τ).loc main_arg0)) (m ((c.tc : Thread nD τ).loc main_arg1))) ∧
      r.2.mem ((c.tc : Thread nD τ).loc main_v3_7) = part7 (rP (m ((c.tc : Thread nD τ).loc main_arg0)) (m ((c.tc : Thread nD τ).loc main_arg1))) ∧
      r.2.mem ((c.tc : Thread nD τ).loc main_v3_8) = part8 (rP (m ((c.tc : Thread nD τ).loc main_arg0)) (m ((c.tc : Thread nD τ).loc main_arg1))) :=
  (θ_run defs _ _).mono (fun _ h c => by
    have e0 : aH m c = (m ((c.tc : Thread nD τ).loc main_arg0)) := V_main_arg0 m c
    exact ⟨((h c).1 2).trans ((final2 m c).trans (by rw [e0])), ((h c).1 3).trans ((final3 m c).trans (by rw [e0])), ((h c).1 4).trans ((final4 m c).trans (by rw [e0])), ((h c).1 5).trans ((final5 m c).trans (by rw [e0])), ((h c).1 6).trans ((final6 m c).trans (by rw [e0])), ((h c).1 7).trans ((final7 m c).trans (by rw [e0])), ((h c).1 8).trans ((final8 m c).trans (by rw [e0])), ((h c).1 9).trans ((final9 m c).trans (by rw [e0])), ((h c).1 10).trans ((final10 m c).trans (by rw [e0]))⟩) (run_main m ρ)

end Cert.Kernel17Ideal.Fwd
-- ==== Proof.ConvPw1.lean ====
module

public import proofs.«01_k».proof.Proof.Gen.Kernel18Ideal.Frame
public import proofs.«01_k».proof.Proof.Gen.Reference18Ideal.Run
public import proofs.«01_k».proof.Proof.Rows

/-! The convolution's first product, its bias and the gated unit after it: the kernel takes 512 rows at a time and the weight
in eight column blocks, the reference whole arrays. -/

@[expose] public section

set_option maxRecDepth 16384

noncomputable section

namespace Cert.Reference18Ideal.Fwd

open Cert.Reference18Ideal Cert.Reference18Ideal.Gen Idealize.ShloMosaic Idealize.ShloMosaic.TcCoe Idealize.SL.Sem Cert.Rows

/-- The reference's product and bias, -/
def rZ (h : FVec Ideal S8192x1024 .bf16) (w : FVec Ideal S1024x2048 .f32) (b : FVec Ideal S2048 .f32) : FVec Ideal S8192x2048 .f32 :=
  addf (Host.dotGeneral dot_S8192x1024_S1024x2048_S8192x2048_1_0_0_1_n_n none (extf .f32 h bitsLt_bf16_f32) w) (broadcastInDim S8192x2048 ![0, 1] bcast_S1x2048_S8192x2048_0_1 (broadcastInDim S1x2048 ![1] bcast_S2048_S1x2048_1 b))

/-- and the gated unit. -/
def rG (z : FVec Ideal S8192x2048 .f32) : FVec Ideal S8192x1024 .f32 :=
  mulf (extractStridedSlice S8192x1024 ![0, 0] z slices_S8192x2048_S8192x1024_0_0) (Host.divf (broadcastInDim S8192x1024 ![] bcast_S_S8192x1024 (constant S_ .f32 0x3F800000#32)) (addf (broadcastInDim S8192x1024 ![] bcast_S_S8192x1024 (constant S_ .f32 0x3F800000#32)) (Host.exp (Host.negf (extractStridedSlice S8192x1024 ![0, 1024] z slices_S8192x2048_S8192x1024_0_1024)))))

theorem rZ_apply (h : FVec Ideal S8192x1024 .bf16) (w : FVec Ideal S1024x2048 .f32) (b : FVec Ideal S2048 .f32) (i : Fin 8192) (j : Fin 2048) :
    rZ h w b (ix2 i j) = prod h w (ix2 i j) + b (ix1 j) := by
  pointwise [rZ, prod]

theorem rG_apply (z : FVec Ideal S8192x2048 .f32) (i : Fin 8192) (j : Fin 1024) :
    rG z (ix2 i j) = z (ix2 i ⟨j.val, by omega⟩) * Ideal.logistic (z (ix2 i ⟨1024 + j.val, by omega⟩)) := by
  pointwise [rG]
  rfl

/-- The reference's run ends with both. -/
theorem run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v4) = rZ (m ((c.tc : Thread nD τ).loc main_arg0)) (m ((c.tc : Thread nD τ).loc main_arg1)) (m ((c.tc : Thread nD τ).loc main_arg2)) ∧
      r.2.mem ((c.tc : Thread nD τ).loc main_v13) = rG (rZ (m ((c.tc : Thread nD τ).loc main_arg0)) (m ((c.tc : Thread nD τ).loc main_arg1)) (m ((c.tc : Thread nD τ).loc main_arg2))) :=
  (θ_run defs _ _).mono (fun _ h c => ⟨(h c).1.trans (by unfold rZ; rfl), (h c).2.1.trans (by unfold rG rZ; rfl)⟩) (Value.run (F := Ideal) m ρ)

end Cert.Reference18Ideal.Fwd

namespace Cert.Kernel18Ideal.Fwd

open Cert.Kernel18Ideal Cert.Kernel18Ideal.Gen Idealize.ShloMosaic Idealize.ShloMosaic.TcCoe Idealize.SL.Sem Cert.Rows
open Idealize.ShloMosaic.Pipeline (Dat)
open Cert.Reference18Ideal.Fwd (rZ rG rZ_apply rG_apply)

variable (m : (ℓ : Loc nD τ sig) → Buf (Elt Ideal) ℓ)

/-- The arrays the region reads: the hidden array, the weight and the bias. -/
abbrev aH (c : Dev nD) : Vec Ideal S8192x1024 .bf16 := V m c main_arg0
abbrev aW (c : Dev nD) : Vec Ideal S8x1024x256 .bf16 := V m c main_v2
abbrev aB (c : Dev nD) : Vec Ideal S1x2048 .f32 := V m c main_v3

theorem lt16 (t : Fin cfg0.N) : t.val < 16 := lt_of_lt_of_eq t.isLt N_0

/-- The weight cut into column blocks. -/
def colBlocks (w : FVec Ideal S1024x2048 .f32) : FVec Ideal S8x1024x256 .bf16 :=
  transpose S8x1024x256 [1, 0, 2] (shapeCast S1024x8x256 (truncf .bf16 w bitsLt_bf16_f32) shapeCasts_S1024x2048_S1024x8x256) transposes_S1024x8x256_S8x1024x256_1_0_2

theorem colBlocks_apply (w : FVec Ideal S1024x2048 .f32) (q : Fin 8) (k : Fin 1024) (e : Fin 256) : colBlocks w (ix3 q k e) = w (ix2 k ⟨256 * q.val + e.val, by omega⟩) := by
  pointwise [colBlocks]
  exact congrArg w (congrArg (ix2 k) (Fin.ext (by show q.val * 256 + e.val = 256 * q.val + e.val; omega)))

/-- The weight is read as launched, but for its place: narrowing is the identity over the extended reals. -/
theorem aW_eq (c : Dev nD) : aW m c = colBlocks (m ((c.tc : Thread nD τ).loc main_arg1)) := by
  show StableHlo.after hostOps0 (fun b => m (c, b)) (Proc.devRef .tc main_v2) = _
  simp only [hostOps0, StableHlo.TRef.binary, StableHlo.TRef.nullary, StableHlo.TRef.ternary, StableHlo.TRef.unary, StableHlo.TRef.toBuf, StableHlo.TRef.ofBuf, cast_eq]
  after_results_simp
  rfl

/-- A vector as one row. -/
def asRow (g : FVec Ideal S2048 .f32) : FVec Ideal S1x2048 .f32 := shapeCast S1x2048 g shapeCasts_S2048_S1x2048

theorem asRow_apply (g : FVec Ideal S2048 .f32) (j : Fin 2048) : asRow g (ix2 0 j) = g (ix1 j) := by
  pointwise [asRow]

theorem aB_eq (c : Dev nD) : aB m c = asRow (m ((c.tc : Thread nD τ).loc main_arg2)) := by
  show StableHlo.after hostOps0 (fun b => m (c, b)) (Proc.devRef .tc main_v3) = _
  simp only [hostOps0, StableHlo.TRef.binary, StableHlo.TRef.nullary, StableHlo.TRef.ternary, StableHlo.TRef.unary, StableHlo.TRef.toBuf, StableHlo.TRef.ofBuf, cast_eq]
  after_results_simp
  rfl

theorem idx0 : ∀ t : Fin grid0.N, win0_0.index t 0 = t.val ∧ win0_0.index t 1 = 0 := by decide +kernel
theorem idx1 : ∀ t : Fin grid0.N, win0_1.index t 0 = 0 ∧ win0_1.index t 1 = 0 ∧ win0_1.index t 2 = 0 := by decide +kernel
theorem idx2 : ∀ t : Fin grid0.N, win0_2.index t 0 = 0 ∧ win0_2.index t 1 = 0 := by decide +kernel
theorem idx3 : ∀ t : Fin grid0.N, win0_3.index t 0 = t.val ∧ win0_3.index t 1 = 0 := by decide +kernel
theorem idx4 : ∀ t : Fin grid0.N, win0_4.index t 0 = t.val ∧ win0_4.index t 1 = 0 := by decide +kernel

/-- Point `t` reads chunk `t` of operand 0. -/
theorem iblk0 (c : Dev nD) (t : Fin cfg0.N) : (iblk m c 0 t : Vec Ideal S512x1024 .bf16) = rows 512 (aH m c) t.val := by
  funext y
  unfold iblk
  rw [View.read_apply]
  exact congrArg (aH m c) (eq_row (idx0 t).1 (idx0 t).2 (by have := lt16 t; omega) rfl rfl)

/-- It reads operand 1 whole. -/
theorem iblk1 (c : Dev nD) (t : Fin cfg0.N) : (iblk m c 1 t : Vec Ideal S8x1024x256 .bf16) = aW m c := by
  funext y
  unfold iblk
  rw [View.read_apply]
  exact congrArg (aW m c) (eq_whole3 (idx1 t).1 (idx1 t).2.1 (idx1 t).2.2 rfl rfl rfl)

/-- It reads operand 2 whole. -/
theorem iblk2 (c : Dev nD) (t : Fin cfg0.N) : (iblk m c 2 t : Vec Ideal S1x2048 .f32) = aB m c := by
  funext y
  unfold iblk
  rw [View.read_apply]
  exact congrArg (aB m c) (eq_whole (idx2 t).1 (idx2 t).2 rfl rfl)

/-- The eight column blocks of the product, side by side, are the product. -/
theorem cat_eq (x0 : Vec Ideal S512x1024 .bf16) (x1 : Vec Ideal S8x1024x256 .bf16) (x2 : Vec Ideal S1x2048 .f32) (w : FVec Ideal S1024x2048 .f32)
    (hw : ∀ (q : Fin 8) (k : Fin 1024) (e : Fin 256), x1 (ix3 q k e) = w (ix2 k ⟨256 * q.val + e.val, by omega⟩)) :
    concatenate S512x2048 1 [⟨S512x256, k0_pay11 x0 x1 x2⟩, ⟨S512x256, k0_pay12 x0 x1 x2⟩, ⟨S512x256, k0_pay13 x0 x1 x2⟩, ⟨S512x256, k0_pay14 x0 x1 x2⟩, ⟨S512x256, k0_pay15 x0 x1 x2⟩, ⟨S512x256, k0_pay16 x0 x1 x2⟩, ⟨S512x256, k0_pay17 x0 x1 x2⟩, ⟨S512x256, k0_pay18 x0 x1 x2⟩]
      concatenates_S512x256_S512x256_S512x256_S512x256_S512x256_S512x256_S512x256_S512x256_S512x2048_d1 = prod x0 w := by
  refine cat8 (k0_pay11 x0 x1 x2) (k0_pay12 x0 x1 x2) (k0_pay13 x0 x1 x2) (k0_pay14 x0 x1 x2) (k0_pay15 x0 x1 x2) (k0_pay16 x0 x1 x2) (k0_pay17 x0 x1 x2) (k0_pay18 x0 x1 x2) (prod x0 w) ?_ ?_ ?_ ?_ ?_ ?_ ?_ ?_ _
  · intro r e; unfold k0_pay11; pointwise [k0_pay3, prod]; simp only [hw]; exact Finset.sum_congr rfl fun k _ => congrArg (fun p => x0 (ix2 r k) * w (ix2 k p)) (Fin.ext (show 256 * 0 + e.val = e.val by omega))
  · intro r e; unfold k0_pay12; pointwise [k0_pay4, prod]; simp only [hw]; rfl
  · intro r e; unfold k0_pay13; pointwise [k0_pay5, prod]; simp only [hw]; rfl
  · intro r e; unfold k0_pay14; pointwise [k0_pay6, prod]; simp only [hw]; rfl
  · intro r e; unfold k0_pay15; pointwise [k0_pay7, prod]; simp only [hw]; rfl
  · intro r e; unfold k0_pay16; pointwise [k0_pay8, prod]; simp only [hw]; rfl
  · intro r e; unfold k0_pay17; pointwise [k0_pay9, prod]; simp only [hw]; rfl
  · intro r e; unfold k0_pay18; pointwise [k0_pay10, prod]; simp only [hw]; rfl

/-- The block with its bias. -/
def zBlk (x0 : Vec Ideal S512x1024 .bf16) (w : FVec Ideal S1024x2048 .f32) (x : Vec Ideal S1x2048 .f32) : Vec Ideal S512x2048 .f32 := fun y =>
  prod x0 w y + x (ix2 0 (y 1))

theorem z_eq (x0 : Vec Ideal S512x1024 .bf16) (x1 : Vec Ideal S8x1024x256 .bf16) (x2 x : Vec Ideal S1x2048 .f32) (w : FVec Ideal S1024x2048 .f32)
    (hw : ∀ (q : Fin 8) (k : Fin 1024) (e : Fin 256), x1 (ix3 q k e) = w (ix2 k ⟨256 * q.val + e.val, by omega⟩)) : k0_pay1 (k0_pay11 x0 x1 x2) (k0_pay12 x0 x1 x2) (k0_pay13 x0 x1 x2) (k0_pay14 x0 x1 x2) (k0_pay15 x0 x1 x2) (k0_pay16 x0 x1 x2) (k0_pay17 x0 x1 x2) (k0_pay18 x0 x1 x2) x = zBlk x0 w x := by
  suffices hs : ∀ (r : Fin 512) (j : Fin 2048), k0_pay1 (k0_pay11 x0 x1 x2) (k0_pay12 x0 x1 x2) (k0_pay13 x0 x1 x2) (k0_pay14 x0 x1 x2) (k0_pay15 x0 x1 x2) (k0_pay16 x0 x1 x2) (k0_pay17 x0 x1 x2) (k0_pay18 x0 x1 x2) x (ix2 r j) = zBlk x0 w x (ix2 r j) by
    funext y
    rw [eq_ix2 y]
    exact hs _ _
  intro r j
  unfold k0_pay1
  rw [cat_eq x0 x1 x2 w hw]
  pointwise [zBlk]

theorem g_apply (x0 : Vec Ideal S512x1024 .bf16) (x1 : Vec Ideal S8x1024x256 .bf16) (x2 x : Vec Ideal S1x2048 .f32) (w : FVec Ideal S1024x2048 .f32)
    (hw : ∀ (q : Fin 8) (k : Fin 1024) (e : Fin 256), x1 (ix3 q k e) = w (ix2 k ⟨256 * q.val + e.val, by omega⟩)) (r : Fin 512) (j : Fin 1024) :
    k0_pay2 (k0_pay11 x0 x1 x2) (k0_pay12 x0 x1 x2) (k0_pay13 x0 x1 x2) (k0_pay14 x0 x1 x2) (k0_pay15 x0 x1 x2) (k0_pay16 x0 x1 x2) (k0_pay17 x0 x1 x2) (k0_pay18 x0 x1 x2) x (ix2 r j) = zBlk x0 w x (ix2 r ⟨j.val, by omega⟩) * Ideal.logistic (zBlk x0 w x (ix2 r ⟨1024 + j.val, by omega⟩)) := by
  pointwise [k0_pay2]
  simp only [z_eq x0 x1 x2 x w hw]

/-- The first output ends with the reference's product and bias, every point writing its rows of it, -/
theorem final3 (c : Dev nD) : (dats m 0 c).arrAt 3 cfg0.N = rZ (aH m c) (m ((c.tc : Thread nD τ).loc main_arg1)) (m ((c.tc : Thread nD τ).loc main_arg2)) := by
  refine (dats m 0 c).arrAt_eq_of_covers 3 _ (by decide +kernel) fun t hf y => ?_
  obtain ⟨r, j, rfl⟩ : ∃ (r : Fin 512) (j : Fin 2048), y = ix2 r j := ⟨y 0, y 1, eq_ix2 y⟩
  have he : (win0_3.blk t).view.emb (ix2 r j) = ix2 (row 512 t.val r) j := eq_row (idx3 t).1 (idx3 t).2 (by have := lt16 t; omega) rfl rfl
  blk_simp [he]
  rw [after0_3, iblk0, iblk1, iblk2, rZ_apply, ← asRow_apply (m ((c.tc : Thread nD τ).loc main_arg2)), ← aB_eq]
  frame_out
  rw [z_eq _ _ _ _ (m ((c.tc : Thread nD τ).loc main_arg1)) (fun q k e => by rw [aW_eq, colBlocks_apply])]
  rfl

/-- and the second with the gated unit. -/
theorem final4 (c : Dev nD) : (dats m 0 c).arrAt 4 cfg0.N = rG (rZ (aH m c) (m ((c.tc : Thread nD τ).loc main_arg1)) (m ((c.tc : Thread nD τ).loc main_arg2))) := by
  refine (dats m 0 c).arrAt_eq_of_covers 4 _ (by decide +kernel) fun t hf y => ?_
  obtain ⟨r, j, rfl⟩ : ∃ (r : Fin 512) (j : Fin 1024), y = ix2 r j := ⟨y 0, y 1, eq_ix2 y⟩
  have he : (win0_4.blk t).view.emb (ix2 r j) = ix2 (row 512 t.val r) j := eq_row (idx4 t).1 (idx4 t).2 (by have := lt16 t; omega) rfl rfl
  blk_simp [he]
  rw [after0_4, iblk0, iblk1, iblk2, rG_apply]
  simp only [rZ_apply, ← asRow_apply (m ((c.tc : Thread nD τ).loc main_arg2))]
  rw [← aB_eq]
  frame_out
  rw [g_apply _ _ _ _ (m ((c.tc : Thread nD τ).loc main_arg1)) (fun q k e => by rw [aW_eq, colBlocks_apply])]
  rfl

/-- The kernel's run ends with the reference's two results. -/
theorem run (ρ : Dev nD → PrngReg) :
    θ_run defs (onTc (τ := τ) (main (F := Ideal))) ⟨m, fun _ => 0, ρ⟩ fun r => ∀ c : Dev nD,
      r.2.mem ((c.tc : Thread nD τ).loc main_v4_0) = rZ (m ((c.tc : Thread nD τ).loc main_arg0)) (m ((c.tc : Thread nD τ).loc main_arg1)) (m ((c.tc : Thread nD τ).loc main_arg2)) ∧
      r.2.mem ((c.tc : Thread nD τ).loc main_v4_1) = rG (rZ (m ((c.tc : Thread nD τ).loc main_arg0)) (m ((c.tc : Thread nD τ).loc main_arg1)) (m ((c.tc : Thread nD τ).loc main_arg2))) :=
  (θ_run defs _ _).mono (fun _ h c => by
    have e0 : aH m c = (m ((c.tc : Thread nD τ).loc main_arg0)) := V_main_arg0 m c
    exact ⟨((h c).1 3).trans ((final3 m c).trans (by rw [e0])), ((h c).1 4).trans ((final4 m c).trans (by rw [e0]))⟩) (run_main m ρ)

end Cert.Kernel18Ideal.Fwd
-- ==== Proof.S5GluMm.lean ====
module

public import proofs.«01_k».proof.Proof.Gen.Kernel19Ideal.Frame
public import proofs.«01_k».proof.Proof.Gen.Reference19Ideal.Run
public import proofs.«01_k».proof.Proof.Rows

/-! S5's output product, the gated unit, the residual stream and its norm: the kernel takes 512 rows at a time and the weight
in eight column blocks, the reference whole arrays. -/

@[expose] public section

set_option maxRecDepth 16384

noncomputable section

namespace Cert.Reference19Ideal.Fwd

open Cert.Reference19Ideal Cert.Reference19Ideal.Gen Idealize.ShloMosaic Idealize.ShloMosaic.TcCoe Idealize.SL.Sem Cert.Rows

/-- The reference's product, -/
def rZ (h : FVec Ideal S8192x1024 .bf16) (w : FVec Ideal S1024x2048 .f32) : FVec Ideal S8192x2048 .f32 :=
  Host.dotGeneral dot_S8192x1024_S1024x2048_S8192x2048_1_0_0_1_n_n none (extf .f32 h bitsLt_bf16_f32) w

/-- the stream with the gated unit added, -/
def rX (z : FVec Ideal S8192x2048 .f32) (x : FVec Ideal S8192x1024 .f32) : FVec Ideal S8192x1024 .f32 :=
  addf x (mulf (extractStridedSlice S8192x1024 ![0, 0] z slices_S8192x2048_S8192x1024_0_0) (Host.divf (broadcastInDim S8192x1024 ![] bcast_S_S8192x1024 (constant S_ .f32 0x3F800000#32)) (addf (broadcastInDim S8192x1024 ![] bcast_S_S8192x1024 (constant S_ .f32 0x3F800000#32)) (Host.exp (Host.negf (extractStridedSlice S8192x1024 ![0, 1024] z slices_S8192x2048_S8192x1024_0_1024))))))

/-- and its norm. -/
def rH (x : FVec Ideal S8192x1024 .f32) (g : FVec Ideal S1024 .f32) : FVec Ideal S8192x1024 .bf16 :=
  truncf .bf16 (mulf (mulf x (broadcastInDim S8192x1024 ![0, 1] bcast_S8192x1_S8192x1024_0_1 (Host.rsqrt (addf (Host.divf (broadcastInDim S8192x1 ![0] bcast_S8192_S8192x1_0 (Host.reduceAdd (mulf x x) (constant S_ .f32 0x00000000#32) reducesTo_S8192x1024_S8192_d1 h_S_)) (broadcastInDim S8192x1 ![] bcast_S_S8192x1 (constant S_ .f32 0x44800000#32))) (broadcastInDim S8192x1 ![] bcast_S_S8192x1 (constant S_ .f32 0x358637BD#32)))))) (broadcastInDim S8192x1024 ![0, 1] bcast_S1x1024_S8192x1024_0_1 (broadcastInDim S1x1024 ![1] bcast_S1024_S1x1024_1 g))) bitsLt_bf16_f32

theorem rZ_eq (h : FVec Ideal S8192x1024 .bf16) (w : FVec Ideal S1024x2048 .f32) : rZ h w = prod h w := by
  suffices hs : ∀ (i : Fin 8192) (j : Fin 2048), rZ h w (ix2 i j) = prod h w (ix2 i j) by
    funext y
    rw [eq_ix2 y]
    exact hs _ _
  intro i j
  pointwise [rZ, prod]

/-- An entry of the stream: the gated unit of a row, added to it. -/
def unit (x : EReal) (z : Fin 2048 → EReal) (j : Fin 1024) : EReal := x + z ⟨j.val, by omega⟩ * Ideal.logistic (z ⟨1024 + j.val, by omega⟩)

theorem rX_apply (z : FVec Ideal S8192x2048 .f32) (x : FVec Ideal S8192x1024 .f32) (i : Fin 8192) (j : Fin 1024) :
    rX z x (ix2 i j) = unit (x (ix2 i j)) (fun k => z (ix2 i k)) j := by
  pointwise [rX]
  rfl

theorem rH_apply (x : FVec Ideal S8192x1024 .f32) (g : FVec Ideal S1024 .f32) (i : Fin 8192) (j : Fin 1024) :
    rH x g (ix2 i j) = nrm (fun k => x (ix2 i k)) (g (ix1 j)) j := by
  unfold nrm
  pointwise [rH]

/-- The reference's run ends with the three. -/
theorem run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v1) = rZ (m ((c.tc : Thread nD τ).loc main_arg0)) (m ((c.tc : Thread nD τ).loc main_arg1)) ∧
      r.2.mem ((c.tc : Thread nD τ).loc main_v11) = rX (rZ (m ((c.tc : Thread nD τ).loc main_arg0)) (m ((c.tc : Thread nD τ).loc main_arg1))) (m ((c.tc : Thread nD τ).loc main_arg2)) ∧
      r.2.mem ((c.tc : Thread nD τ).loc main_v25) = rH (rX (rZ (m ((c.tc : Thread nD τ).loc main_arg0)) (m ((c.tc : Thread nD τ).loc main_arg1))) (m ((c.tc : Thread nD τ).loc main_arg2))) (m ((c.tc : Thread nD τ).loc main_arg3)) :=
  (θ_run defs _ _).mono (fun _ h c => ⟨(h c).1.trans (by unfold rZ; rfl), (h c).2.1.trans (by unfold rX rZ; rfl), (h c).2.2.1.trans (by unfold rH rX rZ; rfl)⟩) (Value.run (F := Ideal) m ρ)

end Cert.Reference19Ideal.Fwd

namespace Cert.Kernel19Ideal.Fwd

open Cert.Kernel19Ideal Cert.Kernel19Ideal.Gen Idealize.ShloMosaic Idealize.ShloMosaic.TcCoe Idealize.SL.Sem Cert.Rows
open Idealize.ShloMosaic.Pipeline (Dat)
open Cert.Reference19Ideal.Fwd (rZ rX rH rZ_eq rX_apply rH_apply unit)

variable (m : (ℓ : Loc nD τ sig) → Buf (Elt Ideal) ℓ)

/-- The arrays the region reads: the hidden array, the weight, the residual stream and the gain of the norm. -/
abbrev aH (c : Dev nD) : Vec Ideal S8192x1024 .bf16 := V m c main_arg0
abbrev aW (c : Dev nD) : Vec Ideal S8x1024x256 .bf16 := V m c main_v2
abbrev aX (c : Dev nD) : Vec Ideal S8192x1024 .f32 := V m c main_arg2
abbrev aG (c : Dev nD) : Vec Ideal S1x1024 .f32 := V m c main_v3

theorem lt16 (t : Fin cfg0.N) : t.val < 16 := lt_of_lt_of_eq t.isLt N_0

/-- The weight cut into column blocks. -/
def colBlocks (w : FVec Ideal S1024x2048 .f32) : FVec Ideal S8x1024x256 .bf16 :=
  transpose S8x1024x256 [1, 0, 2] (shapeCast S1024x8x256 (truncf .bf16 w bitsLt_bf16_f32) shapeCasts_S1024x2048_S1024x8x256) transposes_S1024x8x256_S8x1024x256_1_0_2

theorem colBlocks_apply (w : FVec Ideal S1024x2048 .f32) (q : Fin 8) (k : Fin 1024) (e : Fin 256) : colBlocks w (ix3 q k e) = w (ix2 k ⟨256 * q.val + e.val, by omega⟩) := by
  pointwise [colBlocks]
  exact congrArg w (congrArg (ix2 k) (Fin.ext (by show q.val * 256 + e.val = 256 * q.val + e.val; omega)))

/-- The weight is read as launched, but for its place: narrowing is the identity over the extended reals. -/
theorem aW_eq (c : Dev nD) : aW m c = colBlocks (m ((c.tc : Thread nD τ).loc main_arg1)) := by
  show StableHlo.after hostOps0 (fun b => m (c, b)) (Proc.devRef .tc main_v2) = _
  simp only [hostOps0, StableHlo.TRef.binary, StableHlo.TRef.nullary, StableHlo.TRef.ternary, StableHlo.TRef.unary, StableHlo.TRef.toBuf, StableHlo.TRef.ofBuf, cast_eq]
  after_results_simp
  rfl

/-- A vector as one row. -/
def asRow (g : FVec Ideal S1024 .f32) : FVec Ideal S1x1024 .f32 := shapeCast S1x1024 g shapeCasts_S1024_S1x1024

theorem asRow_apply (g : FVec Ideal S1024 .f32) (j : Fin 1024) : asRow g (ix2 0 j) = g (ix1 j) := by
  pointwise [asRow]

theorem aG_eq (c : Dev nD) : aG m c = asRow (m ((c.tc : Thread nD τ).loc main_arg3)) := by
  show StableHlo.after hostOps0 (fun b => m (c, b)) (Proc.devRef .tc main_v3) = _
  simp only [hostOps0, StableHlo.TRef.binary, StableHlo.TRef.nullary, StableHlo.TRef.ternary, StableHlo.TRef.unary, StableHlo.TRef.toBuf, StableHlo.TRef.ofBuf, cast_eq]
  after_results_simp
  rfl

theorem idx0 : ∀ t : Fin grid0.N, win0_0.index t 0 = t.val ∧ win0_0.index t 1 = 0 := by decide +kernel
theorem idx1 : ∀ t : Fin grid0.N, win0_1.index t 0 = 0 ∧ win0_1.index t 1 = 0 ∧ win0_1.index t 2 = 0 := by decide +kernel
theorem idx2 : ∀ t : Fin grid0.N, win0_2.index t 0 = t.val ∧ win0_2.index t 1 = 0 := by decide +kernel
theorem idx3 : ∀ t : Fin grid0.N, win0_3.index t 0 = 0 ∧ win0_3.index t 1 = 0 := by decide +kernel
theorem idx4 : ∀ t : Fin grid0.N, win0_4.index t 0 = t.val ∧ win0_4.index t 1 = 0 := by decide +kernel
theorem idx5 : ∀ t : Fin grid0.N, win0_5.index t 0 = t.val ∧ win0_5.index t 1 = 0 := by decide +kernel
theorem idx6 : ∀ t : Fin grid0.N, win0_6.index t 0 = t.val ∧ win0_6.index t 1 = 0 := by decide +kernel

/-- Point `t` reads chunk `t` of operand 0. -/
theorem iblk0 (c : Dev nD) (t : Fin cfg0.N) : (iblk m c 0 t : Vec Ideal S512x1024 .bf16) = rows 512 (aH m c) t.val := by
  funext y
  unfold iblk
  rw [View.read_apply]
  exact congrArg (aH m c) (eq_row (idx0 t).1 (idx0 t).2 (by have := lt16 t; omega) rfl rfl)

/-- It reads operand 1 whole. -/
theorem iblk1 (c : Dev nD) (t : Fin cfg0.N) : (iblk m c 1 t : Vec Ideal S8x1024x256 .bf16) = aW m c := by
  funext y
  unfold iblk
  rw [View.read_apply]
  exact congrArg (aW m c) (eq_whole3 (idx1 t).1 (idx1 t).2.1 (idx1 t).2.2 rfl rfl rfl)

/-- Point `t` reads chunk `t` of operand 2. -/
theorem iblk2 (c : Dev nD) (t : Fin cfg0.N) : (iblk m c 2 t : Vec Ideal S512x1024 .f32) = rows 512 (aX m c) t.val := by
  funext y
  unfold iblk
  rw [View.read_apply]
  exact congrArg (aX m c) (eq_row (idx2 t).1 (idx2 t).2 (by have := lt16 t; omega) rfl rfl)

/-- It reads operand 3 whole. -/
theorem iblk3 (c : Dev nD) (t : Fin cfg0.N) : (iblk m c 3 t : Vec Ideal S1x1024 .f32) = aG m c := by
  funext y
  unfold iblk
  rw [View.read_apply]
  exact congrArg (aG m c) (eq_whole (idx3 t).1 (idx3 t).2 rfl rfl)

/-- The eight column blocks of the product, side by side, are the product. -/
theorem cat_eq (x0 : Vec Ideal S512x1024 .bf16) (x1 : Vec Ideal S8x1024x256 .bf16) (x2 : Vec Ideal S512x1024 .f32) (x3 : Vec Ideal S1x1024 .f32) (w : FVec Ideal S1024x2048 .f32)
    (hw : ∀ (q : Fin 8) (k : Fin 1024) (e : Fin 256), x1 (ix3 q k e) = w (ix2 k ⟨256 * q.val + e.val, by omega⟩)) :
    concatenate S512x2048 1 [⟨S512x256, k0_pay12 x0 x1 x2 x3⟩, ⟨S512x256, k0_pay13 x0 x1 x2 x3⟩, ⟨S512x256, k0_pay14 x0 x1 x2 x3⟩, ⟨S512x256, k0_pay15 x0 x1 x2 x3⟩, ⟨S512x256, k0_pay16 x0 x1 x2 x3⟩, ⟨S512x256, k0_pay17 x0 x1 x2 x3⟩, ⟨S512x256, k0_pay18 x0 x1 x2 x3⟩, ⟨S512x256, k0_pay19 x0 x1 x2 x3⟩]
      concatenates_S512x256_S512x256_S512x256_S512x256_S512x256_S512x256_S512x256_S512x256_S512x2048_d1 = prod x0 w := by
  refine cat8 (k0_pay12 x0 x1 x2 x3) (k0_pay13 x0 x1 x2 x3) (k0_pay14 x0 x1 x2 x3) (k0_pay15 x0 x1 x2 x3) (k0_pay16 x0 x1 x2 x3) (k0_pay17 x0 x1 x2 x3) (k0_pay18 x0 x1 x2 x3) (k0_pay19 x0 x1 x2 x3) (prod x0 w) ?_ ?_ ?_ ?_ ?_ ?_ ?_ ?_ _
  · intro r e; unfold k0_pay12; pointwise [k0_pay4, prod]; simp only [hw]; exact Finset.sum_congr rfl fun k _ => congrArg (fun p => x0 (ix2 r k) * w (ix2 k p)) (Fin.ext (show 256 * 0 + e.val = e.val by omega))
  · intro r e; unfold k0_pay13; pointwise [k0_pay5, prod]; simp only [hw]; rfl
  · intro r e; unfold k0_pay14; pointwise [k0_pay6, prod]; simp only [hw]; rfl
  · intro r e; unfold k0_pay15; pointwise [k0_pay7, prod]; simp only [hw]; rfl
  · intro r e; unfold k0_pay16; pointwise [k0_pay8, prod]; simp only [hw]; rfl
  · intro r e; unfold k0_pay17; pointwise [k0_pay9, prod]; simp only [hw]; rfl
  · intro r e; unfold k0_pay18; pointwise [k0_pay10, prod]; simp only [hw]; rfl
  · intro r e; unfold k0_pay19; pointwise [k0_pay11, prod]; simp only [hw]; rfl

theorem z_eq (x0 : Vec Ideal S512x1024 .bf16) (x1 : Vec Ideal S8x1024x256 .bf16) (x2 : Vec Ideal S512x1024 .f32) (x3 : Vec Ideal S1x1024 .f32) (w : FVec Ideal S1024x2048 .f32)
    (hw : ∀ (q : Fin 8) (k : Fin 1024) (e : Fin 256), x1 (ix3 q k e) = w (ix2 k ⟨256 * q.val + e.val, by omega⟩)) : k0_pay1 (k0_pay12 x0 x1 x2 x3) (k0_pay13 x0 x1 x2 x3) (k0_pay14 x0 x1 x2 x3) (k0_pay15 x0 x1 x2 x3) (k0_pay16 x0 x1 x2 x3) (k0_pay17 x0 x1 x2 x3) (k0_pay18 x0 x1 x2 x3) (k0_pay19 x0 x1 x2 x3) = prod x0 w := by
  unfold k0_pay1
  dsimp only
  exact cat_eq x0 x1 x2 x3 w hw

theorem x_apply (x0 : Vec Ideal S512x1024 .bf16) (x1 : Vec Ideal S8x1024x256 .bf16) (x2 : Vec Ideal S512x1024 .f32) (x3 : Vec Ideal S1x1024 .f32) (x : Vec Ideal S512x1024 .f32) (w : FVec Ideal S1024x2048 .f32)
    (hw : ∀ (q : Fin 8) (k : Fin 1024) (e : Fin 256), x1 (ix3 q k e) = w (ix2 k ⟨256 * q.val + e.val, by omega⟩)) (r : Fin 512) (j : Fin 1024) :
    k0_pay2 (k0_pay12 x0 x1 x2 x3) (k0_pay13 x0 x1 x2 x3) (k0_pay14 x0 x1 x2 x3) (k0_pay15 x0 x1 x2 x3) (k0_pay16 x0 x1 x2 x3) (k0_pay17 x0 x1 x2 x3) (k0_pay18 x0 x1 x2 x3) (k0_pay19 x0 x1 x2 x3) x (ix2 r j) = unit (x (ix2 r j)) (fun k => prod x0 w (ix2 r k)) j := by
  pointwise [k0_pay2]
  simp only [z_eq x0 x1 x2 x3 w hw]
  rfl

theorem h_apply (x0 : Vec Ideal S512x1024 .bf16) (x1 : Vec Ideal S8x1024x256 .bf16) (x2 : Vec Ideal S512x1024 .f32) (x3 : Vec Ideal S1x1024 .f32) (x : Vec Ideal S512x1024 .f32) (g : Vec Ideal S1x1024 .f32) (w : FVec Ideal S1024x2048 .f32)
    (hw : ∀ (q : Fin 8) (k : Fin 1024) (e : Fin 256), x1 (ix3 q k e) = w (ix2 k ⟨256 * q.val + e.val, by omega⟩)) (r : Fin 512) (j : Fin 1024) :
    k0_pay3 (k0_pay12 x0 x1 x2 x3) (k0_pay13 x0 x1 x2 x3) (k0_pay14 x0 x1 x2 x3) (k0_pay15 x0 x1 x2 x3) (k0_pay16 x0 x1 x2 x3) (k0_pay17 x0 x1 x2 x3) (k0_pay18 x0 x1 x2 x3) (k0_pay19 x0 x1 x2 x3) x g (ix2 r j) = nrm (fun j => unit (x (ix2 r j)) (fun k => prod x0 w (ix2 r k)) j) (g (ix2 0 j)) j := by
  pointwise [k0_pay3]
  simp only [x_apply x0 x1 x2 x3 x w hw]
  rfl

/-- The first output ends with the reference's product, every point writing its rows of it, -/
theorem final4 (c : Dev nD) : (dats m 0 c).arrAt 4 cfg0.N = rZ (aH m c) (m ((c.tc : Thread nD τ).loc main_arg1)) := by
  refine (dats m 0 c).arrAt_eq_of_covers 4 _ (by decide +kernel) fun t hf y => ?_
  obtain ⟨r, j, rfl⟩ : ∃ (r : Fin 512) (j : Fin 2048), y = ix2 r j := ⟨y 0, y 1, eq_ix2 y⟩
  have he : (win0_4.blk t).view.emb (ix2 r j) = ix2 (row 512 t.val r) j := eq_row (idx4 t).1 (idx4 t).2 (by have := lt16 t; omega) rfl rfl
  blk_simp [he]
  rw [after0_4, iblk0, iblk1, iblk2, iblk3, rZ_eq]
  frame_out
  rw [z_eq _ _ _ _ (m ((c.tc : Thread nD τ).loc main_arg1)) (fun q k e => by rw [aW_eq, colBlocks_apply])]
  rfl

/-- the second with the stream -/
theorem final5 (c : Dev nD) : (dats m 0 c).arrAt 5 cfg0.N = rX (rZ (aH m c) (m ((c.tc : Thread nD τ).loc main_arg1))) (aX m c) := by
  refine (dats m 0 c).arrAt_eq_of_covers 5 _ (by decide +kernel) fun t hf y => ?_
  obtain ⟨r, j, rfl⟩ : ∃ (r : Fin 512) (j : Fin 1024), y = ix2 r j := ⟨y 0, y 1, eq_ix2 y⟩
  have he : (win0_5.blk t).view.emb (ix2 r j) = ix2 (row 512 t.val r) j := eq_row (idx5 t).1 (idx5 t).2 (by have := lt16 t; omega) rfl rfl
  blk_simp [he]
  rw [after0_5, iblk0, iblk1, iblk2, iblk3, rX_apply, rZ_eq]
  frame_out
  rw [x_apply _ _ _ _ _ (m ((c.tc : Thread nD τ).loc main_arg1)) (fun q k e => by rw [aW_eq, colBlocks_apply])]
  rfl

/-- and the third with its norm. -/
theorem final6 (c : Dev nD) : (dats m 0 c).arrAt 6 cfg0.N = rH (rX (rZ (aH m c) (m ((c.tc : Thread nD τ).loc main_arg1))) (aX m c)) (m ((c.tc : Thread nD τ).loc main_arg3)) := by
  refine (dats m 0 c).arrAt_eq_of_covers 6 _ (by decide +kernel) fun t hf y => ?_
  obtain ⟨r, j, rfl⟩ : ∃ (r : Fin 512) (j : Fin 1024), y = ix2 r j := ⟨y 0, y 1, eq_ix2 y⟩
  have he : (win0_6.blk t).view.emb (ix2 r j) = ix2 (row 512 t.val r) j := eq_row (idx6 t).1 (idx6 t).2 (by have := lt16 t; omega) rfl rfl
  blk_simp [he]
  rw [after0_6, iblk0, iblk1, iblk2, iblk3, rH_apply, rZ_eq]
  simp only [rX_apply]
  frame_out
  rw [h_apply _ _ _ _ _ _ (m ((c.tc : Thread nD τ).loc main_arg1)) (fun q k e => by rw [aW_eq, colBlocks_apply]), aG_eq, asRow_apply]
  rfl

/-- The kernel's run ends with the reference's three results. -/
theorem run (ρ : Dev nD → PrngReg) :
    θ_run defs (onTc (τ := τ) (main (F := Ideal))) ⟨m, fun _ => 0, ρ⟩ fun r => ∀ c : Dev nD,
      r.2.mem ((c.tc : Thread nD τ).loc main_v4_0) = rZ (m ((c.tc : Thread nD τ).loc main_arg0)) (m ((c.tc : Thread nD τ).loc main_arg1)) ∧
      r.2.mem ((c.tc : Thread nD τ).loc main_v4_1) = rX (rZ (m ((c.tc : Thread nD τ).loc main_arg0)) (m ((c.tc : Thread nD τ).loc main_arg1))) (m ((c.tc : Thread nD τ).loc main_arg2)) ∧
      r.2.mem ((c.tc : Thread nD τ).loc main_v4_2) = rH (rX (rZ (m ((c.tc : Thread nD τ).loc main_arg0)) (m ((c.tc : Thread nD τ).loc main_arg1))) (m ((c.tc : Thread nD τ).loc main_arg2))) (m ((c.tc : Thread nD τ).loc main_arg3)) :=
  (θ_run defs _ _).mono (fun _ h c => by
    have e0 : aH m c = (m ((c.tc : Thread nD τ).loc main_arg0)) := V_main_arg0 m c
    have e2 : aX m c = (m ((c.tc : Thread nD τ).loc main_arg2)) := V_main_arg2 m c
    exact ⟨((h c).1 4).trans ((final4 m c).trans (by rw [e0])), ((h c).1 5).trans ((final5 m c).trans (by rw [e0, e2])), ((h c).1 6).trans ((final6 m c).trans (by rw [e0, e2]))⟩) (run_main m ρ)

end Cert.Kernel19Ideal.Fwd
-- ==== Proof.GmlpIn.lean ====
module

public import proofs.«01_k».proof.Proof.Gen.Kernel20Ideal.Frame
public import proofs.«01_k».proof.Proof.Gen.Reference20Ideal.Run
public import proofs.«01_k».proof.Proof.Rows

/-! The gating unit's input product, its gelu, and the norm of its second half: the kernel takes 512 rows at a time and the weight
in eight column blocks, the reference whole arrays. -/

@[expose] public section

set_option maxRecDepth 16384

noncomputable section

namespace Cert.Reference20Ideal.Fwd

open Cert.Reference20Ideal Cert.Reference20Ideal.Gen Idealize.ShloMosaic Idealize.ShloMosaic.TcCoe Idealize.SL.Sem Cert.Rows

/-- The reference's product, -/
def rZ (h : FVec Ideal S8192x1024 .bf16) (w : FVec Ideal S1024x2048 .f32) : FVec Ideal S8192x2048 .f32 :=
  Host.dotGeneral dot_S8192x1024_S1024x2048_S8192x2048_1_0_0_1_n_n none (extf .f32 h bitsLt_bf16_f32) w

/-- its gelu, -/
def rA (z : FVec Ideal S8192x2048 .f32) : FVec Ideal S8192x2048 .f32 :=
  mulf z (mulf (broadcastInDim S8192x2048 ![] bcast_S_S8192x2048 (constant S_ .f32 0x3F000000#32)) (addf (broadcastInDim S8192x2048 ![] bcast_S_S8192x2048 (constant S_ .f32 0x3F800000#32)) (Host.tanh (mulf (broadcastInDim S8192x2048 ![] bcast_S_S8192x2048 (constant S_ .f32 0x3F4C422A#32)) (addf z (mulf (broadcastInDim S8192x2048 ![] bcast_S_S8192x2048 (constant S_ .f32 0x3D372713#32)) (mulf (mulf z z) z)))))))

/-- the gelu's first half, -/
def rU (a : FVec Ideal S8192x2048 .f32) : FVec Ideal S8192x1024 .f32 := extractStridedSlice S8192x1024 ![0, 0] a slices_S8192x2048_S8192x1024_0_0

/-- its second half, -/
def rS (a : FVec Ideal S8192x2048 .f32) : FVec Ideal S8192x1024 .f32 := extractStridedSlice S8192x1024 ![0, 1024] a slices_S8192x2048_S8192x1024_0_1024

/-- and the second half's norm. -/
def rV (v : FVec Ideal S8192x1024 .f32) (g b : FVec Ideal S1024 .f32) : FVec Ideal S8192x1024 .bf16 :=
  truncf .bf16 (addf (mulf (mulf (subf v (broadcastInDim S8192x1024 ![0, 1] bcast_S8192x1_S8192x1024_0_1 (Host.divf (broadcastInDim S8192x1 ![0] bcast_S8192_S8192x1_0 (Host.reduceAdd v (constant S_ .f32 0x00000000#32) reducesTo_S8192x1024_S8192_d1 h_S_)) (broadcastInDim S8192x1 ![] bcast_S_S8192x1 (constant S_ .f32 0x44800000#32))))) (broadcastInDim S8192x1024 ![0, 1] bcast_S8192x1_S8192x1024_0_1 (Host.rsqrt (addf (Host.divf (broadcastInDim S8192x1 ![0] bcast_S8192_S8192x1_0 (Host.reduceAdd (mulf (subf v (broadcastInDim S8192x1024 ![0, 1] bcast_S8192x1_S8192x1024_0_1 (Host.divf (broadcastInDim S8192x1 ![0] bcast_S8192_S8192x1_0 (Host.reduceAdd v (constant S_ .f32 0x00000000#32) reducesTo_S8192x1024_S8192_d1 h_S_)) (broadcastInDim S8192x1 ![] bcast_S_S8192x1 (constant S_ .f32 0x44800000#32))))) (subf v (broadcastInDim S8192x1024 ![0, 1] bcast_S8192x1_S8192x1024_0_1 (Host.divf (broadcastInDim S8192x1 ![0] bcast_S8192_S8192x1_0 (Host.reduceAdd v (constant S_ .f32 0x00000000#32) reducesTo_S8192x1024_S8192_d1 h_S_)) (broadcastInDim S8192x1 ![] bcast_S_S8192x1 (constant S_ .f32 0x44800000#32)))))) (constant S_ .f32 0x00000000#32) reducesTo_S8192x1024_S8192_d1 h_S_)) (broadcastInDim S8192x1 ![] bcast_S_S8192x1 (constant S_ .f32 0x44800000#32))) (broadcastInDim S8192x1 ![] bcast_S_S8192x1 (constant S_ .f32 0x358637BD#32)))))) (broadcastInDim S8192x1024 ![0, 1] bcast_S1x1024_S8192x1024_0_1 (broadcastInDim S1x1024 ![1] bcast_S1024_S1x1024_1 g))) (broadcastInDim S8192x1024 ![0, 1] bcast_S1x1024_S8192x1024_0_1 (broadcastInDim S1x1024 ![1] bcast_S1024_S1x1024_1 b))) bitsLt_bf16_f32

theorem rZ_eq (h : FVec Ideal S8192x1024 .bf16) (w : FVec Ideal S1024x2048 .f32) : rZ h w = prod h w := by
  suffices hs : ∀ (i : Fin 8192) (j : Fin 2048), rZ h w (ix2 i j) = prod h w (ix2 i j) by
    funext y
    rw [eq_ix2 y]
    exact hs _ _
  intro i j
  pointwise [rZ, prod]

/-- The gelu of a number. -/
def gelu (z : EReal) : EReal :=
  z * (Ideal.ofBits FTy.f32 1056964608#32 * (1 + Ideal.tanh (Ideal.ofBits FTy.f32 1061962282#32 * (z + Ideal.ofBits FTy.f32 1027024659#32 * (z * (z * z))))))

theorem rA_apply (z : FVec Ideal S8192x2048 .f32) (i : Fin 8192) (j : Fin 2048) : rA z (ix2 i j) = gelu (z (ix2 i j)) := by
  unfold gelu
  pointwise [rA]
  rw [mul_comm (z (ix2 i j) * z (ix2 i j)) (z (ix2 i j))]

theorem rU_apply (a : FVec Ideal S8192x2048 .f32) (i : Fin 8192) (j : Fin 1024) : rU a (ix2 i j) = a (ix2 i ⟨j.val, by omega⟩) := by
  pointwise [rU]

theorem rS_apply (a : FVec Ideal S8192x2048 .f32) (i : Fin 8192) (j : Fin 1024) : rS a (ix2 i j) = a (ix2 i ⟨1024 + j.val, by omega⟩) := by
  pointwise [rS]

/-- Entry `j` of a row less its mean, over the root of the mean square of such, scaled and shifted. -/
def lnrm (x : Fin 1024 → EReal) (g b : EReal) (j : Fin 1024) : EReal :=
  (x j - Ideal.div (∑ k : Fin 1024, x k) (Ideal.ofBits FTy.f32 1149239296#32)) * Ideal.rsqrt (Ideal.div (∑ k : Fin 1024, (x k - Ideal.div (∑ l : Fin 1024, x l) (Ideal.ofBits FTy.f32 1149239296#32)) * (x k - Ideal.div (∑ l : Fin 1024, x l) (Ideal.ofBits FTy.f32 1149239296#32))) (Ideal.ofBits FTy.f32 1149239296#32) + Ideal.ofBits FTy.f32 897988541#32) * g + b

theorem rV_apply (v : FVec Ideal S8192x1024 .f32) (g b : FVec Ideal S1024 .f32) (i : Fin 8192) (j : Fin 1024) :
    rV v g b (ix2 i j) = lnrm (fun k => v (ix2 i k)) (g (ix1 j)) (b (ix1 j)) j := by
  unfold lnrm
  pointwise [rV]

/-- The reference's run ends with the three. -/
theorem run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v1) = rZ (m ((c.tc : Thread nD τ).loc main_arg0)) (m ((c.tc : Thread nD τ).loc main_arg1)) ∧
      r.2.mem ((c.tc : Thread nD τ).loc main_v15) = rU (rA (rZ (m ((c.tc : Thread nD τ).loc main_arg0)) (m ((c.tc : Thread nD τ).loc main_arg1)))) ∧
      r.2.mem ((c.tc : Thread nD τ).loc main_v41) = rV (rS (rA (rZ (m ((c.tc : Thread nD τ).loc main_arg0)) (m ((c.tc : Thread nD τ).loc main_arg1))))) (m ((c.tc : Thread nD τ).loc main_arg2)) (m ((c.tc : Thread nD τ).loc main_arg3)) :=
  (θ_run defs _ _).mono (fun _ h c => ⟨(h c).1.trans (by unfold rZ; rfl), (h c).2.1.trans (by unfold rU rA rZ; rfl), (h c).2.2.1.trans (by unfold Value.res_main_v41 rV rS rA rZ; rfl)⟩) (Value.run (F := Ideal) m ρ)

end Cert.Reference20Ideal.Fwd

namespace Cert.Kernel20Ideal.Fwd

open Cert.Kernel20Ideal Cert.Kernel20Ideal.Gen Idealize.ShloMosaic Idealize.ShloMosaic.TcCoe Idealize.SL.Sem Cert.Rows
open Idealize.ShloMosaic.Pipeline (Dat)
open Cert.Reference20Ideal.Fwd (rZ rA rU rS rV rZ_eq rA_apply rU_apply rS_apply rV_apply gelu lnrm)

variable (m : (ℓ : Loc nD τ sig) → Buf (Elt Ideal) ℓ)

/-- The arrays the region reads: the hidden array, the weight, and the gain and bias of the norm. -/
abbrev aH (c : Dev nD) : Vec Ideal S8192x1024 .bf16 := V m c main_arg0
abbrev aW (c : Dev nD) : Vec Ideal S8x1024x256 .bf16 := V m c main_v2
abbrev aG (c : Dev nD) : Vec Ideal S1x1024 .f32 := V m c main_v3
abbrev aB (c : Dev nD) : Vec Ideal S1x1024 .f32 := V m c main_v4

theorem lt16 (t : Fin cfg0.N) : t.val < 16 := lt_of_lt_of_eq t.isLt N_0

/-- The weight cut into column blocks. -/
def colBlocks (w : FVec Ideal S1024x2048 .f32) : FVec Ideal S8x1024x256 .bf16 :=
  transpose S8x1024x256 [1, 0, 2] (shapeCast S1024x8x256 (truncf .bf16 w bitsLt_bf16_f32) shapeCasts_S1024x2048_S1024x8x256) transposes_S1024x8x256_S8x1024x256_1_0_2

theorem colBlocks_apply (w : FVec Ideal S1024x2048 .f32) (q : Fin 8) (k : Fin 1024) (e : Fin 256) : colBlocks w (ix3 q k e) = w (ix2 k ⟨256 * q.val + e.val, by omega⟩) := by
  pointwise [colBlocks]
  exact congrArg w (congrArg (ix2 k) (Fin.ext (by show q.val * 256 + e.val = 256 * q.val + e.val; omega)))

/-- The weight is read as launched, but for its place: narrowing is the identity over the extended reals. -/
theorem aW_eq (c : Dev nD) : aW m c = colBlocks (m ((c.tc : Thread nD τ).loc main_arg1)) := by
  show StableHlo.after hostOps0 (fun b => m (c, b)) (Proc.devRef .tc main_v2) = _
  simp only [hostOps0, StableHlo.TRef.binary, StableHlo.TRef.nullary, StableHlo.TRef.ternary, StableHlo.TRef.unary, StableHlo.TRef.toBuf, StableHlo.TRef.ofBuf, cast_eq]
  after_results_simp
  rfl

/-- A vector as one row. -/
def asRow (g : FVec Ideal S1024 .f32) : FVec Ideal S1x1024 .f32 := shapeCast S1x1024 g shapeCasts_S1024_S1x1024

theorem asRow_apply (g : FVec Ideal S1024 .f32) (j : Fin 1024) : asRow g (ix2 0 j) = g (ix1 j) := by
  pointwise [asRow]

theorem aG_eq (c : Dev nD) : aG m c = asRow (m ((c.tc : Thread nD τ).loc main_arg2)) := by
  show StableHlo.after hostOps0 (fun b => m (c, b)) (Proc.devRef .tc main_v3) = _
  simp only [hostOps0, StableHlo.TRef.binary, StableHlo.TRef.nullary, StableHlo.TRef.ternary, StableHlo.TRef.unary, StableHlo.TRef.toBuf, StableHlo.TRef.ofBuf, cast_eq]
  after_results_simp
  rfl

theorem aB_eq (c : Dev nD) : aB m c = asRow (m ((c.tc : Thread nD τ).loc main_arg3)) := by
  show StableHlo.after hostOps0 (fun b => m (c, b)) (Proc.devRef .tc main_v4) = _
  simp only [hostOps0, StableHlo.TRef.binary, StableHlo.TRef.nullary, StableHlo.TRef.ternary, StableHlo.TRef.unary, StableHlo.TRef.toBuf, StableHlo.TRef.ofBuf, cast_eq]
  after_results_simp
  rfl

theorem idx0 : ∀ t : Fin grid0.N, win0_0.index t 0 = t.val ∧ win0_0.index t 1 = 0 := by decide +kernel
theorem idx1 : ∀ t : Fin grid0.N, win0_1.index t 0 = 0 ∧ win0_1.index t 1 = 0 ∧ win0_1.index t 2 = 0 := by decide +kernel
theorem idx2 : ∀ t : Fin grid0.N, win0_2.index t 0 = 0 ∧ win0_2.index t 1 = 0 := by decide +kernel
theorem idx3 : ∀ t : Fin grid0.N, win0_3.index t 0 = 0 ∧ win0_3.index t 1 = 0 := by decide +kernel
theorem idx4 : ∀ t : Fin grid0.N, win0_4.index t 0 = t.val ∧ win0_4.index t 1 = 0 := by decide +kernel
theorem idx5 : ∀ t : Fin grid0.N, win0_5.index t 0 = t.val ∧ win0_5.index t 1 = 0 := by decide +kernel
theorem idx6 : ∀ t : Fin grid0.N, win0_6.index t 0 = t.val ∧ win0_6.index t 1 = 0 := by decide +kernel

/-- Point `t` reads chunk `t` of operand 0. -/
theorem iblk0 (c : Dev nD) (t : Fin cfg0.N) : (iblk m c 0 t : Vec Ideal S512x1024 .bf16) = rows 512 (aH m c) t.val := by
  funext y
  unfold iblk
  rw [View.read_apply]
  exact congrArg (aH m c) (eq_row (idx0 t).1 (idx0 t).2 (by have := lt16 t; omega) rfl rfl)

/-- It reads operand 1 whole. -/
theorem iblk1 (c : Dev nD) (t : Fin cfg0.N) : (iblk m c 1 t : Vec Ideal S8x1024x256 .bf16) = aW m c := by
  funext y
  unfold iblk
  rw [View.read_apply]
  exact congrArg (aW m c) (eq_whole3 (idx1 t).1 (idx1 t).2.1 (idx1 t).2.2 rfl rfl rfl)

/-- It reads operand 2 whole. -/
theorem iblk2 (c : Dev nD) (t : Fin cfg0.N) : (iblk m c 2 t : Vec Ideal S1x1024 .f32) = aG m c := by
  funext y
  unfold iblk
  rw [View.read_apply]
  exact congrArg (aG m c) (eq_whole (idx2 t).1 (idx2 t).2 rfl rfl)

/-- It reads operand 3 whole. -/
theorem iblk3 (c : Dev nD) (t : Fin cfg0.N) : (iblk m c 3 t : Vec Ideal S1x1024 .f32) = aB m c := by
  funext y
  unfold iblk
  rw [View.read_apply]
  exact congrArg (aB m c) (eq_whole (idx3 t).1 (idx3 t).2 rfl rfl)

/-- The eight column blocks of the product, side by side, are the product. -/
theorem cat_eq (x0 : Vec Ideal S512x1024 .bf16) (x1 : Vec Ideal S8x1024x256 .bf16) (x2 : Vec Ideal S1x1024 .f32) (x3 : Vec Ideal S1x1024 .f32) (w : FVec Ideal S1024x2048 .f32)
    (hw : ∀ (q : Fin 8) (k : Fin 1024) (e : Fin 256), x1 (ix3 q k e) = w (ix2 k ⟨256 * q.val + e.val, by omega⟩)) :
    concatenate S512x2048 1 [⟨S512x256, k0_pay14 x0 x1 x2 x3⟩, ⟨S512x256, k0_pay15 x0 x1 x2 x3⟩, ⟨S512x256, k0_pay16 x0 x1 x2 x3⟩, ⟨S512x256, k0_pay17 x0 x1 x2 x3⟩, ⟨S512x256, k0_pay18 x0 x1 x2 x3⟩, ⟨S512x256, k0_pay19 x0 x1 x2 x3⟩, ⟨S512x256, k0_pay20 x0 x1 x2 x3⟩, ⟨S512x256, k0_pay21 x0 x1 x2 x3⟩]
      concatenates_S512x256_S512x256_S512x256_S512x256_S512x256_S512x256_S512x256_S512x256_S512x2048_d1 = prod x0 w := by
  refine cat8 (k0_pay14 x0 x1 x2 x3) (k0_pay15 x0 x1 x2 x3) (k0_pay16 x0 x1 x2 x3) (k0_pay17 x0 x1 x2 x3) (k0_pay18 x0 x1 x2 x3) (k0_pay19 x0 x1 x2 x3) (k0_pay20 x0 x1 x2 x3) (k0_pay21 x0 x1 x2 x3) (prod x0 w) ?_ ?_ ?_ ?_ ?_ ?_ ?_ ?_ _
  · intro r e; unfold k0_pay14; pointwise [k0_pay2, prod]; simp only [hw]; exact Finset.sum_congr rfl fun k _ => congrArg (fun p => x0 (ix2 r k) * w (ix2 k p)) (Fin.ext (show 256 * 0 + e.val = e.val by omega))
  · intro r e; unfold k0_pay15; pointwise [k0_pay3, prod]; simp only [hw]; rfl
  · intro r e; unfold k0_pay16; pointwise [k0_pay4, prod]; simp only [hw]; rfl
  · intro r e; unfold k0_pay17; pointwise [k0_pay5, prod]; simp only [hw]; rfl
  · intro r e; unfold k0_pay18; pointwise [k0_pay6, prod]; simp only [hw]; rfl
  · intro r e; unfold k0_pay19; pointwise [k0_pay7, prod]; simp only [hw]; rfl
  · intro r e; unfold k0_pay20; pointwise [k0_pay8, prod]; simp only [hw]; rfl
  · intro r e; unfold k0_pay21; pointwise [k0_pay9, prod]; simp only [hw]; rfl

theorem z_eq (x0 : Vec Ideal S512x1024 .bf16) (x1 : Vec Ideal S8x1024x256 .bf16) (x2 : Vec Ideal S1x1024 .f32) (x3 : Vec Ideal S1x1024 .f32) (w : FVec Ideal S1024x2048 .f32)
    (hw : ∀ (q : Fin 8) (k : Fin 1024) (e : Fin 256), x1 (ix3 q k e) = w (ix2 k ⟨256 * q.val + e.val, by omega⟩)) : k0_pay10 (k0_pay14 x0 x1 x2 x3) (k0_pay15 x0 x1 x2 x3) (k0_pay16 x0 x1 x2 x3) (k0_pay17 x0 x1 x2 x3) (k0_pay18 x0 x1 x2 x3) (k0_pay19 x0 x1 x2 x3) (k0_pay20 x0 x1 x2 x3) (k0_pay21 x0 x1 x2 x3) = prod x0 w := by
  unfold k0_pay10
  exact cat_eq x0 x1 x2 x3 w hw

theorem a_apply (x0 : Vec Ideal S512x1024 .bf16) (x1 : Vec Ideal S8x1024x256 .bf16) (x2 : Vec Ideal S1x1024 .f32) (x3 : Vec Ideal S1x1024 .f32) (w : FVec Ideal S1024x2048 .f32)
    (hw : ∀ (q : Fin 8) (k : Fin 1024) (e : Fin 256), x1 (ix3 q k e) = w (ix2 k ⟨256 * q.val + e.val, by omega⟩)) (r : Fin 512) (j : Fin 2048) : k0_pay11 (k0_pay14 x0 x1 x2 x3) (k0_pay15 x0 x1 x2 x3) (k0_pay16 x0 x1 x2 x3) (k0_pay17 x0 x1 x2 x3) (k0_pay18 x0 x1 x2 x3) (k0_pay19 x0 x1 x2 x3) (k0_pay20 x0 x1 x2 x3) (k0_pay21 x0 x1 x2 x3) (ix2 r j) = gelu (prod x0 w (ix2 r j)) := by
  pointwise [k0_pay11]
  simp only [z_eq x0 x1 x2 x3 w hw]
  rfl

theorem u_apply (x0 : Vec Ideal S512x1024 .bf16) (x1 : Vec Ideal S8x1024x256 .bf16) (x2 : Vec Ideal S1x1024 .f32) (x3 : Vec Ideal S1x1024 .f32) (w : FVec Ideal S1024x2048 .f32)
    (hw : ∀ (q : Fin 8) (k : Fin 1024) (e : Fin 256), x1 (ix3 q k e) = w (ix2 k ⟨256 * q.val + e.val, by omega⟩)) (r : Fin 512) (j : Fin 1024) : k0_pay12 (k0_pay14 x0 x1 x2 x3) (k0_pay15 x0 x1 x2 x3) (k0_pay16 x0 x1 x2 x3) (k0_pay17 x0 x1 x2 x3) (k0_pay18 x0 x1 x2 x3) (k0_pay19 x0 x1 x2 x3) (k0_pay20 x0 x1 x2 x3) (k0_pay21 x0 x1 x2 x3) (ix2 r j) = gelu (prod x0 w (ix2 r ⟨j.val, by omega⟩)) := by
  pointwise [k0_pay12]
  simp only [a_apply x0 x1 x2 x3 w hw]

theorem v_apply (x0 : Vec Ideal S512x1024 .bf16) (x1 : Vec Ideal S8x1024x256 .bf16) (x2 : Vec Ideal S1x1024 .f32) (x3 : Vec Ideal S1x1024 .f32) (g b : Vec Ideal S1x1024 .f32) (w : FVec Ideal S1024x2048 .f32)
    (hw : ∀ (q : Fin 8) (k : Fin 1024) (e : Fin 256), x1 (ix3 q k e) = w (ix2 k ⟨256 * q.val + e.val, by omega⟩)) (r : Fin 512) (j : Fin 1024) :
    k0_pay1 (k0_pay13 (k0_pay14 x0 x1 x2 x3) (k0_pay15 x0 x1 x2 x3) (k0_pay16 x0 x1 x2 x3) (k0_pay17 x0 x1 x2 x3) (k0_pay18 x0 x1 x2 x3) (k0_pay19 x0 x1 x2 x3) (k0_pay20 x0 x1 x2 x3) (k0_pay21 x0 x1 x2 x3) g b) (ix2 r j) = lnrm (fun k => gelu (prod x0 w (ix2 r ⟨1024 + k.val, by omega⟩))) (g (ix2 0 j)) (b (ix2 0 j)) j := by
  pointwise [k0_pay1, k0_pay13]
  simp only [a_apply x0 x1 x2 x3 w hw]
  rfl

/-- The first output ends with the reference's product, every point writing its rows of it, -/
theorem final4 (c : Dev nD) : (dats m 0 c).arrAt 4 cfg0.N = rZ (aH m c) (m ((c.tc : Thread nD τ).loc main_arg1)) := by
  refine (dats m 0 c).arrAt_eq_of_covers 4 _ (by decide +kernel) fun t hf y => ?_
  obtain ⟨r, j, rfl⟩ : ∃ (r : Fin 512) (j : Fin 2048), y = ix2 r j := ⟨y 0, y 1, eq_ix2 y⟩
  have he : (win0_4.blk t).view.emb (ix2 r j) = ix2 (row 512 t.val r) j := eq_row (idx4 t).1 (idx4 t).2 (by have := lt16 t; omega) rfl rfl
  blk_simp [he]
  rw [after0_4, iblk0, iblk1, iblk2, iblk3, rZ_eq]
  frame_out
  rw [z_eq _ _ _ _ (m ((c.tc : Thread nD τ).loc main_arg1)) (fun q k e => by rw [aW_eq, colBlocks_apply])]
  rfl

/-- the second with the gelu's first half -/
theorem final5 (c : Dev nD) : (dats m 0 c).arrAt 5 cfg0.N = rU (rA (rZ (aH m c) (m ((c.tc : Thread nD τ).loc main_arg1)))) := by
  refine (dats m 0 c).arrAt_eq_of_covers 5 _ (by decide +kernel) fun t hf y => ?_
  obtain ⟨r, j, rfl⟩ : ∃ (r : Fin 512) (j : Fin 1024), y = ix2 r j := ⟨y 0, y 1, eq_ix2 y⟩
  have he : (win0_5.blk t).view.emb (ix2 r j) = ix2 (row 512 t.val r) j := eq_row (idx5 t).1 (idx5 t).2 (by have := lt16 t; omega) rfl rfl
  blk_simp [he]
  rw [after0_5, iblk0, iblk1, iblk2, iblk3, rU_apply, rA_apply, rZ_eq]
  frame_out
  rw [u_apply _ _ _ _ (m ((c.tc : Thread nD τ).loc main_arg1)) (fun q k e => by rw [aW_eq, colBlocks_apply])]
  rfl

/-- and the third with its second half's norm. -/
theorem final6 (c : Dev nD) : (dats m 0 c).arrAt 6 cfg0.N = rV (rS (rA (rZ (aH m c) (m ((c.tc : Thread nD τ).loc main_arg1))))) (m ((c.tc : Thread nD τ).loc main_arg2)) (m ((c.tc : Thread nD τ).loc main_arg3)) := by
  refine (dats m 0 c).arrAt_eq_of_covers 6 _ (by decide +kernel) fun t hf y => ?_
  obtain ⟨r, j, rfl⟩ : ∃ (r : Fin 512) (j : Fin 1024), y = ix2 r j := ⟨y 0, y 1, eq_ix2 y⟩
  have he : (win0_6.blk t).view.emb (ix2 r j) = ix2 (row 512 t.val r) j := eq_row (idx6 t).1 (idx6 t).2 (by have := lt16 t; omega) rfl rfl
  blk_simp [he]
  rw [after0_6, iblk0, iblk1, iblk2, iblk3, rV_apply, rZ_eq]
  simp only [rS_apply, rA_apply]
  frame_out
  rw [v_apply _ _ _ _ _ _ (m ((c.tc : Thread nD τ).loc main_arg1)) (fun q k e => by rw [aW_eq, colBlocks_apply]), aG_eq, aB_eq, asRow_apply, asRow_apply]
  rfl

/-- The kernel's run ends with the reference's three results. -/
theorem run (ρ : Dev nD → PrngReg) :
    θ_run defs (onTc (τ := τ) (main (F := Ideal))) ⟨m, fun _ => 0, ρ⟩ fun r => ∀ c : Dev nD,
      r.2.mem ((c.tc : Thread nD τ).loc main_v5_0) = rZ (m ((c.tc : Thread nD τ).loc main_arg0)) (m ((c.tc : Thread nD τ).loc main_arg1)) ∧
      r.2.mem ((c.tc : Thread nD τ).loc main_v5_1) = rU (rA (rZ (m ((c.tc : Thread nD τ).loc main_arg0)) (m ((c.tc : Thread nD τ).loc main_arg1)))) ∧
      r.2.mem ((c.tc : Thread nD τ).loc main_v5_2) = rV (rS (rA (rZ (m ((c.tc : Thread nD τ).loc main_arg0)) (m ((c.tc : Thread nD τ).loc main_arg1))))) (m ((c.tc : Thread nD τ).loc main_arg2)) (m ((c.tc : Thread nD τ).loc main_arg3)) :=
  (θ_run defs _ _).mono (fun _ h c => by
    have e0 : aH m c = (m ((c.tc : Thread nD τ).loc main_arg0)) := V_main_arg0 m c
    exact ⟨((h c).1 4).trans ((final4 m c).trans (by rw [e0])), ((h c).1 5).trans ((final5 m c).trans (by rw [e0])), ((h c).1 6).trans ((final6 m c).trans (by rw [e0]))⟩) (run_main m ρ)

end Cert.Kernel20Ideal.Fwd
-- ==== Proof.GmlpOut.lean ====
module

public import proofs.«01_k».proof.Proof.Gen.Kernel21Ideal.Frame
public import proofs.«01_k».proof.Proof.Gen.Reference21Ideal.Run
public import proofs.«01_k».proof.Proof.Rows

/-! The gating unit's output product, the residual stream and its norm: the kernel takes 512 rows at a time and the weight in two
column blocks, the reference whole arrays. -/

@[expose] public section

set_option maxRecDepth 16384

noncomputable section

namespace Cert.Reference21Ideal.Fwd

open Cert.Reference21Ideal Cert.Reference21Ideal.Gen Idealize.ShloMosaic Idealize.ShloMosaic.TcCoe Idealize.SL.Sem Cert.Rows

/-- The reference's residual stream, -/
def rX (t : FVec Ideal S8192x1024 .bf16) (w : FVec Ideal S1024x1024 .f32) (x : FVec Ideal S8192x1024 .f32) : FVec Ideal S8192x1024 .f32 :=
  addf x (Host.dotGeneral dot_S8192x1024_S1024x1024_S8192x1024_1_0_0_1_n_n none (extf .f32 t bitsLt_bf16_f32) w)

/-- and its norm. -/
def rH (x : FVec Ideal S8192x1024 .f32) (g : FVec Ideal S1024 .f32) : FVec Ideal S8192x1024 .bf16 :=
  truncf .bf16 (mulf (mulf x (broadcastInDim S8192x1024 ![0, 1] bcast_S8192x1_S8192x1024_0_1 (Host.rsqrt (addf (Host.divf (broadcastInDim S8192x1 ![0] bcast_S8192_S8192x1_0 (Host.reduceAdd (mulf x x) (constant S_ .f32 0x00000000#32) reducesTo_S8192x1024_S8192_d1 h_S_)) (broadcastInDim S8192x1 ![] bcast_S_S8192x1 (constant S_ .f32 0x44800000#32))) (broadcastInDim S8192x1 ![] bcast_S_S8192x1 (constant S_ .f32 0x358637BD#32)))))) (broadcastInDim S8192x1024 ![0, 1] bcast_S1x1024_S8192x1024_0_1 (broadcastInDim S1x1024 ![1] bcast_S1024_S1x1024_1 g))) bitsLt_bf16_f32

theorem rX_apply (t : FVec Ideal S8192x1024 .bf16) (w : FVec Ideal S1024x1024 .f32) (x : FVec Ideal S8192x1024 .f32) (i : Fin 8192) (j : Fin 1024) :
    rX t w x (ix2 i j) = x (ix2 i j) + prod t w (ix2 i j) := by
  pointwise [rX, prod]

theorem rH_apply (x : FVec Ideal S8192x1024 .f32) (g : FVec Ideal S1024 .f32) (i : Fin 8192) (j : Fin 1024) :
    rH x g (ix2 i j) = nrm (fun k => x (ix2 i k)) (g (ix1 j)) j := by
  unfold nrm
  pointwise [rH]

/-- The reference's run ends with both. -/
theorem run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v2) = rX (m ((c.tc : Thread nD τ).loc main_arg0)) (m ((c.tc : Thread nD τ).loc main_arg1)) (m ((c.tc : Thread nD τ).loc main_arg2)) ∧
      r.2.mem ((c.tc : Thread nD τ).loc main_v16) = rH (rX (m ((c.tc : Thread nD τ).loc main_arg0)) (m ((c.tc : Thread nD τ).loc main_arg1)) (m ((c.tc : Thread nD τ).loc main_arg2))) (m ((c.tc : Thread nD τ).loc main_arg3)) :=
  (θ_run defs _ _).mono (fun _ h c => ⟨(h c).1.trans (by unfold rX; rfl), (h c).2.1.trans (by unfold rH rX; rfl)⟩) (Value.run (F := Ideal) m ρ)

end Cert.Reference21Ideal.Fwd

namespace Cert.Kernel21Ideal.Fwd

open Cert.Kernel21Ideal Cert.Kernel21Ideal.Gen Idealize.ShloMosaic Idealize.ShloMosaic.TcCoe Idealize.SL.Sem Cert.Rows
open Idealize.ShloMosaic.Pipeline (Dat)
open Cert.Reference21Ideal.Fwd (rX rH rX_apply rH_apply)

variable (m : (ℓ : Loc nD τ sig) → Buf (Elt Ideal) ℓ)

/-- The arrays the region reads: the rows, the weight, the residual stream and the gain of the norm. -/
abbrev aT (c : Dev nD) : Vec Ideal S8192x1024 .bf16 := V m c main_arg0
abbrev aW (c : Dev nD) : Vec Ideal S1024x1024 .bf16 := V m c main_v0
abbrev aX (c : Dev nD) : Vec Ideal S8192x1024 .f32 := V m c main_arg2
abbrev aG (c : Dev nD) : Vec Ideal S1x1024 .f32 := V m c main_v1

theorem lt16 (t : Fin cfg0.N) : t.val < 16 := lt_of_lt_of_eq t.isLt N_0

/-- The weight is read as launched: narrowing is the identity over the extended reals. -/
theorem aW_eq (c : Dev nD) : aW m c = ((m ((c.tc : Thread nD τ).loc main_arg1)) : S1024x1024.Idx → EReal) := by
  show StableHlo.after hostOps0 (fun b => m (c, b)) (Proc.devRef .tc main_v0) = _
  simp only [hostOps0, StableHlo.TRef.binary, StableHlo.TRef.nullary, StableHlo.TRef.ternary, StableHlo.TRef.unary, StableHlo.TRef.toBuf, StableHlo.TRef.ofBuf, cast_eq]
  after_results_simp
  rfl

/-- A vector as one row. -/
def asRow (g : FVec Ideal S1024 .f32) : FVec Ideal S1x1024 .f32 := shapeCast S1x1024 g shapeCasts_S1024_S1x1024

theorem asRow_apply (g : FVec Ideal S1024 .f32) (j : Fin 1024) : asRow g (ix2 0 j) = g (ix1 j) := by
  pointwise [asRow]

theorem aG_eq (c : Dev nD) : aG m c = asRow (m ((c.tc : Thread nD τ).loc main_arg3)) := by
  show StableHlo.after hostOps0 (fun b => m (c, b)) (Proc.devRef .tc main_v1) = _
  simp only [hostOps0, StableHlo.TRef.binary, StableHlo.TRef.nullary, StableHlo.TRef.ternary, StableHlo.TRef.unary, StableHlo.TRef.toBuf, StableHlo.TRef.ofBuf, cast_eq]
  after_results_simp
  rfl

theorem idx0 : ∀ t : Fin grid0.N, win0_0.index t 0 = t.val ∧ win0_0.index t 1 = 0 := by decide +kernel
theorem idx1 : ∀ t : Fin grid0.N, win0_1.index t 0 = 0 ∧ win0_1.index t 1 = 0 := by decide +kernel
theorem idx2 : ∀ t : Fin grid0.N, win0_2.index t 0 = t.val ∧ win0_2.index t 1 = 0 := by decide +kernel
theorem idx3 : ∀ t : Fin grid0.N, win0_3.index t 0 = 0 ∧ win0_3.index t 1 = 0 := by decide +kernel
theorem idx4 : ∀ t : Fin grid0.N, win0_4.index t 0 = t.val ∧ win0_4.index t 1 = 0 := by decide +kernel
theorem idx5 : ∀ t : Fin grid0.N, win0_5.index t 0 = t.val ∧ win0_5.index t 1 = 0 := by decide +kernel

/-- Point `t` reads chunk `t` of operand 0. -/
theorem iblk0 (c : Dev nD) (t : Fin cfg0.N) : (iblk m c 0 t : Vec Ideal S512x1024 .bf16) = rows 512 (aT m c) t.val := by
  funext y
  unfold iblk
  rw [View.read_apply]
  exact congrArg (aT m c) (eq_row (idx0 t).1 (idx0 t).2 (by have := lt16 t; omega) rfl rfl)

/-- It reads operand 1 whole. -/
theorem iblk1 (c : Dev nD) (t : Fin cfg0.N) : (iblk m c 1 t : Vec Ideal S1024x1024 .bf16) = aW m c := by
  funext y
  unfold iblk
  rw [View.read_apply]
  exact congrArg (aW m c) (eq_whole (idx1 t).1 (idx1 t).2 rfl rfl)

/-- Point `t` reads chunk `t` of operand 2. -/
theorem iblk2 (c : Dev nD) (t : Fin cfg0.N) : (iblk m c 2 t : Vec Ideal S512x1024 .f32) = rows 512 (aX m c) t.val := by
  funext y
  unfold iblk
  rw [View.read_apply]
  exact congrArg (aX m c) (eq_row (idx2 t).1 (idx2 t).2 (by have := lt16 t; omega) rfl rfl)

/-- It reads operand 3 whole. -/
theorem iblk3 (c : Dev nD) (t : Fin cfg0.N) : (iblk m c 3 t : Vec Ideal S1x1024 .f32) = aG m c := by
  funext y
  unfold iblk
  rw [View.read_apply]
  exact congrArg (aG m c) (eq_whole (idx3 t).1 (idx3 t).2 rfl rfl)

/-- The two column blocks of the product, side by side, are the product. -/
theorem x_apply (x0 : Vec Ideal S512x1024 .bf16) (x1 : Vec Ideal S1024x1024 .bf16) (x2 : Vec Ideal S512x1024 .f32) (r : Fin 512) (j : Fin 1024) :
    k0_pay1 x0 (View.ld x1 r0_1) (View.ld x1 r0_2) x2 (ix2 r j) = x2 (ix2 r j) + prod x0 x1 (ix2 r j) := by
  rw [add_comm]
  pointwise [k0_pay1, prod]
  split
  · rfl
  · next h =>
    have e : ∀ p : 512 + (j.val - 512) < 1024, (⟨512 + (j.val - 512), p⟩ : Fin 1024) = j := fun p => Fin.ext (by show 512 + (j.val - 512) = j.val; omega)
    simp only [e]

theorem h_apply (x0 : Vec Ideal S512x1024 .bf16) (x1 : Vec Ideal S1024x1024 .bf16) (x2 : Vec Ideal S512x1024 .f32) (g : Vec Ideal S1x1024 .f32) (r : Fin 512) (j : Fin 1024) :
    k0_pay2 x0 (View.ld x1 r0_1) (View.ld x1 r0_2) x2 g (ix2 r j) = nrm (fun k => x2 (ix2 r k) + prod x0 x1 (ix2 r k)) (g (ix2 0 j)) j := by
  pointwise [k0_pay2]
  simp only [x_apply]
  rfl

/-- The first output ends with the residual stream, every point writing its rows of it, -/
theorem final4 (c : Dev nD) : (dats m 0 c).arrAt 4 cfg0.N = rX (aT m c) (m ((c.tc : Thread nD τ).loc main_arg1)) (aX m c) := by
  refine (dats m 0 c).arrAt_eq_of_covers 4 _ (by decide +kernel) fun t hf y => ?_
  obtain ⟨r, j, rfl⟩ : ∃ (r : Fin 512) (j : Fin 1024), y = ix2 r j := ⟨y 0, y 1, eq_ix2 y⟩
  have he : (win0_4.blk t).view.emb (ix2 r j) = ix2 (row 512 t.val r) j := eq_row (idx4 t).1 (idx4 t).2 (by have := lt16 t; omega) rfl rfl
  blk_simp [he]
  rw [after0_4, iblk0, iblk1, iblk2, iblk3, rX_apply]
  frame_out
  rw [x_apply, aW_eq]
  rfl

/-- and the second with its norm. -/
theorem final5 (c : Dev nD) : (dats m 0 c).arrAt 5 cfg0.N = rH (rX (aT m c) (m ((c.tc : Thread nD τ).loc main_arg1)) (aX m c)) (m ((c.tc : Thread nD τ).loc main_arg3)) := by
  refine (dats m 0 c).arrAt_eq_of_covers 5 _ (by decide +kernel) fun t hf y => ?_
  obtain ⟨r, j, rfl⟩ : ∃ (r : Fin 512) (j : Fin 1024), y = ix2 r j := ⟨y 0, y 1, eq_ix2 y⟩
  have he : (win0_5.blk t).view.emb (ix2 r j) = ix2 (row 512 t.val r) j := eq_row (idx5 t).1 (idx5 t).2 (by have := lt16 t; omega) rfl rfl
  blk_simp [he]
  rw [after0_5, iblk0, iblk1, iblk2, iblk3, rH_apply]
  simp only [rX_apply]
  frame_out
  rw [h_apply, aW_eq, aG_eq, asRow_apply]
  rfl

/-- The kernel's run ends with the reference's two results. -/
theorem run (ρ : Dev nD → PrngReg) :
    θ_run defs (onTc (τ := τ) (main (F := Ideal))) ⟨m, fun _ => 0, ρ⟩ fun r => ∀ c : Dev nD,
      r.2.mem ((c.tc : Thread nD τ).loc main_v2_0) = rX (m ((c.tc : Thread nD τ).loc main_arg0)) (m ((c.tc : Thread nD τ).loc main_arg1)) (m ((c.tc : Thread nD τ).loc main_arg2)) ∧
      r.2.mem ((c.tc : Thread nD τ).loc main_v2_1) = rH (rX (m ((c.tc : Thread nD τ).loc main_arg0)) (m ((c.tc : Thread nD τ).loc main_arg1)) (m ((c.tc : Thread nD τ).loc main_arg2))) (m ((c.tc : Thread nD τ).loc main_arg3)) :=
  (θ_run defs _ _).mono (fun _ h c => by
    have e0 : aT m c = (m ((c.tc : Thread nD τ).loc main_arg0)) := V_main_arg0 m c
    have e2 : aX m c = (m ((c.tc : Thread nD τ).loc main_arg2)) := V_main_arg2 m c
    exact ⟨((h c).1 4).trans ((final4 m c).trans (by rw [e0, e2])), ((h c).1 5).trans ((final5 m c).trans (by rw [e0, e2]))⟩) (run_main m ρ)

end Cert.Kernel21Ideal.Fwd
-- ==== Proof.ConvPw2.lean ====
module

public import proofs.«01_k».proof.Proof.Gen.Kernel22Ideal.Frame
public import proofs.«01_k».proof.Proof.Gen.Reference22Ideal.Run
public import proofs.«01_k».proof.Proof.Rows

/-! The convolution's output product and bias, the residual stream and its norm: the kernel takes 512 rows at a time and the weight in two
column blocks, the reference whole arrays. -/

@[expose] public section

set_option maxRecDepth 16384

noncomputable section

namespace Cert.Reference22Ideal.Fwd

open Cert.Reference22Ideal Cert.Reference22Ideal.Gen Idealize.ShloMosaic Idealize.ShloMosaic.TcCoe Idealize.SL.Sem Cert.Rows

/-- The reference's residual stream, -/
def rX (t : FVec Ideal S8192x1024 .bf16) (w : FVec Ideal S1024x1024 .f32) (b : FVec Ideal S1024 .f32) (x : FVec Ideal S8192x1024 .f32) : FVec Ideal S8192x1024 .f32 :=
  addf x (addf (Host.dotGeneral dot_S8192x1024_S1024x1024_S8192x1024_1_0_0_1_n_n none (extf .f32 t bitsLt_bf16_f32) w) (broadcastInDim S8192x1024 ![0, 1] bcast_S1x1024_S8192x1024_0_1 (broadcastInDim S1x1024 ![1] bcast_S1024_S1x1024_1 b)))

/-- and its norm. -/
def rH (x : FVec Ideal S8192x1024 .f32) (g : FVec Ideal S1024 .f32) : FVec Ideal S8192x1024 .bf16 :=
  truncf .bf16 (mulf (mulf x (broadcastInDim S8192x1024 ![0, 1] bcast_S8192x1_S8192x1024_0_1 (Host.rsqrt (addf (Host.divf (broadcastInDim S8192x1 ![0] bcast_S8192_S8192x1_0 (Host.reduceAdd (mulf x x) (constant S_ .f32 0x00000000#32) reducesTo_S8192x1024_S8192_d1 h_S_)) (broadcastInDim S8192x1 ![] bcast_S_S8192x1 (constant S_ .f32 0x44800000#32))) (broadcastInDim S8192x1 ![] bcast_S_S8192x1 (constant S_ .f32 0x358637BD#32)))))) (broadcastInDim S8192x1024 ![0, 1] bcast_S1x1024_S8192x1024_0_1 (broadcastInDim S1x1024 ![1] bcast_S1024_S1x1024_1 g))) bitsLt_bf16_f32

theorem rX_apply (t : FVec Ideal S8192x1024 .bf16) (w : FVec Ideal S1024x1024 .f32) (b : FVec Ideal S1024 .f32) (x : FVec Ideal S8192x1024 .f32) (i : Fin 8192) (j : Fin 1024) :
    rX t w b x (ix2 i j) = x (ix2 i j) + (prod t w (ix2 i j) + b (ix1 j)) := by
  pointwise [rX, prod]

theorem rH_apply (x : FVec Ideal S8192x1024 .f32) (g : FVec Ideal S1024 .f32) (i : Fin 8192) (j : Fin 1024) :
    rH x g (ix2 i j) = nrm (fun k => x (ix2 i k)) (g (ix1 j)) j := by
  unfold nrm
  pointwise [rH]

/-- The reference's run ends with both. -/
theorem run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v5) = rX (m ((c.tc : Thread nD τ).loc main_arg0)) (m ((c.tc : Thread nD τ).loc main_arg1)) (m ((c.tc : Thread nD τ).loc main_arg2)) (m ((c.tc : Thread nD τ).loc main_arg3)) ∧
      r.2.mem ((c.tc : Thread nD τ).loc main_v19) = rH (rX (m ((c.tc : Thread nD τ).loc main_arg0)) (m ((c.tc : Thread nD τ).loc main_arg1)) (m ((c.tc : Thread nD τ).loc main_arg2)) (m ((c.tc : Thread nD τ).loc main_arg3))) (m ((c.tc : Thread nD τ).loc main_arg4)) :=
  (θ_run defs _ _).mono (fun _ h c => ⟨(h c).1.trans (by unfold rX; rfl), (h c).2.1.trans (by unfold rH rX; rfl)⟩) (Value.run (F := Ideal) m ρ)

end Cert.Reference22Ideal.Fwd

namespace Cert.Kernel22Ideal.Fwd

open Cert.Kernel22Ideal Cert.Kernel22Ideal.Gen Idealize.ShloMosaic Idealize.ShloMosaic.TcCoe Idealize.SL.Sem Cert.Rows
open Idealize.ShloMosaic.Pipeline (Dat)
open Cert.Reference22Ideal.Fwd (rX rH rX_apply rH_apply)

variable (m : (ℓ : Loc nD τ sig) → Buf (Elt Ideal) ℓ)

/-- The arrays the region reads: the rows, the weight, the bias, the residual stream and the gain of the norm. -/
abbrev aT (c : Dev nD) : Vec Ideal S8192x1024 .bf16 := V m c main_arg0
abbrev aW (c : Dev nD) : Vec Ideal S1024x1024 .bf16 := V m c main_v0
abbrev aB (c : Dev nD) : Vec Ideal S1x1024 .f32 := V m c main_v1
abbrev aX (c : Dev nD) : Vec Ideal S8192x1024 .f32 := V m c main_arg3
abbrev aG (c : Dev nD) : Vec Ideal S1x1024 .f32 := V m c main_v2

theorem lt16 (t : Fin cfg0.N) : t.val < 16 := lt_of_lt_of_eq t.isLt N_0

/-- The weight is read as launched: narrowing is the identity over the extended reals. -/
theorem aW_eq (c : Dev nD) : aW m c = ((m ((c.tc : Thread nD τ).loc main_arg1)) : S1024x1024.Idx → EReal) := by
  show StableHlo.after hostOps0 (fun b => m (c, b)) (Proc.devRef .tc main_v0) = _
  simp only [hostOps0, StableHlo.TRef.binary, StableHlo.TRef.nullary, StableHlo.TRef.ternary, StableHlo.TRef.unary, StableHlo.TRef.toBuf, StableHlo.TRef.ofBuf, cast_eq]
  after_results_simp
  rfl

/-- A vector as one row. -/
def asRow (g : FVec Ideal S1024 .f32) : FVec Ideal S1x1024 .f32 := shapeCast S1x1024 g shapeCasts_S1024_S1x1024

theorem asRow_apply (g : FVec Ideal S1024 .f32) (j : Fin 1024) : asRow g (ix2 0 j) = g (ix1 j) := by
  pointwise [asRow]

theorem aB_eq (c : Dev nD) : aB m c = asRow (m ((c.tc : Thread nD τ).loc main_arg2)) := by
  show StableHlo.after hostOps0 (fun b => m (c, b)) (Proc.devRef .tc main_v1) = _
  simp only [hostOps0, StableHlo.TRef.binary, StableHlo.TRef.nullary, StableHlo.TRef.ternary, StableHlo.TRef.unary, StableHlo.TRef.toBuf, StableHlo.TRef.ofBuf, cast_eq]
  after_results_simp
  rfl

theorem aG_eq (c : Dev nD) : aG m c = asRow (m ((c.tc : Thread nD τ).loc main_arg4)) := by
  show StableHlo.after hostOps0 (fun b => m (c, b)) (Proc.devRef .tc main_v2) = _
  simp only [hostOps0, StableHlo.TRef.binary, StableHlo.TRef.nullary, StableHlo.TRef.ternary, StableHlo.TRef.unary, StableHlo.TRef.toBuf, StableHlo.TRef.ofBuf, cast_eq]
  after_results_simp
  rfl

theorem idx0 : ∀ t : Fin grid0.N, win0_0.index t 0 = t.val ∧ win0_0.index t 1 = 0 := by decide +kernel
theorem idx1 : ∀ t : Fin grid0.N, win0_1.index t 0 = 0 ∧ win0_1.index t 1 = 0 := by decide +kernel
theorem idx2 : ∀ t : Fin grid0.N, win0_2.index t 0 = 0 ∧ win0_2.index t 1 = 0 := by decide +kernel
theorem idx3 : ∀ t : Fin grid0.N, win0_3.index t 0 = t.val ∧ win0_3.index t 1 = 0 := by decide +kernel
theorem idx4 : ∀ t : Fin grid0.N, win0_4.index t 0 = 0 ∧ win0_4.index t 1 = 0 := by decide +kernel
theorem idx5 : ∀ t : Fin grid0.N, win0_5.index t 0 = t.val ∧ win0_5.index t 1 = 0 := by decide +kernel
theorem idx6 : ∀ t : Fin grid0.N, win0_6.index t 0 = t.val ∧ win0_6.index t 1 = 0 := by decide +kernel

/-- Point `t` reads chunk `t` of operand 0. -/
theorem iblk0 (c : Dev nD) (t : Fin cfg0.N) : (iblk m c 0 t : Vec Ideal S512x1024 .bf16) = rows 512 (aT m c) t.val := by
  funext y
  unfold iblk
  rw [View.read_apply]
  exact congrArg (aT m c) (eq_row (idx0 t).1 (idx0 t).2 (by have := lt16 t; omega) rfl rfl)

/-- It reads operand 1 whole. -/
theorem iblk1 (c : Dev nD) (t : Fin cfg0.N) : (iblk m c 1 t : Vec Ideal S1024x1024 .bf16) = aW m c := by
  funext y
  unfold iblk
  rw [View.read_apply]
  exact congrArg (aW m c) (eq_whole (idx1 t).1 (idx1 t).2 rfl rfl)

/-- It reads operand 2 whole. -/
theorem iblk2 (c : Dev nD) (t : Fin cfg0.N) : (iblk m c 2 t : Vec Ideal S1x1024 .f32) = aB m c := by
  funext y
  unfold iblk
  rw [View.read_apply]
  exact congrArg (aB m c) (eq_whole (idx2 t).1 (idx2 t).2 rfl rfl)

/-- Point `t` reads chunk `t` of operand 3. -/
theorem iblk3 (c : Dev nD) (t : Fin cfg0.N) : (iblk m c 3 t : Vec Ideal S512x1024 .f32) = rows 512 (aX m c) t.val := by
  funext y
  unfold iblk
  rw [View.read_apply]
  exact congrArg (aX m c) (eq_row (idx3 t).1 (idx3 t).2 (by have := lt16 t; omega) rfl rfl)

/-- It reads operand 4 whole. -/
theorem iblk4 (c : Dev nD) (t : Fin cfg0.N) : (iblk m c 4 t : Vec Ideal S1x1024 .f32) = aG m c := by
  funext y
  unfold iblk
  rw [View.read_apply]
  exact congrArg (aG m c) (eq_whole (idx4 t).1 (idx4 t).2 rfl rfl)

/-- The two column blocks of the product, side by side, are the product. -/
theorem x_apply (x0 : Vec Ideal S512x1024 .bf16) (x1 : Vec Ideal S1024x1024 .bf16) (b : Vec Ideal S1x1024 .f32) (x2 : Vec Ideal S512x1024 .f32) (r : Fin 512) (j : Fin 1024) :
    k0_pay1 x0 (View.ld x1 r0_1) (View.ld x1 r0_2) b x2 (ix2 r j) = x2 (ix2 r j) + (prod x0 x1 (ix2 r j) + b (ix2 0 j)) := by
  rw [add_comm]
  pointwise [k0_pay1, prod]
  split
  · rfl
  · next h =>
    have e : ∀ p : 512 + (j.val - 512) < 1024, (⟨512 + (j.val - 512), p⟩ : Fin 1024) = j := fun p => Fin.ext (by show 512 + (j.val - 512) = j.val; omega)
    simp only [e]

theorem h_apply (x0 : Vec Ideal S512x1024 .bf16) (x1 : Vec Ideal S1024x1024 .bf16) (b : Vec Ideal S1x1024 .f32) (x2 : Vec Ideal S512x1024 .f32) (g : Vec Ideal S1x1024 .f32) (r : Fin 512) (j : Fin 1024) :
    k0_pay2 x0 (View.ld x1 r0_1) (View.ld x1 r0_2) b x2 g (ix2 r j) = nrm (fun k => x2 (ix2 r k) + (prod x0 x1 (ix2 r k) + b (ix2 0 k))) (g (ix2 0 j)) j := by
  pointwise [k0_pay2]
  simp only [x_apply]
  rfl

/-- The first output ends with the residual stream, every point writing its rows of it, -/
theorem final5 (c : Dev nD) : (dats m 0 c).arrAt 5 cfg0.N = rX (aT m c) (m ((c.tc : Thread nD τ).loc main_arg1)) (m ((c.tc : Thread nD τ).loc main_arg2)) (aX m c) := by
  refine (dats m 0 c).arrAt_eq_of_covers 5 _ (by decide +kernel) fun t hf y => ?_
  obtain ⟨r, j, rfl⟩ : ∃ (r : Fin 512) (j : Fin 1024), y = ix2 r j := ⟨y 0, y 1, eq_ix2 y⟩
  have he : (win0_5.blk t).view.emb (ix2 r j) = ix2 (row 512 t.val r) j := eq_row (idx5 t).1 (idx5 t).2 (by have := lt16 t; omega) rfl rfl
  blk_simp [he]
  rw [after0_5, iblk0, iblk1, iblk2, iblk3, iblk4, rX_apply]
  frame_out
  rw [x_apply, aW_eq, aB_eq, asRow_apply]
  rfl

/-- and the second with its norm. -/
theorem final6 (c : Dev nD) : (dats m 0 c).arrAt 6 cfg0.N = rH (rX (aT m c) (m ((c.tc : Thread nD τ).loc main_arg1)) (m ((c.tc : Thread nD τ).loc main_arg2)) (aX m c)) (m ((c.tc : Thread nD τ).loc main_arg4)) := by
  refine (dats m 0 c).arrAt_eq_of_covers 6 _ (by decide +kernel) fun t hf y => ?_
  obtain ⟨r, j, rfl⟩ : ∃ (r : Fin 512) (j : Fin 1024), y = ix2 r j := ⟨y 0, y 1, eq_ix2 y⟩
  have he : (win0_6.blk t).view.emb (ix2 r j) = ix2 (row 512 t.val r) j := eq_row (idx6 t).1 (idx6 t).2 (by have := lt16 t; omega) rfl rfl
  blk_simp [he]
  rw [after0_6, iblk0, iblk1, iblk2, iblk3, iblk4, rH_apply]
  simp only [rX_apply]
  frame_out
  rw [h_apply, aW_eq, aG_eq, aB_eq, asRow_apply]
  simp only [asRow_apply]
  rfl

/-- The kernel's run ends with the reference's two results. -/
theorem run (ρ : Dev nD → PrngReg) :
    θ_run defs (onTc (τ := τ) (main (F := Ideal))) ⟨m, fun _ => 0, ρ⟩ fun r => ∀ c : Dev nD,
      r.2.mem ((c.tc : Thread nD τ).loc main_v3_0) = rX (m ((c.tc : Thread nD τ).loc main_arg0)) (m ((c.tc : Thread nD τ).loc main_arg1)) (m ((c.tc : Thread nD τ).loc main_arg2)) (m ((c.tc : Thread nD τ).loc main_arg3)) ∧
      r.2.mem ((c.tc : Thread nD τ).loc main_v3_1) = rH (rX (m ((c.tc : Thread nD τ).loc main_arg0)) (m ((c.tc : Thread nD τ).loc main_arg1)) (m ((c.tc : Thread nD τ).loc main_arg2)) (m ((c.tc : Thread nD τ).loc main_arg3))) (m ((c.tc : Thread nD τ).loc main_arg4)) :=
  (θ_run defs _ _).mono (fun _ h c => by
    have e0 : aT m c = (m ((c.tc : Thread nD τ).loc main_arg0)) := V_main_arg0 m c
    have e2 : aX m c = (m ((c.tc : Thread nD τ).loc main_arg3)) := V_main_arg3 m c
    exact ⟨((h c).1 5).trans ((final5 m c).trans (by rw [e0, e2])), ((h c).1 6).trans ((final6 m c).trans (by rw [e0, e2]))⟩) (run_main m ρ)

end Cert.Kernel22Ideal.Fwd
-- ==== Proof.AttnO.lean ====
module

public import proofs.«01_k».proof.Proof.Gen.Kernel23Ideal.Frame
public import proofs.«01_k».proof.Proof.Gen.Reference23Ideal.Run
public import proofs.«01_k».proof.Proof.Rows

/-! The attention's output product, the residual stream and its norm: the kernel takes 512 rows at a time and the weight in two
column blocks, the reference whole arrays. -/

@[expose] public section

set_option maxRecDepth 16384

noncomputable section

namespace Cert.Reference23Ideal.Fwd

open Cert.Reference23Ideal Cert.Reference23Ideal.Gen Idealize.ShloMosaic Idealize.ShloMosaic.TcCoe Idealize.SL.Sem Cert.Rows

/-- The reference's residual stream, -/
def rX (t : FVec Ideal S8192x512 .bf16) (w : FVec Ideal S512x1024 .f32) (x : FVec Ideal S8192x1024 .f32) : FVec Ideal S8192x1024 .f32 :=
  addf x (Host.dotGeneral dot_S8192x512_S512x1024_S8192x1024_1_0_0_1_n_n none (extf .f32 t bitsLt_bf16_f32) w)

/-- and its norm. -/
def rH (x : FVec Ideal S8192x1024 .f32) (g : FVec Ideal S1024 .f32) : FVec Ideal S8192x1024 .bf16 :=
  truncf .bf16 (mulf (mulf x (broadcastInDim S8192x1024 ![0, 1] bcast_S8192x1_S8192x1024_0_1 (Host.rsqrt (addf (Host.divf (broadcastInDim S8192x1 ![0] bcast_S8192_S8192x1_0 (Host.reduceAdd (mulf x x) (constant S_ .f32 0x00000000#32) reducesTo_S8192x1024_S8192_d1 h_S_)) (broadcastInDim S8192x1 ![] bcast_S_S8192x1 (constant S_ .f32 0x44800000#32))) (broadcastInDim S8192x1 ![] bcast_S_S8192x1 (constant S_ .f32 0x358637BD#32)))))) (broadcastInDim S8192x1024 ![0, 1] bcast_S1x1024_S8192x1024_0_1 (broadcastInDim S1x1024 ![1] bcast_S1024_S1x1024_1 g))) bitsLt_bf16_f32

theorem rX_apply (t : FVec Ideal S8192x512 .bf16) (w : FVec Ideal S512x1024 .f32) (x : FVec Ideal S8192x1024 .f32) (i : Fin 8192) (j : Fin 1024) :
    rX t w x (ix2 i j) = x (ix2 i j) + prod t w (ix2 i j) := by
  pointwise [rX, prod]

theorem rH_apply (x : FVec Ideal S8192x1024 .f32) (g : FVec Ideal S1024 .f32) (i : Fin 8192) (j : Fin 1024) :
    rH x g (ix2 i j) = nrm (fun k => x (ix2 i k)) (g (ix1 j)) j := by
  unfold nrm
  pointwise [rH]

/-- The reference's run ends with both. -/
theorem run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v2) = rX (m ((c.tc : Thread nD τ).loc main_arg0)) (m ((c.tc : Thread nD τ).loc main_arg1)) (m ((c.tc : Thread nD τ).loc main_arg2)) ∧
      r.2.mem ((c.tc : Thread nD τ).loc main_v16) = rH (rX (m ((c.tc : Thread nD τ).loc main_arg0)) (m ((c.tc : Thread nD τ).loc main_arg1)) (m ((c.tc : Thread nD τ).loc main_arg2))) (m ((c.tc : Thread nD τ).loc main_arg3)) :=
  (θ_run defs _ _).mono (fun _ h c => ⟨(h c).1.trans (by unfold rX; rfl), (h c).2.1.trans (by unfold rH rX; rfl)⟩) (Value.run (F := Ideal) m ρ)

end Cert.Reference23Ideal.Fwd

namespace Cert.Kernel23Ideal.Fwd

open Cert.Kernel23Ideal Cert.Kernel23Ideal.Gen Idealize.ShloMosaic Idealize.ShloMosaic.TcCoe Idealize.SL.Sem Cert.Rows
open Idealize.ShloMosaic.Pipeline (Dat)
open Cert.Reference23Ideal.Fwd (rX rH rX_apply rH_apply)

variable (m : (ℓ : Loc nD τ sig) → Buf (Elt Ideal) ℓ)

/-- The arrays the region reads: the rows, the weight, the residual stream and the gain of the norm. -/
abbrev aT (c : Dev nD) : Vec Ideal S8192x512 .bf16 := V m c main_arg0
abbrev aW (c : Dev nD) : Vec Ideal S512x1024 .bf16 := V m c main_v0
abbrev aX (c : Dev nD) : Vec Ideal S8192x1024 .f32 := V m c main_arg2
abbrev aG (c : Dev nD) : Vec Ideal S1x1024 .f32 := V m c main_v1

theorem lt16 (t : Fin cfg0.N) : t.val < 16 := lt_of_lt_of_eq t.isLt N_0

/-- The weight is read as launched: narrowing is the identity over the extended reals. -/
theorem aW_eq (c : Dev nD) : aW m c = ((m ((c.tc : Thread nD τ).loc main_arg1)) : S512x1024.Idx → EReal) := by
  show StableHlo.after hostOps0 (fun b => m (c, b)) (Proc.devRef .tc main_v0) = _
  simp only [hostOps0, StableHlo.TRef.binary, StableHlo.TRef.nullary, StableHlo.TRef.ternary, StableHlo.TRef.unary, StableHlo.TRef.toBuf, StableHlo.TRef.ofBuf, cast_eq]
  after_results_simp
  rfl

/-- A vector as one row. -/
def asRow (g : FVec Ideal S1024 .f32) : FVec Ideal S1x1024 .f32 := shapeCast S1x1024 g shapeCasts_S1024_S1x1024

theorem asRow_apply (g : FVec Ideal S1024 .f32) (j : Fin 1024) : asRow g (ix2 0 j) = g (ix1 j) := by
  pointwise [asRow]

theorem aG_eq (c : Dev nD) : aG m c = asRow (m ((c.tc : Thread nD τ).loc main_arg3)) := by
  show StableHlo.after hostOps0 (fun b => m (c, b)) (Proc.devRef .tc main_v1) = _
  simp only [hostOps0, StableHlo.TRef.binary, StableHlo.TRef.nullary, StableHlo.TRef.ternary, StableHlo.TRef.unary, StableHlo.TRef.toBuf, StableHlo.TRef.ofBuf, cast_eq]
  after_results_simp
  rfl

theorem idx0 : ∀ t : Fin grid0.N, win0_0.index t 0 = t.val ∧ win0_0.index t 1 = 0 := by decide +kernel
theorem idx1 : ∀ t : Fin grid0.N, win0_1.index t 0 = 0 ∧ win0_1.index t 1 = 0 := by decide +kernel
theorem idx2 : ∀ t : Fin grid0.N, win0_2.index t 0 = t.val ∧ win0_2.index t 1 = 0 := by decide +kernel
theorem idx3 : ∀ t : Fin grid0.N, win0_3.index t 0 = 0 ∧ win0_3.index t 1 = 0 := by decide +kernel
theorem idx4 : ∀ t : Fin grid0.N, win0_4.index t 0 = t.val ∧ win0_4.index t 1 = 0 := by decide +kernel
theorem idx5 : ∀ t : Fin grid0.N, win0_5.index t 0 = t.val ∧ win0_5.index t 1 = 0 := by decide +kernel

/-- Point `t` reads chunk `t` of operand 0. -/
theorem iblk0 (c : Dev nD) (t : Fin cfg0.N) : (iblk m c 0 t : Vec Ideal S512x512 .bf16) = rows 512 (aT m c) t.val := by
  funext y
  unfold iblk
  rw [View.read_apply]
  exact congrArg (aT m c) (eq_row (idx0 t).1 (idx0 t).2 (by have := lt16 t; omega) rfl rfl)

/-- It reads operand 1 whole. -/
theorem iblk1 (c : Dev nD) (t : Fin cfg0.N) : (iblk m c 1 t : Vec Ideal S512x1024 .bf16) = aW m c := by
  funext y
  unfold iblk
  rw [View.read_apply]
  exact congrArg (aW m c) (eq_whole (idx1 t).1 (idx1 t).2 rfl rfl)

/-- Point `t` reads chunk `t` of operand 2. -/
theorem iblk2 (c : Dev nD) (t : Fin cfg0.N) : (iblk m c 2 t : Vec Ideal S512x1024 .f32) = rows 512 (aX m c) t.val := by
  funext y
  unfold iblk
  rw [View.read_apply]
  exact congrArg (aX m c) (eq_row (idx2 t).1 (idx2 t).2 (by have := lt16 t; omega) rfl rfl)

/-- It reads operand 3 whole. -/
theorem iblk3 (c : Dev nD) (t : Fin cfg0.N) : (iblk m c 3 t : Vec Ideal S1x1024 .f32) = aG m c := by
  funext y
  unfold iblk
  rw [View.read_apply]
  exact congrArg (aG m c) (eq_whole (idx3 t).1 (idx3 t).2 rfl rfl)

/-- The two column blocks of the product, side by side, are the product. -/
theorem x_apply (x0 : Vec Ideal S512x512 .bf16) (x1 : Vec Ideal S512x1024 .bf16) (x2 : Vec Ideal S512x1024 .f32) (r : Fin 512) (j : Fin 1024) :
    k0_pay1 x0 (View.ld x1 r0_1) (View.ld x1 r0_2) x2 (ix2 r j) = x2 (ix2 r j) + prod x0 x1 (ix2 r j) := by
  rw [add_comm]
  pointwise [k0_pay1, prod]
  split
  · rfl
  · next h =>
    have e : ∀ p : 512 + (j.val - 512) < 1024, (⟨512 + (j.val - 512), p⟩ : Fin 1024) = j := fun p => Fin.ext (by show 512 + (j.val - 512) = j.val; omega)
    simp only [e]

theorem h_apply (x0 : Vec Ideal S512x512 .bf16) (x1 : Vec Ideal S512x1024 .bf16) (x2 : Vec Ideal S512x1024 .f32) (g : Vec Ideal S1x1024 .f32) (r : Fin 512) (j : Fin 1024) :
    k0_pay2 x0 (View.ld x1 r0_1) (View.ld x1 r0_2) x2 g (ix2 r j) = nrm (fun k => x2 (ix2 r k) + prod x0 x1 (ix2 r k)) (g (ix2 0 j)) j := by
  pointwise [k0_pay2]
  simp only [x_apply]
  rfl

/-- The first output ends with the residual stream, every point writing its rows of it, -/
theorem final4 (c : Dev nD) : (dats m 0 c).arrAt 4 cfg0.N = rX (aT m c) (m ((c.tc : Thread nD τ).loc main_arg1)) (aX m c) := by
  refine (dats m 0 c).arrAt_eq_of_covers 4 _ (by decide +kernel) fun t hf y => ?_
  obtain ⟨r, j, rfl⟩ : ∃ (r : Fin 512) (j : Fin 1024), y = ix2 r j := ⟨y 0, y 1, eq_ix2 y⟩
  have he : (win0_4.blk t).view.emb (ix2 r j) = ix2 (row 512 t.val r) j := eq_row (idx4 t).1 (idx4 t).2 (by have := lt16 t; omega) rfl rfl
  blk_simp [he]
  rw [after0_4, iblk0, iblk1, iblk2, iblk3, rX_apply]
  frame_out
  rw [x_apply, aW_eq]
  rfl

/-- and the second with its norm. -/
theorem final5 (c : Dev nD) : (dats m 0 c).arrAt 5 cfg0.N = rH (rX (aT m c) (m ((c.tc : Thread nD τ).loc main_arg1)) (aX m c)) (m ((c.tc : Thread nD τ).loc main_arg3)) := by
  refine (dats m 0 c).arrAt_eq_of_covers 5 _ (by decide +kernel) fun t hf y => ?_
  obtain ⟨r, j, rfl⟩ : ∃ (r : Fin 512) (j : Fin 1024), y = ix2 r j := ⟨y 0, y 1, eq_ix2 y⟩
  have he : (win0_5.blk t).view.emb (ix2 r j) = ix2 (row 512 t.val r) j := eq_row (idx5 t).1 (idx5 t).2 (by have := lt16 t; omega) rfl rfl
  blk_simp [he]
  rw [after0_5, iblk0, iblk1, iblk2, iblk3, rH_apply]
  simp only [rX_apply]
  frame_out
  rw [h_apply, aW_eq, aG_eq, asRow_apply]
  rfl

/-- The kernel's run ends with the reference's two results. -/
theorem run (ρ : Dev nD → PrngReg) :
    θ_run defs (onTc (τ := τ) (main (F := Ideal))) ⟨m, fun _ => 0, ρ⟩ fun r => ∀ c : Dev nD,
      r.2.mem ((c.tc : Thread nD τ).loc main_v2_0) = rX (m ((c.tc : Thread nD τ).loc main_arg0)) (m ((c.tc : Thread nD τ).loc main_arg1)) (m ((c.tc : Thread nD τ).loc main_arg2)) ∧
      r.2.mem ((c.tc : Thread nD τ).loc main_v2_1) = rH (rX (m ((c.tc : Thread nD τ).loc main_arg0)) (m ((c.tc : Thread nD τ).loc main_arg1)) (m ((c.tc : Thread nD τ).loc main_arg2))) (m ((c.tc : Thread nD τ).loc main_arg3)) :=
  (θ_run defs _ _).mono (fun _ h c => by
    have e0 : aT m c = (m ((c.tc : Thread nD τ).loc main_arg0)) := V_main_arg0 m c
    have e2 : aX m c = (m ((c.tc : Thread nD τ).loc main_arg2)) := V_main_arg2 m c
    exact ⟨((h c).1 4).trans ((final4 m c).trans (by rw [e0, e2])), ((h c).1 5).trans ((final5 m c).trans (by rw [e0, e2]))⟩) (run_main m ρ)

end Cert.Kernel23Ideal.Fwd
-- ==== Proof.AttnOBwd.lean ====
module

public import proofs.«01_k».proof.Proof.Gen.Kernel24Ideal.Value
public import proofs.«01_k».proof.Proof.Gen.Reference24Ideal.Run
public import Idealize.ShloMosaic.Lib.Pipeline.Value
public import Idealize.ShloMosaic.Lib.Pipeline.ReadBack
public import Idealize.ShloMosaic.Lib.Pointwise
public import Idealize.ShloMosaic.Lib.Pipeline.ValueKit.Acc
public import proofs.«01_k».proof.Proof.Rows
public import proofs.«01_k».proof.Proof.Blocks

/-! The cotangent of the left side of the attention's output product: the kernel multiplies 2048 rows of the output's cotangent by the
transposed weight, summing eight column blocks; the reference is the gradient of the product. -/

@[expose] public section

set_option maxRecDepth 16384

noncomputable section

namespace Cert.Reference24Ideal.Bwd

open Cert.Reference24Ideal Cert.Reference24Ideal.Gen Idealize.ShloMosaic Idealize.ShloMosaic.TcCoe Idealize.SL.Sem

/-- The reference's result. -/
def rO (g : FVec Ideal S8192x1024 .bf16) (w : FVec Ideal S512x1024 .f32) : FVec Ideal S8192x512 .f32 :=
  Host.dotGeneral dot_S8192x1024_S512x1024_S8192x512_1_1_0_0_n_n none (extf .f32 g bitsLt_bf16_f32) w

theorem rO_apply (g : FVec Ideal S8192x1024 .bf16) (w : FVec Ideal S512x1024 .f32) (i : Fin 8192) (j : Fin 512) :
    rO g w (ix2 i j) = ∑ k : Fin 1024, g (ix2 i k) * w (ix2 j k) := by
  pointwise [rO]

/-- The reference's run ends with it. -/
theorem run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v3) = rO (m ((c.tc : Thread nD τ).loc main_arg0)) (m ((c.tc : Thread nD τ).loc main_arg1)) :=
  (θ_run defs _ _).mono (fun _ h c => (h c).1.trans (by unfold rO; rfl)) (Value.run (F := Ideal) m ρ)

end Cert.Reference24Ideal.Bwd

namespace Cert.Kernel24Ideal.Bwd

open Cert.Kernel24Ideal Cert.Kernel24Ideal.Gen Idealize.ShloMosaic Idealize.ShloMosaic.TcCoe Idealize.SL.Sem
open Idealize.ShloMosaic.Pipeline (Dat)
open Cert.Reference24Ideal.Bwd (rO rO_apply)

/-- Column `e` of the `q`th of eight column blocks. -/
def col (q : Fin 8) (e : Fin 128) : Fin 1024 := ⟨128 * q.val + e.val, by omega⟩

theorem col0 (e : Fin 128) : col 0 e = ⟨e.val, by omega⟩ := Fin.ext (Nat.zero_add _)
theorem col1 (e : Fin 128) : col 1 e = ⟨128 + e.val, by omega⟩ := rfl
theorem col2 (e : Fin 128) : col 2 e = ⟨256 + e.val, by omega⟩ := rfl
theorem col3 (e : Fin 128) : col 3 e = ⟨384 + e.val, by omega⟩ := rfl
theorem col4 (e : Fin 128) : col 4 e = ⟨512 + e.val, by omega⟩ := rfl
theorem col5 (e : Fin 128) : col 5 e = ⟨640 + e.val, by omega⟩ := rfl
theorem col6 (e : Fin 128) : col 6 e = ⟨768 + e.val, by omega⟩ := rfl
theorem col7 (e : Fin 128) : col 7 e = ⟨896 + e.val, by omega⟩ := rfl

/-- The block of the result. -/
def oBlk (x0 : Vec Ideal S2048x1024 .bf16) (x1 : Vec Ideal S8x512x128 .bf16) : Vec Ideal S2048x512 .f32 := fun y =>
  ∑ q : Fin 8, ∑ e : Fin 128, x0 (ix2 (y 0) (col q e)) * x1 (ix3 q (y 1) e)

/-- What a grid point leaves in its output block. -/
theorem out_eq (x0 : Vec Ideal S2048x1024 .bf16) (x1 : Vec Ideal S8x512x128 .bf16) : out0_2 x0 x1 = oBlk x0 x1 := by
  unfold out0_2
  apply Blocks.whole2
  intro r j
  show _ = ∑ q : Fin 8, ∑ e : Fin 128, x0 (ix2 r (col q e)) * x1 (ix3 q j e)
  rw [Fin.sum_univ_eight]
  simp only [col0, col1, col2, col3, col4, col5, col6, col7]
  pointwise [k0_pay1, k0_pay2]

variable (m : (ℓ : Loc nD τ sig) → Buf (Elt Ideal) ℓ)

/-- The arrays the region reads. -/
abbrev aG (c : Dev nD) : Vec Ideal S8192x1024 .bf16 := V m c main_arg0
abbrev aW (c : Dev nD) : Vec Ideal S8x512x128 .bf16 := V m c main_v2

/-- The weight cut into column blocks. -/
def colBlocks (w : FVec Ideal S512x1024 .f32) : FVec Ideal S8x512x128 .bf16 :=
  transpose S8x512x128 [1, 0, 2] (shapeCast S512x8x128 (truncf .bf16 w bitsLt_bf16_f32) shapeCasts_S512x1024_S512x8x128) transposes_S512x8x128_S8x512x128_1_0_2

theorem colBlocks_apply (w : FVec Ideal S512x1024 .f32) (q : Fin 8) (k : Fin 512) (e : Fin 128) : colBlocks w (ix3 q k e) = w (ix2 k (col q e)) := by
  pointwise [colBlocks]
  exact congrArg w (congrArg (ix2 k) (Fin.ext (by show q.val * 128 + e.val = 128 * q.val + e.val; omega)))

/-- The weight is read as launched, but for its place: narrowing is the identity over the extended reals. -/
theorem aW_eq (c : Dev nD) : aW m c = colBlocks (m ((c.tc : Thread nD τ).loc main_arg1)) := by
  show StableHlo.after hostOps0 (fun b => m (c, b)) (Proc.devRef .tc main_v2) = _
  simp only [hostOps0, StableHlo.TRef.binary, StableHlo.TRef.nullary, StableHlo.TRef.ternary, StableHlo.TRef.unary, StableHlo.TRef.toBuf, StableHlo.TRef.ofBuf, cast_eq]
  after_results_simp
  rfl

/-- The rows of chunk `s` of an array of 8192 rows. -/
def chunk {n : Nat} {e : EltTy} (X : (⟨2, ![8192, n]⟩ : Shape).Idx → Elt Ideal e) (s : Nat) : (⟨2, ![2048, n]⟩ : Shape).Idx → Elt Ideal e :=
  fun y => X (ix2 ⟨(2048 * s + (y 0).val) % 8192, Nat.mod_lt _ (by decide)⟩ (y 1))

theorem lt4 (t : Fin cfg0.N) : t.val < 4 := lt_of_lt_of_eq t.isLt N_0

theorem index0 : ∀ t : Fin grid0.N, win0_0.index t 0 = t.val ∧ win0_0.index t 1 = 0 := by decide +kernel
theorem index1 : ∀ t : Fin grid0.N, win0_1.index t 0 = 0 ∧ win0_1.index t 1 = 0 ∧ win0_1.index t 2 = 0 := by decide +kernel
theorem index2 : ∀ t : Fin grid0.N, win0_2.index t 0 = t.val ∧ win0_2.index t 1 = 0 := by decide +kernel

/-- Point `t` reads its rows of input 0. -/
theorem iblk0 (c : Dev nD) (t : Fin cfg0.N) : (iblk m c 0 t : Vec Ideal S2048x1024 .bf16) = chunk (aG m c) t.val := by
  funext j
  unfold iblk
  rw [View.read_apply]
  exact congrArg (aG m c) (Rows.eq_row (index0 t).1 (index0 t).2 (by have := lt4 t; omega) rfl rfl)

/-- Every point reads the whole weight. -/
theorem iblk1 (c : Dev nD) (t : Fin cfg0.N) : (iblk m c 1 t : Vec Ideal S8x512x128 .bf16) = aW m c := by
  funext j
  unfold iblk
  rw [View.read_apply]
  exact congrArg (aW m c) (Rows.eq_whole3 (index1 t).1 (index1 t).2.1 (index1 t).2.2 rfl rfl rfl)

/-- What the output ends holding. -/
def gO (c : Dev nD) : Vec Ideal S8192x512 .f32 := fun i =>
  oBlk (chunk (aG m c) ((i 0).val / 2048)) (aW m c) (ix2 ⟨(i 0).val % 2048, Nat.mod_lt _ (by decide)⟩ (i 1))

/-- Point `t` writes its rows of it, -/
theorem flushed2 (c : Dev nD) (t : Fin cfg0.N) :
    (dats m 0 c).flushed 2 t = ((cfg0.win 2).blk t).view.read (Elt Ideal) (gO m c) := by
  have ht := lt4 t
  rw [Value.flushed2, out_eq, iblk0, iblk1]
  funext j
  rw [View.read_apply]
  exact Rows.at_chunk (fun s => oBlk (chunk (aG m c) s) (aW m c)) t.val j (by decide) (index2 t).1 (index2 t).2 rfl rfl

/-- so the output ends holding it. -/
theorem final2 (c : Dev nD) : (dats m 0 c).arrAt 2 cfg0.N = gO m c :=
  (dats m 0 c).arrAt_eq_of_cover 2 (gO m c) (fun t _ => flushed2 m c t) ((by decide +kernel : (cfg0.win 2).Covers).cover _ (Memref.isWhole_whole _))

/-- It is the reference's: the eight column blocks' sums are the sum. -/
theorem gO_eq (c : Dev nD) : gO m c = rO (aG m c) (m ((c.tc : Thread nD τ).loc main_arg1)) := by
  suffices hs : ∀ (i : Fin 8192) (j : Fin 512), gO m c (ix2 i j) = rO (aG m c) (m ((c.tc : Thread nD τ).loc main_arg1)) (ix2 i j) by
    funext y
    rw [eq_ix2 y]
    exact hs _ _
  intro i j
  rw [rO_apply]
  show (∑ q : Fin 8, ∑ e : Fin 128, aG m c (ix2 ⟨(2048 * (i.val / 2048) + i.val % 2048) % 8192, _⟩ (col q e)) * aW m c (ix3 q j e)) = _
  refine Fin.sum_mul_add_congr (fun q e hl => ?_)
  rw [aW_eq, colBlocks_apply]
  refine congrArg₂ (fun p q : EReal => p * q) (congrArg (aG m c) (congrArg₂ ix2 (Fin.ext ?_) (Fin.ext ?_))) (congrArg (m ((c.tc : Thread nD τ).loc main_arg1) : S512x1024.Idx → EReal) (congrArg₂ ix2 rfl (Fin.ext ?_)))
  · show (2048 * (i.val / 2048) + i.val % 2048) % 8192 = i.val; omega
  · show 128 * q.val + e.val = q.val * 128 + e.val; omega
  · show 128 * q.val + e.val = q.val * 128 + e.val; omega

/-- The kernel's run ends with the reference's cotangent. -/
theorem run (ρ : Dev nD → PrngReg) :
    θ_run defs (onTc (τ := τ) (main (F := Ideal))) ⟨m, fun _ => 0, ρ⟩ fun r => ∀ c : Dev nD,
      r.2.mem ((c.tc : Thread nD τ).loc main_v3) = rO (m ((c.tc : Thread nD τ).loc main_arg0)) (m ((c.tc : Thread nD τ).loc main_arg1)) :=
  (θ_run defs _ _).mono (fun _ h c => by
    have e : gO m c = rO (m ((c.tc : Thread nD τ).loc main_arg0)) (m ((c.tc : Thread nD τ).loc main_arg1)) := by
      rw [gO_eq, show aG m c = _ from V_main_arg0 m c]
    exact (h c).1.trans ((final2 m c).trans e)) (Value.run_blocks m ρ)

end Cert.Kernel24Ideal.Bwd
-- ==== Proof.AttnOWg.lean ====
module

public import proofs.«01_k».proof.Proof.Gen.Kernel25Ideal.Value
public import proofs.«01_k».proof.Proof.Gen.Reference25Ideal.Run
public import Idealize.ShloMosaic.Lib.Pipeline.Value
public import Idealize.ShloMosaic.Lib.Pipeline.ReadBack
public import Idealize.ShloMosaic.Lib.Pipeline.ValueKit.Acc
public import Idealize.ShloMosaic.Lib.Pointwise
public import proofs.«01_k».proof.Proof.Blocks
public import proofs.«01_k».proof.Proof.Rows

/-! The gradient of the attention's output weight, by column blocks: the kernel adds, over eight blocks of 1024 rows, the
products of the transposed input's block and eight column blocks of the cotangent; the sum over all 8192 rows is the
reference's one product. -/

@[expose] public section

set_option maxRecDepth 16384

noncomputable section

namespace Cert.Kernel25Ideal.Wg

open Cert.Kernel25Ideal Cert.Kernel25Ideal.Gen Idealize.ShloMosaic Idealize.ShloMosaic.TcCoe Idealize.SL.Sem
open Idealize.ShloMosaic.Pipeline (Dat)

/-- Column `e` of block `q` among eight. -/
def col (q : Fin 8) (e : Fin 128) : Fin 1024 := ⟨128 * q.val + e.val, by omega⟩

theorem col0 (e : Fin 128) : col 0 e = ⟨e.val, by omega⟩ := Fin.ext (Nat.zero_add _)
theorem col1 (e : Fin 128) : col 1 e = ⟨128 + e.val, by omega⟩ := rfl
theorem col2 (e : Fin 128) : col 2 e = ⟨256 + e.val, by omega⟩ := rfl
theorem col3 (e : Fin 128) : col 3 e = ⟨384 + e.val, by omega⟩ := rfl
theorem col4 (e : Fin 128) : col 4 e = ⟨512 + e.val, by omega⟩ := rfl
theorem col5 (e : Fin 128) : col 5 e = ⟨640 + e.val, by omega⟩ := rfl
theorem col6 (e : Fin 128) : col 6 e = ⟨768 + e.val, by omega⟩ := rfl
theorem col7 (e : Fin 128) : col 7 e = ⟨896 + e.val, by omega⟩ := rfl

/-- The products of a block's transposed input and its cotangents' eight column blocks. -/
def wgBlk (a : Vec Ideal S1024x512 .bf16) (g : Vec Ideal S1024x1024 .bf16) : Vec Ideal S8x512x128 .f32 := fun y =>
  ∑ r : Fin 1024, a (ix2 r (y 1)) * g (ix2 r (col (y 0) (y 2)))

section
variable (c : Dev nD) (i : grid0.Coords) (arg3 : Memref sig .tc .vmem S1024x512 .bf16) (harg3 : arg3.IsWhole) (arg4 : Memref sig .tc .vmem S1024x1024 .bf16) (harg4 : arg4.IsWhole) (arg5 : Memref sig .tc .vmem S8x512x128 .f32) (harg5 : arg5.IsWhole) (arg6 : Memref sig .tc .vmem S8x512x128 .bf16) (harg6 : arg6.IsWhole)
    (x0 : Vec Ideal S1024x512 .bf16) (x1 : Vec Ideal S1024x1024 .bf16) (o : Vec Ideal S8x512x128 .f32)

/-- The first point of a column block starts the sums at its products, -/
theorem out_A (hc0 : cond0_0 i) (hc1 : ¬cond0_1 i) :
    out0_A_2 c i arg3 harg3 arg4 harg4 arg5 harg5 arg6 harg6 hc0 hc1 x0 x1 = wgBlk x0 x1 := by
  unfold out0_A_2
  rw [View.read_writes_eq_canon _ _ _ (cover0_A_2 c i arg3 harg3 arg4 harg4 arg5 harg5 arg6 harg6 hc0 hc1 x0 x1)]
  unfold kernelRun0_A
  dsimp only
  sl_unfold_words
  simp (disch := decide) only [↓View.readCov_skip, ↓View.readCov_fill, View.readAt_eq_ld, harg3.read_unread, harg4.read_unread, harg5.read_unread, harg6.read_unread]
  apply Blocks.eight
  all_goals intro r e; pointwise [k0_pay1, k0_pay2, k0_pay4, k0_pay5, k0_pay6, k0_pay7, k0_pay8, k0_pay9, k0_pay10, k0_pay11, k0_pay12, wgBlk]
  all_goals simp only [col0, col1, col2, col3, col4, col5, col6, col7]

/-- a later one adds its own, -/
theorem out_B (hc0 : ¬cond0_0 i) (hc1 : ¬cond0_1 i) :
    out0_B_2 c i arg3 harg3 arg4 harg4 arg5 harg5 arg6 harg6 hc0 hc1 x0 x1 o = fun y => o y + wgBlk x0 x1 y := by
  unfold out0_B_2
  rw [View.read_writes_eq_canon _ _ _ (cover0_B_2 c i arg3 harg3 arg4 harg4 arg5 harg5 arg6 harg6 hc0 hc1 x0 x1 o)]
  unfold kernelRun0_B
  dsimp only
  sl_unfold_words
  simp (disch := decide) only [↓View.readCov_skip, ↓View.readCov_fill, View.readAt_eq_ld, harg3.read_unread, harg4.read_unread, harg5.read_unread, harg6.read_unread]
  apply Blocks.eight
  all_goals intro r e; pointwise [k0_pay1, k0_pay2, k0_pay4, k0_pay5, k0_pay6, k0_pay7, k0_pay8, k0_pay9, k0_pay10, k0_pay11, k0_pay12, wgBlk]
  all_goals simp only [col0, col1, col2, col3, col4, col5, col6, col7]

/-- and so does the last, -/
theorem out_C (hc0 : ¬cond0_0 i) (hc1 : cond0_1 i) :
    out0_C_2 c i arg3 harg3 arg4 harg4 arg5 harg5 arg6 harg6 hc0 hc1 x0 x1 o = fun y => o y + wgBlk x0 x1 y := by
  unfold out0_C_2
  rw [View.read_writes_eq_canon _ _ _ (cover0_C_2 c i arg3 harg3 arg4 harg4 arg5 harg5 arg6 harg6 hc0 hc1 x0 x1 o)]
  unfold kernelRun0_C
  dsimp only
  sl_unfold_words
  simp (disch := decide) only [↓View.readCov_skip, ↓View.readCov_fill, View.readAt_eq_ld, harg3.read_unread, harg4.read_unread, harg5.read_unread, harg6.read_unread]
  apply Blocks.eight
  all_goals intro r e; pointwise [k0_pay1, k0_pay2, k0_pay4, k0_pay5, k0_pay6, k0_pay7, k0_pay8, k0_pay9, k0_pay10, k0_pay11, k0_pay12, wgBlk]
  all_goals simp only [col0, col1, col2, col3, col4, col5, col6, col7]

/-- which also leaves the finished sum in the second output. -/
theorem out_C' (hc0 : ¬cond0_0 i) (hc1 : cond0_1 i) :
    out0_C_3 c i arg3 harg3 arg4 harg4 arg5 harg5 arg6 harg6 hc0 hc1 x0 x1 o = fun y => o y + wgBlk x0 x1 y := by
  unfold out0_C_3
  rw [View.read_writes_eq_canon _ _ _ (cover0_C_3 c i arg3 harg3 arg4 harg4 arg5 harg5 arg6 harg6 hc0 hc1 x0 x1 o)]
  unfold kernelRun0_C
  dsimp only
  sl_unfold_words
  simp (disch := decide) only [↓View.readCov_skip, ↓View.readCov_fill, View.readAt_eq_ld, harg3.read_unread, harg4.read_unread, harg5.read_unread, harg6.read_unread]
  apply Blocks.whole
  intro q r s
  pointwise [k0_pay3]
  rw [View.readCov_eq_canon', Blocks.eight (fun y => o y + wgBlk x0 x1 y)]
  · have e : (Rect.unit (s := S8x512x128) ![0, 0, 0] ![8, 512, 128] inb_S8x512x128_S8x512x128_0_0_0).toLoadRect.idx (ix3 q r s) = (ix3 q r s : S8x512x128.Idx) := by
      funext a; apply Fin.ext
      match a with
      | ⟨0, _⟩ => show 0 + 1 * q.val = q.val; omega
      | ⟨1, _⟩ => show 0 + 1 * r.val = r.val; omega
      | ⟨2, _⟩ => show 0 + 1 * s.val = s.val; omega
    exact congrArg (fun y => o y + wgBlk x0 x1 y) e
  all_goals intro r e; pointwise [k0_pay1, k0_pay2, k0_pay4, k0_pay5, k0_pay6, k0_pay7, k0_pay8, k0_pay9, k0_pay10, k0_pay11, k0_pay12, wgBlk]
  all_goals simp only [col0, col1, col2, col3, col4, col5, col6, col7]

end

variable (m : (ℓ : Loc nD τ sig) → Buf (Elt Ideal) ℓ)

/-- The input and the cotangents, as the region finds them. -/
abbrev aX (c : Dev nD) : Vec Ideal S8192x512 .bf16 := V m c main_arg0
abbrev aG (c : Dev nD) : Vec Ideal S8192x1024 .bf16 := V m c main_arg1

/-- Rows `1024 k …` of the input, -/
def blkX (X : Vec Ideal S8192x512 .bf16) (k : Nat) : Vec Ideal S1024x512 .bf16 := fun y =>
  X (ix2 ⟨(1024 * k + (y 0).val) % 8192, Nat.mod_lt _ (by decide)⟩ (y 1))

/-- and of columns `1024 i …` of the cotangents. -/
def blkG (X : Vec Ideal S8192x1024 .bf16) (i k : Nat) : Vec Ideal S1024x1024 .bf16 := fun y =>
  X (ix2 ⟨(1024 * k + (y 0).val) % 8192, Nat.mod_lt _ (by decide)⟩ ⟨(1024 * i + (y 1).val) % 1024, Nat.mod_lt _ (by decide)⟩)

theorem lt8 (t : Fin cfg0.N) : t.val < 8 := lt_of_lt_of_eq t.isLt N_0

theorem index0 : ∀ t : Fin grid0.N, win0_0.index t 0 = t.val % 8 ∧ win0_0.index t 1 = 0 := by decide +kernel
theorem index1 : ∀ t : Fin grid0.N, win0_1.index t 0 = t.val % 8 ∧ win0_1.index t 1 = t.val / 8 := by decide +kernel
theorem index2 : ∀ t : Fin grid0.N, win0_2.index t 0 = t.val / 8 ∧ win0_2.index t 1 = 0 ∧ win0_2.index t 2 = 0 := by decide +kernel
theorem index3 : ∀ t : Fin grid0.N, win0_3.index t 0 = t.val / 8 ∧ win0_3.index t 1 = 0 ∧ win0_3.index t 2 = 0 := by decide +kernel

/-- What point `t` reads of the input, -/
theorem iblk0 (c : Dev nD) (t : Fin cfg0.N) : (iblk m c 0 t : Vec Ideal S1024x512 .bf16) = blkX (aX m c) (t.val % 8) := by
  funext j
  unfold iblk
  rw [View.read_apply]
  exact congrArg (aX m c) (Rows.eq_row (index0 t).1 (index0 t).2 (by have := lt8 t; omega) rfl rfl)

/-- and of the cotangents. -/
theorem iblk1 (c : Dev nD) (t : Fin cfg0.N) : (iblk m c 1 t : Vec Ideal S1024x1024 .bf16) = blkG (aG m c) (t.val / 8) (t.val % 8) := by
  have ht := lt8 t
  funext j
  unfold iblk
  rw [View.read_apply]
  show V m c main_arg1 _ = V m c main_arg1 _
  congr 1
  funext a
  apply Fin.ext
  have h0 : (j 0 : Nat) < 1024 := (j 0).isLt
  match a with
  | ⟨0, _⟩ => show win0_1.index t 0 * 1024 + 1 * (j 0).val = (1024 * (t.val % 8) + (j 0).val) % 8192; rw [(index1 t).1]; omega
  | ⟨1, _⟩ => have h1 : (j 1 : Nat) < 1024 := (j 1).isLt
              show win0_1.index t 1 * 1024 + 1 * (j 1).val = (1024 * (t.val / 8) + (j 1).val) % 1024; rw [(index1 t).2]; omega

/-- The sum over the first `n` row blocks for the eight column blocks. -/
def part (c : Dev nD) (i n : Nat) : Vec Ideal S8x512x128 .f32 := fun y =>
  ∑ k ∈ Finset.range n, wgBlk (blkX (aX m c) k) (blkG (aG m c) i k) y

/-- What the first output's block holds after point `n`: the eight column blocks' sums so far; -/
theorem outsAt_fst (c : Dev nD) : ∀ (n : ℕ) (h : n < cfg0.N), (outsAt0 m c n h).1 = part m c (n / 8) (n % 8 + 1)
  | 0, h => by
    rw [outsAt0_A m c ⟨0, h⟩ rfl (by show ¬0 % 8 = 7; decide), out_A, iblk0, iblk1]
    funext y
    simp only [part, Nat.zero_mod, Nat.zero_div, Nat.zero_add, Finset.sum_range_one]
  | n + 1, h => by
    have ht := lt8 ⟨n + 1, h⟩
    dsimp only at ht
    by_cases h0 : (n + 1) % 8 = 0
    · have h1 : ¬(n + 1) % 8 = 7 := by omega
      rw [outsAt0_A m c ⟨n + 1, h⟩ h0 h1, out_A, iblk0, iblk1]
      funext y
      simp only [part, h0, Nat.zero_add, Finset.sum_range_one]
    · have e1 : n / 8 = (n + 1) / 8 := by omega
      have e2 : n % 8 + 1 = (n + 1) % 8 := by omega
      by_cases h1 : (n + 1) % 8 = 7
      · rw [outsAt0_C m c ⟨n + 1, h⟩ h0 h1, out_C, iblk0, iblk1]
        simp only [Nat.add_sub_cancel, outsAt_fst c n (Nat.lt_of_succ_lt h), e1, e2]
        funext y
        simp only [part, Finset.sum_range_succ _ ((n + 1) % 8)]
      · rw [outsAt0_B m c ⟨n + 1, h⟩ h0 h1, out_B, iblk0, iblk1]
        simp only [Nat.add_sub_cancel, outsAt_fst c n (Nat.lt_of_succ_lt h), e1, e2]
        funext y
        simp only [part, Finset.sum_range_succ _ ((n + 1) % 8)]

/-- at their last point the second output's holds the same. -/
theorem outsAt_snd (c : Dev nD) (t : Fin cfg0.N) (h1 : t.val % 8 = 7) :
    (outsAt0 m c t.val t.isLt).2 = part m c (t.val / 8) 8 := by
  have h0 : ¬t.val % 8 = 0 := by omega
  have h8 : t.val % 8 + 1 = 8 := by omega
  refine Eq.trans ?_ ((outsAt_fst m c t.val t.isLt).trans (by rw [h8]))
  rw [outsAt0_C m c t h0 h1, out_C, out_C']

/-- The gradient, by column blocks. -/
def gW (c : Dev nD) : Vec Ideal S8x512x128 .f32 := fun i =>
  part m c ((i 0).val / 8) 8 (ix3 ⟨(i 0).val % 8, Nat.mod_lt _ (by decide)⟩ (i 1) (i 2))

/-- The last point of eight column blocks writes its part of the gradient to the first output, -/
theorem flushed2 (c : Dev nD) (t : Fin cfg0.N) (hf : (cfg0.win 2).flush t = true) :
    (dats m 0 c).flushed 2 t = ((cfg0.win 2).blk t).view.read (Elt Ideal) (gW m c) := by
  have ht := lt8 t
  have h7 : t.val % 8 = 7 := (flush0_2 t).mp hf
  rw [Value.flushed2, outsAt_fst, show t.val % 8 + 1 = 8 by omega]
  funext j
  rw [View.read_apply]
  have h0 : (j 0 : Nat) < 8 := (j 0).isLt
  have e : ((cfg0.win 2).blk t).view.emb j = (ix3 ⟨8 * (t.val / 8) + (j 0).val, by omega⟩ (j 1) (j 2) : S8x512x128.Idx) := by
    funext a
    apply Fin.ext
    match a with
    | ⟨0, _⟩ => show win0_2.index t 0 * 8 + 1 * (j 0).val = 8 * (t.val / 8) + (j 0).val; rw [(index2 t).1]; omega
    | ⟨1, _⟩ => show win0_2.index t 1 * 512 + 1 * (j 1).val = (j 1).val; rw [(index2 t).2.1]; omega
    | ⟨2, _⟩ => show win0_2.index t 2 * 128 + 1 * (j 2).val = (j 2).val; rw [(index2 t).2.2]; omega
  rw [e]
  have e1 : (8 * (t.val / 8) + (j 0).val) / 8 = t.val / 8 := by omega
  have e2 : (⟨(8 * (t.val / 8) + (j 0).val) % 8, Nat.mod_lt _ (by decide)⟩ : Fin 8) = j 0 := Fin.ext (by show _ % 8 = (j 0).val; omega)
  show _ = part m c ((8 * (t.val / 8) + (j 0).val) / 8) 8 (ix3 ⟨(8 * (t.val / 8) + (j 0).val) % 8, _⟩ (j 1) (j 2))
  rw [e1, e2]
  exact congrArg (part m c (t.val / 8) 8) (eq_ix3 j)

/-- and to the second. -/
theorem flushed3 (c : Dev nD) (t : Fin cfg0.N) (hf : (cfg0.win 3).flush t = true) :
    (dats m 0 c).flushed 3 t = ((cfg0.win 3).blk t).view.read (Elt Ideal) (gW m c) := by
  have ht := lt8 t
  have h7 : t.val % 8 = 7 := (flush0_3 t).mp hf
  rw [Value.flushed3, outsAt_snd m c t h7]
  funext j
  rw [View.read_apply]
  have h0 : (j 0 : Nat) < 8 := (j 0).isLt
  have e : ((cfg0.win 3).blk t).view.emb j = (ix3 ⟨8 * (t.val / 8) + (j 0).val, by omega⟩ (j 1) (j 2) : S8x512x128.Idx) := by
    funext a
    apply Fin.ext
    match a with
    | ⟨0, _⟩ => show win0_3.index t 0 * 8 + 1 * (j 0).val = 8 * (t.val / 8) + (j 0).val; rw [(index3 t).1]; omega
    | ⟨1, _⟩ => show win0_3.index t 1 * 512 + 1 * (j 1).val = (j 1).val; rw [(index3 t).2.1]; omega
    | ⟨2, _⟩ => show win0_3.index t 2 * 128 + 1 * (j 2).val = (j 2).val; rw [(index3 t).2.2]; omega
  rw [e]
  have e1 : (8 * (t.val / 8) + (j 0).val) / 8 = t.val / 8 := by omega
  have e2 : (⟨(8 * (t.val / 8) + (j 0).val) % 8, Nat.mod_lt _ (by decide)⟩ : Fin 8) = j 0 := Fin.ext (by show _ % 8 = (j 0).val; omega)
  show _ = part m c ((8 * (t.val / 8) + (j 0).val) / 8) 8 (ix3 ⟨(8 * (t.val / 8) + (j 0).val) % 8, _⟩ (j 1) (j 2))
  rw [e1, e2]
  exact congrArg (part m c (t.val / 8) 8) (eq_ix3 j)

/-- So the first output ends holding the gradient, -/
theorem final2 (c : Dev nD) : (dats m 0 c).arrAt 2 cfg0.N = gW m c :=
  (dats m 0 c).arrAt_eq_of_cover 2 (gW m c) (flushed2 m c) ((by decide +kernel : (cfg0.win 2).Covers).cover _ (Memref.isWhole_whole _))

/-- and so does the second. -/
theorem final3 (c : Dev nD) : (dats m 0 c).arrAt 3 cfg0.N = gW m c :=
  (dats m 0 c).arrAt_eq_of_cover 3 (gW m c) (flushed3 m c) ((by decide +kernel : (cfg0.win 3).Covers).cover _ (Memref.isWhole_whole _))

end Cert.Kernel25Ideal.Wg

namespace Cert.Reference25Ideal.Wg

open Cert.Reference25Ideal Cert.Reference25Ideal.Gen Idealize.ShloMosaic Idealize.ShloMosaic.TcCoe Idealize.SL.Sem

/-- The reference's gradient of the weight, from the input and the cotangents, by column blocks: -/
def rW (x : FVec Ideal S8192x512 .bf16) (g : FVec Ideal S8192x1024 .bf16) : FVec Ideal S8x512x128 .f32 :=
  transpose S8x512x128 [1, 0, 2] (shapeCast S512x8x128 (transpose S512x1024 [1, 0] (Host.dotGeneral dot_S8192x1024_S8192x512_S1024x512_0_0_1_1_n_n none
    (extf .f32 g bitsLt_bf16_f32) (extf .f32 x bitsLt_bf16_f32)) transposes_S1024x512_S512x1024_1_0) shapeCasts_S512x1024_S512x8x128) transposes_S512x8x128_S8x512x128_1_0_2

/-- one sum over all rows. -/
theorem rW_apply (x : FVec Ideal S8192x512 .bf16) (g : FVec Ideal S8192x1024 .bf16) (q : Fin 8) (i : Fin 512) (j : Fin 128) :
    rW x g (ix3 q i j) = ∑ r : Fin 8192, g (ix2 r ⟨q.val * 128 + j.val, by omega⟩) * x (ix2 r i) := by
  pointwise [rW]

/-- The reference's run ends with it, twice. -/
theorem run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v7) = rW (m ((c.tc : Thread nD τ).loc main_arg0)) (m ((c.tc : Thread nD τ).loc main_arg1))
      ∧ r.2.mem ((c.tc : Thread nD τ).loc main_v8) = rW (m ((c.tc : Thread nD τ).loc main_arg0)) (m ((c.tc : Thread nD τ).loc main_arg1)) :=
  (θ_run defs _ _).mono (fun _ h c => ⟨(h c).1.trans (by unfold rW; rfl), (h c).2.1.trans (by unfold rW; rfl)⟩) (Value.run (F := Ideal) m ρ)

end Cert.Reference25Ideal.Wg

namespace Cert.Kernel25Ideal.Wg

open Cert.Kernel25Ideal Cert.Kernel25Ideal.Gen Idealize.ShloMosaic Idealize.ShloMosaic.TcCoe Idealize.SL.Sem
open Cert.Reference25Ideal.Wg (rW rW_apply)

variable (m : (ℓ : Loc nD τ sig) → Buf (Elt Ideal) ℓ)

/-- The kernel's blocks make up the reference's sum over all rows. -/
theorem gW_eq (c : Dev nD) : gW m c = rW (aX m c) (aG m c) := by
  suffices hs : ∀ (q : Fin 8) (i : Fin 512) (j : Fin 128), gW m c (ix3 q i j) = rW (aX m c) (aG m c) (ix3 q i j) by
    funext y
    rw [eq_ix3 y]
    exact hs _ _ _
  intro q i j
  rw [rW_apply]
  show ∑ k ∈ Finset.range 8, ∑ r : Fin 1024, blkX (aX m c) k (ix2 r i) * blkG (aG m c) (q.val / 8) k (ix2 r (col ⟨q.val % 8, _⟩ j)) = _
  rw [Finset.sum_range]
  refine Fin.sum_mul_add_congr (fun k r hl => ?_)
  rw [mul_comm]
  refine congrArg₂ (fun p q : EReal => p * q) (congrArg (aG m c) (congrArg₂ ix2 (Fin.ext ?_) (Fin.ext ?_))) (congrArg (aX m c) (congrArg₂ ix2 (Fin.ext ?_) rfl))
  · show (1024 * k.val + r.val) % 8192 = k.val * 1024 + r.val; omega
  · show (1024 * (q.val / 8) + (128 * (q.val % 8) + j.val)) % 1024 = q.val * 128 + j.val; omega
  · show (1024 * k.val + r.val) % 8192 = k.val * 1024 + r.val; omega

/-- The kernel's run ends with the reference's gradient in both outputs. -/
theorem run (ρ : Dev nD → PrngReg) :
    θ_run defs (onTc (τ := τ) (main (F := Ideal))) ⟨m, fun _ => 0, ρ⟩ fun r => ∀ c : Dev nD,
      r.2.mem ((c.tc : Thread nD τ).loc main_v0_0) = rW (m ((c.tc : Thread nD τ).loc main_arg0)) (m ((c.tc : Thread nD τ).loc main_arg1))
      ∧ r.2.mem ((c.tc : Thread nD τ).loc main_v0_1) = rW (m ((c.tc : Thread nD τ).loc main_arg0)) (m ((c.tc : Thread nD τ).loc main_arg1)) :=
  (θ_run defs _ _).mono (fun _ h c => by
    have e : gW m c = rW (m ((c.tc : Thread nD τ).loc main_arg0)) (m ((c.tc : Thread nD τ).loc main_arg1)) := by
      rw [gW_eq, show aX m c = _ from V_main_arg0 m c, show aG m c = _ from V_main_arg1 m c]
    exact ⟨(h c).1.trans ((final2 m c).trans e), (h c).2.1.trans ((final3 m c).trans e)⟩) (Value.run_blocks m ρ)

end Cert.Kernel25Ideal.Wg
-- ==== Proof.lean ====
module

public import proofs.«01_k».proof.Defs
public import proofs.«01_k».proof.Proof.Gen.ReferenceIdeal.Run
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.GateValue
public import proofs.«01_k».proof.Proof.GateRun
public import proofs.«01_k».proof.Proof.Gen.Kernel2
public import proofs.«01_k».proof.Proof.Gen.Kernel2.Frame
public import proofs.«01_k».proof.Proof.Gen.Kernel2Ideal
public import proofs.«01_k».proof.Proof.Gen.Kernel2Ideal.Frame
public import proofs.«01_k».proof.Proof.Gen.Kernel2Ideal.Value
public import proofs.«01_k».proof.Proof.Gen.Reference2Ideal
public import proofs.«01_k».proof.Proof.Gen.Reference2Ideal.Run
public import proofs.«01_k».proof.Proof.Gen.Kernel3
public import proofs.«01_k».proof.Proof.Gen.Kernel3.Frame
public import proofs.«01_k».proof.Proof.Gen.Kernel3Ideal
public import proofs.«01_k».proof.Proof.Gen.Kernel3Ideal.Frame
public import proofs.«01_k».proof.Proof.Gen.Kernel3Ideal.Value
public import proofs.«01_k».proof.Proof.Gen.Reference3Ideal
public import proofs.«01_k».proof.Proof.Gen.Reference3Ideal.Run
public import proofs.«01_k».proof.Proof.Gen.Kernel4
public import proofs.«01_k».proof.Proof.Gen.Kernel4.Frame
public import proofs.«01_k».proof.Proof.Gen.Kernel4Ideal
public import proofs.«01_k».proof.Proof.Gen.Kernel4Ideal.Frame
public import proofs.«01_k».proof.Proof.Gen.Kernel4Ideal.Value
public import proofs.«01_k».proof.Proof.Gen.Reference4Ideal
public import proofs.«01_k».proof.Proof.Gen.Reference4Ideal.Run
public import proofs.«01_k».proof.Proof.Gen.Kernel5
public import proofs.«01_k».proof.Proof.Gen.Kernel5.Frame
public import proofs.«01_k».proof.Proof.Gen.Kernel5Ideal
public import proofs.«01_k».proof.Proof.Gen.Kernel5Ideal.Frame
public import proofs.«01_k».proof.Proof.Gen.Kernel5Ideal.Value
public import proofs.«01_k».proof.Proof.Gen.Reference5Ideal
public import proofs.«01_k».proof.Proof.Gen.Reference5Ideal.Run
public import proofs.«01_k».proof.Proof.Gen.Kernel6
public import proofs.«01_k».proof.Proof.Gen.Kernel6.Frame
public import proofs.«01_k».proof.Proof.Gen.Kernel6Ideal
public import proofs.«01_k».proof.Proof.Gen.Kernel6Ideal.Frame
public import proofs.«01_k».proof.Proof.Gen.Kernel6Ideal.Value
public import proofs.«01_k».proof.Proof.Gen.Reference6Ideal
public import proofs.«01_k».proof.Proof.Gen.Reference6Ideal.Run
public import proofs.«01_k».proof.Proof.Gen.Kernel7
public import proofs.«01_k».proof.Proof.Gen.Kernel7.Frame
public import proofs.«01_k».proof.Proof.Gen.Kernel7Ideal
public import proofs.«01_k».proof.Proof.Gen.Kernel7Ideal.Frame
public import proofs.«01_k».proof.Proof.Gen.Kernel7Ideal.Value
public import proofs.«01_k».proof.Proof.Gen.Reference7Ideal
public import proofs.«01_k».proof.Proof.Gen.Reference7Ideal.Run
public import proofs.«01_k».proof.Proof.Gen.Kernel8
public import proofs.«01_k».proof.Proof.Gen.Kernel8.Frame
public import proofs.«01_k».proof.Proof.Gen.Kernel8Ideal
public import proofs.«01_k».proof.Proof.Gen.Kernel8Ideal.Frame
public import proofs.«01_k».proof.Proof.Gen.Kernel8Ideal.Value
public import proofs.«01_k».proof.Proof.Gen.Reference8Ideal
public import proofs.«01_k».proof.Proof.Gen.Reference8Ideal.Run
public import proofs.«01_k».proof.Proof.Gen.Kernel9
public import proofs.«01_k».proof.Proof.Gen.Kernel9.Frame
public import proofs.«01_k».proof.Proof.Gen.Kernel9Ideal
public import proofs.«01_k».proof.Proof.Gen.Kernel9Ideal.Frame
public import proofs.«01_k».proof.Proof.Gen.Kernel9Ideal.Value
public import proofs.«01_k».proof.Proof.Gen.Reference9Ideal
public import proofs.«01_k».proof.Proof.Gen.Reference9Ideal.Run
public import proofs.«01_k».proof.Proof.Gen.Kernel10
public import proofs.«01_k».proof.Proof.Gen.Kernel10.Frame
public import proofs.«01_k».proof.Proof.Gen.Kernel10Ideal
public import proofs.«01_k».proof.Proof.Gen.Kernel10Ideal.Frame
public import proofs.«01_k».proof.Proof.Gen.Kernel10Ideal.Value
public import proofs.«01_k».proof.Proof.Gen.Reference10Ideal
public import proofs.«01_k».proof.Proof.Gen.Reference10Ideal.Run
public import proofs.«01_k».proof.Proof.Gen.Kernel11
public import proofs.«01_k».proof.Proof.Gen.Kernel11.Frame
public import proofs.«01_k».proof.Proof.Gen.Kernel11Ideal
public import proofs.«01_k».proof.Proof.Gen.Kernel11Ideal.Frame
public import proofs.«01_k».proof.Proof.Gen.Kernel11Ideal.Value
public import proofs.«01_k».proof.Proof.Gen.Reference11Ideal
public import proofs.«01_k».proof.Proof.Gen.Reference11Ideal.Run
public import proofs.«01_k».proof.Proof.Gen.Kernel12
public import proofs.«01_k».proof.Proof.Gen.Kernel12.Frame
public import proofs.«01_k».proof.Proof.Gen.Kernel12Ideal
public import proofs.«01_k».proof.Proof.Gen.Kernel12Ideal.Frame
public import proofs.«01_k».proof.Proof.Gen.Kernel12Ideal.Value
public import proofs.«01_k».proof.Proof.Gen.Reference12Ideal
public import proofs.«01_k».proof.Proof.Gen.Reference12Ideal.Run
public import proofs.«01_k».proof.Proof.Gen.Kernel13
public import proofs.«01_k».proof.Proof.Gen.Kernel13.Frame
public import proofs.«01_k».proof.Proof.Gen.Kernel13Ideal
public import proofs.«01_k».proof.Proof.Gen.Kernel13Ideal.Frame
public import proofs.«01_k».proof.Proof.Gen.Kernel13Ideal.Value
public import proofs.«01_k».proof.Proof.Gen.Reference13Ideal
public import proofs.«01_k».proof.Proof.Gen.Reference13Ideal.Run
public import proofs.«01_k».proof.Proof.Gen.Kernel14
public import proofs.«01_k».proof.Proof.Gen.Kernel14.Frame
public import proofs.«01_k».proof.Proof.Gen.Kernel14Ideal
public import proofs.«01_k».proof.Proof.Gen.Kernel14Ideal.Frame
public import proofs.«01_k».proof.Proof.Gen.Kernel14Ideal.Value
public import proofs.«01_k».proof.Proof.Gen.Reference14Ideal
public import proofs.«01_k».proof.Proof.Gen.Reference14Ideal.Run
public import proofs.«01_k».proof.Proof.Gen.Kernel15
public import proofs.«01_k».proof.Proof.Gen.Kernel15.Frame
public import proofs.«01_k».proof.Proof.Gen.Kernel15Ideal
public import proofs.«01_k».proof.Proof.Gen.Kernel15Ideal.Frame
public import proofs.«01_k».proof.Proof.Gen.Kernel15Ideal.Value
public import proofs.«01_k».proof.Proof.Gen.Reference15Ideal
public import proofs.«01_k».proof.Proof.Gen.Reference15Ideal.Run
public import proofs.«01_k».proof.Proof.Gen.Kernel16
public import proofs.«01_k».proof.Proof.Gen.Kernel16.Frame
public import proofs.«01_k».proof.Proof.Gen.Kernel16Ideal
public import proofs.«01_k».proof.Proof.Gen.Kernel16Ideal.Frame
public import proofs.«01_k».proof.Proof.Gen.Kernel16Ideal.Value
public import proofs.«01_k».proof.Proof.Gen.Reference16Ideal
public import proofs.«01_k».proof.Proof.Gen.Reference16Ideal.Run
public import proofs.«01_k».proof.Proof.Gen.Kernel17
public import proofs.«01_k».proof.Proof.Gen.Kernel17.Frame
public import proofs.«01_k».proof.Proof.Gen.Kernel17Ideal
public import proofs.«01_k».proof.Proof.Gen.Kernel17Ideal.Frame
public import proofs.«01_k».proof.Proof.Gen.Reference17Ideal
public import proofs.«01_k».proof.Proof.Gen.Reference17Ideal.Run
public import proofs.«01_k».proof.Proof.Gen.Kernel18
public import proofs.«01_k».proof.Proof.Gen.Kernel18.Frame
public import proofs.«01_k».proof.Proof.Gen.Kernel18Ideal
public import proofs.«01_k».proof.Proof.Gen.Kernel18Ideal.Frame
public import proofs.«01_k».proof.Proof.Gen.Reference18Ideal
public import proofs.«01_k».proof.Proof.Gen.Reference18Ideal.Run
public import proofs.«01_k».proof.Proof.Gen.Kernel19
public import proofs.«01_k».proof.Proof.Gen.Kernel19.Frame
public import proofs.«01_k».proof.Proof.Gen.Kernel19Ideal
public import proofs.«01_k».proof.Proof.Gen.Kernel19Ideal.Frame
public import proofs.«01_k».proof.Proof.Gen.Reference19Ideal
public import proofs.«01_k».proof.Proof.Gen.Reference19Ideal.Run
public import proofs.«01_k».proof.Proof.Gen.Kernel20
public import proofs.«01_k».proof.Proof.Gen.Kernel20.Frame
public import proofs.«01_k».proof.Proof.Gen.Kernel20Ideal
public import proofs.«01_k».proof.Proof.Gen.Kernel20Ideal.Frame
public import proofs.«01_k».proof.Proof.Gen.Reference20Ideal
public import proofs.«01_k».proof.Proof.Gen.Reference20Ideal.Run
public import proofs.«01_k».proof.Proof.Gen.Kernel21
public import proofs.«01_k».proof.Proof.Gen.Kernel21.Frame
public import proofs.«01_k».proof.Proof.Gen.Kernel21Ideal
public import proofs.«01_k».proof.Proof.Gen.Kernel21Ideal.Frame
public import proofs.«01_k».proof.Proof.Gen.Reference21Ideal
public import proofs.«01_k».proof.Proof.Gen.Reference21Ideal.Run
public import proofs.«01_k».proof.Proof.Gen.Kernel22
public import proofs.«01_k».proof.Proof.Gen.Kernel22.Frame
public import proofs.«01_k».proof.Proof.Gen.Kernel22Ideal
public import proofs.«01_k».proof.Proof.Gen.Kernel22Ideal.Frame
public import proofs.«01_k».proof.Proof.Gen.Reference22Ideal
public import proofs.«01_k».proof.Proof.Gen.Reference22Ideal.Run
public import proofs.«01_k».proof.Proof.Gen.Kernel23
public import proofs.«01_k».proof.Proof.Gen.Kernel23.Frame
public import proofs.«01_k».proof.Proof.Gen.Kernel23Ideal
public import proofs.«01_k».proof.Proof.Gen.Kernel23Ideal.Frame
public import proofs.«01_k».proof.Proof.Gen.Reference23Ideal
public import proofs.«01_k».proof.Proof.Gen.Reference23Ideal.Run
public import proofs.«01_k».proof.Proof.Gen.Kernel24
public import proofs.«01_k».proof.Proof.Gen.Kernel24.Frame
public import proofs.«01_k».proof.Proof.Gen.Kernel24Ideal
public import proofs.«01_k».proof.Proof.Gen.Kernel24Ideal.Frame
public import proofs.«01_k».proof.Proof.Gen.Kernel24Ideal.Value
public import proofs.«01_k».proof.Proof.Gen.Reference24Ideal
public import proofs.«01_k».proof.Proof.Gen.Reference24Ideal.Run
public import proofs.«01_k».proof.Proof.Gen.Kernel25
public import proofs.«01_k».proof.Proof.Gen.Kernel25.Frame
public import proofs.«01_k».proof.Proof.Gen.Kernel25Ideal
public import proofs.«01_k».proof.Proof.Gen.Kernel25Ideal.Frame
public import proofs.«01_k».proof.Proof.Gen.Kernel25Ideal.Value
public import proofs.«01_k».proof.Proof.Gen.Reference25Ideal
public import proofs.«01_k».proof.Proof.Gen.Reference25Ideal.Run
public import proofs.«01_k».proof.Proof.MlpOutBwd
public import proofs.«01_k».proof.Proof.MlpOutWg
public import proofs.«01_k».proof.Proof.MlpInBwd
public import proofs.«01_k».proof.Proof.MlpInWg
public import proofs.«01_k».proof.Proof.MlpIn
public import proofs.«01_k».proof.Proof.MlpOut
public import proofs.«01_k».proof.Proof.MixInBwd
public import proofs.«01_k».proof.Proof.MixInWg
public import proofs.«01_k».proof.Proof.MixOutWg
public import proofs.«01_k».proof.Proof.MlpOutLast
public import proofs.«01_k».proof.Proof.GluMmBwd
public import proofs.«01_k».proof.Proof.ConvPw2Bwd
public import proofs.«01_k».proof.Proof.GmlpOutBwd
public import proofs.«01_k».proof.Proof.AttnQkvBwd
public import proofs.«01_k».proof.Proof.AttnQkvWg
public import proofs.«01_k».proof.Proof.AttnQkv
public import proofs.«01_k».proof.Proof.ConvPw1
public import proofs.«01_k».proof.Proof.S5GluMm
public import proofs.«01_k».proof.Proof.GmlpIn
public import proofs.«01_k».proof.Proof.GmlpOut
public import proofs.«01_k».proof.Proof.ConvPw2
public import proofs.«01_k».proof.Proof.AttnO
public import proofs.«01_k».proof.Proof.AttnOBwd
public import proofs.«01_k».proof.Proof.AttnOWg
public import Idealize.ShloMosaic.Adequacy
public import Idealize.ShloMosaic.Init

@[expose] public section

noncomputable section

namespace Cert.Proof

open Idealize.ShloMosaic Idealize.SL.Sem

/-- The gate's kernel and its reference end with the same four gradients, over the extended reals. -/
theorem gate : letI := Cert.KernelIdeal.Gen.facts; letI := Cert.ReferenceIdeal.Gen.facts
    Cert.algebraic_KernelIdeal_ReferenceIdeal := by
  intro m g m' g' _ hm
  refine ⟨_, _, _, _,
    (θ_run _ _ _).mono (fun _ h c => ⟨(h.1 c).1, (h.1 c).2.1, (h.1 c).2.2.1, (h.1 c).2.2.2, h.2 c⟩)
      (θ_run_and (Cert.KernelIdeal.Gate.run m g) (Cert.KernelIdeal.Gen.unchanged m g)),
    (θ_run _ _ _).mono (fun _ h c => ?_)
      (θ_run_and (Cert.ReferenceIdeal.Gate.run m' g') (Cert.ReferenceIdeal.Value.run m' g'))⟩
  obtain ⟨h0, h1, h2, h3, h4⟩ := hm c
  have h := And.intro (h.1 c) (h.2 c)
  rw [h0, h1, h2, h3, h4] at h
  obtain ⟨⟨a, b, d, e⟩, _, _, _, _, k⟩ := h
  rw [h0, h1, h2, h3, h4]
  exact ⟨a, b, d, e, k⟩

/-- The reference terminates, keeps its arguments and has no semaphore to leave. -/
theorem gate_reference : letI := Cert.ReferenceIdeal.Gen.facts; Cert.quiescent_ReferenceIdeal := fun m ρ _ =>
  (θ_run _ _ _).mono (fun r h => ⟨fun c => (h c).2.2.2.2, sem_eq_zero_of_no_sems (by decide) r.2⟩)
    (Cert.ReferenceIdeal.Value.run (F := Ideal) m ρ)

/-- The MLP's second product's cotangent: the kernel and its reference end alike, over the extended reals. -/
theorem mlp_out_bwd : letI := Cert.Kernel2Ideal.Gen.facts; letI := Cert.Reference2Ideal.Gen.facts
    Cert.algebraic_Kernel2Ideal_Reference2Ideal := by
  intro m g m' g' _ hm
  refine ⟨_,
    (θ_run _ _ _).mono (fun _ h c => ⟨h.1 c, h.2 c⟩)
      (θ_run_and (Cert.Kernel2Ideal.Bwd.run m g) (Cert.Kernel2Ideal.Gen.unchanged m g)),
    (θ_run _ _ _).mono (fun _ h c => ?_)
      (θ_run_and (Cert.Reference2Ideal.Bwd.run m' g') (Cert.Reference2Ideal.Value.run m' g'))⟩
  obtain ⟨h0, h1, h2⟩ := hm c
  have h := And.intro (h.1 c) (h.2 c)
  rw [h0, h1, h2] at h
  obtain ⟨r0, _, k⟩ := h
  rw [h0, h1, h2]
  exact ⟨r0, k⟩

/-- Its reference terminates, keeps its arguments and has no semaphore to leave. -/
theorem mlp_out_bwd_reference : letI := Cert.Reference2Ideal.Gen.facts; Cert.quiescent_Reference2Ideal := fun m ρ _ =>
  (θ_run _ _ _).mono (fun r h => ⟨fun c => (h c).2, sem_eq_zero_of_no_sems (by decide) r.2⟩)
    (Cert.Reference2Ideal.Value.run (F := Ideal) m ρ)

/-- The gradient of the MLP's second weight: the kernel and its reference end alike, over the extended reals. -/
theorem mlp_out_wg : letI := Cert.Kernel3Ideal.Gen.facts; letI := Cert.Reference3Ideal.Gen.facts
    Cert.algebraic_Kernel3Ideal_Reference3Ideal := by
  intro m g m' g' _ hm
  refine ⟨_, _,
    (θ_run _ _ _).mono (fun _ h c => ⟨(h.1 c).1, (h.1 c).2, h.2 c⟩)
      (θ_run_and (Cert.Kernel3Ideal.Wg.run m g) (Cert.Kernel3Ideal.Gen.unchanged m g)),
    (θ_run _ _ _).mono (fun _ h c => ?_)
      (θ_run_and (Cert.Reference3Ideal.Wg.run m' g') (Cert.Reference3Ideal.Value.run m' g'))⟩
  obtain ⟨h0, h1⟩ := hm c
  have h := And.intro (h.1 c) (h.2 c)
  rw [h0, h1] at h
  obtain ⟨⟨r0, r1⟩, _, _, k⟩ := h
  rw [h0, h1]
  exact ⟨r0, r1, k⟩

/-- Its reference terminates, keeps its arguments and has no semaphore to leave. -/
theorem mlp_out_wg_reference : letI := Cert.Reference3Ideal.Gen.facts; Cert.quiescent_Reference3Ideal := fun m ρ _ =>
  (θ_run _ _ _).mono (fun r h => ⟨fun c => (h c).2.2, sem_eq_zero_of_no_sems (by decide) r.2⟩)
    (Cert.Reference3Ideal.Value.run (F := Ideal) m ρ)

/-- The MLP's first product's and norm's cotangents: the kernel and its reference end alike, over the extended reals. -/
theorem mlp_in_bwd : letI := Cert.Kernel4Ideal.Gen.facts; letI := Cert.Reference4Ideal.Gen.facts
    Cert.algebraic_Kernel4Ideal_Reference4Ideal := by
  intro m g m' g' _ hm
  refine ⟨_, _, _,
    (θ_run _ _ _).mono (fun _ h c => ⟨(h.1 c).1, (h.1 c).2.1, (h.1 c).2.2, h.2 c⟩)
      (θ_run_and (Cert.Kernel4Ideal.Bwd.run m g) (Cert.Kernel4Ideal.Gen.unchanged m g)),
    (θ_run _ _ _).mono (fun _ h c => ?_)
      (θ_run_and (Cert.Reference4Ideal.Bwd.run m' g') (Cert.Reference4Ideal.Value.run m' g'))⟩
  obtain ⟨h0, h1, h2, h3, h4⟩ := hm c
  have h := And.intro (h.1 c) (h.2 c)
  rw [h0, h1, h2, h3, h4] at h
  obtain ⟨⟨r0, r1, r2⟩, _, _, _, k⟩ := h
  rw [h0, h1, h2, h3, h4]
  exact ⟨r0, r1, r2, k⟩

/-- Its reference terminates, keeps its arguments and has no semaphore to leave. -/
theorem mlp_in_bwd_reference : letI := Cert.Reference4Ideal.Gen.facts; Cert.quiescent_Reference4Ideal := fun m ρ _ =>
  (θ_run _ _ _).mono (fun r h => ⟨fun c => (h c).2.2.2, sem_eq_zero_of_no_sems (by decide) r.2⟩)
    (Cert.Reference4Ideal.Value.run (F := Ideal) m ρ)

/-- The gradient of the MLP's first weight: the kernel and its reference end alike, over the extended reals. -/
theorem mlp_in_wg : letI := Cert.Kernel5Ideal.Gen.facts; letI := Cert.Reference5Ideal.Gen.facts
    Cert.algebraic_Kernel5Ideal_Reference5Ideal := by
  intro m g m' g' _ hm
  refine ⟨_, _,
    (θ_run _ _ _).mono (fun _ h c => ⟨(h.1 c).1, (h.1 c).2, h.2 c⟩)
      (θ_run_and (Cert.Kernel5Ideal.Wg.run m g) (Cert.Kernel5Ideal.Gen.unchanged m g)),
    (θ_run _ _ _).mono (fun _ h c => ?_)
      (θ_run_and (Cert.Reference5Ideal.Wg.run m' g') (Cert.Reference5Ideal.Value.run m' g'))⟩
  obtain ⟨h0, h1⟩ := hm c
  have h := And.intro (h.1 c) (h.2 c)
  rw [h0, h1] at h
  obtain ⟨⟨r0, r1⟩, _, _, k⟩ := h
  rw [h0, h1]
  exact ⟨r0, r1, k⟩

/-- Its reference terminates, keeps its arguments and has no semaphore to leave. -/
theorem mlp_in_wg_reference : letI := Cert.Reference5Ideal.Gen.facts; Cert.quiescent_Reference5Ideal := fun m ρ _ =>
  (θ_run _ _ _).mono (fun r h => ⟨fun c => (h c).2.2, sem_eq_zero_of_no_sems (by decide) r.2⟩)
    (Cert.Reference5Ideal.Value.run (F := Ideal) m ρ)

/-- The MLP's first product and activation: the kernel and its reference end alike, over the extended reals. -/
theorem mlp_in : letI := Cert.Kernel6Ideal.Gen.facts; letI := Cert.Reference6Ideal.Gen.facts
    Cert.algebraic_Kernel6Ideal_Reference6Ideal := by
  intro m g m' g' _ hm
  refine ⟨_, _,
    (θ_run _ _ _).mono (fun _ h c => ⟨(h.1 c).1, (h.1 c).2, h.2 c⟩)
      (θ_run_and (Cert.Kernel6Ideal.Hid.run m g) (Cert.Kernel6Ideal.Gen.unchanged m g)),
    (θ_run _ _ _).mono (fun _ h c => ?_)
      (θ_run_and (Cert.Reference6Ideal.Hid.run m' g') (Cert.Reference6Ideal.Value.run m' g'))⟩
  obtain ⟨h0, h1⟩ := hm c
  have h := And.intro (h.1 c) (h.2 c)
  rw [h0, h1] at h
  obtain ⟨⟨r0, r1⟩, _, _, k⟩ := h
  rw [h0, h1]
  exact ⟨r0, r1, k⟩

/-- Its reference terminates, keeps its arguments and has no semaphore to leave. -/
theorem mlp_in_reference : letI := Cert.Reference6Ideal.Gen.facts; Cert.quiescent_Reference6Ideal := fun m ρ _ =>
  (θ_run _ _ _).mono (fun r h => ⟨fun c => (h c).2.2, sem_eq_zero_of_no_sems (by decide) r.2⟩)
    (Cert.Reference6Ideal.Value.run (F := Ideal) m ρ)

/-- The MLP's second product, residual and norm: the kernel and its reference end alike, over the extended reals. -/
theorem mlp_out : letI := Cert.Kernel7Ideal.Gen.facts; letI := Cert.Reference7Ideal.Gen.facts
    Cert.algebraic_Kernel7Ideal_Reference7Ideal := by
  intro m g m' g' _ hm
  refine ⟨_, _,
    (θ_run _ _ _).mono (fun _ h c => ⟨(h.1 c).1, (h.1 c).2, h.2 c⟩)
      (θ_run_and (Cert.Kernel7Ideal.Out.run m g) (Cert.Kernel7Ideal.Gen.unchanged m g)),
    (θ_run _ _ _).mono (fun _ h c => ?_)
      (θ_run_and (Cert.Reference7Ideal.Out.run m' g') (Cert.Reference7Ideal.Value.run m' g'))⟩
  obtain ⟨h0, h1, h2, h3⟩ := hm c
  have h := And.intro (h.1 c) (h.2 c)
  rw [h0, h1, h2, h3] at h
  obtain ⟨⟨r0, r1⟩, _, _, k⟩ := h
  rw [h0, h1, h2, h3]
  exact ⟨r0, r1, k⟩

/-- Its reference terminates, keeps its arguments and has no semaphore to leave. -/
theorem mlp_out_reference : letI := Cert.Reference7Ideal.Gen.facts; Cert.quiescent_Reference7Ideal := fun m ρ _ =>
  (θ_run _ _ _).mono (fun r h => ⟨fun c => (h c).2.2, sem_eq_zero_of_no_sems (by decide) r.2⟩)
    (Cert.Reference7Ideal.Value.run (F := Ideal) m ρ)

/-- A mixer's first product's and norm's cotangents: the kernel and its reference end alike, over the extended reals. -/
theorem mix_in_bwd : letI := Cert.Kernel8Ideal.Gen.facts; letI := Cert.Reference8Ideal.Gen.facts
    Cert.algebraic_Kernel8Ideal_Reference8Ideal := by
  intro m g m' g' _ hm
  refine ⟨_, _, _,
    (θ_run _ _ _).mono (fun _ h c => ⟨(h.1 c).1, (h.1 c).2.1, (h.1 c).2.2, h.2 c⟩)
      (θ_run_and (Cert.Kernel8Ideal.Bwd.run m g) (Cert.Kernel8Ideal.Gen.unchanged m g)),
    (θ_run _ _ _).mono (fun _ h c => ?_)
      (θ_run_and (Cert.Reference8Ideal.Bwd.run m' g') (Cert.Reference8Ideal.Value.run m' g'))⟩
  obtain ⟨h0, h1, h2, h3, h4⟩ := hm c
  have h := And.intro (h.1 c) (h.2 c)
  rw [h0, h1, h2, h3, h4] at h
  obtain ⟨⟨r0, r1, r2⟩, _, _, _, k⟩ := h
  rw [h0, h1, h2, h3, h4]
  exact ⟨r0, r1, r2, k⟩

/-- Its reference terminates, keeps its arguments and has no semaphore to leave. -/
theorem mix_in_bwd_reference : letI := Cert.Reference8Ideal.Gen.facts; Cert.quiescent_Reference8Ideal := fun m ρ _ =>
  (θ_run _ _ _).mono (fun r h => ⟨fun c => (h c).2.2.2, sem_eq_zero_of_no_sems (by decide) r.2⟩)
    (Cert.Reference8Ideal.Value.run (F := Ideal) m ρ)

/-- The gradient of a mixer's first weight: the kernel and its reference end alike, over the extended reals. -/
theorem mix_in_wg : letI := Cert.Kernel9Ideal.Gen.facts; letI := Cert.Reference9Ideal.Gen.facts
    Cert.algebraic_Kernel9Ideal_Reference9Ideal := by
  intro m g m' g' _ hm
  refine ⟨_, _,
    (θ_run _ _ _).mono (fun _ h c => ⟨(h.1 c).1, (h.1 c).2, h.2 c⟩)
      (θ_run_and (Cert.Kernel9Ideal.Wg.run m g) (Cert.Kernel9Ideal.Gen.unchanged m g)),
    (θ_run _ _ _).mono (fun _ h c => ?_)
      (θ_run_and (Cert.Reference9Ideal.Wg.run m' g') (Cert.Reference9Ideal.Value.run m' g'))⟩
  obtain ⟨h0, h1⟩ := hm c
  have h := And.intro (h.1 c) (h.2 c)
  rw [h0, h1] at h
  obtain ⟨⟨r0, r1⟩, _, _, k⟩ := h
  rw [h0, h1]
  exact ⟨r0, r1, k⟩

/-- Its reference terminates, keeps its arguments and has no semaphore to leave. -/
theorem mix_in_wg_reference : letI := Cert.Reference9Ideal.Gen.facts; Cert.quiescent_Reference9Ideal := fun m ρ _ =>
  (θ_run _ _ _).mono (fun r h => ⟨fun c => (h c).2.2, sem_eq_zero_of_no_sems (by decide) r.2⟩)
    (Cert.Reference9Ideal.Value.run (F := Ideal) m ρ)

/-- The gradient of a mixer's second weight: the kernel and its reference end alike, over the extended reals. -/
theorem mix_out_wg : letI := Cert.Kernel10Ideal.Gen.facts; letI := Cert.Reference10Ideal.Gen.facts
    Cert.algebraic_Kernel10Ideal_Reference10Ideal := by
  intro m g m' g' _ hm
  refine ⟨_, _,
    (θ_run _ _ _).mono (fun _ h c => ⟨(h.1 c).1, (h.1 c).2, h.2 c⟩)
      (θ_run_and (Cert.Kernel10Ideal.Wg.run m g) (Cert.Kernel10Ideal.Gen.unchanged m g)),
    (θ_run _ _ _).mono (fun _ h c => ?_)
      (θ_run_and (Cert.Reference10Ideal.Wg.run m' g') (Cert.Reference10Ideal.Value.run m' g'))⟩
  obtain ⟨h0, h1⟩ := hm c
  have h := And.intro (h.1 c) (h.2 c)
  rw [h0, h1] at h
  obtain ⟨⟨r0, r1⟩, _, _, k⟩ := h
  rw [h0, h1]
  exact ⟨r0, r1, k⟩

/-- Its reference terminates, keeps its arguments and has no semaphore to leave. -/
theorem mix_out_wg_reference : letI := Cert.Reference10Ideal.Gen.facts; Cert.quiescent_Reference10Ideal := fun m ρ _ =>
  (θ_run _ _ _).mono (fun r h => ⟨fun c => (h c).2.2, sem_eq_zero_of_no_sems (by decide) r.2⟩)
    (Cert.Reference10Ideal.Value.run (F := Ideal) m ρ)

/-- The last MLP's second product and residual: the kernel and its reference end alike, over the extended reals. -/
theorem mlp_out_last : letI := Cert.Kernel11Ideal.Gen.facts; letI := Cert.Reference11Ideal.Gen.facts
    Cert.algebraic_Kernel11Ideal_Reference11Ideal := by
  intro m g m' g' _ hm
  refine ⟨_,
    (θ_run _ _ _).mono (fun _ h c => ⟨h.1 c, h.2 c⟩)
      (θ_run_and (Cert.Kernel11Ideal.Out.run m g) (Cert.Kernel11Ideal.Gen.unchanged m g)),
    (θ_run _ _ _).mono (fun _ h c => ?_)
      (θ_run_and (Cert.Reference11Ideal.Out.run m' g') (Cert.Reference11Ideal.Value.run m' g'))⟩
  obtain ⟨h0, h1, h2⟩ := hm c
  have h := And.intro (h.1 c) (h.2 c)
  rw [h0, h1, h2] at h
  obtain ⟨r0, _, k⟩ := h
  rw [h0, h1, h2]
  exact ⟨r0, k⟩

/-- Its reference terminates, keeps its arguments and has no semaphore to leave. -/
theorem mlp_out_last_reference : letI := Cert.Reference11Ideal.Gen.facts; Cert.quiescent_Reference11Ideal := fun m ρ _ =>
  (θ_run _ _ _).mono (fun r h => ⟨fun c => (h c).2, sem_eq_zero_of_no_sems (by decide) r.2⟩)
    (Cert.Reference11Ideal.Value.run (F := Ideal) m ρ)

/-- The cotangent through the gated unit's product: the kernel and its reference end alike, over the extended reals. -/
theorem glu_mm_bwd : letI := Cert.Kernel12Ideal.Gen.facts; letI := Cert.Reference12Ideal.Gen.facts
    Cert.algebraic_Kernel12Ideal_Reference12Ideal := by
  intro m g m' g' _ hm
  refine ⟨_,
    (θ_run _ _ _).mono (fun _ h c => ⟨h.1 c, h.2 c⟩)
      (θ_run_and (Cert.Kernel12Ideal.Bwd.run m g) (Cert.Kernel12Ideal.Gen.unchanged m g)),
    (θ_run _ _ _).mono (fun _ h c => ?_)
      (θ_run_and (Cert.Reference12Ideal.Bwd.run m' g') (Cert.Reference12Ideal.Value.run m' g'))⟩
  obtain ⟨h0, h1⟩ := hm c
  have h := And.intro (h.1 c) (h.2 c)
  rw [h0, h1] at h
  obtain ⟨r0, _, k⟩ := h
  rw [h0, h1]
  exact ⟨r0, k⟩

/-- Its reference terminates, keeps its arguments and has no semaphore to leave. -/
theorem glu_mm_bwd_reference : letI := Cert.Reference12Ideal.Gen.facts; Cert.quiescent_Reference12Ideal := fun m ρ _ =>
  (θ_run _ _ _).mono (fun r h => ⟨fun c => (h c).2, sem_eq_zero_of_no_sems (by decide) r.2⟩)
    (Cert.Reference12Ideal.Value.run (F := Ideal) m ρ)

/-- The cotangent through the convolution's second product: the kernel and its reference end alike, over the extended reals. -/
theorem conv_pw2_bwd : letI := Cert.Kernel13Ideal.Gen.facts; letI := Cert.Reference13Ideal.Gen.facts
    Cert.algebraic_Kernel13Ideal_Reference13Ideal := by
  intro m g m' g' _ hm
  refine ⟨_,
    (θ_run _ _ _).mono (fun _ h c => ⟨h.1 c, h.2 c⟩)
      (θ_run_and (Cert.Kernel13Ideal.Bwd.run m g) (Cert.Kernel13Ideal.Gen.unchanged m g)),
    (θ_run _ _ _).mono (fun _ h c => ?_)
      (θ_run_and (Cert.Reference13Ideal.Bwd.run m' g') (Cert.Reference13Ideal.Value.run m' g'))⟩
  obtain ⟨h0, h1⟩ := hm c
  have h := And.intro (h.1 c) (h.2 c)
  rw [h0, h1] at h
  obtain ⟨r0, _, k⟩ := h
  rw [h0, h1]
  exact ⟨r0, k⟩

/-- Its reference terminates, keeps its arguments and has no semaphore to leave. -/
theorem conv_pw2_bwd_reference : letI := Cert.Reference13Ideal.Gen.facts; Cert.quiescent_Reference13Ideal := fun m ρ _ =>
  (θ_run _ _ _).mono (fun r h => ⟨fun c => (h c).2, sem_eq_zero_of_no_sems (by decide) r.2⟩)
    (Cert.Reference13Ideal.Value.run (F := Ideal) m ρ)

/-- The cotangent through the gMLP's second product: the kernel and its reference end alike, over the extended reals. -/
theorem gmlp_out_bwd : letI := Cert.Kernel14Ideal.Gen.facts; letI := Cert.Reference14Ideal.Gen.facts
    Cert.algebraic_Kernel14Ideal_Reference14Ideal := by
  intro m g m' g' _ hm
  refine ⟨_,
    (θ_run _ _ _).mono (fun _ h c => ⟨h.1 c, h.2 c⟩)
      (θ_run_and (Cert.Kernel14Ideal.Bwd.run m g) (Cert.Kernel14Ideal.Gen.unchanged m g)),
    (θ_run _ _ _).mono (fun _ h c => ?_)
      (θ_run_and (Cert.Reference14Ideal.Bwd.run m' g') (Cert.Reference14Ideal.Value.run m' g'))⟩
  obtain ⟨h0, h1⟩ := hm c
  have h := And.intro (h.1 c) (h.2 c)
  rw [h0, h1] at h
  obtain ⟨r0, _, k⟩ := h
  rw [h0, h1]
  exact ⟨r0, k⟩

/-- Its reference terminates, keeps its arguments and has no semaphore to leave. -/
theorem gmlp_out_bwd_reference : letI := Cert.Reference14Ideal.Gen.facts; Cert.quiescent_Reference14Ideal := fun m ρ _ =>
  (θ_run _ _ _).mono (fun r h => ⟨fun c => (h c).2, sem_eq_zero_of_no_sems (by decide) r.2⟩)
    (Cert.Reference14Ideal.Value.run (F := Ideal) m ρ)

/-- Attention's first product's and norm's cotangents: the kernel and its reference end alike, over the extended reals. -/
theorem attn_qkv_bwd : letI := Cert.Kernel15Ideal.Gen.facts; letI := Cert.Reference15Ideal.Gen.facts
    Cert.algebraic_Kernel15Ideal_Reference15Ideal := by
  intro m g m' g' _ hm
  refine ⟨_, _, _,
    (θ_run _ _ _).mono (fun _ h c => ⟨(h.1 c).1, (h.1 c).2.1, (h.1 c).2.2, h.2 c⟩)
      (θ_run_and (Cert.Kernel15Ideal.Bwd.run m g) (Cert.Kernel15Ideal.Gen.unchanged m g)),
    (θ_run _ _ _).mono (fun _ h c => ?_)
      (θ_run_and (Cert.Reference15Ideal.Bwd.run m' g') (Cert.Reference15Ideal.Value.run m' g'))⟩
  obtain ⟨h0, h1, h2, h3, h4, h5, h6, h7, h8, h9, h10, h11, h12⟩ := hm c
  have h := And.intro (h.1 c) (h.2 c)
  rw [h0, h1, h2, h3, h4, h5, h6, h7, h8, h9, h10, h11, h12] at h
  obtain ⟨⟨r0, r1, r2⟩, _, _, _, k⟩ := h
  rw [h0, h1, h2, h3, h4, h5, h6, h7, h8, h9, h10, h11, h12]
  exact ⟨r0, r1, r2, k⟩

/-- Its reference terminates, keeps its arguments and has no semaphore to leave. -/
theorem attn_qkv_bwd_reference : letI := Cert.Reference15Ideal.Gen.facts; Cert.quiescent_Reference15Ideal := fun m ρ _ =>
  (θ_run _ _ _).mono (fun r h => ⟨fun c => (h c).2.2.2, sem_eq_zero_of_no_sems (by decide) r.2⟩)
    (Cert.Reference15Ideal.Value.run (F := Ideal) m ρ)

/-- The gradient of attention's first weight: the kernel and its reference end alike, over the extended reals. -/
theorem attn_qkv_wg : letI := Cert.Kernel16Ideal.Gen.facts; letI := Cert.Reference16Ideal.Gen.facts
    Cert.algebraic_Kernel16Ideal_Reference16Ideal := by
  intro m g m' g' _ hm
  refine ⟨_, _,
    (θ_run _ _ _).mono (fun _ h c => ⟨(h.1 c).1, (h.1 c).2, h.2 c⟩)
      (θ_run_and (Cert.Kernel16Ideal.Wg.run m g) (Cert.Kernel16Ideal.Gen.unchanged m g)),
    (θ_run _ _ _).mono (fun _ h c => ?_)
      (θ_run_and (Cert.Reference16Ideal.Wg.run m' g') (Cert.Reference16Ideal.Value.run m' g'))⟩
  obtain ⟨h0, h1, h2, h3, h4, h5, h6, h7, h8, h9⟩ := hm c
  have h := And.intro (h.1 c) (h.2 c)
  rw [h0, h1, h2, h3, h4, h5, h6, h7, h8, h9] at h
  obtain ⟨⟨r0, r1⟩, _, _, k⟩ := h
  rw [h0, h1, h2, h3, h4, h5, h6, h7, h8, h9]
  exact ⟨r0, r1, k⟩

/-- Its reference terminates, keeps its arguments and has no semaphore to leave. -/
theorem attn_qkv_wg_reference : letI := Cert.Reference16Ideal.Gen.facts; Cert.quiescent_Reference16Ideal := fun m ρ _ =>
  (θ_run _ _ _).mono (fun r h => ⟨fun c => (h c).2.2, sem_eq_zero_of_no_sems (by decide) r.2⟩)
    (Cert.Reference16Ideal.Value.run (F := Ideal) m ρ)

/-- Attention's first product: the kernel and its reference end alike, over the extended reals. -/
theorem attn_qkv : letI := Cert.Kernel17Ideal.Gen.facts; letI := Cert.Reference17Ideal.Gen.facts
    Cert.algebraic_Kernel17Ideal_Reference17Ideal := by
  intro m g m' g' _ hm
  refine ⟨_, _, _, _, _, _, _, _, _,
    (θ_run _ _ _).mono (fun _ h c => ⟨(h.1 c).1, (h.1 c).2.1, (h.1 c).2.2.1, (h.1 c).2.2.2.1, (h.1 c).2.2.2.2.1, (h.1 c).2.2.2.2.2.1, (h.1 c).2.2.2.2.2.2.1, (h.1 c).2.2.2.2.2.2.2.1, (h.1 c).2.2.2.2.2.2.2.2, h.2 c⟩)
      (θ_run_and (Cert.Kernel17Ideal.Fwd.run m g) (Cert.Kernel17Ideal.Gen.unchanged m g)),
    (θ_run _ _ _).mono (fun _ h c => ?_)
      (θ_run_and (Cert.Reference17Ideal.Fwd.run m' g') (Cert.Reference17Ideal.Value.run m' g'))⟩
  obtain ⟨h0, h1⟩ := hm c
  have h := And.intro (h.1 c) (h.2 c)
  rw [h0, h1] at h
  obtain ⟨⟨r0, r1, r2, r3, r4, r5, r6, r7, r8⟩, _, _, _, _, _, _, _, _, _, k⟩ := h
  rw [h0, h1]
  exact ⟨r0, r1, r2, r3, r4, r5, r6, r7, r8, k⟩

/-- Its reference terminates, keeps its arguments and has no semaphore to leave. -/
theorem attn_qkv_reference : letI := Cert.Reference17Ideal.Gen.facts; Cert.quiescent_Reference17Ideal := fun m ρ _ =>
  (θ_run _ _ _).mono (fun r h => ⟨fun c => (h c).2.2.2.2.2.2.2.2.2, sem_eq_zero_of_no_sems (by decide) r.2⟩)
    (Cert.Reference17Ideal.Value.run (F := Ideal) m ρ)

/-- The convolution's first product and gated unit: the kernel and its reference end alike, over the extended reals. -/
theorem conv_pw1 : letI := Cert.Kernel18Ideal.Gen.facts; letI := Cert.Reference18Ideal.Gen.facts
    Cert.algebraic_Kernel18Ideal_Reference18Ideal := by
  intro m g m' g' _ hm
  refine ⟨_, _,
    (θ_run _ _ _).mono (fun _ h c => ⟨(h.1 c).1, (h.1 c).2, h.2 c⟩)
      (θ_run_and (Cert.Kernel18Ideal.Fwd.run m g) (Cert.Kernel18Ideal.Gen.unchanged m g)),
    (θ_run _ _ _).mono (fun _ h c => ?_)
      (θ_run_and (Cert.Reference18Ideal.Fwd.run m' g') (Cert.Reference18Ideal.Value.run m' g'))⟩
  obtain ⟨h0, h1, h2⟩ := hm c
  have h := And.intro (h.1 c) (h.2 c)
  rw [h0, h1, h2] at h
  obtain ⟨⟨r0, r1⟩, _, _, k⟩ := h
  rw [h0, h1, h2]
  exact ⟨r0, r1, k⟩

/-- Its reference terminates, keeps its arguments and has no semaphore to leave. -/
theorem conv_pw1_reference : letI := Cert.Reference18Ideal.Gen.facts; Cert.quiescent_Reference18Ideal := fun m ρ _ =>
  (θ_run _ _ _).mono (fun r h => ⟨fun c => (h c).2.2, sem_eq_zero_of_no_sems (by decide) r.2⟩)
    (Cert.Reference18Ideal.Value.run (F := Ideal) m ρ)

/-- The scan's gated unit, residual and norm: the kernel and its reference end alike, over the extended reals. -/
theorem s5_glu_mm : letI := Cert.Kernel19Ideal.Gen.facts; letI := Cert.Reference19Ideal.Gen.facts
    Cert.algebraic_Kernel19Ideal_Reference19Ideal := by
  intro m g m' g' _ hm
  refine ⟨_, _, _,
    (θ_run _ _ _).mono (fun _ h c => ⟨(h.1 c).1, (h.1 c).2.1, (h.1 c).2.2, h.2 c⟩)
      (θ_run_and (Cert.Kernel19Ideal.Fwd.run m g) (Cert.Kernel19Ideal.Gen.unchanged m g)),
    (θ_run _ _ _).mono (fun _ h c => ?_)
      (θ_run_and (Cert.Reference19Ideal.Fwd.run m' g') (Cert.Reference19Ideal.Value.run m' g'))⟩
  obtain ⟨h0, h1, h2, h3⟩ := hm c
  have h := And.intro (h.1 c) (h.2 c)
  rw [h0, h1, h2, h3] at h
  obtain ⟨⟨r0, r1, r2⟩, _, _, _, k⟩ := h
  rw [h0, h1, h2, h3]
  exact ⟨r0, r1, r2, k⟩

/-- Its reference terminates, keeps its arguments and has no semaphore to leave. -/
theorem s5_glu_mm_reference : letI := Cert.Reference19Ideal.Gen.facts; Cert.quiescent_Reference19Ideal := fun m ρ _ =>
  (θ_run _ _ _).mono (fun r h => ⟨fun c => (h c).2.2.2, sem_eq_zero_of_no_sems (by decide) r.2⟩)
    (Cert.Reference19Ideal.Value.run (F := Ideal) m ρ)

/-- The gMLP's first product, activation and norm: the kernel and its reference end alike, over the extended reals. -/
theorem gmlp_in : letI := Cert.Kernel20Ideal.Gen.facts; letI := Cert.Reference20Ideal.Gen.facts
    Cert.algebraic_Kernel20Ideal_Reference20Ideal := by
  intro m g m' g' _ hm
  refine ⟨_, _, _,
    (θ_run _ _ _).mono (fun _ h c => ⟨(h.1 c).1, (h.1 c).2.1, (h.1 c).2.2, h.2 c⟩)
      (θ_run_and (Cert.Kernel20Ideal.Fwd.run m g) (Cert.Kernel20Ideal.Gen.unchanged m g)),
    (θ_run _ _ _).mono (fun _ h c => ?_)
      (θ_run_and (Cert.Reference20Ideal.Fwd.run m' g') (Cert.Reference20Ideal.Value.run m' g'))⟩
  obtain ⟨h0, h1, h2, h3⟩ := hm c
  have h := And.intro (h.1 c) (h.2 c)
  rw [h0, h1, h2, h3] at h
  obtain ⟨⟨r0, r1, r2⟩, _, _, _, k⟩ := h
  rw [h0, h1, h2, h3]
  exact ⟨r0, r1, r2, k⟩

/-- Its reference terminates, keeps its arguments and has no semaphore to leave. -/
theorem gmlp_in_reference : letI := Cert.Reference20Ideal.Gen.facts; Cert.quiescent_Reference20Ideal := fun m ρ _ =>
  (θ_run _ _ _).mono (fun r h => ⟨fun c => (h c).2.2.2, sem_eq_zero_of_no_sems (by decide) r.2⟩)
    (Cert.Reference20Ideal.Value.run (F := Ideal) m ρ)

/-- The gMLP's second product, residual and norm: the kernel and its reference end alike, over the extended reals. -/
theorem gmlp_out : letI := Cert.Kernel21Ideal.Gen.facts; letI := Cert.Reference21Ideal.Gen.facts
    Cert.algebraic_Kernel21Ideal_Reference21Ideal := by
  intro m g m' g' _ hm
  refine ⟨_, _,
    (θ_run _ _ _).mono (fun _ h c => ⟨(h.1 c).1, (h.1 c).2, h.2 c⟩)
      (θ_run_and (Cert.Kernel21Ideal.Fwd.run m g) (Cert.Kernel21Ideal.Gen.unchanged m g)),
    (θ_run _ _ _).mono (fun _ h c => ?_)
      (θ_run_and (Cert.Reference21Ideal.Fwd.run m' g') (Cert.Reference21Ideal.Value.run m' g'))⟩
  obtain ⟨h0, h1, h2, h3⟩ := hm c
  have h := And.intro (h.1 c) (h.2 c)
  rw [h0, h1, h2, h3] at h
  obtain ⟨⟨r0, r1⟩, _, _, k⟩ := h
  rw [h0, h1, h2, h3]
  exact ⟨r0, r1, k⟩

/-- Its reference terminates, keeps its arguments and has no semaphore to leave. -/
theorem gmlp_out_reference : letI := Cert.Reference21Ideal.Gen.facts; Cert.quiescent_Reference21Ideal := fun m ρ _ =>
  (θ_run _ _ _).mono (fun r h => ⟨fun c => (h c).2.2, sem_eq_zero_of_no_sems (by decide) r.2⟩)
    (Cert.Reference21Ideal.Value.run (F := Ideal) m ρ)

/-- The convolution's second product, bias, residual and norm: the kernel and its reference end alike, over the extended reals. -/
theorem conv_pw2 : letI := Cert.Kernel22Ideal.Gen.facts; letI := Cert.Reference22Ideal.Gen.facts
    Cert.algebraic_Kernel22Ideal_Reference22Ideal := by
  intro m g m' g' _ hm
  refine ⟨_, _,
    (θ_run _ _ _).mono (fun _ h c => ⟨(h.1 c).1, (h.1 c).2, h.2 c⟩)
      (θ_run_and (Cert.Kernel22Ideal.Fwd.run m g) (Cert.Kernel22Ideal.Gen.unchanged m g)),
    (θ_run _ _ _).mono (fun _ h c => ?_)
      (θ_run_and (Cert.Reference22Ideal.Fwd.run m' g') (Cert.Reference22Ideal.Value.run m' g'))⟩
  obtain ⟨h0, h1, h2, h3, h4⟩ := hm c
  have h := And.intro (h.1 c) (h.2 c)
  rw [h0, h1, h2, h3, h4] at h
  obtain ⟨⟨r0, r1⟩, _, _, k⟩ := h
  rw [h0, h1, h2, h3, h4]
  exact ⟨r0, r1, k⟩

/-- Its reference terminates, keeps its arguments and has no semaphore to leave. -/
theorem conv_pw2_reference : letI := Cert.Reference22Ideal.Gen.facts; Cert.quiescent_Reference22Ideal := fun m ρ _ =>
  (θ_run _ _ _).mono (fun r h => ⟨fun c => (h c).2.2, sem_eq_zero_of_no_sems (by decide) r.2⟩)
    (Cert.Reference22Ideal.Value.run (F := Ideal) m ρ)

/-- Attention's second product, residual and norm: the kernel and its reference end alike, over the extended reals. -/
theorem attn_o : letI := Cert.Kernel23Ideal.Gen.facts; letI := Cert.Reference23Ideal.Gen.facts
    Cert.algebraic_Kernel23Ideal_Reference23Ideal := by
  intro m g m' g' _ hm
  refine ⟨_, _,
    (θ_run _ _ _).mono (fun _ h c => ⟨(h.1 c).1, (h.1 c).2, h.2 c⟩)
      (θ_run_and (Cert.Kernel23Ideal.Fwd.run m g) (Cert.Kernel23Ideal.Gen.unchanged m g)),
    (θ_run _ _ _).mono (fun _ h c => ?_)
      (θ_run_and (Cert.Reference23Ideal.Fwd.run m' g') (Cert.Reference23Ideal.Value.run m' g'))⟩
  obtain ⟨h0, h1, h2, h3⟩ := hm c
  have h := And.intro (h.1 c) (h.2 c)
  rw [h0, h1, h2, h3] at h
  obtain ⟨⟨r0, r1⟩, _, _, k⟩ := h
  rw [h0, h1, h2, h3]
  exact ⟨r0, r1, k⟩

/-- Its reference terminates, keeps its arguments and has no semaphore to leave. -/
theorem attn_o_reference : letI := Cert.Reference23Ideal.Gen.facts; Cert.quiescent_Reference23Ideal := fun m ρ _ =>
  (θ_run _ _ _).mono (fun r h => ⟨fun c => (h c).2.2, sem_eq_zero_of_no_sems (by decide) r.2⟩)
    (Cert.Reference23Ideal.Value.run (F := Ideal) m ρ)

/-- The cotangent through attention's second product: the kernel and its reference end alike, over the extended reals. -/
theorem attn_o_bwd : letI := Cert.Kernel24Ideal.Gen.facts; letI := Cert.Reference24Ideal.Gen.facts
    Cert.algebraic_Kernel24Ideal_Reference24Ideal := by
  intro m g m' g' _ hm
  refine ⟨_,
    (θ_run _ _ _).mono (fun _ h c => ⟨h.1 c, h.2 c⟩)
      (θ_run_and (Cert.Kernel24Ideal.Bwd.run m g) (Cert.Kernel24Ideal.Gen.unchanged m g)),
    (θ_run _ _ _).mono (fun _ h c => ?_)
      (θ_run_and (Cert.Reference24Ideal.Bwd.run m' g') (Cert.Reference24Ideal.Value.run m' g'))⟩
  obtain ⟨h0, h1⟩ := hm c
  have h := And.intro (h.1 c) (h.2 c)
  rw [h0, h1] at h
  obtain ⟨r0, _, k⟩ := h
  rw [h0, h1]
  exact ⟨r0, k⟩

/-- Its reference terminates, keeps its arguments and has no semaphore to leave. -/
theorem attn_o_bwd_reference : letI := Cert.Reference24Ideal.Gen.facts; Cert.quiescent_Reference24Ideal := fun m ρ _ =>
  (θ_run _ _ _).mono (fun r h => ⟨fun c => (h c).2, sem_eq_zero_of_no_sems (by decide) r.2⟩)
    (Cert.Reference24Ideal.Value.run (F := Ideal) m ρ)

/-- The gradient of attention's second weight: the kernel and its reference end alike, over the extended reals. -/
theorem attn_o_wg : letI := Cert.Kernel25Ideal.Gen.facts; letI := Cert.Reference25Ideal.Gen.facts
    Cert.algebraic_Kernel25Ideal_Reference25Ideal := by
  intro m g m' g' _ hm
  refine ⟨_, _,
    (θ_run _ _ _).mono (fun _ h c => ⟨(h.1 c).1, (h.1 c).2, h.2 c⟩)
      (θ_run_and (Cert.Kernel25Ideal.Wg.run m g) (Cert.Kernel25Ideal.Gen.unchanged m g)),
    (θ_run _ _ _).mono (fun _ h c => ?_)
      (θ_run_and (Cert.Reference25Ideal.Wg.run m' g') (Cert.Reference25Ideal.Value.run m' g'))⟩
  obtain ⟨h0, h1⟩ := hm c
  have h := And.intro (h.1 c) (h.2 c)
  rw [h0, h1] at h
  obtain ⟨⟨r0, r1⟩, _, _, k⟩ := h
  rw [h0, h1]
  exact ⟨r0, r1, k⟩

/-- Its reference terminates, keeps its arguments and has no semaphore to leave. -/
theorem attn_o_wg_reference : letI := Cert.Reference25Ideal.Gen.facts; Cert.quiescent_Reference25Ideal := fun m ρ _ =>
  (θ_run _ _ _).mono (fun r h => ⟨fun c => (h c).2.2, sem_eq_zero_of_no_sems (by decide) r.2⟩)
    (Cert.Reference25Ideal.Value.run (F := Ideal) m ρ)

theorem claim : Cert.Claim := ⟨Cert.Kernel.Gen.facts, Cert.KernelIdeal.Gen.facts, Cert.ReferenceIdeal.Gen.facts,
  Cert.Kernel2.Gen.facts, Cert.Kernel2Ideal.Gen.facts, Cert.Reference2Ideal.Gen.facts,
  Cert.Kernel3.Gen.facts, Cert.Kernel3Ideal.Gen.facts, Cert.Reference3Ideal.Gen.facts,
  Cert.Kernel4.Gen.facts, Cert.Kernel4Ideal.Gen.facts, Cert.Reference4Ideal.Gen.facts,
  Cert.Kernel5.Gen.facts, Cert.Kernel5Ideal.Gen.facts, Cert.Reference5Ideal.Gen.facts,
  Cert.Kernel6.Gen.facts, Cert.Kernel6Ideal.Gen.facts, Cert.Reference6Ideal.Gen.facts,
  Cert.Kernel7.Gen.facts, Cert.Kernel7Ideal.Gen.facts, Cert.Reference7Ideal.Gen.facts,
  Cert.Kernel8.Gen.facts, Cert.Kernel8Ideal.Gen.facts, Cert.Reference8Ideal.Gen.facts,
  Cert.Kernel9.Gen.facts, Cert.Kernel9Ideal.Gen.facts, Cert.Reference9Ideal.Gen.facts,
  Cert.Kernel10.Gen.facts, Cert.Kernel10Ideal.Gen.facts, Cert.Reference10Ideal.Gen.facts,
  Cert.Kernel11.Gen.facts, Cert.Kernel11Ideal.Gen.facts, Cert.Reference11Ideal.Gen.facts,
  Cert.Kernel12.Gen.facts, Cert.Kernel12Ideal.Gen.facts, Cert.Reference12Ideal.Gen.facts,
  Cert.Kernel13.Gen.facts, Cert.Kernel13Ideal.Gen.facts, Cert.Reference13Ideal.Gen.facts,
  Cert.Kernel14.Gen.facts, Cert.Kernel14Ideal.Gen.facts, Cert.Reference14Ideal.Gen.facts,
  Cert.Kernel15.Gen.facts, Cert.Kernel15Ideal.Gen.facts, Cert.Reference15Ideal.Gen.facts,
  Cert.Kernel16.Gen.facts, Cert.Kernel16Ideal.Gen.facts, Cert.Reference16Ideal.Gen.facts,
  Cert.Kernel17.Gen.facts, Cert.Kernel17Ideal.Gen.facts, Cert.Reference17Ideal.Gen.facts,
  Cert.Kernel18.Gen.facts, Cert.Kernel18Ideal.Gen.facts, Cert.Reference18Ideal.Gen.facts,
  Cert.Kernel19.Gen.facts, Cert.Kernel19Ideal.Gen.facts, Cert.Reference19Ideal.Gen.facts,
  Cert.Kernel20.Gen.facts, Cert.Kernel20Ideal.Gen.facts, Cert.Reference20Ideal.Gen.facts,
  Cert.Kernel21.Gen.facts, Cert.Kernel21Ideal.Gen.facts, Cert.Reference21Ideal.Gen.facts,
  Cert.Kernel22.Gen.facts, Cert.Kernel22Ideal.Gen.facts, Cert.Reference22Ideal.Gen.facts,
  Cert.Kernel23.Gen.facts, Cert.Kernel23Ideal.Gen.facts, Cert.Reference23Ideal.Gen.facts,
  Cert.Kernel24.Gen.facts, Cert.Kernel24Ideal.Gen.facts, Cert.Reference24Ideal.Gen.facts,
  Cert.Kernel25.Gen.facts, Cert.Kernel25Ideal.Gen.facts, Cert.Reference25Ideal.Gen.facts,
  fun m ρ _ => Cert.Kernel.Gen.frame m ρ, fun m ρ _ => Cert.KernelIdeal.Gen.frame m ρ, gate_reference,
  fun m ρ _ => Cert.Kernel2.Gen.frame m ρ, fun m ρ _ => Cert.Kernel2Ideal.Gen.frame m ρ, mlp_out_bwd_reference,
  fun m ρ _ => Cert.Kernel3.Gen.frame m ρ, fun m ρ _ => Cert.Kernel3Ideal.Gen.frame m ρ, mlp_out_wg_reference,
  fun m ρ _ => Cert.Kernel4.Gen.frame m ρ, fun m ρ _ => Cert.Kernel4Ideal.Gen.frame m ρ, mlp_in_bwd_reference,
  fun m ρ _ => Cert.Kernel5.Gen.frame m ρ, fun m ρ _ => Cert.Kernel5Ideal.Gen.frame m ρ, mlp_in_wg_reference,
  fun m ρ _ => Cert.Kernel6.Gen.frame m ρ, fun m ρ _ => Cert.Kernel6Ideal.Gen.frame m ρ, mlp_in_reference,
  fun m ρ _ => Cert.Kernel7.Gen.frame m ρ, fun m ρ _ => Cert.Kernel7Ideal.Gen.frame m ρ, mlp_out_reference,
  fun m ρ _ => Cert.Kernel8.Gen.frame m ρ, fun m ρ _ => Cert.Kernel8Ideal.Gen.frame m ρ, mix_in_bwd_reference,
  fun m ρ _ => Cert.Kernel9.Gen.frame m ρ, fun m ρ _ => Cert.Kernel9Ideal.Gen.frame m ρ, mix_in_wg_reference,
  fun m ρ _ => Cert.Kernel10.Gen.frame m ρ, fun m ρ _ => Cert.Kernel10Ideal.Gen.frame m ρ, mix_out_wg_reference,
  fun m ρ _ => Cert.Kernel11.Gen.frame m ρ, fun m ρ _ => Cert.Kernel11Ideal.Gen.frame m ρ, mlp_out_last_reference,
  fun m ρ _ => Cert.Kernel12.Gen.frame m ρ, fun m ρ _ => Cert.Kernel12Ideal.Gen.frame m ρ, glu_mm_bwd_reference,
  fun m ρ _ => Cert.Kernel13.Gen.frame m ρ, fun m ρ _ => Cert.Kernel13Ideal.Gen.frame m ρ, conv_pw2_bwd_reference,
  fun m ρ _ => Cert.Kernel14.Gen.frame m ρ, fun m ρ _ => Cert.Kernel14Ideal.Gen.frame m ρ, gmlp_out_bwd_reference,
  fun m ρ _ => Cert.Kernel15.Gen.frame m ρ, fun m ρ _ => Cert.Kernel15Ideal.Gen.frame m ρ, attn_qkv_bwd_reference,
  fun m ρ _ => Cert.Kernel16.Gen.frame m ρ, fun m ρ _ => Cert.Kernel16Ideal.Gen.frame m ρ, attn_qkv_wg_reference,
  fun m ρ _ => Cert.Kernel17.Gen.frame m ρ, fun m ρ _ => Cert.Kernel17Ideal.Gen.frame m ρ, attn_qkv_reference,
  fun m ρ _ => Cert.Kernel18.Gen.frame m ρ, fun m ρ _ => Cert.Kernel18Ideal.Gen.frame m ρ, conv_pw1_reference,
  fun m ρ _ => Cert.Kernel19.Gen.frame m ρ, fun m ρ _ => Cert.Kernel19Ideal.Gen.frame m ρ, s5_glu_mm_reference,
  fun m ρ _ => Cert.Kernel20.Gen.frame m ρ, fun m ρ _ => Cert.Kernel20Ideal.Gen.frame m ρ, gmlp_in_reference,
  fun m ρ _ => Cert.Kernel21.Gen.frame m ρ, fun m ρ _ => Cert.Kernel21Ideal.Gen.frame m ρ, gmlp_out_reference,
  fun m ρ _ => Cert.Kernel22.Gen.frame m ρ, fun m ρ _ => Cert.Kernel22Ideal.Gen.frame m ρ, conv_pw2_reference,
  fun m ρ _ => Cert.Kernel23.Gen.frame m ρ, fun m ρ _ => Cert.Kernel23Ideal.Gen.frame m ρ, attn_o_reference,
  fun m ρ _ => Cert.Kernel24.Gen.frame m ρ, fun m ρ _ => Cert.Kernel24Ideal.Gen.frame m ρ, attn_o_bwd_reference,
  fun m ρ _ => Cert.Kernel25.Gen.frame m ρ, fun m ρ _ => Cert.Kernel25Ideal.Gen.frame m ρ, attn_o_wg_reference,
  trivial, gate, trivial, mlp_out_bwd, trivial, mlp_out_wg, trivial, mlp_in_bwd, trivial, mlp_in_wg, trivial, mlp_in, trivial, mlp_out, trivial, mix_in_bwd, trivial, mix_in_wg, trivial, mix_out_wg, trivial, mlp_out_last, trivial, glu_mm_bwd, trivial, conv_pw2_bwd, trivial, gmlp_out_bwd, trivial, attn_qkv_bwd, trivial, attn_qkv_wg, trivial, attn_qkv, trivial, conv_pw1, trivial, s5_glu_mm, trivial, gmlp_in, trivial, gmlp_out, trivial, conv_pw2, trivial, attn_o, trivial, attn_o_bwd, trivial, attn_o_wg⟩

end Cert.Proof

end
